-- ==== Defs.lean ====
def Pre_PoolU (m : (ℓ : Loc Cert.PoolU.nD Cert.PoolU.τ Cert.PoolU.sig) → Buf (Elt Bits) ℓ) : Prop :=
  True

def Pre_PoolUIdeal (m : (ℓ : Loc Cert.PoolUIdeal.nD Cert.PoolUIdeal.τ Cert.PoolUIdeal.sig) → Buf (Elt Ideal) ℓ) : Prop :=
  True

def Pre_PoolUIdeal_finite_dpooled [hPre_finite_dpooled : Cert.Pre_finite_dpooled.Facts] (m : (ℓ : Loc Cert.PoolUIdeal.nD Cert.PoolUIdeal.τ Cert.PoolUIdeal.sig) → Buf (Elt Ideal) ℓ) : Prop :=
  ∀ c : Dev Cert.PoolUIdeal.nD,
    (Cert.Pre_finite_dpooled.fn (F := Ideal) (m ((c.tc : Thread Cert.PoolUIdeal.nD Cert.PoolUIdeal.τ).loc Cert.PoolUIdeal.main_arg0)) (m ((c.tc : Thread Cert.PoolUIdeal.nD Cert.PoolUIdeal.τ).loc Cert.PoolUIdeal.main_arg1))) = (fun _ => 1#1)

def Pre_PoolURefIdeal (m : (ℓ : Loc Cert.PoolURefIdeal.nD Cert.PoolURefIdeal.τ Cert.PoolURefIdeal.sig) → Buf (Elt Ideal) ℓ) : Prop :=
  True

def Pre_PoolURefIdeal_finite_dpooled [hPre_finite_dpooled : Cert.Pre_finite_dpooled.Facts] (m : (ℓ : Loc Cert.PoolURefIdeal.nD Cert.PoolURefIdeal.τ Cert.PoolURefIdeal.sig) → Buf (Elt Ideal) ℓ) : Prop :=
  ∀ c : Dev Cert.PoolURefIdeal.nD,
    (Cert.Pre_finite_dpooled.fn (F := Ideal) (m ((c.tc : Thread Cert.PoolURefIdeal.nD Cert.PoolURefIdeal.τ).loc Cert.PoolURefIdeal.main_arg0)) (m ((c.tc : Thread Cert.PoolURefIdeal.nD Cert.PoolURefIdeal.τ).loc Cert.PoolURefIdeal.main_arg1))) = (fun _ => 1#1)

def Pre_PoolW (m : (ℓ : Loc Cert.PoolW.nD Cert.PoolW.τ Cert.PoolW.sig) → Buf (Elt Bits) ℓ) : Prop :=
  True

def Pre_PoolWIdeal (m : (ℓ : Loc Cert.PoolWIdeal.nD Cert.PoolWIdeal.τ Cert.PoolWIdeal.sig) → Buf (Elt Ideal) ℓ) : Prop :=
  True

def Pre_PoolWIdeal_finite_u [hPre_finite_u : Cert.Pre_finite_u.Facts] (m : (ℓ : Loc Cert.PoolWIdeal.nD Cert.PoolWIdeal.τ Cert.PoolWIdeal.sig) → Buf (Elt Ideal) ℓ) : Prop :=
  ∀ c : Dev Cert.PoolWIdeal.nD,
    (Cert.Pre_finite_u.fn (F := Ideal) (m ((c.tc : Thread Cert.PoolWIdeal.nD Cert.PoolWIdeal.τ).loc Cert.PoolWIdeal.main_arg0)) (m ((c.tc : Thread Cert.PoolWIdeal.nD Cert.PoolWIdeal.τ).loc Cert.PoolWIdeal.main_arg1)) (m ((c.tc : Thread Cert.PoolWIdeal.nD Cert.PoolWIdeal.τ).loc Cert.PoolWIdeal.main_arg2)) (m ((c.tc : Thread Cert.PoolWIdeal.nD Cert.PoolWIdeal.τ).loc Cert.PoolWIdeal.main_arg3))) = (fun _ => 1#1)

def Pre_PoolWRefIdeal (m : (ℓ : Loc Cert.PoolWRefIdeal.nD Cert.PoolWRefIdeal.τ Cert.PoolWRefIdeal.sig) → Buf (Elt Ideal) ℓ) : Prop :=
  True

def Pre_PoolWRefIdeal_finite_u [hPre_finite_u : Cert.Pre_finite_u.Facts] (m : (ℓ : Loc Cert.PoolWRefIdeal.nD Cert.PoolWRefIdeal.τ Cert.PoolWRefIdeal.sig) → Buf (Elt Ideal) ℓ) : Prop :=
  ∀ c : Dev Cert.PoolWRefIdeal.nD,
    (Cert.Pre_finite_u.fn (F := Ideal) (m ((c.tc : Thread Cert.PoolWRefIdeal.nD Cert.PoolWRefIdeal.τ).loc Cert.PoolWRefIdeal.main_arg0)) (m ((c.tc : Thread Cert.PoolWRefIdeal.nD Cert.PoolWRefIdeal.τ).loc Cert.PoolWRefIdeal.main_arg1)) (m ((c.tc : Thread Cert.PoolWRefIdeal.nD Cert.PoolWRefIdeal.τ).loc Cert.PoolWRefIdeal.main_arg2)) (m ((c.tc : Thread Cert.PoolWRefIdeal.nD Cert.PoolWRefIdeal.τ).loc Cert.PoolWRefIdeal.main_arg3))) = (fun _ => 1#1)

def Pre_AttnBIdeal (m : (ℓ : Loc Cert.AttnBIdeal.nD Cert.AttnBIdeal.τ Cert.AttnBIdeal.sig) → Buf (Elt Ideal) ℓ) : Prop :=
  True

def Pre_AttnBIdeal_finite_a [hPre_finite_a : Cert.Pre_finite_a.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_a.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_a [hPre_finite_a : Cert.Pre_finite_a.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_a.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_i [hPre_finite_i : Cert.Pre_finite_i.Facts] (m : (ℓ : Loc Cert.InDxIdeal.nD Cert.InDxIdeal.τ Cert.InDxIdeal.sig) → Buf (Elt Ideal) ℓ) : Prop :=
  ∀ c : Dev Cert.InDxIdeal.nD,
    (Cert.Pre_finite_i.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_i [hPre_finite_i : Cert.Pre_finite_i.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_i.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5)) (m ((c.tc : Thread Cert.InDxRefIdeal.nD Cert.InDxRefIdeal.τ).loc Cert.InDxRefIdeal.main_arg6)) (m ((c.tc : Thread Cert.InDxRefIdeal.nD Cert.InDxRefIdeal.τ).loc Cert.InDxRefIdeal.main_arg7))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_o [hPre_finite_o : Cert.Pre_finite_o.Facts] (m : (ℓ : Loc Cert.OutIdeal.nD Cert.OutIdeal.τ Cert.OutIdeal.sig) → Buf (Elt Ideal) ℓ) : Prop :=
  ∀ c : Dev Cert.OutIdeal.nD,
    (Cert.Pre_finite_o.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_o [hPre_finite_o : Cert.Pre_finite_o.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_o.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5))) = (fun _ => 1#1)

def Pre_MlpB (m : (ℓ : Loc Cert.MlpB.nD Cert.MlpB.τ Cert.MlpB.sig) → Buf (Elt Bits) ℓ) : Prop :=
  True

def Pre_MlpBIdeal (m : (ℓ : Loc Cert.MlpBIdeal.nD Cert.MlpBIdeal.τ Cert.MlpBIdeal.sig) → Buf (Elt Ideal) ℓ) : Prop :=
  True

def Pre_MlpBIdeal_finite_m [hPre_finite_m : Cert.Pre_finite_m.Facts] (m : (ℓ : Loc Cert.MlpBIdeal.nD Cert.MlpBIdeal.τ Cert.MlpBIdeal.sig) → Buf (Elt Ideal) ℓ) : Prop :=
  ∀ c : Dev Cert.MlpBIdeal.nD,
    (Cert.Pre_finite_m.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4))) = (fun _ => 1#1)

def Pre_MlpBRefIdeal (m : (ℓ : Loc Cert.MlpBRefIdeal.nD Cert.MlpBRefIdeal.τ Cert.MlpBRefIdeal.sig) → Buf (Elt Ideal) ℓ) : Prop :=
  True

def Pre_MlpBRefIdeal_finite_m [hPre_finite_m : Cert.Pre_finite_m.Facts] (m : (ℓ : Loc Cert.MlpBRefIdeal.nD Cert.MlpBRefIdeal.τ Cert.MlpBRefIdeal.sig) → Buf (Elt Ideal) ℓ) : Prop :=
  ∀ c : Dev Cert.MlpBRefIdeal.nD,
    (Cert.Pre_finite_m.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4))) = (fun _ => 1#1)

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFIdeal_finite_l [hPre_finite_l : Cert.Pre_finite_l.Facts] (m : (ℓ : Loc Cert.MlpFIdeal.nD Cert.MlpFIdeal.τ Cert.MlpFIdeal.sig) → Buf (Elt Ideal) ℓ) : Prop :=
  ∀ c : Dev Cert.MlpFIdeal.nD,
    (Cert.Pre_finite_l.fn (F := Ideal) (m ((c.tc : Thread Cert.MlpFIdeal.nD Cert.MlpFIdeal.τ).loc Cert.MlpFIdeal.main_arg0)) (m ((c.tc : Thread Cert.MlpFIdeal.nD Cert.MlpFIdeal.τ).loc Cert.MlpFIdeal.main_arg1)) (m ((c.tc : Thread Cert.MlpFIdeal.nD Cert.MlpFIdeal.τ).loc Cert.MlpFIdeal.main_arg2)) (m ((c.tc : Thread Cert.MlpFIdeal.nD Cert.MlpFIdeal.τ).loc Cert.MlpFIdeal.main_arg3)) (m ((c.tc : Thread Cert.MlpFIdeal.nD Cert.MlpFIdeal.τ).loc Cert.MlpFIdeal.main_arg4)) (m ((c.tc : Thread Cert.MlpFIdeal.nD Cert.MlpFIdeal.τ).loc Cert.MlpFIdeal.main_arg5))) = (fun _ => 1#1)

def Pre_MlpFRefIdeal (m : (ℓ : Loc Cert.MlpFRefIdeal.nD Cert.MlpFRefIdeal.τ Cert.MlpFRefIdeal.sig) → Buf (Elt Ideal) ℓ) : Prop :=
  True

def Pre_MlpFRefIdeal_finite_l [hPre_finite_l : Cert.Pre_finite_l.Facts] (m : (ℓ : Loc Cert.MlpFRefIdeal.nD Cert.MlpFRefIdeal.τ Cert.MlpFRefIdeal.sig) → Buf (Elt Ideal) ℓ) : Prop :=
  ∀ c : Dev Cert.MlpFRefIdeal.nD,
    (Cert.Pre_finite_l.fn (F := Ideal) (m ((c.tc : Thread Cert.MlpFRefIdeal.nD Cert.MlpFRefIdeal.τ).loc Cert.MlpFRefIdeal.main_arg0)) (m ((c.tc : Thread Cert.MlpFRefIdeal.nD Cert.MlpFRefIdeal.τ).loc Cert.MlpFRefIdeal.main_arg1)) (m ((c.tc : Thread Cert.MlpFRefIdeal.nD Cert.MlpFRefIdeal.τ).loc Cert.MlpFRefIdeal.main_arg2)) (m ((c.tc : Thread Cert.MlpFRefIdeal.nD Cert.MlpFRefIdeal.τ).loc Cert.MlpFRefIdeal.main_arg3)) (m ((c.tc : Thread Cert.MlpFRefIdeal.nD Cert.MlpFRefIdeal.τ).loc Cert.MlpFRefIdeal.main_arg4)) (m ((c.tc : Thread Cert.MlpFRefIdeal.nD Cert.MlpFRefIdeal.τ).loc Cert.MlpFRefIdeal.main_arg5))) = (fun _ => 1#1)

def Pre_AttnFIdeal (m : (ℓ : Loc Cert.AttnFIdeal.nD Cert.AttnFIdeal.τ Cert.AttnFIdeal.sig) → Buf (Elt Ideal) ℓ) : Prop :=
  True

def Pre_AttnFIdeal_finite_f [hPre_finite_f : Cert.Pre_finite_f.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_f.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_f [hPre_finite_f : Cert.Pre_finite_f.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_f.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))) = (fun _ => 1#1)

def quiescent_PoolU [hPoolU : Cert.PoolU.Facts] : Prop :=
  ∀ (m : (ℓ : Loc Cert.PoolU.nD Cert.PoolU.τ Cert.PoolU.sig) → Buf (Elt Bits) ℓ) (g : Dev Cert.PoolU.nD → PrngReg), Pre_PoolU m →
    θ_run (Cert.PoolU.defs (F := Bits)) (onTc (τ := Cert.PoolU.τ) (Cert.PoolU.main (F := Bits))) ⟨m, fun _ => 0, g⟩ (fun r => (∀ c : Dev Cert.PoolU.nD,
      r.2.mem ((c.tc : Thread Cert.PoolU.nD Cert.PoolU.τ).loc Cert.PoolU.main_arg0) = m ((c.tc : Thread Cert.PoolU.nD Cert.PoolU.τ).loc Cert.PoolU.main_arg0)
      ∧ r.2.mem ((c.tc : Thread Cert.PoolU.nD Cert.PoolU.τ).loc Cert.PoolU.main_arg1) = m ((c.tc : Thread Cert.PoolU.nD Cert.PoolU.τ).loc Cert.PoolU.main_arg1))
      ∧ r.2.sem = fun _ => 0)

def quiescent_PoolUIdeal [hPoolUIdeal : Cert.PoolUIdeal.Facts] : Prop :=
  ∀ (m : (ℓ : Loc Cert.PoolUIdeal.nD Cert.PoolUIdeal.τ Cert.PoolUIdeal.sig) → Buf (Elt Ideal) ℓ) (g : Dev Cert.PoolUIdeal.nD → PrngReg), Pre_PoolUIdeal m →
    θ_run (Cert.PoolUIdeal.defs (F := Ideal)) (onTc (τ := Cert.PoolUIdeal.τ) (Cert.PoolUIdeal.main (F := Ideal))) ⟨m, fun _ => 0, g⟩ (fun r => (∀ c : Dev Cert.PoolUIdeal.nD,
      r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0)
      ∧ r.2.mem ((c.tc : Thread Cert.PoolUIdeal.nD Cert.PoolUIdeal.τ).loc Cert.PoolUIdeal.main_arg1) = m ((c.tc : Thread Cert.PoolUIdeal.nD Cert.PoolUIdeal.τ).loc Cert.PoolUIdeal.main_arg1))
      ∧ r.2.sem = fun _ => 0)

def quiescent_PoolUIdeal_pre_finite_dpooled [hPoolUIdeal : Cert.PoolUIdeal.Facts] [hPre_finite_dpooled : Cert.Pre_finite_dpooled.Facts] : Prop :=
  ∀ (m : (ℓ : Loc Cert.PoolUIdeal.nD Cert.PoolUIdeal.τ Cert.PoolUIdeal.sig) → Buf (Elt Ideal) ℓ) (g : Dev Cert.PoolUIdeal.nD → PrngReg), Pre_PoolUIdeal_finite_dpooled m →
    θ_run (Cert.PoolUIdeal.defs (F := Ideal)) (onTc (τ := Cert.PoolUIdeal.τ) (Cert.PoolUIdeal.main (F := Ideal))) ⟨m, fun _ => 0, g⟩ (fun r => (∀ c : Dev Cert.PoolUIdeal.nD,
      r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0)
      ∧ r.2.mem ((c.tc : Thread Cert.PoolUIdeal.nD Cert.PoolUIdeal.τ).loc Cert.PoolUIdeal.main_arg1) = m ((c.tc : Thread Cert.PoolUIdeal.nD Cert.PoolUIdeal.τ).loc Cert.PoolUIdeal.main_arg1))
      ∧ r.2.sem = fun _ => 0)

def quiescent_PoolURefIdeal [hPoolURefIdeal : Cert.PoolURefIdeal.Facts] : Prop :=
  ∀ (m : (ℓ : Loc Cert.PoolURefIdeal.nD Cert.PoolURefIdeal.τ Cert.PoolURefIdeal.sig) → Buf (Elt Ideal) ℓ) (g : Dev Cert.PoolURefIdeal.nD → PrngReg), Pre_PoolURefIdeal m →
    θ_run (Cert.PoolURefIdeal.defs (F := Ideal)) (onTc (τ := Cert.PoolURefIdeal.τ) (Cert.PoolURefIdeal.main (F := Ideal))) ⟨m, fun _ => 0, g⟩ (fun r => (∀ c : Dev Cert.PoolURefIdeal.nD,
      r.2.mem ((c.tc : Thread Cert.PoolURefIdeal.nD Cert.PoolURefIdeal.τ).loc Cert.PoolURefIdeal.main_arg0) = m ((c.tc : Thread Cert.PoolURefIdeal.nD Cert.PoolURefIdeal.τ).loc Cert.PoolURefIdeal.main_arg0)
      ∧ r.2.mem ((c.tc : Thread Cert.PoolURefIdeal.nD Cert.PoolURefIdeal.τ).loc Cert.PoolURefIdeal.main_arg1) = m ((c.tc : Thread Cert.PoolURefIdeal.nD Cert.PoolURefIdeal.τ).loc Cert.PoolURefIdeal.main_arg1))
      ∧ r.2.sem = fun _ => 0)

def quiescent_PoolURefIdeal_pre_finite_dpooled [hPoolURefIdeal : Cert.PoolURefIdeal.Facts] [hPre_finite_dpooled : Cert.Pre_finite_dpooled.Facts] : Prop :=
  ∀ (m : (ℓ : Loc Cert.PoolURefIdeal.nD Cert.PoolURefIdeal.τ Cert.PoolURefIdeal.sig) → Buf (Elt Ideal) ℓ) (g : Dev Cert.PoolURefIdeal.nD → PrngReg), Pre_PoolURefIdeal_finite_dpooled m →
    θ_run (Cert.PoolURefIdeal.defs (F := Ideal)) (onTc (τ := Cert.PoolURefIdeal.τ) (Cert.PoolURefIdeal.main (F := Ideal))) ⟨m, fun _ => 0, g⟩ (fun r => (∀ c : Dev Cert.PoolURefIdeal.nD,
      r.2.mem ((c.tc : Thread Cert.PoolURefIdeal.nD Cert.PoolURefIdeal.τ).loc Cert.PoolURefIdeal.main_arg0) = m ((c.tc : Thread Cert.PoolURefIdeal.nD Cert.PoolURefIdeal.τ).loc Cert.PoolURefIdeal.main_arg0)
      ∧ r.2.mem ((c.tc : Thread Cert.PoolURefIdeal.nD Cert.PoolURefIdeal.τ).loc Cert.PoolURefIdeal.main_arg1) = m ((c.tc : Thread Cert.PoolURefIdeal.nD Cert.PoolURefIdeal.τ).loc Cert.PoolURefIdeal.main_arg1))
      ∧ r.2.sem = fun _ => 0)

def quiescent_PoolW [hPoolW : Cert.PoolW.Facts] : Prop :=
  ∀ (m : (ℓ : Loc Cert.PoolW.nD Cert.PoolW.τ Cert.PoolW.sig) → Buf (Elt Bits) ℓ) (g : Dev Cert.PoolW.nD → PrngReg), Pre_PoolW m →
    θ_run (Cert.PoolW.defs (F := Bits)) (onTc (τ := Cert.PoolW.τ) (Cert.PoolW.main (F := Bits))) ⟨m, fun _ => 0, g⟩ (fun r => (∀ c : Dev Cert.PoolW.nD,
      r.2.mem ((c.tc : Thread Cert.PoolW.nD Cert.PoolW.τ).loc Cert.PoolW.main_arg0) = m ((c.tc : Thread Cert.PoolW.nD Cert.PoolW.τ).loc Cert.PoolW.main_arg0)
      ∧ r.2.mem ((c.tc : Thread Cert.PoolW.nD Cert.PoolW.τ).loc Cert.PoolW.main_arg1) = m ((c.tc : Thread Cert.PoolW.nD Cert.PoolW.τ).loc Cert.PoolW.main_arg1)
      ∧ r.2.mem ((c.tc : Thread Cert.PoolW.nD Cert.PoolW.τ).loc Cert.PoolW.main_arg2) = m ((c.tc : Thread Cert.PoolW.nD Cert.PoolW.τ).loc Cert.PoolW.main_arg2)
      ∧ r.2.mem ((c.tc : Thread Cert.PoolW.nD Cert.PoolW.τ).loc Cert.PoolW.main_arg3) = m ((c.tc : Thread Cert.PoolW.nD Cert.PoolW.τ).loc Cert.PoolW.main_arg3))
      ∧ r.2.sem = fun _ => 0)

def quiescent_PoolWIdeal [hPoolWIdeal : Cert.PoolWIdeal.Facts] : Prop :=
  ∀ (m : (ℓ : Loc Cert.PoolWIdeal.nD Cert.PoolWIdeal.τ Cert.PoolWIdeal.sig) → Buf (Elt Ideal) ℓ) (g : Dev Cert.PoolWIdeal.nD → PrngReg), Pre_PoolWIdeal m →
    θ_run (Cert.PoolWIdeal.defs (F := Ideal)) (onTc (τ := Cert.PoolWIdeal.τ) (Cert.PoolWIdeal.main (F := Ideal))) ⟨m, fun _ => 0, g⟩ (fun r => (∀ c : Dev Cert.PoolWIdeal.nD,
      r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
      ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1)
      ∧ r.2.mem ((c.tc : Thread Cert.PoolWIdeal.nD Cert.PoolWIdeal.τ).loc Cert.PoolWIdeal.main_arg2) = m ((c.tc : Thread Cert.PoolWIdeal.nD Cert.PoolWIdeal.τ).loc Cert.PoolWIdeal.main_arg2)
      ∧ r.2.mem ((c.tc : Thread Cert.PoolWIdeal.nD Cert.PoolWIdeal.τ).loc Cert.PoolWIdeal.main_arg3) = m ((c.tc : Thread Cert.PoolWIdeal.nD Cert.PoolWIdeal.τ).loc Cert.PoolWIdeal.main_arg3))
      ∧ r.2.sem = fun _ => 0)

def quiescent_PoolWIdeal_pre_finite_u [hPoolWIdeal : Cert.PoolWIdeal.Facts] [hPre_finite_u : Cert.Pre_finite_u.Facts] : Prop :=
  ∀ (m : (ℓ : Loc Cert.PoolWIdeal.nD Cert.PoolWIdeal.τ Cert.PoolWIdeal.sig) → Buf (Elt Ideal) ℓ) (g : Dev Cert.PoolWIdeal.nD → PrngReg), Pre_PoolWIdeal_finite_u m →
    θ_run (Cert.PoolWIdeal.defs (F := Ideal)) (onTc (τ := Cert.PoolWIdeal.τ) (Cert.PoolWIdeal.main (F := Ideal))) ⟨m, fun _ => 0, g⟩ (fun r => (∀ c : Dev Cert.PoolWIdeal.nD,
      r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
      ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1)
      ∧ r.2.mem ((c.tc : Thread Cert.PoolWIdeal.nD Cert.PoolWIdeal.τ).loc Cert.PoolWIdeal.main_arg2) = m ((c.tc : Thread Cert.PoolWIdeal.nD Cert.PoolWIdeal.τ).loc Cert.PoolWIdeal.main_arg2)
      ∧ r.2.mem ((c.tc : Thread Cert.PoolWIdeal.nD Cert.PoolWIdeal.τ).loc Cert.PoolWIdeal.main_arg3) = m ((c.tc : Thread Cert.PoolWIdeal.nD Cert.PoolWIdeal.τ).loc Cert.PoolWIdeal.main_arg3))
      ∧ r.2.sem = fun _ => 0)

def quiescent_PoolWRefIdeal [hPoolWRefIdeal : Cert.PoolWRefIdeal.Facts] : Prop :=
  ∀ (m : (ℓ : Loc Cert.PoolWRefIdeal.nD Cert.PoolWRefIdeal.τ Cert.PoolWRefIdeal.sig) → Buf (Elt Ideal) ℓ) (g : Dev Cert.PoolWRefIdeal.nD → PrngReg), Pre_PoolWRefIdeal m →
    θ_run (Cert.PoolWRefIdeal.defs (F := Ideal)) (onTc (τ := Cert.PoolWRefIdeal.τ) (Cert.PoolWRefIdeal.main (F := Ideal))) ⟨m, fun _ => 0, g⟩ (fun r => (∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1)
      ∧ r.2.mem ((c.tc : Thread Cert.PoolWRefIdeal.nD Cert.PoolWRefIdeal.τ).loc Cert.PoolWRefIdeal.main_arg2) = m ((c.tc : Thread Cert.PoolWRefIdeal.nD Cert.PoolWRefIdeal.τ).loc Cert.PoolWRefIdeal.main_arg2)
      ∧ r.2.mem ((c.tc : Thread Cert.PoolWRefIdeal.nD Cert.PoolWRefIdeal.τ).loc Cert.PoolWRefIdeal.main_arg3) = m ((c.tc : Thread Cert.PoolWRefIdeal.nD Cert.PoolWRefIdeal.τ).loc Cert.PoolWRefIdeal.main_arg3))
      ∧ r.2.sem = fun _ => 0)

def quiescent_PoolWRefIdeal_pre_finite_u [hPoolWRefIdeal : Cert.PoolWRefIdeal.Facts] [hPre_finite_u : Cert.Pre_finite_u.Facts] : Prop :=
  ∀ (m : (ℓ : Loc Cert.PoolWRefIdeal.nD Cert.PoolWRefIdeal.τ Cert.PoolWRefIdeal.sig) → Buf (Elt Ideal) ℓ) (g : Dev Cert.PoolWRefIdeal.nD → PrngReg), Pre_PoolWRefIdeal_finite_u m →
    θ_run (Cert.PoolWRefIdeal.defs (F := Ideal)) (onTc (τ := Cert.PoolWRefIdeal.τ) (Cert.PoolWRefIdeal.main (F := Ideal))) ⟨m, fun _ => 0, g⟩ (fun r => (∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1)
      ∧ r.2.mem ((c.tc : Thread Cert.PoolWRefIdeal.nD Cert.PoolWRefIdeal.τ).loc Cert.PoolWRefIdeal.main_arg2) = m ((c.tc : Thread Cert.PoolWRefIdeal.nD Cert.PoolWRefIdeal.τ).loc Cert.PoolWRefIdeal.main_arg2)
      ∧ r.2.mem ((c.tc : Thread Cert.PoolWRefIdeal.nD Cert.PoolWRefIdeal.τ).loc Cert.PoolWRefIdeal.main_arg3) = m ((c.tc : Thread Cert.PoolWRefIdeal.nD Cert.PoolWRefIdeal.τ).loc Cert.PoolWRefIdeal.main_arg3))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ r.2.sem = fun _ => 0)

def quiescent_AttnBIdeal_pre_finite_a [hAttnBIdeal : Cert.AttnBIdeal.Facts] [hPre_finite_a : Cert.Pre_finite_a.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_a m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3))
      ∧ r.2.sem = fun _ => 0)

def quiescent_AttnBRefIdeal_pre_finite_a [hAttnBRefIdeal : Cert.AttnBRefIdeal.Facts] [hPre_finite_a : Cert.Pre_finite_a.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_a m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_InDxIdeal_pre_finite_i [hInDxIdeal : Cert.InDxIdeal.Facts] [hPre_finite_i : Cert.Pre_finite_i.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_i m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7))
      ∧ r.2.sem = fun _ => 0)

def quiescent_InDxRefIdeal_pre_finite_i [hInDxRefIdeal : Cert.InDxRefIdeal.Facts] [hPre_finite_i : Cert.Pre_finite_i.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_i m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutIdeal_pre_finite_o [hOutIdeal : Cert.OutIdeal.Facts] [hPre_finite_o : Cert.Pre_finite_o.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_o m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_OutRefIdeal_pre_finite_o [hOutRefIdeal : Cert.OutRefIdeal.Facts] [hPre_finite_o : Cert.Pre_finite_o.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_o m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_MlpB [hMlpB : Cert.MlpB.Facts] : Prop :=
  ∀ (m : (ℓ : Loc Cert.MlpB.nD Cert.MlpB.τ Cert.MlpB.sig) → Buf (Elt Bits) ℓ) (g : Dev Cert.MlpB.nD → PrngReg), Pre_MlpB m →
    θ_run (Cert.MlpB.defs (F := Bits)) (onTc (τ := Cert.MlpB.τ) (Cert.MlpB.main (F := Bits))) ⟨m, fun _ => 0, g⟩ (fun r => (∀ c : Dev Cert.MlpB.nD,
      r.2.mem ((c.tc : Thread Cert.MlpB.nD Cert.MlpB.τ).loc Cert.MlpB.main_arg0) = m ((c.tc : Thread Cert.MlpB.nD Cert.MlpB.τ).loc Cert.MlpB.main_arg0)
      ∧ r.2.mem ((c.tc : Thread Cert.MlpB.nD Cert.MlpB.τ).loc Cert.MlpB.main_arg1) = m ((c.tc : Thread Cert.MlpB.nD Cert.MlpB.τ).loc Cert.MlpB.main_arg1)
      ∧ r.2.mem ((c.tc : Thread Cert.MlpB.nD Cert.MlpB.τ).loc Cert.MlpB.main_arg2) = m ((c.tc : Thread Cert.MlpB.nD Cert.MlpB.τ).loc Cert.MlpB.main_arg2)
      ∧ r.2.mem ((c.tc : Thread Cert.MlpB.nD Cert.MlpB.τ).loc Cert.MlpB.main_arg3) = m ((c.tc : Thread Cert.MlpB.nD Cert.MlpB.τ).loc Cert.MlpB.main_arg3)
      ∧ r.2.mem ((c.tc : Thread Cert.MlpB.nD Cert.MlpB.τ).loc Cert.MlpB.main_arg4) = m ((c.tc : Thread Cert.MlpB.nD Cert.MlpB.τ).loc Cert.MlpB.main_arg4))
      ∧ r.2.sem = fun _ => 0)

def quiescent_MlpBIdeal [hMlpBIdeal : Cert.MlpBIdeal.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBIdeal_pre_finite_m [hMlpBIdeal : Cert.MlpBIdeal.Facts] [hPre_finite_m : Cert.Pre_finite_m.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal_finite_m m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBRefIdeal [hMlpBRefIdeal : Cert.MlpBRefIdeal.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def quiescent_MlpBRefIdeal_pre_finite_m [hMlpBRefIdeal : Cert.MlpBRefIdeal.Facts] [hPre_finite_m : Cert.Pre_finite_m.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal_finite_m m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3)
      ∧ r.2.mem ((c.tc : Thread Cert.MlpF.nD Cert.MlpF.τ).loc Cert.MlpF.main_arg4) = m ((c.tc : Thread Cert.MlpF.nD Cert.MlpF.τ).loc Cert.MlpF.main_arg4)
      ∧ r.2.mem ((c.tc : Thread Cert.MlpF.nD Cert.MlpF.τ).loc Cert.MlpF.main_arg5) = m ((c.tc : Thread Cert.MlpF.nD Cert.MlpF.τ).loc Cert.MlpF.main_arg5))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
      ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
      ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5))
      ∧ r.2.sem = fun _ => 0)

def quiescent_MlpFIdeal_pre_finite_l [hMlpFIdeal : Cert.MlpFIdeal.Facts] [hPre_finite_l : Cert.Pre_finite_l.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal_finite_l m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
      ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
      ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4)
      ∧ r.2.mem ((c.tc : Thread Cert.MlpFRefIdeal.nD Cert.MlpFRefIdeal.τ).loc Cert.MlpFRefIdeal.main_arg5) = m ((c.tc : Thread Cert.MlpFRefIdeal.nD Cert.MlpFRefIdeal.τ).loc Cert.MlpFRefIdeal.main_arg5))
      ∧ r.2.sem = fun _ => 0)

def quiescent_MlpFRefIdeal_pre_finite_l [hMlpFRefIdeal : Cert.MlpFRefIdeal.Facts] [hPre_finite_l : Cert.Pre_finite_l.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal_finite_l m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4)
      ∧ r.2.mem ((c.tc : Thread Cert.MlpFRefIdeal.nD Cert.MlpFRefIdeal.τ).loc Cert.MlpFRefIdeal.main_arg5) = m ((c.tc : Thread Cert.MlpFRefIdeal.nD Cert.MlpFRefIdeal.τ).loc Cert.MlpFRefIdeal.main_arg5))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite_f [hAttnFIdeal : Cert.AttnFIdeal.Facts] [hPre_finite_f : Cert.Pre_finite_f.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_f m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite_f [hAttnFRefIdeal : Cert.AttnFRefIdeal.Facts] [hPre_finite_f : Cert.Pre_finite_f.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_f m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def preserves_PoolU_PoolUIdeal : Prop :=
  True

def algebraic_PoolUIdeal_PoolURefIdeal_pre_finite_dpooled [hPoolUIdeal : Cert.PoolUIdeal.Facts] [hPoolURefIdeal : Cert.PoolURefIdeal.Facts] [hPre_finite_dpooled : Cert.Pre_finite_dpooled.Facts] : Prop :=
  ∀ (m : (ℓ : Loc Cert.PoolUIdeal.nD Cert.PoolUIdeal.τ Cert.PoolUIdeal.sig) → Buf (Elt Ideal) ℓ) (g : Dev Cert.PoolUIdeal.nD → PrngReg)
    (m' : (ℓ : Loc Cert.PoolURefIdeal.nD Cert.PoolURefIdeal.τ Cert.PoolURefIdeal.sig) → Buf (Elt Ideal) ℓ) (g' : Dev Cert.PoolURefIdeal.nD → PrngReg), Pre_PoolUIdeal_finite_dpooled m →
    (∀ c : Dev Cert.PoolUIdeal.nD,
      m' ((c.tc : Thread Cert.PoolURefIdeal.nD Cert.PoolURefIdeal.τ).loc Cert.PoolURefIdeal.main_arg0) = m ((c.tc : Thread Cert.PoolUIdeal.nD Cert.PoolUIdeal.τ).loc Cert.PoolUIdeal.main_arg0)
      ∧ m' ((c.tc : Thread Cert.PoolURefIdeal.nD Cert.PoolURefIdeal.τ).loc Cert.PoolURefIdeal.main_arg1) = m ((c.tc : Thread Cert.PoolUIdeal.nD Cert.PoolUIdeal.τ).loc Cert.PoolUIdeal.main_arg1)) →
    ∃ (v0 : (c : Dev Cert.PoolUIdeal.nD) → Buf (Elt Ideal) ((c.tc : Thread Cert.PoolUIdeal.nD Cert.PoolUIdeal.τ).loc Cert.PoolUIdeal.main_v0)),
      θ_run (Cert.PoolUIdeal.defs (F := Ideal)) (onTc (τ := Cert.PoolUIdeal.τ) (Cert.PoolUIdeal.main (F := Ideal))) ⟨m, fun _ => 0, g⟩ (fun r => ∀ c : Dev Cert.PoolUIdeal.nD,
          r.2.mem ((c.tc : Thread Cert.PoolUIdeal.nD Cert.PoolUIdeal.τ).loc Cert.PoolUIdeal.main_v0) = v0 c
          ∧ r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0)
          ∧ r.2.mem ((c.tc : Thread Cert.PoolUIdeal.nD Cert.PoolUIdeal.τ).loc Cert.PoolUIdeal.main_arg1) = m ((c.tc : Thread Cert.PoolUIdeal.nD Cert.PoolUIdeal.τ).loc Cert.PoolUIdeal.main_arg1))
      ∧ θ_run (Cert.PoolURefIdeal.defs (F := Ideal)) (onTc (τ := Cert.PoolURefIdeal.τ) (Cert.PoolURefIdeal.main (F := Ideal))) ⟨m', fun _ => 0, g'⟩ (fun r => ∀ c : Dev Cert.PoolURefIdeal.nD,
          r.2.mem ((c.tc : Thread Cert.PoolURefIdeal.nD Cert.PoolURefIdeal.τ).loc Cert.PoolURefIdeal.main_v136) = v0 c
          ∧ r.2.mem ((c.tc : Thread Cert.PoolURefIdeal.nD Cert.PoolURefIdeal.τ).loc Cert.PoolURefIdeal.main_arg0) = m' ((c.tc : Thread Cert.PoolURefIdeal.nD Cert.PoolURefIdeal.τ).loc Cert.PoolURefIdeal.main_arg0)
          ∧ r.2.mem ((c.tc : Thread Cert.PoolURefIdeal.nD Cert.PoolURefIdeal.τ).loc Cert.PoolURefIdeal.main_arg1) = m' ((c.tc : Thread Cert.PoolURefIdeal.nD Cert.PoolURefIdeal.τ).loc Cert.PoolURefIdeal.main_arg1))

def preserves_PoolW_PoolWIdeal : Prop :=
  True

def algebraic_PoolWIdeal_PoolWRefIdeal_pre_finite_u [hPoolWIdeal : Cert.PoolWIdeal.Facts] [hPoolWRefIdeal : Cert.PoolWRefIdeal.Facts] [hPre_finite_u : Cert.Pre_finite_u.Facts] : Prop :=
  ∀ (m : (ℓ : Loc Cert.PoolWIdeal.nD Cert.PoolWIdeal.τ Cert.PoolWIdeal.sig) → Buf (Elt Ideal) ℓ) (g : Dev Cert.PoolWIdeal.nD → PrngReg)
    (m' : (ℓ : Loc Cert.PoolWRefIdeal.nD Cert.PoolWRefIdeal.τ Cert.PoolWRefIdeal.sig) → Buf (Elt Ideal) ℓ) (g' : Dev Cert.PoolWRefIdeal.nD → PrngReg), Pre_PoolWIdeal_finite_u m →
    (∀ c : Dev Cert.PoolWIdeal.nD,
      m' ((c.tc : Thread Cert.PoolWRefIdeal.nD Cert.PoolWRefIdeal.τ).loc Cert.PoolWRefIdeal.main_arg0) = m ((c.tc : Thread Cert.PoolWIdeal.nD Cert.PoolWIdeal.τ).loc Cert.PoolWIdeal.main_arg0)
      ∧ m' ((c.tc : Thread Cert.PoolWRefIdeal.nD Cert.PoolWRefIdeal.τ).loc Cert.PoolWRefIdeal.main_arg1) = m ((c.tc : Thread Cert.PoolWIdeal.nD Cert.PoolWIdeal.τ).loc Cert.PoolWIdeal.main_arg1)
      ∧ m' ((c.tc : Thread Cert.PoolWRefIdeal.nD Cert.PoolWRefIdeal.τ).loc Cert.PoolWRefIdeal.main_arg2) = m ((c.tc : Thread Cert.PoolWIdeal.nD Cert.PoolWIdeal.τ).loc Cert.PoolWIdeal.main_arg2)
      ∧ m' ((c.tc : Thread Cert.PoolWRefIdeal.nD Cert.PoolWRefIdeal.τ).loc Cert.PoolWRefIdeal.main_arg3) = m ((c.tc : Thread Cert.PoolWIdeal.nD Cert.PoolWIdeal.τ).loc Cert.PoolWIdeal.main_arg3)) →
    ∃ (v0 : (c : Dev Cert.PoolWIdeal.nD) → Buf (Elt Ideal) ((c.tc : Thread Cert.PoolWIdeal.nD Cert.PoolWIdeal.τ).loc Cert.PoolWIdeal.main_v2_0)) (v1 : (c : Dev Cert.PoolWIdeal.nD) → Buf (Elt Ideal) ((c.tc : Thread Cert.PoolWIdeal.nD Cert.PoolWIdeal.τ).loc Cert.PoolWIdeal.main_v2_1)) (v2 : (c : Dev Cert.PoolWIdeal.nD) → Buf (Elt Ideal) ((c.tc : Thread Cert.PoolWIdeal.nD Cert.PoolWIdeal.τ).loc Cert.PoolWIdeal.main_v2_2)),
      θ_run (Cert.PoolWIdeal.defs (F := Ideal)) (onTc (τ := Cert.PoolWIdeal.τ) (Cert.PoolWIdeal.main (F := Ideal))) ⟨m, fun _ => 0, g⟩ (fun r => ∀ c : Dev Cert.PoolWIdeal.nD,
          r.2.mem ((c.tc : Thread Cert.PoolWIdeal.nD Cert.PoolWIdeal.τ).loc Cert.PoolWIdeal.main_v2_0) = v0 c
          ∧ r.2.mem ((c.tc : Thread Cert.PoolWIdeal.nD Cert.PoolWIdeal.τ).loc Cert.PoolWIdeal.main_v2_1) = v1 c
          ∧ r.2.mem ((c.tc : Thread Cert.PoolWIdeal.nD Cert.PoolWIdeal.τ).loc Cert.PoolWIdeal.main_v2_2) = v2 c
          ∧ r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
          ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1)
          ∧ r.2.mem ((c.tc : Thread Cert.PoolWIdeal.nD Cert.PoolWIdeal.τ).loc Cert.PoolWIdeal.main_arg2) = m ((c.tc : Thread Cert.PoolWIdeal.nD Cert.PoolWIdeal.τ).loc Cert.PoolWIdeal.main_arg2)
          ∧ r.2.mem ((c.tc : Thread Cert.PoolWIdeal.nD Cert.PoolWIdeal.τ).loc Cert.PoolWIdeal.main_arg3) = m ((c.tc : Thread Cert.PoolWIdeal.nD Cert.PoolWIdeal.τ).loc Cert.PoolWIdeal.main_arg3))
      ∧ θ_run (Cert.PoolWRefIdeal.defs (F := Ideal)) (onTc (τ := Cert.PoolWRefIdeal.τ) (Cert.PoolWRefIdeal.main (F := Ideal))) ⟨m', fun _ => 0, g'⟩ (fun r => ∀ c : Dev Cert.PoolWRefIdeal.nD,
          r.2.mem ((c.tc : Thread Cert.PoolWRefIdeal.nD Cert.PoolWRefIdeal.τ).loc Cert.PoolWRefIdeal.main_v89) = v0 c
          ∧ r.2.mem ((c.tc : Thread Cert.PoolWRefIdeal.nD Cert.PoolWRefIdeal.τ).loc Cert.PoolWRefIdeal.main_v88) = v1 c
          ∧ r.2.mem ((c.tc : Thread Cert.PoolWRefIdeal.nD Cert.PoolWRefIdeal.τ).loc Cert.PoolWRefIdeal.main_v90) = v2 c
          ∧ r.2.mem ((c.tc : Thread Cert.PoolWRefIdeal.nD Cert.PoolWRefIdeal.τ).loc Cert.PoolWRefIdeal.main_arg0) = m' ((c.tc : Thread Cert.PoolWRefIdeal.nD Cert.PoolWRefIdeal.τ).loc Cert.PoolWRefIdeal.main_arg0)
          ∧ r.2.mem ((c.tc : Thread Cert.PoolWRefIdeal.nD Cert.PoolWRefIdeal.τ).loc Cert.PoolWRefIdeal.main_arg1) = m' ((c.tc : Thread Cert.PoolWRefIdeal.nD Cert.PoolWRefIdeal.τ).loc Cert.PoolWRefIdeal.main_arg1)
          ∧ r.2.mem ((c.tc : Thread Cert.PoolWRefIdeal.nD Cert.PoolWRefIdeal.τ).loc Cert.PoolWRefIdeal.main_arg2) = m' ((c.tc : Thread Cert.PoolWRefIdeal.nD Cert.PoolWRefIdeal.τ).loc Cert.PoolWRefIdeal.main_arg2)
          ∧ r.2.mem ((c.tc : Thread Cert.PoolWRefIdeal.nD Cert.PoolWRefIdeal.τ).loc Cert.PoolWRefIdeal.main_arg3) = m' ((c.tc : Thread Cert.PoolWRefIdeal.nD Cert.PoolWRefIdeal.τ).loc Cert.PoolWRefIdeal.main_arg3))

def algebraic_AttnBIdeal_AttnBRefIdeal_pre_finite_a [hAttnBIdeal : Cert.AttnBIdeal.Facts] [hAttnBRefIdeal : Cert.AttnBRefIdeal.Facts] [hPre_finite_a : Cert.Pre_finite_a.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_a m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)) →
    ∃ (v0 : (c : Dev Cert.AttnBIdeal.nD) → Buf (Elt Ideal) ((c.tc : Thread Cert.AttnBIdeal.nD Cert.AttnBIdeal.τ).loc Cert.AttnBIdeal.main_v39_0)) (v1 : (c : Dev Cert.AttnBIdeal.nD) → Buf (Elt Ideal) ((c.tc : Thread Cert.AttnBIdeal.nD Cert.AttnBIdeal.τ).loc Cert.AttnBIdeal.main_v39_1)) (v2 : (c : Dev Cert.AttnBIdeal.nD) → Buf (Elt Ideal) ((c.tc : Thread Cert.AttnBIdeal.nD Cert.AttnBIdeal.τ).loc Cert.AttnBIdeal.main_v39_2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v39_0) = v0 c
          ∧ r.2.mem ((c.tc : Thread Cert.AttnBIdeal.nD Cert.AttnBIdeal.τ).loc Cert.AttnBIdeal.main_v39_1) = v1 c
          ∧ r.2.mem ((c.tc : Thread Cert.AttnBIdeal.nD Cert.AttnBIdeal.τ).loc Cert.AttnBIdeal.main_v39_2) = v2 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v52) = v0 c
          ∧ r.2.mem ((c.tc : Thread Cert.AttnBRefIdeal.nD Cert.AttnBRefIdeal.τ).loc Cert.AttnBRefIdeal.main_v53) = v1 c
          ∧ r.2.mem ((c.tc : Thread Cert.AttnBRefIdeal.nD Cert.AttnBRefIdeal.τ).loc Cert.AttnBRefIdeal.main_v54) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3))

def preserves_InDx_InDxIdeal : Prop :=
  True

def algebraic_InDxIdeal_InDxRefIdeal_pre_finite_i [hInDxIdeal : Cert.InDxIdeal.Facts] [hInDxRefIdeal : Cert.InDxRefIdeal.Facts] [hPre_finite_i : Cert.Pre_finite_i.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_i m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)
      ∧ m' ((c.tc : Thread Cert.InDxRefIdeal.nD Cert.InDxRefIdeal.τ).loc Cert.InDxRefIdeal.main_arg7) = m ((c.tc : Thread Cert.InDxIdeal.nD Cert.InDxIdeal.τ).loc Cert.InDxIdeal.main_arg7)) →
    ∃ (v0 : (c : Dev Cert.InDxIdeal.nD) → Buf (Elt Ideal) ((c.tc : Thread Cert.InDxIdeal.nD Cert.InDxIdeal.τ).loc Cert.InDxIdeal.main_v4_0)) (v1 : (c : Dev Cert.InDxIdeal.nD) → Buf (Elt Ideal) ((c.tc : Thread Cert.InDxIdeal.nD Cert.InDxIdeal.τ).loc Cert.InDxIdeal.main_v4_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v4_0) = v0 c
          ∧ r.2.mem ((c.tc : Thread Cert.InDxIdeal.nD Cert.InDxIdeal.τ).loc Cert.InDxIdeal.main_v4_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v43) = v0 c
          ∧ r.2.mem ((c.tc : Thread Cert.InDxRefIdeal.nD Cert.InDxRefIdeal.τ).loc Cert.InDxRefIdeal.main_v44) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6)
          ∧ r.2.mem ((c.tc : Thread Cert.InDxRefIdeal.nD Cert.InDxRefIdeal.τ).loc Cert.InDxRefIdeal.main_arg7) = m' ((c.tc : Thread Cert.InDxRefIdeal.nD Cert.InDxRefIdeal.τ).loc Cert.InDxRefIdeal.main_arg7))

def preserves_Out_OutIdeal : Prop :=
  True

def algebraic_OutIdeal_OutRefIdeal_pre_finite_o [hOutIdeal : Cert.OutIdeal.Facts] [hOutRefIdeal : Cert.OutRefIdeal.Facts] [hPre_finite_o : Cert.Pre_finite_o.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_o m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v31_0)) (v1 : (c : Dev Cert.OutIdeal.nD) → Buf (Elt Ideal) ((c.tc : Thread Cert.OutIdeal.nD Cert.OutIdeal.τ).loc Cert.OutIdeal.main_v31_1)) (v2 : (c : Dev Cert.OutIdeal.nD) → Buf (Elt Ideal) ((c.tc : Thread Cert.OutIdeal.nD Cert.OutIdeal.τ).loc Cert.OutIdeal.main_v31_2)) (v3 : (c : Dev Cert.OutIdeal.nD) → Buf (Elt Ideal) ((c.tc : Thread Cert.OutIdeal.nD Cert.OutIdeal.τ).loc Cert.OutIdeal.main_v31_3)) (v4 : (c : Dev Cert.OutIdeal.nD) → Buf (Elt Ideal) ((c.tc : Thread Cert.OutIdeal.nD Cert.OutIdeal.τ).loc Cert.OutIdeal.main_v31_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v31_0) = v0 c
          ∧ r.2.mem ((c.tc : Thread Cert.OutIdeal.nD Cert.OutIdeal.τ).loc Cert.OutIdeal.main_v31_1) = v1 c
          ∧ r.2.mem ((c.tc : Thread Cert.OutIdeal.nD Cert.OutIdeal.τ).loc Cert.OutIdeal.main_v31_2) = v2 c
          ∧ r.2.mem ((c.tc : Thread Cert.OutIdeal.nD Cert.OutIdeal.τ).loc Cert.OutIdeal.main_v31_3) = v3 c
          ∧ r.2.mem ((c.tc : Thread Cert.OutIdeal.nD Cert.OutIdeal.τ).loc Cert.OutIdeal.main_v31_4) = v4 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v78) = v0 c
          ∧ r.2.mem ((c.tc : Thread Cert.OutRefIdeal.nD Cert.OutRefIdeal.τ).loc Cert.OutRefIdeal.main_v58) = v1 c
          ∧ r.2.mem ((c.tc : Thread Cert.OutRefIdeal.nD Cert.OutRefIdeal.τ).loc Cert.OutRefIdeal.main_v79) = v2 c
          ∧ r.2.mem ((c.tc : Thread Cert.OutRefIdeal.nD Cert.OutRefIdeal.τ).loc Cert.OutRefIdeal.main_v80) = v3 c
          ∧ r.2.mem ((c.tc : Thread Cert.OutRefIdeal.nD Cert.OutRefIdeal.τ).loc Cert.OutRefIdeal.main_v81) = v4 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_MlpB_MlpBIdeal : Prop :=
  True

def algebraic_MlpBIdeal_MlpBRefIdeal_pre_finite_m [hMlpBIdeal : Cert.MlpBIdeal.Facts] [hMlpBRefIdeal : Cert.MlpBRefIdeal.Facts] [hPre_finite_m : Cert.Pre_finite_m.Facts] : Prop :=
  ∀ (m : (ℓ : Loc Cert.MlpBIdeal.nD Cert.MlpBIdeal.τ Cert.MlpBIdeal.sig) → Buf (Elt Ideal) ℓ) (g : Dev Cert.MlpBIdeal.nD → PrngReg)
    (m' : (ℓ : Loc Cert.MlpBRefIdeal.nD Cert.MlpBRefIdeal.τ Cert.MlpBRefIdeal.sig) → Buf (Elt Ideal) ℓ) (g' : Dev Cert.MlpBRefIdeal.nD → PrngReg), Pre_MlpBIdeal_finite_m m →
    (∀ c : Dev Cert.MlpBIdeal.nD,
      m' ((c.tc : Thread Cert.MlpBRefIdeal.nD Cert.MlpBRefIdeal.τ).loc Cert.MlpBRefIdeal.main_arg0) = m ((c.tc : Thread Cert.MlpBIdeal.nD Cert.MlpBIdeal.τ).loc Cert.MlpBIdeal.main_arg0)
      ∧ m' ((c.tc : Thread Cert.MlpBRefIdeal.nD Cert.MlpBRefIdeal.τ).loc Cert.MlpBRefIdeal.main_arg1) = m ((c.tc : Thread Cert.MlpBIdeal.nD Cert.MlpBIdeal.τ).loc Cert.MlpBIdeal.main_arg1)
      ∧ m' ((c.tc : Thread Cert.MlpBRefIdeal.nD Cert.MlpBRefIdeal.τ).loc Cert.MlpBRefIdeal.main_arg2) = m ((c.tc : Thread Cert.MlpBIdeal.nD Cert.MlpBIdeal.τ).loc Cert.MlpBIdeal.main_arg2)
      ∧ m' ((c.tc : Thread Cert.MlpBRefIdeal.nD Cert.MlpBRefIdeal.τ).loc Cert.MlpBRefIdeal.main_arg3) = m ((c.tc : Thread Cert.MlpBIdeal.nD Cert.MlpBIdeal.τ).loc Cert.MlpBIdeal.main_arg3)
      ∧ m' ((c.tc : Thread Cert.MlpBRefIdeal.nD Cert.MlpBRefIdeal.τ).loc Cert.MlpBRefIdeal.main_arg4) = m ((c.tc : Thread Cert.MlpBIdeal.nD Cert.MlpBIdeal.τ).loc Cert.MlpBIdeal.main_arg4)) →
    ∃ (v0 : (c : Dev Cert.MlpBIdeal.nD) → Buf (Elt Ideal) ((c.tc : Thread Cert.MlpBIdeal.nD Cert.MlpBIdeal.τ).loc Cert.MlpBIdeal.main_v25_0)) (v1 : (c : Dev Cert.MlpBIdeal.nD) → Buf (Elt Ideal) ((c.tc : Thread Cert.MlpBIdeal.nD Cert.MlpBIdeal.τ).loc Cert.MlpBIdeal.main_v25_1)) (v2 : (c : Dev Cert.MlpBIdeal.nD) → Buf (Elt Ideal) ((c.tc : Thread Cert.MlpBIdeal.nD Cert.MlpBIdeal.τ).loc Cert.MlpBIdeal.main_v25_2)),
      θ_run (Cert.MlpBIdeal.defs (F := Ideal)) (onTc (τ := Cert.MlpBIdeal.τ) (Cert.MlpBIdeal.main (F := Ideal))) ⟨m, fun _ => 0, g⟩ (fun r => ∀ c : Dev Cert.MlpBIdeal.nD,
          r.2.mem ((c.tc : Thread Cert.MlpBIdeal.nD Cert.MlpBIdeal.τ).loc Cert.MlpBIdeal.main_v25_0) = v0 c
          ∧ r.2.mem ((c.tc : Thread Cert.MlpBIdeal.nD Cert.MlpBIdeal.τ).loc Cert.MlpBIdeal.main_v25_1) = v1 c
          ∧ r.2.mem ((c.tc : Thread Cert.MlpBIdeal.nD Cert.MlpBIdeal.τ).loc Cert.MlpBIdeal.main_v25_2) = v2 c
          ∧ r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
          ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
          ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
          ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
          ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ θ_run (Cert.MlpBRefIdeal.defs (F := Ideal)) (onTc (τ := Cert.MlpBRefIdeal.τ) (Cert.MlpBRefIdeal.main (F := Ideal))) ⟨m', fun _ => 0, g'⟩ (fun r => ∀ c : Dev Cert.MlpBRefIdeal.nD,
          r.2.mem ((c.tc : Thread Cert.MlpBRefIdeal.nD Cert.MlpBRefIdeal.τ).loc Cert.MlpBRefIdeal.main_v53) = v0 c
          ∧ r.2.mem ((c.tc : Thread Cert.MlpBRefIdeal.nD Cert.MlpBRefIdeal.τ).loc Cert.MlpBRefIdeal.main_v52) = v1 c
          ∧ r.2.mem ((c.tc : Thread Cert.MlpBRefIdeal.nD Cert.MlpBRefIdeal.τ).loc Cert.MlpBRefIdeal.main_v54) = v2 c
          ∧ r.2.mem ((c.tc : Thread Cert.MlpBRefIdeal.nD Cert.MlpBRefIdeal.τ).loc Cert.MlpBRefIdeal.main_arg0) = m' ((c.tc : Thread Cert.MlpBRefIdeal.nD Cert.MlpBRefIdeal.τ).loc Cert.MlpBRefIdeal.main_arg0)
          ∧ r.2.mem ((c.tc : Thread Cert.MlpBRefIdeal.nD Cert.MlpBRefIdeal.τ).loc Cert.MlpBRefIdeal.main_arg1) = m' ((c.tc : Thread Cert.MlpBRefIdeal.nD Cert.MlpBRefIdeal.τ).loc Cert.MlpBRefIdeal.main_arg1)
          ∧ r.2.mem ((c.tc : Thread Cert.MlpBRefIdeal.nD Cert.MlpBRefIdeal.τ).loc Cert.MlpBRefIdeal.main_arg2) = m' ((c.tc : Thread Cert.MlpBRefIdeal.nD Cert.MlpBRefIdeal.τ).loc Cert.MlpBRefIdeal.main_arg2)
          ∧ r.2.mem ((c.tc : Thread Cert.MlpBRefIdeal.nD Cert.MlpBRefIdeal.τ).loc Cert.MlpBRefIdeal.main_arg3) = m' ((c.tc : Thread Cert.MlpBRefIdeal.nD Cert.MlpBRefIdeal.τ).loc Cert.MlpBRefIdeal.main_arg3)
          ∧ r.2.mem ((c.tc : Thread Cert.MlpBRefIdeal.nD Cert.MlpBRefIdeal.τ).loc Cert.MlpBRefIdeal.main_arg4) = m' ((c.tc : Thread Cert.MlpBRefIdeal.nD Cert.MlpBRefIdeal.τ).loc Cert.MlpBRefIdeal.main_arg4))

def preserves_MlpF_MlpFIdeal : Prop :=
  True

def algebraic_MlpFIdeal_MlpFRefIdeal_pre_finite_l [hMlpFIdeal : Cert.MlpFIdeal.Facts] [hMlpFRefIdeal : Cert.MlpFRefIdeal.Facts] [hPre_finite_l : Cert.Pre_finite_l.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal_finite_l m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)
      ∧ m' ((c.tc : Thread Cert.MlpFRefIdeal.nD Cert.MlpFRefIdeal.τ).loc Cert.MlpFRefIdeal.main_arg4) = m ((c.tc : Thread Cert.MlpFIdeal.nD Cert.MlpFIdeal.τ).loc Cert.MlpFIdeal.main_arg4)
      ∧ m' ((c.tc : Thread Cert.MlpFRefIdeal.nD Cert.MlpFRefIdeal.τ).loc Cert.MlpFRefIdeal.main_arg5) = m ((c.tc : Thread Cert.MlpFIdeal.nD Cert.MlpFIdeal.τ).loc Cert.MlpFIdeal.main_arg5)) →
    ∃ (v0 : (c : Dev Cert.MlpFIdeal.nD) → Buf (Elt Ideal) ((c.tc : Thread Cert.MlpFIdeal.nD Cert.MlpFIdeal.τ).loc Cert.MlpFIdeal.main_v21_0)) (v1 : (c : Dev Cert.MlpFIdeal.nD) → Buf (Elt Ideal) ((c.tc : Thread Cert.MlpFIdeal.nD Cert.MlpFIdeal.τ).loc Cert.MlpFIdeal.main_v21_1)) (v2 : (c : Dev Cert.MlpFIdeal.nD) → Buf (Elt Ideal) ((c.tc : Thread Cert.MlpFIdeal.nD Cert.MlpFIdeal.τ).loc Cert.MlpFIdeal.main_v21_2)) (v3 : (c : Dev Cert.MlpFIdeal.nD) → Buf (Elt Ideal) ((c.tc : Thread Cert.MlpFIdeal.nD Cert.MlpFIdeal.τ).loc Cert.MlpFIdeal.main_v21_3)) (v4 : (c : Dev Cert.MlpFIdeal.nD) → Buf (Elt Ideal) ((c.tc : Thread Cert.MlpFIdeal.nD Cert.MlpFIdeal.τ).loc Cert.MlpFIdeal.main_v21_4)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v21_0) = v0 c
          ∧ r.2.mem ((c.tc : Thread Cert.MlpFIdeal.nD Cert.MlpFIdeal.τ).loc Cert.MlpFIdeal.main_v21_1) = v1 c
          ∧ r.2.mem ((c.tc : Thread Cert.MlpFIdeal.nD Cert.MlpFIdeal.τ).loc Cert.MlpFIdeal.main_v21_2) = v2 c
          ∧ r.2.mem ((c.tc : Thread Cert.MlpFIdeal.nD Cert.MlpFIdeal.τ).loc Cert.MlpFIdeal.main_v21_3) = v3 c
          ∧ r.2.mem ((c.tc : Thread Cert.MlpFIdeal.nD Cert.MlpFIdeal.τ).loc Cert.MlpFIdeal.main_v21_4) = v4 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
          ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
          ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v85) = v0 c
          ∧ r.2.mem ((c.tc : Thread Cert.MlpFRefIdeal.nD Cert.MlpFRefIdeal.τ).loc Cert.MlpFRefIdeal.main_v68) = v1 c
          ∧ r.2.mem ((c.tc : Thread Cert.MlpFRefIdeal.nD Cert.MlpFRefIdeal.τ).loc Cert.MlpFRefIdeal.main_v86) = v2 c
          ∧ r.2.mem ((c.tc : Thread Cert.MlpFRefIdeal.nD Cert.MlpFRefIdeal.τ).loc Cert.MlpFRefIdeal.main_v87) = v3 c
          ∧ r.2.mem ((c.tc : Thread Cert.MlpFRefIdeal.nD Cert.MlpFRefIdeal.τ).loc Cert.MlpFRefIdeal.main_v88) = v4 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3)
          ∧ r.2.mem ((c.tc : Thread Cert.MlpFRefIdeal.nD Cert.MlpFRefIdeal.τ).loc Cert.MlpFRefIdeal.main_arg4) = m' ((c.tc : Thread Cert.MlpFRefIdeal.nD Cert.MlpFRefIdeal.τ).loc Cert.MlpFRefIdeal.main_arg4)
          ∧ r.2.mem ((c.tc : Thread Cert.MlpFRefIdeal.nD Cert.MlpFRefIdeal.τ).loc Cert.MlpFRefIdeal.main_arg5) = m' ((c.tc : Thread Cert.MlpFRefIdeal.nD Cert.MlpFRefIdeal.τ).loc Cert.MlpFRefIdeal.main_arg5))

def algebraic_AttnFIdeal_AttnFRefIdeal_pre_finite_f [hAttnFIdeal : Cert.AttnFIdeal.Facts] [hAttnFRefIdeal : Cert.AttnFRefIdeal.Facts] [hPre_finite_f : Cert.Pre_finite_f.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_f m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v12)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v12) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v26) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def Claim : Prop :=
  ∃ (hPoolU : Cert.PoolU.Facts) (hPoolUIdeal : Cert.PoolUIdeal.Facts) (hPoolURefIdeal : Cert.PoolURefIdeal.Facts) (hPoolW : Cert.PoolW.Facts) (hPoolWIdeal : Cert.PoolWIdeal.Facts) (hPoolWRefIdeal : Cert.PoolWRefIdeal.Facts) (hAttnBIdeal : Cert.AttnBIdeal.Facts) (hAttnBRefIdeal : Cert.AttnBRefIdeal.Facts) (hInDx : Cert.InDx.Facts) (hInDxIdeal : Cert.InDxIdeal.Facts) (hInDxRefIdeal : Cert.InDxRefIdeal.Facts) (hOut : Cert.Out.Facts) (hOutIdeal : Cert.OutIdeal.Facts) (hOutRefIdeal : Cert.OutRefIdeal.Facts) (hMlpB : Cert.MlpB.Facts) (hMlpBIdeal : Cert.MlpBIdeal.Facts) (hMlpBRefIdeal : Cert.MlpBRefIdeal.Facts) (hMlpF : Cert.MlpF.Facts) (hMlpFIdeal : Cert.MlpFIdeal.Facts) (hMlpFRefIdeal : Cert.MlpFRefIdeal.Facts) (hAttnFIdeal : Cert.AttnFIdeal.Facts) (hAttnFRefIdeal : Cert.AttnFRefIdeal.Facts) (hPre_finite_dpooled : Cert.Pre_finite_dpooled.Facts) (hPre_finite_u : Cert.Pre_finite_u.Facts) (hPre_finite_a : Cert.Pre_finite_a.Facts) (hPre_finite_i : Cert.Pre_finite_i.Facts) (hPre_finite_o : Cert.Pre_finite_o.Facts) (hPre_finite_m : Cert.Pre_finite_m.Facts) (hPre_finite_l : Cert.Pre_finite_l.Facts) (hPre_finite_f : Cert.Pre_finite_f.Facts),
    quiescent_PoolU (hPoolU := hPoolU)
    ∧ quiescent_PoolUIdeal (hPoolUIdeal := hPoolUIdeal)
    ∧ quiescent_PoolUIdeal_pre_finite_dpooled (hPoolUIdeal := hPoolUIdeal) (hPre_finite_dpooled := hPre_finite_dpooled)
    ∧ quiescent_PoolURefIdeal (hPoolURefIdeal := hPoolURefIdeal)
    ∧ quiescent_PoolURefIdeal_pre_finite_dpooled (hPoolURefIdeal := hPoolURefIdeal) (hPre_finite_dpooled := hPre_finite_dpooled)
    ∧ quiescent_PoolW (hPoolW := hPoolW)
    ∧ quiescent_PoolWIdeal (hPoolWIdeal := hPoolWIdeal)
    ∧ quiescent_PoolWIdeal_pre_finite_u (hPoolWIdeal := hPoolWIdeal) (hPre_finite_u := hPre_finite_u)
    ∧ quiescent_PoolWRefIdeal (hPoolWRefIdeal := hPoolWRefIdeal)
    ∧ quiescent_PoolWRefIdeal_pre_finite_u (hPoolWRefIdeal := hPoolWRefIdeal) (hPre_finite_u := hPre_finite_u)
    ∧ quiescent_AttnBIdeal (hAttnBIdeal := hAttnBIdeal)
    ∧ quiescent_AttnBIdeal_pre_finite_a (hAttnBIdeal := hAttnBIdeal) (hPre_finite_a := hPre_finite_a)
    ∧ quiescent_AttnBRefIdeal (hAttnBRefIdeal := hAttnBRefIdeal)
    ∧ quiescent_AttnBRefIdeal_pre_finite_a (hAttnBRefIdeal := hAttnBRefIdeal) (hPre_finite_a := hPre_finite_a)
    ∧ quiescent_InDx (hInDx := hInDx)
    ∧ quiescent_InDxIdeal (hInDxIdeal := hInDxIdeal)
    ∧ quiescent_InDxIdeal_pre_finite_i (hInDxIdeal := hInDxIdeal) (hPre_finite_i := hPre_finite_i)
    ∧ quiescent_InDxRefIdeal (hInDxRefIdeal := hInDxRefIdeal)
    ∧ quiescent_InDxRefIdeal_pre_finite_i (hInDxRefIdeal := hInDxRefIdeal) (hPre_finite_i := hPre_finite_i)
    ∧ quiescent_Out (hOut := hOut)
    ∧ quiescent_OutIdeal (hOutIdeal := hOutIdeal)
    ∧ quiescent_OutIdeal_pre_finite_o (hOutIdeal := hOutIdeal) (hPre_finite_o := hPre_finite_o)
    ∧ quiescent_OutRefIdeal (hOutRefIdeal := hOutRefIdeal)
    ∧ quiescent_OutRefIdeal_pre_finite_o (hOutRefIdeal := hOutRefIdeal) (hPre_finite_o := hPre_finite_o)
    ∧ quiescent_MlpB (hMlpB := hMlpB)
    ∧ quiescent_MlpBIdeal (hMlpBIdeal := hMlpBIdeal)
    ∧ quiescent_MlpBIdeal_pre_finite_m (hMlpBIdeal := hMlpBIdeal) (hPre_finite_m := hPre_finite_m)
    ∧ quiescent_MlpBRefIdeal (hMlpBRefIdeal := hMlpBRefIdeal)
    ∧ quiescent_MlpBRefIdeal_pre_finite_m (hMlpBRefIdeal := hMlpBRefIdeal) (hPre_finite_m := hPre_finite_m)
    ∧ quiescent_MlpF (hMlpF := hMlpF)
    ∧ quiescent_MlpFIdeal (hMlpFIdeal := hMlpFIdeal)
    ∧ quiescent_MlpFIdeal_pre_finite_l (hMlpFIdeal := hMlpFIdeal) (hPre_finite_l := hPre_finite_l)
    ∧ quiescent_MlpFRefIdeal (hMlpFRefIdeal := hMlpFRefIdeal)
    ∧ quiescent_MlpFRefIdeal_pre_finite_l (hMlpFRefIdeal := hMlpFRefIdeal) (hPre_finite_l := hPre_finite_l)
    ∧ quiescent_AttnFIdeal (hAttnFIdeal := hAttnFIdeal)
    ∧ quiescent_AttnFIdeal_pre_finite_f (hAttnFIdeal := hAttnFIdeal) (hPre_finite_f := hPre_finite_f)
    ∧ quiescent_AttnFRefIdeal (hAttnFRefIdeal := hAttnFRefIdeal)
    ∧ quiescent_AttnFRefIdeal_pre_finite_f (hAttnFRefIdeal := hAttnFRefIdeal) (hPre_finite_f := hPre_finite_f)
    ∧ preserves_PoolU_PoolUIdeal
    ∧ algebraic_PoolUIdeal_PoolURefIdeal_pre_finite_dpooled (hPoolUIdeal := hPoolUIdeal) (hPoolURefIdeal := hPoolURefIdeal) (hPre_finite_dpooled := hPre_finite_dpooled)
    ∧ preserves_PoolW_PoolWIdeal
    ∧ algebraic_PoolWIdeal_PoolWRefIdeal_pre_finite_u (hPoolWIdeal := hPoolWIdeal) (hPoolWRefIdeal := hPoolWRefIdeal) (hPre_finite_u := hPre_finite_u)
    ∧ algebraic_AttnBIdeal_AttnBRefIdeal_pre_finite_a (hAttnBIdeal := hAttnBIdeal) (hAttnBRefIdeal := hAttnBRefIdeal) (hPre_finite_a := hPre_finite_a)
    ∧ preserves_InDx_InDxIdeal
    ∧ algebraic_InDxIdeal_InDxRefIdeal_pre_finite_i (hInDxIdeal := hInDxIdeal) (hInDxRefIdeal := hInDxRefIdeal) (hPre_finite_i := hPre_finite_i)
    ∧ preserves_Out_OutIdeal
    ∧ algebraic_OutIdeal_OutRefIdeal_pre_finite_o (hOutIdeal := hOutIdeal) (hOutRefIdeal := hOutRefIdeal) (hPre_finite_o := hPre_finite_o)
    ∧ preserves_MlpB_MlpBIdeal
    ∧ algebraic_MlpBIdeal_MlpBRefIdeal_pre_finite_m (hMlpBIdeal := hMlpBIdeal) (hMlpBRefIdeal := hMlpBRefIdeal) (hPre_finite_m := hPre_finite_m)
    ∧ preserves_MlpF_MlpFIdeal
    ∧ algebraic_MlpFIdeal_MlpFRefIdeal_pre_finite_l (hMlpFIdeal := hMlpFIdeal) (hMlpFRefIdeal := hMlpFRefIdeal) (hPre_finite_l := hPre_finite_l)
    ∧ algebraic_AttnFIdeal_AttnFRefIdeal_pre_finite_f (hAttnFIdeal := hAttnFIdeal) (hAttnFRefIdeal := hAttnFRefIdeal) (hPre_finite_f := hPre_finite_f)
-- ==== Pre_finite_a.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) (main_arg3 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : IVec S4096x512 1 := andi main_v6 main_v9
  let main_v11 : FVec F S4096x512 .f32 := Host.absf main_arg3
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_v14 : IVec S4096x512 1 := andi main_v10 main_v13
  main_v14
-- ==== Pre_finite_dpooled.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) : IVec S4096x512 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  main_v2
-- ==== Pre_finite_f.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : IVec S4096x512 1 := andi main_v6 main_v9
  main_v10
-- ==== Pre_finite_i.lean ====
abbrev S4096x512 : Shape := ⟨2, ![4096, 512]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v32 : IVec S_ 1) (main_v33 : FVec F S1024 .f32) (main_v34 : FVec F S1024 .f32) : IVec S_ 1 :=
  let main_v35 : IVec S1024 1 := cmpf .olt main_v33 main_v34
  let main_c_11 : IVec S_ 1 := constantI S_ 1 1#1
  let main_v36 : IVec S_ 1 := (fun x v => Host.reduce IntOp.andi x v reducesTo_S1024_S_d0 h_S_) main_v35 main_c_11
  let main_v37 : IVec S_ 1 := andi main_v32 main_v36
  main_v37

def fn_part1 {F : FTy → Type} [FloatOps F] (main_arg4 : FVec F S1024x2048 .f32) (main_arg5 : FVec F S4096x1024 .f32) (main_arg7 : FVec F S1024 .f32) (main_v16 : IVec S_ 1) (main_v17 : FVec F S4096x512 .f32) : IVec S_ 1 :=
  let main_v18 : FVec F S4096x512 .f32 := Host.absf main_v17
  let main_cst_4 : FVec F S_ .f32 := constant S_ .f32 0x7F800000#32
  let main_v19 : FVec F S4096x512 .f32 := broadcastInDim S4096x512 ![] bcast_S_S4096x512 main_cst_4
  let main_v20 : IVec S4096x512 1 := cmpf .olt main_v18 main_v19
  let main_c_5 : IVec S_ 1 := constantI S_ 1 1#1
  let main_v21 : IVec S_ 1 := (fun x v => Host.reduce IntOp.andi x v reducesTo_S4096x512_S_d0_1 h_S_) main_v20 main_c_5
  let main_v22 : IVec S_ 1 := andi main_v16 main_v21
  let main_v23 : FVec F S1024x2048 .f32 := Host.absf main_arg4
  let main_cst_6 : FVec F S_ .f32 := constant S_ .f32 0x7F800000#32
  let main_v24 : FVec F S1024x2048 .f32 := broadcastInDim S1024x2048 ![] bcast_S_S1024x2048 main_cst_6
  let main_v25 : IVec S1024x2048 1 := cmpf .olt main_v23 main_v24
  let main_c_7 : IVec S_ 1 := constantI S_ 1 1#1
  let main_v26 : IVec S_ 1 := (fun x v => Host.reduce IntOp.andi x v reducesTo_S1024x2048_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1024 .f32 := Host.absf main_arg7
  let main_cst_10 : FVec F S_ .f32 := constant S_ .f32 0x7F800000#32
  let main_v34 : FVec F S1024 .f32 := broadcastInDim S1024 ![] bcast_S_S1024 main_cst_10
  fn_part2 (F := F) main_v32 main_v33 main_v34

def fn {F : FTy → Type} [FloatOps F] (main_arg0 : FVec F S4096x512 .bf16) (main_arg1 : FVec F S4096x512 .bf16) (main_arg2 : FVec F S4096x512 .bf16) (main_arg3 : FVec F S4096x512 .bf16) (main_arg4 : FVec F S1024x2048 .f32) (main_arg5 : FVec F S4096x1024 .f32) (main_arg6 : FVec F S4096x1024 .f32) (main_arg7 : FVec F S1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S4096x512 .f32 := (extf .f32 · bitsLt_bf16_f32) main_arg3
  fn_part1 (F := F) main_arg4 main_arg5 main_arg7 main_v16 main_v17
-- ==== Pre_finite_l.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024x4096 .f32) (main_arg2 : FVec F S4096x1024 .f32) (main_arg3 : FVec F S1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite_m.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024x4096 .f32) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite_o.lean ====
abbrev S4096x1024 : Shape := ⟨2, ![4096, 1024]⟩
abbrev S1024x1024 : Shape := ⟨2, ![1024, 1024]⟩
abbrev S4096x512 : Shape := ⟨2, ![4096, 512]⟩
abbrev S512 : Shape := ⟨1, ![512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4096x1024 .f32) (main_arg1 : FVec F S1024x1024 .f32) (main_arg2 : FVec F S4096x512 .f32) (main_arg3 : FVec F S4096x512 .f32) (main_arg4 : FVec F S512 .f32) (main_arg5 : FVec F S512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_v13 main_v16
-- ==== Pre_finite_u.lean ====
abbrev S4096x512 : Shape := ⟨2, ![4096, 512]⟩
abbrev S4x128x128 : Shape := ⟨3, ![4, 128, 128]⟩
abbrev S512 : Shape := ⟨1, ![512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4x128x128 .f32) (main_arg3 : FVec F S512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  main_v2
-- ==== PoolU.lean ====
abbrev S4096x512 : Shape := ⟨2, ![4096, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolURefIdeal.lean ====
abbrev S4096x512 : Shape := ⟨2, ![4096, 512]⟩
abbrev S4096x4x128 : Shape := ⟨3, ![4096, 4, 128]⟩
abbrev S4096 : Shape := ⟨1, ![4096]⟩
abbrev S4096x1x128 : Shape := ⟨3, ![4096, 1, 128]⟩
abbrev S4096x128 : Shape := ⟨2, ![4096, 128]⟩
abbrev S_ : Shape := ⟨0, ![]⟩
abbrev S2x128 : Shape := ⟨2, ![2, 128]⟩
abbrev S4094x128 : Shape := ⟨2, ![4094, 128]⟩
abbrev S4096x1 : Shape := ⟨2, ![4096, 1]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩

abbrev nBuf : Space → Nat
  | .hbm => 179
  | .vmem => 0
  | .smem => 0
  | _ => 0

abbrev hbmTy0_0 (i : Nat) : BufTy := match i % 128 with
  | 0 => ⟨S4096x512, .f32⟩
  | 1 => ⟨S4096x512, .f32⟩
  | 2 => ⟨S4096x4x128, .f32⟩
  | 3 => ⟨S4096, .i32⟩
  | 4 => ⟨S4096x1x128, .f32⟩
  | 5 => ⟨S4096x128, .f32⟩
  | 6 => ⟨S_, .f32⟩
  | 7 => ⟨S_, .f32⟩
  | 8 => ⟨S4096x128, .f32⟩
  | 9 => ⟨S_, .f32⟩
  | 10 => ⟨S2x128, .f32⟩
  | 11 => ⟨S4094x128, .f32⟩
  | 12 => ⟨S4096x128, .f32⟩
  | 13 => ⟨S_, .f32⟩
  | 14 => ⟨S2x128, .f32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .f32⟩
  | 22 => ⟨S4096x1, .f32⟩
  | 23 => ⟨S4096x128, .f32⟩
  | 24 => ⟨S4096x128, .f32⟩
  | 25 => ⟨S4096x128, .f32⟩
  | 26 => ⟨S4096x128, .f32⟩
  | 27 => ⟨S4096x1x128, .f32⟩
  | 28 => ⟨S4096x128, .f32⟩
  | 29 => ⟨S_, .f32⟩
  | 30 => ⟨S_, .f32⟩
  | 31 => ⟨S4096x128, .f32⟩
  | 32 => ⟨S_, .f32⟩
  | 33 => ⟨S4x128, .f32⟩
  | 34 => ⟨S4092x128, .f32⟩
  | 35 => ⟨S4096x128, .f32⟩
  | 36 => ⟨S_, .f32⟩
  | 37 => ⟨S4x128, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S4096x1, .f32⟩
  | 46 => ⟨S4096x128, .f32⟩
  | 47 => ⟨S4096x128, .f32⟩
  | 48 => ⟨S4096x128, .f32⟩
  | 49 => ⟨S4096x128, .f32⟩
  | 50 => ⟨S4096x1x128, .f32⟩
  | 51 => ⟨S4096x128, .f32⟩
  | 52 => ⟨S_, .f32⟩
  | 53 => ⟨S_, .f32⟩
  | 54 => ⟨S4096x128, .f32⟩
  | 55 => ⟨S_, .f32⟩
  | 56 => ⟨S8x128, .f32⟩
  | 57 => ⟨S4088x128, .f32⟩
  | 58 => ⟨S4096x128, .f32⟩
  | 59 => ⟨S_, .f32⟩
  | 60 => ⟨S8x128, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S4096x1, .f32⟩
  | 69 => ⟨S4096x128, .f32⟩
  | 70 => ⟨S4096x128, .f32⟩
  | 71 => ⟨S4096x128, .f32⟩
  | 72 => ⟨S4096x128, .f32⟩
  | 73 => ⟨S4096x1x128, .f32⟩
  | 74 => ⟨S4096x128, .f32⟩
  | 75 => ⟨S_, .f32⟩
  | 76 => ⟨S_, .f32⟩
  | 77 => ⟨S4096x128, .f32⟩
  | 78 => ⟨S_, .f32⟩
  | 79 => ⟨S16x128, .f32⟩
  | 80 => ⟨S4080x128, .f32⟩
  | 81 => ⟨S4096x128, .f32⟩
  | 82 => ⟨S_, .f32⟩
  | 83 => ⟨S16x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S4096x1, .f32⟩
  | 92 => ⟨S4096x128, .f32⟩
  | 93 => ⟨S4096x128, .f32⟩
  | 94 => ⟨S4096x128, .f32⟩
  | 95 => ⟨S4096x128, .f32⟩
  | 96 => ⟨S4096x1x128, .f32⟩
  | 97 => ⟨S4096x1x128, .f32⟩
  | 98 => ⟨S4096x1x128, .f32⟩
  | 99 => ⟨S4096x1x128, .f32⟩
  | 100 => ⟨S4096x4x128, .f32⟩
  | 101 => ⟨S4096x4x128, .f32⟩
  | 102 => ⟨S4096x1x128, .f32⟩
  | 103 => ⟨S4096x128, .f32⟩
  | 104 => ⟨S4096x1x128, .f32⟩
  | 105 => ⟨S4096x128, .f32⟩
  | 106 => ⟨S4096x1x128, .f32⟩
  | 107 => ⟨S4096x128, .f32⟩
  | 108 => ⟨S4096x1x128, .f32⟩
  | 109 => ⟨S4096x128, .f32⟩
  | 110 => ⟨S4096x128, .f32⟩
  | 111 => ⟨S4096x128, .f32⟩
  | 112 => ⟨S4096x128, .f32⟩
  | 113 => ⟨S4096x128, .f32⟩
  | 114 => ⟨S16x128, .f32⟩
  | 115 => ⟨S4080x128, .f32⟩
  | 116 => ⟨S_, .f32⟩
  | 117 => ⟨S4096x128, .f32⟩
  | 118 => ⟨S4096x128, .f32⟩
  | 119 => ⟨S_, .f32⟩
  | 120 => ⟨S_, .f32⟩
  | 121 => ⟨S4096x128, .f32⟩
  | 122 => ⟨S4096x128, .f32⟩
  | 123 => ⟨S4096x1x128, .f32⟩
  | 124 => ⟨S_, .f32⟩
  | 125 => ⟨S4096x4x128, .f32⟩
  | 126 => ⟨S4096x128, .f32⟩
  | 127 => ⟨S4096x128, .f32⟩
  | _ => ⟨S4096x512, .f32⟩

abbrev hbmTy0_1 (i : Nat) : BufTy := match i % 128 with
  | 0 => ⟨S4096x128, .f32⟩
  | 1 => ⟨S4096x128, .f32⟩
  | 2 => ⟨S8x128, .f32⟩
  | 3 => ⟨S4088x128, .f32⟩
  | 4 => ⟨S_, .f32⟩
  | 5 => ⟨S4096x128, .f32⟩
  | 6 => ⟨S4096x128, .f32⟩
  | 7 => ⟨S_, .f32⟩
  | 8 => ⟨S_, .f32⟩
  | 9 => ⟨S4096x128, .f32⟩
  | 10 => ⟨S4096x128, .f32⟩
  | 11 => ⟨S4096x1x128, .f32⟩
  | 12 => ⟨S_, .f32⟩
  | 13 => ⟨S4096x4x128, .f32⟩
  | 14 => ⟨S4096x4x128, .f32⟩
  | 15 => ⟨S4096x128, .f32⟩
  | 16 => ⟨S4096x128, .f32⟩
  | 17 => ⟨S4096x128, .f32⟩
  | 18 => ⟨S4096x128, .f32⟩
  | 19 => ⟨S4x128, .f32⟩
  | 20 => ⟨S4092x128, .f32⟩
  | 21 => ⟨S_, .f32⟩
  | 22 => ⟨S4096x128, .f32⟩
  | 23 => ⟨S4096x128, .f32⟩
  | 24 => ⟨S_, .f32⟩
  | 25 => ⟨S_, .f32⟩
  | 26 => ⟨S4096x128, .f32⟩
  | 27 => ⟨S4096x128, .f32⟩
  | 28 => ⟨S4096x1x128, .f32⟩
  | 29 => ⟨S_, .f32⟩
  | 30 => ⟨S4096x4x128, .f32⟩
  | 31 => ⟨S4096x4x128, .f32⟩
  | 32 => ⟨S4096x128, .f32⟩
  | 33 => ⟨S4096x128, .f32⟩
  | 34 => ⟨S4096x128, .f32⟩
  | 35 => ⟨S4096x128, .f32⟩
  | 36 => ⟨S2x128, .f32⟩
  | 37 => ⟨S4094x128, .f32⟩
  | 38 => ⟨S_, .f32⟩
  | 39 => ⟨S4096x128, .f32⟩
  | 40 => ⟨S4096x128, .f32⟩
  | 41 => ⟨S_, .f32⟩
  | 42 => ⟨S_, .f32⟩
  | 43 => ⟨S4096x128, .f32⟩
  | 44 => ⟨S4096x128, .f32⟩
  | 45 => ⟨S4096x1x128, .f32⟩
  | 46 => ⟨S_, .f32⟩
  | 47 => ⟨S4096x4x128, .f32⟩
  | 48 => ⟨S4096x4x128, .f32⟩
  | 49 => ⟨S4096x512, .f32⟩
  | 50 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_call0_cst : Ref sig .tc := ⟨.hbm, 29, rfl⟩
abbrev main_call1_call0_v0 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call2_call0_cst : Ref sig .tc := ⟨.hbm, 52, rfl⟩
abbrev main_call2_call0_v0 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call3_call0_cst : Ref sig .tc := ⟨.hbm, 75, rfl⟩
abbrev main_call3_call0_v0 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_call4_call0_cst : Ref sig .tc := ⟨.hbm, 119, rfl⟩
abbrev main_call4_call0_v0 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_call5_call0_cst : Ref sig .tc := ⟨.hbm, 135, rfl⟩
abbrev main_call5_call0_v0 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_17 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_18 : Ref sig .tc := ⟨.hbm, 149, rfl⟩
abbrev main_v115 : Ref sig .tc := ⟨.hbm, 150, rfl⟩
abbrev main_v116 : Ref sig .tc := ⟨.hbm, 151, rfl⟩
abbrev main_call6_call0_cst : Ref sig .tc := ⟨.hbm, 152, rfl⟩
abbrev main_call6_call0_v0 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_19 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_20 : Ref sig .tc := ⟨.hbm, 166, rfl⟩
abbrev main_v128 : Ref sig .tc := ⟨.hbm, 167, rfl⟩
abbrev main_v129 : Ref sig .tc := ⟨.hbm, 168, rfl⟩
abbrev main_call7_call0_cst : Ref sig .tc := ⟨.hbm, 169, rfl⟩
abbrev main_call7_call0_v0 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_21 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩

abbrev nD : Nat := 1
abbrev τ : Topo := Topo.v7x

variable {F : FTy → Type} [FloatOps F]
-- ==== PoolW.lean ====
abbrev S4096x512 : Shape := ⟨2, ![4096, 512]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S4096x512, .f32⟩
  | .hbm, ⟨7, _⟩ => ⟨S4x128x128, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S4x128x128, .bf16⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S4x128x128, .f32⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolWRefIdeal.lean ====
abbrev S4096x512 : Shape := ⟨2, ![4096, 512]⟩
abbrev S4x128x128 : Shape := ⟨3, ![4, 128, 128]⟩
abbrev S512 : Shape := ⟨1, ![512]⟩
abbrev S4096x4x128 : Shape := ⟨3, ![4096, 4, 128]⟩
abbrev S4096 : Shape := ⟨1, ![4096]⟩
abbrev S4096x1x128 : Shape := ⟨3, ![4096, 1, 128]⟩
abbrev S4096x128 : Shape := ⟨2, ![4096, 128]⟩
abbrev S_ : Shape := ⟨0, ![]⟩
abbrev S2x128 : Shape := ⟨2, ![2, 128]⟩
abbrev S4094x128 : Shape := ⟨2, ![4094, 128]⟩
abbrev S4096x1 : Shape := ⟨2, ![4096, 1]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x4096 : Shape := ⟨3, ![4, 128, 4096]⟩
abbrev S1x512 : Shape := ⟨2, ![1, 512]⟩
abbrev S4x4096x128 : Shape := ⟨3, ![4, 4096, 128]⟩

abbrev nBuf : Space → Nat
  | .hbm => 117
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x128x128, .f32⟩
  | .hbm, ⟨3, _⟩ => ⟨S512, .f32⟩
  | .hbm, ⟨4, _⟩ => ⟨S4096x4x128, .f32⟩
  | .hbm, ⟨5, _⟩ => ⟨S4096, .i32⟩
  | .hbm, ⟨6, _⟩ => ⟨S4096x1x128, .f32⟩
  | .hbm, ⟨7, _⟩ => ⟨S4096x128, .f32⟩
  | .hbm, ⟨8, _⟩ => ⟨S_, .f32⟩
  | .hbm, ⟨9, _⟩ => ⟨S_, .f32⟩
  | .hbm, ⟨10, _⟩ => ⟨S4096x128, .f32⟩
  | .hbm, ⟨11, _⟩ => ⟨S_, .f32⟩
  | .hbm, ⟨12, _⟩ => ⟨S2x128, .f32⟩
  | .hbm, ⟨13, _⟩ => ⟨S4094x128, .f32⟩
  | .hbm, ⟨14, _⟩ => ⟨S4096x128, .f32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x1x128, .f32⟩
  | .hbm, ⟨28, _⟩ => ⟨S4096x128, .f32⟩
  | .hbm, ⟨29, _⟩ => ⟨S_, .f32⟩
  | .hbm, ⟨30, _⟩ => ⟨S_, .f32⟩
  | .hbm, ⟨31, _⟩ => ⟨S4096x128, .f32⟩
  | .hbm, ⟨32, _⟩ => ⟨S_, .f32⟩
  | .hbm, ⟨33, _⟩ => ⟨S4x128, .f32⟩
  | .hbm, ⟨34, _⟩ => ⟨S4092x128, .f32⟩
  | .hbm, ⟨35, _⟩ => ⟨S4096x128, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .f32⟩
  | .hbm, ⟨43, _⟩ => ⟨S4096x1, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x1x128, .f32⟩
  | .hbm, ⟨49, _⟩ => ⟨S4096x128, .f32⟩
  | .hbm, ⟨50, _⟩ => ⟨S_, .f32⟩
  | .hbm, ⟨51, _⟩ => ⟨S_, .f32⟩
  | .hbm, ⟨52, _⟩ => ⟨S4096x128, .f32⟩
  | .hbm, ⟨53, _⟩ => ⟨S_, .f32⟩
  | .hbm, ⟨54, _⟩ => ⟨S8x128, .f32⟩
  | .hbm, ⟨55, _⟩ => ⟨S4088x128, .f32⟩
  | .hbm, ⟨56, _⟩ => ⟨S4096x128, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S4096x1, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S4096x1x128, .f32⟩
  | .hbm, ⟨70, _⟩ => ⟨S4096x128, .f32⟩
  | .hbm, ⟨71, _⟩ => ⟨S_, .f32⟩
  | .hbm, ⟨72, _⟩ => ⟨S_, .f32⟩
  | .hbm, ⟨73, _⟩ => ⟨S4096x128, .f32⟩
  | .hbm, ⟨74, _⟩ => ⟨S_, .f32⟩
  | .hbm, ⟨75, _⟩ => ⟨S16x128, .f32⟩
  | .hbm, ⟨76, _⟩ => ⟨S4080x128, .f32⟩
  | .hbm, ⟨77, _⟩ => ⟨S4096x128, .f32⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .f32⟩
  | .hbm, ⟨85, _⟩ => ⟨S4096x1, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S4096x1x128, .f32⟩
  | .hbm, ⟨91, _⟩ => ⟨S4096x1x128, .f32⟩
  | .hbm, ⟨92, _⟩ => ⟨S4096x1x128, .f32⟩
  | .hbm, ⟨93, _⟩ => ⟨S4096x1x128, .f32⟩
  | .hbm, ⟨94, _⟩ => ⟨S4096x4x128, .f32⟩
  | .hbm, ⟨95, _⟩ => ⟨S4x128x4096, .f32⟩
  | .hbm, ⟨96, _⟩ => ⟨S4096x4x128, .f32⟩
  | .hbm, ⟨97, _⟩ => ⟨S4096x512, .f32⟩
  | .hbm, ⟨98, _⟩ => ⟨S1x512, .f32⟩
  | .hbm, ⟨99, _⟩ => ⟨S4096x512, .f32⟩
  | .hbm, ⟨100, _⟩ => ⟨S4096x512, .f32⟩
  | .hbm, ⟨101, _⟩ => ⟨S4096x512, .f32⟩
  | .hbm, ⟨102, _⟩ => ⟨S_, .f32⟩
  | .hbm, ⟨103, _⟩ => ⟨S512, .f32⟩
  | .hbm, ⟨104, _⟩ => ⟨S1x512, .f32⟩
  | .hbm, ⟨105, _⟩ => ⟨S4096x512, .f32⟩
  | .hbm, ⟨106, _⟩ => ⟨S4096x512, .f32⟩
  | .hbm, ⟨107, _⟩ => ⟨S_, .f32⟩
  | .hbm, ⟨108, _⟩ => ⟨S512, .f32⟩
  | .hbm, ⟨109, _⟩ => ⟨S4096x4x128, .f32⟩
  | .hbm, ⟨110, _⟩ => ⟨S4x128x4096, .f32⟩
  | .hbm, ⟨111, _⟩ => ⟨S4x4096x128, .f32⟩
  | .hbm, ⟨112, _⟩ => ⟨S4096x4x128, .f32⟩
  | .hbm, ⟨113, _⟩ => ⟨S4x128x128, .f32⟩
  | .hbm, ⟨114, _⟩ => ⟨S4x128x128, .f32⟩
  | .hbm, ⟨115, _⟩ => ⟨S4096x512, .f32⟩
  | .hbm, ⟨116, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_call0_cst : Ref sig .tc := ⟨.hbm, 29, rfl⟩
abbrev main_call1_call0_v0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call2_call0_cst : Ref sig .tc := ⟨.hbm, 50, rfl⟩
abbrev main_call2_call0_v0 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call3_call0_cst : Ref sig .tc := ⟨.hbm, 71, rfl⟩
abbrev main_call3_call0_v0 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== AttnBIdeal.lean ====
abbrev S4096x512 : Shape := ⟨2, ![4096, 512]⟩
abbrev S_ : Shape := ⟨0, ![]⟩
abbrev S1x4096x512 : Shape := ⟨3, ![1, 4096, 512]⟩
abbrev S3x4096x512 : Shape := ⟨3, ![3, 4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x256x256 : Shape := ⟨3, ![1, 256, 256]⟩
abbrev S1x4096x256 : Shape := ⟨3, ![1, 4096, 256]⟩
abbrev S256x256 : Shape := ⟨2, ![256, 256]⟩
abbrev S4096x256 : Shape := ⟨2, ![4096, 256]⟩
abbrev S4x4096x256 : Shape := ⟨3, ![4, 4096, 256]⟩
abbrev S4x256x256 : Shape := ⟨3, ![4, 256, 256]⟩
abbrev S2x4x256x256 : Shape := ⟨4, ![2, 4, 256, 256]⟩
abbrev S1x256 : Shape := ⟨2, ![1, 256]⟩
abbrev S256 : Shape := ⟨1, ![256]⟩
abbrev S256x1 : Shape := ⟨2, ![256, 1]⟩
abbrev S1x1x256x256 : Shape := ⟨4, ![1, 1, 256, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 89
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S1x4096x512, .bf16⟩
  | .hbm, ⟨15, _⟩ => ⟨S1x4096x512, .bf16⟩
  | .hbm, ⟨16, _⟩ => ⟨S1x4096x512, .bf16⟩
  | .hbm, ⟨17, _⟩ => ⟨S3x4096x512, .bf16⟩
  | .hbm, ⟨18, _⟩ => ⟨S4096x8x64, .f32⟩
  | .hbm, ⟨19, _⟩ => ⟨S8x4096x64, .f32⟩
  | .hbm, ⟨20, _⟩ => ⟨S4096x8x64, .f32⟩
  | .hbm, ⟨21, _⟩ => ⟨S8x4096x64, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S_, .f32⟩
  | .hbm, ⟨51, _⟩ => ⟨S8x4096x4096, .i1⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S_, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .i1⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S_, .f32⟩
  | .hbm, ⟨78, _⟩ => ⟨S8x4096x4096, .i1⟩
  | .hbm, ⟨79, _⟩ => ⟨S8x4096x4096, .f32⟩
  | .hbm, ⟨80, _⟩ => ⟨S8x4096x4096, .f32⟩
  | .hbm, ⟨81, _⟩ => ⟨S4096x8x64, .f32⟩
  | .hbm, ⟨82, _⟩ => ⟨S8x4096x64, .f32⟩
  | .hbm, ⟨83, _⟩ => ⟨S8x4096x64, .f32⟩
  | .hbm, ⟨84, _⟩ => ⟨S4096x8x64, .f32⟩
  | .hbm, ⟨85, _⟩ => ⟨S4096x512, .f32⟩
  | .hbm, ⟨86, _⟩ => ⟨S4096x512, .bf16⟩
  | .hbm, ⟨87, _⟩ => ⟨S4096x512, .bf16⟩
  | .hbm, ⟨88, _⟩ => ⟨S4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4x4096x256, .bf16⟩
  | .local _ .vmem, ⟨17, _⟩ => ⟨S4096x256, .f32⟩
  | .local _ .vmem, ⟨18, _⟩ => ⟨S4096x256, .f32⟩
  | .local _ .vmem, ⟨19, _⟩ => ⟨S4x256x256, .f32⟩
  | .local _ .vmem, ⟨20, _⟩ => ⟨S2x4x256x256, .f32⟩
  | .local _ .vmem, ⟨21, _⟩ => ⟨S2x4x256x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_call2_cst : Ref sig .tc := ⟨.hbm, 54, rfl⟩
abbrev main_call2_v0 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_call0_cst : Ref sig .tc := ⟨.hbm, 59, rfl⟩
abbrev main_call3_call0_v0 : Ref sig .tc := ⟨.hbm, 60, rfl⟩
abbrev main_call3_call0_v1 : Ref sig .tc := ⟨.hbm, 61, rfl⟩
abbrev main_call3_call0_v2 : Ref sig .tc := ⟨.hbm, 62, rfl⟩
abbrev main_call3_call0_v3 : Ref sig .tc := ⟨.hbm, 63, rfl⟩
abbrev main_call3_call0_v4 : Ref sig .tc := ⟨.hbm, 64, rfl⟩
abbrev main_call3_call0_v5 : Ref sig .tc := ⟨.hbm, 65, rfl⟩
abbrev main_call3_call0_v6 : Ref sig .tc := ⟨.hbm, 66, rfl⟩
abbrev main_call3_call0_v7 : Ref sig .tc := ⟨.hbm, 67, rfl⟩
abbrev main_call3_call0_v8 : Ref sig .tc := ⟨.hbm, 68, rfl⟩
abbrev main_call3_call0_v9 : Ref sig .tc := ⟨.hbm, 69, rfl⟩
abbrev main_call3_call0_v10 : Ref sig .tc := ⟨.hbm, 70, rfl⟩
abbrev main_call3_call0_v11 : Ref sig .tc := ⟨.hbm, 71, rfl⟩
abbrev main_call3_v1 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_3 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39_0 : Ref sig .tc := ⟨.hbm, 86, rfl⟩
abbrev main_v39_1 : Ref sig .tc := ⟨.hbm, 87, rfl⟩
abbrev main_v39_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "dead" => some ⊥
  | "inv_ln2" => some (((Real.log 2)⁻¹ : ℝ) : EReal)
  | "ln2" => some ((Real.log 2 : ℝ) : EReal)
  | _ => none

abbrev grid0 : Pipeline.Grid := ⟨2, ![2, 16], ![false, false]⟩

def k0_mult1 (i : grid0.Coords) : BitVec 32 :=
  let arg1 : BitVec 32 := BitVec.ofNat 32 (i 1).val
  let c256_i32_27 : BitVec 32 := 256#32
  let v101 : BitVec 32 := Scalar.muli arg1 c256_i32_27
  v101
def k0_off1 (i : grid0.Coords) : Fin 3 → Nat :=
  let c0_28 : Index := 0#32
  let arg1 : BitVec 32 := BitVec.ofNat 32 (i 1).val
  let c256_i32_27 : BitVec 32 := 256#32
  let v101 : BitVec 32 := Scalar.muli arg1 c256_i32_27
  let v102 : BitVec 32 := v101
  let v103 : Index := Scalar.indexCast v102
  let c0_29 : Index := 0#32
  ![0, v103.toNat, 0]
def k0_mult2 (i : grid0.Coords) : BitVec 32 :=
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_69 : BitVec 32 := 256#32
  let v141 : BitVec 32 := Scalar.muli v100 c256_i32_69
  v141
def k0_off2 (i : grid0.Coords) : Fin 3 → Nat :=
  let c0_70 : Index := 0#32
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_69 : BitVec 32 := 256#32
  let v141 : BitVec 32 := Scalar.muli v100 c256_i32_69
  let v142 : BitVec 32 := v141
  let v143 : Index := Scalar.indexCast v142
  let c0_71 : Index := 0#32
  ![0, v143.toNat, 0]
def k0_mult3 (i : grid0.Coords) : BitVec 32 :=
  let arg1 : BitVec 32 := BitVec.ofNat 32 (i 1).val
  let c256_i32_213 : BitVec 32 := 256#32
  let v420 : BitVec 32 := Scalar.muli arg1 c256_i32_213
  v420
def k0_off3 (i : grid0.Coords) : Fin 2 → Nat :=
  let arg1 : BitVec 32 := BitVec.ofNat 32 (i 1).val
  let c256_i32_213 : BitVec 32 := 256#32
  let v420 : BitVec 32 := Scalar.muli arg1 c256_i32_213
  let v421 : BitVec 32 := v420
  let v521 : Index := Scalar.indexCast v421
  let c0_250 : Index := 0#32
  ![v521.toNat, 0]
def k0_mult4 (i : grid0.Coords) : BitVec 32 :=
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_252 : BitVec 32 := 256#32
  let v528 : BitVec 32 := Scalar.muli v100 c256_i32_252
  v528
def k0_off4 (i : grid0.Coords) : Fin 2 → Nat :=
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_252 : BitVec 32 := 256#32
  let v528 : BitVec 32 := Scalar.muli v100 c256_i32_252
  let v529 : BitVec 32 := v528
  let v629 : Index := Scalar.indexCast v529
  let c0_289 : Index := 0#32
  ![v629.toNat, 0]
def k0_mult5 (i : grid0.Coords) : BitVec 32 :=
  let arg1 : BitVec 32 := BitVec.ofNat 32 (i 1).val
  let c256_i32_291 : BitVec 32 := 256#32
  let v636 : BitVec 32 := Scalar.muli arg1 c256_i32_291
  v636
def k0_off5 (i : grid0.Coords) : Fin 3 → Nat :=
  let c0_294 : Index := 0#32
  let arg1 : BitVec 32 := BitVec.ofNat 32 (i 1).val
  let c256_i32_291 : BitVec 32 := 256#32
  let v636 : BitVec 32 := Scalar.muli arg1 c256_i32_291
  let v637 : BitVec 32 := v636
  let v647 : Index := Scalar.indexCast v637
  let c0_295 : Index := 0#32
  ![0, v647.toNat, 0]
def k0_off6 (i : grid0.Coords) : Fin 3 → Nat :=
  let c1_303 : Index := 1#32
  let arg1 : BitVec 32 := BitVec.ofNat 32 (i 1).val
  let c256_i32_291 : BitVec 32 := 256#32
  let v636 : BitVec 32 := Scalar.muli arg1 c256_i32_291
  let v637 : BitVec 32 := v636
  let v664 : Index := Scalar.indexCast v637
  let c0_304 : Index := 0#32
  ![1, v664.toNat, 0]
def k0_off7 (i : grid0.Coords) : Fin 3 → Nat :=
  let c2_312 : Index := 2#32
  let arg1 : BitVec 32 := BitVec.ofNat 32 (i 1).val
  let c256_i32_291 : BitVec 32 := 256#32
  let v636 : BitVec 32 := Scalar.muli arg1 c256_i32_291
  let v637 : BitVec 32 := v636
  let v682 : Index := Scalar.indexCast v637
  let c0_313 : Index := 0#32
  ![2, v682.toNat, 0]
def k0_off8 (i : grid0.Coords) : Fin 3 → Nat :=
  let c3_321 : Index := 3#32
  let arg1 : BitVec 32 := BitVec.ofNat 32 (i 1).val
  let c256_i32_291 : BitVec 32 := 256#32
  let v636 : BitVec 32 := Scalar.muli arg1 c256_i32_291
  let v637 : BitVec 32 := v636
  let v700 : Index := Scalar.indexCast v637
  let c0_322 : Index := 0#32
  ![3, v700.toNat, 0]
def k0_mult6 (i : grid0.Coords) : BitVec 32 :=
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_330 : BitVec 32 := 256#32
  let v716 : BitVec 32 := Scalar.muli v100 c256_i32_330
  v716
def k0_off9 (i : grid0.Coords) : Fin 3 → Nat :=
  let c0_333 : Index := 0#32
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_330 : BitVec 32 := 256#32
  let v716 : BitVec 32 := Scalar.muli v100 c256_i32_330
  let v717 : BitVec 32 := v716
  let v727 : Index := Scalar.indexCast v717
  let c0_334 : Index := 0#32
  ![0, v727.toNat, 0]
def k0_off10 (i : grid0.Coords) : Fin 3 → Nat :=
  let c1_345 : Index := 1#32
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_330 : BitVec 32 := 256#32
  let v716 : BitVec 32 := Scalar.muli v100 c256_i32_330
  let v717 : BitVec 32 := v716
  let v747 : Index := Scalar.indexCast v717
  let c0_346 : Index := 0#32
  ![1, v747.toNat, 0]
def k0_off11 (i : grid0.Coords) : Fin 3 → Nat :=
  let c2_357 : Index := 2#32
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_330 : BitVec 32 := 256#32
  let v716 : BitVec 32 := Scalar.muli v100 c256_i32_330
  let v717 : BitVec 32 := v716
  let v768 : Index := Scalar.indexCast v717
  let c0_358 : Index := 0#32
  ![2, v768.toNat, 0]
def k0_off12 (i : grid0.Coords) : Fin 3 → Nat :=
  let c3_369 : Index := 3#32
  let arg1 : BitVec 32 := BitVec.ofNat 32 (i 1).val
  let c1_i32 : BitVec 32 := 1#32
  let v99 : BitVec 32 := Scalar.subi arg1 c1_i32
  let c0_i32_26 : BitVec 32 := 0#32
  let v100 : BitVec 32 := Scalar.maxsi v99 c0_i32_26
  let c256_i32_330 : BitVec 32 := 256#32
  let v716 : BitVec 32 := Scalar.muli v100 c256_i32_330
  let v717 : BitVec 32 := v716
  let v789 : Index := Scalar.indexCast v717
  let c0_370 : Index := 0#32
  ![3, v789.toNat, 0]
def k0_mult7 (i : grid0.Coords) : BitVec 32 :=
  let arg1 : BitVec 32 := BitVec.ofNat 32 (i 1).val
  let c2_i32 : BitVec 32 := 2#32
  let v183 : BitVec 32 := Scalar.subi arg1 c2_i32
  let c0_i32_116 : BitVec 32 := 0#32
  let v184 : BitVec 32 := Scalar.maxsi v183 c0_i32_116
  let c256_i32_399 : BitVec 32 := 256#32
  let v829 : BitVec 32 := Scalar.muli v184 c256_i32_399
  v829
def k0_off13 (i : grid0.Coords) : Fin 3 → Nat :=
  let c0_400 : Index := 0#32
  let arg1 : BitVec 32 := BitVec.ofNat 32 (i 1).val
  let c2_i32 : BitVec 32 := 2#32
  let v183 : BitVec 32 := Scalar.subi arg1 c2_i32
  let c0_i32_116 : BitVec 32 := 0#32
  let v184 : BitVec 32 := Scalar.maxsi v183 c0_i32_116
  let c256_i32_399 : BitVec 32 := 256#32
  let v829 : BitVec 32 := Scalar.muli v184 c256_i32_399
  let v830 : BitVec 32 := v829
  let v831 : Index := Scalar.indexCast v830
  let c0_401 : Index := 0#32
  ![0, v831.toNat, 0]
def k0_off14 (arg16 : BitVec 32) : Fin 4 → Nat :=
  let c2_i32_401 : BitVec 32 := 2#32
  let c0_i32_402 : BitVec 32 := 0#32
  let v832 : BitVec 1 := Scalar.cmpi .eq c2_i32_401 c0_i32_402
  let c1_i32_403 : BitVec 32 := 1#32
  let v833 : BitVec 32 := Scalar.select v832 c1_i32_403 c2_i32_401
  let v834 : BitVec 32 := Scalar.remsi arg16 v833
  let c0_i32_405 : BitVec 32 := 0#32
  let v836 : BitVec 1 := Scalar.cmpi .slt v834 c0_i32_405
  let c0_i32_406 : BitVec 32 := 0#32
  let v837 : BitVec 1 := Scalar.cmpi .slt v833 c0_i32_406
  let v838 : BitVec 1 := Scalar.xori v836 v837
  let c0_i32_404 : BitVec 32 := 0#32
  let v835 : BitVec 1 := Scalar.cmpi .ne v834 c0_i32_404
  let v839 : BitVec 1 := Scalar.andi v838 v835
  let v840 : BitVec 32 := Scalar.addi v834 v833
  let v841 : BitVec 32 := Scalar.select v839 v840 v834
  let v855 : Index := Scalar.indexCast v841
  let c0_416 : Index := 0#32
  let c0_417 : Index := 0#32
  let c0_418 : Index := 0#32
  ![v855.toNat, 0, 0, 0]

def k0_off15 (arg16 : BitVec 32) : Fin 4 → Nat :=
  let c2_i32_401 : BitVec 32 := 2#32
  let c0_i32_402 : BitVec 32 := 0#32
  let v832 : BitVec 1 := Scalar.cmpi .eq c2_i32_401 c0_i32_402
  let c1_i32_403 : BitVec 32 := 1#32
  let v833 : BitVec 32 := Scalar.select v832 c1_i32_403 c2_i32_401
  let v834 : BitVec 32 := Scalar.remsi arg16 v833
  let c0_i32_405 : BitVec 32 := 0#32
  let v836 : BitVec 1 := Scalar.cmpi .slt v834 c0_i32_405
  let c0_i32_406 : BitVec 32 := 0#32
  let v837 : BitVec 1 := Scalar.cmpi .slt v833 c0_i32_406
  let v838 : BitVec 1 := Scalar.xori v836 v837
  let c0_i32_404 : BitVec 32 := 0#32
  let v835 : BitVec 1 := Scalar.cmpi .ne v834 c0_i32_404
  let v839 : BitVec 1 := Scalar.andi v838 v835
  let v840 : BitVec 32 := Scalar.addi v834 v833
  let v841 : BitVec 32 := Scalar.select v839 v840 v834
  let v883 : Index := Scalar.indexCast v841
  let c1_426 : Index := 1#32
  let c0_427 : Index := 0#32
  let c0_428 : Index := 0#32
  ![v883.toNat, 1, 0, 0]
def k0_off16 (arg16 : BitVec 32) : Fin 4 → Nat :=
  let c2_i32_401 : BitVec 32 := 2#32
  let c0_i32_402 : BitVec 32 := 0#32
  let v832 : BitVec 1 := Scalar.cmpi .eq c2_i32_401 c0_i32_402
  let c1_i32_403 : BitVec 32 := 1#32
  let v833 : BitVec 32 := Scalar.select v832 c1_i32_403 c2_i32_401
  let v834 : BitVec 32 := Scalar.remsi arg16 v833
  let c0_i32_405 : BitVec 32 := 0#32
  let v836 : BitVec 1 := Scalar.cmpi .slt v834 c0_i32_405
  let c0_i32_406 : BitVec 32 := 0#32
  let v837 : BitVec 1 := Scalar.cmpi .slt v833 c0_i32_406
  let v838 : BitVec 1 := Scalar.xori v836 v837
  let c0_i32_404 : BitVec 32 := 0#32
  let v835 : BitVec 1 := Scalar.cmpi .ne v834 c0_i32_404
  let v839 : BitVec 1 := Scalar.andi v838 v835
  let v840 : BitVec 32 := Scalar.addi v834 v833
  let v841 : BitVec 32 := Scalar.select v839 v840 v834
  let v911 : Index := Scalar.indexCast v841
  let c2_436 : Index := 2#32
  let c0_437 : Index := 0#32
  let c0_438 : Index := 0#32
  ![v911.toNat, 2, 0, 0]
def k0_off17 (arg16 : BitVec 32) : Fin 4 → Nat :=
  let c2_i32_401 : BitVec 32 := 2#32
  let c0_i32_402 : BitVec 32 := 0#32
  let v832 : BitVec 1 := Scalar.cmpi .eq c2_i32_401 c0_i32_402
  let c1_i32_403 : BitVec 32 := 1#32
  let v833 : BitVec 32 := Scalar.select v832 c1_i32_403 c2_i32_401
  let v834 : BitVec 32 := Scalar.remsi arg16 v833
  let c0_i32_405 : BitVec 32 := 0#32
  let v836 : BitVec 1 := Scalar.cmpi .slt v834 c0_i32_405
  let c0_i32_406 : BitVec 32 := 0#32
  let v837 : BitVec 1 := Scalar.cmpi .slt v833 c0_i32_406
  let v838 : BitVec 1 := Scalar.xori v836 v837
  let c0_i32_404 : BitVec 32 := 0#32
  let v835 : BitVec 1 := Scalar.cmpi .ne v834 c0_i32_404
  let v839 : BitVec 1 := Scalar.andi v838 v835
  let v840 : BitVec 32 := Scalar.addi v834 v833
  let v841 : BitVec 32 := Scalar.select v839 v840 v834
  let v939 : Index := Scalar.indexCast v841
  let c3_446 : Index := 3#32
  let c0_447 : Index := 0#32
  let c0_448 : Index := 0#32
  ![v939.toNat, 3, 0, 0]
def k0_mult8 (i : grid0.Coords) (arg16 : BitVec 32) : BitVec 32 :=
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_459 : BitVec 32 := 256#32
  let v977 : BitVec 32 := Scalar.muli v830 c256_i32_459
  v977
def k0_off18 (i : grid0.Coords) (arg16 : BitVec 32) : Fin 2 → Nat :=
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_459 : BitVec 32 := 256#32
  let v977 : BitVec 32 := Scalar.muli v830 c256_i32_459
  let v978 : BitVec 32 := v977
  let v1074 : Index := Scalar.indexCast v978
  let c0_488 : Index := 0#32
  ![v1074.toNat, 0]
def k0_mult9 (i : grid0.Coords) (arg16 : BitVec 32) : BitVec 32 :=
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_490 : BitVec 32 := 256#32
  let v1081 : BitVec 32 := Scalar.muli v830 c256_i32_490
  v1081
def k0_off19 (i : grid0.Coords) (arg16 : BitVec 32) : Fin 3 → Nat :=
  let c0_492 : Index := 0#32
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_490 : BitVec 32 := 256#32
  let v1081 : BitVec 32 := Scalar.muli v830 c256_i32_490
  let v1082 : BitVec 32 := v1081
  let v1090 : Index := Scalar.indexCast v1082
  let c0_493 : Index := 0#32
  ![0, v1090.toNat, 0]
def k0_off20 (i : grid0.Coords) (arg16 : BitVec 32) : Fin 3 → Nat :=
  let c1_503 : Index := 1#32
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_490 : BitVec 32 := 256#32
  let v1081 : BitVec 32 := Scalar.muli v830 c256_i32_490
  let v1082 : BitVec 32 := v1081
  let v1108 : Index := Scalar.indexCast v1082
  let c0_504 : Index := 0#32
  ![1, v1108.toNat, 0]
def k0_off21 (i : grid0.Coords) (arg16 : BitVec 32) : Fin 3 → Nat :=
  let c2_514 : Index := 2#32
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_490 : BitVec 32 := 256#32
  let v1081 : BitVec 32 := Scalar.muli v830 c256_i32_490
  let v1082 : BitVec 32 := v1081
  let v1127 : Index := Scalar.indexCast v1082
  let c0_515 : Index := 0#32
  ![2, v1127.toNat, 0]
def k0_off22 (i : grid0.Coords) (arg16 : BitVec 32) : Fin 3 → Nat :=
  let c3_525 : Index := 3#32
  let arg1 : BitVec 32 := BitVec.ofNat 32 (i 1).val
  let c2_i32_399 : BitVec 32 := 2#32
  let v829 : BitVec 32 := Scalar.subi arg1 c2_i32_399
  let v830 : BitVec 32 := Scalar.subi v829 arg16
  let c256_i32_490 : BitVec 32 := 256#32
  let v1081 : BitVec 32 := Scalar.muli v830 c256_i32_490
  let v1082 : BitVec 32 := v1081
  let v1146 : Index := Scalar.indexCast v1082
  let c0_526 : Index := 0#32
  ![3, v1146.toNat, 0]

def k0_chk1 (i : grid0.Coords) (arg16 : BitVec 32) : Prop :=
  (∀ a, (k0_off14 arg16) a + S1x1x256x256.size a ≤ S2x4x256x256.size a) ∧
  (∀ a, (k0_off15 arg16) a + S1x1x256x256.size a ≤ S2x4x256x256.size a) ∧
  (∀ a, (k0_off16 arg16) a + S1x1x256x256.size a ≤ S2x4x256x256.size a) ∧
  (∀ a, (k0_off17 arg16) a + S1x1x256x256.size a ≤ S2x4x256x256.size a) ∧
  (256 ∣ (k0_mult8 i arg16).toNat) ∧
  (∀ a, (k0_off18 i arg16) a + S256x256.size a ≤ S4096x256.size a) ∧
  (256 ∣ (k0_mult9 i arg16).toNat) ∧
  (∀ a, (k0_off19 i arg16) a + S1x256x256.size a ≤ S4x4096x256.size a) ∧
  (∀ a, (k0_off20 i arg16) a + S1x256x256.size a ≤ S4x4096x256.size a) ∧
  (∀ a, (k0_off21 i arg16) a + S1x256x256.size a ≤ S4x4096x256.size a) ∧
  (∀ a, (k0_off22 i arg16) a + S1x256x256.size a ≤ S4x4096x256.size a)
theorem k0_off14_inb : ∀ (i : grid0.Coords) (arg16 : BitVec 32) (k0_hw1 : k0_chk1 i arg16), ∀ a, (k0_off14 arg16) a + S1x1x256x256.size a ≤ S2x4x256x256.size a := fun i arg16 k0_hw1 => k0_hw1.1
theorem k0_off15_inb : ∀ (i : grid0.Coords) (arg16 : BitVec 32) (k0_hw1 : k0_chk1 i arg16), ∀ a, (k0_off15 arg16) a + S1x1x256x256.size a ≤ S2x4x256x256.size a := fun i arg16 k0_hw1 => k0_hw1.2.1
theorem k0_off16_inb : ∀ (i : grid0.Coords) (arg16 : BitVec 32) (k0_hw1 : k0_chk1 i arg16), ∀ a, (k0_off16 arg16) a + S1x1x256x256.size a ≤ S2x4x256x256.size a := fun i arg16 k0_hw1 => k0_hw1.2.2.1
theorem k0_off17_inb : ∀ (i : grid0.Coords) (arg16 : BitVec 32) (k0_hw1 : k0_chk1 i arg16), ∀ a, (k0_off17 arg16) a + S1x1x256x256.size a ≤ S2x4x256x256.size a := fun i arg16 k0_hw1 => k0_hw1.2.2.2.1
theorem k0_mult8_dvd : ∀ (i : grid0.Coords) (arg16 : BitVec 32) (k0_hw1 : k0_chk1 i arg16), 256 ∣ (k0_mult8 i arg16).toNat := fun i arg16 k0_hw1 => k0_hw1.2.2.2.2.1
theorem k0_off18_inb : ∀ (i : grid0.Coords) (arg16 : BitVec 32) (k0_hw1 : k0_chk1 i arg16), ∀ a, (k0_off18 i arg16) a + S256x256.size a ≤ S4096x256.size a := fun i arg16 k0_hw1 => k0_hw1.2.2.2.2.2.1
theorem k0_mult9_dvd : ∀ (i : grid0.Coords) (arg16 : BitVec 32) (k0_hw1 : k0_chk1 i arg16), 256 ∣ (k0_mult9 i arg16).toNat := fun i arg16 k0_hw1 => k0_hw1.2.2.2.2.2.2.1
theorem k0_off19_inb : ∀ (i : grid0.Coords) (arg16 : BitVec 32) (k0_hw1 : k0_chk1 i arg16), ∀ a, (k0_off19 i arg16) a + S1x256x256.size a ≤ S4x4096x256.size a := fun i arg16 k0_hw1 => k0_hw1.2.2.2.2.2.2.2.1
theorem k0_off20_inb : ∀ (i : grid0.Coords) (arg16 : BitVec 32) (k0_hw1 : k0_chk1 i arg16), ∀ a, (k0_off20 i arg16) a + S1x256x256.size a ≤ S4x4096x256.size a := fun i arg16 k0_hw1 => k0_hw1.2.2.2.2.2.2.2.2.1
theorem k0_off21_inb : ∀ (i : grid0.Coords) (arg16 : BitVec 32) (k0_hw1 : k0_chk1 i arg16), ∀ a, (k0_off21 i arg16) a + S1x256x256.size a ≤ S4x4096x256.size a := fun i arg16 k0_hw1 => k0_hw1.2.2.2.2.2.2.2.2.2.1
theorem k0_off22_inb : ∀ (i : grid0.Coords) (arg16 : BitVec 32) (k0_hw1 : k0_chk1 i arg16), ∀ a, (k0_off22 i arg16) a + S1x256x256.size a ≤ S4x4096x256.size a := fun i arg16 k0_hw1 => k0_hw1.2.2.2.2.2.2.2.2.2.2

def k0_mult10 (i : grid0.Coords) (arg16 : BitVec 32) : BitVec 32 :=
  let arg1 : BitVec 32 := BitVec.ofNat 32 (i 1).val
  let c2_i32_399 : BitVec 32 := 2#32
  let v829 : BitVec 32 := Scalar.subi arg1 c2_i32_399
  let v830 : BitVec 32 := Scalar.subi v829 arg16
  let c1_i32_407 : BitVec 32 := 1#32
  let v842 : BitVec 32 := Scalar.subi v830 c1_i32_407
  let c0_i32_408 : BitVec 32 := 0#32
  let v843 : BitVec 32 := Scalar.maxsi v842 c0_i32_408
  let c256_i32_538 : BitVec 32 := 256#32
  let v1167 : BitVec 32 := Scalar.muli v843 c256_i32_538
  v1167
def k0_cond3 (i : grid0.Coords) (arg16 : BitVec 32) (v975 : BitVec 1) : BitVec 1 :=
  let arg1 : BitVec 32 := BitVec.ofNat 32 (i 1).val
  let c2_i32_399 : BitVec 32 := 2#32
  let v829 : BitVec 32 := Scalar.subi arg1 c2_i32_399
  let v830 : BitVec 32 := Scalar.subi v829 arg16
  let c0_i32_456 : BitVec 32 := 0#32
  let v970 : BitVec 1 := Scalar.cmpi .sgt v830 c0_i32_456
  let v976 : BitVec 1 := Scalar.andi v970 v975
  let v1165 : BitVec 32 := Scalar.extui v976
  let c0_i32_537 : BitVec 32 := 0#32
  let v1166 : BitVec 1 := Scalar.cmpi .ne v1165 c0_i32_537
  v1166

def k0_off23 (i : grid0.Coords) (arg16 : BitVec 32) : Fin 3 → Nat :=
  let c0_539 : Index := 0#32
  let arg1 : BitVec 32 := BitVec.ofNat 32 (i 1).val
  let c2_i32_399 : BitVec 32 := 2#32
  let v829 : BitVec 32 := Scalar.subi arg1 c2_i32_399
  let v830 : BitVec 32 := Scalar.subi v829 arg16
  let c1_i32_407 : BitVec 32 := 1#32
  let v842 : BitVec 32 := Scalar.subi v830 c1_i32_407
  let c0_i32_408 : BitVec 32 := 0#32
  let v843 : BitVec 32 := Scalar.maxsi v842 c0_i32_408
  let c256_i32_538 : BitVec 32 := 256#32
  let v1167 : BitVec 32 := Scalar.muli v843 c256_i32_538
  let v1168 : BitVec 32 := v1167
  let v1169 : Index := Scalar.indexCast v1168
  let c0_540 : Index := 0#32
  ![0, v1169.toNat, 0]
def k0_off24 (arg16 : BitVec 32) : Fin 4 → Nat :=
  let c1_i32_415 : BitVec 32 := 1#32
  let c2_i32_409 : BitVec 32 := 2#32
  let c0_i32_410 : BitVec 32 := 0#32
  let v844 : BitVec 1 := Scalar.cmpi .eq c2_i32_409 c0_i32_410
  let c1_i32_411 : BitVec 32 := 1#32
  let v845 : BitVec 32 := Scalar.select v844 c1_i32_411 c2_i32_409
  let v846 : BitVec 32 := Scalar.remsi arg16 v845
  let c0_i32_413 : BitVec 32 := 0#32
  let v848 : BitVec 1 := Scalar.cmpi .slt v846 c0_i32_413
  let c0_i32_414 : BitVec 32 := 0#32
  let v849 : BitVec 1 := Scalar.cmpi .slt v845 c0_i32_414
  let v850 : BitVec 1 := Scalar.xori v848 v849
  let c0_i32_412 : BitVec 32 := 0#32
  let v847 : BitVec 1 := Scalar.cmpi .ne v846 c0_i32_412
  let v851 : BitVec 1 := Scalar.andi v850 v847
  let v852 : BitVec 32 := Scalar.addi v846 v845
  let v853 : BitVec 32 := Scalar.select v851 v852 v846
  let v854 : BitVec 32 := Scalar.subi c1_i32_415 v853
  let v1176 : Index := Scalar.indexCast v854
  let c0_544 : Index := 0#32
  let c0_545 : Index := 0#32
  let c0_546 : Index := 0#32
  ![v1176.toNat, 0, 0, 0]
def k0_off25 (arg16 : BitVec 32) : Fin 4 → Nat :=
  let c1_i32_415 : BitVec 32 := 1#32
  let c2_i32_409 : BitVec 32 := 2#32
  let c0_i32_410 : BitVec 32 := 0#32
  let v844 : BitVec 1 := Scalar.cmpi .eq c2_i32_409 c0_i32_410
  let c1_i32_411 : BitVec 32 := 1#32
  let v845 : BitVec 32 := Scalar.select v844 c1_i32_411 c2_i32_409
  let v846 : BitVec 32 := Scalar.remsi arg16 v845
  let c0_i32_413 : BitVec 32 := 0#32
  let v848 : BitVec 1 := Scalar.cmpi .slt v846 c0_i32_413
  let c0_i32_414 : BitVec 32 := 0#32
  let v849 : BitVec 1 := Scalar.cmpi .slt v845 c0_i32_414
  let v850 : BitVec 1 := Scalar.xori v848 v849
  let c0_i32_412 : BitVec 32 := 0#32
  let v847 : BitVec 1 := Scalar.cmpi .ne v846 c0_i32_412
  let v851 : BitVec 1 := Scalar.andi v850 v847
  let v852 : BitVec 32 := Scalar.addi v846 v845
  let v853 : BitVec 32 := Scalar.select v851 v852 v846
  let v854 : BitVec 32 := Scalar.subi c1_i32_415 v853
  let v1186 : Index := Scalar.indexCast v854
  let c1_552 : Index := 1#32
  let c0_553 : Index := 0#32
  let c0_554 : Index := 0#32
  ![v1186.toNat, 1, 0, 0]
def k0_off26 (arg16 : BitVec 32) : Fin 4 → Nat :=
  let c1_i32_415 : BitVec 32 := 1#32
  let c2_i32_409 : BitVec 32 := 2#32
  let c0_i32_410 : BitVec 32 := 0#32
  let v844 : BitVec 1 := Scalar.cmpi .eq c2_i32_409 c0_i32_410
  let c1_i32_411 : BitVec 32 := 1#32
  let v845 : BitVec 32 := Scalar.select v844 c1_i32_411 c2_i32_409
  let v846 : BitVec 32 := Scalar.remsi arg16 v845
  let c0_i32_413 : BitVec 32 := 0#32
  let v848 : BitVec 1 := Scalar.cmpi .slt v846 c0_i32_413
  let c0_i32_414 : BitVec 32 := 0#32
  let v849 : BitVec 1 := Scalar.cmpi .slt v845 c0_i32_414
  let v850 : BitVec 1 := Scalar.xori v848 v849
  let c0_i32_412 : BitVec 32 := 0#32
  let v847 : BitVec 1 := Scalar.cmpi .ne v846 c0_i32_412
  let v851 : BitVec 1 := Scalar.andi v850 v847
  let v852 : BitVec 32 := Scalar.addi v846 v845
  let v853 : BitVec 32 := Scalar.select v851 v852 v846
  let v854 : BitVec 32 := Scalar.subi c1_i32_415 v853
  let v1196 : Index := Scalar.indexCast v854
  let c2_560 : Index := 2#32
  let c0_561 : Index := 0#32
  let c0_562 : Index := 0#32
  ![v1196.toNat, 2, 0, 0]
def k0_off27 (arg16 : BitVec 32) : Fin 4 → Nat :=
  let c1_i32_415 : BitVec 32 := 1#32
  let c2_i32_409 : BitVec 32 := 2#32
  let c0_i32_410 : BitVec 32 := 0#32
  let v844 : BitVec 1 := Scalar.cmpi .eq c2_i32_409 c0_i32_410
  let c1_i32_411 : BitVec 32 := 1#32
  let v845 : BitVec 32 := Scalar.select v844 c1_i32_411 c2_i32_409
  let v846 : BitVec 32 := Scalar.remsi arg16 v845
  let c0_i32_413 : BitVec 32 := 0#32
  let v848 : BitVec 1 := Scalar.cmpi .slt v846 c0_i32_413
  let c0_i32_414 : BitVec 32 := 0#32
  let v849 : BitVec 1 := Scalar.cmpi .slt v845 c0_i32_414
  let v850 : BitVec 1 := Scalar.xori v848 v849
  let c0_i32_412 : BitVec 32 := 0#32
  let v847 : BitVec 1 := Scalar.cmpi .ne v846 c0_i32_412
  let v851 : BitVec 1 := Scalar.andi v850 v847
  let v852 : BitVec 32 := Scalar.addi v846 v845
  let v853 : BitVec 32 := Scalar.select v851 v852 v846
  let v854 : BitVec 32 := Scalar.subi c1_i32_415 v853
  let v1206 : Index := Scalar.indexCast v854
  let c3_568 : Index := 3#32
  let c0_569 : Index := 0#32
  let c0_570 : Index := 0#32
  ![v1206.toNat, 3, 0, 0]

def k0_chk2 (i : grid0.Coords) (arg16 : BitVec 32) (v975 : BitVec 1) : Prop :=
  (∀ (k0_h3 : k0_cond3 i arg16 v975 = 1#1), 256 ∣ (k0_mult10 i arg16).toNat) ∧
  (∀ (k0_h3 : k0_cond3 i arg16 v975 = 1#1), ∀ a, (k0_off23 i arg16) a + S1x256x256.size a ≤ S1x4096x256.size a) ∧
  (∀ (k0_h3 : k0_cond3 i arg16 v975 = 1#1), ∀ a, (k0_off24 arg16) a + S1x1x256x256.size a ≤ S2x4x256x256.size a) ∧
  (∀ (k0_h3 : k0_cond3 i arg16 v975 = 1#1), ∀ a, (k0_off25 arg16) a + S1x1x256x256.size a ≤ S2x4x256x256.size a) ∧
  (∀ (k0_h3 : k0_cond3 i arg16 v975 = 1#1), ∀ a, (k0_off26 arg16) a + S1x1x256x256.size a ≤ S2x4x256x256.size a) ∧
  (∀ (k0_h3 : k0_cond3 i arg16 v975 = 1#1), ∀ a, (k0_off27 arg16) a + S1x1x256x256.size a ≤ S2x4x256x256.size a)
theorem k0_mult10_dvd : ∀ (i : grid0.Coords) (arg16 : BitVec 32) (v975 : BitVec 1) (k0_hw2 : k0_chk2 i arg16 v975), ∀ (k0_h3 : k0_cond3 i arg16 v975 = 1#1), 256 ∣ (k0_mult10 i arg16).toNat := fun i arg16 v975 k0_hw2 k0_h3 => k0_hw2.1 k0_h3
theorem k0_off23_inb : ∀ (i : grid0.Coords) (arg16 : BitVec 32) (v975 : BitVec 1) (k0_hw2 : k0_chk2 i arg16 v975), ∀ (k0_h3 : k0_cond3 i arg16 v975 = 1#1), ∀ a, (k0_off23 i arg16) a + S1x256x256.size a ≤ S1x4096x256.size a := fun i arg16 v975 k0_hw2 k0_h3 => k0_hw2.2.1 k0_h3
theorem k0_off24_inb : ∀ (i : grid0.Coords) (arg16 : BitVec 32) (v975 : BitVec 1) (k0_hw2 : k0_chk2 i arg16 v975), ∀ (k0_h3 : k0_cond3 i arg16 v975 = 1#1), ∀ a, (k0_off24 arg16) a + S1x1x256x256.size a ≤ S2x4x256x256.size a := fun i arg16 v975 k0_hw2 k0_h3 => k0_hw2.2.2.1 k0_h3
theorem k0_off25_inb : ∀ (i : grid0.Coords) (arg16 : BitVec 32) (v975 : BitVec 1) (k0_hw2 : k0_chk2 i arg16 v975), ∀ (k0_h3 : k0_cond3 i arg16 v975 = 1#1), ∀ a, (k0_off25 arg16) a + S1x1x256x256.size a ≤ S2x4x256x256.size a := fun i arg16 v975 k0_hw2 k0_h3 => k0_hw2.2.2.2.1 k0_h3
theorem k0_off26_inb : ∀ (i : grid0.Coords) (arg16 : BitVec 32) (v975 : BitVec 1) (k0_hw2 : k0_chk2 i arg16 v975), ∀ (k0_h3 : k0_cond3 i arg16 v975 = 1#1), ∀ a, (k0_off26 arg16) a + S1x1x256x256.size a ≤ S2x4x256x256.size a := fun i arg16 v975 k0_hw2 k0_h3 => k0_hw2.2.2.2.2.1 k0_h3
theorem k0_off27_inb : ∀ (i : grid0.Coords) (arg16 : BitVec 32) (v975 : BitVec 1) (k0_hw2 : k0_chk2 i arg16 v975), ∀ (k0_h3 : k0_cond3 i arg16 v975 = 1#1), ∀ a, (k0_off27 arg16) a + S1x1x256x256.size a ≤ S2x4x256x256.size a := fun i arg16 v975 k0_hw2 k0_h3 => k0_hw2.2.2.2.2.2 k0_h3

def k0_cond4 (i : grid0.Coords) : BitVec 1 :=
  let arg1 : BitVec 32 := BitVec.ofNat 32 (i 1).val
  let c15_i32 : BitVec 32 := 15#32
  let v826 : BitVec 1 := Scalar.cmpi .eq arg1 c15_i32
  let v827 : BitVec 32 := Scalar.extui v826
  let c0_i32_398 : BitVec 32 := 0#32
  let v828 : BitVec 1 := Scalar.cmpi .ne v827 c0_i32_398
  v828

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnBRefIdeal.lean ====
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 179
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x8x64, .f32⟩
  | 5 => ⟨S8x4096x64, .f32⟩
  | 6 => ⟨S4096x8x64, .f32⟩
  | 7 => ⟨S8x4096x64, .f32⟩
  | 8 => ⟨S8x4096x4096, .f32⟩
  | 9 => ⟨S_, .f32⟩
  | 10 => ⟨S8x4096x4096, .f32⟩
  | 11 => ⟨S8x4096x4096, .f32⟩
  | 12 => ⟨S4096, .i32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S8x4096x4096, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .i1⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .i1⟩
  | 37 => ⟨S_, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x4096x4096, .f32⟩
  | 56 => ⟨S8x4096x4096, .i1⟩
  | 57 => ⟨S_, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S_, .f32⟩
  | 64 => ⟨S8x4096x4096, .f32⟩
  | 65 => ⟨S8x4096x4096, .f32⟩
  | 66 => ⟨S8x4096x4096, .f32⟩
  | 67 => ⟨S_, .f32⟩
  | 68 => ⟨S_, .f32⟩
  | 69 => ⟨S8x4096x4096, .i1⟩
  | 70 => ⟨S8x4096x4096, .f32⟩
  | 71 => ⟨S8x4096x4096, .f32⟩
  | 72 => ⟨S_, .f32⟩
  | 73 => ⟨S8x4096x4096, .f32⟩
  | 74 => ⟨S_, .f32⟩
  | 75 => ⟨S_, .f32⟩
  | 76 => ⟨S8x4096x4096, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .i1⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S_, .f32⟩
  | 94 => ⟨S8x4096x4096, .f32⟩
  | 95 => ⟨S8x4096x4096, .i1⟩
  | 96 => ⟨S_, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x4096x4096, .f32⟩
  | 115 => ⟨S8x4096x4096, .i1⟩
  | 116 => ⟨S_, .f32⟩
  | 117 => ⟨S8x4096x4096, .f32⟩
  | 118 => ⟨S8x4096x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x512, .f32⟩

abbrev hbmTy0_1 (i : Nat) : BufTy := match i % 128 with
  | 0 => ⟨S_, .f32⟩
  | 1 => ⟨S_, .f32⟩
  | 2 => ⟨S8x4096x4096, .i1⟩
  | 3 => ⟨S8x4096x4096, .f32⟩
  | 4 => ⟨S8x4096x4096, .f32⟩
  | 5 => ⟨S_, .f32⟩
  | 6 => ⟨S8x4096x4096, .f32⟩
  | 7 => ⟨S4096x8x64, .f32⟩
  | 8 => ⟨S8x4096x64, .f32⟩
  | 9 => ⟨S8x4096x64, .f32⟩
  | 10 => ⟨S4096x8x64, .f32⟩
  | 11 => ⟨S4096x512, .f32⟩
  | 12 => ⟨S4096x8x64, .f32⟩
  | 13 => ⟨S8x4096x64, .f32⟩
  | 14 => ⟨S8x64x4096, .f32⟩
  | 15 => ⟨S8x4096x64, .f32⟩
  | 16 => ⟨S8x4096x4096, .f32⟩
  | 17 => ⟨S4096x8x64, .f32⟩
  | 18 => ⟨S4096x512, .f32⟩
  | 19 => ⟨S_, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S_, .f32⟩
  | 28 => ⟨S_, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .f32⟩
  | 42 => ⟨S8x4096x64, .f32⟩
  | 43 => ⟨S8x4096x64, .f32⟩
  | 44 => ⟨S4096x8x64, .f32⟩
  | 45 => ⟨S4096x512, .f32⟩
  | 46 => ⟨S4096x8x64, .f32⟩
  | 47 => ⟨S4096x512, .f32⟩
  | 48 => ⟨S4096x512, .bf16⟩
  | 49 => ⟨S4096x512, .bf16⟩
  | 50 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_v17 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v18_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v18_2 : Ref sig .tc := ⟨.hbm, 124, rfl⟩
abbrev main_v18_0 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call5_cst : Ref sig .tc := ⟨.hbm, 147, rfl⟩
abbrev main_call5_v0 : Ref sig .tc := ⟨.hbm, 148, rfl⟩
abbrev main_v34 : Ref sig .tc := ⟨.hbm, 149, rfl⟩
abbrev main_v35 : Ref sig .tc := ⟨.hbm, 150, rfl⟩
abbrev main_call6_v0 : Ref sig .tc := ⟨.hbm, 151, rfl⟩
abbrev main_call6_v1 : Ref sig .tc := ⟨.hbm, 152, rfl⟩
abbrev main_v36 : Ref sig .tc := ⟨.hbm, 153, rfl⟩
abbrev main_v37 : Ref sig .tc := ⟨.hbm, 154, rfl⟩
abbrev main_call7_cst : Ref sig .tc := ⟨.hbm, 155, rfl⟩
abbrev main_call7_v0 : Ref sig .tc := ⟨.hbm, 156, rfl⟩
abbrev main_v38 : Ref sig .tc := ⟨.hbm, 157, rfl⟩
abbrev main_v39 : Ref sig .tc := ⟨.hbm, 158, rfl⟩
abbrev main_call8_cst : Ref sig .tc := ⟨.hbm, 159, rfl⟩
abbrev main_call8_v0 : Ref sig .tc := ⟨.hbm, 160, rfl⟩
abbrev main_v40 : Ref sig .tc := ⟨.hbm, 161, rfl⟩
abbrev main_call9_v0 : Ref sig .tc := ⟨.hbm, 162, rfl⟩
abbrev main_call9_v1 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_cst_2 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩

abbrev nD : Nat := 1
abbrev τ : Topo := Topo.v7x

variable {F : FTy → Type} [FloatOps F]
-- ==== InDx.lean ====
abbrev S4096x512 : Shape := ⟨2, ![4096, 512]⟩
abbrev S1024x2048 : Shape := ⟨2, ![1024, 2048]⟩
abbrev S4096x1024 : Shape := ⟨2, ![4096, 1024]⟩
abbrev S1024 : Shape := ⟨1, ![1024]⟩
abbrev S1024x4x512 : Shape := ⟨3, ![1024, 4, 512]⟩
abbrev S4x1024x512 : Shape := ⟨3, ![4, 1024, 512]⟩
abbrev S1x1024 : Shape := ⟨2, ![1, 1024]⟩
abbrev S512x512 : Shape := ⟨2, ![512, 512]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1024x2048, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S1024x2048, .bf16⟩
  | .hbm, ⟨9, _⟩ => ⟨S1024x4x512, .bf16⟩
  | .hbm, ⟨10, _⟩ => ⟨S4x1024x512, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x1024x512, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InDxRefIdeal.lean ====
abbrev S4096x512 : Shape := ⟨2, ![4096, 512]⟩
abbrev S1024x2048 : Shape := ⟨2, ![1024, 2048]⟩
abbrev S4096x1024 : Shape := ⟨2, ![4096, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1024x2048, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x2048, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 48
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S512, .f32⟩
  | .hbm, ⟨5, _⟩ => ⟨S512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x1024, .bf16⟩
  | .hbm, ⟨40, _⟩ => ⟨S1024x1024, .bf16⟩
  | .hbm, ⟨41, _⟩ => ⟨S1x512, .f32⟩
  | .hbm, ⟨42, _⟩ => ⟨S1x512, .f32⟩
  | .hbm, ⟨43, _⟩ => ⟨S4096x512, .f32⟩
  | .hbm, ⟨44, _⟩ => ⟨S4096x512, .f32⟩
  | .hbm, ⟨45, _⟩ => ⟨S1024x1024, .bf16⟩
  | .hbm, ⟨46, _⟩ => ⟨S1x512, .f32⟩
  | .hbm, ⟨47, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1024x1024, .bf16⟩
  | .local _ .vmem, ⟨16, _⟩ => ⟨S1x512, .f32⟩
  | .local _ .vmem, ⟨17, _⟩ => ⟨S1x512, .f32⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S4096x1024 : Shape := ⟨2, ![4096, 1024]⟩
abbrev S1024x1024 : Shape := ⟨2, ![1024, 1024]⟩
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S512, .f32⟩
  | .hbm, ⟨5, _⟩ => ⟨S512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S1024x1024, .f32⟩
  | .hbm, ⟨50, _⟩ => ⟨S4096x1024, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S512, .f32⟩
  | .hbm, ⟨61, _⟩ => ⟨S4096x512, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x512, .f32⟩
  | .hbm, ⟨66, _⟩ => ⟨S4096x512, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S4096x512, .f32⟩
  | .hbm, ⟨83, _⟩ => ⟨S4096x512, .f32⟩
  | .hbm, ⟨84, _⟩ => ⟨S_, .f32⟩
  | .hbm, ⟨85, _⟩ => ⟨S512, .f32⟩
  | .hbm, ⟨86, _⟩ => ⟨S4096x512, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x512, .f32⟩
  | .hbm, ⟨91, _⟩ => ⟨S4096x512, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x512, .f32⟩
  | .hbm, ⟨99, _⟩ => ⟨S4096x512, .f32⟩
  | .hbm, ⟨100, _⟩ => ⟨S4096x512, .f32⟩
  | .hbm, ⟨101, _⟩ => ⟨S4096x512, .f32⟩
  | .hbm, ⟨102, _⟩ => ⟨S4096x512, .f32⟩
  | .hbm, ⟨103, _⟩ => ⟨S1024x1024, .bf16⟩
  | .hbm, ⟨104, _⟩ => ⟨S1x512, .f32⟩
  | .hbm, ⟨105, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== MlpB.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4x1024x1024 : Shape := ⟨3, ![4, 1024, 1024]⟩
abbrev S1024x4x1024 : Shape := ⟨3, ![1024, 4, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 37
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4096, .bf16⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S4096x1024, .bf16⟩
  | .hbm, ⟨29, _⟩ => ⟨S4096x1024, .bf16⟩
  | .hbm, ⟨30, _⟩ => ⟨S4x1024x1024, .bf16⟩
  | .hbm, ⟨31, _⟩ => ⟨S1024x4x1024, .bf16⟩
  | .hbm, ⟨32, _⟩ => ⟨S4x1024x1024, .bf16⟩
  | .hbm, ⟨33, _⟩ => ⟨S1x1024, .f32⟩
  | .hbm, ⟨34, _⟩ => ⟨S4096x4096, .bf16⟩
  | .hbm, ⟨35, _⟩ => ⟨S4096x1024, .f32⟩
  | .hbm, ⟨36, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S4x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpBRefIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x4096, .bf16⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== MlpF.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 35
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x4096, .bf16⟩
  | .hbm, ⟨24, _⟩ => ⟨S1024x4x1024, .bf16⟩
  | .hbm, ⟨25, _⟩ => ⟨S4x1024x1024, .bf16⟩
  | .hbm, ⟨26, _⟩ => ⟨S4096x1024, .bf16⟩
  | .hbm, ⟨27, _⟩ => ⟨S4x1024x1024, .bf16⟩
  | .hbm, ⟨28, _⟩ => ⟨S1x1024, .f32⟩
  | .hbm, ⟨29, _⟩ => ⟨S4096x1024, .bf16⟩
  | .hbm, ⟨30, _⟩ => ⟨S4096x4096, .bf16⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x1024x1024, .bf16⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpFRefIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S1x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S_, .f32⟩
  | .hbm, ⟨116, _⟩ => ⟨S1024, .f32⟩
  | .hbm, ⟨117, _⟩ => ⟨S4096x4096, .bf16⟩
  | .hbm, ⟨118, _⟩ => ⟨S4096x1024, .bf16⟩
  | .hbm, ⟨119, _⟩ => ⟨S1x1024, .f32⟩
  | .hbm, ⟨120, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_22 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== AttnFIdeal.lean ====
abbrev S4096x512 : Shape := ⟨2, ![4096, 512]⟩
abbrev S_ : Shape := ⟨0, ![]⟩
abbrev S1x4096x512 : Shape := ⟨3, ![1, 4096, 512]⟩
abbrev S3x4096x512 : Shape := ⟨3, ![3, 4096, 512]⟩
abbrev S1x256x256 : Shape := ⟨3, ![1, 256, 256]⟩
abbrev S1x4096x256 : Shape := ⟨3, ![1, 4096, 256]⟩
abbrev S256x256 : Shape := ⟨2, ![256, 256]⟩
abbrev S4x4096x256 : Shape := ⟨3, ![4, 4096, 256]⟩
abbrev S4x256x256 : Shape := ⟨3, ![4, 256, 256]⟩
abbrev S2x4x256x256 : Shape := ⟨4, ![2, 4, 256, 256]⟩
abbrev S1x256 : Shape := ⟨2, ![1, 256]⟩
abbrev S4096x256 : Shape := ⟨2, ![4096, 256]⟩
abbrev S1x1x256x256 : Shape := ⟨4, ![1, 1, 256, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S1x4096x512, .bf16⟩
  | .hbm, ⟨14, _⟩ => ⟨S1x4096x512, .bf16⟩
  | .hbm, ⟨15, _⟩ => ⟨S1x4096x512, .bf16⟩
  | .hbm, ⟨16, _⟩ => ⟨S3x4096x512, .bf16⟩
  | .hbm, ⟨17, _⟩ => ⟨S4096x512, .f32⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S256x256, .f32⟩
  | .local _ .vmem, ⟨7, _⟩ => ⟨S256x256, .f32⟩
  | .local _ .vmem, ⟨8, _⟩ => ⟨S4x4096x256, .bf16⟩
  | .local _ .vmem, ⟨9, _⟩ => ⟨S4x256x256, .f32⟩
  | .local _ .vmem, ⟨10, _⟩ => ⟨S2x4x256x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F] [Named F]

def κ : String → Option EReal := fun
  | "dead" => some ⊥
  | "inv_ln2" => some (((Real.log 2)⁻¹ : ℝ) : EReal)
  | _ => none

abbrev grid0 : Pipeline.Grid := ⟨2, ![2, 16], ![false, false]⟩

def k0_mult1 (i : grid0.Coords) : BitVec 32 :=
  let arg1 : BitVec 32 := BitVec.ofNat 32 (i 1).val
  let c256_i32_11 : BitVec 32 := 256#32
  let v51 : BitVec 32 := Scalar.muli arg1 c256_i32_11
  v51
def k0_off1 (i : grid0.Coords) : Fin 3 → Nat :=
  let c0_12 : Index := 0#32
  let arg1 : BitVec 32 := BitVec.ofNat 32 (i 1).val
  let c256_i32_11 : BitVec 32 := 256#32
  let v51 : BitVec 32 := Scalar.muli arg1 c256_i32_11
  let v52 : BitVec 32 := v51
  let v53 : Index := Scalar.indexCast v52
  let c0_13 : Index := 0#32
  ![0, v53.toNat, 0]
def k0_mult2 (i : grid0.Coords) : BitVec 32 :=
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_31 : BitVec 32 := 256#32
  let v72 : BitVec 32 := Scalar.muli v50 c256_i32_31
  v72
def k0_off2 (i : grid0.Coords) : Fin 3 → Nat :=
  let c0_32 : Index := 0#32
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_31 : BitVec 32 := 256#32
  let v72 : BitVec 32 := Scalar.muli v50 c256_i32_31
  let v73 : BitVec 32 := v72
  let v74 : Index := Scalar.indexCast v73
  let c0_33 : Index := 0#32
  ![0, v74.toNat, 0]
def k0_mult3 (i : grid0.Coords) : BitVec 32 :=
  let arg1 : BitVec 32 := BitVec.ofNat 32 (i 1).val
  let c256_i32_153 : BitVec 32 := 256#32
  let v332 : BitVec 32 := Scalar.muli arg1 c256_i32_153
  v332
def k0_off3 (i : grid0.Coords) : Fin 3 → Nat :=
  let c0_155 : Index := 0#32
  let arg1 : BitVec 32 := BitVec.ofNat 32 (i 1).val
  let c256_i32_153 : BitVec 32 := 256#32
  let v332 : BitVec 32 := Scalar.muli arg1 c256_i32_153
  let v333 : BitVec 32 := v332
  let v339 : Index := Scalar.indexCast v333
  let c0_156 : Index := 0#32
  ![0, v339.toNat, 0]
def k0_off4 (i : grid0.Coords) : Fin 3 → Nat :=
  let c1_162 : Index := 1#32
  let arg1 : BitVec 32 := BitVec.ofNat 32 (i 1).val
  let c256_i32_153 : BitVec 32 := 256#32
  let v332 : BitVec 32 := Scalar.muli arg1 c256_i32_153
  let v333 : BitVec 32 := v332
  let v351 : Index := Scalar.indexCast v333
  let c0_163 : Index := 0#32
  ![1, v351.toNat, 0]
def k0_off5 (i : grid0.Coords) : Fin 3 → Nat :=
  let c2_169 : Index := 2#32
  let arg1 : BitVec 32 := BitVec.ofNat 32 (i 1).val
  let c256_i32_153 : BitVec 32 := 256#32
  let v332 : BitVec 32 := Scalar.muli arg1 c256_i32_153
  let v333 : BitVec 32 := v332
  let v363 : Index := Scalar.indexCast v333
  let c0_170 : Index := 0#32
  ![2, v363.toNat, 0]
def k0_off6 (i : grid0.Coords) : Fin 3 → Nat :=
  let c3_176 : Index := 3#32
  let arg1 : BitVec 32 := BitVec.ofNat 32 (i 1).val
  let c256_i32_153 : BitVec 32 := 256#32
  let v332 : BitVec 32 := Scalar.muli arg1 c256_i32_153
  let v333 : BitVec 32 := v332
  let v375 : Index := Scalar.indexCast v333
  let c0_177 : Index := 0#32
  ![3, v375.toNat, 0]
def k0_mult4 (i : grid0.Coords) : BitVec 32 :=
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_182 : BitVec 32 := 256#32
  let v382 : BitVec 32 := Scalar.muli v50 c256_i32_182
  v382
def k0_off7 (i : grid0.Coords) : Fin 3 → Nat :=
  let c0_184 : Index := 0#32
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_182 : BitVec 32 := 256#32
  let v382 : BitVec 32 := Scalar.muli v50 c256_i32_182
  let v383 : BitVec 32 := v382
  let v389 : Index := Scalar.indexCast v383
  let c0_185 : Index := 0#32
  ![0, v389.toNat, 0]
def k0_off8 (i : grid0.Coords) : Fin 3 → Nat :=
  let c1_194 : Index := 1#32
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_182 : BitVec 32 := 256#32
  let v382 : BitVec 32 := Scalar.muli v50 c256_i32_182
  let v383 : BitVec 32 := v382
  let v404 : Index := Scalar.indexCast v383
  let c0_195 : Index := 0#32
  ![1, v404.toNat, 0]
def k0_off9 (i : grid0.Coords) : Fin 3 → Nat :=
  let c2_204 : Index := 2#32
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_182 : BitVec 32 := 256#32
  let v382 : BitVec 32 := Scalar.muli v50 c256_i32_182
  let v383 : BitVec 32 := v382
  let v419 : Index := Scalar.indexCast v383
  let c0_205 : Index := 0#32
  ![2, v419.toNat, 0]
def k0_off10 (i : grid0.Coords) : Fin 3 → Nat :=
  let c3_214 : Index := 3#32
  let arg1 : BitVec 32 := BitVec.ofNat 32 (i 1).val
  let c1_i32 : BitVec 32 := 1#32
  let v49 : BitVec 32 := Scalar.subi arg1 c1_i32
  let c0_i32_10 : BitVec 32 := 0#32
  let v50 : BitVec 32 := Scalar.maxsi v49 c0_i32_10
  let c256_i32_182 : BitVec 32 := 256#32
  let v382 : BitVec 32 := Scalar.muli v50 c256_i32_182
  let v383 : BitVec 32 := v382
  let v434 : Index := Scalar.indexCast v383
  let c0_215 : Index := 0#32
  ![3, v434.toNat, 0]
def k0_mult5 (i : grid0.Coords) : BitVec 32 :=
  let arg1 : BitVec 32 := BitVec.ofNat 32 (i 1).val
  let c2_i32 : BitVec 32 := 2#32
  let v95 : BitVec 32 := Scalar.subi arg1 c2_i32
  let c0_i32_56 : BitVec 32 := 0#32
  let v96 : BitVec 32 := Scalar.maxsi v95 c0_i32_56
  let c256_i32_239 : BitVec 32 := 256#32
  let v459 : BitVec 32 := Scalar.muli v96 c256_i32_239
  v459
def k0_off11 (i : grid0.Coords) : Fin 3 → Nat :=
  let c0_240 : Index := 0#32
  let arg1 : BitVec 32 := BitVec.ofNat 32 (i 1).val
  let c2_i32 : BitVec 32 := 2#32
  let v95 : BitVec 32 := Scalar.subi arg1 c2_i32
  let c0_i32_56 : BitVec 32 := 0#32
  let v96 : BitVec 32 := Scalar.maxsi v95 c0_i32_56
  let c256_i32_239 : BitVec 32 := 256#32
  let v459 : BitVec 32 := Scalar.muli v96 c256_i32_239
  let v460 : BitVec 32 := v459
  let v461 : Index := Scalar.indexCast v460
  let c0_241 : Index := 0#32
  ![0, v461.toNat, 0]
def k0_off12 (arg9 : BitVec 32) : Fin 4 → Nat :=
  let c2_i32_241 : BitVec 32 := 2#32
  let c0_i32_242 : BitVec 32 := 0#32
  let v462 : BitVec 1 := Scalar.cmpi .eq c2_i32_241 c0_i32_242
  let c1_i32_243 : BitVec 32 := 1#32
  let v463 : BitVec 32 := Scalar.select v462 c1_i32_243 c2_i32_241
  let v464 : BitVec 32 := Scalar.remsi arg9 v463
  let c0_i32_245 : BitVec 32 := 0#32
  let v466 : BitVec 1 := Scalar.cmpi .slt v464 c0_i32_245
  let c0_i32_246 : BitVec 32 := 0#32
  let v467 : BitVec 1 := Scalar.cmpi .slt v463 c0_i32_246
  let v468 : BitVec 1 := Scalar.xori v466 v467
  let c0_i32_244 : BitVec 32 := 0#32
  let v465 : BitVec 1 := Scalar.cmpi .ne v464 c0_i32_244
  let v469 : BitVec 1 := Scalar.andi v468 v465
  let v470 : BitVec 32 := Scalar.addi v464 v463
  let v471 : BitVec 32 := Scalar.select v469 v470 v464
  let v485 : Index := Scalar.indexCast v471
  let c0_256 : Index := 0#32
  let c0_257 : Index := 0#32
  let c0_258 : Index := 0#32
  ![v485.toNat, 0, 0, 0]

def k0_off13 (arg9 : BitVec 32) : Fin 4 → Nat :=
  let c2_i32_241 : BitVec 32 := 2#32
  let c0_i32_242 : BitVec 32 := 0#32
  let v462 : BitVec 1 := Scalar.cmpi .eq c2_i32_241 c0_i32_242
  let c1_i32_243 : BitVec 32 := 1#32
  let v463 : BitVec 32 := Scalar.select v462 c1_i32_243 c2_i32_241
  let v464 : BitVec 32 := Scalar.remsi arg9 v463
  let c0_i32_245 : BitVec 32 := 0#32
  let v466 : BitVec 1 := Scalar.cmpi .slt v464 c0_i32_245
  let c0_i32_246 : BitVec 32 := 0#32
  let v467 : BitVec 1 := Scalar.cmpi .slt v463 c0_i32_246
  let v468 : BitVec 1 := Scalar.xori v466 v467
  let c0_i32_244 : BitVec 32 := 0#32
  let v465 : BitVec 1 := Scalar.cmpi .ne v464 c0_i32_244
  let v469 : BitVec 1 := Scalar.andi v468 v465
  let v470 : BitVec 32 := Scalar.addi v464 v463
  let v471 : BitVec 32 := Scalar.select v469 v470 v464
  let v513 : Index := Scalar.indexCast v471
  let c1_266 : Index := 1#32
  let c0_267 : Index := 0#32
  let c0_268 : Index := 0#32
  ![v513.toNat, 1, 0, 0]
def k0_off14 (arg9 : BitVec 32) : Fin 4 → Nat :=
  let c2_i32_241 : BitVec 32 := 2#32
  let c0_i32_242 : BitVec 32 := 0#32
  let v462 : BitVec 1 := Scalar.cmpi .eq c2_i32_241 c0_i32_242
  let c1_i32_243 : BitVec 32 := 1#32
  let v463 : BitVec 32 := Scalar.select v462 c1_i32_243 c2_i32_241
  let v464 : BitVec 32 := Scalar.remsi arg9 v463
  let c0_i32_245 : BitVec 32 := 0#32
  let v466 : BitVec 1 := Scalar.cmpi .slt v464 c0_i32_245
  let c0_i32_246 : BitVec 32 := 0#32
  let v467 : BitVec 1 := Scalar.cmpi .slt v463 c0_i32_246
  let v468 : BitVec 1 := Scalar.xori v466 v467
  let c0_i32_244 : BitVec 32 := 0#32
  let v465 : BitVec 1 := Scalar.cmpi .ne v464 c0_i32_244
  let v469 : BitVec 1 := Scalar.andi v468 v465
  let v470 : BitVec 32 := Scalar.addi v464 v463
  let v471 : BitVec 32 := Scalar.select v469 v470 v464
  let v541 : Index := Scalar.indexCast v471
  let c2_276 : Index := 2#32
  let c0_277 : Index := 0#32
  let c0_278 : Index := 0#32
  ![v541.toNat, 2, 0, 0]
def k0_off15 (arg9 : BitVec 32) : Fin 4 → Nat :=
  let c2_i32_241 : BitVec 32 := 2#32
  let c0_i32_242 : BitVec 32 := 0#32
  let v462 : BitVec 1 := Scalar.cmpi .eq c2_i32_241 c0_i32_242
  let c1_i32_243 : BitVec 32 := 1#32
  let v463 : BitVec 32 := Scalar.select v462 c1_i32_243 c2_i32_241
  let v464 : BitVec 32 := Scalar.remsi arg9 v463
  let c0_i32_245 : BitVec 32 := 0#32
  let v466 : BitVec 1 := Scalar.cmpi .slt v464 c0_i32_245
  let c0_i32_246 : BitVec 32 := 0#32
  let v467 : BitVec 1 := Scalar.cmpi .slt v463 c0_i32_246
  let v468 : BitVec 1 := Scalar.xori v466 v467
  let c0_i32_244 : BitVec 32 := 0#32
  let v465 : BitVec 1 := Scalar.cmpi .ne v464 c0_i32_244
  let v469 : BitVec 1 := Scalar.andi v468 v465
  let v470 : BitVec 32 := Scalar.addi v464 v463
  let v471 : BitVec 32 := Scalar.select v469 v470 v464
  let v569 : Index := Scalar.indexCast v471
  let c3_286 : Index := 3#32
  let c0_287 : Index := 0#32
  let c0_288 : Index := 0#32
  ![v569.toNat, 3, 0, 0]
def k0_mult6 (i : grid0.Coords) (arg9 : BitVec 32) : BitVec 32 :=
  let arg1 : BitVec 32 := BitVec.ofNat 32 (i 1).val
  let c2_i32_239 : BitVec 32 := 2#32
  let v459 : BitVec 32 := Scalar.subi arg1 c2_i32_239
  let v460 : BitVec 32 := Scalar.subi v459 arg9
  let c256_i32_299 : BitVec 32 := 256#32
  let v607 : BitVec 32 := Scalar.muli v460 c256_i32_299
  v607
def k0_off16 (i : grid0.Coords) (arg9 : BitVec 32) : Fin 3 → Nat :=
  let c0_300 : Index := 0#32
  let arg1 : BitVec 32 := BitVec.ofNat 32 (i 1).val
  let c2_i32_239 : BitVec 32 := 2#32
  let v459 : BitVec 32 := Scalar.subi arg1 c2_i32_239
  let v460 : BitVec 32 := Scalar.subi v459 arg9
  let c256_i32_299 : BitVec 32 := 256#32
  let v607 : BitVec 32 := Scalar.muli v460 c256_i32_299
  let v608 : BitVec 32 := v607
  let v612 : Index := Scalar.indexCast v608
  let c0_301 : Index := 0#32
  ![0, v612.toNat, 0]
def k0_off17 (i : grid0.Coords) (arg9 : BitVec 32) : Fin 3 → Nat :=
  let c1_309 : Index := 1#32
  let arg1 : BitVec 32 := BitVec.ofNat 32 (i 1).val
  let c2_i32_239 : BitVec 32 := 2#32
  let v459 : BitVec 32 := Scalar.subi arg1 c2_i32_239
  let v460 : BitVec 32 := Scalar.subi v459 arg9
  let c256_i32_299 : BitVec 32 := 256#32
  let v607 : BitVec 32 := Scalar.muli v460 c256_i32_299
  let v608 : BitVec 32 := v607
  let v625 : Index := Scalar.indexCast v608
  let c0_310 : Index := 0#32
  ![1, v625.toNat, 0]
def k0_off18 (i : grid0.Coords) (arg9 : BitVec 32) : Fin 3 → Nat :=
  let c2_318 : Index := 2#32
  let arg1 : BitVec 32 := BitVec.ofNat 32 (i 1).val
  let c2_i32_239 : BitVec 32 := 2#32
  let v459 : BitVec 32 := Scalar.subi arg1 c2_i32_239
  let v460 : BitVec 32 := Scalar.subi v459 arg9
  let c256_i32_299 : BitVec 32 := 256#32
  let v607 : BitVec 32 := Scalar.muli v460 c256_i32_299
  let v608 : BitVec 32 := v607
  let v638 : Index := Scalar.indexCast v608
  let c0_319 : Index := 0#32
  ![2, v638.toNat, 0]
def k0_off19 (i : grid0.Coords) (arg9 : BitVec 32) : Fin 3 → Nat :=
  let c3_327 : Index := 3#32
  let arg1 : BitVec 32 := BitVec.ofNat 32 (i 1).val
  let c2_i32_239 : BitVec 32 := 2#32
  let v459 : BitVec 32 := Scalar.subi arg1 c2_i32_239
  let v460 : BitVec 32 := Scalar.subi v459 arg9
  let c256_i32_299 : BitVec 32 := 256#32
  let v607 : BitVec 32 := Scalar.muli v460 c256_i32_299
  let v608 : BitVec 32 := v607
  let v651 : Index := Scalar.indexCast v608
  let c0_328 : Index := 0#32
  ![3, v651.toNat, 0]

def k0_chk1 (i : grid0.Coords) (arg9 : BitVec 32) : Prop :=
  (∀ a, (k0_off12 arg9) a + S1x1x256x256.size a ≤ S2x4x256x256.size a) ∧
  (∀ a, (k0_off13 arg9) a + S1x1x256x256.size a ≤ S2x4x256x256.size a) ∧
  (∀ a, (k0_off14 arg9) a + S1x1x256x256.size a ≤ S2x4x256x256.size a) ∧
  (∀ a, (k0_off15 arg9) a + S1x1x256x256.size a ≤ S2x4x256x256.size a) ∧
  (256 ∣ (k0_mult6 i arg9).toNat) ∧
  (∀ a, (k0_off16 i arg9) a + S1x256x256.size a ≤ S4x4096x256.size a) ∧
  (∀ a, (k0_off17 i arg9) a + S1x256x256.size a ≤ S4x4096x256.size a) ∧
  (∀ a, (k0_off18 i arg9) a + S1x256x256.size a ≤ S4x4096x256.size a) ∧
  (∀ a, (k0_off19 i arg9) a + S1x256x256.size a ≤ S4x4096x256.size a)
theorem k0_off12_inb : ∀ (i : grid0.Coords) (arg9 : BitVec 32) (k0_hw1 : k0_chk1 i arg9), ∀ a, (k0_off12 arg9) a + S1x1x256x256.size a ≤ S2x4x256x256.size a := fun i arg9 k0_hw1 => k0_hw1.1
theorem k0_off13_inb : ∀ (i : grid0.Coords) (arg9 : BitVec 32) (k0_hw1 : k0_chk1 i arg9), ∀ a, (k0_off13 arg9) a + S1x1x256x256.size a ≤ S2x4x256x256.size a := fun i arg9 k0_hw1 => k0_hw1.2.1
theorem k0_off14_inb : ∀ (i : grid0.Coords) (arg9 : BitVec 32) (k0_hw1 : k0_chk1 i arg9), ∀ a, (k0_off14 arg9) a + S1x1x256x256.size a ≤ S2x4x256x256.size a := fun i arg9 k0_hw1 => k0_hw1.2.2.1
theorem k0_off15_inb : ∀ (i : grid0.Coords) (arg9 : BitVec 32) (k0_hw1 : k0_chk1 i arg9), ∀ a, (k0_off15 arg9) a + S1x1x256x256.size a ≤ S2x4x256x256.size a := fun i arg9 k0_hw1 => k0_hw1.2.2.2.1
theorem k0_mult6_dvd : ∀ (i : grid0.Coords) (arg9 : BitVec 32) (k0_hw1 : k0_chk1 i arg9), 256 ∣ (k0_mult6 i arg9).toNat := fun i arg9 k0_hw1 => k0_hw1.2.2.2.2.1
theorem k0_off16_inb : ∀ (i : grid0.Coords) (arg9 : BitVec 32) (k0_hw1 : k0_chk1 i arg9), ∀ a, (k0_off16 i arg9) a + S1x256x256.size a ≤ S4x4096x256.size a := fun i arg9 k0_hw1 => k0_hw1.2.2.2.2.2.1
theorem k0_off17_inb : ∀ (i : grid0.Coords) (arg9 : BitVec 32) (k0_hw1 : k0_chk1 i arg9), ∀ a, (k0_off17 i arg9) a + S1x256x256.size a ≤ S4x4096x256.size a := fun i arg9 k0_hw1 => k0_hw1.2.2.2.2.2.2.1
theorem k0_off18_inb : ∀ (i : grid0.Coords) (arg9 : BitVec 32) (k0_hw1 : k0_chk1 i arg9), ∀ a, (k0_off18 i arg9) a + S1x256x256.size a ≤ S4x4096x256.size a := fun i arg9 k0_hw1 => k0_hw1.2.2.2.2.2.2.2.1
theorem k0_off19_inb : ∀ (i : grid0.Coords) (arg9 : BitVec 32) (k0_hw1 : k0_chk1 i arg9), ∀ a, (k0_off19 i arg9) a + S1x256x256.size a ≤ S4x4096x256.size a := fun i arg9 k0_hw1 => k0_hw1.2.2.2.2.2.2.2.2

def k0_mult7 (i : grid0.Coords) (arg9 : BitVec 32) : BitVec 32 :=
  let arg1 : BitVec 32 := BitVec.ofNat 32 (i 1).val
  let c2_i32_239 : BitVec 32 := 2#32
  let v459 : BitVec 32 := Scalar.subi arg1 c2_i32_239
  let v460 : BitVec 32 := Scalar.subi v459 arg9
  let c1_i32_247 : BitVec 32 := 1#32
  let v472 : BitVec 32 := Scalar.subi v460 c1_i32_247
  let c0_i32_248 : BitVec 32 := 0#32
  let v473 : BitVec 32 := Scalar.maxsi v472 c0_i32_248
  let c256_i32_337 : BitVec 32 := 256#32
  let v663 : BitVec 32 := Scalar.muli v473 c256_i32_337
  v663
def k0_cond3 (i : grid0.Coords) (arg9 : BitVec 32) (v605 : BitVec 1) : BitVec 1 :=
  let arg1 : BitVec 32 := BitVec.ofNat 32 (i 1).val
  let c2_i32_239 : BitVec 32 := 2#32
  let v459 : BitVec 32 := Scalar.subi arg1 c2_i32_239
  let v460 : BitVec 32 := Scalar.subi v459 arg9
  let c0_i32_296 : BitVec 32 := 0#32
  let v600 : BitVec 1 := Scalar.cmpi .sgt v460 c0_i32_296
  let v606 : BitVec 1 := Scalar.andi v600 v605
  let v661 : BitVec 32 := Scalar.extui v606
  let c0_i32_336 : BitVec 32 := 0#32
  let v662 : BitVec 1 := Scalar.cmpi .ne v661 c0_i32_336
  v662

def k0_off20 (i : grid0.Coords) (arg9 : BitVec 32) : Fin 3 → Nat :=
  let c0_338 : Index := 0#32
  let arg1 : BitVec 32 := BitVec.ofNat 32 (i 1).val
  let c2_i32_239 : BitVec 32 := 2#32
  let v459 : BitVec 32 := Scalar.subi arg1 c2_i32_239
  let v460 : BitVec 32 := Scalar.subi v459 arg9
  let c1_i32_247 : BitVec 32 := 1#32
  let v472 : BitVec 32 := Scalar.subi v460 c1_i32_247
  let c0_i32_248 : BitVec 32 := 0#32
  let v473 : BitVec 32 := Scalar.maxsi v472 c0_i32_248
  let c256_i32_337 : BitVec 32 := 256#32
  let v663 : BitVec 32 := Scalar.muli v473 c256_i32_337
  let v664 : BitVec 32 := v663
  let v665 : Index := Scalar.indexCast v664
  let c0_339 : Index := 0#32
  ![0, v665.toNat, 0]
def k0_off21 (arg9 : BitVec 32) : Fin 4 → Nat :=
  let c1_i32_255 : BitVec 32 := 1#32
  let c2_i32_249 : BitVec 32 := 2#32
  let c0_i32_250 : BitVec 32 := 0#32
  let v474 : BitVec 1 := Scalar.cmpi .eq c2_i32_249 c0_i32_250
  let c1_i32_251 : BitVec 32 := 1#32
  let v475 : BitVec 32 := Scalar.select v474 c1_i32_251 c2_i32_249
  let v476 : BitVec 32 := Scalar.remsi arg9 v475
  let c0_i32_253 : BitVec 32 := 0#32
  let v478 : BitVec 1 := Scalar.cmpi .slt v476 c0_i32_253
  let c0_i32_254 : BitVec 32 := 0#32
  let v479 : BitVec 1 := Scalar.cmpi .slt v475 c0_i32_254
  let v480 : BitVec 1 := Scalar.xori v478 v479
  let c0_i32_252 : BitVec 32 := 0#32
  let v477 : BitVec 1 := Scalar.cmpi .ne v476 c0_i32_252
  let v481 : BitVec 1 := Scalar.andi v480 v477
  let v482 : BitVec 32 := Scalar.addi v476 v475
  let v483 : BitVec 32 := Scalar.select v481 v482 v476
  let v484 : BitVec 32 := Scalar.subi c1_i32_255 v483
  let v669 : Index := Scalar.indexCast v484
  let c0_341 : Index := 0#32
  let c0_342 : Index := 0#32
  let c0_343 : Index := 0#32
  ![v669.toNat, 0, 0, 0]
def k0_off22 (arg9 : BitVec 32) : Fin 4 → Nat :=
  let c1_i32_255 : BitVec 32 := 1#32
  let c2_i32_249 : BitVec 32 := 2#32
  let c0_i32_250 : BitVec 32 := 0#32
  let v474 : BitVec 1 := Scalar.cmpi .eq c2_i32_249 c0_i32_250
  let c1_i32_251 : BitVec 32 := 1#32
  let v475 : BitVec 32 := Scalar.select v474 c1_i32_251 c2_i32_249
  let v476 : BitVec 32 := Scalar.remsi arg9 v475
  let c0_i32_253 : BitVec 32 := 0#32
  let v478 : BitVec 1 := Scalar.cmpi .slt v476 c0_i32_253
  let c0_i32_254 : BitVec 32 := 0#32
  let v479 : BitVec 1 := Scalar.cmpi .slt v475 c0_i32_254
  let v480 : BitVec 1 := Scalar.xori v478 v479
  let c0_i32_252 : BitVec 32 := 0#32
  let v477 : BitVec 1 := Scalar.cmpi .ne v476 c0_i32_252
  let v481 : BitVec 1 := Scalar.andi v480 v477
  let v482 : BitVec 32 := Scalar.addi v476 v475
  let v483 : BitVec 32 := Scalar.select v481 v482 v476
  let v484 : BitVec 32 := Scalar.subi c1_i32_255 v483
  let v674 : Index := Scalar.indexCast v484
  let c1_345 : Index := 1#32
  let c0_346 : Index := 0#32
  let c0_347 : Index := 0#32
  ![v674.toNat, 1, 0, 0]
def k0_off23 (arg9 : BitVec 32) : Fin 4 → Nat :=
  let c1_i32_255 : BitVec 32 := 1#32
  let c2_i32_249 : BitVec 32 := 2#32
  let c0_i32_250 : BitVec 32 := 0#32
  let v474 : BitVec 1 := Scalar.cmpi .eq c2_i32_249 c0_i32_250
  let c1_i32_251 : BitVec 32 := 1#32
  let v475 : BitVec 32 := Scalar.select v474 c1_i32_251 c2_i32_249
  let v476 : BitVec 32 := Scalar.remsi arg9 v475
  let c0_i32_253 : BitVec 32 := 0#32
  let v478 : BitVec 1 := Scalar.cmpi .slt v476 c0_i32_253
  let c0_i32_254 : BitVec 32 := 0#32
  let v479 : BitVec 1 := Scalar.cmpi .slt v475 c0_i32_254
  let v480 : BitVec 1 := Scalar.xori v478 v479
  let c0_i32_252 : BitVec 32 := 0#32
  let v477 : BitVec 1 := Scalar.cmpi .ne v476 c0_i32_252
  let v481 : BitVec 1 := Scalar.andi v480 v477
  let v482 : BitVec 32 := Scalar.addi v476 v475
  let v483 : BitVec 32 := Scalar.select v481 v482 v476
  let v484 : BitVec 32 := Scalar.subi c1_i32_255 v483
  let v679 : Index := Scalar.indexCast v484
  let c2_349 : Index := 2#32
  let c0_350 : Index := 0#32
  let c0_351 : Index := 0#32
  ![v679.toNat, 2, 0, 0]
def k0_off24 (arg9 : BitVec 32) : Fin 4 → Nat :=
  let c1_i32_255 : BitVec 32 := 1#32
  let c2_i32_249 : BitVec 32 := 2#32
  let c0_i32_250 : BitVec 32 := 0#32
  let v474 : BitVec 1 := Scalar.cmpi .eq c2_i32_249 c0_i32_250
  let c1_i32_251 : BitVec 32 := 1#32
  let v475 : BitVec 32 := Scalar.select v474 c1_i32_251 c2_i32_249
  let v476 : BitVec 32 := Scalar.remsi arg9 v475
  let c0_i32_253 : BitVec 32 := 0#32
  let v478 : BitVec 1 := Scalar.cmpi .slt v476 c0_i32_253
  let c0_i32_254 : BitVec 32 := 0#32
  let v479 : BitVec 1 := Scalar.cmpi .slt v475 c0_i32_254
  let v480 : BitVec 1 := Scalar.xori v478 v479
  let c0_i32_252 : BitVec 32 := 0#32
  let v477 : BitVec 1 := Scalar.cmpi .ne v476 c0_i32_252
  let v481 : BitVec 1 := Scalar.andi v480 v477
  let v482 : BitVec 32 := Scalar.addi v476 v475
  let v483 : BitVec 32 := Scalar.select v481 v482 v476
  let v484 : BitVec 32 := Scalar.subi c1_i32_255 v483
  let v684 : Index := Scalar.indexCast v484
  let c3_353 : Index := 3#32
  let c0_354 : Index := 0#32
  let c0_355 : Index := 0#32
  ![v684.toNat, 3, 0, 0]

def k0_chk2 (i : grid0.Coords) (arg9 : BitVec 32) (v605 : BitVec 1) : Prop :=
  (∀ (k0_h3 : k0_cond3 i arg9 v605 = 1#1), 256 ∣ (k0_mult7 i arg9).toNat) ∧
  (∀ (k0_h3 : k0_cond3 i arg9 v605 = 1#1), ∀ a, (k0_off20 i arg9) a + S1x256x256.size a ≤ S1x4096x256.size a) ∧
  (∀ (k0_h3 : k0_cond3 i arg9 v605 = 1#1), ∀ a, (k0_off21 arg9) a + S1x1x256x256.size a ≤ S2x4x256x256.size a) ∧
  (∀ (k0_h3 : k0_cond3 i arg9 v605 = 1#1), ∀ a, (k0_off22 arg9) a + S1x1x256x256.size a ≤ S2x4x256x256.size a) ∧
  (∀ (k0_h3 : k0_cond3 i arg9 v605 = 1#1), ∀ a, (k0_off23 arg9) a + S1x1x256x256.size a ≤ S2x4x256x256.size a) ∧
  (∀ (k0_h3 : k0_cond3 i arg9 v605 = 1#1), ∀ a, (k0_off24 arg9) a + S1x1x256x256.size a ≤ S2x4x256x256.size a)
theorem k0_mult7_dvd : ∀ (i : grid0.Coords) (arg9 : BitVec 32) (v605 : BitVec 1) (k0_hw2 : k0_chk2 i arg9 v605), ∀ (k0_h3 : k0_cond3 i arg9 v605 = 1#1), 256 ∣ (k0_mult7 i arg9).toNat := fun i arg9 v605 k0_hw2 k0_h3 => k0_hw2.1 k0_h3
theorem k0_off20_inb : ∀ (i : grid0.Coords) (arg9 : BitVec 32) (v605 : BitVec 1) (k0_hw2 : k0_chk2 i arg9 v605), ∀ (k0_h3 : k0_cond3 i arg9 v605 = 1#1), ∀ a, (k0_off20 i arg9) a + S1x256x256.size a ≤ S1x4096x256.size a := fun i arg9 v605 k0_hw2 k0_h3 => k0_hw2.2.1 k0_h3
theorem k0_off21_inb : ∀ (i : grid0.Coords) (arg9 : BitVec 32) (v605 : BitVec 1) (k0_hw2 : k0_chk2 i arg9 v605), ∀ (k0_h3 : k0_cond3 i arg9 v605 = 1#1), ∀ a, (k0_off21 arg9) a + S1x1x256x256.size a ≤ S2x4x256x256.size a := fun i arg9 v605 k0_hw2 k0_h3 => k0_hw2.2.2.1 k0_h3
theorem k0_off22_inb : ∀ (i : grid0.Coords) (arg9 : BitVec 32) (v605 : BitVec 1) (k0_hw2 : k0_chk2 i arg9 v605), ∀ (k0_h3 : k0_cond3 i arg9 v605 = 1#1), ∀ a, (k0_off22 arg9) a + S1x1x256x256.size a ≤ S2x4x256x256.size a := fun i arg9 v605 k0_hw2 k0_h3 => k0_hw2.2.2.2.1 k0_h3
theorem k0_off23_inb : ∀ (i : grid0.Coords) (arg9 : BitVec 32) (v605 : BitVec 1) (k0_hw2 : k0_chk2 i arg9 v605), ∀ (k0_h3 : k0_cond3 i arg9 v605 = 1#1), ∀ a, (k0_off23 arg9) a + S1x1x256x256.size a ≤ S2x4x256x256.size a := fun i arg9 v605 k0_hw2 k0_h3 => k0_hw2.2.2.2.2.1 k0_h3
theorem k0_off24_inb : ∀ (i : grid0.Coords) (arg9 : BitVec 32) (v605 : BitVec 1) (k0_hw2 : k0_chk2 i arg9 v605), ∀ (k0_h3 : k0_cond3 i arg9 v605 = 1#1), ∀ a, (k0_off24 arg9) a + S1x1x256x256.size a ≤ S2x4x256x256.size a := fun i arg9 v605 k0_hw2 k0_h3 => k0_hw2.2.2.2.2.2 k0_h3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFRefIdeal.lean ====
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8x64, .f32⟩
  | .hbm, ⟨4, _⟩ => ⟨S8x4096x64, .f32⟩
  | .hbm, ⟨5, _⟩ => ⟨S4096x8x64, .f32⟩
  | .hbm, ⟨6, _⟩ => ⟨S8x4096x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .i1⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S_, .f32⟩
  | .hbm, ⟨63, _⟩ => ⟨S8x4096x4096, .i1⟩
  | .hbm, ⟨64, _⟩ => ⟨S8x4096x4096, .f32⟩
  | .hbm, ⟨65, _⟩ => ⟨S8x4096x4096, .f32⟩
  | .hbm, ⟨66, _⟩ => ⟨S4096x8x64, .f32⟩
  | .hbm, ⟨67, _⟩ => ⟨S8x4096x64, .f32⟩
  | .hbm, ⟨68, _⟩ => ⟨S8x4096x64, .f32⟩
  | .hbm, ⟨69, _⟩ => ⟨S4096x8x64, .f32⟩
  | .hbm, ⟨70, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Proof.Win.lean ====
/-
  Windows of a column of numbers: what a running sum over rows (from either end) and a sum built by repeated doubling
  come to, and why the difference of two running sums is the sum over a window.
-/
module

public import Idealize.ShloMosaic.Lib.Pointwise
public import Idealize.ShloMosaic.Lib.KernelVsHost

@[expose] public section

noncomputable section

namespace Cert.Win

open Idealize.ShloMosaic

/-- Column `l` of a matrix as a function of every natural row, zero past the last row. -/
def col {N L : ℕ} (x : (⟨2, ![N, L]⟩ : Shape).Idx → EReal) (l : Fin L) (s : ℕ) : EReal :=
  if h : s < N then x (ix2 ⟨s, h⟩ l) else 0

theorem col_of_lt {N L : ℕ} (x : (⟨2, ![N, L]⟩ : Shape).Idx → EReal) (l : Fin L) (s : Fin N) : col x l s.val = x (ix2 s l) :=
  dif_pos s.isLt

theorem col_of_ge {N L : ℕ} (x : (⟨2, ![N, L]⟩ : Shape).Idx → EReal) (l : Fin L) {s : ℕ} (h : N ≤ s) : col x l s = 0 :=
  dif_neg (Nat.not_lt.mpr h)

/-- A left fold of additions over all positions is the sum over them. -/
theorem foldl_add {n : ℕ} (g : Fin n → EReal) (v : EReal) : (List.finRange n).foldl (fun r k => r + g k) v = v + ∑ k, g k := by
  rw [Fin.sum_univ_def]
  generalize List.finRange n = L
  induction L generalizing v with
  | nil => simp
  | cons a L ih => simp only [List.foldl_cons, List.map_cons, List.sum_cons, ih, add_assoc]

/-- The position of a window's `n`-th element. -/
abbrev pos {N : ℕ} (n : Fin (⟨2, ![N, 1]⟩ : Shape).numel) : (⟨2, ![N, 1]⟩ : Shape).Idx := (Shape.rowMajor (⟨2, ![N, 1]⟩ : Shape)).symm n

/-- A window sum over rows, whatever the padding, as a sum over the window's rows. -/
theorem window_apply {N L lo hi : ℕ} (h : (⟨2, ![N, L]⟩ : Shape).ReduceWindows ![N, 1] ![1, 1] ![lo, 0] ![hi, 0] ⟨2, ![N, L]⟩)
    (x : (⟨2, ![N, L]⟩ : Shape).Idx → EReal) (t : Fin N) (l : Fin L) :
    Ideal.hostReduceWindowAdd ![N, 1] ![1, 1] ![lo, 0] ![hi, 0] h x 0 (ix2 t l)
      = ∑ k : Fin N, if lo ≤ t.val + k.val then col x l (t.val + k.val - lo) else 0 := by
  unfold Ideal.hostReduceWindowAdd Host.reduceWindow
  rw [foldl_add, zero_add]
  refine (Finset.sum_congr rfl fun n _ => ?_).trans ((Equiv.sum_comp (Shape.rowMajor (⟨2, ![N, 1]⟩ : Shape)).symm
    (fun w : (⟨2, ![N, 1]⟩ : Shape).Idx => if lo ≤ t.val + (w 0).val then col x l (t.val + (w 0).val - lo) else 0)).trans
    ((sum_idx2 _).trans (Finset.sum_congr rfl fun k _ => Fin.sum_univ_one _)))
  have h1 : (pos n 1).val = 0 := Nat.lt_one_iff.mp (pos n 1).isLt
  by_cases hlo : lo ≤ t.val + (pos n 0).val
  · rw [if_pos hlo]
    by_cases hlt : t.val + (pos n 0).val - lo < N
    · unfold col
      rw [dif_pos hlt, dif_pos]
      · congr 1
        funext a
        apply Fin.ext
        match a with
        | ⟨0, _⟩ => show t.val * 1 + (pos n 0).val - lo = t.val + (pos n 0).val - lo; rw [Nat.mul_one]
        | ⟨1, _⟩ => show l.val * 1 + (pos n 1).val - 0 = l.val; omega
      · intro a
        match a with
        | ⟨0, _⟩ => show lo ≤ t.val * 1 + (pos n 0).val ∧ t.val * 1 + (pos n 0).val - lo < N; rw [Nat.mul_one]; exact ⟨hlo, hlt⟩
        | ⟨1, _⟩ => show 0 ≤ l.val * 1 + (pos n 1).val ∧ l.val * 1 + (pos n 1).val - 0 < L; have := l.isLt; omega
    · rw [col_of_ge x l (Nat.not_lt.mp hlt), dif_neg]
      intro hin
      have : t.val * 1 + (pos n 0).val - lo < N := (hin 0).2
      rw [Nat.mul_one] at this
      exact hlt this
  · rw [if_neg hlo, dif_neg]
    intro hin
    have : lo ≤ t.val * 1 + (pos n 0).val := (hin 0).1
    rw [Nat.mul_one] at this
    exact hlo this

/-- The running sum from row `t` to the last row. -/
theorem suffix {N L hi : ℕ} (h : (⟨2, ![N, L]⟩ : Shape).ReduceWindows ![N, 1] ![1, 1] ![0, 0] ![hi, 0] ⟨2, ![N, L]⟩)
    (x : (⟨2, ![N, L]⟩ : Shape).Idx → EReal) (t : Fin N) (l : Fin L) :
    Ideal.hostReduceWindowAdd ![N, 1] ![1, 1] ![0, 0] ![hi, 0] h x 0 (ix2 t l) = ∑ k ∈ Finset.range N, col x l (t.val + k) := by
  rw [window_apply, ← Fin.sum_univ_eq_sum_range (fun k => col x l (t.val + k)) N]
  simp

/-- The running sum from the first row to row `t`. -/
theorem prefix_sum {N L : ℕ} (h : (⟨2, ![N, L]⟩ : Shape).ReduceWindows ![N, 1] ![1, 1] ![N - 1, 0] ![0, 0] ⟨2, ![N, L]⟩)
    (x : (⟨2, ![N, L]⟩ : Shape).Idx → EReal) (t : Fin N) (l : Fin L) :
    Ideal.hostReduceWindowAdd ![N, 1] ![1, 1] ![N - 1, 0] ![0, 0] h x 0 (ix2 t l) = ∑ s ∈ Finset.range (t.val + 1), col x l s := by
  have ht := t.isLt
  rw [window_apply, Fin.sum_univ_eq_sum_range (fun k => if N - 1 ≤ t.val + k then col x l (t.val + k - (N - 1)) else 0) N,
    show Finset.range N = Finset.range ((N - 1 - t.val) + (t.val + 1)) by congr 1; omega, Finset.sum_range_add]
  rw [Finset.sum_eq_zero, zero_add]
  · refine Finset.sum_congr rfl fun k hk => ?_
    have := Finset.mem_range.mp hk
    rw [if_pos (by omega)]
    congr 1
    omega
  · intro k hk
    have := Finset.mem_range.mp hk
    rw [if_neg (by omega)]

/-- Over real numbers vanishing from row `N` on, the sum from `t` on of `y s - y (s + w)` is the sum of `w` rows from `t`. -/
theorem real_diff (y : ℕ → ℝ) (N w t : ℕ) (hN : ∀ s, N ≤ s → y s = 0) :
    ∑ k ∈ Finset.range N, (y (t + k) - y (t + k + w)) = ∑ j ∈ Finset.range w, y (t + j) := by
  rw [Finset.sum_sub_distrib]
  have h1 := Finset.sum_range_add (fun k => y (t + k)) w N
  have h2 := Finset.sum_range_add (fun k => y (t + k)) N w
  have h3 : ∑ x ∈ Finset.range w, y (t + (N + x)) = 0 := Finset.sum_eq_zero fun k _ => hN _ (by omega)
  have h4 : ∑ x ∈ Finset.range N, y (t + x + w) = ∑ x ∈ Finset.range N, y (t + (w + x)) :=
    Finset.sum_congr rfl fun k _ => by congr 1; omega
  rw [Nat.add_comm w N] at h1
  linarith

/-- A finite extended real, as its real number. -/
theorem coe_toReal {x : EReal} (h : x ≠ ⊤ ∧ x ≠ ⊥) : ((x.toReal : ℝ) : EReal) = x := EReal.coe_toReal h.1 h.2

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over finite extended reals. -/
theorem diff_window (X : ℕ → EReal) (N w t : ℕ) (hX : ∀ s, X s ≠ ⊤ ∧ X s ≠ ⊥) (hN : ∀ s, N ≤ s → X s = 0) :
    ∑ k ∈ Finset.range N, (X (t + k) + -X (t + k + w)) = ∑ j ∈ Finset.range w, X (t + j) := by
  have h := real_diff (fun s => (X s).toReal) N w t (fun s hs => by rw [hN s hs]; rfl)
  have h' := congrArg (fun r : ℝ => (r : EReal)) h
  simp only [coe_sum, sub_eq_add_neg, EReal.coe_add, EReal.coe_neg, coe_toReal (hX _)] at h'
  exact h'

/-- Over finite extended reals, the difference of the running sums up to `t` and up to `t - w` is the sum over the last
    `w` rows, fewer at the start. -/
theorem prefix_diff (X : ℕ → EReal) (w t : ℕ) (hX : ∀ s, X s ≠ ⊤ ∧ X s ≠ ⊥) (hw : 0 < w) :
    ∑ s ∈ Finset.range (t + 1), X s - (if t < w then 0 else ∑ s ∈ Finset.range (t - w + 1), X s)
      = ∑ j ∈ Finset.range w, if j ≤ t then X (t - j) else 0 := by
  have e : ∀ s, X s = (((X s).toReal : ℝ) : EReal) := fun s => (coe_toReal (hX s)).symm
  have key : (∑ s ∈ Finset.range (t + 1), (X s).toReal) - (if t < w then 0 else ∑ s ∈ Finset.range (t - w + 1), (X s).toReal)
      = ∑ j ∈ Finset.range w, if j ≤ t then (X (t - j)).toReal else 0 := by
    split
    · next hlt =>
      obtain ⟨d, rfl⟩ : ∃ d, w = t + 1 + d := ⟨w - (t + 1), by omega⟩
      rw [sub_zero, ← Finset.sum_range_reflect, Finset.sum_range_add _ (t + 1) d,
        Finset.sum_eq_zero (s := Finset.range d) (fun j _ => if_neg (by omega)), add_zero]
      refine Finset.sum_congr rfl fun j hj => ?_
      have := Finset.mem_range.mp hj
      rw [if_pos (by omega), Nat.add_sub_cancel]
    · next hge =>
      have h1 : Finset.range (t + 1) = Finset.range ((t - w + 1) + w) := by congr 1; omega
      rw [h1, Finset.sum_range_add, add_sub_cancel_left, ← Finset.sum_range_reflect]
      refine Finset.sum_congr rfl fun j hj => ?_
      have := Finset.mem_range.mp hj
      rw [if_pos (by omega)]
      congr 2
      omega
  have h' := congrArg (fun r : ℝ => (r : EReal)) key
  rw [EReal.coe_sub, coe_sum, coe_sum] at h'
  simp only [← e] at h'
  refine Eq.trans ?_ (h'.trans (Finset.sum_congr rfl fun j _ => ?_))
  · congr 1
    split
    · rfl
    · rw [coe_sum]; exact Finset.sum_congr rfl fun s _ => e s
  · split
    · exact (e _).symm
    · rfl

/-! ## Sums by doubling -/

/-- One doubling: where row `p` holds the sum of `s` rows from `p` on, adding the matrix moved up by `s` rows holds the
    sum of `2 s` rows. -/
theorem double_up {n L : ℕ} (s : ℕ) (sb : BitVec 32) (hsb : sb.toNat = n - s) (hs : 0 < s) (hsn : s ≤ n) (A : ℕ → EReal) (l : Fin L)
    (x : (⟨2, ![n, L]⟩ : Shape).Idx → EReal) (h : (⟨2, ![n, L]⟩ : Shape).Rotates 0 none)
    (hx : ∀ p : Fin n, p.val + s ≤ n → x (ix2 p l) = ∑ j ∈ Finset.range s, A (p.val + j)) (p : Fin n) (hp : p.val + 2 * s ≤ n) :
    x (ix2 p l) + dynamicRotate 0 sb none x h (ix2 p l) = ∑ j ∈ Finset.range (2 * s), A (p.val + j) := by
  have hpl := p.isLt
  rw [dynamicRotate_apply (0 : Fin 2) sb x h (ix2 p l) (ix2 (⟨p.val + s, by omega⟩ : Fin n) l) ?_, hx p (by omega),
    hx ⟨p.val + s, by omega⟩ (by show p.val + s + s ≤ n; omega), Nat.two_mul, Finset.sum_range_add]
  · congr 1
    refine Finset.sum_congr rfl fun j _ => ?_
    congr 1
    show p.val + s + j = p.val + (s + j)
    omega
  · intro b
    match b with
    | ⟨0, _⟩ =>
      rw [if_pos (by rfl)]
      show p.val + s = (p.val + n - sb.toNat % n) % n
      rw [hsb, Nat.mod_eq_of_lt (show n - s < n by omega), show p.val + n - (n - s) = p.val + s by omega,
        Nat.mod_eq_of_lt (by omega)]
    | ⟨1, _⟩ => rw [if_neg (by simp [Fin.ext_iff])]; rfl

/-- One doubling downwards: where row `p` holds the sum of `s` rows up to `p`, adding the matrix moved down by `s` rows
    holds the sum of `2 s` rows. -/
theorem double_down {n L : ℕ} (s : ℕ) (sb : BitVec 32) (hsb : sb.toNat = s) (hs : 0 < s) (hsn : s < n) (A : ℕ → EReal) (l : Fin L)
    (x : (⟨2, ![n, L]⟩ : Shape).Idx → EReal) (h : (⟨2, ![n, L]⟩ : Shape).Rotates 0 none)
    (hx : ∀ p : Fin n, s ≤ p.val + 1 → x (ix2 p l) = ∑ j ∈ Finset.range s, A (p.val - j)) (p : Fin n) (hp : 2 * s ≤ p.val + 1) :
    x (ix2 p l) + dynamicRotate 0 sb none x h (ix2 p l) = ∑ j ∈ Finset.range (2 * s), A (p.val - j) := by
  have hpl := p.isLt
  rw [dynamicRotate_apply (0 : Fin 2) sb x h (ix2 p l) (ix2 (⟨p.val - s, by omega⟩ : Fin n) l) ?_, hx p (by omega),
    hx ⟨p.val - s, by omega⟩ (by show s ≤ p.val - s + 1; omega), Nat.two_mul, Finset.sum_range_add]
  · congr 1
    refine Finset.sum_congr rfl fun j _ => ?_
    congr 1
    show p.val - s - j = p.val - (s + j)
    omega
  · intro b
    match b with
    | ⟨0, _⟩ =>
      rw [if_pos (by rfl)]
      show p.val - s = (p.val + n - sb.toNat % n) % n
      rw [hsb, Nat.mod_eq_of_lt hsn, show p.val + n - s = p.val - s + n by omega, Nat.add_mod_right,
        Nat.mod_eq_of_lt (by omega)]
    | ⟨1, _⟩ => rw [if_neg (by simp [Fin.ext_iff])]; rfl

end Cert.Win

end
-- ==== Proof.Pool.lean ====
/-
  The window means of the pool mixer, in numbers: the count of a row's window, and a sum of `w` rows reached by doubling
  (`double_up` / `double_down`), twice to sixteen times.
-/
module

public import proofs.«01_k».proof.Proof.Win
public import Idealize.ShloMosaic.Lib.SortNet.Extract

@[expose] public section

noncomputable section

namespace Cert.Pool

open Idealize.ShloMosaic Cert.Win

theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The count of row `s`'s window, as both programs compute it in words. -/
theorem count (s w : ℕ) (hs : s < 2 ^ 30) (hw : w < 2 ^ 30) :
    FloatOps.sitofp (F := Ideal) .f32 (IntOp.minsi (IntOp.addi (BitVec.ofNat 32 s) 1#32) (BitVec.ofNat 32 w))
      = (((min (s + 1) w : ℕ) : ℝ) : EReal) := by
  show (((IntOp.minsi (IntOp.addi (BitVec.ofNat 32 s) 1#32) (BitVec.ofNat 32 w)).toInt : ℝ) : EReal) = _
  rw [SortNet.toInt_minsi, show IntOp.addi (BitVec.ofNat 32 s) 1#32 = BitVec.ofNat 32 (s + 1) from (BitVec.ofNat_add s 1).symm,
    toInt_small (by omega), toInt_small (by omega)]
  congr 1
  norm_cast

/-- One over the count of row `s`'s window. -/
def inv (w s : ℕ) : ℝ := 1 / ((min (s + 1) w : ℕ) : ℝ)

theorem count_ne (s w : ℕ) (hw : 0 < w) : ((min (s + 1) w : ℕ) : ℝ) ≠ 0 := by
  have : 0 < min (s + 1) w := lt_min (Nat.succ_pos s) hw
  exact_mod_cast this.ne'

/-- Dividing by the count. -/
theorem div_count (x : EReal) (s w : ℕ) (hw : 0 < w) : Ideal.div x (((min (s + 1) w : ℕ) : ℝ) : EReal) = x * (inv w s : EReal) :=
  Ideal.div_coe (count_ne s w hw) x

theorem div_one_count (s w : ℕ) (hw : 0 < w) : Ideal.div 1 (((min (s + 1) w : ℕ) : ℝ) : EReal) = (inv w s : EReal) := by
  rw [div_count _ _ _ hw, one_mul]

theorem inv_full {s w : ℕ} (h : w ≤ s + 1) : inv w s = 1 / (w : ℝ) := by unfold inv; rw [min_eq_right h]

/-- A matrix plus itself moved by `sb` rows. -/
def dbl {n L : ℕ} (sb : BitVec 32) (h : (⟨2, ![n, L]⟩ : Shape).Rotates 0 none) (x : FVec Ideal (⟨2, ![n, L]⟩ : Shape) .f32) :
    FVec Ideal (⟨2, ![n, L]⟩ : Shape) .f32 :=
  addf x (dynamicRotate 0 sb none x h)

section Doubling

variable {L : ℕ} (h : (⟨2, ![528, L]⟩ : Shape).Rotates 0 none) (A : ℕ → EReal) (l : Fin L) (x : FVec Ideal (⟨2, ![528, L]⟩ : Shape) .f32)
  (hx : ∀ p : Fin 528, x (ix2 p l) = A p.val)

include hx

theorem up2 (p : Fin 528) (hp : p.val + 2 ≤ 528) : dbl 527#32 h x (ix2 p l) = ∑ j ∈ Finset.range 2, A (p.val + j) :=
  double_up 1 527#32 rfl (by decide) (by decide) A l x h (fun q _ => by rw [hx]; simp) p hp

theorem up4 (p : Fin 528) (hp : p.val + 4 ≤ 528) : dbl 526#32 h (dbl 527#32 h x) (ix2 p l) = ∑ j ∈ Finset.range 4, A (p.val + j) :=
  double_up 2 526#32 rfl (by decide) (by decide) A l _ h (up2 h A l x hx) p hp

theorem up8 (p : Fin 528) (hp : p.val + 8 ≤ 528) :
    dbl 524#32 h (dbl 526#32 h (dbl 527#32 h x)) (ix2 p l) = ∑ j ∈ Finset.range 8, A (p.val + j) :=
  double_up 4 524#32 rfl (by decide) (by decide) A l _ h (up4 h A l x hx) p hp

theorem up16 (p : Fin 528) (hp : p.val + 16 ≤ 528) :
    dbl 520#32 h (dbl 524#32 h (dbl 526#32 h (dbl 527#32 h x))) (ix2 p l) = ∑ j ∈ Finset.range 16, A (p.val + j) :=
  double_up 8 520#32 rfl (by decide) (by decide) A l _ h (up8 h A l x hx) p hp

theorem down2 (p : Fin 528) (hp : 2 ≤ p.val + 1) : dbl 1#32 h x (ix2 p l) = ∑ j ∈ Finset.range 2, A (p.val - j) :=
  double_down 1 1#32 rfl (by decide) (by decide) A l x h (fun q _ => by rw [hx]; simp) p hp

theorem down4 (p : Fin 528) (hp : 4 ≤ p.val + 1) : dbl 2#32 h (dbl 1#32 h x) (ix2 p l) = ∑ j ∈ Finset.range 4, A (p.val - j) :=
  double_down 2 2#32 rfl (by decide) (by decide) A l _ h (down2 h A l x hx) p hp

theorem down8 (p : Fin 528) (hp : 8 ≤ p.val + 1) :
    dbl 4#32 h (dbl 2#32 h (dbl 1#32 h x)) (ix2 p l) = ∑ j ∈ Finset.range 8, A (p.val - j) :=
  double_down 4 4#32 rfl (by decide) (by decide) A l _ h (down4 h A l x hx) p hp

theorem down16 (p : Fin 528) (hp : 16 ≤ p.val + 1) :
    dbl 8#32 h (dbl 4#32 h (dbl 2#32 h (dbl 1#32 h x))) (ix2 p l) = ∑ j ∈ Finset.range 16, A (p.val - j) :=
  double_down 8 8#32 rfl (by decide) (by decide) A l _ h (down8 h A l x hx) p hp

end Doubling

/-! ## The gradient of the window means -/

/-- A finite number is neither infinity. -/
abbrev Fin' (x : EReal) : Prop := x ≠ ⊤ ∧ x ≠ ⊥

/-- A cotangent column over its rows' counts, zero past the last row. -/
def share (ct : (⟨2, ![4096, 512]⟩ : Shape).Idx → EReal) (w : ℕ) (l : Fin 512) (s : ℕ) : EReal :=
  if h : s < 4096 then ct (ix2 ⟨s, h⟩ l) * (inv w s : EReal) else 0

/-- The window of a lane's group: 2, 4, 8 or 16 rows. -/
def wlen (l : ℕ) : ℕ := 2 ^ (l / 128 + 1)

theorem wlen_eq (g : ℕ) {n : ℕ} (h : n / 128 = g) : wlen n = 2 ^ (g + 1) := by unfold wlen; rw [h]

/-- The gradient of the window means: the row's own cotangent taken off the sum over the rows whose window it is in. -/
def grad (ct : (⟨2, ![4096, 512]⟩ : Shape).Idx → EReal) : (⟨2, ![4096, 512]⟩ : Shape).Idx → EReal :=
  fun i => (∑ j ∈ Finset.range (wlen (i 1).val), share ct (wlen (i 1).val) (i 1) ((i 0).val + j)) - ct i

theorem share_fin {ct : (⟨2, ![4096, 512]⟩ : Shape).Idx → EReal} (hct : ∀ i, Fin' (ct i)) (w : ℕ) (l : Fin 512) (s : ℕ) :
    Fin' (share ct w l s) := by
  unfold share
  split
  · next h =>
    rw [← coe_toReal (hct (ix2 ⟨s, h⟩ l)), ← EReal.coe_mul]
    exact ⟨EReal.coe_ne_top _, EReal.coe_ne_bot _⟩
  · exact ⟨EReal.zero_ne_top, EReal.zero_ne_bot⟩

theorem share_ge (ct : (⟨2, ![4096, 512]⟩ : Shape).Idx → EReal) (w : ℕ) (l : Fin 512) {s : ℕ} (h : 4096 ≤ s) : share ct w l s = 0 :=
  dif_neg (Nat.not_lt.mpr h)

theorem share_lt (ct : (⟨2, ![4096, 512]⟩ : Shape).Idx → EReal) (w : ℕ) (l : Fin 512) (s : Fin 4096) :
    share ct w l s.val = ct (ix2 s l) * (inv w s.val : EReal) := dif_pos s.isLt

/-- The plain gradient of one group of lanes: a running sum, from the row to the last, of the cotangent over its count less the same
    `w` rows on. -/
theorem plain (w : ℕ) (hw : 0 < w) (hw' : w ≤ 4096) (ct : (⟨2, ![4096, 512]⟩ : Shape).Idx → EReal) (hct : ∀ i, Fin' (ct i)) (lane : Fin 512)
    (hlane : wlen lane.val = w) (l : Fin 128)
    (h : (⟨2, ![4096, 128]⟩ : Shape).ReduceWindows ![4096, 1] ![1, 1] ![0, 0] ![4095, 0] ⟨2, ![4096, 128]⟩)
    (c : Fin 4096 → EReal) (hc : ∀ s, c s = (((min (s.val + 1) w : ℕ) : ℝ) : EReal)) (y : (⟨2, ![4096, 128]⟩ : Shape).Idx → EReal)
    (hy : ∀ s : Fin 4096, y (ix2 s l) = Ideal.div (ct (ix2 s lane)) (c s)
      + if h : s.val < 4096 - w then -Ideal.div (ct (ix2 ⟨w + s.val, by omega⟩ lane)) (c ⟨w + s.val, by omega⟩) else 0) (t : Fin 4096) :
    -(ct (ix2 t lane)) + Ideal.hostReduceWindowAdd ![4096, 1] ![1, 1] ![0, 0] ![4095, 0] h y 0 (ix2 t l) = grad ct (ix2 t lane) := by
  have e : ∀ s, col y l s = share ct w lane s + -share ct w lane (s + w) := fun s => by
    by_cases hs : s < 4096
    · rw [show col y l s = y (ix2 ⟨s, hs⟩ l) from col_of_lt y l ⟨s, hs⟩, hy, hc, div_count _ _ _ hw,
        show share ct w lane s = ct (ix2 ⟨s, hs⟩ lane) * (inv w s : EReal) from share_lt ct w lane ⟨s, hs⟩]
      congr 1
      by_cases hsw : s < 4096 - w
      · rw [dif_pos hsw, hc, div_count _ _ _ hw, Nat.add_comm s w,
          show share ct w lane (w + s) = _ from share_lt ct w lane ⟨w + s, by omega⟩]
      · rw [dif_neg hsw, share_ge _ _ _ (by omega), neg_zero]
    · rw [col_of_ge _ _ (by omega), share_ge _ _ _ (by omega), share_ge _ _ _ (by omega), neg_zero, add_zero]
  rw [suffix, Finset.sum_congr rfl fun k _ => e (t.val + k),
    diff_window _ 4096 w t.val (share_fin hct w lane) fun s hs => share_ge ct w lane hs, add_comm, ← sub_eq_add_neg]
  show _ = (∑ j ∈ Finset.range (wlen lane.val), share ct (wlen lane.val) lane (t.val + j)) - ct (ix2 t lane)
  rw [hlane]

end Cert.Pool

end
-- ==== Proof.Fine.lean ====
/-
  Finite numbers, read off a precondition: an array whose absolute values are all below infinity is neither infinity anywhere.
-/
module

public import proofs.«01_k».proof.Proof.Pool
public import Idealize.ShloMosaic.Lib.ReduceAll

@[expose] public section

noncomputable section

namespace Cert.Pool

open Idealize.ShloMosaic

theorem inf_bits : Ideal.ofBits .f32 0x7F800000#32 = ⊤ := by simp [Ideal.ofBits, Ideal.ieee]

/-- A number whose absolute value is below infinity is finite. -/
theorem fin_of_abs_lt {x : EReal} (h : FloatOps.cmpf (F := Ideal) (φ := .f32) .olt (FloatOps.absf (F := Ideal) (φ := .f32) x) (Ideal.ofBits .f32 0x7F800000#32) = 1#1) : Fin' x := by
  rw [inf_bits] at h
  have h' : Ideal.cmp .olt (max x (-x)) ⊤ = 1#1 := h
  constructor <;> rintro rfl <;> simp [Ideal.cmp] at h'

/-- The whole array at once. -/
theorem fin_of_all {s t u : Shape} [Subsingleton t.Idx] {axes : List (Fin s.rank)} {x : s.Idx → EReal} {p : s.Idx → BitVec 1} {init : u.Idx → BitVec 1}
    {h : s.ReducesTo axes t} {hu : 0 < u.numel} {j : t.Idx}
    (hp : ∀ i, p i = FloatOps.cmpf (F := Ideal) (φ := .f32) .olt (FloatOps.absf (F := Ideal) (φ := .f32) (x i)) (Ideal.ofBits .f32 0x7F800000#32))
    (e : Host.reduce IntOp.andi p init h hu j = 1#1) (i : s.Idx) : Fin' (x i) :=
  fin_of_abs_lt ((hp i).symm.trans (Host.reduce_andi_all p init h hu j e i))

theorem both {a b : BitVec 1} : IntOp.andi a b = 1#1 → a = 1#1 ∧ b = 1#1 := by revert a b; decide

end Cert.Pool

end
-- ==== Proof.Finite.lean ====
/-
  The finiteness preconditions, read: an array whose absolute values are all below the largest float is neither infinity anywhere.
-/
module

public import proofs.«01_k».proof.Defs
public import proofs.«01_k».proof.Proof.Fine

@[expose] public section

noncomputable section

namespace Cert.Pool

open Idealize.ShloMosaic

theorem finite_dpooled [Cert.Pre_finite_dpooled.Facts] {x0 x1 : (⟨2, ![4096, 512]⟩ : Shape).Idx → EReal}
    (h : Cert.Pre_finite_dpooled.fn (F := Ideal) x0 x1 = fun _ => 1#1) (i : (⟨2, ![4096, 512]⟩ : Shape).Idx) : Fin' (x1 i) :=
  fin_of_abs_lt (congrFun h i)

theorem finite_u [Cert.Pre_finite_u.Facts] {x0 x1 : (⟨2, ![4096, 512]⟩ : Shape).Idx → EReal} {x2 : FVec Ideal Cert.Pre_finite_u.S4x128x128 .f32}
    {x3 : FVec Ideal Cert.Pre_finite_u.S512 .f32} (h : Cert.Pre_finite_u.fn (F := Ideal) x0 x1 x2 x3 = fun _ => 1#1) (i : (⟨2, ![4096, 512]⟩ : Shape).Idx) : Fin' (x0 i) :=
  fin_of_abs_lt (congrFun h i)

end Cert.Pool

end
-- ==== Proof.PoolUKer.lean ====
/-
  The kernel's gradient of the window means (`PoolUIdeal`): each block of 512 rows, over the 16 rows after it, doubled up to the
  window's length, is `Pool.grad` of the cotangent at the block's rows.
-/
module

public import proofs.«01_k».proof.Proof.Pool
public import proofs.«01_k».proof.Proof.Gen.PoolUIdeal.Value
public import Idealize.ShloMosaic.Lib.Pipeline.ValueKit

@[expose] public section

set_option maxRecDepth 16384

noncomputable section

namespace Cert.PoolUIdeal.KerValue

open Cert.PoolUIdeal Cert.PoolUIdeal.Gen Idealize.ShloMosaic Idealize.ShloMosaic.TcCoe Cert.Pool

/-- The rows of a block over the rows of its halo. -/
def cat (v : FVec Ideal S512x128 .f32) (h : FVec Ideal S16x128 .f32) : FVec Ideal S528x128 .f32 :=
  concatenate S528x128 0 [⟨S512x128, v⟩, ⟨S16x128, h⟩] concatenates_S512x128_S16x128_S528x128_d0

theorem cat_apply (v : FVec Ideal S512x128 .f32) (h : FVec Ideal S16x128 .f32) (p : Fin 528) (l : Fin 128) :
    cat v h (ix2 p l) = if hp : p.val < 512 then v (ix2 ⟨p.val, hp⟩ l) else h (ix2 ⟨p.val - 512, by omega⟩ l) := by
  pointwise [cat]

/-- Block `k`'s rows over their counts, then the next sixteen over the full window: the cotangent's shares from row `512 k` on. -/
theorem cat_share (w : ℕ) (hw : 0 < w) (hw' : w ≤ 16) (ct : S4096x512.Idx → EReal) (k : ℕ) (hk : k < 8) (lane : Fin 512)
    (v : FVec Ideal S512x128 .f32) (h : FVec Ideal S16x128 .f32) (l : Fin 128)
    (hv : ∀ r : Fin 512, v (ix2 r l) = ct (ix2 ⟨512 * k + r.val, by omega⟩ lane) * (inv w (512 * k + r.val) : EReal))
    (hh : ∀ p : Fin 16, h (ix2 p l) = (if h7 : k < 7 then ct (ix2 ⟨512 * k + 512 + p.val, by omega⟩ lane) else 0) * ((1 / (w : ℝ) : ℝ) : EReal))
    (p : Fin 528) : cat v h (ix2 p l) = share ct w lane (512 * k + p.val) := by
  rw [cat_apply]
  split
  · next hp => exact (hv _).trans (share_lt ct w lane ⟨512 * k + p.val, by omega⟩).symm
  · next hp =>
    rw [hh]
    split
    · next h7 =>
      have e := share_lt ct w lane ⟨512 * k + p.val, by omega⟩
      rw [inv_full (by show w ≤ 512 * k + p.val + 1; omega)] at e
      rw [show share ct w lane (512 * k + p.val) = _ from e]
      congr 3
      ext
      show 512 * k + 512 + (p.val - 512) = 512 * k + p.val
      omega
    · rw [zero_mul, share_ge _ _ _ (by omega)]

/-- The row of a block, in words. -/
theorem row_word (i : grid0.Coords) (r : Fin 512) :
    IntOp.addi (Scalar.muli (BitVec.ofNat 32 (i 0).val) 512#32) (BitVec.ofNat 32 r.val) = BitVec.ofNat 32 (512 * (i 0).val + r.val) := by
  rw [Nat.mul_comm, BitVec.ofNat_add, BitVec.ofNat_mul]
  rfl

theorem count_row (i : grid0.Coords) (r : Fin 512) (w : ℕ) (hw : 0 < w) (hw' : w < 2 ^ 30) :
    Ideal.div 1 (FloatOps.sitofp (F := Ideal) .f32 (IntOp.minsi (IntOp.addi (IntOp.addi (Scalar.muli (BitVec.ofNat 32 (i 0).val) 512#32) (BitVec.ofNat 32 r.val)) 1#32) (BitVec.ofNat 32 w)))
      = (inv w (512 * (i 0).val + r.val) : EReal) := by
  have hi : (i 0).val < 8 := (i 0).isLt
  rw [row_word, count _ _ (by omega) hw', div_one_count _ _ hw]

theorem inv4 (i : grid0.Coords) (r : Fin 512) : k0_pay4 (F := Ideal) i (ix2 r 0) = (inv 4 (512 * (i 0).val + r.val) : EReal) := by
  rw [← count_row i r 4 (by decide) (by decide)]
  pointwise [k0_pay4, k0_pay3]

theorem inv8 (i : grid0.Coords) (r : Fin 512) : k0_pay5 (F := Ideal) i (ix2 r 0) = (inv 8 (512 * (i 0).val + r.val) : EReal) := by
  rw [← count_row i r 8 (by decide) (by decide)]
  pointwise [k0_pay5, k0_pay3]

theorem inv16 (i : grid0.Coords) (r : Fin 512) : k0_pay6 (F := Ideal) i (ix2 r 0) = (inv 16 (512 * (i 0).val + r.val) : EReal) := by
  rw [← count_row i r 16 (by decide) (by decide)]
  pointwise [k0_pay6, k0_pay3]

theorem half : Ideal.ofBits .f32 0x3F000000#32 = ((1 / ((2 : ℕ) : ℝ) : ℝ) : EReal) := by
  simp [Ideal.ofBits, Ideal.ieee]; rw [← EReal.coe_mul]; norm_num
theorem quarter : Ideal.ofBits .f32 0x3E800000#32 = ((1 / ((4 : ℕ) : ℝ) : ℝ) : EReal) := by
  simp [Ideal.ofBits, Ideal.ieee]; rw [← EReal.coe_mul]; norm_num
theorem eighth : Ideal.ofBits .f32 0x3E000000#32 = ((1 / ((8 : ℕ) : ℝ) : ℝ) : EReal) := by
  simp [Ideal.ofBits, Ideal.ieee]; rw [← EReal.coe_mul]; norm_num
theorem sixteenth : Ideal.ofBits .f32 0x3D800000#32 = ((1 / ((16 : ℕ) : ℝ) : ℝ) : EReal) := by
  simp [Ideal.ofBits, Ideal.ieee]; rw [← EReal.coe_mul]; norm_num

section Block

variable (ct : S4096x512.Idx → EReal) (i : grid0.Coords) (x0 : Vec Ideal S512x512 .f32) (x1 : FVec Ideal S16x512 .f32)
  (h0 : ∀ (r : Fin 512) (l : Fin 512), x0 (ix2 r l) = ct (ix2 ⟨512 * (i 0).val + r.val, by have : (i 0).val < 8 := (i 0).isLt; omega⟩ l))
  (h1 : ∀ (p : Fin 16) (l : Fin 512), x1 (ix2 p l)
    = if h7 : (i 0).val < 7 then ct (ix2 ⟨512 * (i 0).val + 512 + p.val, by omega⟩ l) else 0)

include h0

/-- A block's result at a row, from the doubled matrix at it. -/
theorem finish (w : ℕ) (lane : Fin 512) (hlane : wlen lane.val = w) (r : Fin 512) (s : EReal)
    (hs : s = ∑ j ∈ Finset.range w, share ct w lane (512 * (i 0).val + (r.val + j))) :
    s - x0 (ix2 r lane) = grad ct (ix2 ⟨512 * (i 0).val + r.val, by have : (i 0).val < 8 := (i 0).isLt; omega⟩ lane) := by
  rw [hs, h0]
  show _ = (∑ j ∈ Finset.range (wlen lane.val), share ct (wlen lane.val) lane (512 * (i 0).val + r.val + j)) - _
  rw [hlane]
  simp only [Nat.add_assoc]

include h1

theorem group2 (r : Fin 512) (l : Fin 128) :
    k0_pay9 (F := Ideal) x1 (k0_pay7 x0) (k0_pay8 i x0) (ix2 r l) = grad ct (ix2 ⟨512 * (i 0).val + r.val, by have : (i 0).val < 8 := (i 0).isLt; omega⟩ ⟨l.val, by omega⟩) := by
  have hi : (i 0).val < 8 := (i 0).isLt
  obtain ⟨own, hal, e, ho, hh⟩ : ∃ own hal, k0_pay9 (F := Ideal) x1 (k0_pay7 x0) (k0_pay8 i x0) = truncf .bf16 (subf (extractStridedSlice S512x128 ![0, 0]
      (dbl 527#32 rotates_S528x128_d0 (cat own hal)) slices_S528x128_o0_0_S512x128)
      (extractStridedSlice S512x128 ![0, 0] x0 slices_S512x512_o0_0_S512x128)) bitsLt_bf16_f32
      ∧ (∀ q : Fin 512, own (ix2 q l) = x0 (ix2 q ⟨l.val, by omega⟩) * (inv 2 (512 * (i 0).val + q.val) : EReal))
      ∧ ∀ p : Fin 16, hal (ix2 p l) = x1 (ix2 p ⟨l.val, by omega⟩) * ((1 / ((2 : ℕ) : ℝ) : ℝ) : EReal) := by
    refine ⟨_, _, rfl, fun q => ?_, fun p => ?_⟩
    · rw [← count_row i q 2 (by decide) (by decide)]
      pointwise [k0_pay8, k0_pay7, k0_pay3]
    · rw [← half]
      pointwise []
  rw [e, ← finish ct i x0 h0 2 ⟨l.val, by omega⟩ (wlen_eq 0 (by show (l.val) / 128 = 0; omega)) r _
    (up2 rotates_S528x128_d0 (fun p => share ct 2 ⟨l.val, by omega⟩ (512 * (i 0).val + p)) l _
      (cat_share 2 (by decide) (by decide) ct (i 0).val hi ⟨l.val, by omega⟩ own hal l (fun q => by rw [ho, h0]) fun p => by rw [hh, h1])
      ⟨r.val, by omega⟩ (by show r.val + 2 ≤ 528; omega))]
  pointwise []

theorem group4 (r : Fin 512) (l : Fin 128) :
    k0_pay10 (F := Ideal) x0 x1 (k0_pay4 i) (ix2 r l) = grad ct (ix2 ⟨512 * (i 0).val + r.val, by have : (i 0).val < 8 := (i 0).isLt; omega⟩ ⟨128 + l.val, by omega⟩) := by
  have hi : (i 0).val < 8 := (i 0).isLt
  obtain ⟨own, hal, e, ho, hh⟩ : ∃ own hal, k0_pay10 (F := Ideal) x0 x1 (k0_pay4 i) = truncf .bf16 (subf (extractStridedSlice S512x128 ![0, 0]
      (dbl 526#32 rotates_S528x128_d0 (dbl 527#32 rotates_S528x128_d0 (cat own hal))) slices_S528x128_o0_0_S512x128)
      (extractStridedSlice S512x128 ![0, 128] x0 slices_S512x512_o0_128_S512x128)) bitsLt_bf16_f32
      ∧ (∀ q : Fin 512, own (ix2 q l) = x0 (ix2 q ⟨128 + l.val, by omega⟩) * (inv 4 (512 * (i 0).val + q.val) : EReal))
      ∧ ∀ p : Fin 16, hal (ix2 p l) = x1 (ix2 p ⟨128 + l.val, by omega⟩) * ((1 / ((4 : ℕ) : ℝ) : ℝ) : EReal) := by
    refine ⟨_, _, rfl, fun q => ?_, fun p => ?_⟩
    · rw [← inv4]
      pointwise []
    · rw [← quarter]
      pointwise []
  rw [e, ← finish ct i x0 h0 4 ⟨128 + l.val, by omega⟩ (wlen_eq 1 (by show (128 + l.val) / 128 = 1; omega)) r _
    (up4 rotates_S528x128_d0 (fun p => share ct 4 ⟨128 + l.val, by omega⟩ (512 * (i 0).val + p)) l _
      (cat_share 4 (by decide) (by decide) ct (i 0).val hi ⟨128 + l.val, by omega⟩ own hal l (fun q => by rw [ho, h0]) fun p => by rw [hh, h1])
      ⟨r.val, by omega⟩ (by show r.val + 4 ≤ 528; omega))]
  pointwise []

theorem group8 (r : Fin 512) (l : Fin 128) :
    k0_pay11 (F := Ideal) x0 x1 (k0_pay5 i) (ix2 r l) = grad ct (ix2 ⟨512 * (i 0).val + r.val, by have : (i 0).val < 8 := (i 0).isLt; omega⟩ ⟨256 + l.val, by omega⟩) := by
  have hi : (i 0).val < 8 := (i 0).isLt
  obtain ⟨own, hal, e, ho, hh⟩ : ∃ own hal, k0_pay11 (F := Ideal) x0 x1 (k0_pay5 i) = truncf .bf16 (subf (extractStridedSlice S512x128 ![0, 0]
      (dbl 524#32 rotates_S528x128_d0 (dbl 526#32 rotates_S528x128_d0 (dbl 527#32 rotates_S528x128_d0 (cat own hal)))) slices_S528x128_o0_0_S512x128)
      (extractStridedSlice S512x128 ![0, 256] x0 slices_S512x512_o0_256_S512x128)) bitsLt_bf16_f32
      ∧ (∀ q : Fin 512, own (ix2 q l) = x0 (ix2 q ⟨256 + l.val, by omega⟩) * (inv 8 (512 * (i 0).val + q.val) : EReal))
      ∧ ∀ p : Fin 16, hal (ix2 p l) = x1 (ix2 p ⟨256 + l.val, by omega⟩) * ((1 / ((8 : ℕ) : ℝ) : ℝ) : EReal) := by
    refine ⟨_, _, rfl, fun q => ?_, fun p => ?_⟩
    · rw [← inv8]
      pointwise []
    · rw [← eighth]
      pointwise []
  rw [e, ← finish ct i x0 h0 8 ⟨256 + l.val, by omega⟩ (wlen_eq 2 (by show (256 + l.val) / 128 = 2; omega)) r _
    (up8 rotates_S528x128_d0 (fun p => share ct 8 ⟨256 + l.val, by omega⟩ (512 * (i 0).val + p)) l _
      (cat_share 8 (by decide) (by decide) ct (i 0).val hi ⟨256 + l.val, by omega⟩ own hal l (fun q => by rw [ho, h0]) fun p => by rw [hh, h1])
      ⟨r.val, by omega⟩ (by show r.val + 8 ≤ 528; omega))]
  pointwise []

theorem group16 (r : Fin 512) (l : Fin 128) :
    k0_pay1 (F := Ideal) x0 x1 (k0_pay6 i) (ix2 r l) = grad ct (ix2 ⟨512 * (i 0).val + r.val, by have : (i 0).val < 8 := (i 0).isLt; omega⟩ ⟨384 + l.val, by omega⟩) := by
  have hi : (i 0).val < 8 := (i 0).isLt
  obtain ⟨own, hal, e, ho, hh⟩ : ∃ own hal, k0_pay1 (F := Ideal) x0 x1 (k0_pay6 i) = truncf .bf16 (subf (extractStridedSlice S512x128 ![0, 0]
      (dbl 520#32 rotates_S528x128_d0 (dbl 524#32 rotates_S528x128_d0 (dbl 526#32 rotates_S528x128_d0 (dbl 527#32 rotates_S528x128_d0 (cat own hal))))) slices_S528x128_o0_0_S512x128)
      (extractStridedSlice S512x128 ![0, 384] x0 slices_S512x512_o0_384_S512x128)) bitsLt_bf16_f32
      ∧ (∀ q : Fin 512, own (ix2 q l) = x0 (ix2 q ⟨384 + l.val, by omega⟩) * (inv 16 (512 * (i 0).val + q.val) : EReal))
      ∧ ∀ p : Fin 16, hal (ix2 p l) = x1 (ix2 p ⟨384 + l.val, by omega⟩) * ((1 / ((16 : ℕ) : ℝ) : ℝ) : EReal) := by
    refine ⟨_, _, rfl, fun q => ?_, fun p => ?_⟩
    · rw [← inv16]
      pointwise []
    · rw [← sixteenth]
      pointwise []
  rw [e, ← finish ct i x0 h0 16 ⟨384 + l.val, by omega⟩ (wlen_eq 3 (by show (384 + l.val) / 128 = 3; omega)) r _
    (up16 rotates_S528x128_d0 (fun p => share ct 16 ⟨384 + l.val, by omega⟩ (512 * (i 0).val + p)) l _
      (cat_share 16 (by decide) (by decide) ct (i 0).val hi ⟨384 + l.val, by omega⟩ own hal l (fun q => by rw [ho, h0]) fun p => by rw [hh, h1])
      ⟨r.val, by omega⟩ (by show r.val + 16 ≤ 528; omega))]
  pointwise []

end Block

/-- The halo the body reads: the staged rows, or zero at the last block. -/
theorem halo_apply (i : grid0.Coords) (x0 : Vec Ideal S512x512 .f32) (x1 : Vec Ideal S16x512 .f32) (p : Fin 16) (l : Fin 512) :
    k0_pay12 (F := Ideal) i x0 x1 (ix2 p l) = if (i 0).val < 7 then x1 (ix2 p l) else 0 := by
  have hi : (i 0).val < 8 := (i 0).isLt
  have e : k0_pay12 (F := Ideal) i x0 x1 (ix2 p l) = Scalar.select (Scalar.cmpi .eq (BitVec.ofNat 32 (i 0).val) 7#32) 0 (x1 (ix2 p l)) := by
    unfold k0_pay12
    frame_out
    pointwise [k0_pay2]
  rw [e]
  generalize (i 0).val = k at hi ⊢
  interval_cases k <;> rfl

variable (m : (ℓ : Loc nD τ sig) → Buf (Elt Ideal) ℓ) (c : Dev nD)

theorem idx : ∀ t : Fin cfg0.N, win0_0.index t = ![(grid0.coords t 0).val, 0]
    ∧ win0_1.index t = ![min (32 * (grid0.coords t 0).val + 32) 255, 0] ∧ win0_2.index t = ![(grid0.coords t 0).val, 0] :=
  (by decide +kernel : ∀ t : Fin grid0.N, _)

/-- The cotangent the kernel is given. -/
abbrev arg : S4096x512.Idx → EReal := m ((c : Thread nD τ).loc main_arg1)

theorem own_rows (t : Fin cfg0.N) (r : Fin 512) (l : Fin 512) :
    iblk m c 0 t (ix2 r l) = arg m c (ix2 ⟨512 * (grid0.coords t 0).val + r.val, by have : (grid0.coords t 0).val < 8 := (grid0.coords t 0).isLt; omega⟩ l) := by
  blk_simp [iblk]
  refine congrArg (m _) ?_
  blk_ext [(idx t).1]

theorem halo_rows (t : Fin cfg0.N) (p : Fin 16) (l : Fin 512) :
    k0_pay12 (F := Ideal) (grid0.coords t) (iblk m c 0 t) (iblk m c 1 t) (ix2 p l)
      = if h7 : (grid0.coords t 0).val < 7 then arg m c (ix2 ⟨512 * (grid0.coords t 0).val + 512 + p.val, by omega⟩ l) else 0 := by
  rw [halo_apply]
  split
  · blk_simp [iblk]
    refine congrArg (m _) ?_
    blk_ext [(idx t).2.1]
  · rfl

/-- A value of the gradient at a block's place, stated at any index of the block that is that place. -/
theorem piece (t : Fin cfg0.N) (x : S512x128.Idx) {P : S512x128.Idx → EReal} {lane : Fin 512}
    (h : P (ix2 (x 0) (x 1)) = grad (arg m c)
      (ix2 ⟨512 * (grid0.coords t 0).val + (x 0).val, by have : (grid0.coords t 0).val < 8 := (grid0.coords t 0).isLt; have : (x 0).val < 512 := (x 0).isLt; omega⟩ lane))
    (y : S512x512.Idx) (hy0 : (y 0).val = 0 + 1 * (x 0).val) (hy1 : lane.val = (y 1).val) :
    P x = grad (arg m c)
      (ix2 ⟨512 * (grid0.coords t 0).val + (y 0).val, by have : (grid0.coords t 0).val < 8 := (grid0.coords t 0).isLt; have : (y 0).val < 512 := (y 0).isLt; omega⟩ (y 1)) := by
  refine (congrArg P (eq_ix2 x)).trans (h.trans ?_)
  refine congrArg _ ((ix2_inj _ _ _ _).2 ⟨Fin.ext ?_, Fin.ext hy1⟩)
  show _ + _ = _ + (y 0).val
  omega

/-- The kernel's result is the gradient of the window means. -/
theorem final : (dats m 0 c).arrAt 2 cfg0.N = grad (arg m c) := by
  refine (dats m 0 c).arrAt_eq_of_covers 2 _ (by decide +kernel) fun t hf y => ?_
  blk_simp
  rw [after0_2]
  have hi : (grid0.coords t 0).val < 8 := (grid0.coords t 0).isLt
  frame_out
  refine (View.canon_apply_of_pieces (Val := Elt Ideal) (e := .bf16) (fun y : S512x512.Idx => grad (arg m c)
    (ix2 ⟨512 * (grid0.coords t 0).val + (y 0).val, by have : (y 0).val < 512 := (y 0).isLt; omega⟩ (y 1))) _ ?_ y (cover0_2 _ _ _ _ y)).trans ?_
  · intro p hp x
    simp only [List.mem_cons, List.not_mem_nil, or_false] at hp
    rcases hp with rfl | rfl | rfl | rfl
    · exact piece m c t x (group16 (arg m c) _ _ _ (own_rows m c t) (halo_rows m c t) (x 0) (x 1)) _ rfl (by show 384 + (x 1).val = 384 + 1 * (x 1).val; omega)
    · exact piece m c t x (group8 (arg m c) _ _ _ (own_rows m c t) (halo_rows m c t) (x 0) (x 1)) _ rfl (by show 256 + (x 1).val = 256 + 1 * (x 1).val; omega)
    · exact piece m c t x (group4 (arg m c) _ _ _ (own_rows m c t) (halo_rows m c t) (x 0) (x 1)) _ rfl (by show 128 + (x 1).val = 128 + 1 * (x 1).val; omega)
    · exact piece m c t x (group2 (arg m c) _ _ _ (own_rows m c t) (halo_rows m c t) (x 0) (x 1)) _ rfl (by show (x 1).val = 0 + 1 * (x 1).val; omega)
  · refine congrArg _ ?_
    blk_ext [(idx t).2.2]

end Cert.PoolUIdeal.KerValue

end
-- ==== Proof.PoolURef.lean ====
/-
  The plain gradient of the window means (`PoolURefIdeal`) is `Pool.grad` of the cotangent, where the cotangent is finite.
-/
module

public import proofs.«01_k».proof.Proof.Pool
public import proofs.«01_k».proof.Proof.Gen.PoolURefIdeal.Run
public import proofs.«01_k».proof.Proof.Gen.PoolURefIdeal.Read
public import Idealize.ShloMosaic.Lib.Pipeline.ValueKit

@[expose] public section

set_option maxRecDepth 16384

noncomputable section

namespace Cert.PoolURefIdeal.RefValue

open Cert.PoolURefIdeal Cert.PoolURefIdeal.Gen Cert.PoolURefIdeal.Read Idealize.ShloMosaic Cert.Pool

variable (x1 : (⟨S4096x512, .f32⟩ : BufTy).Contents (Elt Ideal)) (hx : ∀ i, Fin' (x1 i))

theorem c2 (t : Fin 4096) : val_main_v13 (F := Ideal) (ix1 t) = (((min (t.val + 1) 2 : ℕ) : ℝ) : EReal) := count t.val 2 (by omega) (by decide)
theorem c4 (t : Fin 4096) : val_main_v30 (F := Ideal) (ix1 t) = (((min (t.val + 1) 4 : ℕ) : ℝ) : EReal) := count t.val 4 (by omega) (by decide)
theorem c8 (t : Fin 4096) : val_main_v47 (F := Ideal) (ix1 t) = (((min (t.val + 1) 8 : ℕ) : ℝ) : EReal) := count t.val 8 (by omega) (by decide)
theorem c16 (t : Fin 4096) : val_main_v64 (F := Ideal) (ix1 t) = (((min (t.val + 1) 16 : ℕ) : ℝ) : EReal) := count t.val 16 (by omega) (by decide)

/-- The host's running sum from a row to the last, started at the zero constant. -/
theorem suffix_eq (x : FVec Ideal S4096x128 .f32) (v : FVec Ideal S_ .f32) (hv : ∀ i, v i = 0) (i : S4096x128.Idx) :
    Host.reduceWindowAdd ![4096, 1] ![1, 1] ![0, 0] ![4095, 0] x v reduceWindows_S4096x128_S4096x128_w4096s1p0_4095_w1s1p0_0 h_S_ i
      = Ideal.hostReduceWindowAdd ![4096, 1] ![1, 1] ![0, 0] ![4095, 0] reduceWindows_S4096x128_S4096x128_w4096s1p0_4095_w1s1p0_0 x 0 i := by
  rw [← hv (Shape.Idx.first h_S_)]
  rfl

include hx

theorem g2 (t : Fin 4096) (l : Fin 128) : val_main_v131 (F := Ideal) x1 (ix2 t l) = grad x1 (ix2 t ⟨l.val, by omega⟩) := by
  refine Eq.trans ?_ (plain 2 (by decide) (by decide) x1 hx ⟨l.val, by omega⟩ (wlen_eq 0 (by show (l.val) / 128 = 0; omega)) l
    reduceWindows_S4096x128_S4096x128_w4096s1p0_4095_w1s1p0_0 (fun s => val_main_v13 (F := Ideal) (ix1 s)) c2 (val_main_v129 (F := Ideal) x1)
    (fun s => by pointwise [val_main_v129, val_main_v128, val_main_v127, val_main_v125, val_main_v124, val_main_v123, val_main_v77, val_main_v76, val_main_v75, val_main_v14, val_main_cst_20]) t)
  pointwise [val_main_v131, val_main_v130, val_main_v122, val_main_v77, val_main_v76, val_main_v75]
  rw [suffix_eq _ _ fun i => by pointwise [val_main_call7_call0_v0, val_main_call7_call0_cst]]

theorem g4 (t : Fin 4096) (l : Fin 128) : val_main_v118 (F := Ideal) x1 (ix2 t l) = grad x1 (ix2 t ⟨128 + l.val, by omega⟩) := by
  refine Eq.trans ?_ (plain 4 (by decide) (by decide) x1 hx ⟨128 + l.val, by omega⟩ (wlen_eq 1 (by show (128 + l.val) / 128 = 1; omega)) l
    reduceWindows_S4096x128_S4096x128_w4096s1p0_4095_w1s1p0_0 (fun s => val_main_v30 (F := Ideal) (ix1 s)) c4 (val_main_v116 (F := Ideal) x1)
    (fun s => by pointwise [val_main_v116, val_main_v115, val_main_v114, val_main_v112, val_main_v111, val_main_v110, val_main_v79, val_main_v78, val_main_v75, val_main_v31, val_main_cst_18]) t)
  pointwise [val_main_v118, val_main_v117, val_main_v109, val_main_v79, val_main_v78, val_main_v75]
  rw [suffix_eq _ _ fun i => by pointwise [val_main_call6_call0_v0, val_main_call6_call0_cst]]

theorem g8 (t : Fin 4096) (l : Fin 128) : val_main_v105 (F := Ideal) x1 (ix2 t l) = grad x1 (ix2 t ⟨256 + l.val, by omega⟩) := by
  refine Eq.trans ?_ (plain 8 (by decide) (by decide) x1 hx ⟨256 + l.val, by omega⟩ (wlen_eq 2 (by show (256 + l.val) / 128 = 2; omega)) l
    reduceWindows_S4096x128_S4096x128_w4096s1p0_4095_w1s1p0_0 (fun s => val_main_v47 (F := Ideal) (ix1 s)) c8 (val_main_v103 (F := Ideal) x1)
    (fun s => by pointwise [val_main_v103, val_main_v102, val_main_v101, val_main_v99, val_main_v98, val_main_v97, val_main_v81, val_main_v80, val_main_v75, val_main_v48, val_main_cst_16]) t)
  pointwise [val_main_v105, val_main_v104, val_main_v96, val_main_v81, val_main_v80, val_main_v75]
  rw [suffix_eq _ _ fun i => by pointwise [val_main_call5_call0_v0, val_main_call5_call0_cst]]

theorem g16 (t : Fin 4096) (l : Fin 128) : val_main_v93 (F := Ideal) x1 (ix2 t l) = grad x1 (ix2 t ⟨384 + l.val, by omega⟩) := by
  refine Eq.trans ?_ (plain 16 (by decide) (by decide) x1 hx ⟨384 + l.val, by omega⟩ (wlen_eq 3 (by show (384 + l.val) / 128 = 3; omega)) l
    reduceWindows_S4096x128_S4096x128_w4096s1p0_4095_w1s1p0_0 (fun s => val_main_v64 (F := Ideal) (ix1 s)) c16 (val_main_v91 (F := Ideal) x1)
    (fun s => by pointwise [val_main_v91, val_main_v90, val_main_v89, val_main_v87, val_main_v86, val_main_v85, val_main_v83, val_main_v82, val_main_v75, val_main_v65, val_main_cst_14]) t)
  pointwise [val_main_v93, val_main_v92, val_main_v84, val_main_v83, val_main_v82, val_main_v75]
  rw [suffix_eq _ _ fun i => by pointwise [val_main_call4_call0_v0, val_main_call4_call0_cst]]

theorem out (t : Fin 4096) (l : Fin 512) : val_main_v136 (F := Ideal) x1 (ix2 t l) = grad x1 (ix2 t l) := by
  pointwise [val_main_v136, val_main_v135, val_main_v134, val_main_v133, val_main_v132, val_main_v121, val_main_v120, val_main_v119, val_main_v108, val_main_v107, val_main_v106, val_main_v95, val_main_v94, val_main_cst_15, val_main_cst_17, val_main_cst_19, val_main_cst_21, g2 x1 hx, g4 x1 hx, g8 x1 hx, g16 x1 hx]
  have hl := l.isLt
  split_ifs with a b c d <;> first
    | omega
    | (simp only [zero_add, add_zero]; congr 2; ext; simp only; omega)

end Cert.PoolURefIdeal.RefValue

end
-- ==== Proof.PoolU.lean ====
/-
  The claims of the window means' gradient.
-/
module

public import proofs.«01_k».proof.Proof.Finite
public import proofs.«01_k».proof.Proof.Gen.Pre_finite_dpooled
public import proofs.«01_k».proof.Proof.PoolUKer
public import proofs.«01_k».proof.Proof.PoolURef
public import Idealize.ShloMosaic.Lib.Claim

@[expose] public section

set_option maxRecDepth 16384

noncomputable section

namespace Cert.Proof.PoolUClaims

open Idealize.ShloMosaic Idealize.ShloMosaic.TcCoe Idealize.SL.Sem Cert.Pool

open Cert.PoolURefIdeal in
/-- The plain program's result is the gradient of the window means. -/
theorem ref_final (m : (ℓ : Loc nD τ sig) → Buf (Elt Ideal) ℓ) (c : Dev nD)
    (hx : ∀ i, Fin' ((m ((c : Thread nD τ).loc main_arg1) : (⟨2, ![4096, 512]⟩ : Shape).Idx → EReal) i)) :
    Value.res_out0 m c = grad (m ((c : Thread nD τ).loc main_arg1)) := by
  refine (Read.val_main_v136_eq m c).symm.trans ?_
  funext i
  refine (congrArg _ (eq_ix2 i)).trans ((RefValue.out _ hx (i 0) (i 1)).trans (congrArg _ (eq_ix2 i).symm))

/-- The kernel's gradient of the window means is the derivative of the plain ones, wherever the cotangent is finite. -/
theorem algebraic : Cert.algebraic_PoolUIdeal_PoolURefIdeal_pre_finite_dpooled := by
  intro m g m' g' hpre hag
  refine ⟨fun c => (PoolUIdeal.Gen.dats m 0 c).arrAt 2 PoolUIdeal.cfg0.N, PoolUIdeal.Value.run_blocks m g, ?_⟩
  refine (θ_run _ _ _).mono (fun r h c => ?_) (PoolURefIdeal.Value.run m' g')
  refine ⟨(h c).1.trans ?_, (h c).2⟩
  show _ = (PoolUIdeal.Gen.dats m 0 c).arrAt 2 PoolUIdeal.cfg0.N
  rw [PoolUIdeal.KerValue.final]
  refine (ref_final m' c fun i => ?_).trans ?_
  · rw [(hag c).2]
    exact finite_dpooled (hpre c) i
  · rw [(hag c).2]

end Cert.Proof.PoolUClaims

end
-- ==== Proof.PoolW0.lean ====
/-
  The pool mixer's weight gradients, in numbers: the window means themselves (`means`), and the three gradients through the
  per-head product and the scale (`dPooled`, `dWeight`, `dScale`).
-/
module

public import proofs.«01_k».proof.Proof.Pool

@[expose] public section

noncomputable section

namespace Cert.Pool

open Idealize.ShloMosaic Cert.Win

/-- Rows by lanes. -/
abbrev Mat := (⟨2, ![4096, 512]⟩ : Shape).Idx → EReal

/-- The sum over the window ending at row `s`. -/
def window (u : Mat) (w : ℕ) (l : Fin 512) (s : ℕ) : EReal := ∑ j ∈ Finset.range w, if j ≤ s then col u l (s - j) else 0

/-- The window means less the row itself. -/
def means (u : Mat) : Mat := fun i => window u (wlen (i 1).val) (i 1) (i 0).val * (inv (wlen (i 1).val) (i 0).val : EReal) - u i

/-- Lane `d` of group `g`. -/
abbrev lane (g : Fin 4) (d : Fin 128) : Fin 512 := ⟨g.val * 128 + d.val, by omega⟩

theorem wlen_lane (g : Fin 4) (d : Fin 128) : wlen (lane g d).val = 2 ^ (g.val + 1) := wlen_eq g.val (by show (g.val * 128 + d.val) / 128 = _; omega)

/-- The gradient reaching the window means. -/
def dPooled (dy : Mat) (W : (⟨3, ![4, 128, 128]⟩ : Shape).Idx → EReal) (sc : Fin 512 → EReal) (t : Fin 4096) (g : Fin 4) (d : Fin 128) : EReal :=
  ∑ e : Fin 128, dy (ix2 t (lane g e)) * sc (lane g e) * W (ix3 g d e)

/-- What row `t` adds to the per-head product's gradient. -/
def dWeightAt (u dy : Mat) (sc : Fin 512 → EReal) (g : Fin 4) (d e : Fin 128) (t : Fin 4096) : EReal :=
  means u (ix2 t (lane g d)) * (dy (ix2 t (lane g e)) * sc (lane g e))

/-- What row `t` adds to the scale's gradient. -/
def dScaleAt (u dy : Mat) (W : (⟨3, ![4, 128, 128]⟩ : Shape).Idx → EReal) (g : Fin 4) (d : Fin 128) (t : Fin 4096) : EReal :=
  dy (ix2 t (lane g d)) * ∑ e : Fin 128, means u (ix2 t (lane g e)) * W (ix3 g e d)

theorem col_fin {u : Mat} (hu : ∀ i, Fin' (u i)) (l : Fin 512) (s : ℕ) : Fin' (col u l s) := by
  unfold col
  split
  · exact hu _
  · exact ⟨EReal.zero_ne_top, EReal.zero_ne_bot⟩

/-- The plain window means of one group of lanes: the running sum less itself `w` rows before, over the count, less the row. -/
theorem plain_means (w : ℕ) (hw : 0 < w) (u : Mat) (hu : ∀ i, Fin' (u i)) (ln : Fin 512) (hln : wlen ln.val = w) (l : Fin 128)
    (h : (⟨2, ![4096, 128]⟩ : Shape).ReduceWindows ![4096, 1] ![1, 1] ![4095, 0] ![0, 0] ⟨2, ![4096, 128]⟩)
    (y : (⟨2, ![4096, 128]⟩ : Shape).Idx → EReal) (hy : ∀ s : Fin 4096, y (ix2 s l) = u (ix2 s ln)) (t : Fin 4096)
    (c : EReal) (hc : c = (((min (t.val + 1) w : ℕ) : ℝ) : EReal)) :
    Ideal.div (Ideal.hostReduceWindowAdd ![4096, 1] ![1, 1] ![4095, 0] ![0, 0] h y 0 (ix2 t l)
      - (if t.val < w then 0 else Ideal.hostReduceWindowAdd ![4096, 1] ![1, 1] ![4095, 0] ![0, 0] h y 0 (ix2 ⟨t.val - w, by omega⟩ l))) c - u (ix2 t ln)
      = means u (ix2 t ln) := by
  have e : ∀ s, col y l s = col u ln s := fun s => by
    unfold col
    split
    · exact hy _
    · rfl
  rw [hc, div_count _ _ _ hw, prefix_sum, prefix_sum]
  simp only [e]
  rw [prefix_diff _ w t.val (col_fin hu ln) hw]
  show _ = window u (wlen ln.val) ln t.val * (inv (wlen ln.val) t.val : EReal) - _
  rw [hln]
  rfl

end Cert.Pool

end
-- ==== Proof.PoolWKer.lean ====
/-
  The kernel's gradients of the pool mixer's weights (`PoolWIdeal`), one block of 512 rows: the window means of the block's rows, doubled
  down over the 16 rows before it, are `Pool.means` of the mixer's input.
-/
module

public import proofs.«01_k».proof.Proof.PoolW0
public import proofs.«01_k».proof.Proof.Gen.PoolWIdeal.Value
public import Idealize.ShloMosaic.Lib.Pipeline.ValueKit

@[expose] public section

set_option maxRecDepth 16384

noncomputable section

namespace Cert.PoolWIdeal.KerValue

open Cert.PoolWIdeal Cert.PoolWIdeal.Gen Idealize.ShloMosaic Idealize.ShloMosaic.TcCoe Cert.Pool Cert.Win

/-- The rows before a block over its own rows. -/
def cat (h : FVec Ideal S16x128 .f32) (v : FVec Ideal S512x128 .f32) : FVec Ideal S528x128 .f32 :=
  concatenate S528x128 0 [⟨S16x128, h⟩, ⟨S512x128, v⟩] concatenates_S16x128_S512x128_S528x128_d0

theorem cat_apply (h : FVec Ideal S16x128 .f32) (v : FVec Ideal S512x128 .f32) (p : Fin 528) (l : Fin 128) :
    cat h v (ix2 p l) = if hp : p.val < 16 then h (ix2 ⟨p.val, hp⟩ l) else v (ix2 ⟨p.val - 16, by omega⟩ l) := by
  pointwise [cat]

/-- The mixer's input from sixteen rows before block `k` on, zero before the first row. -/
def around (u : Mat) (ln : Fin 512) (k p : ℕ) : EReal := if 512 * k + p < 16 then 0 else col u ln (512 * k + p - 16)

theorem window_around (u : Mat) (ln : Fin 512) (k r w : ℕ) (hw : w ≤ 16) :
    ∑ j ∈ Finset.range w, around u ln k (16 + r - j) = window u w ln (512 * k + r) := by
  refine Finset.sum_congr rfl fun j hj => ?_
  have := Finset.mem_range.mp hj
  unfold around
  by_cases h : j ≤ 512 * k + r
  · rw [if_neg (by omega), if_pos h]
    congr 1
    omega
  · rw [if_pos (by omega), if_neg h]

/-- The row of a block, in words. -/
theorem count_row (i : grid0.Coords) (r : Fin 512) (w : ℕ) (hw : 0 < w) (hw' : w < 2 ^ 30) :
    Ideal.div 1 (FloatOps.sitofp (F := Ideal) .f32 (IntOp.minsi (IntOp.addi (IntOp.addi (Scalar.muli (BitVec.ofNat 32 (i 0).val) 512#32) (BitVec.ofNat 32 r.val)) 1#32) (BitVec.ofNat 32 w)))
      = (inv w (512 * (i 0).val + r.val) : EReal) := by
  have hi : (i 0).val < 8 := (i 0).isLt
  rw [show IntOp.addi (Scalar.muli (BitVec.ofNat 32 (i 0).val) 512#32) (BitVec.ofNat 32 r.val) = BitVec.ofNat 32 (512 * (i 0).val + r.val) by
    rw [Nat.mul_comm, BitVec.ofNat_add, BitVec.ofNat_mul]; rfl, count _ _ (by omega) hw', div_one_count _ _ hw]

/-- Row `r` of a block, in the array. -/
abbrev blkRow (i : grid0.Coords) (r : Fin 512) : Fin 4096 := ⟨512 * (i 0).val + r.val, by have : (i 0).val < 8 := (i 0).isLt; omega⟩
abbrev ptRow (t : Fin cfg0.N) (r : Fin 512) : Fin 4096 := ⟨512 * t.val + r.val, by have : t.val < 8 := t.isLt; omega⟩

theorem at_lane {n : ℕ} (f : (⟨2, ![n, 512]⟩ : Shape).Idx → EReal) (q : Fin n) (k : Fin 512) (g : Fin 4) (l : Fin 128) (h : k.val = g.val * 128 + l.val) :
    f (ix2 q k) = f (ix2 q (lane g l)) := by rw [show k = lane g l from Fin.ext h]

section Block

variable (u : Mat) (i : grid0.Coords) (x0 : Vec Ideal S512x512 .f32) (x1 : Vec Ideal S16x512 .f32)
  (h0 : ∀ (r : Fin 512) (l : Fin 512), x0 (ix2 r l) = u (ix2 (blkRow i r) l))
  (h1 : ∀ (p : Fin 16) (l : Fin 512), k0_pay5 (F := Ideal) i x1 (ix2 p l) = around u l (i 0).val p.val)

include h0

/-- A block's window mean at a row, from the doubled matrix there. -/
theorem finish (w : ℕ) (hw : w ≤ 16) (ln : Fin 512) (hln : wlen ln.val = w) (r : Fin 512) (s d : EReal)
    (hs : s = ∑ j ∈ Finset.range w, around u ln (i 0).val (16 + r.val - j)) (hd : d = (inv w (512 * (i 0).val + r.val) : EReal)) :
    s * d - x0 (ix2 r ln) = means u (ix2 (blkRow i r) ln) := by
  rw [hs, hd, h0, window_around _ _ _ _ _ hw]
  subst hln
  rfl

include h1

theorem cat_around (own : FVec Ideal S512x128 .f32) (hal : FVec Ideal S16x128 .f32) (l : Fin 128) (ln : Fin 512)
    (ho : ∀ r : Fin 512, own (ix2 r l) = x0 (ix2 r ln)) (hh : ∀ p : Fin 16, hal (ix2 p l) = k0_pay5 (F := Ideal) i x1 (ix2 p ln)) (p : Fin 528) :
    cat hal own (ix2 p l) = around u ln (i 0).val p.val := by
  have hi : (i 0).val < 8 := (i 0).isLt
  rw [cat_apply]
  split
  · rw [hh, h1]
  · rw [ho, h0]
    unfold around
    rw [if_neg (by omega), show 512 * (i 0).val + p.val - 16 = 512 * (i 0).val + (p.val - 16) by omega]
    exact (col_of_lt u ln ⟨512 * (i 0).val + (p.val - 16), by omega⟩).symm

theorem group2 (r : Fin 512) (l : Fin 128) :
    k0_pay13 (F := Ideal) (k0_pay7 i) (k0_pay11 x0) (k0_pay12 i x1 x0) (ix2 r l)
      = means u (ix2 (blkRow i r) (lane 0 l)) := by
  obtain ⟨own, hal, inv, e, ho, hh, hd⟩ : ∃ own hal inv, k0_pay13 (F := Ideal) (k0_pay7 i) (k0_pay11 x0) (k0_pay12 i x1 x0)
      = subf (mulf (extractStridedSlice S512x128 ![16, 0] (dbl 1#32 rotates_S528x128_d0 (cat hal own)) slices_S528x128_o16_0_S512x128)
          (broadcastTo S512x128 inv broadcasts_S512x1_S512x128)) own
      ∧ (∀ q : Fin 512, own (ix2 q l) = x0 (ix2 q (lane 0 l)))
      ∧ (∀ p : Fin 16, hal (ix2 p l) = k0_pay5 (F := Ideal) i x1 (ix2 p (lane 0 l)))
      ∧ inv (ix2 r 0) = (Pool.inv 2 (512 * (i 0).val + r.val) : EReal) := by
    refine ⟨_, _, _, rfl, fun q => ?_, fun p => ?_, ?_⟩
    · refine Eq.trans ?_ (at_lane x0 q ⟨l.val, by omega⟩ 0 l (by show l.val = 0 * 128 + l.val; omega))
      pointwise [k0_pay11]
    · refine Eq.trans ?_ (at_lane (k0_pay5 (F := Ideal) i x1) p ⟨l.val, by omega⟩ 0 l (by show l.val = 0 * 128 + l.val; omega))
      pointwise []
    · rw [← count_row i r 2 (by decide) (by decide)]
      pointwise [k0_pay7, k0_pay6]
  rw [← finish u i x0 h0 2 (by decide) (lane 0 l) (wlen_lane 0 l) r _ _
    (down2 rotates_S528x128_d0 (around u (lane 0 l) (i 0).val) l _ (cat_around u i x0 x1 h0 h1 own hal l _ ho hh) ⟨16 + r.val, by omega⟩ (by show 2 ≤ 16 + r.val + 1; omega)) hd,
    ← ho r, e]
  pointwise []

theorem group4 (r : Fin 512) (l : Fin 128) :
    k0_pay14 (F := Ideal) (k0_pay5 i x1) x0 (k0_pay8 i) (ix2 r l)
      = means u (ix2 (blkRow i r) (lane 1 l)) := by
  obtain ⟨own, hal, inv, e, ho, hh, hd⟩ : ∃ own hal inv, k0_pay14 (F := Ideal) (k0_pay5 i x1) x0 (k0_pay8 i)
      = subf (mulf (extractStridedSlice S512x128 ![16, 0] (dbl 2#32 rotates_S528x128_d0 (dbl 1#32 rotates_S528x128_d0 (cat hal own))) slices_S528x128_o16_0_S512x128)
          (broadcastTo S512x128 inv broadcasts_S512x1_S512x128)) own
      ∧ (∀ q : Fin 512, own (ix2 q l) = x0 (ix2 q (lane 1 l)))
      ∧ (∀ p : Fin 16, hal (ix2 p l) = k0_pay5 (F := Ideal) i x1 (ix2 p (lane 1 l)))
      ∧ inv (ix2 r 0) = (Pool.inv 4 (512 * (i 0).val + r.val) : EReal) := by
    refine ⟨_, _, _, rfl, fun q => ?_, fun p => ?_, ?_⟩
    · refine Eq.trans ?_ (at_lane x0 q ⟨128 + l.val, by omega⟩ 1 l (by show 128 + l.val = 1 * 128 + l.val; omega))
      pointwise []
    · refine Eq.trans ?_ (at_lane (k0_pay5 (F := Ideal) i x1) p ⟨128 + l.val, by omega⟩ 1 l (by show 128 + l.val = 1 * 128 + l.val; omega))
      pointwise []
    · rw [← count_row i r 4 (by decide) (by decide)]
      pointwise [k0_pay8, k0_pay6]
  rw [← finish u i x0 h0 4 (by decide) (lane 1 l) (wlen_lane 1 l) r _ _
    (down4 rotates_S528x128_d0 (around u (lane 1 l) (i 0).val) l _ (cat_around u i x0 x1 h0 h1 own hal l _ ho hh) ⟨16 + r.val, by omega⟩ (by show 4 ≤ 16 + r.val + 1; omega)) hd,
    ← ho r, e]
  pointwise []

theorem group8 (r : Fin 512) (l : Fin 128) :
    k0_pay15 (F := Ideal) (k0_pay5 i x1) x0 (k0_pay9 i) (ix2 r l)
      = means u (ix2 (blkRow i r) (lane 2 l)) := by
  obtain ⟨own, hal, inv, e, ho, hh, hd⟩ : ∃ own hal inv, k0_pay15 (F := Ideal) (k0_pay5 i x1) x0 (k0_pay9 i)
      = subf (mulf (extractStridedSlice S512x128 ![16, 0] (dbl 4#32 rotates_S528x128_d0 (dbl 2#32 rotates_S528x128_d0 (dbl 1#32 rotates_S528x128_d0 (cat hal own)))) slices_S528x128_o16_0_S512x128)
          (broadcastTo S512x128 inv broadcasts_S512x1_S512x128)) own
      ∧ (∀ q : Fin 512, own (ix2 q l) = x0 (ix2 q (lane 2 l)))
      ∧ (∀ p : Fin 16, hal (ix2 p l) = k0_pay5 (F := Ideal) i x1 (ix2 p (lane 2 l)))
      ∧ inv (ix2 r 0) = (Pool.inv 8 (512 * (i 0).val + r.val) : EReal) := by
    refine ⟨_, _, _, rfl, fun q => ?_, fun p => ?_, ?_⟩
    · refine Eq.trans ?_ (at_lane x0 q ⟨256 + l.val, by omega⟩ 2 l (by show 256 + l.val = 2 * 128 + l.val; omega))
      pointwise []
    · refine Eq.trans ?_ (at_lane (k0_pay5 (F := Ideal) i x1) p ⟨256 + l.val, by omega⟩ 2 l (by show 256 + l.val = 2 * 128 + l.val; omega))
      pointwise []
    · rw [← count_row i r 8 (by decide) (by decide)]
      pointwise [k0_pay9, k0_pay6]
  rw [← finish u i x0 h0 8 (by decide) (lane 2 l) (wlen_lane 2 l) r _ _
    (down8 rotates_S528x128_d0 (around u (lane 2 l) (i 0).val) l _ (cat_around u i x0 x1 h0 h1 own hal l _ ho hh) ⟨16 + r.val, by omega⟩ (by show 8 ≤ 16 + r.val + 1; omega)) hd,
    ← ho r, e]
  pointwise []

theorem group16 (r : Fin 512) (l : Fin 128) :
    k0_pay16 (F := Ideal) (k0_pay5 i x1) x0 (k0_pay10 i) (ix2 r l)
      = means u (ix2 (blkRow i r) (lane 3 l)) := by
  obtain ⟨own, hal, inv, e, ho, hh, hd⟩ : ∃ own hal inv, k0_pay16 (F := Ideal) (k0_pay5 i x1) x0 (k0_pay10 i)
      = subf (mulf (extractStridedSlice S512x128 ![16, 0] (dbl 8#32 rotates_S528x128_d0 (dbl 4#32 rotates_S528x128_d0 (dbl 2#32 rotates_S528x128_d0 (dbl 1#32 rotates_S528x128_d0 (cat hal own))))) slices_S528x128_o16_0_S512x128)
          (broadcastTo S512x128 inv broadcasts_S512x1_S512x128)) own
      ∧ (∀ q : Fin 512, own (ix2 q l) = x0 (ix2 q (lane 3 l)))
      ∧ (∀ p : Fin 16, hal (ix2 p l) = k0_pay5 (F := Ideal) i x1 (ix2 p (lane 3 l)))
      ∧ inv (ix2 r 0) = (Pool.inv 16 (512 * (i 0).val + r.val) : EReal) := by
    refine ⟨_, _, _, rfl, fun q => ?_, fun p => ?_, ?_⟩
    · refine Eq.trans ?_ (at_lane x0 q ⟨384 + l.val, by omega⟩ 3 l (by show 384 + l.val = 3 * 128 + l.val; omega))
      pointwise []
    · refine Eq.trans ?_ (at_lane (k0_pay5 (F := Ideal) i x1) p ⟨384 + l.val, by omega⟩ 3 l (by show 384 + l.val = 3 * 128 + l.val; omega))
      pointwise []
    · rw [← count_row i r 16 (by decide) (by decide)]
      pointwise [k0_pay10, k0_pay6]
  rw [← finish u i x0 h0 16 (by decide) (lane 3 l) (wlen_lane 3 l) r _ _
    (down16 rotates_S528x128_d0 (around u (lane 3 l) (i 0).val) l _ (cat_around u i x0 x1 h0 h1 own hal l _ ho hh) ⟨16 + r.val, by omega⟩ (by show 16 ≤ 16 + r.val + 1; omega)) hd,
    ← ho r, e]
  pointwise []

end Block

/-- The rows before a block the body reads: the staged rows, or zero at the first block. -/
theorem halo_apply (i : grid0.Coords) (x1 : Vec Ideal S16x512 .f32) (p : Fin 16) (l : Fin 512) :
    k0_pay5 (F := Ideal) i x1 (ix2 p l) = if (i 0).val = 0 then 0 else x1 (ix2 p l) := by
  have hi : (i 0).val < 8 := (i 0).isLt
  have e : k0_pay5 (F := Ideal) i x1 (ix2 p l) = Scalar.select (Scalar.cmpi .eq (BitVec.ofNat 32 (i 0).val) 0#32) 0 (x1 (ix2 p l)) := by
    unfold k0_pay5
    frame_out
    pointwise []
  rw [e]
  generalize (i 0).val = k at hi ⊢
  interval_cases k <;> rfl

variable (m : (ℓ : Loc nD τ sig) → Buf (Elt Ideal) ℓ) (c : Dev nD)

theorem idx : ∀ t : Fin cfg0.N, win0_0.index t = ![t.val, 0] ∧ win0_1.index t = ![32 * t.val - 1, 0] ∧ win0_2.index t = ![t.val, 0]
    ∧ win0_3.index t = ![0, 0, 0] ∧ win0_4.index t = ![0, 0] ∧ win0_5.index t = ![t.val, 0] ∧ win0_6.index t = ![0, 0, 0] ∧ win0_7.index t = ![0, 0]
    ∧ (grid0.coords t 0).val = t.val :=
  (by decide +kernel : ∀ t : Fin grid0.N, _)

/-- The mixer's input, the cotangent, the per-head weights and the scale the kernel is given. -/
abbrev argU : Mat := m ((c : Thread nD τ).loc main_arg0)
abbrev argDy : Mat := m ((c : Thread nD τ).loc main_arg1)
abbrev argW : S4x128x128.Idx → EReal := m ((c : Thread nD τ).loc main_arg2)
abbrev argSc : S512.Idx → EReal := m ((c : Thread nD τ).loc main_arg3)

theorem row_eq (t : Fin cfg0.N) (r : Fin 512) : blkRow (grid0.coords t) r = ptRow t r :=
  Fin.ext (by show 512 * (grid0.coords t 0).val + _ = 512 * t.val + _; rw [(idx t).2.2.2.2.2.2.2.2])

theorem own_rows (t : Fin cfg0.N) (r : Fin 512) (l : Fin 512) :
    iblk m c 0 t (ix2 r l) = argU m c (ix2 (blkRow (grid0.coords t) r) l) := by
  rw [row_eq]
  blk_simp [iblk]
  refine congrArg (m _) ?_
  blk_ext [(idx t).1]

theorem halo_rows (t : Fin cfg0.N) (p : Fin 16) (l : Fin 512) :
    k0_pay5 (F := Ideal) (grid0.coords t) (iblk m c 1 t) (ix2 p l) = around (argU m c) l (grid0.coords t 0).val p.val := by
  have ht : t.val < 8 := t.isLt
  rw [halo_apply, (idx t).2.2.2.2.2.2.2.2]
  unfold around
  split
  · rw [if_pos (by omega)]
  · rw [if_neg (by omega), show 512 * t.val + p.val - 16 = (⟨512 * t.val + p.val - 16, by omega⟩ : Fin 4096).val from rfl, col_of_lt]
    blk_simp [iblk]
    refine congrArg (m _) ?_
    blk_ext [(idx t).2.1]

theorem dy_rows (t : Fin cfg0.N) (r : Fin 512) (l : Fin 512) :
    iblk m c 2 t (ix2 r l) = argDy m c (ix2 (ptRow t r) l) := by
  blk_simp [iblk]
  refine congrArg (m _) ?_
  blk_ext [(idx t).2.2.1]

theorem weights (t : Fin cfg0.N) (g : Fin 4) (d e : Fin 128) : iblk m c 3 t (ix3 g d e) = argW m c (ix3 g d e) := by
  have h : V m c main_v0 = argW m c := by
    unfold_abbrev_sides
    after_results
    rfl
  blk_simp [iblk]
  refine (congrFun h _).trans (congrArg (argW m c) ?_)
  blk_ext [(idx t).2.2.2.1]

theorem scale (t : Fin cfg0.N) (l : Fin 512) : iblk m c 4 t (ix2 0 l) = argSc m c (ix1 l) := by
  have h : V m c main_v1 = shapeCast S1x512 (argSc m c) shapeCasts_S512_S1x512 := by
    unfold_abbrev_sides
    after_results
    rfl
  blk_simp [iblk]
  refine (congrFun h _).trans ?_
  rw [show (win0_4.blk t).view.emb (ix2 0 l) = ix2 0 l by blk_ext [(idx t).2.2.2.2.1]]
  pointwise []

end Cert.PoolWIdeal.KerValue

end
-- ==== Proof.PoolWAcc.lean ====
/-
  The kernel's gradients of the pool mixer's weights (`PoolWIdeal`), whole: the gradient reaching the window means block by block, and the
  two weight gradients added up over the eight blocks.
-/
module

public import proofs.«01_k».proof.Proof.PoolWKer
public import Idealize.ShloMosaic.Lib.Pipeline.ReadBack

@[expose] public section

set_option maxRecDepth 16384

noncomputable section

namespace Cert.PoolWIdeal.KerValue

open Cert.PoolWIdeal Cert.PoolWIdeal.Gen Idealize.ShloMosaic Idealize.ShloMosaic.TcCoe Cert.Pool Cert.Win

variable (m : (ℓ : Loc nD τ sig) → Buf (Elt Ideal) ℓ) (c : Dev nD)

/-- The window means of group `g` at a block. -/
def groups (t : Fin cfg0.N) : Fin 4 → FVec Ideal S512x128 .f32 :=
  ![k0_pay13 (k0_pay7 (grid0.coords t)) (k0_pay11 (iblk m c 0 t)) (k0_pay12 (grid0.coords t) (iblk m c 1 t) (iblk m c 0 t)),
    k0_pay14 (k0_pay5 (grid0.coords t) (iblk m c 1 t)) (iblk m c 0 t) (k0_pay8 (grid0.coords t)),
    k0_pay15 (k0_pay5 (grid0.coords t) (iblk m c 1 t)) (iblk m c 0 t) (k0_pay9 (grid0.coords t)),
    k0_pay16 (k0_pay5 (grid0.coords t) (iblk m c 1 t)) (iblk m c 0 t) (k0_pay10 (grid0.coords t))]

theorem groups_apply (t : Fin cfg0.N) (g : Fin 4) (r : Fin 512) (l : Fin 128) :
    groups m c t g (ix2 r l) = means (argU m c) (ix2 (ptRow t r) (lane g l)) := by
  rw [← row_eq]
  fin_cases g
  · exact group2 (argU m c) (grid0.coords t) _ _ (own_rows m c t) (halo_rows m c t) r l
  · exact group4 (argU m c) (grid0.coords t) _ _ (own_rows m c t) (halo_rows m c t) r l
  · exact group8 (argU m c) (grid0.coords t) _ _ (own_rows m c t) (halo_rows m c t) r l
  · exact group16 (argU m c) (grid0.coords t) _ _ (own_rows m c t) (halo_rows m c t) r l

/-- One row's part of a sum over the rows, zero past the last. -/
def upTo (f : Fin 4096 → EReal) (s : ℕ) : EReal := if h : s < 4096 then f ⟨s, h⟩ else 0

theorem upTo_lt (f : Fin 4096 → EReal) (s : Fin 4096) : upTo f s.val = f s := dif_pos s.isLt

theorem upTo_sum (f : Fin 4096 → EReal) : ∑ s ∈ Finset.range 4096, upTo f s = ∑ t : Fin 4096, f t := by
  rw [← Fin.sum_univ_eq_sum_range]
  exact Finset.sum_congr rfl fun t _ => dif_pos t.isLt

theorem block_sum (f : Fin 4096 → EReal) (t : Fin cfg0.N) (h : Fin 512 → EReal)
    (hh : ∀ r : Fin 512, h r = f (ptRow t r)) :
    ∑ r, h r = ∑ r ∈ Finset.range 512, upTo f (512 * t.val + r) := by
  have ht : t.val < 8 := t.isLt
  rw [← Fin.sum_univ_eq_sum_range (fun r => upTo f (512 * t.val + r))]
  refine Finset.sum_congr rfl fun r _ => (hh r).trans ?_
  exact (upTo_lt f (ptRow t r)).symm

/-- The blocks of the cotangent, the weights and the scale that group `g` reads. -/
def dys (t : Fin cfg0.N) : Fin 4 → Vec Ideal S512x128 .f32 :=
  ![View.ld (iblk m c 2 t) (Rect.unit ![0, 0] ![512, 128] inb_S512x512_S512x128_0_0), View.ld (iblk m c 2 t) (Rect.unit ![0, 128] ![512, 128] inb_S512x512_S512x128_0_128), View.ld (iblk m c 2 t) (Rect.unit ![0, 256] ![512, 128] inb_S512x512_S512x128_0_256), View.ld (iblk m c 2 t) (Rect.unit ![0, 384] ![512, 128] inb_S512x512_S512x128_0_384)]
def scs (t : Fin cfg0.N) : Fin 4 → Vec Ideal S1x128 .f32 :=
  ![View.ld (iblk m c 4 t) (Rect.unit ![0, 0] ![1, 128] inb_S1x512_S1x128_0_0), View.ld (iblk m c 4 t) (Rect.unit ![0, 128] ![1, 128] inb_S1x512_S1x128_0_128), View.ld (iblk m c 4 t) (Rect.unit ![0, 256] ![1, 128] inb_S1x512_S1x128_0_256), View.ld (iblk m c 4 t) (Rect.unit ![0, 384] ![1, 128] inb_S1x512_S1x128_0_384)]
def ws (t : Fin cfg0.N) : Fin 4 → Vec Ideal S1x128x128 .bf16 :=
  ![View.ld (iblk m c 3 t) (Rect.unit ![0, 0, 0] ![1, 128, 128] inb_S4x128x128_S1x128x128_0_0_0), View.ld (iblk m c 3 t) (Rect.unit ![1, 0, 0] ![1, 128, 128] inb_S4x128x128_S1x128x128_1_0_0), View.ld (iblk m c 3 t) (Rect.unit ![2, 0, 0] ![1, 128, 128] inb_S4x128x128_S1x128x128_2_0_0), View.ld (iblk m c 3 t) (Rect.unit ![3, 0, 0] ![1, 128, 128] inb_S4x128x128_S1x128x128_3_0_0)]

theorem dys_apply (t : Fin cfg0.N) (g : Fin 4) (r : Fin 512) (l : Fin 128) :
    dys m c t g (ix2 r l) = argDy m c (ix2 (ptRow t r) (lane g l)) := by
  rw [← dy_rows]
  fin_cases g <;> exact congrArg (iblk m c 2 t) (by blk_ext [Rect.idx_unit_val])

theorem scs_apply (t : Fin cfg0.N) (g : Fin 4) (l : Fin 128) : scs m c t g (ix2 0 l) = argSc m c (ix1 (lane g l)) := by
  rw [← scale m c t]
  fin_cases g <;> exact congrArg (iblk m c 4 t) (by blk_ext [Rect.idx_unit_val])

theorem ws_apply (t : Fin cfg0.N) (g : Fin 4) (d e : Fin 128) : ws m c t g (ix3 0 d e) = argW m c (ix3 g d e) := by
  rw [← weights m c t]
  fin_cases g <;> exact congrArg (iblk m c 3 t) (by blk_ext [Rect.idx_unit_val])

/-- The stores of one grid point into the three results, over what the two sums held before. -/
def pieces5 (t : Fin cfg0.N) : List (View.Piece (Elt Ideal) S512x512 .f32) :=
  [⟨Rect.unit ![0, 384] ![512, 128] inb_S512x512_S512x128_0_384, k0_pay22 (dys m c t 3) (scs m c t 3) (ws m c t 3)⟩,
    ⟨Rect.unit ![0, 256] ![512, 128] inb_S512x512_S512x128_0_256, k0_pay22 (dys m c t 2) (scs m c t 2) (ws m c t 2)⟩,
    ⟨Rect.unit ![0, 128] ![512, 128] inb_S512x512_S512x128_0_128, k0_pay22 (dys m c t 1) (scs m c t 1) (ws m c t 1)⟩,
    ⟨Rect.unit ![0, 0] ![512, 128] inb_S512x512_S512x128_0_0, k0_pay22 (dys m c t 0) (scs m c t 0) (ws m c t 0)⟩]
def pieces6 (t : Fin cfg0.N) (X : Vec Ideal S4x128x128 .f32) : List (View.Piece (Elt Ideal) S4x128x128 .f32) :=
  [⟨Rect.unit ![3, 0, 0] ![1, 128, 128] inb_S4x128x128_S1x128x128_3_0_0, k0_pay23 (groups m c t 3) (dys m c t 3) (scs m c t 3) (View.ld X (Rect.unit ![3, 0, 0] ![1, 128, 128] inb_S4x128x128_S1x128x128_3_0_0))⟩,
    ⟨Rect.unit ![2, 0, 0] ![1, 128, 128] inb_S4x128x128_S1x128x128_2_0_0, k0_pay23 (groups m c t 2) (dys m c t 2) (scs m c t 2) (View.ld X (Rect.unit ![2, 0, 0] ![1, 128, 128] inb_S4x128x128_S1x128x128_2_0_0))⟩,
    ⟨Rect.unit ![1, 0, 0] ![1, 128, 128] inb_S4x128x128_S1x128x128_1_0_0, k0_pay23 (groups m c t 1) (dys m c t 1) (scs m c t 1) (View.ld X (Rect.unit ![1, 0, 0] ![1, 128, 128] inb_S4x128x128_S1x128x128_1_0_0))⟩,
    ⟨Rect.unit ![0, 0, 0] ![1, 128, 128] inb_S4x128x128_S1x128x128_0_0_0, k0_pay23 (groups m c t 0) (dys m c t 0) (scs m c t 0) (View.ld X (Rect.unit ![0, 0, 0] ![1, 128, 128] inb_S4x128x128_S1x128x128_0_0_0))⟩]
def pieces7 (t : Fin cfg0.N) (X : Vec Ideal S1x512 .f32) : List (View.Piece (Elt Ideal) S1x512 .f32) :=
  [⟨Rect.unit ![0, 384] ![1, 128] inb_S1x512_S1x128_0_384, k0_pay20 (groups m c t 3) (dys m c t 3) (View.ld X (Rect.unit ![0, 384] ![1, 128] inb_S1x512_S1x128_0_384)) (ws m c t 3)⟩,
    ⟨Rect.unit ![0, 256] ![1, 128] inb_S1x512_S1x128_0_256, k0_pay20 (groups m c t 2) (dys m c t 2) (View.ld X (Rect.unit ![0, 256] ![1, 128] inb_S1x512_S1x128_0_256)) (ws m c t 2)⟩,
    ⟨Rect.unit ![0, 128] ![1, 128] inb_S1x512_S1x128_0_128, k0_pay20 (groups m c t 1) (dys m c t 1) (View.ld X (Rect.unit ![0, 128] ![1, 128] inb_S1x512_S1x128_0_128)) (ws m c t 1)⟩,
    ⟨Rect.unit ![0, 0] ![1, 128] inb_S1x512_S1x128_0_0, k0_pay20 (groups m c t 0) (dys m c t 0) (View.ld X (Rect.unit ![0, 0] ![1, 128] inb_S1x512_S1x128_0_0)) (ws m c t 0)⟩]

theorem first5 (t : Fin cfg0.N) (h0 : t.val % 8 = 0) : (outsAt0 m c t.val t.isLt).1 = View.canon (pieces5 m c t) := by
  rw [outsAt0_A m c t h0]
  frame_out
  rfl
theorem next5 (t : Fin cfg0.N) (h0 : ¬t.val % 8 = 0) : (outsAt0 m c t.val t.isLt).1 = View.canon (pieces5 m c t) := by
  rw [outsAt0_B m c t h0]
  frame_out
  rfl
theorem first6 (t : Fin cfg0.N) (h0 : t.val % 8 = 0) : (outsAt0 m c t.val t.isLt).2.1
    = View.canon (pieces6 m c t (k0_pay17 (F := Ideal)) ++ [⟨Rect.unit ![0, 0, 0] ![4, 128, 128] inb_S4x128x128_S4x128x128_0_0_0, k0_pay17 (F := Ideal)⟩]) := by
  rw [outsAt0_A m c t h0]
  frame_out
  simp (discharger := decide) only [↓View.readCov_skip, View.readCov_fill]
  rfl
theorem next6 (t : Fin cfg0.N) (h0 : ¬t.val % 8 = 0) : (outsAt0 m c t.val t.isLt).2.1
    = View.canon (pieces6 m c t (outsAt0 m c (t.val - 1) (by omega)).2.1) := by
  rw [outsAt0_B m c t h0]
  frame_out
  rfl
theorem first7 (t : Fin cfg0.N) (h0 : t.val % 8 = 0) : (outsAt0 m c t.val t.isLt).2.2
    = View.canon (pieces7 m c t (k0_pay18 (F := Ideal)) ++ [⟨Rect.unit ![0, 0] ![1, 512] inb_S1x512_S1x512_0_0, k0_pay18 (F := Ideal)⟩]) := by
  rw [outsAt0_A m c t h0]
  frame_out
  simp (discharger := decide) only [↓View.readCov_skip, View.readCov_fill]
  rfl
theorem next7 (t : Fin cfg0.N) (h0 : ¬t.val % 8 = 0) : (outsAt0 m c t.val t.isLt).2.2
    = View.canon (pieces7 m c t (outsAt0 m c (t.val - 1) (by omega)).2.2) := by
  rw [outsAt0_B m c t h0]
  frame_out
  rfl

/-! ## Each store, and the sums -/

/-- The three results' blocks and sums, at an index. -/
abbrev outP (t : Fin cfg0.N) : S512x512.Idx → EReal := fun y => dPooled (argDy m c) (argW m c) (fun l => argSc m c (ix1 l))
  (ptRow t (y 0))
  ⟨(y 1).val / 128, by have : (y 1).val < 512 := (y 1).isLt; omega⟩ ⟨(y 1).val % 128, Nat.mod_lt _ (by decide)⟩
abbrev rowW (y : S4x128x128.Idx) : Fin 4096 → EReal := dWeightAt (argU m c) (argDy m c) (fun l => argSc m c (ix1 l)) (y 0) (y 1) (y 2)
abbrev rowS (y : S1x512.Idx) : Fin 4096 → EReal := dScaleAt (argU m c) (argDy m c) (argW m c)
  ⟨(y 1).val / 128, by have : (y 1).val < 512 := (y 1).isLt; omega⟩ ⟨(y 1).val % 128, Nat.mod_lt _ (by decide)⟩

theorem piece5 (t : Fin cfg0.N) (g : Fin 4) (x : S512x128.Idx) (y : S512x512.Idx) (hy : y = ix2 (x 0) (lane g (x 1))) :
    k0_pay22 (F := Ideal) (dys m c t g) (scs m c t g) (ws m c t g) x = outP m c t y := by
  obtain ⟨r, d, rfl⟩ : ∃ (r : Fin 512) (d : Fin 128), x = ix2 r d := ⟨x 0, x 1, eq_ix2 x⟩
  have e : k0_pay22 (F := Ideal) (dys m c t g) (scs m c t g) (ws m c t g) (ix2 r d)
      = ∑ e : Fin 128, dys m c t g (ix2 r e) * scs m c t g (ix2 0 e) * ws m c t g (ix3 0 d e) := by
    pointwise [k0_pay22, k0_pay21]
  rw [e, show y = ix2 r (lane g d) from hy]
  simp only [dys_apply, scs_apply, ws_apply]
  have h1 : (g.val * 128 + d.val) / 128 = g.val := by omega
  have h2 : (g.val * 128 + d.val) % 128 = d.val := by omega
  show _ = dPooled (argDy m c) (argW m c) (fun l => argSc m c (ix1 l)) ⟨512 * t.val + r.val, _⟩ ⟨(g.val * 128 + d.val) / 128, _⟩ ⟨(g.val * 128 + d.val) % 128, _⟩
  simp only [h1, h2]
  rfl

theorem piece6 (t : Fin cfg0.N) (X : Vec Ideal S4x128x128 .f32) (g : Fin 4) (Xg : Vec Ideal S1x128x128 .f32) (x : S1x128x128.Idx) (y : S4x128x128.Idx)
    (hy : y = ix3 g (x 1) (x 2)) (hX : Xg x = X y) :
    k0_pay23 (F := Ideal) (groups m c t g) (dys m c t g) (scs m c t g) Xg x = X y + ∑ s ∈ Finset.range 512, upTo (rowW m c y) (512 * t.val + s) := by
  obtain ⟨z, d, e, rfl⟩ : ∃ (z : Fin 1) (d e : Fin 128), x = ix3 z d e := ⟨x 0, x 1, x 2, eq_ix3 x⟩
  obtain rfl : z = 0 := Subsingleton.elim _ _
  have h : k0_pay23 (F := Ideal) (groups m c t g) (dys m c t g) (scs m c t g) Xg (ix3 0 d e)
      = Xg (ix3 0 d e) + ∑ r : Fin 512, groups m c t g (ix2 r d) * (dys m c t g (ix2 r e) * scs m c t g (ix2 0 e)) := by
    pointwise [k0_pay23, k0_pay21, k0_pay19]
  rw [← hX, h]
  refine congrArg _ (block_sum (rowW m c y) t _ fun r => ?_)
  rw [groups_apply, dys_apply, scs_apply, hy]
  rfl

theorem piece7 (t : Fin cfg0.N) (X : Vec Ideal S1x512 .f32) (g : Fin 4) (Xg : Vec Ideal S1x128 .f32) (x : S1x128.Idx) (y : S1x512.Idx)
    (hy : y = ix2 (x 0) (lane g (x 1))) (hX : Xg x = X y) :
    k0_pay20 (F := Ideal) (groups m c t g) (dys m c t g) Xg (ws m c t g) x = X y + ∑ s ∈ Finset.range 512, upTo (rowS m c y) (512 * t.val + s) := by
  obtain ⟨z, d, rfl⟩ : ∃ (z : Fin 1) (d : Fin 128), x = ix2 z d := ⟨x 0, x 1, eq_ix2 x⟩
  obtain rfl : z = 0 := Subsingleton.elim _ _
  have h : k0_pay20 (F := Ideal) (groups m c t g) (dys m c t g) Xg (ws m c t g) (ix2 0 d)
      = Xg (ix2 0 d) + ∑ r : Fin 512, dys m c t g (ix2 r d) * ∑ e : Fin 128, groups m c t g (ix2 r e) * ws m c t g (ix3 0 e d) := by
    pointwise [k0_pay20, k0_pay19]
  rw [← hX, h]
  refine congrArg _ (block_sum (rowS m c y) t _ fun r => ?_)
  have h1 : (g.val * 128 + d.val) / 128 = g.val := by omega
  have h2 : (g.val * 128 + d.val) % 128 = d.val := by omega
  rw [show y = ix2 0 (lane g d) from hy]
  show _ = dScaleAt (argU m c) (argDy m c) (argW m c) ⟨(g.val * 128 + d.val) / 128, _⟩ ⟨(g.val * 128 + d.val) % 128, _⟩ _
  simp only [h1, h2, groups_apply, dys_apply, ws_apply]
  rfl

theorem of5 (t : Fin cfg0.N) (y : S512x512.Idx) : View.canon (pieces5 m c t) y = outP m c t y := by
  refine (congrArg (fun L => View.canon L y) (List.append_nil _).symm).trans
    (View.canon_append_of_piecesOf (outP m c t) [] (pieces5 m c t) ?_ y (View.cover_of_tiledL (pieces5 m c t) S512x128.size (by sl_kernel_rfl) y))
  refine ⟨fun x => ?_, fun x => ?_, fun x => ?_, fun x => ?_, trivial⟩ <;>
    exact piece5 m c t _ x _ (by blk_ext [Rect.idx_unit_val])

theorem of6 (t : Fin cfg0.N) (X : Vec Ideal S4x128x128 .f32) (L : List (View.Piece (Elt Ideal) S4x128x128 .f32)) (y : S4x128x128.Idx) :
    View.canon (pieces6 m c t X ++ L) y = X y + ∑ s ∈ Finset.range 512, upTo (rowW m c y) (512 * t.val + s) := by
  refine View.canon_append_of_piecesOf (fun y => X y + ∑ s ∈ Finset.range 512, upTo (rowW m c y) (512 * t.val + s)) L (pieces6 m c t X) ?_ y
    (View.cover_of_tiledL (pieces6 m c t X) ![1, 128, 128] (by sl_kernel_rfl) y)
  refine ⟨fun x => ?_, fun x => ?_, fun x => ?_, fun x => ?_, trivial⟩ <;>
    exact piece6 m c t X _ _ x _ (by blk_ext [Rect.idx_unit_val]) rfl

theorem of7 (t : Fin cfg0.N) (X : Vec Ideal S1x512 .f32) (L : List (View.Piece (Elt Ideal) S1x512 .f32)) (y : S1x512.Idx) :
    View.canon (pieces7 m c t X ++ L) y = X y + ∑ s ∈ Finset.range 512, upTo (rowS m c y) (512 * t.val + s) := by
  refine View.canon_append_of_piecesOf (fun y => X y + ∑ s ∈ Finset.range 512, upTo (rowS m c y) (512 * t.val + s)) L (pieces7 m c t X) ?_ y
    (View.cover_of_tiledL (pieces7 m c t X) ![1, 128] (by sl_kernel_rfl) y)
  refine ⟨fun x => ?_, fun x => ?_, fun x => ?_, fun x => ?_, trivial⟩ <;>
    exact piece7 m c t X _ _ x _ (by blk_ext [Rect.idx_unit_val]) rfl

theorem zero_range (f : Fin 4096 → EReal) (n : ℕ) (a : EReal) (ha : a = ∑ s ∈ Finset.range (512 * n), upTo f s) :
    a + ∑ s ∈ Finset.range 512, upTo f (512 * n + s) = ∑ s ∈ Finset.range (512 * (n + 1)), upTo f s := by
  rw [ha, Nat.mul_succ, Finset.sum_range_add]

/-- The two sums after point `n`: the rows of the blocks up to it. -/
theorem sum6 (n : ℕ) (hn : n < cfg0.N) (y : S4x128x128.Idx) :
    (outsAt0 m c n hn).2.1 y = ∑ s ∈ Finset.range (512 * (n + 1)), upTo (rowW m c y) s := by
  have h8 : n < 8 := hn
  induction n with
  | zero =>
    refine (congrFun (first6 m c ⟨0, hn⟩ rfl) y).trans ((of6 m c ⟨0, hn⟩ _ _ y).trans (zero_range (rowW m c y) 0 _ ?_))
    pointwise [k0_pay17]
    rw [Finset.sum_range_zero]
  | succ n ih =>
    refine (congrFun (next6 m c ⟨n + 1, hn⟩ (by show ¬(n + 1) % 8 = 0; omega)) y).trans ?_
    refine (congrArg (fun L => View.canon L y) (List.append_nil _).symm).trans ((of6 m c ⟨n + 1, hn⟩ _ [] y).trans (zero_range (rowW m c y) (n + 1) _ ?_))
    exact ih (Nat.lt_of_succ_lt hn) (by omega)

theorem sum7 (n : ℕ) (hn : n < cfg0.N) (y : S1x512.Idx) :
    (outsAt0 m c n hn).2.2 y = ∑ s ∈ Finset.range (512 * (n + 1)), upTo (rowS m c y) s := by
  have h8 : n < 8 := hn
  induction n with
  | zero =>
    refine (congrFun (first7 m c ⟨0, hn⟩ rfl) y).trans ((of7 m c ⟨0, hn⟩ _ _ y).trans (zero_range (rowS m c y) 0 _ ?_))
    pointwise [k0_pay18]
    rw [Finset.sum_range_zero]
  | succ n ih =>
    refine (congrFun (next7 m c ⟨n + 1, hn⟩ (by show ¬(n + 1) % 8 = 0; omega)) y).trans ?_
    refine (congrArg (fun L => View.canon L y) (List.append_nil _).symm).trans ((of7 m c ⟨n + 1, hn⟩ _ [] y).trans (zero_range (rowS m c y) (n + 1) _ ?_))
    exact ih (Nat.lt_of_succ_lt hn) (by omega)

/-! ## The three results -/

/-- The gradient reaching the window means, as an array. -/
abbrev allP : S4096x512.Idx → EReal := fun i => dPooled (argDy m c) (argW m c) (fun l => argSc m c (ix1 l)) (i 0)
    ⟨(i 1).val / 128, by have : (i 1).val < 512 := (i 1).isLt; omega⟩ ⟨(i 1).val % 128, Nat.mod_lt _ (by decide)⟩

theorem final5 : (dats m 0 c).arrAt 5 cfg0.N = allP m c := by
  refine (dats m 0 c).arrAt_eq_of_covers 5 _ (by decide +kernel) fun t hf y => ?_
  have hp : (outsAt0 m c t.val t.isLt).1 = View.canon (pieces5 m c t) := by
    by_cases h0 : t.val % 8 = 0
    · exact first5 m c t h0
    · exact next5 m c t h0
  blk_simp
  rw [after0_5]
  refine (congrFun hp _).trans ((of5 m c t _).trans ?_)
  show allP m c (ix2 (ptRow t (y 0)) (y 1)) = allP m c _
  refine congrArg _ ?_
  blk_ext [(idx t).2.2.2.2.2.1]

theorem final6 : (dats m 0 c).arrAt 6 cfg0.N = fun y : S4x128x128.Idx => ∑ t : Fin 4096, rowW m c y t := by
  refine (dats m 0 c).arrAt_eq_of_after_last 6 (⟨7, by decide⟩ : Fin cfg0.N) (by decide +kernel) _ fun j => ?_
  rw [after0_6]
  exact (sum6 m c 7 (by decide) j).trans (upTo_sum (rowW m c j))

theorem final7 : (dats m 0 c).arrAt 7 cfg0.N = fun y : S1x512.Idx => ∑ t : Fin 4096, rowS m c y t := by
  refine (dats m 0 c).arrAt_eq_of_after_last 7 (⟨7, by decide⟩ : Fin cfg0.N) (by decide +kernel) _ fun j => ?_
  rw [after0_7]
  exact (sum7 m c 7 (by decide) j).trans (upTo_sum (rowS m c j))

end Cert.PoolWIdeal.KerValue

end
-- ==== Proof.PoolWRef.lean ====
/-
  The plain program's gradients of the pool mixer's weights (`PoolWRefIdeal`) are `dPooled`, `dWeightAt` and `dScaleAt` summed, where
  the mixer's input is finite.
-/
module

public import proofs.«01_k».proof.Proof.PoolW0
public import proofs.«01_k».proof.Proof.Gen.PoolWRefIdeal.Run
public import proofs.«01_k».proof.Proof.Gen.PoolWRefIdeal.Read
public import Idealize.ShloMosaic.Lib.Pipeline.ValueKit

@[expose] public section

set_option maxRecDepth 16384

noncomputable section

namespace Cert.PoolWRefIdeal.RefValue

open Cert.PoolWRefIdeal Cert.PoolWRefIdeal.Gen Cert.PoolWRefIdeal.Read Idealize.ShloMosaic Cert.Pool

/-- The host's running sum from the first row, started at the zero constant. -/
theorem prefix_eq (x : FVec Ideal S4096x128 .f32) (v : FVec Ideal S_ .f32) (hv : ∀ i, v i = 0) (i : S4096x128.Idx) :
    Host.reduceWindowAdd ![4096, 1] ![1, 1] ![4095, 0] ![0, 0] x v reduceWindows_S4096x128_S4096x128_w4096s1p4095_0_w1s1p0_0 h_S_ i
      = Ideal.hostReduceWindowAdd ![4096, 1] ![1, 1] ![4095, 0] ![0, 0] reduceWindows_S4096x128_S4096x128_w4096s1p4095_0_w1s1p0_0 x 0 i := by
  rw [← hv (Shape.Idx.first h_S_)]
  rfl

variable (x0 x1 : (⟨S4096x512, .f32⟩ : BufTy).Contents (Elt Ideal)) (x2 : (⟨S4x128x128, .f32⟩ : BufTy).Contents (Elt Ideal))
  (x3 : (⟨S512, .f32⟩ : BufTy).Contents (Elt Ideal))

theorem s2 (i : S4096x128.Idx) : val_main_v4 x0 i = Ideal.hostReduceWindowAdd ![4096, 1] ![1, 1] ![4095, 0] ![0, 0] reduceWindows_S4096x128_S4096x128_w4096s1p4095_0_w1s1p0_0 (val_main_v3 (F := Ideal) x0) 0 i :=
  prefix_eq _ _ (fun i => by pointwise [val_main_call0_call0_v0, val_main_call0_call0_cst]) i
theorem s4 (i : S4096x128.Idx) : val_main_v20 x0 i = Ideal.hostReduceWindowAdd ![4096, 1] ![1, 1] ![4095, 0] ![0, 0] reduceWindows_S4096x128_S4096x128_w4096s1p4095_0_w1s1p0_0 (val_main_v19 (F := Ideal) x0) 0 i :=
  prefix_eq _ _ (fun i => by pointwise [val_main_call1_call0_v0, val_main_call1_call0_cst]) i
theorem s8 (i : S4096x128.Idx) : val_main_v36 x0 i = Ideal.hostReduceWindowAdd ![4096, 1] ![1, 1] ![4095, 0] ![0, 0] reduceWindows_S4096x128_S4096x128_w4096s1p4095_0_w1s1p0_0 (val_main_v35 (F := Ideal) x0) 0 i :=
  prefix_eq _ _ (fun i => by pointwise [val_main_call2_call0_v0, val_main_call2_call0_cst]) i
theorem s16 (i : S4096x128.Idx) : val_main_v52 x0 i = Ideal.hostReduceWindowAdd ![4096, 1] ![1, 1] ![4095, 0] ![0, 0] reduceWindows_S4096x128_S4096x128_w4096s1p4095_0_w1s1p0_0 (val_main_v51 (F := Ideal) x0) 0 i :=
  prefix_eq _ _ (fun i => by pointwise [val_main_call3_call0_v0, val_main_call3_call0_cst]) i

section Means

variable (hu : ∀ i, Fin' (x0 i))
include hu

theorem g2 (t : Fin 4096) (l : Fin 128) : val_main_v17 (F := Ideal) x0 (ix2 t l) = means x0 (ix2 t (lane 0 l)) := by
  have hy : ∀ s : Fin 4096, val_main_v3 (F := Ideal) x0 (ix2 s l) = x0 (ix2 s (lane 0 l)) := fun s => by
    pointwise [val_main_v3, val_main_v2, val_main_v0]
    exact congrArg _ ((ix2_inj _ _ _ _).2 ⟨rfl, Fin.ext (by show l.val = 0 * 128 + l.val; omega)⟩)
  refine Eq.trans ?_ (plain_means 2 (by decide) x0 hu (lane 0 l) (wlen_lane 0 l) l reduceWindows_S4096x128_S4096x128_w4096s1p4095_0_w1s1p0_0 _ hy t _
    (count t.val 2 (by omega) (by decide)))
  rw [← hy]
  pointwise [val_main_v17, val_main_v16, val_main_v15, val_main_v14, val_main_v13, val_main_v12, val_main_v7, val_main_v6, val_main_v5, val_main_cst, ← s2]
  rfl

theorem g4 (t : Fin 4096) (l : Fin 128) : val_main_v33 (F := Ideal) x0 (ix2 t l) = means x0 (ix2 t (lane 1 l)) := by
  have hy : ∀ s : Fin 4096, val_main_v19 (F := Ideal) x0 (ix2 s l) = x0 (ix2 s (lane 1 l)) := fun s => by
    pointwise [val_main_v19, val_main_v18, val_main_v0]
    exact congrArg _ ((ix2_inj _ _ _ _).2 ⟨rfl, Fin.ext (by show 128 + l.val = 1 * 128 + l.val; omega)⟩)
  refine Eq.trans ?_ (plain_means 4 (by decide) x0 hu (lane 1 l) (wlen_lane 1 l) l reduceWindows_S4096x128_S4096x128_w4096s1p4095_0_w1s1p0_0 _ hy t _
    (count t.val 4 (by omega) (by decide)))
  rw [← hy]
  pointwise [val_main_v33, val_main_v32, val_main_v31, val_main_v30, val_main_v29, val_main_v28, val_main_v23, val_main_v22, val_main_v21, val_main_cst_1, ← s4]
  rfl

theorem g8 (t : Fin 4096) (l : Fin 128) : val_main_v49 (F := Ideal) x0 (ix2 t l) = means x0 (ix2 t (lane 2 l)) := by
  have hy : ∀ s : Fin 4096, val_main_v35 (F := Ideal) x0 (ix2 s l) = x0 (ix2 s (lane 2 l)) := fun s => by
    pointwise [val_main_v35, val_main_v34, val_main_v0]
    exact congrArg _ ((ix2_inj _ _ _ _).2 ⟨rfl, Fin.ext (by show 256 + l.val = 2 * 128 + l.val; omega)⟩)
  refine Eq.trans ?_ (plain_means 8 (by decide) x0 hu (lane 2 l) (wlen_lane 2 l) l reduceWindows_S4096x128_S4096x128_w4096s1p4095_0_w1s1p0_0 _ hy t _
    (count t.val 8 (by omega) (by decide)))
  rw [← hy]
  pointwise [val_main_v49, val_main_v48, val_main_v47, val_main_v46, val_main_v45, val_main_v44, val_main_v39, val_main_v38, val_main_v37, val_main_cst_4, ← s8]
  rfl

theorem g16 (t : Fin 4096) (l : Fin 128) : val_main_v65 (F := Ideal) x0 (ix2 t l) = means x0 (ix2 t (lane 3 l)) := by
  have hy : ∀ s : Fin 4096, val_main_v51 (F := Ideal) x0 (ix2 s l) = x0 (ix2 s (lane 3 l)) := fun s => by
    pointwise [val_main_v51, val_main_v50, val_main_v0]
    exact congrArg _ ((ix2_inj _ _ _ _).2 ⟨rfl, Fin.ext (by show 384 + l.val = 3 * 128 + l.val; omega)⟩)
  refine Eq.trans ?_ (plain_means 16 (by decide) x0 hu (lane 3 l) (wlen_lane 3 l) l reduceWindows_S4096x128_S4096x128_w4096s1p4095_0_w1s1p0_0 _ hy t _
    (count t.val 16 (by omega) (by decide)))
  rw [← hy]
  pointwise [val_main_v65, val_main_v64, val_main_v63, val_main_v62, val_main_v61, val_main_v60, val_main_v55, val_main_v54, val_main_v53, val_main_cst_7, ← s16]
  rfl

theorem pooled (t : Fin 4096) (g : Fin 4) (l : Fin 128) : val_main_v70 (F := Ideal) x0 (ix3 t g l) = means x0 (ix2 t (lane g l)) := by
  fin_cases g
  · refine Eq.trans ?_ (g2 x0 hu t l)
    pointwise [val_main_v70, val_main_v66]
  · refine Eq.trans ?_ (g4 x0 hu t l)
    pointwise [val_main_v70, val_main_v67]
  · refine Eq.trans ?_ (g8 x0 hu t l)
    pointwise [val_main_v70, val_main_v68]
  · refine Eq.trans ?_ (g16 x0 hu t l)
    pointwise [val_main_v70, val_main_v69]

end Means

theorem dp (t : Fin 4096) (g : Fin 4) (d : Fin 128) : val_main_v89 x1 x2 x3 (ix2 t (lane g d)) = dPooled x1 x2 (fun l => x3 (ix1 l)) t g d := by
  have h1 : (g.val * 128 + d.val) / 128 = g.val := by omega
  have h2 : (g.val * 128 + d.val) % 128 = d.val := by omega
  unfold dPooled
  pointwise [val_main_v89, val_main_v86, val_main_v85, val_main_v84, val_main_v83, val_main_v81, val_main_v80, val_main_v74]
  simp only [h1, h2]

theorem dw (g : Fin 4) (d e : Fin 128) (hm : ∀ t, val_main_v70 x0 (ix3 t g d) = means x0 (ix2 t (lane g d))) :
    val_main_v88 x0 x1 x3 (ix3 g d e) = ∑ t : Fin 4096, dWeightAt x0 x1 (fun l => x3 (ix1 l)) g d e t := by
  unfold dWeightAt
  simp only [← hm]
  pointwise [val_main_v88, val_main_v87, val_main_v84, val_main_v83, val_main_v81, val_main_v80, val_main_v74]
  exact Finset.sum_congr rfl fun t _ => mul_comm _ _

theorem ds (g : Fin 4) (d : Fin 128) (hm : ∀ t e, val_main_v70 x0 (ix3 t g e) = means x0 (ix2 t (lane g e))) :
    val_main_v90 x0 x1 x2 (ix2 0 (lane g d)) = ∑ t : Fin 4096, dScaleAt x0 x1 x2 g d t := by
  unfold dScaleAt
  simp only [← hm]
  pointwise [val_main_v90, val_main_v82, val_main_v79, val_main_v78, val_main_v77, val_main_v73, val_main_v72, val_main_v71, val_main_cst_10, val_main_cst_11]
  rw [Fin.sum_univ_one]
  refine Finset.sum_congr rfl fun t _ => (mul_comm _ _).trans (congrArg _ (Finset.sum_congr rfl fun e _ => mul_comm _ _))

end Cert.PoolWRefIdeal.RefValue

end
-- ==== Proof.PoolW.lean ====
/-
  The claims of the pool mixer's weight gradients.
-/
module

public import proofs.«01_k».proof.Proof.Finite
public import proofs.«01_k».proof.Proof.Gen.Pre_finite_u
public import proofs.«01_k».proof.Proof.PoolWAcc
public import proofs.«01_k».proof.Proof.PoolWRef
public import Idealize.ShloMosaic.Lib.Claim

@[expose] public section

set_option maxRecDepth 16384

noncomputable section

namespace Cert.Proof.PoolWClaims

open Idealize.ShloMosaic Idealize.ShloMosaic.TcCoe Idealize.SL.Sem Cert.Pool

theorem lane_mod (l : Fin 512) : lane ⟨l.val / 128, by omega⟩ ⟨l.val % 128, Nat.mod_lt _ (by decide)⟩ = l :=
  Fin.ext (by show l.val / 128 * 128 + l.val % 128 = l.val; omega)

section Ref

open Cert.PoolWRefIdeal Cert.PoolWRefIdeal.Read Cert.PoolWRefIdeal.RefValue

variable (x0 x1 : Mat) (x2 : S4x128x128.Idx → EReal) (x3 : S512.Idx → EReal)

/-- The plain program's three results. -/
theorem ref_dp : val_main_v89 (F := Ideal) x1 x2 x3 = fun i => dPooled x1 x2 (fun l => x3 (ix1 l)) (i 0)
    ⟨(i 1).val / 128, by have : (i 1).val < 512 := (i 1).isLt; omega⟩ ⟨(i 1).val % 128, Nat.mod_lt _ (by decide)⟩ := by
  funext i
  obtain ⟨t, l, rfl⟩ : ∃ (t : Fin 4096) (l : Fin 512), i = ix2 t l := ⟨i 0, i 1, eq_ix2 i⟩
  exact (congrArg (fun k => val_main_v89 (F := Ideal) x1 x2 x3 (ix2 t k)) (lane_mod l).symm).trans (dp x1 x2 x3 t _ _)

theorem ref_dw (hu : ∀ i, Fin' (x0 i)) : val_main_v88 (F := Ideal) x0 x1 x3 = fun y => ∑ t : Fin 4096, dWeightAt x0 x1 (fun l => x3 (ix1 l)) (y 0) (y 1) (y 2) t := by
  funext i
  obtain ⟨g, d, e, rfl⟩ : ∃ (g : Fin 4) (d e : Fin 128), i = ix3 g d e := ⟨i 0, i 1, i 2, eq_ix3 i⟩
  exact dw x0 x1 x3 g d e fun t => pooled x0 hu t g d

theorem ref_ds (hu : ∀ i, Fin' (x0 i)) : val_main_v90 (F := Ideal) x0 x1 x2 = fun y => ∑ t : Fin 4096, dScaleAt x0 x1 x2
    ⟨(y 1).val / 128, by have : (y 1).val < 512 := (y 1).isLt; omega⟩ ⟨(y 1).val % 128, Nat.mod_lt _ (by decide)⟩ t := by
  funext i
  obtain ⟨z, l, rfl⟩ : ∃ (z : Fin 1) (l : Fin 512), i = ix2 z l := ⟨i 0, i 1, eq_ix2 i⟩
  obtain rfl : z = 0 := Subsingleton.elim _ _
  exact (congrArg (fun k => val_main_v90 (F := Ideal) x0 x1 x2 (ix2 0 k)) (lane_mod l).symm).trans (ds x0 x1 x2 _ _ fun t e => pooled x0 hu t _ e)

end Ref

/-- The kernel's gradients of the pool mixer's weights are the derivatives of the plain ones, wherever the mixer's input is finite. -/
theorem algebraic : Cert.algebraic_PoolWIdeal_PoolWRefIdeal_pre_finite_u := by
  intro m g m' g' hpre hag
  refine ⟨_, _, _, PoolWIdeal.Value.run_blocks m g, ?_⟩
  refine (θ_run _ _ _).mono (fun r h c => ?_) (PoolWRefIdeal.Value.run m' g')
  obtain ⟨h89, h88, h90, hrest⟩ := h c
  obtain ⟨e0, e1, e2, e3⟩ := hag c
  have hu : ∀ i, Fin' ((m ((c : Thread PoolWIdeal.nD PoolWIdeal.τ).loc PoolWIdeal.main_arg0) : Mat) i) := finite_u (hpre c)
  refine ⟨h89.trans ?_, h88.trans ?_, h90.trans ?_, hrest⟩
  · rw [PoolWIdeal.KerValue.final5, PoolWRefIdeal.Read.val_main_v89_eq, e1, e2, e3]
    exact ref_dp _ _ _
  · rw [PoolWIdeal.KerValue.final6, PoolWRefIdeal.Read.val_main_v88_eq, e0, e1, e3]
    exact ref_dw _ _ _ hu
  · rw [PoolWIdeal.KerValue.final7, PoolWRefIdeal.Read.val_main_v90_eq, e0, e1, e2]
    exact ref_ds _ _ _ hu

end Cert.Proof.PoolWClaims

end
-- ==== Proof.AttnTrip.lean ====
/-
  One trip of the backward attention's walk: from the key tile it has scored to the next key tile to its left.
  The trip is run once, over any reading of the floats: what it leaves in each of the buffers it writes is read
  off the run as the list of the pieces it stored.
-/
module

public import proofs.«01_k».proof.Proof.Gen.AttnBIdeal.Launch
public import proofs.«01_k».proof.Proof.Gen.AttnBIdeal.Points
public import proofs.«01_k».proof.Proof.Gen.AttnBIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the walk reads and never changes: the two matrices that sum along a row, the masked rows of the queries and of
    the cotangent, each head's row sum of `do · o`, and where the buffers lie. -/
structure Fixed (F : FTy → Type) where
  i : grid0.Coords
  v418 : BitVec 1
  later : FVec F S256x256 .bf16
  from_s : FVec F S256x256 .bf16
  d0 : FVec F S256x1 .f32
  d1 : FVec F S256x1 .f32
  d2 : FVec F S256x1 .f32
  d3 : FVec F S256x1 .f32
  do0 : FVec F S256x256 .bf16
  do1 : FVec F S256x256 .bf16
  do2 : FVec F S256x256 .bf16
  do3 : FVec F S256x256 .bf16
  q0 : FVec F S256x256 .bf16
  q1 : FVec F S256x256 .bf16
  q2 : FVec F S256x256 .bf16
  q3 : FVec F S256x256 .bf16
  rk : Memref sig .tc .vmem S1x4096x256 .bf16
  hk : rk.IsWhole
  rv : Memref sig .tc .vmem S1x4096x256 .bf16
  hv : rv.IsWhole
  rkh : Memref sig .tc .vmem S4x4096x256 .bf16
  hkh : rkh.IsWhole
  rdk : Memref sig .tc .vmem S4096x256 .f32
  hdk : rdk.IsWhole
  rdv : Memref sig .tc .vmem S4096x256 .f32
  hdv : rdv.IsWhole
  rdq : Memref sig .tc .vmem S4x256x256 .f32
  hdq : rdq.IsWhole
  rz : Memref sig .tc .vmem S2x4x256x256 .f32
  hz : rz.IsWhole
  rda : Memref sig .tc .vmem S2x4x256x256 .f32
  hda : rda.IsWhole

/-- The two running sums of each head's rows. -/
structure Sums (F : FTy → Type) where
  l0 : FVec F S256x1 .f32
  l1 : FVec F S256x1 .f32
  l2 : FVec F S256x1 .f32
  l3 : FVec F S256x1 .f32
  g0 : FVec F S256x1 .f32
  g1 : FVec F S256x1 .f32
  g2 : FVec F S256x1 .f32
  g3 : FVec F S256x1 .f32

/-- The record the walk's label is called on. -/
abbrev args (a : Fixed F) (jj : BitVec 32) (go : BitVec 1) (s : Sums F) : Cc0While1 F :=
  ⟨a.i, a.v418, a.rz, a.hz, a.later, a.rda, a.hda, a.from_s, a.d0, a.do0, a.d1, a.do1, a.d2, a.do2, a.d3, a.do3, a.rdv, a.hdv,
    a.rkh, a.hkh, a.rdq, a.hdq, a.q0, a.q1, a.q2, a.q3, a.rdk, a.hdk, a.rk, a.hk, a.rv, a.hv, jj, go,
    s.l0, s.l1, s.l2, s.l3, s.g0, s.g1, s.g2, s.g3⟩

/-- The buffers' contents during the walk. -/
structure Mem (F : FTy → Type) where
  kh : Vec F S4x4096x256 .bf16
  dk : Vec F S4096x256 .f32
  dv : Vec F S4096x256 .f32
  dq : Vec F S4x256x256 .f32
  z : Vec F S2x4x256x256 .f32
  da : Vec F S2x4x256x256 .f32

/-- The buffers the walk touches, at their contents. -/
abbrev held (c : Dev nD) (a : Fixed F) (k v : Vec F S1x4096x256 .bf16) (x : Mem F) : sProp 𝕄 :=
  iprop(owns (c : Thread nD τ) a.rk fullShare k ∗ owns (c : Thread nD τ) a.rv fullShare v
    ∗ owns (c : Thread nD τ) a.rkh fullShare x.kh ∗ owns (c : Thread nD τ) a.rdk fullShare x.dk
    ∗ owns (c : Thread nD τ) a.rdv fullShare x.dv ∗ owns (c : Thread nD τ) a.rdq fullShare x.dq
    ∗ owns (c : Thread nD τ) a.rz fullShare x.z ∗ owns (c : Thread nD τ) a.rda fullShare x.da)

/-- What one trip leaves in the buffers it writes, the counter, the flag and the sums it hands on, and that it does. -/
structure Trip (c : Dev nD) (𝒱₀ : Variants) (a : Fixed F) (jj : BitVec 32) (s : Sums F) (k v : Vec F S1x4096x256 .bf16) (x : Mem F) where
  dk : a.rdk.view.ty.Contents (Elt F)
  dv : a.rdv.view.ty.Contents (Elt F)
  dq : a.rdq.view.ty.Contents (Elt F)
  z : a.rz.view.ty.Contents (Elt F)
  da : a.rda.view.ty.Contents (Elt F)
  jj' : BitVec 32
  go : BitVec 1
  l0 : FVec F S256x1 .f32
  l1 : FVec F S256x1 .f32
  l2 : FVec F S256x1 .f32
  l3 : FVec F S256x1 .f32
  g0 : FVec F S256x1 .f32
  g1 : FVec F S256x1 .f32
  g2 : FVec F S256x1 .f32
  g3 : FVec F S256x1 .f32
  run : ∀ (b : Option 𝒱₀.V) (E : Set ℕ) (K : _ → sProp 𝕄),
    iprop(held c a k v x
      ∗ (iprop(owns (c : Thread nD τ) a.rk fullShare k ∗ owns (c : Thread nD τ) a.rv fullShare v
          ∗ owns (c : Thread nD τ) a.rkh fullShare x.kh
          ∗ (a.rdk.view.loc (c : Thread nD τ) ↦[a.rdk.view.set]{fullShare} dk)
          ∗ (a.rdv.view.loc (c : Thread nD τ) ↦[a.rdv.view.set]{fullShare} dv)
          ∗ (a.rdq.view.loc (c : Thread nD τ) ↦[a.rdq.view.set]{fullShare} dq)
          ∗ (a.rz.view.loc (c : Thread nD τ) ↦[a.rz.view.set]{fullShare} z)
          ∗ (a.rda.view.loc (c : Thread nD τ) ↦[a.rda.view.set]{fullShare} da))
        -∗ wp frame (wpE (defs₀ (F := F)) 𝒱₀ (c : Thread nD τ) b) E
            (.op (.call (1 : (Λ₀ F).Label) (args a jj' go ⟨l0, l1, l2, l3, g0, g1, g2, g3⟩)) .ret) K))
      ⊢ wp frame (wpE (defs₀ (F := F)) 𝒱₀ (c : Thread nD τ) b) E
          (defs₀ (F := F) .tc 1 (args a jj 1#1 s)) K

set_option maxHeartbeats 4000000 in
/-- One trip, run. -/
def trip (c : Dev nD) (𝒱₀ : Variants) (a : Fixed F) (jj : BitVec 32) (s : Sums F)
    (h1 : k0_chk1 a.i jj) (h2 : ∀ w, k0_chk2 a.i jj w) (k v : Vec F S1x4096x256 .bf16) (x : Mem F) : Trip c 𝒱₀ a jj s k v x := by
  refine ⟨?_, ?_, ?_, ?_, ?_, ?_, ?_, ?_, ?_, ?_, ?_, ?_, ?_, ?_, ?_, fun b E K => ?run⟩
  case run =>
    show _ ⊢ wp frame (wpE (defs₀ (F := F)) 𝒱₀ (c : Thread nD τ) b) E
      (cc0_while1 a.i a.v418 a.rz a.hz a.later a.rda a.hda a.from_s a.d0 a.do0 a.d1 a.do1 a.d2 a.do2 a.d3 a.do3 a.rdv a.hdv
        a.rkh a.hkh a.rdq a.hdq a.q0 a.q1 a.q2 a.q3 a.rdk a.hdk a.rk a.hk a.rv a.hv jj 1#1
        s.l0 s.l1 s.l2 s.l3 s.g0 s.g1 s.g2 s.g3) K
    simp only [cc0_while1_eq_skeleton]; unfold cc0_while1_skel
    simp only [k0_part24_eq_skeleton, k0_part25_eq_skeleton, k0_part26_eq_skeleton, k0_part27_eq_skeleton, k0_part28_eq_skeleton,
      k0_part29_eq_skeleton, k0_part30_eq_skeleton, k0_part31_eq_skeleton, k0_part32_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
    obtain rfl := a.hk.eq_unread hf0; obtain rfl := a.hv.eq_unread hf1; obtain rfl := a.hkh.eq_unread hf2
    obtain rfl := a.hdk.eq_unread hf3; obtain rfl := a.hdv.eq_unread hf4; obtain rfl := a.hdq.eq_unread hf5
    obtain rfl := a.hz.eq_unread hf6; obtain rfl := a.hda.eq_unread hf7
    sl_exec (disch := first | sl_exact h1 | exact h2 _)
    iapply Hk
    isplitl [H0]
    · iexists _; isplitr; · ipureintro; exact a.hk.read_unread _
      iexact H0
    isplitl [H1]
    · iexists _; isplitr; · ipureintro; exact a.hv.read_unread _
      iexact H1
    isplitl [H2]
    · iexists _; isplitr; · ipureintro; exact a.hkh.read_unread _
      iexact H2
    isplitl [H3]; · iexact H3
    isplitl [H4]; · iexact H4
    isplitl [H5]; · iexact H5
    isplitl [H6]; · iexact H6
    iexact H7

end AttnB
-- ==== Proof.AttnWalk.lean ====
/-
  The walk of the backward attention over the key tiles to the left of the two nearest: `walk` is what its trips leave
  in the buffers, and the loop's label, called at any counter, leaves that.
-/
module

public import proofs.«01_k».proof.Proof.AttnTrip

@[expose] public section

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The trips to go bound the walk. -/
abbrev 𝒱₀ : Variants := Variants.nat

/-- The accesses of a trip at key tile `i - 2 - jj` are in bounds. -/
theorem chk1_of : ∀ (t : Fin grid0.N) (jj : Fin 16), jj.val + 2 ≤ ((grid0.coords t) 1).val →
    k0_chk1 (grid0.coords t) (BitVec.ofNat 32 jj.val) := by decide +kernel

theorem chk2_of : ∀ (t : Fin grid0.N) (jj : Fin 16) (w : Fin 2), jj.val + 2 ≤ ((grid0.coords t) 1).val →
    k0_chk2 (grid0.coords t) (BitVec.ofNat 32 jj.val) (BitVec.ofNat 1 w.val) := by decide +kernel

/-- A trip's accesses are in bounds. -/
abbrev Checks (i : grid0.Coords) (jj : ℕ) : Prop :=
  k0_chk1 i (BitVec.ofNat 32 jj) ∧ ∀ w, k0_chk2 i (BitVec.ofNat 32 jj) w

theorem checks_of (t : Fin grid0.N) (jj : ℕ) (h : jj + 2 ≤ ((grid0.coords t) 1).val) : Checks (grid0.coords t) jj := by
  have h16 : jj < 16 := by
    have : ((grid0.coords t) 1).val < 16 := ((grid0.coords t) 1).isLt
    omega
  refine ⟨chk1_of t ⟨jj, h16⟩ h, fun w => ?_⟩
  have := chk2_of t ⟨jj, h16⟩ ⟨w.toNat, w.isLt⟩ h
  simpa using this

section Trip
variable (c : Dev nD) (a : Fixed F) (jj : ℕ) (s : Sums F) (h : Checks a.i jj) (k v : Vec F S1x4096x256 .bf16) (x : Mem F)

/-- The run of one trip from the counter `jj`. -/
abbrev tripAt := trip (F := F) c 𝒱₀ a (BitVec.ofNat 32 jj) s h.1 h.2 k v x

/-- The buffers after a trip. -/
def next : Mem F :=
  ⟨x.kh, a.rdk.view.read (Elt F) (tripAt c a jj s h k v x).dk, a.rdv.view.read (Elt F) (tripAt c a jj s h k v x).dv,
    a.rdq.view.read (Elt F) (tripAt c a jj s h k v x).dq, a.rz.view.read (Elt F) (tripAt c a jj s h k v x).z,
    a.rda.view.read (Elt F) (tripAt c a jj s h k v x).da⟩

/-- The flag after a trip. -/
def nextGo : BitVec 1 := (tripAt c a jj s h k v x).go

/-- The running sums after a trip. -/
def nextSums : Sums F :=
  ⟨(tripAt c a jj s h k v x).l0, (tripAt c a jj s h k v x).l1, (tripAt c a jj s h k v x).l2, (tripAt c a jj s h k v x).l3,
    (tripAt c a jj s h k v x).g0, (tripAt c a jj s h k v x).g1, (tripAt c a jj s h k v x).g2, (tripAt c a jj s h k v x).g3⟩

theorem trip_jj : (tripAt c a jj s h k v x).jj' = BitVec.ofNat 32 (jj + 1) := by
  show Scalar.addi (BitVec.ofNat 32 jj) 1#32 = _
  simp only [Scalar.addi, BitVec.ofNat_add]; rfl

set_option maxHeartbeats 4000000 in
/-- One trip, at what it leaves. -/
theorem trip_next (b : Option 𝒱₀.V) (E : Set ℕ) (K : _ → sProp 𝕄) :
    iprop(held c a k v x ∗ (held c a k v (next c a jj s h k v x)
        -∗ wp frame (wpE (defs₀ (F := F)) 𝒱₀ (c : Thread nD τ) b) E
            (.op (.call (1 : (Λ₀ F).Label) (args a (BitVec.ofNat 32 (jj + 1)) (nextGo c a jj s h k v x) (nextSums c a jj s h k v x))) .ret) K))
      ⊢ wp frame (wpE (defs₀ (F := F)) 𝒱₀ (c : Thread nD τ) b) E
          (defs₀ (F := F) .tc 1 (args a (BitVec.ofNat 32 jj) 1#1 s)) K := by
  unfold nextGo nextSums
  rw [← trip_jj c a jj s h k v x]
  iintro ⟨H, Hk⟩
  iapply ((tripAt c a jj s h k v x).run b E K)
  isplitl [H]; · iexact H
  iintro ⟨H0, H1, H2, H3, H4, H5, H6, H7⟩
  iapply Hk
  unfold next
  unfold held owns
  isplitl [H0]; · iexact H0
  isplitl [H1]; · iexact H1
  isplitl [H2]; · iexact H2
  isplitl [H3]; · iexists _; isplitr; swap; (iexact H3); ipureintro; rfl
  isplitl [H4]; · iexists _; isplitr; swap; (iexact H4); ipureintro; rfl
  isplitl [H5]; · iexists _; isplitr; swap; (iexact H5); ipureintro; rfl
  isplitl [H6]; · iexists _; isplitr; swap; (iexact H6); ipureintro; rfl
  iexists _; isplitr; swap; (iexact H7); ipureintro; rfl

end Trip

/-- What at most `n` trips from the counter `jj` leave. -/
def walk (c : Dev nD) (a : Fixed F) (k v : Vec F S1x4096x256 .bf16) : ℕ → ℕ → BitVec 1 → Sums F → Mem F → Mem F
  | 0, _, _, _, x => x
  | n + 1, jj, go, s, x =>
    if h : go = 1#1 ∧ Checks a.i jj then
      walk c a k v n (jj + 1) (nextGo c a jj s h.2 k v x) (nextSums c a jj s h.2 k v x) (next c a jj s h.2 k v x)
    else x

/-- The label's specification: holding the buffers it hands them back as the walk leaves them. -/
def spec (c : Dev nD) (a : Fixed F) (k v : Vec F S1x4096x256 .bf16) (n jj : ℕ) (go : BitVec 1) (s : Sums F) (x : Mem F) :
    sWPT 𝕄 ((Λ₀ F).Result 1) := do
  sWPT.consume (held c a k v x)
  let r ← sWPT.arbitrary
  sWPT.produce (held c a k v (walk c a k v n jj go s x))
  pure r

theorem spec_apply (c : Dev nD) (a : Fixed F) (k v : Vec F S1x4096x256 .bf16) (n jj : ℕ) (go : BitVec 1) (s : Sums F) (x : Mem F)
    (K : (Λ₀ F).Result 1 → sProp 𝕄) :
    spec c a k v n jj go s x K
      = iprop(held c a k v x ∗ ∀ r : (Λ₀ F).Result 1, held c a k v (walk c a k v n jj go s x) -∗ K r) := rfl

/-- A trip keeps its flag only while a key tile is left. -/
theorem nextGo_left (c : Dev nD) (a : Fixed F) (t : Fin grid0.N) (hi : a.i = grid0.coords t) (jj : ℕ) (hjj : jj + 2 ≤ ((grid0.coords t) 1).val)
    (s : Sums F) (h : Checks a.i jj) (k v : Vec F S1x4096x256 .bf16) (x : Mem F)
    (hgo : nextGo c a jj s h k v x = 1#1) : jj + 3 ≤ ((grid0.coords t) 1).val := by
  have e : ∃ w, nextGo c a jj s h k v x
      = Scalar.andi (Scalar.cmpi .sgt (Scalar.subi (Scalar.subi (BitVec.ofNat 32 (a.i 1).val) 2#32) (BitVec.ofNat 32 jj)) 0#32) w := ⟨_, rfl⟩
  obtain ⟨w, e⟩ := e
  rw [hgo, hi] at e
  have h16 : jj < 16 := by
    have : ((grid0.coords t) 1).val < 16 := ((grid0.coords t) 1).isLt
    omega
  have key : ∀ (i : Fin 16) (j : Fin 16) (w : Fin 2), j.val + 2 ≤ i.val →
      1#1 = Scalar.andi (Scalar.cmpi .sgt (Scalar.subi (Scalar.subi (BitVec.ofNat 32 i.val) 2#32) (BitVec.ofNat 32 j.val)) 0#32) (BitVec.ofNat 1 w.val)
        → j.val + 3 ≤ i.val := by decide +kernel
  refine key ((grid0.coords t) 1) ⟨jj, h16⟩ ⟨w.toNat, w.isLt⟩ hjj ?_
  simpa using e

/-- The label at counter `jj` with `n` trips at most to go meets its specification. -/
theorem spec_le (c : Dev nD) (a : Fixed F) (t : Fin grid0.N) (hi : a.i = grid0.coords t) (k v : Vec F S1x4096x256 .bf16) (E : Set ℕ) :
    ∀ n jj go s x, (go = 1#1 → jj + 2 ≤ ((grid0.coords t) 1).val) → ((grid0.coords t) 1).val ≤ n + jj + 1 → ∀ K,
      spec c a k v n jj go s x K
        ⊢ wp frame (wpE (defs₀ (F := F)) 𝒱₀ (c : Thread nD τ) (some n)) E
            (defs₀ (F := F) .tc 1 (args a (BitVec.ofNat 32 jj) go s)) K := by
  intro n
  have stop : ∀ (n jj : ℕ) go s x K, go ≠ 1#1 → walk c a k v n jj go s x = x →
      spec c a k v n jj go s x K
        ⊢ wp frame (wpE (defs₀ (F := F)) 𝒱₀ (c : Thread nD τ) (some n)) E
            (defs₀ (F := F) .tc 1 (args a (BitVec.ofNat 32 jj) go s)) K := by
    intro n jj go s x K hgo hw
    rw [spec_apply, hw]
    show _ ⊢ wp frame (wpE (defs₀ (F := F)) 𝒱₀ (c : Thread nD τ) (some n)) E
      (cc0_while1 a.i a.v418 a.rz a.hz a.later a.rda a.hda a.from_s a.d0 a.do0 a.d1 a.do1 a.d2 a.do2 a.d3 a.do3 a.rdv a.hdv
        a.rkh a.hkh a.rdq a.hdq a.q0 a.q1 a.q2 a.q3 a.rdk a.hdk a.rk a.hk a.rv a.hv (BitVec.ofNat 32 jj) go
        s.l0 s.l1 s.l2 s.l3 s.g0 s.g1 s.g2 s.g3) K
    simp only [cc0_while1_eq_skeleton]; unfold cc0_while1_skel
    simp only [hgo, ↓reduceIte, Prog.pure_eq_ret]
    iintro ⟨H, Hk⟩
    rw [wp_ret]; imodintro
    iapply Hk; iexact H
  induction n with
  | zero =>
    intro jj go s x hgo hn K
    exact stop 0 jj go s x K (fun e => by have := hgo e; omega) rfl
  | succ n ih =>
    intro jj go s x hgo hn K
    by_cases hg : go = 1#1
    · subst hg
      have hc : Checks a.i jj := hi ▸ checks_of t jj (hgo rfl)
      have hw : walk c a k v (n + 1) jj 1#1 s x
          = walk c a k v n (jj + 1) (nextGo c a jj s hc k v x) (nextSums c a jj s hc k v x) (next c a jj s hc k v x) := by
        rw [walk, dif_pos ⟨rfl, hc⟩]
      rw [spec_apply, hw]
      iintro ⟨H, Hk⟩
      iapply (trip_next c a jj s hc k v x (some (n + 1)) E K)
      isplitl [H]; · iexact H
      iintro H
      iapply (wp_call_spec 𝒱₀ (c : Thread nD τ) (some (n + 1)) E
        (spec c a k v n (jj + 1) (nextGo c a jj s hc k v x) (nextSums c a jj s hc k v x) (next c a jj s hc k v x)) n
        (fun u hu => by cases hu; exact Nat.lt_succ_self n)
        (ih (jj + 1) _ _ _ (fun e => by have := nextGo_left c a t hi jj (hgo rfl) s hc k v x e; omega) (by omega)))
      rw [spec_apply]
      isplitl [H]; · iexact H
      iintro %r H
      rw [wp_ret]; imodintro
      iapply Hk; iexact H
    · exact stop (n + 1) jj go s x K hg (by rw [walk, dif_neg (fun e => hg e.1)])

end AttnB
-- ==== Proof.AttnHead.lean ====
/-
  The part of a row tile of the backward attention that comes before its walk: the two nearest key tiles, scored and
  summed. It is run once, over any reading of the floats.
-/
module

public import proofs.«01_k».proof.Proof.AttnWalk

@[expose] public section

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers of a grid point: the five staged inputs, the three staged results, the six scratch buffers. -/
structure Refs where
  rq : Memref sig .tc .vmem S1x256x256 .bf16
  hq : rq.IsWhole
  rk : Memref sig .tc .vmem S1x4096x256 .bf16
  hk : rk.IsWhole
  rv : Memref sig .tc .vmem S1x4096x256 .bf16
  hv : rv.IsWhole
  ro : Memref sig .tc .vmem S256x256 .f32
  ho : ro.IsWhole
  rdo : Memref sig .tc .vmem S256x256 .f32
  hdo : rdo.IsWhole
  odq : Memref sig .tc .vmem S256x256 .bf16
  hodq : odq.IsWhole
  odk : Memref sig .tc .vmem S4096x256 .bf16
  hodk : odk.IsWhole
  odv : Memref sig .tc .vmem S4096x256 .bf16
  hodv : odv.IsWhole
  rkh : Memref sig .tc .vmem S4x4096x256 .bf16
  hkh : rkh.IsWhole
  rdk : Memref sig .tc .vmem S4096x256 .f32
  hdk : rdk.IsWhole
  rdv : Memref sig .tc .vmem S4096x256 .f32
  hdv : rdv.IsWhole
  rdq : Memref sig .tc .vmem S4x256x256 .f32
  hdq : rdq.IsWhole
  rz : Memref sig .tc .vmem S2x4x256x256 .f32
  hz : rz.IsWhole
  rda : Memref sig .tc .vmem S2x4x256x256 .f32
  hda : rda.IsWhole

/-- The staged inputs' contents. -/
structure Ins (F : FTy → Type) where
  q : Vec F S1x256x256 .bf16
  k : Vec F S1x4096x256 .bf16
  v : Vec F S1x4096x256 .bf16
  o : Vec F S256x256 .f32
  d : Vec F S256x256 .f32

/-- A memory that is held whole is held at what it reads. -/
theorem reread {c : Dev nD} {s : Shape} {e : EltTy} {r : Memref sig .tc .vmem s e} (h : r.IsWhole) (f : r.view.ty.Contents (Elt F)) :
    (r.view.loc (c : Thread nD τ) ↦[r.view.set]{fullShare} f : sProp 𝕄)
      ⊢ r.view.loc (c : Thread nD τ) ↦[r.view.set]{fullShare} h.unread (r.view.read (Elt F) f) := by
  rw [← h.eq_unread (f := f) rfl]

/-- What the first part of a grid point leaves: the masked keys and the cleared sums of the first row tile. -/
structure Start (c : Dev nD) (i : grid0.Coords) (p : Refs) (n : Ins F) (x : Mem F) where
  kh : p.rkh.view.ty.Contents (Elt F)
  dk : p.rdk.view.ty.Contents (Elt F)
  dv : p.rdv.view.ty.Contents (Elt F)
  rest : Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.ro fullShare n.o
        ∗ owns (c : Thread nD τ) p.rdo fullShare n.d
        ∗ owns (c : Thread nD τ) p.rkh fullShare x.kh
        ∗ owns (c : Thread nD τ) p.rdk fullShare x.dk
        ∗ owns (c : Thread nD τ) p.rdv fullShare x.dv
        ∗ owns (c : Thread nD τ) p.rdq fullShare x.dq
        ∗ owns (c : Thread nD τ) p.rz fullShare x.z
        ∗ owns (c : Thread nD τ) p.rda fullShare x.da
        ∗ (iprop(owns (c : Thread nD τ) p.rq fullShare n.q
            ∗ owns (c : Thread nD τ) p.rk fullShare n.k
            ∗ owns (c : Thread nD τ) p.rv fullShare n.v
            ∗ owns (c : Thread nD τ) p.ro fullShare n.o
            ∗ owns (c : Thread nD τ) p.rdo fullShare n.d
            ∗ (p.rkh.view.loc (c : Thread nD τ) ↦[p.rkh.view.set]{fullShare} kh)
            ∗ (p.rdk.view.loc (c : Thread nD τ) ↦[p.rdk.view.set]{fullShare} dk)
            ∗ (p.rdv.view.loc (c : Thread nD τ) ↦[p.rdv.view.set]{fullShare} dv)
            ∗ owns (c : Thread nD τ) p.rdq fullShare x.dq
            ∗ owns (c : Thread nD τ) p.rz fullShare x.z
            ∗ owns (c : Thread nD τ) p.rda fullShare x.da)
          -∗ wp frame (wpE (defs₀ (F := F)) 𝒱₀ (c : Thread nD τ) b) E rest K))
      ⊢ wp frame (wpE (defs₀ (F := F)) 𝒱₀ (c : Thread nD τ) b) E (cc0_attn_bwd i p.rq p.hq p.rk p.hk p.rv p.hv p.ro p.ho p.rdo p.hdo p.odq p.hodq p.odk p.hodk p.odv p.hodv p.rkh p.hkh p.rdk p.hdk p.rdv p.hdv p.rdq p.hdq p.rz p.hz p.rda p.hda) K

set_option maxHeartbeats 40000000 in
set_option sl_exec.resultNames true in
/-- It is run. -/
def start (c : Dev nD) (i : grid0.Coords) (p : Refs) (n : Ins F) (x : Mem F) : Start c i p n x := by
  refine ⟨?_, ?_, ?_, ?_, fun b E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := p.hq.eq_unread hf0
    obtain rfl := p.hk.eq_unread hf1
    obtain rfl := p.hv.eq_unread hf2
    obtain rfl := p.ho.eq_unread hf3
    obtain rfl := p.hdo.eq_unread hf4
    obtain rfl := p.hkh.eq_unread hf5
    obtain rfl := p.hdk.eq_unread hf6
    obtain rfl := p.hdv.eq_unread hf7
    obtain rfl := p.hdq.eq_unread hf8
    obtain rfl := p.hz.eq_unread hf9
    obtain rfl := p.hda.eq_unread hf10
    set_option sl_exec.stopBefore "k0_part4" in sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]
    · iexists _; isplitr; · ipureintro; exact p.ho.read_unread _
      iexact H3
    isplitl [H4]
    · iexists _; isplitr; · ipureintro; exact p.hdo.read_unread _
      iexact H4
    isplitl [H5]; · iexact H5
    isplitl [H6]; · iexact H6
    isplitl [H7]; · iexact H7
    isplitl [H8]
    · iexists _; isplitr; · ipureintro; exact p.hdq.read_unread _
      iexact H8
    isplitl [H9]
    · iexists _; isplitr; · ipureintro; exact p.hz.read_unread _
      iexact H9
    iexists _; isplitr; · ipureintro; exact p.hda.read_unread _
    iexact H10

/-- The scratch buffers then. -/
def mem1 (c : Dev nD) (i : grid0.Coords) (p : Refs) (n : Ins F) (x : Mem F) : Mem F :=
  ⟨p.rkh.view.read (Elt F) (start c i p n x).kh, p.rdk.view.read (Elt F) (start c i p n x).dk, p.rdv.view.read (Elt F) (start c i p n x).dv, x.dq, x.z, x.da⟩

/-- What the next part leaves: both key tiles scored, and the first one summed into `dv`. -/
structure Mid (c : Dev nD) (i : grid0.Coords) (p : Refs) (n : Ins F) (x : Mem F) where
  dv : p.rdv.view.ty.Contents (Elt F)
  z : p.rz.view.ty.Contents (Elt F)
  da : p.rda.view.ty.Contents (Elt F)
  rest : Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.ro fullShare n.o
        ∗ owns (c : Thread nD τ) p.rdo fullShare n.d
        ∗ owns (c : Thread nD τ) p.rkh fullShare (mem1 c i p n x).kh
        ∗ owns (c : Thread nD τ) p.rdk fullShare (mem1 c i p n x).dk
        ∗ owns (c : Thread nD τ) p.rdv fullShare (mem1 c i p n x).dv
        ∗ owns (c : Thread nD τ) p.rdq fullShare (mem1 c i p n x).dq
        ∗ owns (c : Thread nD τ) p.rz fullShare (mem1 c i p n x).z
        ∗ owns (c : Thread nD τ) p.rda fullShare (mem1 c i p n x).da
        ∗ (iprop(owns (c : Thread nD τ) p.rq fullShare n.q
            ∗ owns (c : Thread nD τ) p.rk fullShare n.k
            ∗ owns (c : Thread nD τ) p.rv fullShare n.v
            ∗ owns (c : Thread nD τ) p.ro fullShare n.o
            ∗ owns (c : Thread nD τ) p.rdo fullShare n.d
            ∗ owns (c : Thread nD τ) p.rkh fullShare (mem1 c i p n x).kh
            ∗ owns (c : Thread nD τ) p.rdk fullShare (mem1 c i p n x).dk
            ∗ (p.rdv.view.loc (c : Thread nD τ) ↦[p.rdv.view.set]{fullShare} dv)
            ∗ owns (c : Thread nD τ) p.rdq fullShare (mem1 c i p n x).dq
            ∗ (p.rz.view.loc (c : Thread nD τ) ↦[p.rz.view.set]{fullShare} z)
            ∗ (p.rda.view.loc (c : Thread nD τ) ↦[p.rda.view.set]{fullShare} da))
          -∗ wp frame (wpE (defs₀ (F := F)) 𝒱₀ (c : Thread nD τ) b) E rest K))
      ⊢ wp frame (wpE (defs₀ (F := F)) 𝒱₀ (c : Thread nD τ) b) E (start c i p n x).rest K

set_option maxHeartbeats 40000000 in
set_option sl_exec.resultNames true in
/-- It is run. -/
def mid (c : Dev nD) (i : grid0.Coords) (p : Refs) (n : Ins F) (x : Mem F) : Mid c i p n x := by
  refine ⟨?_, ?_, ?_, ?_, fun b E K => ?run⟩
  case run =>
    unfold start; dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := p.hq.eq_unread hf0
    obtain rfl := p.hk.eq_unread hf1
    obtain rfl := p.hv.eq_unread hf2
    obtain rfl := p.ho.eq_unread hf3
    obtain rfl := p.hdo.eq_unread hf4
    obtain rfl := p.hkh.eq_unread hf5
    obtain rfl := p.hdk.eq_unread hf6
    obtain rfl := p.hdv.eq_unread hf7
    obtain rfl := p.hdq.eq_unread hf8
    obtain rfl := p.hz.eq_unread hf9
    obtain rfl := p.hda.eq_unread hf10
    set_option sl_exec.stopBefore "k0_part18" in sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]
    · iexists _; isplitr; · ipureintro; exact p.ho.read_unread _
      iexact H3
    isplitl [H4]
    · iexists _; isplitr; · ipureintro; exact p.hdo.read_unread _
      iexact H4
    isplitl [H5]
    · iexists _; isplitr; · ipureintro; exact p.hkh.read_unread _
      iexact H5
    isplitl [H6]
    · iexists _; isplitr; · ipureintro; exact p.hdk.read_unread _
      iexact H6
    isplitl [H7]; · iexact H7
    isplitl [H8]
    · iexists _; isplitr; · ipureintro; exact p.hdq.read_unread _
      iexact H8
    isplitl [H9]; · iexact H9
    iexact H10

/-- The scratch buffers then. -/
def mem2 (c : Dev nD) (i : grid0.Coords) (p : Refs) (n : Ins F) (x : Mem F) : Mem F :=
  ⟨(mem1 c i p n x).kh, (mem1 c i p n x).dk, p.rdv.view.read (Elt F) (mid c i p n x).dv, (mem1 c i p n x).dq, p.rz.view.read (Elt F) (mid c i p n x).z, p.rda.view.read (Elt F) (mid c i p n x).da⟩

/-- What the next part leaves: the second tile summed into `dv`, the first into `dk` and `dq`. -/
structure Late (c : Dev nD) (i : grid0.Coords) (p : Refs) (n : Ins F) (x : Mem F) where
  dk : p.rdk.view.ty.Contents (Elt F)
  dv : p.rdv.view.ty.Contents (Elt F)
  dq : p.rdq.view.ty.Contents (Elt F)
  rest : Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.ro fullShare n.o
        ∗ owns (c : Thread nD τ) p.rdo fullShare n.d
        ∗ owns (c : Thread nD τ) p.rkh fullShare (mem2 c i p n x).kh
        ∗ owns (c : Thread nD τ) p.rdk fullShare (mem2 c i p n x).dk
        ∗ owns (c : Thread nD τ) p.rdv fullShare (mem2 c i p n x).dv
        ∗ owns (c : Thread nD τ) p.rdq fullShare (mem2 c i p n x).dq
        ∗ owns (c : Thread nD τ) p.rz fullShare (mem2 c i p n x).z
        ∗ owns (c : Thread nD τ) p.rda fullShare (mem2 c i p n x).da
        ∗ (iprop(owns (c : Thread nD τ) p.rq fullShare n.q
            ∗ owns (c : Thread nD τ) p.rk fullShare n.k
            ∗ owns (c : Thread nD τ) p.rv fullShare n.v
            ∗ owns (c : Thread nD τ) p.ro fullShare n.o
            ∗ owns (c : Thread nD τ) p.rdo fullShare n.d
            ∗ owns (c : Thread nD τ) p.rkh fullShare (mem2 c i p n x).kh
            ∗ (p.rdk.view.loc (c : Thread nD τ) ↦[p.rdk.view.set]{fullShare} dk)
            ∗ (p.rdv.view.loc (c : Thread nD τ) ↦[p.rdv.view.set]{fullShare} dv)
            ∗ (p.rdq.view.loc (c : Thread nD τ) ↦[p.rdq.view.set]{fullShare} dq)
            ∗ owns (c : Thread nD τ) p.rz fullShare (mem2 c i p n x).z
            ∗ owns (c : Thread nD τ) p.rda fullShare (mem2 c i p n x).da)
          -∗ wp frame (wpE (defs₀ (F := F)) 𝒱₀ (c : Thread nD τ) b) E rest K))
      ⊢ wp frame (wpE (defs₀ (F := F)) 𝒱₀ (c : Thread nD τ) b) E (mid c i p n x).rest K

set_option maxHeartbeats 40000000 in
set_option sl_exec.resultNames true in
/-- It is run. -/
def late (c : Dev nD) (i : grid0.Coords) (p : Refs) (n : Ins F) (x : Mem F) : Late c i p n x := by
  refine ⟨?_, ?_, ?_, ?_, fun b E K => ?run⟩
  case run =>
    unfold mid; dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := p.hq.eq_unread hf0
    obtain rfl := p.hk.eq_unread hf1
    obtain rfl := p.hv.eq_unread hf2
    obtain rfl := p.ho.eq_unread hf3
    obtain rfl := p.hdo.eq_unread hf4
    obtain rfl := p.hkh.eq_unread hf5
    obtain rfl := p.hdk.eq_unread hf6
    obtain rfl := p.hdv.eq_unread hf7
    obtain rfl := p.hdq.eq_unread hf8
    obtain rfl := p.hz.eq_unread hf9
    obtain rfl := p.hda.eq_unread hf10
    set_option sl_exec.stopBefore "k0_part23" in sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]
    · iexists _; isplitr; · ipureintro; exact p.ho.read_unread _
      iexact H3
    isplitl [H4]
    · iexists _; isplitr; · ipureintro; exact p.hdo.read_unread _
      iexact H4
    isplitl [H5]
    · iexists _; isplitr; · ipureintro; exact p.hkh.read_unread _
      iexact H5
    isplitl [H6]; · iexact H6
    isplitl [H7]; · iexact H7
    isplitl [H8]; · iexact H8
    isplitl [H9]
    · iexists _; isplitr; · ipureintro; exact p.hz.read_unread _
      iexact H9
    iexists _; isplitr; · ipureintro; exact p.hda.read_unread _
    iexact H10

/-- The scratch buffers then. -/
def mem3 (c : Dev nD) (i : grid0.Coords) (p : Refs) (n : Ins F) (x : Mem F) : Mem F :=
  ⟨(mem2 c i p n x).kh, p.rdk.view.read (Elt F) (late c i p n x).dk, p.rdv.view.read (Elt F) (late c i p n x).dv, p.rdq.view.read (Elt F) (late c i p n x).dq, (mem2 c i p n x).z, (mem2 c i p n x).da⟩

end AttnB
-- ==== Proof.AttnLast.lean ====
/-
  The last part of a row tile of the backward attention before its walk: the second key tile summed into `dq` and `dk`,
  and the next key tile scored.
-/
module

public import proofs.«01_k».proof.Proof.AttnHead

@[expose] public section

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the walk never changes: the masked rows, the row sums of `do · o`, the two matrices that sum along a row. -/
abbrev fixed (c : Dev nD) (i : grid0.Coords) (p : Refs) (n : Ins F) : Fixed F :=
  ⟨i, mid.sl.v418 c i p n, start.sl.v29, start.sl.v33, mid.sl.v80 c p n, mid.sl.v86 c p n, mid.sl.v92 c p n, mid.sl.v98 c p n,
    mid.sl.v62 c p n, mid.sl.v66 c p n, mid.sl.v70 c p n, mid.sl.v74 c p n,
    mid.sl.v46 c p n, mid.sl.v50 c p n, mid.sl.v54 c p n, mid.sl.v58 c p n,
    p.rk, p.hk, p.rv, p.hv, p.rkh, p.hkh, p.rdk, p.hdk, p.rdv, p.hdv, p.rdq, p.hdq, p.rz, p.hz, p.rda, p.hda⟩

/-- Whether the walk has a key tile to visit. -/
abbrev go (c : Dev nD) (i : grid0.Coords) (p : Refs) (n : Ins F) : BitVec 1 := mid.sl.v419 c i p n

/-- The running sums the walk begins with. -/
abbrev sums (c : Dev nD) (i : grid0.Coords) (p : Refs) (n : Ins F) (x : Mem F) : Sums F :=
  ⟨mid.sl.r_16 c i p n, mid.sl.r_19 c i p n, mid.sl.r_25 c i p n, mid.sl.r_28 c i p n,
    mid.sl.v552 c i p n, mid.sl.v576 c i p n, late.sl.v601 c i p n, late.sl.v626 c i p n x⟩

/-- What the last part before the walk leaves, and the walk it then calls. -/
structure Last (c : Dev nD) (i : grid0.Coords) (p : Refs) (n : Ins F) (x : Mem F) where
  dk : p.rdk.view.ty.Contents (Elt F)
  dq : p.rdq.view.ty.Contents (Elt F)
  z : p.rz.view.ty.Contents (Elt F)
  da : p.rda.view.ty.Contents (Elt F)
  tail : (Λ₀ F).Result 1 → Prog (TpuEff nD τ sig (Elt F) (Λ₀ F) .tc) (Σ' _ : FVec F S256x256 .f32, FVec F S256x256 .f32)
  rest : (Σ' _ : FVec F S256x256 .f32, FVec F S256x256 .f32) → Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.ro fullShare n.o
        ∗ owns (c : Thread nD τ) p.rdo fullShare n.d
        ∗ owns (c : Thread nD τ) p.rkh fullShare (mem3 c i p n x).kh
        ∗ owns (c : Thread nD τ) p.rdk fullShare (mem3 c i p n x).dk
        ∗ owns (c : Thread nD τ) p.rdv fullShare (mem3 c i p n x).dv
        ∗ owns (c : Thread nD τ) p.rdq fullShare (mem3 c i p n x).dq
        ∗ owns (c : Thread nD τ) p.rz fullShare (mem3 c i p n x).z
        ∗ owns (c : Thread nD τ) p.rda fullShare (mem3 c i p n x).da
        ∗ (iprop(owns (c : Thread nD τ) p.rq fullShare n.q
            ∗ owns (c : Thread nD τ) p.rk fullShare n.k
            ∗ owns (c : Thread nD τ) p.rv fullShare n.v
            ∗ owns (c : Thread nD τ) p.ro fullShare n.o
            ∗ owns (c : Thread nD τ) p.rdo fullShare n.d
            ∗ owns (c : Thread nD τ) p.rkh fullShare (mem3 c i p n x).kh
            ∗ (p.rdk.view.loc (c : Thread nD τ) ↦[p.rdk.view.set]{fullShare} dk)
            ∗ owns (c : Thread nD τ) p.rdv fullShare (mem3 c i p n x).dv
            ∗ (p.rdq.view.loc (c : Thread nD τ) ↦[p.rdq.view.set]{fullShare} dq)
            ∗ (p.rz.view.loc (c : Thread nD τ) ↦[p.rz.view.set]{fullShare} z)
            ∗ (p.rda.view.loc (c : Thread nD τ) ↦[p.rda.view.set]{fullShare} da))
          -∗ wp frame (wpE (defs₀ (F := F)) 𝒱₀ (c : Thread nD τ) b) E (.op (.call (1 : (Λ₀ F).Label) (args (fixed c i p n) 0#32 (go c i p n) (sums c i p n x))) tail)
            (fun y => wp frame (wpE (defs₀ (F := F)) 𝒱₀ (c : Thread nD τ) b) E (rest y) K)))
      ⊢ wp frame (wpE (defs₀ (F := F)) 𝒱₀ (c : Thread nD τ) b) E (late c i p n x).rest K

set_option maxHeartbeats 40000000 in
set_option sl_exec.resultNames true in
/-- It is run. -/
def last (c : Dev nD) (i : grid0.Coords) (p : Refs) (n : Ins F) (x : Mem F) : Last c i p n x := by
  refine ⟨?_, ?_, ?_, ?_, ?_, ?_, fun b E K => ?run⟩
  case run =>
    unfold late; dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := p.hq.eq_unread hf0
    obtain rfl := p.hk.eq_unread hf1
    obtain rfl := p.hv.eq_unread hf2
    obtain rfl := p.ho.eq_unread hf3
    obtain rfl := p.hdo.eq_unread hf4
    obtain rfl := p.hkh.eq_unread hf5
    obtain rfl := p.hdk.eq_unread hf6
    obtain rfl := p.hdv.eq_unread hf7
    obtain rfl := p.hdq.eq_unread hf8
    obtain rfl := p.hz.eq_unread hf9
    obtain rfl := p.hda.eq_unread hf10
    sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]
    · iexists _; isplitr; · ipureintro; exact p.ho.read_unread _
      iexact H3
    isplitl [H4]
    · iexists _; isplitr; · ipureintro; exact p.hdo.read_unread _
      iexact H4
    isplitl [H5]
    · iexists _; isplitr; · ipureintro; exact p.hkh.read_unread _
      iexact H5
    isplitl [H6]; · iexact H6
    isplitl [H7]
    · iexists _; isplitr; · ipureintro; exact p.hdv.read_unread _
      iexact H7
    isplitl [H8]; · iexact H8
    isplitl [H9]; · iexact H9
    iexact H10

/-- The scratch buffers when the walk begins. -/
def mem4 (c : Dev nD) (i : grid0.Coords) (p : Refs) (n : Ins F) (x : Mem F) : Mem F :=
  ⟨(mem3 c i p n x).kh, p.rdk.view.read (Elt F) (last c i p n x).dk, (mem3 c i p n x).dv, p.rdq.view.read (Elt F) (last c i p n x).dq, p.rz.view.read (Elt F) (last c i p n x).z, p.rda.view.read (Elt F) (last c i p n x).da⟩

end AttnB
-- ==== Proof.AttnTail.lean ====
/-
  The part of a row tile of the backward attention after its walk: the four heads' `dq` sums added into the row tile's
  result, and after the last row tile `dk` and `dv` handed out.
-/
module

public import proofs.«01_k».proof.Proof.AttnLast

@[expose] public section

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staged results' contents. -/
structure Outs (F : FTy → Type) where
  dq : Vec F S256x256 .bf16
  dk : Vec F S4096x256 .bf16
  dv : Vec F S4096x256 .bf16

/-- What the part after the walk leaves. -/
structure Final (c : Dev nD) (i : grid0.Coords) (p : Refs) (n : Ins F) (x z : Mem F) (y : Outs F) where
  dq : p.odq.view.ty.Contents (Elt F)
  dk : p.odk.view.ty.Contents (Elt F)
  dv : p.odv.view.ty.Contents (Elt F)
  run : ∀ (r : (Λ₀ F).Result 1) (b : Option 𝒱₀.V) (E : Set ℕ) (K : _ → sProp 𝕄),
    iprop(owns (c : Thread nD τ) p.rdk fullShare z.dk
        ∗ owns (c : Thread nD τ) p.rdv fullShare z.dv
        ∗ owns (c : Thread nD τ) p.rdq fullShare z.dq
        ∗ owns (c : Thread nD τ) p.odq fullShare y.dq
        ∗ owns (c : Thread nD τ) p.odk fullShare y.dk
        ∗ owns (c : Thread nD τ) p.odv fullShare y.dv
        ∗ (iprop(owns (c : Thread nD τ) p.rdk fullShare z.dk
            ∗ owns (c : Thread nD τ) p.rdv fullShare z.dv
            ∗ owns (c : Thread nD τ) p.rdq fullShare z.dq
            ∗ (p.odq.view.loc (c : Thread nD τ) ↦[p.odq.view.set]{fullShare} dq)
            ∗ (p.odk.view.loc (c : Thread nD τ) ↦[p.odk.view.set]{fullShare} dk)
            ∗ (p.odv.view.loc (c : Thread nD τ) ↦[p.odv.view.set]{fullShare} dv))
          -∗ K ⟨⟩))
      ⊢ wp frame (wpE (defs₀ (F := F)) 𝒱₀ (c : Thread nD τ) b) E ((last c i p n x).tail r)
          (fun y => wp frame (wpE (defs₀ (F := F)) 𝒱₀ (c : Thread nD τ) b) E ((last c i p n x).rest y) K)

set_option maxHeartbeats 40000000 in
set_option sl_exec.resultNames true in
/-- It is run. -/
def final (c : Dev nD) (i : grid0.Coords) (p : Refs) (n : Ins F) (x z : Mem F) (y : Outs F) : Final c i p n x z y := by
  refine ⟨?_, ?_, ?_, fun r b E K => ?run⟩
  case run =>
    rw [← wp_bind]
    obtain ⟨r0, r1, r2, r3, r4, r5, r6, r7, r8, r9⟩ := r
    unfold last; dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := p.hdk.eq_unread hf0
    obtain rfl := p.hdv.eq_unread hf1
    obtain rfl := p.hdq.eq_unread hf2
    obtain rfl := p.hodq.eq_unread hf3
    obtain rfl := p.hodk.eq_unread hf4
    obtain rfl := p.hodv.eq_unread hf5
    sl_exec
    rw [wp_ret]; imodintro
    iapply Hk
    isplitl [H0]
    · iexists _; isplitr; · ipureintro; exact p.hdk.read_unread _
      iexact H0
    isplitl [H1]
    · iexists _; isplitr; · ipureintro; exact p.hdv.read_unread _
      iexact H1
    isplitl [H2]
    · iexists _; isplitr; · ipureintro; exact p.hdq.read_unread _
      iexact H2
    isplitl [H3]; · iexact H3
    isplitl [H4]; · iexact H4
    iexact H5

end AttnB
-- ==== Proof.AttnPoint.lean ====
/-
  One grid point of the backward attention, run through: the parts before the walk, the walk, the part after it.
-/
module

public import proofs.«01_k».proof.Proof.AttnTail

@[expose] public section

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staged inputs are held. -/
abbrev insHeld (c : Dev nD) (p : Refs) (n : Ins F) : sProp 𝕄 :=
  iprop(owns (c : Thread nD τ) p.rq fullShare n.q
    ∗ owns (c : Thread nD τ) p.rk fullShare n.k
    ∗ owns (c : Thread nD τ) p.rv fullShare n.v
    ∗ owns (c : Thread nD τ) p.ro fullShare n.o
    ∗ owns (c : Thread nD τ) p.rdo fullShare n.d)

/-- The scratch buffers are held. -/
abbrev memHeld (c : Dev nD) (p : Refs) (x : Mem F) : sProp 𝕄 :=
  iprop(owns (c : Thread nD τ) p.rkh fullShare x.kh
    ∗ owns (c : Thread nD τ) p.rdk fullShare x.dk
    ∗ owns (c : Thread nD τ) p.rdv fullShare x.dv
    ∗ owns (c : Thread nD τ) p.rdq fullShare x.dq
    ∗ owns (c : Thread nD τ) p.rz fullShare x.z
    ∗ owns (c : Thread nD τ) p.rda fullShare x.da)

/-- The staged results are held. -/
abbrev outsHeld (c : Dev nD) (p : Refs) (y : Outs F) : sProp 𝕄 :=
  iprop(owns (c : Thread nD τ) p.odq fullShare y.dq
    ∗ owns (c : Thread nD τ) p.odk fullShare y.dk
    ∗ owns (c : Thread nD τ) p.odv fullShare y.dv)

set_option maxHeartbeats 4000000 in
theorem start_held (c : Dev nD) (i : grid0.Coords) (p : Refs) (n : Ins F) (x : Mem F) (b : Option 𝒱₀.V) (E : Set ℕ) (K : _ → sProp 𝕄) :
    iprop(insHeld c p n ∗ memHeld c p x ∗ (iprop(insHeld c p n ∗ memHeld c p (mem1 c i p n x)) -∗
        wp frame (wpE (defs₀ (F := F)) 𝒱₀ (c : Thread nD τ) b) E (start c i p n x).rest K))
      ⊢ wp frame (wpE (defs₀ (F := F)) 𝒱₀ (c : Thread nD τ) b) E (cc0_attn_bwd i p.rq p.hq p.rk p.hk p.rv p.hv p.ro p.ho p.rdo p.hdo p.odq p.hodq p.odk p.hodk p.odv p.hodv p.rkh p.hkh p.rdk p.hdk p.rdv p.hdv p.rdq p.hdq p.rz p.hz p.rda p.hda) K := by
  iintro ⟨⟨I0, I1, I2, I3, I4⟩, ⟨H0, H1, H2, H3, H4, H5⟩, Hk⟩
  iapply ((start c i p n x).run b E K)
  isplitl [I0]; · iexact I0
  isplitl [I1]; · iexact I1
  isplitl [I2]; · iexact I2
  isplitl [I3]; · iexact I3
  isplitl [I4]; · iexact I4
  isplitl [H0]; · iexact H0
  isplitl [H1]; · iexact H1
  isplitl [H2]; · iexact H2
  isplitl [H3]; · iexact H3
  isplitl [H4]; · iexact H4
  isplitl [H5]; · iexact H5
  iintro ⟨I0, I1, I2, I3, I4, H0, H1, H2, H3, H4, H5⟩
  iapply Hk
  isplitl [I0 I1 I2 I3 I4]
  · isplitl [I0]; · iexact I0
    isplitl [I1]; · iexact I1
    isplitl [I2]; · iexact I2
    isplitl [I3]; · iexact I3
    iexact I4
  unfold mem1
  isplitl [H0]; · unfold owns; iexists _; isplitr; swap; (iexact H0); ipureintro; rfl
  isplitl [H1]; · unfold owns; iexists _; isplitr; swap; (iexact H1); ipureintro; rfl
  isplitl [H2]; · unfold owns; iexists _; isplitr; swap; (iexact H2); ipureintro; rfl
  isplitl [H3]; · iexact H3
  isplitl [H4]; · iexact H4
  iexact H5

set_option maxHeartbeats 4000000 in
theorem mid_held (c : Dev nD) (i : grid0.Coords) (p : Refs) (n : Ins F) (x : Mem F) (b : Option 𝒱₀.V) (E : Set ℕ) (K : _ → sProp 𝕄) :
    iprop(insHeld c p n ∗ memHeld c p (mem1 c i p n x) ∗ (iprop(insHeld c p n ∗ memHeld c p (mem2 c i p n x)) -∗
        wp frame (wpE (defs₀ (F := F)) 𝒱₀ (c : Thread nD τ) b) E (mid c i p n x).rest K))
      ⊢ wp frame (wpE (defs₀ (F := F)) 𝒱₀ (c : Thread nD τ) b) E (start c i p n x).rest K := by
  iintro ⟨⟨I0, I1, I2, I3, I4⟩, ⟨H0, H1, H2, H3, H4, H5⟩, Hk⟩
  iapply ((mid c i p n x).run b E K)
  isplitl [I0]; · iexact I0
  isplitl [I1]; · iexact I1
  isplitl [I2]; · iexact I2
  isplitl [I3]; · iexact I3
  isplitl [I4]; · iexact I4
  isplitl [H0]; · iexact H0
  isplitl [H1]; · iexact H1
  isplitl [H2]; · iexact H2
  isplitl [H3]; · iexact H3
  isplitl [H4]; · iexact H4
  isplitl [H5]; · iexact H5
  iintro ⟨I0, I1, I2, I3, I4, H0, H1, H2, H3, H4, H5⟩
  iapply Hk
  isplitl [I0 I1 I2 I3 I4]
  · isplitl [I0]; · iexact I0
    isplitl [I1]; · iexact I1
    isplitl [I2]; · iexact I2
    isplitl [I3]; · iexact I3
    iexact I4
  unfold mem2
  isplitl [H0]; · iexact H0
  isplitl [H1]; · iexact H1
  isplitl [H2]; · unfold owns; iexists _; isplitr; swap; (iexact H2); ipureintro; rfl
  isplitl [H3]; · iexact H3
  isplitl [H4]; · unfold owns; iexists _; isplitr; swap; (iexact H4); ipureintro; rfl
  unfold owns; iexists _; isplitr; swap; (iexact H5); ipureintro; rfl

set_option maxHeartbeats 4000000 in
theorem late_held (c : Dev nD) (i : grid0.Coords) (p : Refs) (n : Ins F) (x : Mem F) (b : Option 𝒱₀.V) (E : Set ℕ) (K : _ → sProp 𝕄) :
    iprop(insHeld c p n ∗ memHeld c p (mem2 c i p n x) ∗ (iprop(insHeld c p n ∗ memHeld c p (mem3 c i p n x)) -∗
        wp frame (wpE (defs₀ (F := F)) 𝒱₀ (c : Thread nD τ) b) E (late c i p n x).rest K))
      ⊢ wp frame (wpE (defs₀ (F := F)) 𝒱₀ (c : Thread nD τ) b) E (mid c i p n x).rest K := by
  iintro ⟨⟨I0, I1, I2, I3, I4⟩, ⟨H0, H1, H2, H3, H4, H5⟩, Hk⟩
  iapply ((late c i p n x).run b E K)
  isplitl [I0]; · iexact I0
  isplitl [I1]; · iexact I1
  isplitl [I2]; · iexact I2
  isplitl [I3]; · iexact I3
  isplitl [I4]; · iexact I4
  isplitl [H0]; · iexact H0
  isplitl [H1]; · iexact H1
  isplitl [H2]; · iexact H2
  isplitl [H3]; · iexact H3
  isplitl [H4]; · iexact H4
  isplitl [H5]; · iexact H5
  iintro ⟨I0, I1, I2, I3, I4, H0, H1, H2, H3, H4, H5⟩
  iapply Hk
  isplitl [I0 I1 I2 I3 I4]
  · isplitl [I0]; · iexact I0
    isplitl [I1]; · iexact I1
    isplitl [I2]; · iexact I2
    isplitl [I3]; · iexact I3
    iexact I4
  unfold mem3
  isplitl [H0]; · iexact H0
  isplitl [H1]; · unfold owns; iexists _; isplitr; swap; (iexact H1); ipureintro; rfl
  isplitl [H2]; · unfold owns; iexists _; isplitr; swap; (iexact H2); ipureintro; rfl
  isplitl [H3]; · unfold owns; iexists _; isplitr; swap; (iexact H3); ipureintro; rfl
  isplitl [H4]; · iexact H4
  iexact H5

set_option maxHeartbeats 4000000 in
theorem last_held (c : Dev nD) (i : grid0.Coords) (p : Refs) (n : Ins F) (x : Mem F) (b : Option 𝒱₀.V) (E : Set ℕ) (K : _ → sProp 𝕄) :
    iprop(insHeld c p n ∗ memHeld c p (mem3 c i p n x) ∗ (iprop(insHeld c p n ∗ memHeld c p (mem4 c i p n x)) -∗
        wp frame (wpE (defs₀ (F := F)) 𝒱₀ (c : Thread nD τ) b) E
          (.op (.call (1 : (Λ₀ F).Label) (args (fixed c i p n) 0#32 (go c i p n) (sums c i p n x))) (last c i p n x).tail)
          (fun y => wp frame (wpE (defs₀ (F := F)) 𝒱₀ (c : Thread nD τ) b) E ((last c i p n x).rest y) K)))
      ⊢ wp frame (wpE (defs₀ (F := F)) 𝒱₀ (c : Thread nD τ) b) E (late c i p n x).rest K := by
  iintro ⟨⟨I0, I1, I2, I3, I4⟩, ⟨H0, H1, H2, H3, H4, H5⟩, Hk⟩
  iapply ((last c i p n x).run b E K)
  isplitl [I0]; · iexact I0
  isplitl [I1]; · iexact I1
  isplitl [I2]; · iexact I2
  isplitl [I3]; · iexact I3
  isplitl [I4]; · iexact I4
  isplitl [H0]; · iexact H0
  isplitl [H1]; · iexact H1
  isplitl [H2]; · iexact H2
  isplitl [H3]; · iexact H3
  isplitl [H4]; · iexact H4
  isplitl [H5]; · iexact H5
  iintro ⟨I0, I1, I2, I3, I4, H0, H1, H2, H3, H4, H5⟩
  iapply Hk
  isplitl [I0 I1 I2 I3 I4]
  · isplitl [I0]; · iexact I0
    isplitl [I1]; · iexact I1
    isplitl [I2]; · iexact I2
    isplitl [I3]; · iexact I3
    iexact I4
  unfold mem4
  isplitl [H0]; · iexact H0
  isplitl [H1]; · unfold owns; iexists _; isplitr; swap; (iexact H1); ipureintro; rfl
  isplitl [H2]; · iexact H2
  isplitl [H3]; · unfold owns; iexists _; isplitr; swap; (iexact H3); ipureintro; rfl
  isplitl [H4]; · unfold owns; iexists _; isplitr; swap; (iexact H4); ipureintro; rfl
  unfold owns; iexists _; isplitr; swap; (iexact H5); ipureintro; rfl

/-- The scratch buffers after a grid point. -/
def memEnd (c : Dev nD) (i : grid0.Coords) (p : Refs) (n : Ins F) (x : Mem F) : Mem F :=
  walk c (fixed c i p n) n.k n.v 16 0 (go c i p n) (sums c i p n x) (mem4 c i p n x)

/-- The staged results after a grid point. -/
def outsEnd (c : Dev nD) (i : grid0.Coords) (p : Refs) (n : Ins F) (x : Mem F) (y : Outs F) : Outs F :=
  ⟨p.odq.view.read (Elt F) (final c i p n x (memEnd c i p n x) y).dq, p.odk.view.read (Elt F) (final c i p n x (memEnd c i p n x) y).dk,
    p.odv.view.read (Elt F) (final c i p n x (memEnd c i p n x) y).dv⟩

/-- The walk is entered only where a key tile is left. -/
theorem go_left (c : Dev nD) (t : Fin grid0.N) (p : Refs) (n : Ins F) (h : go c (grid0.coords t) p n = 1#1) :
    2 ≤ ((grid0.coords t) 1).val := by
  have e : ∃ w, go c (grid0.coords t) p n
      = Scalar.andi (Scalar.cmpi .sgt (Scalar.subi (BitVec.ofNat 32 ((grid0.coords t) 1).val) 1#32) 0#32) w := ⟨_, rfl⟩
  obtain ⟨w, e⟩ := e
  rw [h] at e
  have key : ∀ (i : Fin 16) (w : Fin 2),
      1#1 = Scalar.andi (Scalar.cmpi .sgt (Scalar.subi (BitVec.ofNat 32 i.val) 1#32) 0#32) (BitVec.ofNat 1 w.val) → 2 ≤ i.val := by decide +kernel
  refine key ((grid0.coords t) 1) ⟨w.toNat, w.isLt⟩ ?_
  simpa using e

set_option maxHeartbeats 8000000 in
/-- One grid point. -/
theorem point (c : Dev nD) (t : Fin grid0.N) (p : Refs) (n : Ins F) (x : Mem F) (y : Outs F) (E : Set ℕ) (K : _ → sProp 𝕄) :
    iprop(insHeld c p n ∗ memHeld c p x ∗ outsHeld c p y
        ∗ (iprop(insHeld c p n ∗ memHeld c p (memEnd c (grid0.coords t) p n x) ∗ outsHeld c p (outsEnd c (grid0.coords t) p n x y)) -∗ K ⟨⟩))
      ⊢ wp frame (wpE (defs₀ (F := F)) 𝒱₀ (c : Thread nD τ) none) E (cc0_attn_bwd (grid0.coords t) p.rq p.hq p.rk p.hk p.rv p.hv p.ro p.ho p.rdo p.hdo p.odq p.hodq p.odk p.hodk p.odv p.hodv p.rkh p.hkh p.rdk p.hdk p.rdv p.hdv p.rdq p.hdq p.rz p.hz p.rda p.hda) K := by
  iintro ⟨I, H, Y, Hk⟩
  iapply (start_held c (grid0.coords t) p n x none E K)
  isplitl [I]; · iexact I
  isplitl [H]; · iexact H
  iintro ⟨I, H⟩
  iapply (mid_held c (grid0.coords t) p n x none E K)
  isplitl [I]; · iexact I
  isplitl [H]; · iexact H
  iintro ⟨I, H⟩
  iapply (late_held c (grid0.coords t) p n x none E K)
  isplitl [I]; · iexact I
  isplitl [H]; · iexact H
  iintro ⟨I, H⟩
  iapply (last_held c (grid0.coords t) p n x none E K)
  isplitl [I]; · iexact I
  isplitl [H]; · iexact H
  iintro ⟨⟨I0, I1, I2, I3, I4⟩, ⟨H0, H1, H2, H3, H4, H5⟩⟩
  iapply (wp_call_spec 𝒱₀ (c : Thread nD τ) none E
    (spec c (fixed c (grid0.coords t) p n) n.k n.v 16 0 (go c (grid0.coords t) p n) (sums c (grid0.coords t) p n x) (mem4 c (grid0.coords t) p n x)) 16
    (fun u hu => nomatch hu)
    (spec_le c (fixed c (grid0.coords t) p n) t rfl n.k n.v E 16 0 _ _ _ (fun e => go_left c t p n e)
      (by have : ((grid0.coords t) 1).val < 16 := ((grid0.coords t) 1).isLt; omega)))
  rw [spec_apply]
  isplitl [I1 I2 H0 H1 H2 H3 H4 H5]
  · isplitl [I1]; · iexact I1
    isplitl [I2]; · iexact I2
    isplitl [H0]; · iexact H0
    isplitl [H1]; · iexact H1
    isplitl [H2]; · iexact H2
    isplitl [H3]; · iexact H3
    isplitl [H4]; · iexact H4
    iexact H5
  iintro %r ⟨I1, I2, H0, H1, H2, H3, H4, H5⟩
  icases Y with ⟨Y0, Y1, Y2⟩
  iapply ((final c (grid0.coords t) p n x (memEnd c (grid0.coords t) p n x) y).run r none E K)
  isplitl [H1]; · iexact H1
  isplitl [H2]; · iexact H2
  isplitl [H3]; · iexact H3
  isplitl [Y0]; · iexact Y0
  isplitl [Y1]; · iexact Y1
  isplitl [Y2]; · iexact Y2
  iintro ⟨H1, H2, H3, Y0, Y1, Y2⟩
  iapply Hk
  isplitl [I0 I1 I2 I3 I4]
  · isplitl [I0]; · iexact I0
    isplitl [I1]; · iexact I1
    isplitl [I2]; · iexact I2
    isplitl [I3]; · iexact I3
    iexact I4
  isplitl [H0 H1 H2 H3 H4 H5]
  · isplitl [H0]; · iexact H0
    isplitl [H1]; · iexact H1
    isplitl [H2]; · iexact H2
    isplitl [H3]; · iexact H3
    isplitl [H4]; · iexact H4
    iexact H5
  unfold outsEnd outsHeld owns
  isplitl [Y0]; · iexists _; isplitr; swap; (iexact Y0); ipureintro; rfl
  isplitl [Y1]; · iexists _; isplitr; swap; (iexact Y1); ipureintro; rfl
  iexists _; isplitr; swap; (iexact Y2); ipureintro; rfl

end AttnB
-- ==== Proof.AttnRun.lean ====
/-
  The run of the backward attention's program: the host operations, then the grid. What the grid points leave in the scratch
  buffers and in the results is held to any invariant that one grid point keeps.
-/
module

public import proofs.«01_k».proof.Proof.AttnPoint
public import proofs.«01_k».proof.Proof.Gen.AttnBIdeal.Launch
public import proofs.«01_k».proof.Proof.Gen.AttnBIdeal.Points
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace AttnB

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a core's buffers hold when the grid begins: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

/-- No line of host operations gives anything back uninitialised. -/
theorem fresh : ([hostOps0, hostOps0_1, hostOps0_2, hostOps0_3, hostOps0_4, hostOps0_5, hostOps0_6, hostOps0_7, hostOps0_8, hostOps0_9] : List (List (HloOp τ sig (Elt F)))).Forall fun l => l.Forall fun op => op.fresh = ∅ := by
  simp only [List.Forall]; repeat' constructor

set_option maxHeartbeats 800000 in
/-- The program up to the grid. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩) fresh main_chain

/-- An argument that no host operation writes is what it was. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    rcases hb with rfl | rfl | rfl | rfl <;>
    · simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

/-- What a window stages at a grid point. -/
def blk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The buffers at a grid point. -/
abbrev refs (t : Fin (cfg0 (F := F)).N) : Refs :=
  ⟨st0_0 (F := F) t, hstage0_0 (((cfg0 (F := F)).slots t 0).cast nbuf0_0),
    st0_1 (F := F) t, hstage0_1 (((cfg0 (F := F)).slots t 1).cast nbuf0_1),
    st0_2 (F := F) t, hstage0_2 (((cfg0 (F := F)).slots t 2).cast nbuf0_2),
    st0_3 (F := F) t, hstage0_3 (((cfg0 (F := F)).slots t 3).cast nbuf0_3),
    st0_4 (F := F) t, hstage0_4 (((cfg0 (F := F)).slots t 4).cast nbuf0_4),
    st0_5 (F := F) t, hstage0_5 (((cfg0 (F := F)).slots t 5).cast nbuf0_5),
    st0_6 (F := F) t, hstage0_6 (((cfg0 (F := F)).slots t 6).cast nbuf0_6),
    st0_7 (F := F) t, hstage0_7 (((cfg0 (F := F)).slots t 7).cast nbuf0_7),
    Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

/-- The staged inputs at a grid point. -/
abbrev ins (c : Dev nD) (t : Fin (cfg0 (F := F)).N) : Ins F := ⟨blk m c 0 t, blk m c 1 t, blk m c 2 t, blk m c 3 t, blk m c 4 t⟩

/-- The windows of the results. -/
abbrev isRes (w : Fin (cfg0 (F := F)).W) : Bool := decide (5 ≤ w.val)

/-- What the grid keeps: an invariant of the scratch buffers before each grid point, and what each point leaves in the
    results. -/
structure Keeps (c : Dev nD) where
  inv : Fin ((cfg0 (F := F)).N + 1) → Mem F → Prop
  res : (w : Fin (cfg0 (F := F)).W) → Fin (cfg0 (F := F)).N → ((cfg0.win w).block.Idx → Elt F (cfg0.win w).elt) → Prop
  start : ∀ x, inv 0 x
  step : ∀ t x y, inv t.castSucc x →
    inv t.succ (memEnd c (grid0.coords t) (refs (F := F) t) (ins m c t) x)
      ∧ res 5 t (outsEnd c (grid0.coords t) (refs (F := F) t) (ins m c t) x y).dq
      ∧ res 6 t (outsEnd c (grid0.coords t) (refs (F := F) t) (ins m c t) x y).dk
      ∧ res 7 t (outsEnd c (grid0.coords t) (refs (F := F) t) (ins m c t) x y).dv

/-- The scratch buffers are held at contents that meet `I`. -/
abbrev kept (c : Dev nD) (I : Mem F → Prop) : sProp 𝕄 :=
  iprop(∃ x : Mem F, ⌜I x⌝ ∗ owns (c : Thread nD τ) (Memref.whole cc0_scratch0) fullShare x.kh ∗ owns (c : Thread nD τ) (Memref.whole cc0_scratch1) fullShare x.dk ∗ owns (c : Thread nD τ) (Memref.whole cc0_scratch2) fullShare x.dv ∗ owns (c : Thread nD τ) (Memref.whole cc0_scratch3) fullShare x.dq ∗ owns (c : Thread nD τ) (Memref.whole cc0_scratch4) fullShare x.z ∗ owns (c : Thread nD τ) (Memref.whole cc0_scratch5) fullShare x.da
    ∗ ∃ r, prngReg c r)

variable (J : (c : Dev nD) → Keeps m c)

/-- What the grid's run is stated over. -/
def dat (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => Pipeline.Dat.unnamed (Val := Elt F) (cfg := (cfg0 (F := F))) 5 t
    | ⟨6, _⟩ => Pipeline.Dat.unnamed (Val := Elt F) (cfg := (cfg0 (F := F))) 6 t
    | ⟨7, _⟩ => Pipeline.Dat.unnamed (Val := Elt F) (cfg := (cfg0 (F := F))) 7 t
  Φ t := kept c ((J c).inv t)
  q w := Pipeline.shareOf spec0 w
  owed _ := 0

theorem A_eq (c : Dev nD) (w : Fin (cfg0 (F := F)).W) : (dat m J c).A w = V m c (Pipeline.arrRef spec0 w) := by dsimp only [dat]

theorem before_0 {c : Dev nD} (dat : Dat τ (Elt F) Unit ℕ (UR sig nD τ) ℕ (cfg0 (F := F)) c) (hA : dat.A 0 = V m c (Pipeline.arrRef spec0 0))
    (h : ∀ t, dat.after 0 t = blk m c 0 t) (t : Fin (cfg0 (F := F)).N) (d) : dat.before 0 t d = blk m c 0 t :=
  (dat.before_in_eq_fetched 0 rfl (fun _ => rfl) (fun _ _ _ => rfl) (fun t => by rw [h]; unfold Dat.blockOf blk; rw [hA]; try rfl) t d).trans
    (by unfold Dat.fetched Dat.blockOf blk; rw [hA]; try rfl)

theorem before_1 {c : Dev nD} (dat : Dat τ (Elt F) Unit ℕ (UR sig nD τ) ℕ (cfg0 (F := F)) c) (hA : dat.A 1 = V m c (Pipeline.arrRef spec0 1))
    (h : ∀ t, dat.after 1 t = blk m c 1 t) (t : Fin (cfg0 (F := F)).N) (d) : dat.before 1 t d = blk m c 1 t :=
  (dat.before_in_eq_fetched 1 rfl (fun _ => rfl) (fun _ _ _ => rfl) (fun t => by rw [h]; unfold Dat.blockOf blk; rw [hA]; try rfl) t d).trans
    (by unfold Dat.fetched Dat.blockOf blk; rw [hA]; try rfl)

theorem before_2 {c : Dev nD} (dat : Dat τ (Elt F) Unit ℕ (UR sig nD τ) ℕ (cfg0 (F := F)) c) (hA : dat.A 2 = V m c (Pipeline.arrRef spec0 2))
    (h : ∀ t, dat.after 2 t = blk m c 2 t) (t : Fin (cfg0 (F := F)).N) (d) : dat.before 2 t d = blk m c 2 t :=
  (dat.before_in_eq_fetched 2 rfl (fun _ => rfl) (fun _ _ _ => rfl) (fun t => by rw [h]; unfold Dat.blockOf blk; rw [hA]; try rfl) t d).trans
    (by unfold Dat.fetched Dat.blockOf blk; rw [hA]; try rfl)

theorem before_3 {c : Dev nD} (dat : Dat τ (Elt F) Unit ℕ (UR sig nD τ) ℕ (cfg0 (F := F)) c) (hA : dat.A 3 = V m c (Pipeline.arrRef spec0 3))
    (h : ∀ t, dat.after 3 t = blk m c 3 t) (t : Fin (cfg0 (F := F)).N) (d) : dat.before 3 t d = blk m c 3 t :=
  (dat.before_in_eq_fetched 3 rfl (fun _ => rfl) (fun _ _ _ => rfl) (fun t => by rw [h]; unfold Dat.blockOf blk; rw [hA]; try rfl) t d).trans
    (by unfold Dat.fetched Dat.blockOf blk; rw [hA]; try rfl)

theorem before_4 {c : Dev nD} (dat : Dat τ (Elt F) Unit ℕ (UR sig nD τ) ℕ (cfg0 (F := F)) c) (hA : dat.A 4 = V m c (Pipeline.arrRef spec0 4))
    (h : ∀ t, dat.after 4 t = blk m c 4 t) (t : Fin (cfg0 (F := F)).N) (d) : dat.before 4 t d = blk m c 4 t :=
  (dat.before_in_eq_fetched 4 rfl (fun _ => rfl) (fun _ _ _ => rfl) (fun t => by rw [h]; unfold Dat.blockOf blk; rw [hA]; try rfl) t d).trans
    (by unfold Dat.fetched Dat.blockOf blk; rw [hA]; try rfl)

set_option maxHeartbeats 4000000 in
/-- One grid point keeps what is to be kept. -/
theorem body (c : Dev nD) : Pipeline.BodyObligationRel (dat m J c) (defs₀ (F := F)) 𝒱₀ () Set.univ (isRes (F := F)) (J c).res := fun t => by
  rw [bigSep_W0, bigSep_W0]
  have e : defs₀ (F := F) .tc (cfg0 (F := F)).body (cfg0.bodyArgs t (cfg0.slots t)) = bodyAt0 t := by unfold defs₀; rw [Defs.onTc_tc]
  rw [e]
  show iprop(kept c ((J c).inv t.castSucc) ∗ (dat m J c).owesAt () t.castSucc
      ∗ (∃ d, owns (c : Thread nD τ) (st0_0 t) fullShare ((dat m J c).before 0 t d))
      ∗ (∃ d, owns (c : Thread nD τ) (st0_1 t) fullShare ((dat m J c).before 1 t d))
      ∗ (∃ d, owns (c : Thread nD τ) (st0_2 t) fullShare ((dat m J c).before 2 t d))
      ∗ (∃ d, owns (c : Thread nD τ) (st0_3 t) fullShare ((dat m J c).before 3 t d))
      ∗ (∃ d, owns (c : Thread nD τ) (st0_4 t) fullShare ((dat m J c).before 4 t d))
      ∗ (∃ Y, ⌜((dat m J c).toRRel (isRes (F := F)) (J c).res).Finds 5 t Y⌝ ∗ owns (c : Thread nD τ) (st0_5 t) fullShare Y)
      ∗ (∃ Y, ⌜((dat m J c).toRRel (isRes (F := F)) (J c).res).Finds 6 t Y⌝ ∗ owns (c : Thread nD τ) (st0_6 t) fullShare Y)
      ∗ (∃ Y, ⌜((dat m J c).toRRel (isRes (F := F)) (J c).res).Finds 7 t Y⌝ ∗ owns (c : Thread nD τ) (st0_7 t) fullShare Y))
    ⊢ wp frame (wpE (defs₀ (F := F)) 𝒱₀ (c : Thread nD τ) none) Set.univ (bodyAt0 t) (fun _ =>
      iprop(kept c ((J c).inv t.succ) ∗ (dat m J c).owesAt () t.castSucc
      ∗ owns (c : Thread nD τ) (st0_0 t) fullShare (blk m c 0 t)
      ∗ owns (c : Thread nD τ) (st0_1 t) fullShare (blk m c 1 t)
      ∗ owns (c : Thread nD τ) (st0_2 t) fullShare (blk m c 2 t)
      ∗ owns (c : Thread nD τ) (st0_3 t) fullShare (blk m c 3 t)
      ∗ owns (c : Thread nD τ) (st0_4 t) fullShare (blk m c 4 t)
      ∗ (∃ X, ⌜(J c).res 5 t X⌝ ∗ owns (c : Thread nD τ) (st0_5 t) fullShare X)
      ∗ (∃ X, ⌜(J c).res 6 t X⌝ ∗ owns (c : Thread nD τ) (st0_6 t) fullShare X)
      ∗ (∃ X, ⌜(J c).res 7 t X⌝ ∗ owns (c : Thread nD τ) (st0_7 t) fullShare X)))
  simp only [before_0 m (dat m J c) (A_eq m J c 0) (fun t => by dsimp only [dat]; rfl), before_1 m (dat m J c) (A_eq m J c 1) (fun t => by dsimp only [dat]; rfl), before_2 m (dat m J c) (A_eq m J c 2) (fun t => by dsimp only [dat]; rfl), before_3 m (dat m J c) (A_eq m J c 3) (fun t => by dsimp only [dat]; rfl), before_4 m (dat m J c) (A_eq m J c 4) (fun t => by dsimp only [dat]; rfl)]
  iintro ⟨⟨%x, %hx, X0, X1, X2, X3, X4, X5, Hp⟩, Ho, ⟨%d0, H0⟩, ⟨%d1, H1⟩, ⟨%d2, H2⟩, ⟨%d3, H3⟩, ⟨%d4, H4⟩, ⟨%y5, %hy5, H5⟩, ⟨%y6, %hy6, H6⟩, ⟨%y7, %hy7, H7⟩⟩
  have hs := (J c).step t x ⟨y5, y6, y7⟩ hx
  unfold bodyAt0
  iapply (point c t (refs (F := F) t) (ins m c t) x ⟨y5, y6, y7⟩ Set.univ _)
  isplitl [H0 H1 H2 H3 H4]
  · isplitl [H0]; · iexact H0
    isplitl [H1]; · iexact H1
    isplitl [H2]; · iexact H2
    isplitl [H3]; · iexact H3
    iexact H4
  isplitl [X0 X1 X2 X3 X4 X5]
  · isplitl [X0]; · iexact X0
    isplitl [X1]; · iexact X1
    isplitl [X2]; · iexact X2
    isplitl [X3]; · iexact X3
    isplitl [X4]; · iexact X4
    iexact X5
  isplitl [H5 H6 H7]
  · isplitl [H5]; · iexact H5
    isplitl [H6]; · iexact H6
    iexact H7
  iintro ⟨⟨H0, H1, H2, H3, H4⟩, ⟨X0, X1, X2, X3, X4, X5⟩, H5, H6, H7⟩
  isplitl [X0 X1 X2 X3 X4 X5 Hp]
  · iexists (memEnd c (grid0.coords t) (refs (F := F) t) (ins m c t) x)
    isplitr; · ipureintro; exact hs.1
    isplitl [X0]; · iexact X0
    isplitl [X1]; · iexact X1
    isplitl [X2]; · iexact X2
    isplitl [X3]; · iexact X3
    isplitl [X4]; · iexact X4
    isplitl [X5]; · iexact X5
    iexact Hp
  isplitl [Ho]; · iexact Ho
  isplitl [H0]; · iexact H0
  isplitl [H1]; · iexact H1
  isplitl [H2]; · iexact H2
  isplitl [H3]; · iexact H3
  isplitl [H4]; · iexact H4
  isplitl [H5]
  · iexists (outsEnd c (grid0.coords t) (refs (F := F) t) (ins m c t) x ⟨y5, y6, y7⟩).dq
    isplitr; · ipureintro; exact hs.2.1
    iexact H5
  isplitl [H6]
  · iexists (outsEnd c (grid0.coords t) (refs (F := F) t) (ins m c t) x ⟨y5, y6, y7⟩).dk
    isplitr; · ipureintro; exact hs.2.2.1
    iexact H6
  iexists (outsEnd c (grid0.coords t) (refs (F := F) t) (ins m c t) x ⟨y5, y6, y7⟩).dv
  isplitr; · ipureintro; exact hs.2.2.2
  iexact H7

theorem whole_in (c : Dev nD) (b : Ref sig .tc) (f : b.ty.Contents (Elt F)) :
    (((c : Thread nD τ).loc b) ↦{fullShare} f : sProp 𝕄) ⊢ owns (c : Thread nD τ) (Memref.whole b) fullShare f := by
  rw [owns_whole]

theorem whole_out (c : Dev nD) (b : Ref sig .tc) (f : b.ty.Contents (Elt F)) :
    owns (c : Thread nD τ) (Memref.whole b) fullShare f ⊢ (((c : Thread nD τ).loc b) ↦{fullShare} f : sProp 𝕄) := by
  rw [owns_whole]

/-- The grid begins with the scratch buffers as they lie. -/
theorem enter (c : Dev nD) : Pipeline.ΦA (Val := Elt F) (U := UR sig nD τ) spec0 c ⊢ (dat m J c).Φ 0 := by
  show _ ⊢ kept c ((J c).inv 0)
  unfold Pipeline.ΦA; rw [scopedRest0_eq]
  iintro ⟨⟨⟨%f0, H0⟩, ⟨%f1, H1⟩, ⟨%f2, H2⟩, ⟨%f3, H3⟩, ⟨%f4, H4⟩, ⟨%f5, H5⟩⟩, Hp⟩
  iexists (⟨f0, f1, f2, f3, f4, f5⟩ : Mem F)
  isplitr; · ipureintro; exact (J c).start _
  isplitl [H0]; · iapply (whole_in c cc0_scratch0 f0); iexact H0
  isplitl [H1]; · iapply (whole_in c cc0_scratch1 f1); iexact H1
  isplitl [H2]; · iapply (whole_in c cc0_scratch2 f2); iexact H2
  isplitl [H3]; · iapply (whole_in c cc0_scratch3 f3); iexact H3
  isplitl [H4]; · iapply (whole_in c cc0_scratch4 f4); iexact H4
  isplitl [H5]; · iapply (whole_in c cc0_scratch5 f5); iexact H5
  iexact Hp

/-- The grid ends with the scratch buffers at some contents. -/
theorem leave (c : Dev nD) : (dat m J c).Φ (Fin.last (cfg0 (F := F)).N) ⊢ Pipeline.ΦA (Val := Elt F) (U := UR sig nD τ) spec0 c := by
  show kept c ((J c).inv (Fin.last (cfg0 (F := F)).N)) ⊢ _
  unfold Pipeline.ΦA; rw [scopedRest0_eq]
  iintro ⟨%x, %hx, H0, H1, H2, H3, H4, H5, Hp⟩
  isplitr [Hp]
  · isplitl [H0]; · iexists _; iapply (whole_out c cc0_scratch0 _); iexact H0
    isplitl [H1]; · iexists _; iapply (whole_out c cc0_scratch1 _); iexact H1
    isplitl [H2]; · iexists _; iapply (whole_out c cc0_scratch2 _); iexact H2
    isplitl [H3]; · iexists _; iapply (whole_out c cc0_scratch3 _); iexact H3
    isplitl [H4]; · iexists _; iapply (whole_out c cc0_scratch4 _); iexact H4
    iexists _; iapply (whole_out c cc0_scratch5 _); iexact H5
  iexact Hp

set_option backward.isDefEq.respectTransparency.types false in
/-- The run: every array ends at what the windows' relations allow, every other buffer as the grid found it, every
    semaphore counter at zero. -/
theorem run : θ_run defs (onTc (τ := τ) (main (F := F))) (s₀ m ρ)
    (fun r => Pipeline.RDat.FramePost (cfg0 (F := F)) (fun c => (dat m J c).toRRel (isRes (F := F)) (J c).res) (V m) r ∧ r.2.sem = fun _ => 0) :=
  Pipeline.RDat.θ_run_frame_track_shared (Q' := _) cfgs (0 : Fin 1) launch₀0 defs₀ 𝒱₀ (fun c => (dat m J c).toRRel (isRes (F := F)) (J c).res) m ρ main
    (hbody := fun c => Pipeline.BodyObligationRel.toRRel (dat m J c) (body m J c)) (hq := fun _ _ _ => rfl)
    (howed := fun _ _ => rfl) (V := V m) (hmain := hmain m) (hA := A_eq m J) (hin := enter m J) (hout := leave m J)

/-- The arguments end unchanged and the counters at zero. -/
theorem frame_of {r : PUnit × MemSt nD τ sig (Elt F)}
    (h : Pipeline.RDat.FramePost (cfg0 (F := F)) (fun c => (dat m J c).toRRel (isRes (F := F)) (J c).res) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨((h c).2 main_arg0 (show main_arg0 ∈ Pipeline.restRefs sig spec0 from Pipeline.mem_restRefs_of main_arg0 (by decide) (by decide))).trans (V_arg m c _ (by simp)),
      ((h c).2 main_arg1 (show main_arg1 ∈ Pipeline.restRefs sig spec0 from Pipeline.mem_restRefs_of main_arg1 (by decide) (by decide))).trans (V_arg m c _ (by simp)),
      ((h c).2 main_arg2 (show main_arg2 ∈ Pipeline.restRefs sig spec0 from Pipeline.mem_restRefs_of main_arg2 (by decide) (by decide))).trans (V_arg m c _ (by simp)), ?_⟩
  obtain ⟨after, -, hA⟩ := Pipeline.RDat.FramePost.exists_exact h c
  exact (hA 4).trans ((((dat m J c).toRRel (isRes (F := F)) (J c).res).withAfter after).arrAt_in 4 rfl _ |>.trans ((A_eq m J c 4).trans (V_arg m c main_arg3 (by simp))))

/-- Nothing is asked of the scratch buffers and of the results. -/
def nothing (c : Dev nD) : Keeps m c := ⟨fun _ _ => True, fun _ _ _ => True, fun _ => trivial, fun _ _ _ _ => ⟨trivial, trivial, trivial, trivial⟩⟩

end AttnB
-- ==== Proof.AttnHost.lean ====
/-
  What the host prepares for the attention gradient: the packed operands and the forward pass's result.
-/
module

public import proofs.«01_k».proof.Proof.AttnRun
public import proofs.«01_k».proof.Proof.Gen.AttnBRefIdeal.Read

@[expose] public section

noncomputable section

namespace AttnB

open Cert.AttnBIdeal Cert.AttnBIdeal.Gen
open Idealize.ShloMosaic Idealize.ShloMosaic.TcCoe Idealize.ShloMosaic.Tactic

variable {F : FTy → Type} [FloatOps F] [Named F] (m : (ℓ : Loc nD τ sig) → Buf (Elt F) ℓ) (c : Dev nD)

abbrev argOf (b : Ref sig .tc) : Buf (Elt F) ((c : Thread nD τ).loc b) := m ((c : Thread nD τ).loc b)

set_option maxRecDepth 8192 in
set_option maxHeartbeats 8000000 in
/-- The forward pass on the host is the reference's forward pass. -/
theorem V_v38 : V m c main_v38 = Cert.AttnBRefIdeal.Read.val_main_v26 (F := F) (argOf m c main_arg0) (argOf m c main_arg1) (argOf m c main_arg2) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp <;> rfl

end AttnB
-- ==== Proof.AttnMath.lean ====
/-
  Causal stick-breaking attention over the real numbers, as the backward pass needs it, and how its sums over the columns
  right of one split along the tiles of 256 columns.
-/
module

public import Mathlib.Analysis.SpecialFunctions.Pow.Real
public import Mathlib.Algebra.BigOperators.Intervals
public import Mathlib.Algebra.BigOperators.Fin

@[expose] public section

noncomputable section

namespace AttnB

/-- The base-2 logarithm of the sigmoid of a score in base-2 units. -/
def rls (z : ℝ) : ℝ := min z 0 - Real.log (1 + (2:ℝ) ^ (-|z|)) * (1 / Real.log 2)

/-- What one block of four heads is computed from: the scaled queries, the cotangent's rows and the keys, each masked to
    its head's lanes, and the keys and the values whole. -/
structure Data where
  Q : Fin 4 → ℕ → Fin 256 → ℝ
  O : Fin 4 → ℕ → Fin 256 → ℝ
  Km : Fin 4 → ℕ → Fin 256 → ℝ
  K : ℕ → Fin 256 → ℝ
  V : ℕ → Fin 256 → ℝ

namespace Data
variable (D : Data) (h : Fin 4) (r s : ℕ)

/-- The scores, and the cotangent of the weights. -/
def Z : ℝ := ∑ l, D.Q h r l * D.K s l
def W : ℝ := ∑ l, D.O h r l * D.V s l

/-- The logarithm of what a key leaves, the weight, the weight times its cotangent, the row's whole of it, and the
    cotangent of the score: each nothing where the key is not before the query. -/
def L : ℝ := if s < r then rls (D.Z h r s) - D.Z h r s else 0
def A : ℝ := if s < r then (2:ℝ) ^ (rls (D.Z h r s) + ∑ s' ∈ Finset.Ico (s + 1) 4096, D.L h r s') else 0
def G : ℝ := D.A h r s * D.W h r s
def d : ℝ := ∑ s' ∈ Finset.range 4096, D.G h r s'
def dz : ℝ := if s < r then D.G h r s * (1 - (2:ℝ) ^ rls (D.Z h r s))
    - (D.d h r - ∑ s' ∈ Finset.Ico s 4096, D.G h r s') * (2:ℝ) ^ rls (D.Z h r s) else 0

theorem L_zero (hs : r ≤ s) : D.L h r s = 0 := if_neg (by omega)
theorem A_zero (hs : r ≤ s) : D.A h r s = 0 := if_neg (by omega)
theorem G_zero (hs : r ≤ s) : D.G h r s = 0 := by rw [G, A_zero D h r s hs, zero_mul]
theorem dz_zero (hs : r ≤ s) : D.dz h r s = 0 := if_neg (by omega)

/-- The sums over the columns right of a tile. -/
def cl (J : ℕ) : ℝ := ∑ s ∈ Finset.Ico (256 * J) 4096, D.L h r s
def cg (J : ℕ) : ℝ := ∑ s ∈ Finset.Ico (256 * J) 4096, D.G h r s

end Data

variable (f : ℕ → ℝ) (j : ℕ)

theorem tile_sum : (∑ t : Fin 256, f (256 * j + t.val)) = ∑ s ∈ Finset.Ico (256 * j) (256 * (j + 1)), f s := by
  rw [Fin.sum_univ_eq_sum_range (fun t => f (256 * j + t)) 256, Finset.sum_Ico_eq_sum_range]
  congr 2
  omega

theorem tile_sum_of (q : ℕ) (hq : q ≤ 256) :
    (∑ t : Fin 256, (if q ≤ t.val then f (256 * j + t.val) else 0)) = ∑ s ∈ Finset.Ico (256 * j + q) (256 * (j + 1)), f s := by
  have := tile_sum (fun s => if 256 * j + q ≤ s then f s else 0) j
  simp only [add_le_add_iff_left] at this
  rw [this, ← Finset.sum_filter]
  congr 1
  ext s
  simp only [Finset.mem_filter, Finset.mem_Ico]
  omega

/-- A tile's sum on top of the sum right of it. -/
theorem tile_add (hj : j < 16) : (∑ s ∈ Finset.Ico (256 * (j + 1)) 4096, f s) + (∑ t : Fin 256, f (256 * j + t.val))
    = ∑ s ∈ Finset.Ico (256 * j) 4096, f s := by
  rw [tile_sum, add_comm, Finset.sum_Ico_consecutive _ (by omega) (by omega)]

theorem tile_later (hj : j < 16) (q : Fin 256) :
    (∑ t : Fin 256, f (256 * j + t.val) * (if q.val < t.val then 1 else 0)) + (∑ s ∈ Finset.Ico (256 * (j + 1)) 4096, f s)
      = ∑ s ∈ Finset.Ico (256 * j + q.val + 1) 4096, f s := by
  have := tile_sum_of f j (q.val + 1) q.isLt
  simp only [mul_ite, mul_one, mul_zero]
  rw [show (∑ t : Fin 256, if q.val < t.val then f (256 * j + t.val) else 0) = _ from this,
    Finset.sum_Ico_consecutive _ (by omega) (by omega), ← Nat.add_assoc]

theorem tile_from (hj : j < 16) (q : Fin 256) :
    (∑ t : Fin 256, f (256 * j + t.val) * (if q.val ≤ t.val then 1 else 0)) + (∑ s ∈ Finset.Ico (256 * (j + 1)) 4096, f s)
      = ∑ s ∈ Finset.Ico (256 * j + q.val) 4096, f s := by
  have := tile_sum_of f j q.val q.isLt.le
  simp only [mul_ite, mul_one, mul_zero]
  rw [this, Finset.sum_Ico_consecutive _ (by omega) (by omega)]

end AttnB
-- ==== Proof.AttnTile.lean ====
/-
  One tile of the backward attention, one head: the vector operations its body is made of, and what they are on arrays of
  real numbers.
-/
module

public import proofs.«01_k».proof.Proof.AttnTrip
public import proofs.«01_k».proof.Proof.AttnMath
public import Idealize.ShloMosaic.Lib.Pipeline.ValueKit

@[expose] public section

noncomputable section

namespace AttnB

open Cert.AttnBIdeal Cert.AttnBIdeal.Gen
open Idealize.ShloMosaic Idealize.ShloMosaic.TcCoe Idealize.ShloMosaic.Tactic

section Ops
variable {F : FTy → Type} [FloatOps F] [Named F]

/-- The products of two tiles: rows with rows, rows with columns, columns with columns. -/
def nt (a b : FVec F S256x256 .bf16) : FVec F S256x256 .f32 :=
  matmul dot_S256x256_S256x256_S256x256_1_1_0_0_n_n none a b (constant S256x256 .f32 0x00000000#32)
def nn (a b : FVec F S256x256 .bf16) : FVec F S256x256 .f32 :=
  matmul dot_S256x256_S256x256_S256x256_1_0_0_1_n_n none a b (constant S256x256 .f32 0x00000000#32)
def tn (a b : FVec F S256x256 .bf16) : FVec F S256x256 .f32 :=
  matmul dot_S256x256_S256x256_S256x256_0_0_1_1_n_n none a b (constant S256x256 .f32 0x00000000#32)

/-- The base-2 logarithm of the sigmoid of a score in base-2 units. -/
def lsT (z : FVec F S256x256 .f32) : FVec F S256x256 .f32 :=
  subf (minimumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "inv_ln2" 0x3FB8AA3B#32)))

/-- Masked by the causal mask, and by the flag that the tile counts. -/
def diagT (x : FVec F S256x256 .f32) : FVec F S256x256 .f32 :=
  select k0_pay29 x (broadcast S256x256 (Scalar.ofBits .f32 0x00000000#32))
def cntT (b : BitVec 1) (x : FVec F S256x256 .f32) : FVec F S256x256 .f32 :=
  Scalar.select b x (broadcast S256x256 (Scalar.ofBits .f32 0x00000000#32))

/-- The sums along a row given by a 0-1 matrix, from the two parts of its terms, on top of a running sum. -/
def runT (m : FVec F S256x256 .bf16) (x : FVec F S256x256 .f32) (c : FVec F S256x1 .f32) : FVec F S256x256 .f32 :=
  addf (addf (nn (truncf .bf16 x bitsLt_bf16_f32) m)
      (nn (truncf .bf16 (subf x (extf .f32 (truncf .bf16 x bitsLt_bf16_f32) bitsLt_bf16_f32)) bitsLt_bf16_f32) m))
    (broadcastTo S256x256 c broadcasts_S256x1_S256x256)

/-- The row sums. -/
def rowT (x : FVec F S256x256 .f32) : FVec F S256x1 .f32 :=
  shapeCast S256x1 (multiReduction .add [1] S256 x 0x00000000#32 reduces_S256x256_S256 (.inl rfl) rfl) shapeCasts_S256_S256x1

def powT (ls tail : FVec F S256x256 .f32) : FVec F S256x256 .f32 := exp2 (addf ls tail)

def befT (d : FVec F S256x1 .f32) (run : FVec F S256x256 .f32) : FVec F S256x256 .f32 :=
  subf (broadcastTo S256x256 d broadcasts_S256x1_S256x256) run

def dzT (ls g bef : FVec F S256x256 .f32) : FVec F S256x256 .f32 :=
  subf (mulf g (subf (broadcast S256x256 (Scalar.ofBits .f32 0x3F800000#32)) (exp2 ls))) (mulf bef (exp2 ls))

abbrev bf (x : FVec F S256x256 .f32) : FVec F S256x256 .bf16 := truncf .bf16 x bitsLt_bf16_f32

abbrev gT (a : FVec F S256x256 .f32) (da : FVec F S256x256 .f32) : FVec F S256x256 .f32 := mulf (extf .f32 (bf a) bitsLt_bf16_f32) da

end Ops

/-- A tile, a column and a scalar of real numbers, as arrays. -/
def up {φ : FTy} (f : Fin 256 → Fin 256 → ℝ) : FVec Ideal S256x256 φ := fun i => ((f (i 0) (i 1) : ℝ) : EReal)
def col (f : Fin 256 → ℝ) : FVec Ideal S256x1 .f32 := fun i => ((f (i 0) : ℝ) : EReal)

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

variable (f g : Fin 256 → Fin 256 → ℝ) (c : Fin 256 → ℝ)

theorem nt_up : nt (F := Ideal) (up f) (up g) = up fun r s => ∑ l, f r l * g s l := by
  funext i; pointwise [nt, up]
  simp only [← EReal.coe_mul, coe_sum]; try rfl

theorem nn_up : nn (F := Ideal) (up f) (up g) = up fun r s => ∑ t, f r t * g t s := by
  funext i; pointwise [nn, up]
  simp only [← EReal.coe_mul, coe_sum]; try rfl

theorem tn_up : tn (F := Ideal) (up f) (up g) = up fun r s => ∑ t, f t r * g t s := by
  funext i; pointwise [tn, up]
  simp only [← EReal.coe_mul, coe_sum]; try rfl

theorem rowT_up : rowT (F := Ideal) (up f) = col fun r => ∑ s, f r s := by
  funext i; pointwise [rowT, up, col]
  simp only [coe_sum]; try rfl

theorem lsT_up : lsT (F := Ideal) (up f) = up fun r s => rls (f r s) := by
  funext i; pointwise [lsT, up]
  have hx : (0:ℝ) < 1 + (2:ℝ) ^ (-|f (i 0) (i 1)|) := by positivity
  have hl : Named.named (F := Ideal) (φ := .f32) κ "inv_ln2" 1069066811#32 = (((Real.log 2)⁻¹ : ℝ) : EReal) := rfl
  have ha : FloatOps.absf (F := Ideal) (φ := .f32) ((f (i 0) (i 1) : ℝ) : EReal) = ((|f (i 0) (i 1)| : ℝ) : EReal) :=
    ((EReal.coe_strictMono.monotone.map_max (a := f (i 0) (i 1)) (b := -f (i 0) (i 1))).trans (by rw [EReal.coe_neg]; rfl)).symm
  have he : FloatOps.exp2 (F := Ideal) (φ := .f32) ((-|f (i 0) (i 1)| : ℝ) : EReal) = (((2:ℝ) ^ (-|f (i 0) (i 1)|) : ℝ) : EReal) := rfl
  rw [ha, hl, zero_sub, ← EReal.coe_neg, he, ← EReal.coe_one, ← EReal.coe_add, Ideal.log_coe, if_neg (not_le.2 hx), ← EReal.coe_mul,
    ← EReal.coe_zero, ← EReal.coe_strictMono.monotone.map_min, ← EReal.coe_sub]
  simp only [rls, one_div]

theorem runT_up : runT (F := Ideal) (up f) (up g) (col c) = up fun r s => (∑ t, g r t * f t s) + c r := by
  have h1 : ∀ x : Fin 256 → Fin 256 → ℝ, (truncf .bf16 (up (φ := .f32) x) bitsLt_bf16_f32 : FVec Ideal S256x256 .bf16) = up x := fun _ => rfl
  have h0 : (truncf .bf16 (subf (up (φ := .f32) g) (extf .f32 (truncf .bf16 (up (φ := .f32) g) bitsLt_bf16_f32) bitsLt_bf16_f32)) bitsLt_bf16_f32
      : FVec Ideal S256x256 .bf16) = up fun _ _ => 0 := by
    funext i; pointwise [up]
    rw [← EReal.coe_sub, sub_self]
  unfold runT
  rw [h0, h1, nn_up, nn_up]
  funext i; pointwise [up, col]
  rw [← EReal.coe_add, ← EReal.coe_add]
  simp

theorem powT_up : powT (F := Ideal) (up f) (up g) = up fun r s => (2:ℝ) ^ (f r s + g r s) := by
  funext i; pointwise [powT, up]
  rw [← EReal.coe_add]; rfl

theorem befT_up : befT (F := Ideal) (col c) (up g) = up fun r s => c r - g r s := by
  funext i; pointwise [befT, up, col]
  rw [← EReal.coe_sub]

theorem dzT_up (h : Fin 256 → Fin 256 → ℝ) : dzT (F := Ideal) (up f) (up g) (up h)
    = up fun r s => g r s * (1 - (2:ℝ) ^ f r s) - h r s * (2:ℝ) ^ f r s := by
  funext i; pointwise [dzT, up]
  have he : FloatOps.exp2 (F := Ideal) (φ := .f32) ((f (i 0) (i 1) : ℝ) : EReal) = (((2:ℝ) ^ f (i 0) (i 1) : ℝ) : EReal) := rfl
  rw [he, ← EReal.coe_one, ← EReal.coe_sub, ← EReal.coe_mul, ← EReal.coe_mul, ← EReal.coe_sub]

theorem diagT_up : diagT (F := Ideal) (up f) = up fun r s => if s.val < r.val then f r s else 0 := by
  funext i; pointwise [diagT, up]
  have h0 : (i 0).val < 256 := (i 0).isLt
  have h1 : (i 1).val < 256 := (i 1).isLt
  have : k0_pay29 i = IntOp.cmpi .slt (BitVec.ofNat 32 (i 1).val) (BitVec.ofNat 32 (i 0).val) := by pointwise [k0_pay29]
  rw [this, WordCmp.cmpi_slt_ofNat (by omega) (by omega)]
  by_cases h : (i 1).val < (i 0).val <;> simp [h, Scalar.select]

theorem cntT_up (b : BitVec 1) : cntT (F := Ideal) b (up f) = up fun r s => if b = 1#1 then f r s else 0 := by
  funext i; pointwise [cntT, up]
  by_cases h : b = 1#1 <;> simp [h, Scalar.select]

theorem later_up : k0_pay27 (F := Ideal) = up fun r s => if s.val < r.val then 1 else 0 := by
  funext i; pointwise [k0_pay27, up]
  have h0 : (i 0).val < 256 := (i 0).isLt
  have h1 : (i 1).val < 256 := (i 1).isLt
  show (((BitVec.setWidth 32 (IntOp.cmpi .sgt (BitVec.ofNat 32 (i 0).val) (BitVec.ofNat 32 (i 1).val))).toInt : ℝ) : EReal) = _
  rw [WordCmp.cmpi_sgt_ofNat (by omega) (by omega)]
  by_cases h : (i 1).val < (i 0).val <;> simp [h]

theorem from_up : k0_pay28 (F := Ideal) = up fun r s => if s.val ≤ r.val then 1 else 0 := by
  funext i; pointwise [k0_pay28, up]
  have h0 : (i 0).val < 256 := (i 0).isLt
  have h1 : (i 1).val < 256 := (i 1).isLt
  show (((BitVec.setWidth 32 (IntOp.cmpi .sge (BitVec.ofNat 32 (i 0).val) (BitVec.ofNat 32 (i 1).val))).toInt : ℝ) : EReal) = _
  rw [WordCmp.cmpi_sge_ofNat (by omega) (by omega)]
  by_cases h : (i 1).val ≤ (i 0).val <;> simp [h]

end AttnB
-- ==== Proof.AttnSig.lean ====
/-
  The logarithm of the logistic function and its derivative as jax writes them, on real numbers; and a running sum along the
  last axis, from either end.
-/
module

public import proofs.«01_k».proof.Proof.AttnTile
public import Idealize.ShloMosaic.PureOps.Ideal.Laws
public import Idealize.ShloMosaic.Lib.Pipeline.Value
public import Idealize.ShloMosaic.Lib.ValueIdx

@[expose] public section

noncomputable section

namespace AttnB

open Idealize.ShloMosaic

/-- The logarithm of one plus the exponential. -/
def sp (z : ℝ) : ℝ := max z 0 + Real.log (1 + Real.exp (-|z|))

theorem exp_sp (z : ℝ) : Real.exp (sp z) = 1 + Real.exp z := by
  rw [sp, Real.exp_add, Real.exp_log (by positivity)]
  rcases le_total 0 z with h | h
  · rw [max_eq_left h, abs_of_nonneg h, mul_add, mul_one, ← Real.exp_add, add_neg_cancel, Real.exp_zero, add_comm]
  · rw [max_eq_right h, abs_of_nonpos h, Real.exp_zero, one_mul, neg_neg]

theorem sp_eq (z : ℝ) : sp z = Real.log (1 + Real.exp z) := by rw [← exp_sp, Real.log_exp]

theorem sp_sub (z : ℝ) : sp z = sp (-z) + z := by
  rw [sp, sp, abs_neg]
  rcases le_total 0 z with h | h
  · rw [max_eq_left h, max_eq_right (by linarith)]; ring
  · rw [max_eq_right h, max_eq_left (by linarith)]; ring

theorem two_pow (x : ℝ) : (2:ℝ) ^ x = Real.exp (x * Real.log 2) := by rw [Real.rpow_def_of_pos (by norm_num), mul_comm]

/-- The kernel's base-two form of it. -/
theorem rls_log (z : ℝ) : rls z * Real.log 2 = -sp (-(z * Real.log 2)) := by
  have h2 : (0:ℝ) < Real.log 2 := Real.log_pos (by norm_num)
  rw [rls, sp, sub_mul, mul_assoc, one_div_mul_cancel h2.ne', mul_one, two_pow, abs_neg, abs_mul, abs_of_pos h2, neg_add, min_mul_of_nonneg _ _ h2.le, zero_mul]
  rw [← neg_zero (G := ℝ), max_neg_neg, neg_neg]; simp only [neg_zero, neg_mul]; ring

theorem sig_eq (z : ℝ) : Real.exp (z * Real.log 2 - sp (z * Real.log 2)) = (2:ℝ) ^ rls z := by
  rw [two_pow, rls_log, sp_sub]; congr 1; ring

theorem sig_compl (z : ℝ) : Real.exp (-(z * Real.log 2) - sp (-(z * Real.log 2))) = 1 - (2:ℝ) ^ rls z := by
  rw [two_pow, rls_log, Real.exp_sub, Real.exp_neg (sp _), exp_sp]
  have : (0:ℝ) < 1 + Real.exp (-(z * Real.log 2)) := by positivity
  field_simp; ring

section
variable {F : FTy → Type} [FloatOps F]

/-- The softplus as jax writes it. -/
def spF (z : F .f32) : F .f32 :=
  Scalar.select (FloatOps.cmpf .une (FloatOps.subf z (FloatOps.ofBits .f32 0x00000000#32)) (FloatOps.subf z (FloatOps.ofBits .f32 0x00000000#32)))
    (FloatOps.addf z (FloatOps.ofBits .f32 0x00000000#32))
    (FloatOps.addf (FloatOps.maximumf z (FloatOps.ofBits .f32 0x00000000#32))
      (FloatOps.hostUnary .log1p (FloatOps.hostUnary .exp (FloatOps.hostNegf (FloatOps.hostAbsf (FloatOps.subf z (FloatOps.ofBits .f32 0x00000000#32)))))))

/-- Its derivative. -/
def dspF (z : F .f32) : F .f32 :=
  FloatOps.hostUnary .exp (FloatOps.subf (Scalar.select (FloatOps.cmpf .oeq z (FloatOps.ofBits .f32 0x7F800000#32)) (FloatOps.ofBits .f32 0x00000000#32) z)
    (Scalar.select (FloatOps.cmpf .oeq (spF z) (FloatOps.ofBits .f32 0x7F800000#32)) (FloatOps.ofBits .f32 0x00000000#32) (spF z)))

end

theorem zero_word : (FloatOps.ofBits .f32 0x00000000#32 : Ideal .f32) = ((0 : ℝ) : EReal) := by simp [Ideal.ofBits, Ideal.ieee]
theorem inf_word : (FloatOps.ofBits .f32 0x7F800000#32 : Ideal .f32) = (⊤ : EReal) := by simp [Ideal.ofBits, Ideal.ieee]

theorem ne_self (x : EReal) : (FloatOps.cmpf (F := Ideal) (φ := .f32) .une x x) = 0#1 := by
  show Ideal.cmp .une x x = _
  simp [Ideal.cmp]

theorem ne_top (x : ℝ) : (FloatOps.cmpf (F := Ideal) (φ := .f32) .oeq (x : EReal) (⊤ : EReal)) = 0#1 := by
  show Ideal.cmp .oeq (x : EReal) ⊤ = _
  simp [Ideal.cmp]

theorem spF_coe (z : ℝ) : spF (F := Ideal) (z : EReal) = ((sp z : ℝ) : EReal) := by
  rw [spF, zero_word, ne_self]
  have e0 : (FloatOps.subf (F := Ideal) (φ := .f32) (z : EReal) ((0:ℝ) : EReal)) = ((z : ℝ) : EReal) := by
    show (z : EReal) - ((0:ℝ) : EReal) = _; rw [← EReal.coe_sub, sub_zero]
  have e1 : (FloatOps.hostNegf (F := Ideal) (φ := .f32) (FloatOps.hostAbsf (F := Ideal) (φ := .f32) (z : EReal))) = ((-|z| : ℝ) : EReal) := by
    show -(max (z : EReal) (-(z : EReal))) = _
    rw [← EReal.coe_neg, ← EReal.coe_strictMono.monotone.map_max, ← EReal.coe_neg]; rfl
  have e2 : (FloatOps.hostUnary (F := Ideal) (φ := .f32) .log1p (FloatOps.hostUnary (F := Ideal) (φ := .f32) .exp ((-|z| : ℝ) : EReal)))
      = ((Real.log (1 + Real.exp (-|z|)) : ℝ) : EReal) := by
    rw [Ideal.hostUnary_log1p_def]
    show Ideal.log (1 + ((Real.exp (-|z|) : ℝ) : EReal)) = _
    rw [← EReal.coe_one, ← EReal.coe_add, Ideal.log_coe, if_neg (by have := Real.exp_pos (-|z|); linarith)]
  have e3 : (FloatOps.maximumf (F := Ideal) (φ := .f32) (z : EReal) ((0:ℝ) : EReal)) = ((max z 0 : ℝ) : EReal) := by
    show max (z : EReal) ((0:ℝ) : EReal) = _
    rw [← EReal.coe_strictMono.monotone.map_max]
  rw [e0, e1, e2, e3]
  show ((max z 0 : ℝ) : EReal) + ((Real.log (1 + Real.exp (-|z|)) : ℝ) : EReal) = _
  rw [← EReal.coe_add]; rfl

theorem dspF_coe (z : ℝ) : dspF (F := Ideal) (z : EReal) = ((Real.exp (z - sp z) : ℝ) : EReal) := by
  rw [dspF, spF_coe, inf_word, ne_top, ne_top]
  show FloatOps.hostUnary (F := Ideal) (φ := .f32) .exp ((z : EReal) - ((sp z : ℝ) : EReal)) = _
  rw [← EReal.coe_sub]; rfl

/-! Running sums. -/

theorem foldl_coe {N : ℕ} (t : Fin N → EReal) (T : Fin N → ℝ) (h : ∀ n, t n = ((T n : ℝ) : EReal)) :
    (List.finRange N).foldl (fun r n => r + t n) ((0 : ℝ) : EReal) = ((∑ n, T n : ℝ) : EReal) := by
  have key : ∀ (l : List (Fin N)) (a : ℝ), l.foldl (fun r n => r + t n) ((a : ℝ) : EReal) = ((a + (l.map T).sum : ℝ) : EReal) := fun l => by
    induction l with
    | nil => intro a; simp
    | cons b l ih => intro a; rw [List.foldl_cons, h, ← EReal.coe_add, ih, List.map_cons, List.sum_cons, add_assoc]
  rw [key, zero_add, ← List.ofFn_eq_map, List.sum_ofFn]

abbrev Win : Shape := ⟨3, ![1, 1, 4096]⟩
abbrev Cube : Shape := ⟨3, ![8, 4096, 4096]⟩

theorem win_numel : Win.numel = 4096 := by decide

theorem win_at (n : Fin Win.numel) : (Win.rowMajor.symm n 0).val = 0 ∧ (Win.rowMajor.symm n 1).val = 0 ∧ (Win.rowMajor.symm n 2).val = n.val := by
  have h0 : (Win.rowMajor.symm n 0).val < 1 := (Win.rowMajor.symm n 0).isLt
  have h1 : (Win.rowMajor.symm n 1).val < 1 := (Win.rowMajor.symm n 1).isLt
  have e := Shape.rowMajor_val_three (Win.rowMajor.symm n)
  rw [Equiv.apply_symm_apply] at e
  have e' : n.val = ((Win.rowMajor.symm n 0).val * 1 + (Win.rowMajor.symm n 1).val) * 4096 + (Win.rowMajor.symm n 2).val := e
  omega

theorem sum_win (T : ℕ → ℝ) : (∑ n : Fin Win.numel, T n.val) = ∑ n ∈ Finset.range 4096, T n := by
  rw [Fin.sum_univ_eq_sum_range (fun n => T n) Win.numel, win_numel]

variable (x : Cube.Idx → EReal) (f : ℕ → ℝ) (g : Fin 8) (r s : Fin 4096) (hx : ∀ s : Fin 4096, x (ix3 g r s) = ((f s.val : ℝ) : EReal))
  (init : (⟨0, ![]⟩ : Shape).Idx → EReal) (hi : ∀ i, init i = ((0:ℝ) : EReal)) (hu : 0 < (⟨0, ![]⟩ : Shape).numel)
include hx hi

/-- The sum of what stands at or after a column. -/
theorem from_right (h : Cube.ReduceWindows ![1, 1, 4096] ![1, 1, 1] ![0, 0, 0] ![0, 0, 4095] Cube) :
    Host.reduceWindowAdd (F := Ideal) (φ := .f32) ![1, 1, 4096] ![1, 1, 1] ![0, 0, 0] ![0, 0, 4095] x init h hu (ix3 g r s)
      = ((∑ s' ∈ Finset.Ico s.val 4096, f s' : ℝ) : EReal) := by
  unfold Host.reduceWindowAdd
  rw [Ideal.hostReduceWindowAdd_def]
  unfold Ideal.hostReduceWindowAdd Host.reduceWindow
  rw [hi]
  refine (foldl_coe _ (fun n => if s.val + n.val < 4096 then f (s.val + n.val) else 0) fun n => ?_).trans (congrArg Real.toEReal ?_)
  · obtain ⟨w0, w1, w2⟩ := win_at n
    dsimp only
    split
    · next hin =>
      have h2 := hin 2
      change 0 ≤ s.val * 1 + (Win.rowMajor.symm n 2).val ∧ s.val * 1 + (Win.rowMajor.symm n 2).val - 0 < 4096 at h2
      rw [w2] at h2
      rw [if_pos (by omega)]
      refine (congrArg x (funext fun a => Fin.ext ?_)).trans (hx ⟨s.val + n.val, by omega⟩)
      match a with
      | ⟨0, _⟩ => show g.val * 1 + (Win.rowMajor.symm n 0).val - 0 = g.val; omega
      | ⟨1, _⟩ => show r.val * 1 + (Win.rowMajor.symm n 1).val - 0 = r.val; omega
      | ⟨2, _⟩ => show s.val * 1 + (Win.rowMajor.symm n 2).val - 0 = s.val + n.val; omega
    · next hin =>
      rw [if_neg fun hlt => hin fun a => by
        match a with
        | ⟨0, _⟩ => show 0 ≤ g.val * 1 + (Win.rowMajor.symm n 0).val ∧ g.val * 1 + (Win.rowMajor.symm n 0).val - 0 < 8; omega
        | ⟨1, _⟩ => show 0 ≤ r.val * 1 + (Win.rowMajor.symm n 1).val ∧ r.val * 1 + (Win.rowMajor.symm n 1).val - 0 < 4096; omega
        | ⟨2, _⟩ => show 0 ≤ s.val * 1 + (Win.rowMajor.symm n 2).val ∧ s.val * 1 + (Win.rowMajor.symm n 2).val - 0 < 4096; omega]
  · rw [sum_win (fun n => if s.val + n < 4096 then f (s.val + n) else 0), ← Finset.sum_filter, Finset.sum_Ico_eq_sum_range]
    refine Finset.sum_congr (Finset.ext fun n => ?_) fun _ _ => rfl
    rw [Finset.mem_filter, Finset.mem_range, Finset.mem_range]; omega

/-- The sum of what stands at or before a column. -/
theorem from_left (h : Cube.ReduceWindows ![1, 1, 4096] ![1, 1, 1] ![0, 0, 4095] ![0, 0, 0] Cube) :
    Host.reduceWindowAdd (F := Ideal) (φ := .f32) ![1, 1, 4096] ![1, 1, 1] ![0, 0, 4095] ![0, 0, 0] x init h hu (ix3 g r s)
      = ((∑ s' ∈ Finset.range (s.val + 1), f s' : ℝ) : EReal) := by
  unfold Host.reduceWindowAdd
  rw [Ideal.hostReduceWindowAdd_def]
  unfold Ideal.hostReduceWindowAdd Host.reduceWindow
  rw [hi]
  refine (foldl_coe _ (fun n => if 4095 ≤ s.val + n.val then f (s.val + n.val - 4095) else 0) fun n => ?_).trans (congrArg Real.toEReal ?_)
  · obtain ⟨w0, w1, w2⟩ := win_at n
    have hn : n.val < 4096 := lt_of_lt_of_eq n.isLt win_numel
    dsimp only
    split
    · next hin =>
      have h2 := hin 2
      change 4095 ≤ s.val * 1 + (Win.rowMajor.symm n 2).val ∧ s.val * 1 + (Win.rowMajor.symm n 2).val - 4095 < 4096 at h2
      rw [w2] at h2
      rw [if_pos (by omega)]
      refine (congrArg x (funext fun a => Fin.ext ?_)).trans (hx ⟨s.val + n.val - 4095, by omega⟩)
      match a with
      | ⟨0, _⟩ => show g.val * 1 + (Win.rowMajor.symm n 0).val - 0 = g.val; omega
      | ⟨1, _⟩ => show r.val * 1 + (Win.rowMajor.symm n 1).val - 0 = r.val; omega
      | ⟨2, _⟩ => show s.val * 1 + (Win.rowMajor.symm n 2).val - 4095 = s.val + n.val - 4095; omega
    · next hin =>
      rw [if_neg fun hlt => hin fun a => by
        match a with
        | ⟨0, _⟩ => show 0 ≤ g.val * 1 + (Win.rowMajor.symm n 0).val ∧ g.val * 1 + (Win.rowMajor.symm n 0).val - 0 < 8; omega
        | ⟨1, _⟩ => show 0 ≤ r.val * 1 + (Win.rowMajor.symm n 1).val ∧ r.val * 1 + (Win.rowMajor.symm n 1).val - 0 < 4096; omega
        | ⟨2, _⟩ => show 4095 ≤ s.val * 1 + (Win.rowMajor.symm n 2).val ∧ s.val * 1 + (Win.rowMajor.symm n 2).val - 4095 < 4096; omega]
  · rw [sum_win (fun n => if 4095 ≤ s.val + n then f (s.val + n - 4095) else 0), ← Finset.sum_filter,
      show (Finset.range 4096).filter (fun n => 4095 ≤ s.val + n) = Finset.Ico (4095 - s.val) 4096 from Finset.ext fun n => by
        rw [Finset.mem_filter, Finset.mem_range, Finset.mem_Ico]; omega,
      Finset.sum_Ico_eq_sum_range, show 4096 - (4095 - s.val) = s.val + 1 by omega]
    refine Finset.sum_congr rfl fun n _ => congrArg f ?_
    omega

end AttnB
-- ==== Proof.AttnCell.lean ====
/-
  One head's part of a tile: on the real scores of the tile, with the sums over the columns right of it, the tile's
  operations give the weights, their products with the cotangent and the scores' cotangent of causal stick-breaking
  attention, and the sums moved on by the tile.
-/
module

public import proofs.«01_k».proof.Proof.AttnTile

@[expose] public section

noncomputable section

namespace AttnB

open Cert.AttnBIdeal Cert.AttnBIdeal.Gen
open Idealize.ShloMosaic Idealize.ShloMosaic.TcCoe Idealize.ShloMosaic.Tactic

section Up
variable (f g : Fin 256 → Fin 256 → ℝ) (c : Fin 256 → ℝ) (b : Fin 256 → ℝ)

theorem subf_up : subf (F := Ideal) (φ := .f32) (up f) (up g) = up fun r s => f r s - g r s := by
  funext i; pointwise [up]; rw [← EReal.coe_sub]

theorem addf_up : addf (F := Ideal) (φ := .f32) (up f) (up g) = up fun r s => f r s + g r s := by
  funext i; pointwise [up]; rw [← EReal.coe_add]

theorem addf_col : addf (F := Ideal) (φ := .f32) (col c) (col b) = col fun r => c r + b r := by
  funext i; pointwise [col]; rw [← EReal.coe_add]

theorem gT_up : gT (F := Ideal) (up f) (up g) = up fun r s => f r s * g r s := by
  funext i; pointwise [up]; rw [← EReal.coe_mul]

theorem bf_up : bf (F := Ideal) (up f) = up f := rfl

end Up

/-- A tile of a function of rows and columns, and a column of one of rows. -/
abbrev tile {φ : FTy} (i j : ℕ) (f : ℕ → ℕ → ℝ) : FVec Ideal S256x256 φ := up fun p q => f (256 * i + p.val) (256 * j + q.val)
abbrev rows {φ : FTy} (i : ℕ) (f : ℕ → Fin 256 → ℝ) : FVec Ideal S256x256 φ := up fun p l => f (256 * i + p.val) l
abbrev colAt (i : ℕ) (f : ℕ → ℝ) : FVec Ideal S256x1 .f32 := col fun p => f (256 * i + p.val)

variable (D : Data) (h : Fin 4) (i j : ℕ)

theorem score_tile : nt (F := Ideal) (rows i (D.Q h)) (rows j D.K) = tile i j (D.Z h) := nt_up _ _
theorem cot_tile : nt (F := Ideal) (rows i (D.O h)) (rows j D.V) = tile i j (D.W h) := nt_up _ _

/-! A tile left of the diagonal. -/

section Left
variable (hj : j < i) (hi : i < 16)
include hj hi

theorem left_l1 : subf (F := Ideal) (φ := .f32) (lsT (tile i j (D.Z h))) (tile i j (D.Z h)) = tile i j (D.L h) := by
  rw [lsT_up, subf_up]
  refine congrArg up (funext fun p => funext fun q => ?_)
  rw [Data.L, if_pos (by omega)]

theorem left_cl : addf (F := Ideal) (colAt i fun r => D.cl h r (j + 1)) (rowT (tile i j (D.L h))) = colAt i fun r => D.cl h r j := by
  rw [rowT_up, addf_col]
  exact congrArg col (funext fun p => tile_add (D.L h (256 * i + p.val)) j (by omega))

theorem left_a : powT (F := Ideal) (lsT (tile i j (D.Z h))) (runT k0_pay27 (tile i j (D.L h)) (colAt i fun r => D.cl h r (j + 1)))
    = tile i j (D.A h) := by
  rw [lsT_up, later_up, runT_up, powT_up]
  refine congrArg up (funext fun p => funext fun q => ?_)
  beta_reduce
  rw [Data.A, if_pos (by omega), Data.cl, tile_later (D.L h (256 * i + p.val)) j (by omega) q]

theorem any_cg (hj' : j < 16) : addf (F := Ideal) (colAt i fun r => D.cg h r (j + 1)) (rowT (tile i j (D.G h))) = colAt i fun r => D.cg h r j := by
  rw [rowT_up, addf_col]
  exact congrArg col (funext fun p => tile_add (D.G h (256 * i + p.val)) j (by omega))

theorem left_dz : dzT (F := Ideal) (lsT (tile i j (D.Z h))) (tile i j (D.G h))
      (befT (colAt i (D.d h)) (runT k0_pay28 (tile i j (D.G h)) (colAt i fun r => D.cg h r (j + 1)))) = tile i j (D.dz h) := by
  rw [lsT_up, from_up, runT_up, befT_up, dzT_up]
  refine congrArg up (funext fun p => funext fun q => ?_)
  beta_reduce
  rw [Data.dz, if_pos (by omega), Data.cg, tile_from (D.G h (256 * i + p.val)) j (by omega) q]

end Left

theorem any_g : gT (F := Ideal) (tile i j (D.A h)) (tile i j (D.W h)) = tile i j (D.G h) := gT_up _ _

/-! The diagonal's tile. -/

section Diag
variable (hi : i < 16)
include hi

theorem diag_l1 : diagT (F := Ideal) (subf (φ := .f32) (lsT (tile i i (D.Z h))) (tile i i (D.Z h))) = tile i i (D.L h) := by
  rw [lsT_up, subf_up, diagT_up]
  refine congrArg up (funext fun p => funext fun q => ?_)
  rw [Data.L]
  refine if_congr (by omega) rfl rfl

theorem cl_zero (r : ℕ) (hr : r < 256 * (i + 1)) : D.cl h r (i + 1) = 0 :=
  Finset.sum_eq_zero fun s hs => D.L_zero h r s (by have := Finset.mem_Ico.1 hs; omega)

theorem cg_zero (r : ℕ) (hr : r < 256 * (i + 1)) : D.cg h r (i + 1) = 0 :=
  Finset.sum_eq_zero fun s hs => D.G_zero h r s (by have := Finset.mem_Ico.1 hs; omega)

theorem col_cl : (colAt i fun r => D.cl h r (i + 1)) = col fun _ => 0 :=
  congrArg col (funext fun p => cl_zero D h i hi _ (by have := p.isLt; omega))

theorem col_cg : (colAt i fun r => D.cg h r (i + 1)) = col fun _ => 0 :=
  congrArg col (funext fun p => cg_zero D h i hi _ (by have := p.isLt; omega))

theorem diag_cl : addf (F := Ideal) (colAt i fun r => D.cl h r (i + 1)) (rowT (tile i i (D.L h))) = colAt i fun r => D.cl h r i := by
  rw [rowT_up, addf_col]
  exact congrArg col (funext fun p => tile_add (D.L h (256 * i + p.val)) i (by omega))

theorem diag_a : diagT (F := Ideal) (powT (lsT (tile i i (D.Z h))) (runT k0_pay27 (tile i i (D.L h)) (colAt i fun r => D.cl h r (i + 1))))
    = tile i i (D.A h) := by
  rw [lsT_up, later_up, runT_up, powT_up, diagT_up]
  refine congrArg up (funext fun p => funext fun q => ?_)
  beta_reduce
  rw [Data.A, Data.cl, tile_later (D.L h (256 * i + p.val)) i (by omega) q]
  exact if_congr (by omega) rfl rfl

theorem diag_dz : diagT (F := Ideal) (dzT (lsT (tile i i (D.Z h))) (tile i i (D.G h))
      (befT (colAt i (D.d h)) (runT k0_pay28 (tile i i (D.G h)) (colAt i fun r => D.cg h r (i + 1))))) = tile i i (D.dz h) := by
  rw [lsT_up, from_up, runT_up, befT_up, dzT_up, diagT_up]
  refine congrArg up (funext fun p => funext fun q => ?_)
  beta_reduce
  rw [Data.dz, Data.cg, tile_from (D.G h (256 * i + p.val)) i (by omega) q]
  exact if_congr (by omega) rfl rfl

end Diag

/-- A tile that does not count. -/
theorem cnt_zero (f : Fin 256 → Fin 256 → ℝ) : cntT (F := Ideal) 0#1 (up f) = up fun _ _ => 0 := by
  rw [cntT_up]; rfl

theorem cnt_one (x : FVec Ideal S256x256 .f32) : cntT (F := Ideal) 1#1 x = x := rfl

/-- The keys' and the values' sums of a tile of rows. -/
theorem tn_tile (f : ℕ → ℕ → ℝ) (g : ℕ → Fin 256 → ℝ) :
    tn (F := Ideal) (tile i j f) (rows i g) = up fun q l => ∑ r ∈ Finset.Ico (256 * i) (256 * (i + 1)), f r (256 * j + q.val) * g r l := by
  rw [tn_up]
  exact congrArg up (funext fun q => funext fun l => tile_sum (fun r => f r (256 * j + q.val) * g r l) i)

theorem nn_tile (f : ℕ → ℕ → ℝ) (g : ℕ → Fin 256 → ℝ) :
    nn (F := Ideal) (tile i j f) (rows j g) = up fun p l => ∑ s ∈ Finset.Ico (256 * j) (256 * (j + 1)), f (256 * i + p.val) s * g s l := by
  rw [nn_up]
  exact congrArg up (funext fun p => funext fun l => tile_sum (fun s => f (256 * i + p.val) s * g s l) j)

end AttnB
-- ==== Proof.AttnRead.lean ====
/-
  The loads and the stores of the backward attention read at an index: a load of one head's tile of a buffer, of a tile
  of rows, and a store of each of the four heads.
-/
module

public import proofs.«01_k».proof.Proof.AttnCell
public import proofs.«01_k».proof.Proof.AttnWalk
public import Idealize.ShloMosaic.Lib.WholeRead
public import Idealize.ShloMosaic.Lib.WritesUnit

@[expose] public section

noncomputable section

namespace AttnB

open Cert.AttnBIdeal Cert.AttnBIdeal.Gen
open Idealize.ShloMosaic Idealize.ShloMosaic.TcCoe Idealize.ShloMosaic.Tactic

section Four
variable {sg : RefSig} {κ' : Kind} {sp : Space} {s : Shape} {e : EltTy} {Val : EltTy → Type}

/-- Four stores of the same size, the `h`th at `h` along an axis of size one, read where the `h`th wrote. -/
theorem read_four (v : View sg κ' sp s e) (f : v.ty.Contents Val) (size : Fin s.rank → ℕ) (off : Fin 4 → Fin s.rank → ℕ)
    {off0 off1 off2 off3 : Fin s.rank → ℕ} (e0 : off0 = off 0) (e1 : off1 = off 1) (e2 : off2 = off 2) (e3 : off3 = off 3)
    (i0 : ∀ a, off0 a + size a ≤ s.size a) (i1 : ∀ a, off1 a + size a ≤ s.size a) (i2 : ∀ a, off2 a + size a ≤ s.size a)
    (i3 : ∀ a, off3 a + size a ≤ s.size a) (w0 : (Rect.unit off0 size i0).shape.Idx → Val e) (w1 : (Rect.unit off1 size i1).shape.Idx → Val e)
    (w2 : (Rect.unit off2 size i2).shape.Idx → Val e) (w3 : (Rect.unit off3 size i3).shape.Idx → Val e) (L : List (View.Piece Val s e))
    (a : Fin s.rank) (ha : ∀ h, off h a = h.val) (hs : size a = 1) (h : Fin 4) (y : s.Idx) (x : (⟨s.rank, size⟩ : Shape).Idx)
    (hx : ∀ b, (y b).val = off h b + (x b).val) :
    v.read Val (v.writes Val f ((⟨Rect.unit off3 size i3, w3⟩ : View.Piece Val s e) :: ⟨Rect.unit off2 size i2, w2⟩
      :: ⟨Rect.unit off1 size i1, w1⟩ :: ⟨Rect.unit off0 size i0, w0⟩ :: L)) y
      = (![w0 x, w1 x, w2 x, w3 x] : Fin 4 → Val e) h := by
  subst e0 e1 e2 e3
  have hxa : (x a).val = 0 := by have : (x a).val < size a := (x a).isLt; omega
  have hya : (y a).val = h.val := by rw [hx a, ha h, hxa]; rfl
  fin_cases h
  · rw [View.read_writes_cons_unit_of_not_mem v f _ _ _ y rfl a (by left; rw [ha, hya]; decide),
      View.read_writes_cons_unit_of_not_mem v f _ _ _ y rfl a (by left; rw [ha, hya]; decide),
      View.read_writes_cons_unit_of_not_mem v f _ _ _ y rfl a (by left; rw [ha, hya]; decide)]
    exact View.read_writes_cons_unit_of_mem v f _ _ _ y x rfl hx
  · rw [View.read_writes_cons_unit_of_not_mem v f _ _ _ y rfl a (by left; rw [ha, hya]; decide),
      View.read_writes_cons_unit_of_not_mem v f _ _ _ y rfl a (by left; rw [ha, hya]; decide)]
    exact View.read_writes_cons_unit_of_mem v f _ _ _ y x rfl hx
  · rw [View.read_writes_cons_unit_of_not_mem v f _ _ _ y rfl a (by left; rw [ha, hya]; decide)]
    exact View.read_writes_cons_unit_of_mem v f _ _ _ y x rfl hx
  · exact View.read_writes_cons_unit_of_mem v f _ _ _ y x rfl hx

/-- Four stores elsewhere along an axis leave what was there. -/
theorem read_four_skip (v : View sg κ' sp s e) (f : v.ty.Contents Val) (size : Fin s.rank → ℕ)
    {off0 off1 off2 off3 : Fin s.rank → ℕ}
    (i0 : ∀ a, off0 a + size a ≤ s.size a) (i1 : ∀ a, off1 a + size a ≤ s.size a) (i2 : ∀ a, off2 a + size a ≤ s.size a)
    (i3 : ∀ a, off3 a + size a ≤ s.size a) (w0 : (Rect.unit off0 size i0).shape.Idx → Val e) (w1 : (Rect.unit off1 size i1).shape.Idx → Val e)
    (w2 : (Rect.unit off2 size i2).shape.Idx → Val e) (w3 : (Rect.unit off3 size i3).shape.Idx → Val e) (L : List (View.Piece Val s e))
    (a : Fin s.rank) (o : ℕ) (h0 : off0 a = o) (h1 : off1 a = o) (h2 : off2 a = o) (h3 : off3 a = o) (y : s.Idx)
    (hy : (y a).val < o ∨ o + size a ≤ (y a).val) :
    v.read Val (v.writes Val f ((⟨Rect.unit off3 size i3, w3⟩ : View.Piece Val s e) :: ⟨Rect.unit off2 size i2, w2⟩
      :: ⟨Rect.unit off1 size i1, w1⟩ :: ⟨Rect.unit off0 size i0, w0⟩ :: L)) y = v.read Val (v.writes Val f L) y := by
  rw [View.read_writes_cons_unit_of_not_mem v f _ _ _ y rfl a (by rw [h3]; exact hy),
    View.read_writes_cons_unit_of_not_mem v f _ _ _ y rfl a (by rw [h2]; exact hy),
    View.read_writes_cons_unit_of_not_mem v f _ _ _ y rfl a (by rw [h1]; exact hy),
    View.read_writes_cons_unit_of_not_mem v f _ _ _ y rfl a (by rw [h0]; exact hy)]

end Four

section Loads
variable {F : FTy → Type} [FloatOps F]

/-- One head's tile, one tile of rows: without the axes of size one. -/
abbrev cut4 {φ : FTy} (v : FVec F S1x1x256x256 φ) : FVec F S256x256 φ := shapeCast S256x256 v shapeCasts_S1x1x256x256_S256x256
abbrev cut3 {φ : FTy} (v : FVec F S1x256x256 φ) : FVec F S256x256 φ := shapeCast S256x256 v shapeCasts_S1x256x256_S256x256

theorem cut4_apply {φ : FTy} (v : FVec F S1x1x256x256 φ) (p q : Fin 256) : cut4 v (ix2 p q) = v (ix4 0 0 p q) := by
  pointwise []

theorem cut3_apply {φ : FTy} (v : FVec F S1x256x256 φ) (p q : Fin 256) : cut3 v (ix2 p q) = v (ix3 0 p q) := by
  pointwise []

end Loads

theorem ext2 {φ : FTy} {x : FVec Ideal S256x256 φ} {f : Fin 256 → Fin 256 → ℝ} (h : ∀ p q : Fin 256, x (ix2 p q) = ((f p q : ℝ) : EReal)) : x = up f := by
  funext i
  obtain ⟨p, q, rfl⟩ : ∃ (p q : Fin 256), i = ix2 p q := ⟨i 0, i 1, by funext a; fin_cases a <;> rfl⟩
  exact h p q

/-- A load of one head's tile of a buffer of scores. -/
theorem load4 {sp : Space} {sg : RefSig} {m : Memref sg .tc sp S2x4x256x256 .f32} (hm : m.IsWhole) (X : Vec Ideal S2x4x256x256 .f32) {off : Fin 4 → ℕ}
    (inb : ∀ a, off a + S1x1x256x256.size a ≤ S2x4x256x256.size a) (w : Fin 2) (h : Fin 4) (e : off = ![w.val, h.val, 0, 0])
    (f : Fin 256 → Fin 256 → ℝ) (hX : ∀ p q : Fin 256, X (ix4 w h p q) = ((f p q : ℝ) : EReal)) :
    cut4 (F := Ideal) (φ := .f32) (View.readAt (Elt Ideal) m.view (Rect.unit (s := S2x4x256x256) off S1x1x256x256.size inb).toLoadRect (hm.unread X)) = up f := by
  subst e
  refine ext2 fun p q => ?_
  rw [cut4_apply, hm.readAt_unread, ← hX p q]
  congr 1
  funext a; fin_cases a <;> (apply Fin.ext; simp [LoadRect.idx, Rect.unit, ix4])

/-- A load of a tile of rows of one of the matrices of a rank-3 buffer. -/
theorem load3 {sp : Space} {n r : ℕ} {sg : RefSig} {m : Memref sg .tc sp ⟨3, ![n, r, 256]⟩ .f32} (hm : m.IsWhole) (X : Vec Ideal ⟨3, ![n, r, 256]⟩ .f32) {off : Fin 3 → ℕ}
    (inb : ∀ a, off a + S1x256x256.size a ≤ (⟨3, ![n, r, 256]⟩ : Shape).size a) (h : Fin n) (o : ℕ) (ho : o + 256 ≤ r) (e : off = ![h.val, o, 0])
    (f : Fin 256 → Fin 256 → ℝ) (hX : ∀ p q : Fin 256, X (ix3 h ⟨o + p.val, by omega⟩ q) = ((f p q : ℝ) : EReal)) :
    cut3 (F := Ideal) (φ := .f32) (View.readAt (Elt Ideal) m.view (Rect.unit (s := ⟨3, ![n, r, 256]⟩) off S1x256x256.size inb).toLoadRect (hm.unread X)) = up f := by
  subst e
  refine ext2 fun p q => ?_
  rw [cut3_apply, hm.readAt_unread, ← hX p q]
  congr 1
  funext a; fin_cases a <;> (apply Fin.ext; simp [LoadRect.idx, Rect.unit, ix3])

/-- A load of a tile of rows of one of the matrices of a rank-3 buffer. -/
theorem load3b {sp : Space} {n r : ℕ} {sg : RefSig} {m : Memref sg .tc sp ⟨3, ![n, r, 256]⟩ .bf16} (hm : m.IsWhole) (X : Vec Ideal ⟨3, ![n, r, 256]⟩ .bf16) {off : Fin 3 → ℕ}
    (inb : ∀ a, off a + S1x256x256.size a ≤ (⟨3, ![n, r, 256]⟩ : Shape).size a) (h : Fin n) (o : ℕ) (ho : o + 256 ≤ r) (e : off = ![h.val, o, 0])
    (f : Fin 256 → Fin 256 → ℝ) (hX : ∀ p q : Fin 256, X (ix3 h ⟨o + p.val, by omega⟩ q) = ((f p q : ℝ) : EReal)) :
    cut3 (F := Ideal) (φ := .bf16) (View.readAt (Elt Ideal) m.view (Rect.unit (s := ⟨3, ![n, r, 256]⟩) off S1x256x256.size inb).toLoadRect (hm.unread X)) = up f := by
  subst e
  refine ext2 fun p q => ?_
  rw [cut3_apply, hm.readAt_unread, ← hX p q]
  congr 1
  funext a; fin_cases a <;> (apply Fin.ext; simp [LoadRect.idx, Rect.unit, ix3])

/-- A load of a tile of rows of a matrix. -/
theorem load2 {sp : Space} {sg : RefSig} {m : Memref sg .tc sp S4096x256 .f32} (hm : m.IsWhole) (X : Vec Ideal S4096x256 .f32) {off : Fin 2 → ℕ}
    (inb : ∀ a, off a + S256x256.size a ≤ S4096x256.size a) (o : ℕ) (ho : o + 256 ≤ 4096) (e : off = ![o, 0])
    (f : Fin 256 → Fin 256 → ℝ) (hX : ∀ p q : Fin 256, X (ix2 ⟨o + p.val, by omega⟩ q) = ((f p q : ℝ) : EReal)) :
    (View.readAt (Elt Ideal) m.view (Rect.unit (s := S4096x256) off S256x256.size inb).toLoadRect (hm.unread X) : FVec Ideal S256x256 .f32) = up (φ := .f32) f := by
  subst e
  refine ext2 fun p q => ?_
  rw [hm.readAt_unread, ← hX p q]
  congr 1
  funext a; fin_cases a <;> (apply Fin.ext; simp [LoadRect.idx, Rect.unit, ix2])

section Offsets

theorem off14 : ∀ jj : Fin 16, k0_off14 (BitVec.ofNat 32 jj.val) = ![jj.val % 2, 0, 0, 0] := by decide +kernel
theorem off15 : ∀ jj : Fin 16, k0_off15 (BitVec.ofNat 32 jj.val) = ![jj.val % 2, 1, 0, 0] := by decide +kernel
theorem off16 : ∀ jj : Fin 16, k0_off16 (BitVec.ofNat 32 jj.val) = ![jj.val % 2, 2, 0, 0] := by decide +kernel
theorem off17 : ∀ jj : Fin 16, k0_off17 (BitVec.ofNat 32 jj.val) = ![jj.val % 2, 3, 0, 0] := by decide +kernel
theorem off24 : ∀ jj : Fin 16, k0_off24 (BitVec.ofNat 32 jj.val) = ![1 - jj.val % 2, 0, 0, 0] := by decide +kernel
theorem off25 : ∀ jj : Fin 16, k0_off25 (BitVec.ofNat 32 jj.val) = ![1 - jj.val % 2, 1, 0, 0] := by decide +kernel
theorem off26 : ∀ jj : Fin 16, k0_off26 (BitVec.ofNat 32 jj.val) = ![1 - jj.val % 2, 2, 0, 0] := by decide +kernel
theorem off27 : ∀ jj : Fin 16, k0_off27 (BitVec.ofNat 32 jj.val) = ![1 - jj.val % 2, 3, 0, 0] := by decide +kernel

theorem off18 : ∀ (t : Fin grid0.N) (jj : Fin 16), jj.val + 2 ≤ ((grid0.coords t) 1).val →
    k0_off18 (grid0.coords t) (BitVec.ofNat 32 jj.val) = ![256 * (((grid0.coords t) 1).val - 2 - jj.val), 0] := by decide +kernel
theorem off19 : ∀ (t : Fin grid0.N) (jj : Fin 16), jj.val + 2 ≤ ((grid0.coords t) 1).val →
    k0_off19 (grid0.coords t) (BitVec.ofNat 32 jj.val) = ![0, 256 * (((grid0.coords t) 1).val - 2 - jj.val), 0] := by decide +kernel
theorem off20 : ∀ (t : Fin grid0.N) (jj : Fin 16), jj.val + 2 ≤ ((grid0.coords t) 1).val →
    k0_off20 (grid0.coords t) (BitVec.ofNat 32 jj.val) = ![1, 256 * (((grid0.coords t) 1).val - 2 - jj.val), 0] := by decide +kernel
theorem off21 : ∀ (t : Fin grid0.N) (jj : Fin 16), jj.val + 2 ≤ ((grid0.coords t) 1).val →
    k0_off21 (grid0.coords t) (BitVec.ofNat 32 jj.val) = ![2, 256 * (((grid0.coords t) 1).val - 2 - jj.val), 0] := by decide +kernel
theorem off22 : ∀ (t : Fin grid0.N) (jj : Fin 16), jj.val + 2 ≤ ((grid0.coords t) 1).val →
    k0_off22 (grid0.coords t) (BitVec.ofNat 32 jj.val) = ![3, 256 * (((grid0.coords t) 1).val - 2 - jj.val), 0] := by decide +kernel
theorem off23 : ∀ (t : Fin grid0.N) (jj : Fin 16), jj.val + 3 ≤ ((grid0.coords t) 1).val →
    k0_off23 (grid0.coords t) (BitVec.ofNat 32 jj.val) = ![0, 256 * (((grid0.coords t) 1).val - 3 - jj.val), 0] := by decide +kernel
theorem cond3 : ∀ (t : Fin grid0.N) (jj : Fin 16), jj.val + 2 ≤ ((grid0.coords t) 1).val →
    (k0_cond3 (grid0.coords t) (BitVec.ofNat 32 jj.val) 1#1 = 1#1 ↔ jj.val + 3 ≤ ((grid0.coords t) 1).val) := by decide +kernel

end Offsets

end AttnB
-- ==== Proof.AttnStep.lean ====
/-
  One trip of the walk in the words of the tiles: what it hands on and what it stores, over any reading of the floats.
-/
module

public import proofs.«01_k».proof.Proof.AttnRead

@[expose] public section

noncomputable section

namespace AttnB

open Cert.AttnBIdeal Cert.AttnBIdeal.Gen
open Idealize.ShloMosaic Idealize.ShloMosaic.TcCoe Idealize.ShloMosaic.Tactic

variable {F : FTy → Type} [FloatOps F] [Named F]

/-- One head of a tile: the logarithms, the weights, their products with the cotangent, and the scores' cotangent. -/
def cellL (z : FVec F S256x256 .f32) : FVec F S256x256 .f32 := subf (lsT z) z
def cellA (m : FVec F S256x256 .bf16) (z : FVec F S256x256 .f32) (l : FVec F S256x1 .f32) : FVec F S256x256 .f32 :=
  powT (lsT z) (runT m (cellL z) l)
def cellG (m : FVec F S256x256 .bf16) (z da : FVec F S256x256 .f32) (l : FVec F S256x1 .f32) : FVec F S256x256 .f32 := gT (cellA m z l) da
def cellD (m m' : FVec F S256x256 .bf16) (z da : FVec F S256x256 .f32) (l g d : FVec F S256x1 .f32) : FVec F S256x256 .bf16 :=
  bf (dzT (lsT z) (cellG m z da l) (befT d (runT m' (cellG m z da l) g)))

/-- The four heads' parts added up. -/
def sum4 (x0 x1 x2 x3 : FVec F S256x256 .f32) : FVec F S256x256 .f32 := addf (addf (addf x0 x1) x2) x3

/-- The test of the early exit: whether the greatest of the running sums is above the threshold. -/
def live (l0 l1 l2 l3 : FVec F S256x1 .f32) : BitVec 1 :=
  Scalar.cmpf .ogt
    (extractAt ![0, 0, 0]
      (shapeCast S1x1x1 (multiReduction .maximumf [1, 2] S1
        (shapeCast S1x256x1 (maximumf (maximumf (maximumf l0 l1) l2) l3) shapeCasts_S256x1_S1x256x1) 0xFF800000#32 reduces_S1x256x1_S1 (.inl rfl) rfl)
        shapeCasts_S1_S1x1x1) inpos_S1x1x1_p0_0_0)
    (Named.named κ "dead" 3273096101#32)

abbrev ex3 (v : FVec F S256x256 .f32) : FVec F S1x256x256 .f32 := shapeCast S1x256x256 v shapeCasts_S256x256_S1x256x256
abbrev ex4 (v : FVec F S256x256 .f32) : FVec F S1x1x256x256 .f32 := shapeCast S1x1x256x256 v shapeCasts_S256x256_S1x1x256x256

variable (c : Dev nD) (a : Fixed F) (jj : ℕ) (s : Sums F) (h : Checks a.i jj) (k v : Vec F S1x4096x256 .bf16) (x : Mem F)

/-- The loads of a trip. -/
def zAt (off : Fin 4 → ℕ) (inb : ∀ b, off b + S1x1x256x256.size b ≤ S2x4x256x256.size b) : FVec F S256x256 .f32 :=
  cut4 (φ := .f32) (View.readAt (Elt F) a.rz.view (Rect.unit (s := S2x4x256x256) off S1x1x256x256.size inb).toLoadRect (a.hz.unread x.z))
def wAt (off : Fin 4 → ℕ) (inb : ∀ b, off b + S1x1x256x256.size b ≤ S2x4x256x256.size b) : FVec F S256x256 .f32 :=
  cut4 (φ := .f32) (View.readAt (Elt F) a.rda.view (Rect.unit (s := S2x4x256x256) off S1x1x256x256.size inb).toLoadRect (a.hda.unread x.da))
def khAt (off : Fin 3 → ℕ) (inb : ∀ b, off b + S1x256x256.size b ≤ S4x4096x256.size b) : FVec F S256x256 .bf16 :=
  cut3 (φ := .bf16) (View.readAt (Elt F) a.rkh.view (Rect.unit (s := S4x4096x256) off S1x256x256.size inb).toLoadRect (a.hkh.unread x.kh))
def dqAt (off : Fin 3 → ℕ) (inb : ∀ b, off b + S1x256x256.size b ≤ S4x256x256.size b) : FVec F S256x256 .f32 :=
  cut3 (φ := .f32) (View.readAt (Elt F) a.rdq.view (Rect.unit (s := S4x256x256) off S1x256x256.size inb).toLoadRect (a.hdq.unread x.dq))
def dkAt (off : Fin 2 → ℕ) (inb : ∀ b, off b + S256x256.size b ≤ S4096x256.size b) : FVec F S256x256 .f32 :=
  View.readAt (Elt F) a.rdk.view (Rect.unit (s := S4096x256) off S256x256.size inb).toLoadRect (a.hdk.unread x.dk)
def dvAt (off : Fin 2 → ℕ) (inb : ∀ b, off b + S256x256.size b ≤ S4096x256.size b) : FVec F S256x256 .f32 :=
  View.readAt (Elt F) a.rdv.view (Rect.unit (s := S4096x256) off S256x256.size inb).toLoadRect (a.hdv.unread x.dv)
def kAt (off : Fin 3 → ℕ) (inb : ∀ b, off b + S1x256x256.size b ≤ S1x4096x256.size b) : FVec F S256x256 .bf16 :=
  cut3 (φ := .bf16) (View.readAt (Elt F) a.rk.view (Rect.unit (s := S1x4096x256) off S1x256x256.size inb).toLoadRect (a.hk.unread k))
def vAt (off : Fin 3 → ℕ) (inb : ∀ b, off b + S1x256x256.size b ≤ S1x4096x256.size b) : FVec F S256x256 .bf16 :=
  cut3 (φ := .bf16) (View.readAt (Elt F) a.rv.view (Rect.unit (s := S1x4096x256) off S1x256x256.size inb).toLoadRect (a.hv.unread v))

abbrev z0 := zAt a x (k0_off14 (BitVec.ofNat 32 jj)) (k0_off14_inb a.i _ h.1)
abbrev z1 := zAt a x (k0_off15 (BitVec.ofNat 32 jj)) (k0_off15_inb a.i _ h.1)
abbrev z2 := zAt a x (k0_off16 (BitVec.ofNat 32 jj)) (k0_off16_inb a.i _ h.1)
abbrev z3 := zAt a x (k0_off17 (BitVec.ofNat 32 jj)) (k0_off17_inb a.i _ h.1)
abbrev w0 := wAt a x (k0_off14 (BitVec.ofNat 32 jj)) (k0_off14_inb a.i _ h.1)
abbrev w1 := wAt a x (k0_off15 (BitVec.ofNat 32 jj)) (k0_off15_inb a.i _ h.1)
abbrev w2 := wAt a x (k0_off16 (BitVec.ofNat 32 jj)) (k0_off16_inb a.i _ h.1)
abbrev w3 := wAt a x (k0_off17 (BitVec.ofNat 32 jj)) (k0_off17_inb a.i _ h.1)

theorem trip_l0 : (tripAt c a jj s h k v x).l0 = addf s.l0 (rowT (cellL (z0 a jj h x))) := rfl
theorem trip_l1 : (tripAt c a jj s h k v x).l1 = addf s.l1 (rowT (cellL (z1 a jj h x))) := rfl
theorem trip_l2 : (tripAt c a jj s h k v x).l2 = addf s.l2 (rowT (cellL (z2 a jj h x))) := rfl
theorem trip_l3 : (tripAt c a jj s h k v x).l3 = addf s.l3 (rowT (cellL (z3 a jj h x))) := rfl
theorem trip_g0 : (tripAt c a jj s h k v x).g0 = addf s.g0 (rowT (cellG a.later (z0 a jj h x) (w0 a jj h x) s.l0)) := rfl
theorem trip_g1 : (tripAt c a jj s h k v x).g1 = addf s.g1 (rowT (cellG a.later (z1 a jj h x) (w1 a jj h x) s.l1)) := rfl
theorem trip_g2 : (tripAt c a jj s h k v x).g2 = addf s.g2 (rowT (cellG a.later (z2 a jj h x) (w2 a jj h x) s.l2)) := rfl
theorem trip_g3 : (tripAt c a jj s h k v x).g3 = addf s.g3 (rowT (cellG a.later (z3 a jj h x) (w3 a jj h x) s.l3)) := rfl

abbrev D0 := cellD a.later a.from_s (z0 a jj h x) (w0 a jj h x) s.l0 s.g0 a.d0
abbrev D1 := cellD a.later a.from_s (z1 a jj h x) (w1 a jj h x) s.l1 s.g1 a.d1
abbrev D2 := cellD a.later a.from_s (z2 a jj h x) (w2 a jj h x) s.l2 s.g2 a.d2
abbrev D3 := cellD a.later a.from_s (z3 a jj h x) (w3 a jj h x) s.l3 s.g3 a.d3
abbrev A0 := bf (cellA a.later (z0 a jj h x) s.l0)
abbrev A1 := bf (cellA a.later (z1 a jj h x) s.l1)
abbrev A2 := bf (cellA a.later (z2 a jj h x) s.l2)
abbrev A3 := bf (cellA a.later (z3 a jj h x) s.l3)

theorem trip_dk : (tripAt c a jj s h k v x).dk = a.rdk.view.writes (Elt F) (a.hdk.unread x.dk)
    [⟨Rect.unit (s := S4096x256) (k0_off18 a.i (BitVec.ofNat 32 jj)) S256x256.size (k0_off18_inb a.i _ h.1),
      (shapeCast S256x256 (addf (dkAt a x _ (k0_off18_inb a.i _ h.1))
        (sum4 (tn (D0 a jj s h x) a.q0) (tn (D1 a jj s h x) a.q1) (tn (D2 a jj s h x) a.q2) (tn (D3 a jj s h x) a.q3)))
        shapeCasts_S256x256_S256x256 : FVec F S256x256 .f32)⟩] := rfl

theorem trip_dv : (tripAt c a jj s h k v x).dv = a.rdv.view.writes (Elt F) (a.hdv.unread x.dv)
    [⟨Rect.unit (s := S4096x256) (k0_off18 a.i (BitVec.ofNat 32 jj)) S256x256.size (k0_off18_inb a.i _ h.1),
      (shapeCast S256x256 (addf (dvAt a x _ (k0_off18_inb a.i _ h.1))
        (sum4 (tn (A0 a jj s h x) a.do0) (tn (A1 a jj s h x) a.do1) (tn (A2 a jj s h x) a.do2) (tn (A3 a jj s h x) a.do3)))
        shapeCasts_S256x256_S256x256 : FVec F S256x256 .f32)⟩] := rfl

set_option maxHeartbeats 4000000 in
theorem trip_dq : (tripAt c a jj s h k v x).dq = a.rdq.view.writes (Elt F) (a.hdq.unread x.dq)
    [⟨Rect.unit (s := S4x256x256) ![3, 0, 0] S1x256x256.size inb_S4x256x256_S1x256x256_3_0_0,
        ex3 (addf (dqAt a x _ inb_S4x256x256_S1x256x256_3_0_0) (nn (D3 a jj s h x) (khAt a x _ (k0_off22_inb a.i _ h.1))))⟩,
      ⟨Rect.unit (s := S4x256x256) ![2, 0, 0] S1x256x256.size inb_S4x256x256_S1x256x256_2_0_0,
        ex3 (addf (dqAt a x _ inb_S4x256x256_S1x256x256_2_0_0) (nn (D2 a jj s h x) (khAt a x _ (k0_off21_inb a.i _ h.1))))⟩,
      ⟨Rect.unit (s := S4x256x256) ![1, 0, 0] S1x256x256.size inb_S4x256x256_S1x256x256_1_0_0,
        ex3 (addf (dqAt a x _ inb_S4x256x256_S1x256x256_1_0_0) (nn (D1 a jj s h x) (khAt a x _ (k0_off20_inb a.i _ h.1))))⟩,
      ⟨Rect.unit (s := S4x256x256) ![0, 0, 0] S1x256x256.size inb_S4x256x256_S1x256x256_0_0_0,
        ex3 (addf (dqAt a x _ inb_S4x256x256_S1x256x256_0_0_0) (nn (D0 a jj s h x) (khAt a x _ (k0_off19_inb a.i _ h.1))))⟩] := rfl

abbrev L0 := addf s.l0 (rowT (cellL (z0 a jj h x)))
abbrev L1 := addf s.l1 (rowT (cellL (z1 a jj h x)))
abbrev L2 := addf s.l2 (rowT (cellL (z2 a jj h x)))
abbrev L3 := addf s.l3 (rowT (cellL (z3 a jj h x)))

abbrev alive := live (L0 a jj s h x) (L1 a jj s h x) (L2 a jj s h x) (L3 a jj s h x)

theorem trip_go : (tripAt c a jj s h k v x).go
    = Scalar.andi (Scalar.cmpi .sgt (Scalar.subi (Scalar.subi (BitVec.ofNat 32 (a.i 1).val) 2#32) (BitVec.ofNat 32 jj)) 0#32) (alive a jj s h x) := rfl

theorem trip_z : (tripAt c a jj s h k v x).z
    = if hc : k0_cond3 a.i (BitVec.ofNat 32 jj) (alive a jj s h x) = 1#1 then
        a.rz.view.writes (Elt F) (a.hz.unread x.z)
          [⟨Rect.unit (s := S2x4x256x256) (k0_off27 (BitVec.ofNat 32 jj)) S1x1x256x256.size (k0_off27_inb a.i _ _ (h.2 _) hc), ex4 (nt a.q3 (kAt a k _ (k0_off23_inb a.i _ _ (h.2 _) hc)))⟩,
            ⟨Rect.unit (s := S2x4x256x256) (k0_off26 (BitVec.ofNat 32 jj)) S1x1x256x256.size (k0_off26_inb a.i _ _ (h.2 _) hc), ex4 (nt a.q2 (kAt a k _ (k0_off23_inb a.i _ _ (h.2 _) hc)))⟩,
            ⟨Rect.unit (s := S2x4x256x256) (k0_off25 (BitVec.ofNat 32 jj)) S1x1x256x256.size (k0_off25_inb a.i _ _ (h.2 _) hc), ex4 (nt a.q1 (kAt a k _ (k0_off23_inb a.i _ _ (h.2 _) hc)))⟩,
            ⟨Rect.unit (s := S2x4x256x256) (k0_off24 (BitVec.ofNat 32 jj)) S1x1x256x256.size (k0_off24_inb a.i _ _ (h.2 _) hc), ex4 (nt a.q0 (kAt a k _ (k0_off23_inb a.i _ _ (h.2 _) hc)))⟩]
      else a.hz.unread x.z := rfl

theorem trip_da : (tripAt c a jj s h k v x).da
    = if hc : k0_cond3 a.i (BitVec.ofNat 32 jj) (alive a jj s h x) = 1#1 then
        a.rda.view.writes (Elt F) (a.hda.unread x.da)
          [⟨Rect.unit (s := S2x4x256x256) (k0_off27 (BitVec.ofNat 32 jj)) S1x1x256x256.size (k0_off27_inb a.i _ _ (h.2 _) hc), ex4 (nt a.do3 (vAt a v _ (k0_off23_inb a.i _ _ (h.2 _) hc)))⟩,
            ⟨Rect.unit (s := S2x4x256x256) (k0_off26 (BitVec.ofNat 32 jj)) S1x1x256x256.size (k0_off26_inb a.i _ _ (h.2 _) hc), ex4 (nt a.do2 (vAt a v _ (k0_off23_inb a.i _ _ (h.2 _) hc)))⟩,
            ⟨Rect.unit (s := S2x4x256x256) (k0_off25 (BitVec.ofNat 32 jj)) S1x1x256x256.size (k0_off25_inb a.i _ _ (h.2 _) hc), ex4 (nt a.do1 (vAt a v _ (k0_off23_inb a.i _ _ (h.2 _) hc)))⟩,
            ⟨Rect.unit (s := S2x4x256x256) (k0_off24 (BitVec.ofNat 32 jj)) S1x1x256x256.size (k0_off24_inb a.i _ _ (h.2 _) hc), ex4 (nt a.do0 (vAt a v _ (k0_off23_inb a.i _ _ (h.2 _) hc)))⟩]
      else a.hda.unread x.da := rfl

end AttnB
-- ==== Proof.AttnNext.lean ====
/-
  The trip's invariant: what the buffers hold when the columns from a tile on are done, and that one trip keeps it.
-/
module

public import proofs.«01_k».proof.Proof.AttnStep

@[expose] public section

noncomputable section

namespace AttnB

open Cert.AttnBIdeal Cert.AttnBIdeal.Gen
open Idealize.ShloMosaic Idealize.ShloMosaic.TcCoe Idealize.ShloMosaic.Tactic

variable (D : Data)

/-- The sums the keys' and the values' gradients hold when the rows before a tile of rows, and of its own rows the
    columns from `J` on, are in. -/
def part (f : Fin 4 → ℕ → ℕ → ℝ) (g : Fin 4 → ℕ → Fin 256 → ℝ) (i J s : ℕ) (l : Fin 256) : ℝ :=
  (∑ h, ∑ r ∈ Finset.range (256 * i), f h r s * g h r l)
    + if 256 * J ≤ s then ∑ h, ∑ r ∈ Finset.Ico (256 * i) (256 * (i + 1)), f h r s * g h r l else 0

/-- The buffers when the columns from `J` on are done in row tile `i`. -/
structure Bufs (i J : ℕ) (x : Mem Ideal) : Prop where
  kh : ∀ (h : Fin 4) (r : Fin 4096) (l : Fin 256), x.kh (ix3 h r l) = ((D.Km h r.val l : ℝ) : EReal)
  dk : ∀ (s : Fin 4096) (l : Fin 256), x.dk (ix2 s l) = ((part D.dz D.Q i J s.val l : ℝ) : EReal)
  dv : ∀ (s : Fin 4096) (l : Fin 256), x.dv (ix2 s l) = ((part D.A D.O i J s.val l : ℝ) : EReal)
  dq : ∀ (h : Fin 4) (p l : Fin 256), x.dq (ix3 h p l)
    = ((∑ s ∈ Finset.Ico (256 * J) 4096, D.dz h (256 * i + p.val) s * D.Km h s l : ℝ) : EReal)

/-- A slot holds the scores of a tile. -/
structure Scored (i j : ℕ) (w : Fin 2) (x : Mem Ideal) : Prop where
  z : ∀ (h : Fin 4) (p q : Fin 256), x.z (ix4 w h p q) = ((D.Z h (256 * i + p.val) (256 * j + q.val) : ℝ) : EReal)
  da : ∀ (h : Fin 4) (p q : Fin 256), x.da (ix4 w h p q) = ((D.W h (256 * i + p.val) (256 * j + q.val) : ℝ) : EReal)

/-- The running sums when the columns from `J` on are done. -/
structure SumsAt (i J : ℕ) (s : Sums Ideal) : Prop where
  l0 : s.l0 = colAt i fun r => D.cl 0 r J
  l1 : s.l1 = colAt i fun r => D.cl 1 r J
  l2 : s.l2 = colAt i fun r => D.cl 2 r J
  l3 : s.l3 = colAt i fun r => D.cl 3 r J
  g0 : s.g0 = colAt i fun r => D.cg 0 r J
  g1 : s.g1 = colAt i fun r => D.cg 1 r J
  g2 : s.g2 = colAt i fun r => D.cg 2 r J
  g3 : s.g3 = colAt i fun r => D.cg 3 r J

/-- What the walk never changes. -/
structure FixedAt (t : Fin grid0.N) (i : ℕ) (a : Fixed Ideal) : Prop where
  ai : a.i = grid0.coords t
  it : ((grid0.coords t) 1).val = i
  later : a.later = k0_pay27
  from_s : a.from_s = k0_pay28
  d0 : a.d0 = colAt i (D.d 0)
  d1 : a.d1 = colAt i (D.d 1)
  d2 : a.d2 = colAt i (D.d 2)
  d3 : a.d3 = colAt i (D.d 3)
  o0 : a.do0 = rows i (D.O 0)
  o1 : a.do1 = rows i (D.O 1)
  o2 : a.do2 = rows i (D.O 2)
  o3 : a.do3 = rows i (D.O 3)
  q0 : a.q0 = rows i (D.Q 0)
  q1 : a.q1 = rows i (D.Q 1)
  q2 : a.q2 = rows i (D.Q 2)
  q3 : a.q3 = rows i (D.Q 3)

section Cells
variable {h : Fin 4} {i j : ℕ} (hj : j < i) (hi : i < 16)
include hj hi

theorem cellL_left : cellL (tile i j (D.Z h)) = tile i j (D.L h) := left_l1 D h i j hj hi

theorem cellA_left : cellA k0_pay27 (tile i j (D.Z h)) (colAt i fun r => D.cl h r (j + 1)) = tile i j (D.A h) := by
  rw [cellA, cellL_left D hj hi]; exact left_a D h i j hj hi

theorem cellG_left : cellG k0_pay27 (tile i j (D.Z h)) (tile i j (D.W h)) (colAt i fun r => D.cl h r (j + 1)) = tile i j (D.G h) := by
  rw [cellG, cellA_left D hj hi]; exact any_g D h i j

theorem cellD_left :
    cellD k0_pay27 k0_pay28 (tile i j (D.Z h)) (tile i j (D.W h)) (colAt i fun r => D.cl h r (j + 1)) (colAt i fun r => D.cg h r (j + 1)) (colAt i (D.d h))
      = tile i j (D.dz h) := by
  rw [cellD, cellG_left D hj hi, left_dz D h i j hj hi]; rfl

end Cells

theorem sum4_up (f : Fin 4 → Fin 256 → Fin 256 → ℝ) : sum4 (F := Ideal) (up (f 0)) (up (f 1)) (up (f 2)) (up (f 3)) = up fun r s => ∑ h, f h r s := by
  rw [sum4, addf_up, addf_up, addf_up]
  exact congrArg up (funext fun r => funext fun s => (Fin.sum_univ_four fun h => f h r s).symm)

theorem live_col (f0 f1 f2 f3 : Fin 256 → ℝ) : live (F := Ideal) (col f0) (col f1) (col f2) (col f3) = 1#1 := by
  pointwise [live, col]
  have hd : Named.named (F := Ideal) (φ := .f32) κ "dead" 3273096101#32 = (⊥ : EReal) := rfl
  rw [hd]
  refine congrArg BitVec.ofBool (decide_eq_true (lt_of_lt_of_le (EReal.bot_lt_coe (f0 0)) ?_))
  refine Finset.le_fold_max _ |>.2 (.inr ⟨(0, 0), Finset.mem_univ _, ?_⟩)
  exact le_max_of_le_left (le_max_of_le_left (le_max_left _ _))

theorem ex3_apply {F : FTy → Type} [FloatOps F] (v : FVec F S256x256 .f32) (p q : Fin 256) : ex3 v (ix3 0 p q) = v (ix2 p q) := by
  pointwise []

theorem ex4_apply {F : FTy → Type} [FloatOps F] (v : FVec F S256x256 .f32) (p q : Fin 256) : ex4 v (ix4 0 0 p q) = v (ix2 p q) := by
  pointwise []

/-- A tile of columns' sums put on top of what the buffer held. -/
theorem part_store {sp : Space} {m : Memref sig .tc sp S4096x256 .f32} (hm : m.IsWhole) (X : Vec Ideal S4096x256 .f32) (f : Fin 4 → ℕ → ℕ → ℝ)
    (g : Fin 4 → ℕ → Fin 256 → ℝ) (i j : ℕ) (hj : j < 16) (hX : ∀ (s : Fin 4096) (l : Fin 256), X (ix2 s l) = ((part f g i (j + 1) s.val l : ℝ) : EReal))
    {off : Fin 2 → ℕ} (e : off = ![256 * j, 0]) (inb : ∀ b, off b + S256x256.size b ≤ S4096x256.size b) (P : FVec Ideal S256x256 .f32)
    (hP : P = addf (View.readAt (Elt Ideal) m.view (Rect.unit (s := S4096x256) off S256x256.size inb).toLoadRect (hm.unread X) : FVec Ideal S256x256 .f32)
      (sum4 (tn (tile i j (f 0)) (rows i (g 0))) (tn (tile i j (f 1)) (rows i (g 1))) (tn (tile i j (f 2)) (rows i (g 2))) (tn (tile i j (f 3)) (rows i (g 3)))))
    (s : Fin 4096) (l : Fin 256) :
    m.view.read (Elt Ideal) (m.view.writes (Elt Ideal) (hm.unread X)
      [⟨Rect.unit (s := S4096x256) off S256x256.size inb, (shapeCast S256x256 P shapeCasts_S256x256_S256x256 : FVec Ideal S256x256 .f32)⟩]) (ix2 s l)
      = ((part f g i j s.val l : ℝ) : EReal) := by
  by_cases hs : 256 * j ≤ s.val ∧ s.val < 256 * j + 256
  · rw [View.read_writes_cons_unit_of_mem m.view (hm.unread X) inb _ [] (ix2 s l) (ix2 ⟨s.val - 256 * j, by omega⟩ l) e
      (fun b => by fin_cases b <;> simp [ix2]; omega)]
    have hP' : P = up fun q l => (part f g i (j + 1) (256 * j + q.val) l) + ∑ h, ∑ r ∈ Finset.Ico (256 * i) (256 * (i + 1)), f h r (256 * j + q.val) * g h r l := by
      rw [hP, load2 hm X inb (256 * j) (by omega) e _ (fun p q => hX _ q), tn_tile, tn_tile, tn_tile, tn_tile,
        sum4_up (fun h q l => ∑ r ∈ Finset.Ico (256 * i) (256 * (i + 1)), f h r (256 * j + q.val) * g h r l), addf_up]
    have hc : (shapeCast S256x256 P shapeCasts_S256x256_S256x256 : FVec Ideal S256x256 .f32) = P := by
      funext y; pointwise []
    refine (congrFun (hc.trans hP') _).trans ?_
    show (((part f g i (j + 1) (256 * j + (s.val - 256 * j)) l + ∑ h, ∑ r ∈ Finset.Ico (256 * i) (256 * (i + 1)), f h r (256 * j + (s.val - 256 * j)) * g h r l : ℝ) : EReal)) = _
    rw [Nat.add_sub_cancel' hs.1]
    simp only [part, if_pos hs.1, if_neg (show ¬ 256 * (j + 1) ≤ s.val by omega), add_zero]
  · rw [View.read_writes_cons_unit_of_not_mem m.view (hm.unread X) inb _ [] (ix2 s l) e 0 (by
      show s.val < 256 * j ∨ 256 * j + 256 ≤ s.val
      omega)]
    show m.view.read (Elt Ideal) (hm.unread X) (ix2 s l) = _
    rw [hm.read_unread, hX]
    simp only [part]
    rw [if_congr (show 256 * (j + 1) ≤ s.val ↔ 256 * j ≤ s.val by omega) rfl rfl]

theorem four_ex4 (f : Fin 4 → Fin 256 → Fin 256 → ℝ) (h : Fin 4) (p q : Fin 256) :
    (![ex4 (F := Ideal) (up (f 0)) (ix4 0 0 p q), ex4 (F := Ideal) (up (f 1)) (ix4 0 0 p q), ex4 (F := Ideal) (up (f 2)) (ix4 0 0 p q),
      ex4 (F := Ideal) (up (f 3)) (ix4 0 0 p q)] : Fin 4 → EReal) h = ((f h p q : ℝ) : EReal) := by
  fin_cases h
  exacts [ex4_apply (up (f 0)) p q, ex4_apply (up (f 1)) p q, ex4_apply (up (f 2)) p q, ex4_apply (up (f 3)) p q]

/-- One head's rows of the queries' gradient, put on top of what the buffer held. -/
theorem dq_step {a : Fixed Ideal} {i j : ℕ} (hi : i < 16) (hj : j < i) {x : Mem Ideal} (hx : Bufs D i (j + 1) x) (h : Fin 4)
    {P : FVec Ideal S256x256 .bf16} (hP : P = tile i j (D.dz h)) {off off' : Fin 3 → ℕ} (e : off = ![h.val, 256 * j, 0]) (e' : off' = ![h.val, 0, 0])
    {inb : ∀ b, off b + S1x256x256.size b ≤ S4x4096x256.size b} {inb' : ∀ b, off' b + S1x256x256.size b ≤ S4x256x256.size b} (p l : Fin 256) :
    ex3 (addf (dqAt a x off' inb') (nn P (khAt a x off inb))) (ix3 0 p l)
      = ((∑ s ∈ Finset.Ico (256 * j) 4096, D.dz h (256 * i + p.val) s * D.Km h s l : ℝ) : EReal) := by
  have hq : dqAt a x off' inb' = up fun p l => ∑ s ∈ Finset.Ico (256 * (j + 1)) 4096, D.dz h (256 * i + p.val) s * D.Km h s l :=
    load3 a.hdq x.dq inb' h 0 (by omega) e' _ fun p q => by
      rw [show (⟨0 + p.val, by omega⟩ : Fin 256) = p from Fin.ext (Nat.zero_add _)]; exact hx.dq h p q
  have hk : khAt a x off inb = rows j (D.Km h) := load3b a.hkh x.kh inb h (256 * j) (by omega) e _ fun p q => hx.kh h _ q
  rw [ex3_apply, hq, hk, hP, nn_tile, addf_up]
  refine congrArg (Real.toEReal) ?_
  show (_ : ℝ) + _ = _
  rw [add_comm, Finset.sum_Ico_consecutive _ (by omega) (by omega)]
  rfl

section Trip
variable {D} {t : Fin grid0.N} {i : ℕ} {a : Fixed Ideal} (ha : FixedAt D t i a) (c : Dev nD) (jj : Fin 16) (hi : i < 16)
  {s : Sums Ideal} {j : ℕ} (hj : j + jj.val + 2 = i) (hs : SumsAt D i (j + 1) s)
  (hc : Checks a.i jj.val) {k v : Vec Ideal S1x4096x256 .bf16} {x : Mem Ideal}
  (hx : Bufs D i (j + 1) x) (hw : Scored D i j ⟨jj.val % 2, Nat.mod_lt _ Nat.two_pos⟩ x)

section Loads
include hw
theorem z0_eq : z0 a jj.val hc x = tile i j (D.Z 0) := load4 a.hz x.z _ _ 0 (off14 jj) _ (hw.z 0)
theorem z1_eq : z1 a jj.val hc x = tile i j (D.Z 1) := load4 a.hz x.z _ _ 1 (off15 jj) _ (hw.z 1)
theorem z2_eq : z2 a jj.val hc x = tile i j (D.Z 2) := load4 a.hz x.z _ _ 2 (off16 jj) _ (hw.z 2)
theorem z3_eq : z3 a jj.val hc x = tile i j (D.Z 3) := load4 a.hz x.z _ _ 3 (off17 jj) _ (hw.z 3)
theorem w0_eq : w0 a jj.val hc x = tile i j (D.W 0) := load4 a.hda x.da _ _ 0 (off14 jj) _ (hw.da 0)
theorem w1_eq : w1 a jj.val hc x = tile i j (D.W 1) := load4 a.hda x.da _ _ 1 (off15 jj) _ (hw.da 1)
theorem w2_eq : w2 a jj.val hc x = tile i j (D.W 2) := load4 a.hda x.da _ _ 2 (off16 jj) _ (hw.da 2)
theorem w3_eq : w3 a jj.val hc x = tile i j (D.W 3) := load4 a.hda x.da _ _ 3 (off17 jj) _ (hw.da 3)
end Loads

include hi hj hs hw

theorem L0_eq : L0 a jj.val s hc x = colAt i fun r => D.cl 0 r j := by
  rw [L0, z0_eq jj hc hw, hs.l0, cellL_left D (by omega) hi, left_cl D 0 i j (by omega) hi]
theorem L1_eq : L1 a jj.val s hc x = colAt i fun r => D.cl 1 r j := by
  rw [L1, z1_eq jj hc hw, hs.l1, cellL_left D (by omega) hi, left_cl D 1 i j (by omega) hi]
theorem L2_eq : L2 a jj.val s hc x = colAt i fun r => D.cl 2 r j := by
  rw [L2, z2_eq jj hc hw, hs.l2, cellL_left D (by omega) hi, left_cl D 2 i j (by omega) hi]
theorem L3_eq : L3 a jj.val s hc x = colAt i fun r => D.cl 3 r j := by
  rw [L3, z3_eq jj hc hw, hs.l3, cellL_left D (by omega) hi, left_cl D 3 i j (by omega) hi]

theorem alive_eq : alive a jj.val s hc x = 1#1 := by
  rw [alive, L0_eq jj hi hj hs hc hw, L1_eq jj hi hj hs hc hw, L2_eq jj hi hj hs hc hw, L3_eq jj hi hj hs hc hw]
  exact live_col _ _ _ _

include ha

theorem next_sums : SumsAt D i j (nextSums c a jj.val s hc k v x) := by
  have hji : j < i := by omega
  refine ⟨(trip_l0 c a jj.val s hc k v x).trans ?_, (trip_l1 c a jj.val s hc k v x).trans ?_, (trip_l2 c a jj.val s hc k v x).trans ?_,
    (trip_l3 c a jj.val s hc k v x).trans ?_, (trip_g0 c a jj.val s hc k v x).trans ?_, (trip_g1 c a jj.val s hc k v x).trans ?_,
    (trip_g2 c a jj.val s hc k v x).trans ?_, (trip_g3 c a jj.val s hc k v x).trans ?_⟩
  · exact L0_eq jj hi hj hs hc hw
  · exact L1_eq jj hi hj hs hc hw
  · exact L2_eq jj hi hj hs hc hw
  · exact L3_eq jj hi hj hs hc hw
  · rw [z0_eq jj hc hw, w0_eq jj hc hw, hs.l0, ha.later, hs.g0, cellG_left D hji hi, any_cg D 0 i j hji hi (by omega)]
  · rw [z1_eq jj hc hw, w1_eq jj hc hw, hs.l1, ha.later, hs.g1, cellG_left D hji hi, any_cg D 1 i j hji hi (by omega)]
  · rw [z2_eq jj hc hw, w2_eq jj hc hw, hs.l2, ha.later, hs.g2, cellG_left D hji hi, any_cg D 2 i j hji hi (by omega)]
  · rw [z3_eq jj hc hw, w3_eq jj hc hw, hs.l3, ha.later, hs.g3, cellG_left D hji hi, any_cg D 3 i j hji hi (by omega)]

theorem D0_eq : D0 a jj.val s hc x = tile i j (D.dz 0) := by
  rw [D0, z0_eq jj hc hw, w0_eq jj hc hw, hs.l0, hs.g0, ha.later, ha.from_s, ha.d0, cellD_left D (by omega) hi]
theorem D1_eq : D1 a jj.val s hc x = tile i j (D.dz 1) := by
  rw [D1, z1_eq jj hc hw, w1_eq jj hc hw, hs.l1, hs.g1, ha.later, ha.from_s, ha.d1, cellD_left D (by omega) hi]
theorem D2_eq : D2 a jj.val s hc x = tile i j (D.dz 2) := by
  rw [D2, z2_eq jj hc hw, w2_eq jj hc hw, hs.l2, hs.g2, ha.later, ha.from_s, ha.d2, cellD_left D (by omega) hi]
theorem D3_eq : D3 a jj.val s hc x = tile i j (D.dz 3) := by
  rw [D3, z3_eq jj hc hw, w3_eq jj hc hw, hs.l3, hs.g3, ha.later, ha.from_s, ha.d3, cellD_left D (by omega) hi]
theorem A0_eq : A0 a jj.val s hc x = tile i j (D.A 0) := by
  rw [A0, z0_eq jj hc hw, hs.l0, ha.later, cellA_left D (by omega) hi]; rfl
theorem A1_eq : A1 a jj.val s hc x = tile i j (D.A 1) := by
  rw [A1, z1_eq jj hc hw, hs.l1, ha.later, cellA_left D (by omega) hi]; rfl
theorem A2_eq : A2 a jj.val s hc x = tile i j (D.A 2) := by
  rw [A2, z2_eq jj hc hw, hs.l2, ha.later, cellA_left D (by omega) hi]; rfl
theorem A3_eq : A3 a jj.val s hc x = tile i j (D.A 3) := by
  rw [A3, z3_eq jj hc hw, hs.l3, ha.later, cellA_left D (by omega) hi]; rfl

theorem next_go : nextGo c a jj.val s hc k v x = 1#1 ↔ 0 < j := by
  refine Iff.trans (b := Scalar.andi (Scalar.cmpi .sgt (Scalar.subi (Scalar.subi (BitVec.ofNat 32 ((grid0.coords t) 1).val) 2#32) (BitVec.ofNat 32 jj.val)) 0#32) 1#1 = 1#1) ?_ ?_
  · show (tripAt c a jj.val s hc k v x).go = 1#1 ↔ _
    rw [trip_go, alive_eq jj hi hj hs hc hw, ha.ai]
  · have key : ∀ (i : Fin 16) (j : Fin 16), j.val + 2 ≤ i.val →
      (Scalar.andi (Scalar.cmpi .sgt (Scalar.subi (Scalar.subi (BitVec.ofNat 32 i.val) 2#32) (BitVec.ofNat 32 j.val)) 0#32) 1#1 = 1#1
        ↔ j.val + 3 ≤ i.val) := by decide +kernel
    rw [ha.it]
    refine (key ⟨i, hi⟩ jj (by show jj.val + 2 ≤ i; omega)).trans ?_
    show jj.val + 3 ≤ i ↔ 0 < j
    omega

include hx

theorem next_bufs : Bufs D i j (next c a jj.val s hc k v x) := by
  have h2 : jj.val + 2 ≤ ((grid0.coords t) 1).val := by rw [ha.it]; omega
  have h18 : k0_off18 a.i (BitVec.ofNat 32 jj.val) = ![256 * j, 0] := by
    rw [ha.ai, off18 t jj h2, ha.it]; congr 2; omega
  refine ⟨hx.kh, fun r l => ?_, fun r l => ?_, fun h p l => ?_⟩
  · show a.rdk.view.read (Elt Ideal) (tripAt c a jj.val s hc k v x).dk (ix2 r l) = _
    rw [trip_dk]
    refine part_store a.hdk x.dk D.dz D.Q i j (by omega) hx.dk h18 _ _ ?_ r l
    rw [D0_eq ha jj hi hj hs hc hw, D1_eq ha jj hi hj hs hc hw, D2_eq ha jj hi hj hs hc hw, D3_eq ha jj hi hj hs hc hw, ha.q0, ha.q1, ha.q2, ha.q3]
    rfl
  · show a.rdv.view.read (Elt Ideal) (tripAt c a jj.val s hc k v x).dv (ix2 r l) = _
    rw [trip_dv]
    refine part_store a.hdv x.dv D.A D.O i j (by omega) hx.dv h18 _ _ ?_ r l
    rw [A0_eq ha jj hi hj hs hc hw, A1_eq ha jj hi hj hs hc hw, A2_eq ha jj hi hj hs hc hw, A3_eq ha jj hi hj hs hc hw, ha.o0, ha.o1, ha.o2, ha.o3]
    rfl
  · show a.rdq.view.read (Elt Ideal) (tripAt c a jj.val s hc k v x).dq (ix3 h p l) = _
    rw [trip_dq]
    refine (read_four a.rdq.view _ S1x256x256.size (fun h => ![h.val, 0, 0]) rfl rfl rfl rfl _ _ _ _ _ _ _ _ []
      0 (fun _ => rfl) rfl h (ix3 h p l) (ix3 0 p l) (fun b => by fin_cases b <;> simp [ix3])).trans ?_
    have h19 : k0_off19 a.i (BitVec.ofNat 32 jj.val) = ![(0 : Fin 4).val, 256 * j, 0] := by
      rw [ha.ai, off19 t jj h2, ha.it]; congr 3; omega
    have h20 : k0_off20 a.i (BitVec.ofNat 32 jj.val) = ![(1 : Fin 4).val, 256 * j, 0] := by
      rw [ha.ai, off20 t jj h2, ha.it]; congr 3; omega
    have h21 : k0_off21 a.i (BitVec.ofNat 32 jj.val) = ![(2 : Fin 4).val, 256 * j, 0] := by
      rw [ha.ai, off21 t jj h2, ha.it]; congr 3; omega
    have h22 : k0_off22 a.i (BitVec.ofNat 32 jj.val) = ![(3 : Fin 4).val, 256 * j, 0] := by
      rw [ha.ai, off22 t jj h2, ha.it]; congr 3; omega
    fin_cases h
    · exact dq_step D hi (by omega) hx 0 (D0_eq ha jj hi hj hs hc hw) h19 rfl p l
    · exact dq_step D hi (by omega) hx 1 (D1_eq ha jj hi hj hs hc hw) h20 rfl p l
    · exact dq_step D hi (by omega) hx 2 (D2_eq ha jj hi hj hs hc hw) h21 rfl p l
    · exact dq_step D hi (by omega) hx 3 (D3_eq ha jj hi hj hs hc hw) h22 rfl p l

theorem next_scored (hj0 : 0 < j)
    (hk : ∀ (r : Fin 4096) (l : Fin 256), k (ix3 0 r l) = ((D.K r.val l : ℝ) : EReal))
    (hv : ∀ (r : Fin 4096) (l : Fin 256), v (ix3 0 r l) = ((D.V r.val l : ℝ) : EReal)) :
    Scored D i (j - 1) ⟨(jj.val + 1) % 2, Nat.mod_lt _ Nat.two_pos⟩ (next c a jj.val s hc k v x) := by
  have h2 : jj.val + 2 ≤ ((grid0.coords t) 1).val := by rw [ha.it]; omega
  have h3 : jj.val + 3 ≤ ((grid0.coords t) 1).val := by rw [ha.it]; omega
  have hcond : k0_cond3 a.i (BitVec.ofNat 32 jj.val) (alive a jj.val s hc x) = 1#1 := by
    rw [alive_eq jj hi hj hs hc hw, ha.ai]; exact (cond3 t jj h2).2 h3
  have h23 : k0_off23 a.i (BitVec.ofNat 32 jj.val) = ![(0 : Fin 1).val, 256 * (j - 1), 0] := by
    rw [ha.ai, off23 t jj h3, ha.it]; congr 3; omega
  have hK : ∀ inb, kAt a k _ inb = rows (j - 1) D.K := fun inb => load3b a.hk k inb 0 (256 * (j - 1)) (by omega) h23 _ fun p q => hk _ q
  have hV : ∀ inb, vAt a v _ inb = rows (j - 1) D.V := fun inb => load3b a.hv v inb 0 (256 * (j - 1)) (by omega) h23 _ fun p q => hv _ q
  have hb : ∀ (h : Fin 4) (p q : Fin 256) (b : Fin S2x4x256x256.rank), ((ix4 (⟨(jj.val + 1) % 2, Nat.mod_lt _ Nat.two_pos⟩ : Fin 2) h p q : S2x4x256x256.Idx) b).val
      = (![1 - jj.val % 2, h.val, 0, 0] : Fin 4 → ℕ) b + ((ix4 (0 : Fin 1) (0 : Fin 1) p q : S1x1x256x256.Idx) b).val := fun h p q b => by
    fin_cases b <;> simp [ix4]
    omega
  refine ⟨fun h p q => ?_, fun h p q => ?_⟩
  · show a.rz.view.read (Elt Ideal) (tripAt c a jj.val s hc k v x).z _ = _
    rw [trip_z, dif_pos hcond]
    refine (read_four a.rz.view _ S1x1x256x256.size (fun h => ![1 - jj.val % 2, h.val, 0, 0]) (off24 jj) (off25 jj) (off26 jj) (off27 jj) _ _ _ _ _ _ _ _ []
      1 (fun _ => rfl) rfl h _ (ix4 0 0 p q) (hb h p q)).trans ?_
    rw [hK, ha.q0, ha.q1, ha.q2, ha.q3, score_tile, score_tile, score_tile, score_tile]
    exact four_ex4 (fun h p q => D.Z h (256 * i + p.val) (256 * (j - 1) + q.val)) h p q
  · show a.rda.view.read (Elt Ideal) (tripAt c a jj.val s hc k v x).da _ = _
    rw [trip_da, dif_pos hcond]
    refine (read_four a.rda.view _ S1x1x256x256.size (fun h => ![1 - jj.val % 2, h.val, 0, 0]) (off24 jj) (off25 jj) (off26 jj) (off27 jj) _ _ _ _ _ _ _ _ []
      1 (fun _ => rfl) rfl h _ (ix4 0 0 p q) (hb h p q)).trans ?_
    rw [hV, ha.o0, ha.o1, ha.o2, ha.o3, cot_tile, cot_tile, cot_tile, cot_tile]
    exact four_ex4 (fun h p q => D.W h (256 * i + p.val) (256 * (j - 1) + q.val)) h p q

end Trip

/-- The whole walk: from the columns done before it to all of them. -/
theorem walk_bufs {D : Data} {t : Fin grid0.N} {i : ℕ} {a : Fixed Ideal} (ha : FixedAt D t i a) (c : Dev nD) (hi : i < 16) {k v : Vec Ideal S1x4096x256 .bf16}
    (hk : ∀ (r : Fin 4096) (l : Fin 256), k (ix3 0 r l) = ((D.K r.val l : ℝ) : EReal))
    (hv : ∀ (r : Fin 4096) (l : Fin 256), v (ix3 0 r l) = ((D.V r.val l : ℝ) : EReal)) :
    ∀ (n jj J : ℕ) (go : BitVec 1) (s : Sums Ideal) (x : Mem Ideal), J + jj + 1 = i → J ≤ n → (go = 1#1 ↔ 0 < J) → SumsAt D i J s → Bufs D i J x →
      (0 < J → Scored D i (J - 1) ⟨jj % 2, Nat.mod_lt _ Nat.two_pos⟩ x) → Bufs D i 0 (walk c a k v n jj go s x)
  | 0, jj, J, go, s, x, _, hn, _, _, hx, _ => by
    obtain rfl : J = 0 := by omega
    exact hx
  | n + 1, jj, 0, go, s, x, _, _, hg, _, hx, _ => by
    rw [walk, dif_neg (fun e => absurd (hg.1 e.1) (lt_irrefl _))]
    exact hx
  | n + 1, jj, j + 1, go, s, x, hj, hn, hg, hs, hx, hw => by
    have hc : Checks a.i jj := by rw [ha.ai]; exact checks_of t jj (by rw [ha.it]; omega)
    have hw' := hw (Nat.succ_pos j)
    rw [walk, dif_pos ⟨hg.2 (Nat.succ_pos j), hc⟩]
    have hj' : j + (⟨jj, by omega⟩ : Fin 16).val + 2 = i := by show j + jj + 2 = i; omega
    exact walk_bufs ha c hi hk hv n (jj + 1) j _ _ _ (by omega) (by omega) (next_go ha c ⟨jj, by omega⟩ hi hj' hs hc hw')
      (next_sums ha c ⟨jj, by omega⟩ hi hj' hs hc hw') (next_bufs ha c ⟨jj, by omega⟩ hi hj' hs hc hx hw')
      fun h0 => next_scored ha c ⟨jj, by omega⟩ hi hj' hs hc hx hw' h0 hk hv

end AttnB
-- ==== Proof.AttnFirst.lean ====
/-
  The two key tiles a grid point always visits, in the words of the tiles: what is read, scored, handed on and stored before the walk,
  over any reading of the floats.
-/
module

public import proofs.«01_k».proof.Proof.AttnNext
public import proofs.«01_k».proof.Proof.AttnPoint

@[expose] public section

noncomputable section

namespace AttnB

open Cert.AttnBIdeal Cert.AttnBIdeal.Gen
open Idealize.ShloMosaic Idealize.ShloMosaic.TcCoe Idealize.ShloMosaic.Tactic

variable {F : FTy → Type} [FloatOps F] [Named F]

/-- A head's lanes of a tile, the other lanes zero. -/
noncomputable def lanes {φ : FTy} (m : IVec S1x256 1) (x : FVec F S256x256 φ) : FVec F S256x256 φ :=
  select (broadcastTo S256x256 (shapeCast S1x256 m shapeCasts_S1x256_S1x256) broadcasts_S1x256_S256x256) x (broadcast S256x256 (Scalar.ofBits φ 0))

/-- One head of the tile on the diagonal: its sums start from nothing. -/
noncomputable def diagL (z : FVec F S256x256 .f32) : FVec F S256x256 .f32 := diagT (cellL z)
noncomputable def diagA (m : FVec F S256x256 .bf16) (z : FVec F S256x256 .f32) : FVec F S256x256 .f32 := diagT (powT (lsT z) (runT m (diagL z) k0_pay68))
noncomputable def diagG (m : FVec F S256x256 .bf16) (z da : FVec F S256x256 .f32) : FVec F S256x256 .f32 := gT (diagA m z) da
noncomputable def diagD (m m' : FVec F S256x256 .bf16) (z da : FVec F S256x256 .f32) (d : FVec F S256x1 .f32) : FVec F S256x256 .bf16 :=
  bf (diagT (dzT (lsT z) (diagG m z da) (befT d (runT m' (diagG m z da) k0_pay68))))
noncomputable def diagLs (z : FVec F S256x256 .f32) : FVec F S256x1 .f32 := addf k0_pay68 (rowT (diagL z))
noncomputable def diagGs (m : FVec F S256x256 .bf16) (z da : FVec F S256x256 .f32) : FVec F S256x1 .f32 := addf k0_pay68 (rowT (diagG m z da))

/-- One head of the tile left of it, which counts if there is one. -/
noncomputable def prevA (b : BitVec 1) (m : FVec F S256x256 .bf16) (z : FVec F S256x256 .f32) (l : FVec F S256x1 .f32) : FVec F S256x256 .f32 := cntT b (cellA m z l)
noncomputable def prevG (b : BitVec 1) (m : FVec F S256x256 .bf16) (z da : FVec F S256x256 .f32) (l : FVec F S256x1 .f32) : FVec F S256x256 .f32 := gT (prevA b m z l) da
noncomputable def prevD (b : BitVec 1) (m m' : FVec F S256x256 .bf16) (z da : FVec F S256x256 .f32) (l g d : FVec F S256x1 .f32) : FVec F S256x256 .bf16 :=
  bf (cntT b (dzT (lsT z) (prevG b m z da l) (befT d (runT m' (prevG b m z da l) g))))

section
variable (c : Dev nD) (i : grid0.Coords) (p : Refs) (n : Ins F) (x : Mem F)

/-- The tiles of rows and of columns that are read. -/
noncomputable def qTile : FVec F S256x256 .bf16 :=
  cut3 (φ := .bf16) (View.readAt (Elt F) p.rq.view (Rect.unit (s := S1x256x256) ![0, 0, 0] S1x256x256.size inb_S1x256x256_S1x256x256_0_0_0).toLoadRect (p.hq.unread n.q))
noncomputable def doTile : FVec F S256x256 .f32 :=
  View.readAt (Elt F) p.rdo.view (Rect.unit (s := S256x256) ![0, 0] S256x256.size inb_S256x256_S256x256_0_0).toLoadRect (p.hdo.unread n.d)
noncomputable def oTile : FVec F S256x256 .f32 :=
  shapeCast S256x256 (View.readAt (Elt F) p.ro.view (Rect.unit (s := S256x256) ![0, 0] S256x256.size inb_S256x256_S256x256_0_0).toLoadRect (p.ho.unread n.o))
    shapeCasts_S256x256_S256x256
noncomputable def kTile (off : Fin 3 → ℕ) (inb : ∀ b, off b + S1x256x256.size b ≤ S1x4096x256.size b) : FVec F S256x256 .bf16 :=
  cut3 (φ := .bf16) (View.readAt (Elt F) p.rk.view (Rect.unit (s := S1x4096x256) off S1x256x256.size inb).toLoadRect (p.hk.unread n.k))
noncomputable def vTile (off : Fin 3 → ℕ) (inb : ∀ b, off b + S1x256x256.size b ≤ S1x4096x256.size b) : FVec F S256x256 .bf16 :=
  cut3 (φ := .bf16) (View.readAt (Elt F) p.rv.view (Rect.unit (s := S1x4096x256) off S1x256x256.size inb).toLoadRect (p.hv.unread n.v))

noncomputable abbrev mask : Fin 4 → IVec S1x256 1 := ![start.sl.v5, start.sl.v10, start.sl.v15, start.sl.v20]

noncomputable abbrev qs : Fin 4 → FVec F S256x256 .bf16 := ![mid.sl.v46 c p n, mid.sl.v50 c p n, mid.sl.v54 c p n, mid.sl.v58 c p n]
noncomputable abbrev dos : Fin 4 → FVec F S256x256 .bf16 := ![mid.sl.v62 c p n, mid.sl.v66 c p n, mid.sl.v70 c p n, mid.sl.v74 c p n]
noncomputable abbrev ds : Fin 4 → FVec F S256x1 .f32 := ![mid.sl.v80 c p n, mid.sl.v86 c p n, mid.sl.v92 c p n, mid.sl.v98 c p n]

theorem qs_eq : ∀ h, qs c p n h = lanes (mask h) (qTile p n) := fun h => by fin_cases h <;> rfl
theorem dos_eq : ∀ h, dos c p n h = lanes (mask h) (bf (doTile p n)) := fun h => by fin_cases h <;> rfl
theorem ds_eq : ∀ h, ds c p n h = rowT (lanes (mask h) (mulf (extf .f32 (bf (doTile p n)) bitsLt_bf16_f32) (oTile p n))) := fun h => by fin_cases h <;> rfl

/-- The tiles of scores and of products with the cotangent, read back where they were stored. -/
theorem inb4 (w : Fin 2) (h : Fin 4) : ∀ b, (![w.val, h.val, 0, 0] : Fin 4 → ℕ) b + S1x1x256x256.size b ≤ S2x4x256x256.size b := by
  revert w h; decide

noncomputable def zs (w : Fin 2) (h : Fin 4) : FVec F S256x256 .f32 :=
  cut4 (φ := .f32) (View.readCov (Val := Elt F) p.rz.view (mid.sl.H9_8 c i p n) (Rect.unit (s := S2x4x256x256) ![w.val, h.val, 0, 0] S1x1x256x256.size (inb4 w h)).toLoadRect)
noncomputable def ws (w : Fin 2) (h : Fin 4) : FVec F S256x256 .f32 :=
  cut4 (φ := .f32) (View.readCov (Val := Elt F) p.rda.view (mid.sl.H10_8 c i p n) (Rect.unit (s := S2x4x256x256) ![w.val, h.val, 0, 0] S1x1x256x256.size (inb4 w h)).toLoadRect)
noncomputable def wLate : FVec F S256x256 .f32 :=
  cut4 (φ := .f32) (View.readAt (Elt F) p.rda.view (Rect.unit (s := S2x4x256x256) ![1, 3, 0, 0] S1x1x256x256.size (inb4 1 3)).toLoadRect (p.hda.unread (mem2 c i p n x).da))

/-- What is handed to the walk. -/
noncomputable abbrev cnt : BitVec 1 := Scalar.cmpi .sge (BitVec.ofNat 32 (i 1).val) 1#32
noncomputable abbrev nextL (h : Fin 4) : FVec F S256x1 .f32 := addf (diagLs (zs c i p n 0 h)) (rowT (cellL (zs c i p n 1 h)))
noncomputable abbrev wPrev : Fin 4 → FVec F S256x256 .f32 := ![ws c i p n 1 0, ws c i p n 1 1, ws c i p n 1 2, wLate c i p n x]
noncomputable abbrev gSum (h : Fin 4) : FVec F S256x1 .f32 := diagGs start.sl.v29 (zs c i p n 0 h) (ws c i p n 0 h)
noncomputable abbrev nextG (h : Fin 4) : FVec F S256x1 .f32 :=
  addf (gSum c i p n h) (rowT (prevG (cnt i) start.sl.v29 (zs c i p n 1 h) (wPrev c i p n x h) (diagLs (zs c i p n 0 h))))
noncomputable abbrev dD (h : Fin 4) : FVec F S256x256 .bf16 :=
  diagD start.sl.v29 start.sl.v33 (zs c i p n 0 h) (ws c i p n 0 h) (ds c p n h)
noncomputable abbrev pD (h : Fin 4) : FVec F S256x256 .bf16 :=
  prevD (cnt i) start.sl.v29 start.sl.v33 (zs c i p n 1 h) (wPrev c i p n x h) (diagLs (zs c i p n 0 h)) (gSum c i p n h) (ds c p n h)
noncomputable abbrev dA (h : Fin 4) : FVec F S256x256 .bf16 := bf (diagA start.sl.v29 (zs c i p n 0 h))
noncomputable abbrev pA (h : Fin 4) : FVec F S256x256 .bf16 := bf (prevA (cnt i) start.sl.v29 (zs c i p n 1 h) (diagLs (zs c i p n 0 h)))
noncomputable abbrev sumTn (a b : Fin 4 → FVec F S256x256 .bf16) : FVec F S256x256 .f32 := sum4 (tn (a 0) (b 0)) (tn (a 1) (b 1)) (tn (a 2) (b 2)) (tn (a 3) (b 3))

theorem sums_l0 : (sums c i p n x).l0 = nextL c i p n 0 := rfl
theorem sums_l1 : (sums c i p n x).l1 = nextL c i p n 1 := rfl
theorem sums_l2 : (sums c i p n x).l2 = nextL c i p n 2 := rfl
theorem sums_l3 : (sums c i p n x).l3 = nextL c i p n 3 := rfl
theorem sums_g0 : (sums c i p n x).g0 = nextG c i p n x 0 := rfl
theorem sums_g1 : (sums c i p n x).g1 = nextG c i p n x 1 := rfl
theorem sums_g2 : (sums c i p n x).g2 = nextG c i p n x 2 := rfl
theorem sums_g3 : (sums c i p n x).g3 = nextG c i p n x 3 := rfl

theorem go_eq : go c i p n = Scalar.andi (Scalar.cmpi .sgt (Scalar.subi (BitVec.ofNat 32 (i 1).val) 1#32) 0#32)
    (live (nextL c i p n 0) (nextL c i p n 1) (nextL c i p n 2) (nextL c i p n 3)) := rfl

/-- Loads of what a buffer holds. -/
noncomputable def rows2 (m : Memref sig .tc .vmem S4096x256 .f32) (hm : m.IsWhole) (X : Vec F S4096x256 .f32) (off : Fin 2 → ℕ) (inb : ∀ b, off b + S256x256.size b ≤ S4096x256.size b) :
    FVec F S256x256 .f32 := View.readAt (Elt F) m.view (Rect.unit (s := S4096x256) off S256x256.size inb).toLoadRect (hm.unread X)
noncomputable def khRows (X : Vec F S4x4096x256 .bf16) (off : Fin 3 → ℕ) (inb : ∀ b, off b + S1x256x256.size b ≤ S4x4096x256.size b) : FVec F S256x256 .bf16 :=
  cut3 (φ := .bf16) (View.readAt (Elt F) p.rkh.view (Rect.unit (s := S4x4096x256) off S1x256x256.size inb).toLoadRect (p.hkh.unread X))
noncomputable def dqRows (X : Vec F S4x256x256 .f32) (off : Fin 3 → ℕ) (inb : ∀ b, off b + S1x256x256.size b ≤ S4x256x256.size b) : FVec F S256x256 .f32 :=
  cut3 (φ := .f32) (View.readAt (Elt F) p.rdq.view (Rect.unit (s := S4x256x256) off S1x256x256.size inb).toLoadRect (p.hdq.unread X))

/-- A tile of rows stored on top of what the buffer holds. -/
noncomputable abbrev addTo (m : Memref sig .tc .vmem S4096x256 .f32) (hm : m.IsWhole) (X : Vec F S4096x256 .f32) (off : Fin 2 → ℕ) (inb : ∀ b, off b + S256x256.size b ≤ S4096x256.size b)
    (y : FVec F S256x256 .f32) : m.view.ty.Contents (Elt F) :=
  m.view.writes (Elt F) (hm.unread X) [⟨Rect.unit (s := S4096x256) off S256x256.size inb,
    (shapeCast S256x256 (addf (rows2 m hm X off inb) y) shapeCasts_S256x256_S256x256 : FVec F S256x256 .f32)⟩]

theorem mid_dv : (mid c i p n x).dv = addTo p.rdv p.hdv (mem1 c i p n x).dv (k0_off3 i) (k0_off3_inb i) (sumTn (dA c i p n) (dos c p n)) := rfl
theorem late_dv : (late c i p n x).dv = addTo p.rdv p.hdv (mem2 c i p n x).dv (k0_off4 i) (k0_off4_inb i) (sumTn (pA c i p n) (dos c p n)) := rfl
theorem late_dk : (late c i p n x).dk = addTo p.rdk p.hdk (mem2 c i p n x).dk (k0_off3 i) (k0_off3_inb i) (sumTn (dD c i p n) (qs c p n)) := rfl
set_option maxHeartbeats 8000000 in
theorem last_dk : (last c i p n x).dk = addTo p.rdk p.hdk (mem3 c i p n x).dk (k0_off4 i) (k0_off4_inb i) (sumTn (pD c i p n x) (qs c p n)) := rfl

/-- The rows' sums of the tile on the diagonal, then of the first three heads of the tile left of it on top. -/
theorem inb3 (h : Fin 4) : ∀ b, (![h.val, 0, 0] : Fin 3 → ℕ) b + S1x256x256.size b ≤ S4x256x256.size b := by
  revert h; decide
theorem inbKh (h : Fin 4) : ∀ b, (![h.val, 0, 0] : Fin 3 → ℕ) b + S1x4096x256.size b ≤ S4x4096x256.size b := by
  revert h; decide

noncomputable abbrev dqPiece (h : Fin 4) (w : FVec F S256x256 .f32) : View.Piece (Elt F) S4x256x256 .f32 :=
  ⟨Rect.unit (s := S4x256x256) ![h.val, 0, 0] S1x256x256.size (inb3 h), ex3 w⟩
noncomputable def dqCov (L : List (View.Piece (Elt F) S4x256x256 .f32)) (h : Fin 4) : FVec F S256x256 .f32 :=
  cut3 (φ := .f32) (View.readCov (Val := Elt F) p.rdq.view L (Rect.unit (s := S4x256x256) ![h.val, 0, 0] S1x256x256.size (inb3 h)).toLoadRect)

noncomputable def dq4 : List (View.Piece (Elt F) S4x256x256 .f32) :=
  [dqPiece 3 (nn (dD c i p n 3) (khRows p (mem2 c i p n x).kh (k0_off8 i) (k0_off8_inb i))),
    dqPiece 2 (nn (dD c i p n 2) (khRows p (mem2 c i p n x).kh (k0_off7 i) (k0_off7_inb i))),
    dqPiece 1 (nn (dD c i p n 1) (khRows p (mem2 c i p n x).kh (k0_off6 i) (k0_off6_inb i))),
    dqPiece 0 (nn (dD c i p n 0) (khRows p (mem2 c i p n x).kh (k0_off5 i) (k0_off5_inb i)))]
noncomputable def dq5 : List (View.Piece (Elt F) S4x256x256 .f32) :=
  dqPiece 0 (addf (dqCov p (dq4 c i p n x) 0) (nn (pD c i p n x 0) (khRows p (mem2 c i p n x).kh (k0_off9 i) (k0_off9_inb i)))) :: dq4 c i p n x
noncomputable def dq6 : List (View.Piece (Elt F) S4x256x256 .f32) :=
  dqPiece 1 (addf (dqCov p (dq5 c i p n x) 1) (nn (pD c i p n x 1) (khRows p (mem2 c i p n x).kh (k0_off10 i) (k0_off10_inb i)))) :: dq5 c i p n x
noncomputable def dq7 : List (View.Piece (Elt F) S4x256x256 .f32) :=
  dqPiece 2 (addf (dqCov p (dq6 c i p n x) 2) (nn (pD c i p n x 2) (khRows p (mem2 c i p n x).kh (k0_off11 i) (k0_off11_inb i)))) :: dq6 c i p n x

set_option maxHeartbeats 8000000 in
theorem H8_4_eq : late.sl.H8_4 c i p n x = dq4 c i p n x := rfl
set_option maxHeartbeats 8000000 in
theorem H8_5_eq : late.sl.H8_5 c i p n x = dq5 c i p n x := rfl
set_option maxHeartbeats 8000000 in
theorem H8_6_eq : late.sl.H8_6 c i p n x = dq6 c i p n x := rfl
set_option maxHeartbeats 8000000 in
theorem late_dq : (late c i p n x).dq = p.rdq.view.writes (Elt F) (p.hdq.unread (mem2 c i p n x).dq) (dq7 c i p n x) := rfl

set_option maxHeartbeats 8000000 in
theorem last_dq : (last c i p n x).dq = p.rdq.view.writes (Elt F) (p.hdq.unread (mem3 c i p n x).dq)
    [dqPiece 3 (addf (dqRows p (mem3 c i p n x).dq ![3, 0, 0] (inb3 3)) (nn (pD c i p n x 3) (khRows p (mem3 c i p n x).kh (k0_off12 i) (k0_off12_inb i))))] := rfl

/-- A head's tile of scores, stored. -/
noncomputable abbrev scPiece (w : Fin 2) (h : Fin 4) (v : FVec F S256x256 .f32) : View.Piece (Elt F) S2x4x256x256 .f32 :=
  ⟨Rect.unit (s := S2x4x256x256) ![w.val, h.val, 0, 0] S1x1x256x256.size (inb4 w h), ex4 v⟩
noncomputable abbrev scores (w : Fin 2) (a : Fin 4 → FVec F S256x256 .bf16) (k : FVec F S256x256 .bf16) (L : List (View.Piece (Elt F) S2x4x256x256 .f32)) :
    List (View.Piece (Elt F) S2x4x256x256 .f32) :=
  scPiece w 3 (nt (a 3) k) :: scPiece w 2 (nt (a 2) k) :: scPiece w 1 (nt (a 1) k) :: scPiece w 0 (nt (a 0) k) :: L

set_option maxHeartbeats 8000000 in
theorem H9_8_eq : mid.sl.H9_8 c i p n = scores 1 (qs c p n) (kTile p n (k0_off2 i) (k0_off2_inb i)) (scores 0 (qs c p n) (kTile p n (k0_off1 i) (k0_off1_inb i)) []) := rfl
set_option maxHeartbeats 8000000 in
theorem H10_8_eq : mid.sl.H10_8 c i p n = scores 1 (dos c p n) (vTile p n (k0_off2 i) (k0_off2_inb i)) (scores 0 (dos c p n) (vTile p n (k0_off1 i) (k0_off1_inb i)) []) := rfl
set_option maxHeartbeats 8000000 in
theorem mid_z : (mid c i p n x).z = p.rz.view.writes (Elt F) (p.hz.unread (mem1 c i p n x).z) (mid.sl.H9_8 c i p n) := rfl
set_option maxHeartbeats 8000000 in
theorem mid_da : (mid c i p n x).da = p.rda.view.writes (Elt F) (p.hda.unread (mem1 c i p n x).da) (mid.sl.H10_8 c i p n) := rfl

set_option maxHeartbeats 8000000 in
theorem last_z : (last c i p n x).z = if hc : last.sl.v809 c i p n = 1#1 then
    p.rz.view.writes (Elt F) (p.hz.unread (mem3 c i p n x).z) (scores 0 (qs c p n) (kTile p n (k0_off13 i) (k0_off13_inb i)) []) else p.hz.unread (mem3 c i p n x).z := rfl
set_option maxHeartbeats 8000000 in
theorem last_da : (last c i p n x).da = if hc : last.sl.v809 c i p n = 1#1 then
    p.rda.view.writes (Elt F) (p.hda.unread (mem3 c i p n x).da) (scores 0 (dos c p n) (vTile p n (k0_off13 i) (k0_off13_inb i)) []) else p.hda.unread (mem3 c i p n x).da := rfl

/-- The masked keys, and the sums started at zero, at a block's first point. -/
noncomputable def kAll : FVec F S4096x256 .bf16 :=
  shapeCast S4096x256 (View.readAt (Elt F) p.rk.view (Rect.unit (s := S1x4096x256) ![0, 0, 0] S1x4096x256.size inb_S1x4096x256_S1x4096x256_0_0_0).toLoadRect (p.hk.unread n.k) : FVec F S1x4096x256 .bf16)
    shapeCasts_S1x4096x256_S4096x256
noncomputable def khHead (h : Fin 4) : FVec F S1x4096x256 .bf16 :=
  shapeCast S1x4096x256 (select (broadcastTo S4096x256 (shapeCast S1x256 (mask h) shapeCasts_S1x256_S1x256) broadcasts_S1x256_S4096x256) (kAll p n)
    (broadcast S4096x256 (Scalar.ofBits .bf16 0))) shapeCasts_S4096x256_S1x4096x256
noncomputable abbrev khPiece (h : Fin 4) : View.Piece (Elt F) S4x4096x256 .bf16 :=
  ⟨Rect.unit (s := S4x4096x256) ![h.val, 0, 0] S1x4096x256.size (inbKh h), khHead p n h⟩

theorem start_kh : (start c i p n x).kh = if hc : start.sl.v23 i = 1#1 then
    p.rkh.view.writes (Elt F) (p.hkh.unread x.kh) [khPiece p n 3, khPiece p n 2, khPiece p n 1, khPiece p n 0] else p.hkh.unread x.kh := rfl
theorem start_dk : (start c i p n x).dk = if hc : start.sl.v23 i = 1#1 then
    p.rdk.view.writes (Elt F) (p.hdk.unread x.dk) [⟨Rect.unit (s := S4096x256) ![0, 0] S4096x256.size inb_S4096x256_S4096x256_0_0, (k0_pay26 : FVec F S4096x256 .f32)⟩]
    else p.hdk.unread x.dk := rfl
theorem start_dv : (start c i p n x).dv = if hc : start.sl.v23 i = 1#1 then
    p.rdv.view.writes (Elt F) (p.hdv.unread x.dv) [⟨Rect.unit (s := S4096x256) ![0, 0] S4096x256.size inb_S4096x256_S4096x256_0_0, (k0_pay26 : FVec F S4096x256 .f32)⟩]
    else p.hdv.unread x.dv := rfl

/-! The staged results. -/
variable (z : Mem F) (y : Outs F)
theorem final_dq : (final c i p n x z y).dq = p.odq.view.writes (Elt F) (p.hodq.unread y.dq)
    [⟨Rect.unit (s := S256x256) ![0, 0] S256x256.size inb_S256x256_S256x256_0_0,
      k0_pay1 (addf (addf (dqRows p z.dq ![0, 0, 0] (inb3 0)) (dqRows p z.dq ![1, 0, 0] (inb3 1))) (dqRows p z.dq ![2, 0, 0] (inb3 2))) (dqRows p z.dq ![3, 0, 0] (inb3 3))⟩] := rfl
theorem final_dk : (final c i p n x z y).dk = if hc : k0_cond4 i = 1#1 then p.odk.view.writes (Elt F) (p.hodk.unread y.dk)
    [⟨Rect.unit (s := S4096x256) ![0, 0] S4096x256.size inb_S4096x256_S4096x256_0_0,
      k0_pay2 (View.readAt (Elt F) p.rdk.view (Rect.unit (s := S4096x256) ![0, 0] S4096x256.size inb_S4096x256_S4096x256_0_0).toLoadRect (p.hdk.unread z.dk))⟩] else p.hodk.unread y.dk := rfl
theorem final_dv : (final c i p n x z y).dv = if hc : k0_cond4 i = 1#1 then p.odv.view.writes (Elt F) (p.hodv.unread y.dv)
    [⟨Rect.unit (s := S4096x256) ![0, 0] S4096x256.size inb_S4096x256_S4096x256_0_0,
      k0_pay3 (View.readAt (Elt F) p.rdv.view (Rect.unit (s := S4096x256) ![0, 0] S4096x256.size inb_S4096x256_S4096x256_0_0).toLoadRect (p.hdv.unread z.dv))⟩] else p.hodv.unread y.dv := rfl

end
end AttnB
-- ==== Proof.AttnSlot.lean ====
/-
  Reading back one head's tile of a buffer of four heads, and one head's tile of a slot of scores, past the stores of the other heads.
-/
module

public import proofs.«01_k».proof.Proof.AttnFirst

@[expose] public section

noncomputable section

namespace AttnB

open Cert.AttnBIdeal Cert.AttnBIdeal.Gen
open Idealize.ShloMosaic Idealize.ShloMosaic.TcCoe Idealize.ShloMosaic.Tactic

section
variable {sg : RefSig} {sp : Space} (m : Memref sg .tc sp S4x256x256 .f32) (f : m.view.ty.Contents (Elt Ideal)) (L : List (View.Piece (Elt Ideal) S4x256x256 .f32))

theorem dq_hit (h : Fin 4) (w : FVec Ideal S256x256 .f32) (p l : Fin 256) :
    m.view.read (Elt Ideal) (m.view.writes (Elt Ideal) f (dqPiece h w :: L)) (ix3 h p l) = w (ix2 p l) :=
  (View.read_writes_cons_unit_of_mem m.view f (inb3 h) _ L (ix3 h p l) (ix3 0 p l) rfl (fun b => by fin_cases b <;> simp [ix3])).trans (ex3_apply w p l)

theorem dq_miss (h h' : Fin 4) (hh : h ≠ h') (w : FVec Ideal S256x256 .f32) (p l : Fin 256) :
    m.view.read (Elt Ideal) (m.view.writes (Elt Ideal) f (dqPiece h w :: L)) (ix3 h' p l)
      = m.view.read (Elt Ideal) (m.view.writes (Elt Ideal) f L) (ix3 h' p l) :=
  View.read_writes_cons_unit_of_not_mem m.view f (inb3 h) _ L (ix3 h' p l) rfl 0 (by
    show h'.val < h.val ∨ h.val + 1 ≤ h'.val
    have := Fin.val_ne_of_ne hh
    omega)

end

section
variable {sg : RefSig} {sp : Space} (m : Memref sg .tc sp S2x4x256x256 .f32) (f : m.view.ty.Contents (Elt Ideal)) (L : List (View.Piece (Elt Ideal) S2x4x256x256 .f32))

theorem sc_hit (w : Fin 2) (h : Fin 4) (v : FVec Ideal S256x256 .f32) (p l : Fin 256) :
    m.view.read (Elt Ideal) (m.view.writes (Elt Ideal) f (scPiece w h v :: L)) (ix4 w h p l) = v (ix2 p l) :=
  (View.read_writes_cons_unit_of_mem m.view f (inb4 w h) _ L (ix4 w h p l) (ix4 0 0 p l) rfl (fun b => by fin_cases b <;> simp [ix4])).trans (ex4_apply v p l)

theorem sc_miss (w w' : Fin 2) (h h' : Fin 4) (hh : h ≠ h' ∨ w ≠ w') (v : FVec Ideal S256x256 .f32) (p l : Fin 256) :
    m.view.read (Elt Ideal) (m.view.writes (Elt Ideal) f (scPiece w h v :: L)) (ix4 w' h' p l)
      = m.view.read (Elt Ideal) (m.view.writes (Elt Ideal) f L) (ix4 w' h' p l) := by
  rcases hh with hh | hh
  · exact View.read_writes_cons_unit_of_not_mem m.view f (inb4 w h) _ L (ix4 w' h' p l) rfl 1 (by
      show h'.val < h.val ∨ h.val + 1 ≤ h'.val
      have := Fin.val_ne_of_ne hh
      omega)
  · exact View.read_writes_cons_unit_of_not_mem m.view f (inb4 w h) _ L (ix4 w' h' p l) rfl 0 (by
      show w'.val < w.val ∨ w.val + 1 ≤ w'.val
      have := Fin.val_ne_of_ne hh
      omega)

/-- The four heads' tiles of a slot. -/
theorem scores_hit (w : Fin 2) (a : Fin 4 → FVec Ideal S256x256 .bf16) (k : FVec Ideal S256x256 .bf16) (h : Fin 4) (p l : Fin 256) :
    m.view.read (Elt Ideal) (m.view.writes (Elt Ideal) f (scores w a k L)) (ix4 w h p l) = nt (a h) k (ix2 p l) := by
  fin_cases h
  · exact (sc_miss m f _ w w 3 0 (.inl (by decide)) _ p l).trans ((sc_miss m f _ w w 2 0 (.inl (by decide)) _ p l).trans
      ((sc_miss m f _ w w 1 0 (.inl (by decide)) _ p l).trans (sc_hit m f _ w 0 _ p l)))
  · exact (sc_miss m f _ w w 3 1 (.inl (by decide)) _ p l).trans ((sc_miss m f _ w w 2 1 (.inl (by decide)) _ p l).trans (sc_hit m f _ w 1 _ p l))
  · exact (sc_miss m f _ w w 3 2 (.inl (by decide)) _ p l).trans (sc_hit m f _ w 2 _ p l)
  · exact sc_hit m f _ w 3 _ p l

theorem scores_miss (w w' : Fin 2) (hw : w ≠ w') (a : Fin 4 → FVec Ideal S256x256 .bf16) (k : FVec Ideal S256x256 .bf16) (h : Fin 4) (p l : Fin 256) :
    m.view.read (Elt Ideal) (m.view.writes (Elt Ideal) f (scores w a k L)) (ix4 w' h p l) = m.view.read (Elt Ideal) (m.view.writes (Elt Ideal) f L) (ix4 w' h p l) :=
  (sc_miss m f _ w w' 3 h (.inr hw) _ p l).trans ((sc_miss m f _ w w' 2 h (.inr hw) _ p l).trans
    ((sc_miss m f _ w w' 1 h (.inr hw) _ p l).trans (sc_miss m f _ w w' 0 h (.inr hw) _ p l)))

end

section
variable {sp : Space} (m : Memref sig .tc sp S4x4096x256 .bf16) (f : m.view.ty.Contents (Elt Ideal)) (L : List (View.Piece (Elt Ideal) S4x4096x256 .bf16)) (p : Refs) (n : Ins Ideal)

theorem kh_hit (h : Fin 4) (r : Fin 4096) (l : Fin 256) :
    m.view.read (Elt Ideal) (m.view.writes (Elt Ideal) f (khPiece p n h :: L)) (ix3 h r l) = khHead p n h (ix3 0 r l) :=
  View.read_writes_cons_unit_of_mem m.view f (inbKh h) _ L (ix3 h r l) (ix3 0 r l) rfl (fun b => by fin_cases b <;> simp [ix3])

theorem kh_miss (h h' : Fin 4) (hh : h ≠ h') (r : Fin 4096) (l : Fin 256) :
    m.view.read (Elt Ideal) (m.view.writes (Elt Ideal) f (khPiece p n h :: L)) (ix3 h' r l)
      = m.view.read (Elt Ideal) (m.view.writes (Elt Ideal) f L) (ix3 h' r l) :=
  View.read_writes_cons_unit_of_not_mem m.view f (inbKh h) _ L (ix3 h' r l) rfl 0 (by
    show h'.val < h.val ∨ h.val + 1 ≤ h'.val
    have := Fin.val_ne_of_ne hh
    omega)

theorem kh_all (h : Fin 4) (r : Fin 4096) (l : Fin 256) :
    m.view.read (Elt Ideal) (m.view.writes (Elt Ideal) f [khPiece p n 3, khPiece p n 2, khPiece p n 1, khPiece p n 0]) (ix3 h r l) = khHead p n h (ix3 0 r l) := by
  fin_cases h
  · exact (kh_miss m f _ p n 3 0 (by decide) r l).trans ((kh_miss m f _ p n 2 0 (by decide) r l).trans
      ((kh_miss m f _ p n 1 0 (by decide) r l).trans (kh_hit m f _ p n 0 r l)))
  · exact (kh_miss m f _ p n 3 1 (by decide) r l).trans ((kh_miss m f _ p n 2 1 (by decide) r l).trans (kh_hit m f _ p n 1 r l))
  · exact (kh_miss m f _ p n 3 2 (by decide) r l).trans (kh_hit m f _ p n 2 r l)
  · exact kh_hit m f _ p n 3 r l

end

/-! The offsets of a grid point's stages. -/

theorem off1 : ∀ t : Fin grid0.N, k0_off1 (grid0.coords t) = ![0, 256 * ((grid0.coords t) 1).val, 0] := by decide +kernel
theorem off2 : ∀ t : Fin grid0.N, k0_off2 (grid0.coords t) = ![0, 256 * (((grid0.coords t) 1).val - 1), 0] := by decide +kernel
theorem off3 : ∀ t : Fin grid0.N, k0_off3 (grid0.coords t) = ![256 * ((grid0.coords t) 1).val, 0] := by decide +kernel
theorem off4 : ∀ t : Fin grid0.N, k0_off4 (grid0.coords t) = ![256 * (((grid0.coords t) 1).val - 1), 0] := by decide +kernel
theorem off5 : ∀ t : Fin grid0.N, k0_off5 (grid0.coords t) = ![0, 256 * ((grid0.coords t) 1).val, 0] := by decide +kernel
theorem off6 : ∀ t : Fin grid0.N, k0_off6 (grid0.coords t) = ![1, 256 * ((grid0.coords t) 1).val, 0] := by decide +kernel
theorem off7 : ∀ t : Fin grid0.N, k0_off7 (grid0.coords t) = ![2, 256 * ((grid0.coords t) 1).val, 0] := by decide +kernel
theorem off8 : ∀ t : Fin grid0.N, k0_off8 (grid0.coords t) = ![3, 256 * ((grid0.coords t) 1).val, 0] := by decide +kernel
theorem off9 : ∀ t : Fin grid0.N, k0_off9 (grid0.coords t) = ![0, 256 * (((grid0.coords t) 1).val - 1), 0] := by decide +kernel
theorem off10 : ∀ t : Fin grid0.N, k0_off10 (grid0.coords t) = ![1, 256 * (((grid0.coords t) 1).val - 1), 0] := by decide +kernel
theorem off11 : ∀ t : Fin grid0.N, k0_off11 (grid0.coords t) = ![2, 256 * (((grid0.coords t) 1).val - 1), 0] := by decide +kernel
theorem off12 : ∀ t : Fin grid0.N, k0_off12 (grid0.coords t) = ![3, 256 * (((grid0.coords t) 1).val - 1), 0] := by decide +kernel
theorem off13 : ∀ t : Fin grid0.N, k0_off13 (grid0.coords t) = ![0, 256 * (((grid0.coords t) 1).val - 2), 0] := by decide +kernel

theorem first_cond : ∀ t : Fin grid0.N, (start.sl.v23 (grid0.coords t) = 1#1 ↔ ((grid0.coords t) 1).val = 0) := by decide +kernel
theorem last_cond : ∀ t : Fin grid0.N, (k0_cond4 (grid0.coords t) = 1#1 ↔ ((grid0.coords t) 1).val = 15) := by decide +kernel
theorem cnt_cond : ∀ t : Fin grid0.N, cnt (grid0.coords t) = if 0 < ((grid0.coords t) 1).val then 1#1 else 0#1 := by decide +kernel

end AttnB
-- ==== Proof.AttnRows.lean ====
/-
  What a grid point reads of its inputs, in the real numbers: each head's rows masked to its lanes, and the row sums of `do · o`.
-/
module

public import proofs.«01_k».proof.Proof.AttnSlot

@[expose] public section

noncomputable section

namespace AttnB

open Cert.AttnBIdeal Cert.AttnBIdeal.Gen
open Idealize.ShloMosaic Idealize.ShloMosaic.TcCoe Idealize.ShloMosaic.Tactic

/-- A head's lanes. -/
def own (h : Fin 4) (f : ℕ → Fin 256 → ℝ) (r : ℕ) (l : Fin 256) : ℝ := if l.val / 64 = h.val then f r l else 0

/-- The block of four heads computed from the scaled queries, the keys, the values and the cotangent. -/
def data (q k v o : ℕ → Fin 256 → ℝ) : Data where
  Q h := own h q
  O h := own h o
  Km h := own h k
  K := k
  V := v

/-- What a grid point's staged inputs hold; `u` is what the forward pass gives. -/
structure Given (q k v o u : ℕ → Fin 256 → ℝ) (i : ℕ) (n : Ins Ideal) : Prop where
  hq : ∀ p l : Fin 256, n.q (ix3 0 p l) = ((q (256 * i + p.val) l : ℝ) : EReal)
  hk : ∀ (r : Fin 4096) (l : Fin 256), n.k (ix3 0 r l) = ((k r.val l : ℝ) : EReal)
  hv : ∀ (r : Fin 4096) (l : Fin 256), n.v (ix3 0 r l) = ((v r.val l : ℝ) : EReal)
  ho : ∀ p l : Fin 256, n.o (ix2 p l) = ((u (256 * i + p.val) l : ℝ) : EReal)
  hd : ∀ p l : Fin 256, n.d (ix2 p l) = ((o (256 * i + p.val) l : ℝ) : EReal)
  sum : ∀ (h : Fin 4) (r : ℕ) (l : Fin 256), l.val / 64 = h.val → r < 4096 → u r l = ∑ s ∈ Finset.range 4096, (data q k v o).A h r s * v s l

theorem mask_apply (h : Fin 4) (l : Fin 256) : mask h (ix2 0 l) = if l.val / 64 = h.val then 1#1 else 0#1 := by
  revert h l; decide +kernel

theorem bits32 : Ideal.ofBits .f32 0 = 0 := by simp [Ideal.ofBits, Ideal.ieee]
theorem bits16 : Ideal.ofBits .bf16 0 = 0 := by simp [Ideal.ofBits, Ideal.ieee]

theorem lanes_up {φ : FTy} (h0 : Ideal.ofBits φ 0 = 0) (h : Fin 4) (f : Fin 256 → Fin 256 → ℝ) :
    lanes (F := Ideal) (φ := φ) (mask h) (up f) = up fun p l => if l.val / 64 = h.val then f p l else 0 := by
  refine ext2 fun p l => ?_
  pointwise [lanes]
  have e : ∀ z : S1x256.Idx, (z 1).val = l.val → mask h z = mask h (ix2 0 l) := fun z hz => by
    congr 1; funext a; fin_cases a
    · exact Subsingleton.elim (α := Fin 1) _ _
    · exact Fin.ext hz
  rw [e _ rfl, mask_apply, h0]
  by_cases hl : l.val / 64 = h.val
  · rw [if_pos hl, if_pos hl]; rfl
  · rw [if_neg hl, if_neg hl]; rfl

section
variable (q k v o u : ℕ → Fin 256 → ℝ) {i : ℕ} (c : Dev nD) (p : Refs) (n : Ins Ideal) (hn : Given q k v o u i n)
include hn

theorem qTile_eq : qTile p n = rows i q :=
  load3b p.hq n.q _ 0 0 (by omega) rfl _ fun a b => by
    rw [show (⟨0 + a.val, by omega⟩ : Fin 256) = a from Fin.ext (Nat.zero_add _)]; exact hn.hq a b

theorem doTile_eq : doTile p n = rows i o := by
  refine ext2 fun a b => ?_
  rw [doTile, p.hdo.readAt_unread, ← hn.hd a b]
  congr 1
  funext e; fin_cases e <;> (apply Fin.ext; simp [LoadRect.idx, Rect.unit, ix2])

theorem oTile_eq : oTile p n = rows i u := by
  refine ext2 fun a b => ?_
  have hc : ∀ w : FVec Ideal S256x256 .f32, shapeCast S256x256 w shapeCasts_S256x256_S256x256 = w := fun w => by funext y; pointwise []
  rw [oTile, hc, p.ho.readAt_unread, ← hn.ho a b]
  congr 1
  funext e; fin_cases e <;> (apply Fin.ext; simp [LoadRect.idx, Rect.unit, ix2])

theorem qs_val (h : Fin 4) : qs c p n h = rows i ((data q k v o).Q h) := by
  rw [qs_eq, qTile_eq q k v o u p n hn]; exact lanes_up bits16 h _

theorem dos_val (h : Fin 4) : dos c p n h = rows i ((data q k v o).O h) := by
  rw [dos_eq, doTile_eq q k v o u p n hn, bf_up]; exact lanes_up bits16 h _

omit hn in
/-- The row sums of `do · o` are the rows' whole of the weights times their cotangent. -/
theorem d_eq (h : Fin 4) (r : ℕ)
    (hu : ∀ l : Fin 256, l.val / 64 = h.val → u r l = ∑ s ∈ Finset.range 4096, (data q k v o).A h r s * v s l) :
    (∑ l : Fin 256, if l.val / 64 = h.val then o r l * u r l else 0) = (data q k v o).d h r := by
  simp only [Data.d, Data.G, Data.W, Finset.mul_sum]
  rw [Finset.sum_comm]
  refine Finset.sum_congr rfl fun l _ => ?_
  show _ = ∑ s ∈ _, _ * ((if l.val / 64 = h.val then o r l else 0) * v s l)
  by_cases hl : l.val / 64 = h.val
  · rw [if_pos hl, hu l hl, Finset.mul_sum]
    refine Finset.sum_congr rfl fun s _ => ?_
    rw [if_pos hl]; ring
  · rw [if_neg hl]
    refine (Finset.sum_eq_zero fun s _ => ?_).symm
    rw [if_neg hl]; ring

theorem ds_val (hi : i < 16) (h : Fin 4) : ds c p n h = colAt i ((data q k v o).d h) := by
  rw [ds_eq, doTile_eq q k v o u p n hn, oTile_eq q k v o u p n hn]
  have e : mulf (extf .f32 (bf (rows (φ := .f32) i o)) bitsLt_bf16_f32) (rows (φ := .f32) i u)
      = (up fun p l => o (256 * i + p.val) l * u (256 * i + p.val) l : FVec Ideal S256x256 .f32) := gT_up _ _
  rw [e, lanes_up bits32, rowT_up]
  refine congrArg col (funext fun a => ?_)
  exact d_eq q k v o u h _ fun l hl => hn.sum h _ l hl (by have := a.isLt; omega)

theorem khHead_val (h : Fin 4) (r : Fin 4096) (l : Fin 256) : khHead p n h (ix3 0 r l) = (((data q k v o).Km h r.val l : ℝ) : EReal) := by
  have hk : kAll p n (ix2 r l) = ((k r.val l : ℝ) : EReal) := by
    rw [← hn.hk r l]
    have hc : ∀ w : FVec Ideal S1x4096x256 .bf16, shapeCast S4096x256 w shapeCasts_S1x4096x256_S4096x256 (ix2 r l) = w (ix3 0 r l) := fun w => by pointwise []
    rw [kAll, hc, p.hk.readAt_unread]
    congr 1
    funext e; fin_cases e <;> (apply Fin.ext; simp [LoadRect.idx, Rect.unit, ix3])
  have hc : ∀ w : FVec Ideal S4096x256 .bf16, shapeCast S1x4096x256 w shapeCasts_S4096x256_S1x4096x256 (ix3 0 r l) = w (ix2 r l) := fun w => by pointwise []
  rw [khHead, hc]
  have e : ∀ z : S1x256.Idx, (z 1).val = l.val → mask h z = mask h (ix2 0 l) := fun z hz => by
    congr 1; funext a; fin_cases a
    · exact Subsingleton.elim (α := Fin 1) _ _
    · exact Fin.ext hz
  pointwise []
  rw [e _ rfl, mask_apply, bits16, hk]
  show _ = ((if l.val / 64 = h.val then k r.val l else 0 : ℝ) : EReal)
  by_cases hl : l.val / 64 = h.val
  · rw [if_pos hl, if_pos hl]; rfl
  · rw [if_neg hl, if_neg hl]; rfl

theorem kTile_val (j : ℕ) (hj : j < 16) {off : Fin 3 → ℕ} (e : off = ![0, 256 * j, 0]) (inb) : kTile p n off inb = rows j (data q k v o).K :=
  load3b p.hk n.k inb 0 (256 * j) (by omega) e _ fun a b => hn.hk _ b

theorem vTile_val (j : ℕ) (hj : j < 16) {off : Fin 3 → ℕ} (e : off = ![0, 256 * j, 0]) (inb) : vTile p n off inb = rows j (data q k v o).V :=
  load3b p.hv n.v inb 0 (256 * j) (by omega) e _ fun a b => hn.hv _ b

end

end AttnB
-- ==== Proof.AttnRef.lean ====
/-
  The reference's gradients in the real numbers, one block of four heads at a time.
-/
module

public import proofs.«01_k».proof.Proof.AttnSig
public import proofs.«01_k».proof.Proof.AttnRows
public import proofs.«01_k».proof.Proof.Gen.AttnBRefIdeal.Read

@[expose] public section

noncomputable section

namespace AttnB

open Cert.AttnBRefIdeal Cert.AttnBRefIdeal.Gen Cert.AttnBRefIdeal.Read
open Idealize.ShloMosaic

section
variable {F : FTy → Type} [FloatOps F] (x0 x1 : FVec F S4096x512 .f32) (i : S8x4096x4096.Idx)

theorem fwd_v14_0 : val_main_v14_0 (F := F) x0 x1 i = FloatOps.hostNegf (spF (FloatOps.hostNegf (FloatOps.hostNegf (val_main_v6 (F := F) x0 x1 i)))) := rfl
theorem fwd_v14_1 : val_main_v14_1 (F := F) x0 x1 i = dspF (FloatOps.hostNegf (FloatOps.hostNegf (val_main_v6 (F := F) x0 x1 i))) := rfl
theorem fwd_v18_0 : val_main_v18_0 (F := F) x0 x1 i = FloatOps.hostNegf (spF (FloatOps.hostNegf (val_main_v6 (F := F) x0 x1 i))) := rfl
theorem fwd_v18_1 : val_main_v18_1 (F := F) x0 x1 i = dspF (FloatOps.hostNegf (val_main_v6 (F := F) x0 x1 i)) := rfl

end

theorem neg_at (x : ℝ) : (FloatOps.hostNegf (F := Ideal) (φ := .f32) (x : EReal)) = ((-x : ℝ) : EReal) := by
  show -(x : EReal) = _; rw [← EReal.coe_neg]
theorem add_at (x y : ℝ) : (FloatOps.addf (F := Ideal) (φ := .f32) (x : EReal) (y : EReal)) = ((x + y : ℝ) : EReal) := by
  show (x : EReal) + (y : EReal) = _; rw [← EReal.coe_add]
theorem sub_at (x y : ℝ) : (FloatOps.subf (F := Ideal) (φ := .f32) (x : EReal) (y : EReal)) = ((x - y : ℝ) : EReal) := by
  show (x : EReal) - (y : EReal) = _; rw [← EReal.coe_sub]
theorem mul_at (x y : ℝ) : (FloatOps.mulf (F := Ideal) (φ := .f32) (x : EReal) (y : EReal)) = ((x * y : ℝ) : EReal) := by
  show (x : EReal) * (y : EReal) = _; rw [← EReal.coe_mul]
theorem exp_at (x : ℝ) : (FloatOps.hostUnary (F := Ideal) (φ := .f32) .exp (x : EReal)) = ((Real.exp x : ℝ) : EReal) := rfl
theorem select_at (p : Prop) [Decidable p] (b : BitVec 1) (hb : b = if p then 1#1 else 0#1) (x y : ℝ) :
    (Scalar.select b ((x : ℝ) : EReal) ((y : ℝ) : EReal)) = ((if p then x else y : ℝ) : EReal) := by
  rw [hb]; split <;> rfl

theorem eighth_word : (FloatOps.ofBits .f32 0x3E000000#32 : Ideal .f32) = ((1 / 8 : ℝ) : EReal) := by
  show Ideal.ofBits .f32 0x3E000000#32 = _
  simp [Ideal.ofBits, Ideal.ieee]; rw [← EReal.coe_mul]; norm_num

/-- A lane of a block of four heads, and of the eight. -/
abbrev lane (h : Fin 4) (e : Fin 64) : Fin 256 := ⟨64 * h.val + e.val, by omega⟩
abbrev lane8 (g : Fin 8) (e : Fin 64) : Fin 512 := ⟨64 * g.val + e.val, by omega⟩

/-- Only a head's own lanes count. -/
theorem own_sum (h : Fin 4) (w : Fin 256 → ℝ) : (∑ l : Fin 256, if l.val / 64 = h.val then w l else 0) = ∑ e : Fin 64, w (lane h e) := by
  have e1 := Equiv.sum_comp (finProdFinEquiv (m := 4) (n := 64)) (fun l : Fin (4 * 64) => if l.val / 64 = h.val then w l else 0)
  refine e1.symm.trans ?_
  rw [Fintype.sum_prod_type, Finset.sum_eq_single h]
  · refine Finset.sum_congr rfl fun e _ => ?_
    have : ((finProdFinEquiv (m := 4) (n := 64) (h, e)).val) = e.val + 64 * h.val := rfl
    rw [if_pos (by rw [this]; omega)]
    exact congrArg w (Fin.ext (by show _ = 64 * h.val + e.val; rw [← add_comm]; exact this))
  · intro b _ hb
    refine Finset.sum_eq_zero fun e _ => if_neg ?_
    have : ((finProdFinEquiv (m := 4) (n := 64) (b, e)).val) = e.val + 64 * b.val := rfl
    rw [this]
    have := Fin.val_ne_of_ne hb
    omega
  · exact fun h' => absurd (Finset.mem_univ _) h'

/-- One block of the arrays, the queries scaled as the kernel takes them. -/
def block (q k v o : ℕ → ℕ → ℝ) (hp : ℕ) : Data :=
  data (fun r l => q r (256 * hp + l.val) * (1 / 8) / Real.log 2) (fun r l => k r (256 * hp + l.val)) (fun r l => v r (256 * hp + l.val)) (fun r l => o r (256 * hp + l.val))

section
variable (q k v o : ℕ → ℕ → ℝ) (hp : ℕ) (h : Fin 4) (r s : ℕ)

theorem block_Z : (block q k v o hp).Z h r s * Real.log 2 = (∑ e : Fin 64, q r (256 * hp + (64 * h.val + e.val)) * k s (256 * hp + (64 * h.val + e.val))) * (1 / 8) := by
  have h2 : Real.log 2 ≠ 0 := (Real.log_pos (by norm_num)).ne'
  rw [Data.Z]
  simp only [block, data, own, ite_mul, zero_mul]
  rw [own_sum h (fun l => q r (256 * hp + l.val) * (1 / 8) / Real.log 2 * k s (256 * hp + l.val)), Finset.sum_mul, Finset.sum_mul]
  refine Finset.sum_congr rfl fun e _ => ?_
  field_simp

theorem block_W : (block q k v o hp).W h r s = ∑ e : Fin 64, o r (256 * hp + (64 * h.val + e.val)) * v s (256 * hp + (64 * h.val + e.val)) := by
  rw [Data.W]
  simp only [block, data, own, ite_mul, zero_mul]
  exact own_sum h (fun l => o r (256 * hp + l.val) * v s (256 * hp + l.val))

end

section
variable {x0 x1 x2 x3 : FVec Ideal S4096x512 .f32} {q k v o : ℕ → ℕ → ℝ}
  (h0 : ∀ (r : Fin 4096) (L : Fin 512), x0 (ix2 r L) = ((q r.val L.val : ℝ) : EReal))
  (h1 : ∀ (r : Fin 4096) (L : Fin 512), x1 (ix2 r L) = ((k r.val L.val : ℝ) : EReal))
  (h2 : ∀ (r : Fin 4096) (L : Fin 512), x2 (ix2 r L) = ((v r.val L.val : ℝ) : EReal))
  (h3 : ∀ (r : Fin 4096) (L : Fin 512), x3 (ix2 r L) = ((o r.val L.val : ℝ) : EReal))
  {hp : ℕ} {h : Fin 4} {g : Fin 8} (hg : g.val = 4 * hp + h.val) (r s : Fin 4096)

theorem heads (x : FVec Ideal S4096x512 .f32) (g : Fin 8) (r : Fin 4096) (e : Fin 64) : val_main_v1 (F := Ideal) x (ix3 g r e) = x (ix2 r (lane8 g e)) := by
  rw [val_main_v1_apply, val_main_v0_apply]
  refine congrArg x (funext fun a => Fin.ext ?_)
  match a with
  | ⟨0, _⟩ => show ((r.val * 8 + g.val) * 64 + e.val) / 512 = r.val; omega
  | ⟨1, _⟩ => show ((r.val * 8 + g.val) * 64 + e.val) % 512 = 64 * g.val + e.val; omega

theorem lane_idx (g : Fin 8) (r : Fin 4096) (e : Fin 64) : idx_main_v25 (idx_main_v26 (ix2 r (lane8 g e))) = ix3 g r e := funext fun a => Fin.ext (by
  match a with
  | ⟨0, _⟩ => show (r.val * 512 + (64 * g.val + e.val)) / 64 % 8 = g.val; omega
  | ⟨1, _⟩ => show (r.val * 512 + (64 * g.val + e.val)) / 512 = r.val; omega
  | ⟨2, _⟩ => show (r.val * 512 + (64 * g.val + e.val)) % 64 = e.val; omega)

theorem heads3 (x : FVec Ideal S4096x512 .f32) (g : Fin 8) (r : Fin 4096) (e : Fin 64) : val_main_v3 (F := Ideal) x (ix3 g r e) = x (ix2 r (lane8 g e)) := heads x g r e
theorem heads23 (x : FVec Ideal S4096x512 .f32) (g : Fin 8) (r : Fin 4096) (e : Fin 64) : val_main_v23 (F := Ideal) x (ix3 g r e) = x (ix2 r (lane8 g e)) := heads x g r e
theorem heads28 (x : FVec Ideal S4096x512 .f32) (g : Fin 8) (r : Fin 4096) (e : Fin 64) : val_main_v28 (F := Ideal) x (ix3 g r e) = x (ix2 r (lane8 g e)) := heads x g r e

theorem mask15 (g : Fin 8) : val_main_v15_1 (F := Ideal) (ix3 g r s) = if s.val < r.val then 1#1 else 0#1 := by
  rw [val_main_v15_1_apply, val_main_v12_apply, val_main_v10_apply, val_main_v8_apply, val_main_v7_apply, val_main_v11_apply, val_main_v9_apply, val_main_v7_apply]
  show IntOp.cmpi .slt (BitVec.ofNat 32 s.val) (BitVec.ofNat 32 r.val) = _
  rw [WordCmp.cmpi_slt_ofNat (by omega) (by omega)]
  by_cases h : s.val < r.val <;> simp [h]

theorem mask21 (g : Fin 8) : val_main_v21_1 (F := Ideal) (ix3 g r s) = if s.val < r.val then 1#1 else 0#1 := mask15 r s g

include hg in
theorem lane_eq (e : Fin 64) : (lane8 g e).val = 256 * hp + (64 * h.val + e.val) := by show 64 * g.val + e.val = _; omega

include h0 h1 hg

/-- The scores. -/
theorem ref_v6 : val_main_v6 (F := Ideal) x0 x1 (ix3 g r s) = (((block q k v o hp).Z h r.val s.val * Real.log 2 : ℝ) : EReal) := by
  rw [val_main_v6_apply, val_main_v5_apply, val_main_cst_apply, eighth_word, val_main_v4_apply, block_Z]
  have e : ∀ c : Fin 64, val_main_v1 (F := Ideal) x0 (lidx_main_v4 (ix3 g r s) c) * val_main_v3 (F := Ideal) x1 (ridx_main_v4 (ix3 g r s) c)
      = ((q r.val (256 * hp + (64 * h.val + c.val)) * k s.val (256 * hp + (64 * h.val + c.val)) : ℝ) : EReal) := fun c => by
    rw [show lidx_main_v4 (ix3 g r s) c = ix3 g r c from funext fun a => Fin.ext (by fin_cases a <;> rfl),
      show ridx_main_v4 (ix3 g r s) c = ix3 g s c from funext fun a => Fin.ext (by fin_cases a <;> rfl), heads, heads3, h0, h1, lane_eq hg, ← EReal.coe_mul]
  rw [Finset.sum_congr rfl fun c _ => e c, coe_sum, mul_at]

/-- What each key leaves, in natural logarithms. -/
theorem ref_v15 : val_main_v15_0 (F := Ideal) x0 x1 (ix3 g r s) = (((block q k v o hp).L h r.val s.val * Real.log 2 : ℝ) : EReal) := by
  rw [val_main_v15_0_apply, fwd_v14_0, ref_v6 (q := q) (k := k) (v := v) (o := o) h0 h1 hg, neg_at, neg_at, spF_coe, neg_at, neg_neg,
    val_main_call1_v2_apply, show val_main_call1_v0 (F := Ideal) _ = ((0:ℝ) : EReal) from zero_word, select_at _ _ (mask15 r s g)]
  refine congrArg Real.toEReal ?_
  rw [Data.L, ite_mul, zero_mul]
  refine if_congr Iff.rfl ?_ rfl
  rw [sub_mul, rls_log, sp_sub]; ring

theorem ref_v16 : val_main_v16 (F := Ideal) x0 x1 (ix3 g r s)
    = ((∑ s' ∈ Finset.Ico s.val 4096, (block q k v o hp).L h r.val s' * Real.log 2 : ℝ) : EReal) :=
  from_right (val_main_v15_0 (F := Ideal) x0 x1) (fun s' => (block q k v o hp).L h r.val s' * Real.log 2) g r s
    (fun s => ref_v15 h0 h1 hg r s) (val_main_call2_v0 (F := Ideal)) (fun i => (val_main_call2_v0_apply i).trans zero_word) h_S_ reduceWindows_S8x4096x4096_S8x4096x4096_w1s1p0_0_w1s1p0_0_w4096s1p0_4095

/-- The weight before the mask. -/
theorem ref_v20 : val_main_v20 (F := Ideal) x0 x1 (ix3 g r s)
    = (((2:ℝ) ^ (rls ((block q k v o hp).Z h r.val s.val) + ∑ s' ∈ Finset.Ico (s.val + 1) 4096, (block q k v o hp).L h r.val s') : ℝ) : EReal) := by
  rw [val_main_v20_apply, val_main_v19_apply, val_main_v17_apply, fwd_v18_0, ref_v6 (q := q) (k := k) (v := v) (o := o) h0 h1 hg,
    ref_v15 (q := q) (k := k) (v := v) (o := o) h0 h1 hg, ref_v16 (q := q) (k := k) (v := v) (o := o) h0 h1 hg, neg_at, spF_coe, neg_at, sub_at, add_at, exp_at]
  refine congrArg Real.toEReal ?_
  rw [two_pow, add_mul, rls_log, Finset.sum_eq_sum_Ico_succ_bot s.isLt, Finset.sum_mul, add_sub_cancel_left]

/-- The weights. -/
theorem ref_v21 : val_main_v21_0 (F := Ideal) x0 x1 (ix3 g r s) = (((block q k v o hp).A h r.val s.val : ℝ) : EReal) := by
  rw [val_main_v21_0_apply, ref_v20 (q := q) (k := k) (v := v) (o := o) h0 h1 hg, val_main_call4_v2_apply,
    show val_main_call4_v0 (F := Ideal) _ = ((0:ℝ) : EReal) from zero_word, select_at _ _ (mask21 r s g)]
  rfl

include h2

/-- The forward pass. -/
theorem ref_v26 (e : Fin 64) : val_main_v26 (F := Ideal) x0 x1 x2 (ix2 r (lane8 g e))
    = ((∑ s' ∈ Finset.range 4096, (block q k v o hp).A h r.val s' * v s' (256 * hp + (64 * h.val + e.val)) : ℝ) : EReal) := by
  rw [val_main_v26_apply, val_main_v25_apply, show idx_main_v25 (idx_main_v26 (ix2 r (lane8 g e))) = ix3 g r e from lane_idx g r e, val_main_v24_apply]
  have e : ∀ c : Fin 4096, val_main_v21_0 (F := Ideal) x0 x1 (lidx_main_v24 (ix3 g r e) c) * val_main_v23 (F := Ideal) x2 (ridx_main_v24 (ix3 g r e) c)
      = (((block q k v o hp).A h r.val c.val * v c.val (256 * hp + (64 * h.val + e.val)) : ℝ) : EReal) := fun c => by
    rw [show lidx_main_v24 (ix3 g r e) c = ix3 g r c from funext fun a => Fin.ext (by fin_cases a <;> rfl),
      show ridx_main_v24 (ix3 g r e) c = ix3 g c e from funext fun a => Fin.ext (by fin_cases a <;> rfl), heads23, h2, lane_eq hg,
      ref_v21 (q := q) (k := k) (v := v) (o := o) h0 h1 hg, ← EReal.coe_mul]
  rw [Finset.sum_congr rfl fun c _ => e c, coe_sum]
  exact congrArg Real.toEReal (Fin.sum_univ_eq_sum_range (fun c => (block q k v o hp).A h r.val c * v c (256 * hp + (64 * h.val + _))) 4096)

include h3

/-- A weight times its cotangent. -/
theorem ref_v35 : val_main_v35 (F := Ideal) x0 x1 x2 x3 (ix3 g r s) = (((block q k v o hp).G h r.val s.val : ℝ) : EReal) := by
  have hw : val_main_v31 (F := Ideal) x2 x3 (ix3 g r s) = (((block q k v o hp).W h r.val s.val : ℝ) : EReal) := by
    rw [val_main_v31_apply, block_W]
    have e : ∀ c : Fin 64, val_main_v28 (F := Ideal) x3 (lidx_main_v31 (ix3 g r s) c) * val_main_v23 (F := Ideal) x2 (ridx_main_v31 (ix3 g r s) c)
        = ((o r.val (256 * hp + (64 * h.val + c.val)) * v s.val (256 * hp + (64 * h.val + c.val)) : ℝ) : EReal) := fun c => by
      rw [show lidx_main_v31 (ix3 g r s) c = ix3 g r c from funext fun a => Fin.ext (by fin_cases a <;> rfl),
        show ridx_main_v31 (ix3 g r s) c = ix3 g s c from funext fun a => Fin.ext (by fin_cases a <;> rfl), heads28, heads23, h3, h2, lane_eq hg, ← EReal.coe_mul]
    rw [Finset.sum_congr rfl fun c _ => e c, coe_sum]
  rw [val_main_v35_apply, val_main_v34_apply, hw, ref_v20 (q := q) (k := k) (v := v) (o := o) h0 h1 hg, val_main_call5_v0_apply,
    show val_main_call5_cst (F := Ideal) _ = ((0:ℝ) : EReal) from zero_word, select_at _ _ (mask21 r s g), mul_at]
  refine congrArg Real.toEReal ?_
  rw [Data.G, Data.A]
  split
  · rw [mul_comm]
  · rw [zero_mul, zero_mul]

theorem ref_v38 : val_main_v38 (F := Ideal) x0 x1 x2 x3 (ix3 g r s)
    = ((∑ s' ∈ Finset.range (s.val + 1), (block q k v o hp).G h r.val s' : ℝ) : EReal) :=
  from_left (val_main_v35 (F := Ideal) x0 x1 x2 x3) (fun s' => (block q k v o hp).G h r.val s') g r s
    (fun s => ref_v35 h0 h1 h2 h3 hg r s) (val_main_call7_v0 (F := Ideal)) (fun i => (val_main_call7_v0_apply i).trans zero_word) h_S_ reduceWindows_S8x4096x4096_S8x4096x4096_w1s1p0_0_w1s1p0_0_w4096s1p4095_0

/-- The cotangent of a score. -/
theorem ref_v45 : val_main_v45 (F := Ideal) x0 x1 x2 x3 (ix3 g r s) = (((block q k v o hp).dz h r.val s.val * (1 / 8) : ℝ) : EReal) := by
  rw [val_main_v45_apply, val_main_v44_apply, val_main_cst_2_apply, eighth_word, val_main_v43_apply, val_main_v42_apply, val_main_v41_apply, val_main_call9_v1_apply,
    val_main_call9_v0_apply, val_main_v40_apply, val_main_v39_apply, val_main_v37_apply, val_main_v36_apply, val_main_call6_v1_apply, val_main_call6_v0_apply, val_main_call8_v0_apply,
    show val_main_call8_cst (F := Ideal) _ = ((0:ℝ) : EReal) from zero_word, fwd_v14_1, fwd_v18_1, ref_v6 (q := q) (k := k) (v := v) (o := o) h0 h1 hg,
    ref_v35 (q := q) (k := k) (v := v) (o := o) h0 h1 h2 h3 hg, ref_v38 (q := q) (k := k) (v := v) (o := o) h0 h1 h2 h3 hg]
  simp only [neg_at, add_at, neg_neg, dspF_coe, sig_eq, sig_compl]
  rw [select_at _ _ (mask15 r s g)]
  simp only [neg_at, add_at, mul_at]
  refine congrArg Real.toEReal (congrArg (· * (1 / 8 : ℝ)) ?_)
  rw [Data.dz]
  split
  · rw [Finset.sum_range_succ, Data.d, ← Finset.sum_range_add_sum_Ico _ (le_of_lt s.isLt)]; ring
  · rw [(block q k v o hp).G_zero h r.val s.val (by omega)]; ring

/-- The gradient of the queries. -/
theorem ref_dq (e : Fin 64) : val_main_v52 (F := Ideal) x0 x1 x2 x3 (ix2 r (lane8 g e))
    = ((∑ s' ∈ Finset.range 4096, (block q k v o hp).dz h r.val s' * (1 / 8) * k s' (256 * hp + (64 * h.val + e.val)) : ℝ) : EReal) := by
  rw [val_main_v52_apply]
  show val_main_v51 (F := Ideal) x0 x1 x2 x3 _ = _
  rw [val_main_v51_apply, val_main_v50_apply, show idx_main_v50 (idx_main_v51 (ix2 r (lane8 g e))) = ix3 g r e from (lane_idx g r e), val_main_v47_apply]
  have e1 : ∀ c : Fin 4096, val_main_v45 (F := Ideal) x0 x1 x2 x3 (lidx_main_v47 (ix3 g r e) c) * val_main_v3 (F := Ideal) x1 (ridx_main_v47 (ix3 g r e) c)
      = (((block q k v o hp).dz h r.val c.val * (1 / 8) * k c.val (256 * hp + (64 * h.val + e.val)) : ℝ) : EReal) := fun c => by
    rw [show lidx_main_v47 (ix3 g r e) c = ix3 g r c from funext fun a => Fin.ext (by fin_cases a <;> rfl),
      show ridx_main_v47 (ix3 g r e) c = ix3 g c e from funext fun a => Fin.ext (by fin_cases a <;> rfl), heads3, h1, lane_eq hg,
      ref_v45 (q := q) (k := k) (v := v) (o := o) h0 h1 h2 h3 hg, ← EReal.coe_mul]
  rw [Finset.sum_congr rfl fun c _ => e1 c, coe_sum]
  exact congrArg Real.toEReal (Fin.sum_univ_eq_sum_range (fun c => (block q k v o hp).dz h r.val c * (1 / 8) * k c (256 * hp + (64 * h.val + e.val))) 4096)

/-- The gradient of the keys. -/
theorem ref_dk (e : Fin 64) : val_main_v53 (F := Ideal) x0 x1 x2 x3 (ix2 s (lane8 g e))
    = ((∑ r' ∈ Finset.range 4096, (block q k v o hp).dz h r' s.val * (1 / 8) * q r' (256 * hp + (64 * h.val + e.val)) : ℝ) : EReal) := by
  rw [val_main_v53_apply]
  show val_main_v49 (F := Ideal) x0 x1 x2 x3 _ = _
  rw [val_main_v49_apply, val_main_v48_apply, show idx_main_v48 (idx_main_v49 (ix2 s (lane8 g e))) = ix3 g s e from (lane_idx g s e), val_main_v46_apply]
  have e1 : ∀ c : Fin 4096, val_main_v45 (F := Ideal) x0 x1 x2 x3 (lidx_main_v46 (ix3 g s e) c) * val_main_v1 (F := Ideal) x0 (ridx_main_v46 (ix3 g s e) c)
      = (((block q k v o hp).dz h c.val s.val * (1 / 8) * q c.val (256 * hp + (64 * h.val + e.val)) : ℝ) : EReal) := fun c => by
    rw [show lidx_main_v46 (ix3 g s e) c = ix3 g c s from funext fun a => Fin.ext (by fin_cases a <;> rfl),
      show ridx_main_v46 (ix3 g s e) c = ix3 g c e from funext fun a => Fin.ext (by fin_cases a <;> rfl), heads, h0, lane_eq hg,
      ref_v45 (q := q) (k := k) (v := v) (o := o) h0 h1 h2 h3 hg, ← EReal.coe_mul]
  rw [Finset.sum_congr rfl fun c _ => e1 c, coe_sum]
  exact congrArg Real.toEReal (Fin.sum_univ_eq_sum_range (fun c => (block q k v o hp).dz h c s.val * (1 / 8) * q c (256 * hp + (64 * h.val + e.val))) 4096)

omit h2 in
/-- The gradient of the values. -/
theorem ref_dv (e : Fin 64) : val_main_v54 (F := Ideal) x0 x1 x3 (ix2 s (lane8 g e))
    = ((∑ r' ∈ Finset.range 4096, (block q k v o hp).A h r' s.val * o r' (256 * hp + (64 * h.val + e.val)) : ℝ) : EReal) := by
  rw [val_main_v54_apply]
  show val_main_v33 (F := Ideal) x0 x1 x3 _ = _
  rw [val_main_v33_apply, val_main_v32_apply, show idx_main_v32 (idx_main_v33 (ix2 s (lane8 g e))) = ix3 g s e from (lane_idx g s e), val_main_v30_apply, val_main_v29_apply]
  have e1 : ∀ c : Fin 4096, val_main_v28 (F := Ideal) x3 (lidx_main_v29 (idx_main_v30 (ix3 g s e)) c) * val_main_v21_0 (F := Ideal) x0 x1 (ridx_main_v29 (idx_main_v30 (ix3 g s e)) c)
      = (((block q k v o hp).A h c.val s.val * o c.val (256 * hp + (64 * h.val + e.val)) : ℝ) : EReal) := fun c => by
    rw [show lidx_main_v29 (idx_main_v30 (ix3 g s e)) c = ix3 g c e from funext fun a => Fin.ext (by fin_cases a <;> rfl),
      show ridx_main_v29 (idx_main_v30 (ix3 g s e)) c = ix3 g c s from funext fun a => Fin.ext (by fin_cases a <;> rfl), heads28, h3, lane_eq hg,
      ref_v21 (q := q) (k := k) (v := v) (o := o) h0 h1 hg, ← EReal.coe_mul, mul_comm]
  rw [Finset.sum_congr rfl fun c _ => e1 c, coe_sum]
  exact congrArg Real.toEReal (Fin.sum_univ_eq_sum_range (fun c => (block q k v o hp).A h c s.val * o c (256 * hp + (64 * h.val + e.val))) 4096)

end
end AttnB
-- ==== Proof.AttnIn.lean ====
/-
  What a grid point of the attention gradient stages: its rows of the scaled queries, its block's keys and values, its rows of the
  forward pass's result and of the cotangent.
-/
module

public import proofs.«01_k».proof.Proof.AttnHost
public import proofs.«01_k».proof.Proof.AttnRef
public import Idealize.ShloMosaic.Lib.Pipeline.ValueKit

@[expose] public section

set_option maxRecDepth 16384

noncomputable section

namespace AttnB

open Cert.AttnBIdeal Cert.AttnBIdeal.Gen
open Idealize.ShloMosaic Idealize.ShloMosaic.TcCoe Idealize.ShloMosaic.Tactic

/-- The scaled queries, the keys and the values, one after the other. -/
def packed {F : FTy → Type} [FloatOps F] [Named F] (x0 x1 x2 : FVec F S4096x512 .f32) : FVec F S3x4096x512 .bf16 :=
  concatenate S3x4096x512 0
    [⟨S1x4096x512, broadcastInDim S1x4096x512 ![1, 2] bcast_S4096x512_S1x4096x512_1_2 (truncf .bf16 (Host.divf (mulf x0 (broadcastInDim S4096x512 ![] bcast_S_S4096x512 (constant S_ .f32 0x3E000000#32)))
        (broadcastInDim S4096x512 ![] bcast_S_S4096x512 (Host.log (constant S_ .f32 0x40000000#32)))) bitsLt_bf16_f32)⟩,
     ⟨S1x4096x512, broadcastInDim S1x4096x512 ![1, 2] bcast_S4096x512_S1x4096x512_1_2 (truncf .bf16 x1 bitsLt_bf16_f32)⟩,
     ⟨S1x4096x512, broadcastInDim S1x4096x512 ![1, 2] bcast_S4096x512_S1x4096x512_1_2 (truncf .bf16 x2 bitsLt_bf16_f32)⟩] concatenates_S1x4096x512_S1x4096x512_S1x4096x512_S3x4096x512_d0

theorem two_word : (FloatOps.ofBits .f32 0x40000000#32 : Ideal .f32) = ((2 : ℝ) : EReal) := by
  show Ideal.ofBits .f32 0x40000000#32 = _
  simp [Ideal.ofBits, Ideal.ieee]; rw [← EReal.coe_mul]; norm_num

theorem packed_q (x0 x1 x2 : FVec Ideal S4096x512 .f32) (r : Fin 4096) (L : Fin 512) (y : ℝ) (h : x0 (ix2 r L) = (y : EReal)) :
    packed x0 x1 x2 (ix3 0 r L) = ((y * (1 / 8) / Real.log 2 : ℝ) : EReal) := by
  have e : packed x0 x1 x2 (ix3 0 r L) = FloatOps.hostDivf (F := Ideal) (φ := .f32) (x0 (ix2 r L) * FloatOps.ofBits .f32 0x3E000000#32) (FloatOps.hostUnary (F := Ideal) (φ := .f32) .log (FloatOps.ofBits .f32 0x40000000#32)) := by
    pointwise [packed]
  rw [e, h, eighth_word, two_word, ← EReal.coe_mul]
  have e2 : FloatOps.hostUnary (F := Ideal) (φ := .f32) .log ((2 : ℝ) : EReal) = ((Real.log 2 : ℝ) : EReal) := by
    show Ideal.log ((2 : ℝ) : EReal) = _
    rw [Ideal.log_coe, if_neg (by norm_num)]
  rw [e2]
  show Ideal.div ((y * (1 / 8) : ℝ) : EReal) ((Real.log 2 : ℝ) : EReal) = _
  have h2 : ((Real.log 2 : ℝ) : EReal) ≠ 0 := fun e => (Real.log_pos (by norm_num : (1:ℝ) < 2)).ne' (EReal.coe_eq_zero.1 e)
  rw [Ideal.div, if_neg h2, ← EReal.coe_inv, ← EReal.coe_mul, div_eq_mul_inv (y * (1 / 8))]

theorem packed_k (x0 x1 x2 : FVec Ideal S4096x512 .f32) (r : Fin 4096) (L : Fin 512) : packed x0 x1 x2 (ix3 1 r L) = x1 (ix2 r L) := by
  pointwise [packed]

theorem packed_v (x0 x1 x2 : FVec Ideal S4096x512 .f32) (r : Fin 4096) (L : Fin 512) : packed x0 x1 x2 (ix3 2 r L) = x2 (ix2 r L) := by
  pointwise [packed]

section
variable {F : FTy → Type} [FloatOps F] [Named F] (m : (ℓ : Loc nD τ sig) → Buf (Elt F) ℓ) (c : Dev nD)

set_option maxHeartbeats 8000000 in
/-- The packed operands. -/
theorem V_v11 : V m c main_v11 = packed (F := F) (argOf m c main_arg0) (argOf m c main_arg1) (argOf m c main_arg2) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp <;> rfl
end

/-- Where a grid point's blocks lie. -/
theorem idx : ∀ t : Fin (cfg0 (F := Ideal)).N, win0_0.index t = ![0, t.val % 16, t.val / 16] ∧ win0_1.index t = ![1, 0, t.val / 16] ∧ win0_2.index t = ![2, 0, t.val / 16]
    ∧ win0_3.index t = ![t.val % 16, t.val / 16] ∧ win0_4.index t = ![t.val % 16, t.val / 16] ∧ win0_5.index t = ![t.val % 16, t.val / 16]
    ∧ win0_6.index t = ![0, t.val / 16] ∧ win0_7.index t = ![0, t.val / 16] ∧ (grid0.coords t 1).val = t.val % 16 :=
  (by decide +kernel : ∀ t : Fin grid0.N, _)

variable (m : (ℓ : Loc nD τ sig) → Buf (Elt Ideal) ℓ) (c : Dev nD) (t : Fin (cfg0 (F := Ideal)).N)

abbrev row (t : Fin (cfg0 (F := Ideal)).N) (p : Fin 256) : Fin 4096 := ⟨256 * (t.val % 16) + p.val, by omega⟩
abbrev col2 (t : Fin (cfg0 (F := Ideal)).N) (l : Fin 256) : Fin 512 := ⟨256 * (t.val / 16) + l.val, by have : t.val < 32 := t.isLt; omega⟩

theorem in_q (p l : Fin 256) : blk m c 0 t (ix3 0 p l) = packed (F := Ideal) (argOf m c main_arg0) (argOf m c main_arg1) (argOf m c main_arg2) (ix3 0 (row t p) (col2 t l)) := by
  blk_simp [blk]
  refine (congrFun (V_v11 m c) _).trans (congrArg (packed _ _ _) ?_)
  blk_ext [(idx t).1]

theorem in_k (r : Fin 4096) (l : Fin 256) : blk m c 1 t (ix3 0 r l) = packed (F := Ideal) (argOf m c main_arg0) (argOf m c main_arg1) (argOf m c main_arg2) (ix3 1 r (col2 t l)) := by
  blk_simp [blk]
  refine (congrFun (V_v11 m c) _).trans (congrArg (packed _ _ _) ?_)
  blk_ext [(idx t).2.1]

theorem in_v (r : Fin 4096) (l : Fin 256) : blk m c 2 t (ix3 0 r l) = packed (F := Ideal) (argOf m c main_arg0) (argOf m c main_arg1) (argOf m c main_arg2) (ix3 2 r (col2 t l)) := by
  blk_simp [blk]
  refine (congrFun (V_v11 m c) _).trans (congrArg (packed _ _ _) ?_)
  blk_ext [(idx t).2.2.1]

theorem in_o (p l : Fin 256) : blk m c 3 t (ix2 p l) = Cert.AttnBRefIdeal.Read.val_main_v26 (F := Ideal) (argOf m c main_arg0) (argOf m c main_arg1) (argOf m c main_arg2) (ix2 (row t p) (col2 t l)) := by
  blk_simp [blk]
  refine (congrFun (V_v38 m c) _).trans (congrArg (Cert.AttnBRefIdeal.Read.val_main_v26 _ _ _) ?_)
  blk_ext [(idx t).2.2.2.1]

theorem in_d (p l : Fin 256) : blk m c 4 t (ix2 p l) = argOf m c main_arg3 (ix2 (row t p) (col2 t l)) := by
  blk_simp [blk]
  refine (congrFun (V_arg m c main_arg3 (by simp)) _).trans (congrArg (argOf m c main_arg3) ?_)
  blk_ext [(idx t).2.2.2.2.1]

end AttnB
-- ==== Proof.AttnBegin.lean ====
/-
  The two key tiles a grid point always visits, in the real numbers: the tile on the diagonal and the one left of it.
-/
module

public import proofs.«01_k».proof.Proof.AttnRows

@[expose] public section

noncomputable section

namespace AttnB

open Cert.AttnBIdeal Cert.AttnBIdeal.Gen
open Idealize.ShloMosaic Idealize.ShloMosaic.TcCoe Idealize.ShloMosaic.Tactic

theorem zero_col : k0_pay68 (F := Ideal) = col fun _ => 0 := by
  funext i; pointwise [k0_pay68, col]; exact EReal.coe_zero.symm

section Diag
variable (D : Data) (h : Fin 4) {i : ℕ} (hi : i < 16)
include hi

theorem diagL_val : diagL (tile i i (D.Z h)) = tile i i (D.L h) := diag_l1 D h i hi
theorem diagA_val : diagA k0_pay27 (tile i i (D.Z h)) = tile i i (D.A h) := by
  rw [diagA, diagL_val D h hi, zero_col, ← col_cl D h i hi]; exact diag_a D h i hi
theorem diagG_val : diagG k0_pay27 (tile i i (D.Z h)) (tile i i (D.W h)) = tile i i (D.G h) := by
  rw [diagG, diagA_val D h hi]; exact any_g D h i i
theorem diagD_val : diagD k0_pay27 k0_pay28 (tile i i (D.Z h)) (tile i i (D.W h)) (colAt i (D.d h)) = tile i i (D.dz h) := by
  rw [diagD, diagG_val D h hi, zero_col, ← col_cg D h i hi, diag_dz D h i hi]; rfl
theorem diagLs_val : diagLs (tile i i (D.Z h)) = colAt i fun r => D.cl h r i := by
  rw [diagLs, diagL_val D h hi, zero_col, ← col_cl D h i hi]; exact diag_cl D h i hi
theorem diagGs_val : diagGs k0_pay27 (tile i i (D.Z h)) (tile i i (D.W h)) = colAt i fun r => D.cg h r i := by
  rw [diagGs, diagG_val D h hi, zero_col, ← col_cg D h i hi, rowT_up, addf_col]
  exact congrArg col (funext fun p => tile_add (D.G h (256 * i + p.val)) i (by omega))

end Diag

section Prev
variable (D : Data) (h : Fin 4) {j : ℕ} (hj : j + 1 < 16)
include hj

theorem prevL_val : cellL (tile (j + 1) j (D.Z h)) = tile (j + 1) j (D.L h) := cellL_left D (by omega) hj
theorem prevA_val : prevA 1#1 k0_pay27 (tile (j + 1) j (D.Z h)) (colAt (j + 1) fun r => D.cl h r (j + 1)) = tile (j + 1) j (D.A h) := by
  rw [prevA, cnt_one]; exact cellA_left D (by omega) hj
theorem prevG_val : prevG 1#1 k0_pay27 (tile (j + 1) j (D.Z h)) (tile (j + 1) j (D.W h)) (colAt (j + 1) fun r => D.cl h r (j + 1)) = tile (j + 1) j (D.G h) := by
  rw [prevG, prevA_val D h hj]; exact any_g D h _ _
theorem prevD_val : prevD 1#1 k0_pay27 k0_pay28 (tile (j + 1) j (D.Z h)) (tile (j + 1) j (D.W h)) (colAt (j + 1) fun r => D.cl h r (j + 1))
    (colAt (j + 1) fun r => D.cg h r (j + 1)) (colAt (j + 1) (D.d h)) = tile (j + 1) j (D.dz h) := by
  rw [prevD, prevG_val D h hj, cnt_one, left_dz D h (j + 1) j (by omega) hj]; rfl

end Prev

/-- Without a tile on the left the part that is computed does not count. -/
theorem noneA (f g : Fin 256 → Fin 256 → ℝ) (l : Fin 256 → ℝ) :
    prevA 0#1 k0_pay27 (up f) (col l) = up fun _ _ => 0 := by
  rw [prevA, cellA, cellL, lsT_up, subf_up, later_up, runT_up, powT_up, cnt_zero]
theorem noneG (f g : Fin 256 → Fin 256 → ℝ) (l : Fin 256 → ℝ) : prevG 0#1 k0_pay27 (up f) (up g) (col l) = up fun _ _ => 0 := by
  rw [prevG, noneA f g, gT_up]; simp only [zero_mul]
theorem noneD (f g : Fin 256 → Fin 256 → ℝ) (l a d : Fin 256 → ℝ) :
    prevD 0#1 k0_pay27 k0_pay28 (up f) (up g) (col l) (col a) (col d) = up fun _ _ => 0 := by
  rw [prevD, noneG, from_up, runT_up, befT_up, lsT_up, dzT_up, cnt_zero]; rfl

/-- What a grid point reads, in the real numbers. -/
structure Reads (D : Data) (c : Dev nD) (t : Fin grid0.N) (i : ℕ) (p : Refs) (n : Ins Ideal) : Prop where
  lt : i < 16
  it : ((grid0.coords t) 1).val = i
  hq : ∀ h, qs c p n h = rows i (D.Q h)
  ho : ∀ h, dos c p n h = rows i (D.O h)
  hd : ∀ h, ds c p n h = colAt i (D.d h)
  hk : ∀ (r : Fin 4096) (l : Fin 256), n.k (ix3 0 r l) = ((D.K r.val l : ℝ) : EReal)
  hv : ∀ (r : Fin 4096) (l : Fin 256), n.v (ix3 0 r l) = ((D.V r.val l : ℝ) : EReal)
  tk : ∀ (j : ℕ), j < 16 → ∀ {off : Fin 3 → ℕ} (_ : off = ![0, 256 * j, 0]) inb, kTile p n off inb = rows j D.K
  tv : ∀ (j : ℕ), j < 16 → ∀ {off : Fin 3 → ℕ} (_ : off = ![0, 256 * j, 0]) inb, vTile p n off inb = rows j D.V
  kh : ∀ (h : Fin 4) (r : Fin 4096) (l : Fin 256), khHead p n h (ix3 0 r l) = ((D.Km h r.val l : ℝ) : EReal)

theorem Given.reads {q k v o u : ℕ → Fin 256 → ℝ} {i : ℕ} (hi : i < 16) (c : Dev nD) {t : Fin grid0.N} (ht : ((grid0.coords t) 1).val = i) (p : Refs) {n : Ins Ideal}
    (hn : Given q k v o u i n) : Reads (data q k v o) c t i p n where
  lt := hi
  it := ht
  hq := qs_val q k v o u c p n hn
  ho := dos_val q k v o u c p n hn
  hd := ds_val q k v o u c p n hn hi
  hk := hn.hk
  hv := hn.hv
  tk := fun j hj _ e inb => kTile_val q k v o u p n hn j hj e inb
  tv := fun j hj _ e inb => vTile_val q k v o u p n hn j hj e inb
  kh := khHead_val q k v o u p n hn

/-- A tile of scores read back. -/
theorem cov4 {sg : RefSig} {sp : Space} (m : Memref sg .tc sp S2x4x256x256 .f32) (L : List (View.Piece (Elt Ideal) S2x4x256x256 .f32)) (w : Fin 2) (h : Fin 4) (a b : Fin 256) :
    cut4 (F := Ideal) (φ := .f32) (View.readCov (Val := Elt Ideal) m.view L (Rect.unit (s := S2x4x256x256) ![w.val, h.val, 0, 0] S1x1x256x256.size (inb4 w h)).toLoadRect) (ix2 a b)
      = m.view.read (Elt Ideal) (m.view.writes (Elt Ideal) m.view.junk L) (ix4 w h a b) := by
  rw [cut4_apply]
  refine congrArg (m.view.read (Elt Ideal) (m.view.writes (Elt Ideal) m.view.junk L)) ?_
  funext e; fin_cases e <;> (apply Fin.ext; simp [LoadRect.idx, Rect.unit, ix4])

/-- A tile of rows read back. -/
theorem cov3 (p : Refs) (L : List (View.Piece (Elt Ideal) S4x256x256 .f32)) (h : Fin 4) (a b : Fin 256) :
    dqCov p L h (ix2 a b) = p.rdq.view.read (Elt Ideal) (p.rdq.view.writes (Elt Ideal) p.rdq.view.junk L) (ix3 h a b) := by
  rw [dqCov, cut3_apply]
  refine congrArg (p.rdq.view.read (Elt Ideal) (p.rdq.view.writes (Elt Ideal) p.rdq.view.junk L)) ?_
  funext e; fin_cases e <;> (apply Fin.ext; simp [LoadRect.idx, Rect.unit, ix3])

section
variable {D : Data} {c : Dev nD} {t : Fin grid0.N} {i : ℕ} {p : Refs} {n : Ins Ideal} (H : Reads D c t i p n) (x : Mem Ideal)
include H

theorem zs_diag (h : Fin 4) : zs c (grid0.coords t) p n 0 h = tile i i (D.Z h) := by
  refine ext2 fun a b => ?_
  rw [zs, cov4, H9_8_eq, scores_miss _ _ _ 1 0 (by decide), scores_hit, H.hq, H.tk i H.lt (by rw [off1, H.it]), score_tile]
  rfl
theorem zs_prev (h : Fin 4) : zs c (grid0.coords t) p n 1 h = tile i (i - 1) (D.Z h) := by
  refine ext2 fun a b => ?_
  rw [zs, cov4, H9_8_eq, scores_hit, H.hq, H.tk (i - 1) (by have := H.lt; omega) (by rw [off2, H.it]), score_tile]
  rfl
theorem ws_diag (h : Fin 4) : ws c (grid0.coords t) p n 0 h = tile i i (D.W h) := by
  refine ext2 fun a b => ?_
  rw [ws, cov4, H10_8_eq, scores_miss _ _ _ 1 0 (by decide), scores_hit, H.ho, H.tv i H.lt (by rw [off1, H.it]), cot_tile]
  rfl
theorem ws_prev (h : Fin 4) : ws c (grid0.coords t) p n 1 h = tile i (i - 1) (D.W h) := by
  refine ext2 fun a b => ?_
  rw [ws, cov4, H10_8_eq, scores_hit, H.ho, H.tv (i - 1) (by have := H.lt; omega) (by rw [off2, H.it]), cot_tile]
  rfl

theorem wLate_val : wLate c (grid0.coords t) p n x = tile i (i - 1) (D.W 3) := by
  rw [wLate]
  refine load4 p.hda _ _ 1 3 rfl _ fun a b => ?_
  show p.rda.view.read (Elt Ideal) (mid c (grid0.coords t) p n x).da _ = _
  rw [mid_da, H10_8_eq, scores_hit, H.ho, H.tv (i - 1) (by have := H.lt; omega) (by rw [off2, H.it]), cot_tile]
  rfl

theorem wPrev_val (h : Fin 4) : wPrev c (grid0.coords t) p n x h = tile i (i - 1) (D.W h) := by
  fin_cases h
  exacts [ws_prev H 0, ws_prev H 1, ws_prev H 2, wLate_val H x]

omit H in
theorem later_def : (start.sl.v29 : FVec Ideal S256x256 .bf16) = k0_pay27 := rfl
omit H in
theorem from_def : (start.sl.v33 : FVec Ideal S256x256 .bf16) = k0_pay28 := rfl

theorem dA_val (h : Fin 4) : dA c (grid0.coords t) p n h = tile i i (D.A h) := by
  rw [dA, zs_diag H, later_def, diagA_val D h H.lt]; rfl
theorem dD_val (h : Fin 4) : dD c (grid0.coords t) p n h = tile i i (D.dz h) := by
  rw [dD, zs_diag H, ws_diag H, H.hd, later_def, from_def, diagD_val D h H.lt]
theorem dLs_val (h : Fin 4) : diagLs (zs c (grid0.coords t) p n 0 h) = colAt i fun r => D.cl h r i := by
  rw [zs_diag H, diagLs_val D h H.lt]
theorem gSum_val (h : Fin 4) : gSum c (grid0.coords t) p n h = colAt i fun r => D.cg h r i := by
  rw [gSum, zs_diag H, ws_diag H, later_def, diagGs_val D h H.lt]

theorem cnt_pos (h0 : 0 < i) : cnt (grid0.coords t) = 1#1 := by rw [cnt_cond, H.it, if_pos h0]
theorem cnt_not (h0 : i = 0) : cnt (grid0.coords t) = 0#1 := by rw [cnt_cond, H.it, if_neg (by omega)]

/-- The tile left of the diagonal, where there is one. -/
theorem pA_val (h0 : 0 < i) (h : Fin 4) : pA c (grid0.coords t) p n h = tile i (i - 1) (D.A h) := by
  rw [pA, cnt_pos H h0, zs_prev H, dLs_val H, later_def]
  obtain ⟨j, rfl⟩ := Nat.exists_eq_succ_of_ne_zero h0.ne'
  exact congrArg bf (prevA_val D h H.lt)
theorem pD_val (h0 : 0 < i) (h : Fin 4) : pD c (grid0.coords t) p n x h = tile i (i - 1) (D.dz h) := by
  rw [pD, cnt_pos H h0, zs_prev H, wPrev_val H, dLs_val H, gSum_val H, H.hd, later_def, from_def]
  obtain ⟨j, rfl⟩ := Nat.exists_eq_succ_of_ne_zero h0.ne'
  exact prevD_val D h H.lt
theorem nextL_val (h0 : 0 < i) (h : Fin 4) : nextL c (grid0.coords t) p n h = colAt i fun r => D.cl h r (i - 1) := by
  rw [nextL, dLs_val H, zs_prev H]
  obtain ⟨j, rfl⟩ := Nat.exists_eq_succ_of_ne_zero h0.ne'
  show addf (colAt (j + 1) fun r => D.cl h r (j + 1)) (rowT (cellL (tile (j + 1) j (D.Z h)))) = colAt (j + 1) fun r => D.cl h r j
  rw [prevL_val D h H.lt]; exact left_cl D h (j + 1) j (by omega) H.lt
theorem nextG_val (h0 : 0 < i) (h : Fin 4) : nextG c (grid0.coords t) p n x h = colAt i fun r => D.cg h r (i - 1) := by
  rw [nextG, cnt_pos H h0, gSum_val H, zs_prev H, wPrev_val H, dLs_val H, later_def]
  obtain ⟨j, rfl⟩ := Nat.exists_eq_succ_of_ne_zero h0.ne'
  show addf (colAt (j + 1) fun r => D.cg h r (j + 1)) (rowT (prevG 1#1 k0_pay27 (tile (j + 1) j (D.Z h)) (tile (j + 1) j (D.W h)) (colAt (j + 1) fun r => D.cl h r (j + 1))))
    = colAt (j + 1) fun r => D.cg h r j
  rw [prevG_val D h H.lt]; exact any_cg D h (j + 1) j (by omega) H.lt (by have := H.lt; omega)

theorem pA_none (h0 : i = 0) (h : Fin 4) : pA c (grid0.coords t) p n h = up fun _ _ => 0 := by
  rw [pA, cnt_not H h0, zs_prev H, dLs_val H, later_def, noneA _ (fun _ _ => 0)]; rfl
theorem pD_none (h0 : i = 0) (h : Fin 4) : pD c (grid0.coords t) p n x h = up fun _ _ => 0 := by
  rw [pD, cnt_not H h0, zs_prev H, wPrev_val H, dLs_val H, gSum_val H, H.hd, later_def, from_def, noneD]

/-- The sums handed on are some numbers, so the walk is entered where a tile is left. -/
theorem nextL_some (h : Fin 4) : ∃ f, nextL c (grid0.coords t) p n h = col f := by
  rw [nextL, dLs_val H, zs_prev H, cellL, lsT_up, subf_up, rowT_up, addf_col]
  exact ⟨_, rfl⟩

theorem go_val : go c (grid0.coords t) p n = 1#1 ↔ 1 < i := by
  obtain ⟨f0, e0⟩ := nextL_some H 0
  obtain ⟨f1, e1⟩ := nextL_some H 1
  obtain ⟨f2, e2⟩ := nextL_some H 2
  obtain ⟨f3, e3⟩ := nextL_some H 3
  rw [go_eq, e0, e1, e2, e3, live_col, H.it]
  have key : ∀ i : Fin 16, (Scalar.andi (Scalar.cmpi .sgt (Scalar.subi (BitVec.ofNat 32 i.val) 1#32) 0#32) 1#1 = 1#1 ↔ 1 < i.val) := by decide +kernel
  exact key ⟨i, H.lt⟩

end
end AttnB
-- ==== Proof.AttnDone.lean ====
/-
  A whole grid point in the real numbers: from the sums over the rows before it to the sums with its own rows, and the staged results.
-/
module

public import proofs.«01_k».proof.Proof.AttnBegin

@[expose] public section

noncomputable section

namespace AttnB

open Cert.AttnBIdeal Cert.AttnBIdeal.Gen
open Idealize.ShloMosaic Idealize.ShloMosaic.TcCoe Idealize.ShloMosaic.Tactic

/-- The sums over the rows before a tile of rows. -/
def base (f : Fin 4 → ℕ → ℕ → ℝ) (g : Fin 4 → ℕ → Fin 256 → ℝ) (i s : ℕ) (l : Fin 256) : ℝ := ∑ h, ∑ r ∈ Finset.range (256 * i), f h r s * g h r l

theorem part_from (f : Fin 4 → ℕ → ℕ → ℝ) (g : Fin 4 → ℕ → Fin 256 → ℝ) (hf : ∀ h r s, r ≤ s → f h r s = 0) (i s : ℕ) (l : Fin 256) :
    part f g i (i + 1) s l = base f g i s l := by
  rw [part, base]
  by_cases hs : 256 * (i + 1) ≤ s
  · rw [if_pos hs]
    refine add_eq_left.2 (Finset.sum_eq_zero fun h _ => Finset.sum_eq_zero fun r hr => ?_)
    rw [hf h r s (by have := Finset.mem_Ico.1 hr; omega), zero_mul]
  · rw [if_neg hs, add_zero]

theorem part_all (f : Fin 4 → ℕ → ℕ → ℝ) (g : Fin 4 → ℕ → Fin 256 → ℝ) (i s : ℕ) (l : Fin 256) :
    part f g i 0 s l = base f g (i + 1) s l := by
  rw [part, base, if_pos (by omega), ← Finset.sum_add_distrib]
  exact Finset.sum_congr rfl fun h _ => Finset.sum_range_add_sum_Ico _ (by omega)

/-- The scratch buffers between two grid points of a block. -/
structure Kept (D : Data) (i : ℕ) (x : Mem Ideal) : Prop where
  kh : ∀ (h : Fin 4) (r : Fin 4096) (l : Fin 256), x.kh (ix3 h r l) = ((D.Km h r.val l : ℝ) : EReal)
  dk : ∀ (s : Fin 4096) (l : Fin 256), x.dk (ix2 s l) = ((base D.dz D.Q i s.val l : ℝ) : EReal)
  dv : ∀ (s : Fin 4096) (l : Fin 256), x.dv (ix2 s l) = ((base D.A D.O i s.val l : ℝ) : EReal)

theorem Bufs.kept {D : Data} {i : ℕ} {x : Mem Ideal} (hx : Bufs D i 0 x) : Kept D (i + 1) x where
  kh := hx.kh
  dk := fun s l => by rw [hx.dk, part_all]
  dv := fun s l => by rw [hx.dv, part_all]

/-- Nothing added to a tile of columns leaves the buffer. -/
theorem store_none {m : Memref sig .tc .vmem S4096x256 .f32} (hm : m.IsWhole) (X : Vec Ideal S4096x256 .f32) {off : Fin 2 → ℕ} {o : ℕ}
    (ho : o + 256 ≤ 4096) (e : off = ![o, 0]) (inb : ∀ b, off b + S256x256.size b ≤ S4096x256.size b) (s : Fin 4096) (l : Fin 256) (w : ℝ)
    (f : ℕ → Fin 256 → ℝ) (hX : ∀ (s : Fin 4096) (l : Fin 256), X (ix2 s l) = ((f s.val l : ℝ) : EReal)) :
    m.view.read (Elt Ideal) (addTo m hm X off inb (up fun _ _ => 0)) (ix2 s l) = X (ix2 s l) := by
  subst e
  by_cases hs : o ≤ s.val ∧ s.val < o + 256
  · refine (View.read_writes_cons_unit_of_mem m.view (hm.unread X) inb _ [] (ix2 s l) (ix2 ⟨s.val - o, by omega⟩ l) rfl
      (fun b => by fin_cases b <;> simp [ix2]; omega)).trans ?_
    have hc : ∀ P : FVec Ideal S256x256 .f32, (shapeCast S256x256 P shapeCasts_S256x256_S256x256 : FVec Ideal S256x256 .f32) = P := fun P => by
      funext y; pointwise []
    rw [hc, rows2, load2 hm X inb o ho rfl (fun p q => f (o + p.val) q) (fun p q => hX _ q), addf_up, hX]
    refine congrArg Real.toEReal ?_
    show f (o + (s.val - o)) l + 0 = _
    rw [Nat.add_sub_cancel' hs.1, add_zero]
  · refine (View.read_writes_cons_unit_of_not_mem m.view (hm.unread X) inb _ [] (ix2 s l) rfl 0 (by
      show s.val < o ∨ o + 256 ≤ s.val
      omega)).trans ?_
    show m.view.read (Elt Ideal) (hm.unread X) (ix2 s l) = _
    rw [hm.read_unread]

section
variable {D : Data} {c : Dev nD} {t : Fin grid0.N} {i : ℕ} {p : Refs} {n : Ins Ideal} (H : Reads D c t i p n) (x : Mem Ideal)
include H

theorem sumTn_val (f : Fin 4 → ℕ → ℕ → ℝ) (g : Fin 4 → ℕ → Fin 256 → ℝ) (j : ℕ) (a b : Fin 4 → FVec Ideal S256x256 .bf16) (ha : ∀ h, a h = tile i j (f h))
    (hb : ∀ h, b h = rows i (g h)) : sumTn a b = sum4 (tn (tile i j (f 0)) (rows i (g 0))) (tn (tile i j (f 1)) (rows i (g 1))) (tn (tile i j (f 2)) (rows i (g 2)))
      (tn (tile i j (f 3)) (rows i (g 3))) := by
  rw [sumTn, ha, ha, ha, ha, hb, hb, hb, hb]

theorem sumTn_none (a b : Fin 4 → FVec Ideal S256x256 .bf16) (g : Fin 4 → ℕ → Fin 256 → ℝ) (ha : ∀ h, a h = up fun _ _ => 0)
    (hb : ∀ h, b h = rows i (g h)) : sumTn a b = up fun _ _ => 0 := by
  have e : ∀ h : Fin 4, tn (F := Ideal) (up fun _ _ => 0) (rows i (g h)) = up fun _ _ => 0 := fun h => by
    rw [tn_up]; simp only [zero_mul, Finset.sum_const_zero]
  rw [sumTn, ha, ha, ha, ha, hb, hb, hb, hb, e, e, e, e, sum4, addf_up, addf_up, addf_up]
  simp only [add_zero]

/-- After the start: the masked keys are there, and the sums are those of the rows before. -/
theorem kept1 (hx : 0 < i → Kept D i x) : Kept D i (mem1 c (grid0.coords t) p n x) := by
  by_cases h0 : i = 0
  · have hc : start.sl.v23 (grid0.coords t) = 1#1 := (first_cond t).2 (by rw [H.it, h0])
    have z0 : (k0_pay26 : FVec Ideal S4096x256 .f32) = fun _ => 0 := by funext y; pointwise [k0_pay26]
    have zr : ∀ (m : Memref sig .tc .vmem S4096x256 .f32) (f : m.view.ty.Contents (Elt Ideal)) (s : Fin 4096) (l : Fin 256),
        m.view.read (Elt Ideal) (m.view.writes (Elt Ideal) f [⟨Rect.unit (s := S4096x256) ![0, 0] S4096x256.size inb_S4096x256_S4096x256_0_0, (k0_pay26 : FVec Ideal S4096x256 .f32)⟩]) (ix2 s l) = 0 :=
      fun m f s l => (View.read_writes_cons_unit_of_mem m.view f inb_S4096x256_S4096x256_0_0 _ [] (ix2 s l) (ix2 s l) rfl
        (fun b => by fin_cases b <;> simp [ix2])).trans (by rw [z0])
    refine ⟨fun h r l => ?_, fun s l => ?_, fun s l => ?_⟩
    · show p.rkh.view.read (Elt Ideal) (start c (grid0.coords t) p n x).kh _ = _
      rw [start_kh, dif_pos hc, kh_all, H.kh]
    · show p.rdk.view.read (Elt Ideal) (start c (grid0.coords t) p n x).dk _ = _
      rw [start_dk, dif_pos hc, zr, base, h0]; simp
    · show p.rdv.view.read (Elt Ideal) (start c (grid0.coords t) p n x).dv _ = _
      rw [start_dv, dif_pos hc, zr, base, h0]; simp
  · have hc : ¬ start.sl.v23 (grid0.coords t) = 1#1 := fun h => h0 (by rw [← H.it]; exact (first_cond t).1 h)
    have hx := hx (by omega)
    refine ⟨fun h r l => ?_, fun s l => ?_, fun s l => ?_⟩
    · show p.rkh.view.read (Elt Ideal) (start c (grid0.coords t) p n x).kh _ = _
      rw [start_kh, dif_neg hc, p.hkh.read_unread, hx.kh]
    · show p.rdk.view.read (Elt Ideal) (start c (grid0.coords t) p n x).dk _ = _
      rw [start_dk, dif_neg hc, p.hdk.read_unread, hx.dk]
    · show p.rdv.view.read (Elt Ideal) (start c (grid0.coords t) p n x).dv _ = _
      rw [start_dv, dif_neg hc, p.hdv.read_unread, hx.dv]

variable (hx : 0 < i → Kept D i x)
include hx

theorem kh2 (h : Fin 4) (r : Fin 4096) (l : Fin 256) : (mem2 c (grid0.coords t) p n x).kh (ix3 h r l) = ((D.Km h r.val l : ℝ) : EReal) := (kept1 H x hx).kh h r l

theorem dv2 (s : Fin 4096) (l : Fin 256) : (mem2 c (grid0.coords t) p n x).dv (ix2 s l) = ((part D.A D.O i i s.val l : ℝ) : EReal) := by
  show p.rdv.view.read (Elt Ideal) (mid c (grid0.coords t) p n x).dv _ = _
  rw [mid_dv]
  refine part_store p.hdv _ D.A D.O i i H.lt (fun s l => ?_) (by rw [off3, H.it]) _ _ ?_ s l
  · rw [part_from _ _ (fun h r s => D.A_zero h r s)]; exact (kept1 H x hx).dv s l
  · rw [sumTn_val H D.A D.O i _ _ (dA_val H) H.ho]; rfl

theorem dv3 (s : Fin 4096) (l : Fin 256) : (mem3 c (grid0.coords t) p n x).dv (ix2 s l) = ((part D.A D.O i (i - 1) s.val l : ℝ) : EReal) := by
  show p.rdv.view.read (Elt Ideal) (late c (grid0.coords t) p n x).dv _ = _
  rw [late_dv]
  by_cases h0 : i = 0
  · rw [sumTn_none H _ _ D.O (pA_none H h0) H.ho,
      store_none p.hdv _ (o := 256 * (i - 1)) (by have := H.lt; omega) (by rw [off4, H.it]) _ s l 0 _ (dv2 H x hx), dv2 H x hx]
    subst h0; rfl
  · obtain ⟨j, rfl⟩ := Nat.exists_eq_succ_of_ne_zero h0
    refine part_store p.hdv _ D.A D.O (j + 1) j (by have := H.lt; omega) (dv2 H x hx) (by rw [off4, H.it]; rfl) _ _ ?_ s l
    rw [sumTn_val H D.A D.O j _ _ (pA_val H (Nat.succ_pos j)) H.ho]; rfl

theorem dk3 (s : Fin 4096) (l : Fin 256) : (mem3 c (grid0.coords t) p n x).dk (ix2 s l) = ((part D.dz D.Q i i s.val l : ℝ) : EReal) := by
  show p.rdk.view.read (Elt Ideal) (late c (grid0.coords t) p n x).dk _ = _
  rw [late_dk]
  refine part_store p.hdk _ D.dz D.Q i i H.lt (fun s l => ?_) (by rw [off3, H.it]) _ _ ?_ s l
  · rw [part_from _ _ (fun h r s => D.dz_zero h r s)]; exact (kept1 H x hx).dk s l
  · rw [sumTn_val H D.dz D.Q i _ _ (dD_val H) H.hq]; rfl

theorem dk4 (s : Fin 4096) (l : Fin 256) : (mem4 c (grid0.coords t) p n x).dk (ix2 s l) = ((part D.dz D.Q i (i - 1) s.val l : ℝ) : EReal) := by
  show p.rdk.view.read (Elt Ideal) (last c (grid0.coords t) p n x).dk _ = _
  rw [last_dk]
  by_cases h0 : i = 0
  · rw [sumTn_none H _ _ D.Q (pD_none H x h0) H.hq,
      store_none p.hdk _ (o := 256 * (i - 1)) (by have := H.lt; omega) (by rw [off4, H.it]) _ s l 0 _ (dk3 H x hx), dk3 H x hx]
    subst h0; rfl
  · obtain ⟨j, rfl⟩ := Nat.exists_eq_succ_of_ne_zero h0
    refine part_store p.hdk _ D.dz D.Q (j + 1) j (by have := H.lt; omega) (dk3 H x hx) (by rw [off4, H.it]; rfl) _ _ ?_ s l
    rw [sumTn_val H D.dz D.Q j _ _ (pD_val H x (Nat.succ_pos j)) H.hq]; rfl

/-! The rows' sums. -/

theorem kh_rows (h : Fin 4) (j : ℕ) (hj : j < 16) {off : Fin 3 → ℕ} (e : off = ![h.val, 256 * j, 0]) (inb) :
    khRows p (mem2 c (grid0.coords t) p n x).kh off inb = rows j (D.Km h) :=
  load3b p.hkh _ inb h (256 * j) (by omega) e _ fun a b => kh2 H x hx h _ b

/-- One head's rows of the queries' gradient, the columns from `J` on. -/
def dqSum (D : Data) (h : Fin 4) (i J : ℕ) (p l : Fin 256) : ℝ := ∑ s ∈ Finset.Ico (256 * J) 4096, D.dz h (256 * i + p.val) s * D.Km h s l

omit H hx in
theorem dq_first (h : Fin 4) (hi : i < 16) : nn (F := Ideal) (tile i i (D.dz h)) (rows i (D.Km h)) = up (dqSum D h i i) := by
  rw [nn_tile]
  refine congrArg up (funext fun a => funext fun l => ?_)
  rw [dqSum, ← Finset.sum_Ico_consecutive _ (show 256 * i ≤ 256 * (i + 1) by omega) (show 256 * (i + 1) ≤ 4096 by omega),
    Finset.sum_eq_zero (s := Finset.Ico (256 * (i + 1)) 4096) (fun s hs => ?_), add_zero]
  rw [D.dz_zero h _ s (by have := a.isLt; have := Finset.mem_Ico.1 hs; omega), zero_mul]

theorem dq_diag (h : Fin 4) {off : Fin 3 → ℕ} (e : off = ![h.val, 256 * i, 0]) (inb) :
    nn (dD c (grid0.coords t) p n h) (khRows p (mem2 c (grid0.coords t) p n x).kh off inb) = up (dqSum D h i i) := by
  rw [dD_val H, kh_rows H x hx h i H.lt e, dq_first h H.lt]

theorem dq_prev (h : Fin 4) {off : Fin 3 → ℕ} (e : off = ![h.val, 256 * (i - 1), 0]) (inb) {P : FVec Ideal S256x256 .f32} (hP : P = up (dqSum D h i i)) :
    addf P (nn (pD c (grid0.coords t) p n x h) (khRows p (mem2 c (grid0.coords t) p n x).kh off inb)) = up (dqSum D h i (i - 1)) := by
  rw [hP, kh_rows H x hx h (i - 1) (by have := H.lt; omega) e]
  by_cases h0 : i = 0
  · rw [pD_none H x h0, nn_up, addf_up]; subst h0; simp only [zero_mul, Finset.sum_const_zero, add_zero]
  · obtain ⟨j, rfl⟩ := Nat.exists_eq_succ_of_ne_zero h0
    rw [pD_val H x (Nat.succ_pos j)]
    show addf _ (nn (tile (j + 1) j (D.dz h)) (rows j (D.Km h))) = up (dqSum D h (j + 1) j)
    rw [nn_tile, addf_up]
    refine congrArg up (funext fun a => funext fun l => ?_)
    rw [dqSum, dqSum, add_comm, Finset.sum_Ico_consecutive _ (by omega) (by have := H.lt; omega)]

/-- The four heads after the tile on the diagonal. -/
theorem read4 (h : Fin 4) (f : p.rdq.view.ty.Contents (Elt Ideal)) (a l : Fin 256) :
    p.rdq.view.read (Elt Ideal) (p.rdq.view.writes (Elt Ideal) f (dq4 c (grid0.coords t) p n x)) (ix3 h a l) = ((dqSum D h i i a l : ℝ) : EReal) := by
  rw [dq4, dq_diag H x hx 3 (by rw [off8, H.it]; rfl), dq_diag H x hx 2 (by rw [off7, H.it]; rfl), dq_diag H x hx 1 (by rw [off6, H.it]; rfl), dq_diag H x hx 0 (by rw [off5, H.it]; rfl)]
  fin_cases h
  · exact (dq_miss p.rdq f _ 3 0 (by decide) _ a l).trans ((dq_miss p.rdq f _ 2 0 (by decide) _ a l).trans ((dq_miss p.rdq f _ 1 0 (by decide) _ a l).trans (dq_hit p.rdq f _ 0 _ a l)))
  · exact (dq_miss p.rdq f _ 3 1 (by decide) _ a l).trans ((dq_miss p.rdq f _ 2 1 (by decide) _ a l).trans (dq_hit p.rdq f _ 1 _ a l))
  · exact (dq_miss p.rdq f _ 3 2 (by decide) _ a l).trans (dq_hit p.rdq f _ 2 _ a l)
  · exact dq_hit p.rdq f _ 3 _ a l

theorem read5 (h : Fin 4) (f : p.rdq.view.ty.Contents (Elt Ideal)) (a l : Fin 256) :
    p.rdq.view.read (Elt Ideal) (p.rdq.view.writes (Elt Ideal) f (dq5 c (grid0.coords t) p n x)) (ix3 h a l)
      = ((dqSum D h i (if h.val < 1 then i - 1 else i) a l : ℝ) : EReal) := by
  rw [dq5, dq_prev H x hx 0 (by rw [off9, H.it]; rfl) _ (ext2 fun a b => (cov3 p _ 0 a b).trans (read4 H x hx 0 _ a b))]
  by_cases h0 : h = 0
  · subst h0; exact dq_hit p.rdq f _ 0 _ a l
  · have := Fin.val_ne_of_ne h0
    rw [dq_miss p.rdq f _ 0 h (Ne.symm h0), if_neg (by show ¬ h.val < 1; simp at this; omega)]; exact read4 H x hx h f a l

theorem read6 (h : Fin 4) (f : p.rdq.view.ty.Contents (Elt Ideal)) (a l : Fin 256) :
    p.rdq.view.read (Elt Ideal) (p.rdq.view.writes (Elt Ideal) f (dq6 c (grid0.coords t) p n x)) (ix3 h a l)
      = ((dqSum D h i (if h.val < 2 then i - 1 else i) a l : ℝ) : EReal) := by
  rw [dq6, dq_prev H x hx 1 (by rw [off10, H.it]; rfl) _ (ext2 fun a b => (cov3 p _ 1 a b).trans (read5 H x hx 1 _ a b))]
  by_cases h0 : h = 1
  · subst h0; exact dq_hit p.rdq f _ 1 _ a l
  · have := Fin.val_ne_of_ne h0
    rw [dq_miss p.rdq f _ 1 h (Ne.symm h0), read5 H x hx h f a l]
    simp only [show (h.val < 1 ↔ h.val < 2) by simp at this; omega]

theorem read7 (h : Fin 4) (f : p.rdq.view.ty.Contents (Elt Ideal)) (a l : Fin 256) :
    p.rdq.view.read (Elt Ideal) (p.rdq.view.writes (Elt Ideal) f (dq7 c (grid0.coords t) p n x)) (ix3 h a l)
      = ((dqSum D h i (if h.val < 3 then i - 1 else i) a l : ℝ) : EReal) := by
  rw [dq7, dq_prev H x hx 2 (by rw [off11, H.it]; rfl) _ (ext2 fun a b => (cov3 p _ 2 a b).trans (read6 H x hx 2 _ a b))]
  by_cases h0 : h = 2
  · subst h0; exact dq_hit p.rdq f _ 2 _ a l
  · have := Fin.val_ne_of_ne h0
    rw [dq_miss p.rdq f _ 2 h (Ne.symm h0), read6 H x hx h f a l]
    simp only [show (h.val < 2 ↔ h.val < 3) by simp at this; omega]

theorem dq3 (h : Fin 4) (a l : Fin 256) : (mem3 c (grid0.coords t) p n x).dq (ix3 h a l) = ((dqSum D h i (if h.val < 3 then i - 1 else i) a l : ℝ) : EReal) := by
  show p.rdq.view.read (Elt Ideal) (late c (grid0.coords t) p n x).dq _ = _
  rw [late_dq]; exact read7 H x hx h _ a l

theorem dq4_val (h : Fin 4) (a l : Fin 256) : (mem4 c (grid0.coords t) p n x).dq (ix3 h a l) = ((dqSum D h i (i - 1) a l : ℝ) : EReal) := by
  show p.rdq.view.read (Elt Ideal) (last c (grid0.coords t) p n x).dq _ = _
  rw [last_dq]
  have hl : dqRows p (mem3 c (grid0.coords t) p n x).dq ![3, 0, 0] (inb3 3) = up (dqSum D 3 i i) :=
    load3 p.hdq _ _ 3 0 (by omega) rfl _ fun a b => by
      rw [show (⟨0 + a.val, by omega⟩ : Fin 256) = a from Fin.ext (Nat.zero_add _)]; exact dq3 H x hx 3 a b
  rw [show (mem3 c (grid0.coords t) p n x).kh = (mem2 c (grid0.coords t) p n x).kh from rfl, dq_prev H x hx 3 (by rw [off12, H.it]; rfl) _ hl]
  by_cases h0 : h = 3
  · subst h0; exact dq_hit p.rdq _ _ 3 _ a l
  · have := Fin.val_ne_of_ne h0
    rw [dq_miss p.rdq _ _ 3 h (Ne.symm h0)]
    show p.rdq.view.read (Elt Ideal) (p.hdq.unread (mem3 c (grid0.coords t) p n x).dq) _ = _
    rw [p.hdq.read_unread, dq3 H x hx h a l, if_pos (by have := h.isLt; simp at this ⊢; omega)]

theorem bufs4 : Bufs D i (i - 1) (mem4 c (grid0.coords t) p n x) where
  kh := kh2 H x hx
  dk := dk4 H x hx
  dv := dv3 H x hx
  dq := dq4_val H x hx

omit hx in
theorem scored4 (h1 : 1 < i) : Scored D i (i - 2) 0 (mem4 c (grid0.coords t) p n x) := by
  have hc : last.sl.v809 c (grid0.coords t) p n = 1#1 := by
    show Scalar.cmpi .ne (Scalar.extui (go c (grid0.coords t) p n)) 0#32 = 1#1
    rw [(go_val H).2 h1]; decide
  refine ⟨fun h a b => ?_, fun h a b => ?_⟩
  · show p.rz.view.read (Elt Ideal) (last c (grid0.coords t) p n x).z _ = _
    rw [last_z, dif_pos hc, scores_hit, H.hq, H.tk (i - 2) (by have := H.lt; omega) (by rw [off13, H.it]), score_tile]
    rfl
  · show p.rda.view.read (Elt Ideal) (last c (grid0.coords t) p n x).da _ = _
    rw [last_da, dif_pos hc, scores_hit, H.ho, H.tv (i - 2) (by have := H.lt; omega) (by rw [off13, H.it]), cot_tile]
    rfl

omit hx in
theorem fixed_at : FixedAt D t i (fixed c (grid0.coords t) p n) where
  ai := rfl
  it := H.it
  later := rfl
  from_s := rfl
  d0 := H.hd 0
  d1 := H.hd 1
  d2 := H.hd 2
  d3 := H.hd 3
  o0 := H.ho 0
  o1 := H.ho 1
  o2 := H.ho 2
  o3 := H.ho 3
  q0 := H.hq 0
  q1 := H.hq 1
  q2 := H.hq 2
  q3 := H.hq 3

omit hx in
theorem sums_at (h0 : 0 < i) : SumsAt D i (i - 1) (sums c (grid0.coords t) p n x) where
  l0 := (sums_l0 ..).trans (nextL_val H h0 0)
  l1 := (sums_l1 ..).trans (nextL_val H h0 1)
  l2 := (sums_l2 ..).trans (nextL_val H h0 2)
  l3 := (sums_l3 ..).trans (nextL_val H h0 3)
  g0 := (sums_g0 ..).trans (nextG_val H x h0 0)
  g1 := (sums_g1 ..).trans (nextG_val H x h0 1)
  g2 := (sums_g2 ..).trans (nextG_val H x h0 2)
  g3 := (sums_g3 ..).trans (nextG_val H x h0 3)

/-- After the grid point the rows' own sums are in. -/
theorem end_bufs : Bufs D i 0 (memEnd c (grid0.coords t) p n x) := by
  by_cases h0 : i = 0
  · rw [memEnd, walk, dif_neg (fun e => by have := (go_val H).1 e.1; omega)]
    have := bufs4 H x hx
    rwa [show i - 1 = 0 by omega] at this
  · exact walk_bufs (fixed_at H) c H.lt H.hk H.hv 16 0 (i - 1) _ _ _ (by omega) (by have := H.lt; omega)
      ((go_val H).trans (by omega)) (sums_at H x (by omega)) (bufs4 H x hx)
      fun h1 => scored4 H x (by omega)

/-! What is staged as the results. -/

theorem out_dq (y : Outs Ideal) (a l : Fin 256) : (outsEnd c (grid0.coords t) p n x y).dq (ix2 a l)
    = (((∑ h, dqSum D h i 0 a l) * (1 / 8) : ℝ) : EReal) := by
  show p.odq.view.read (Elt Ideal) (final c (grid0.coords t) p n x (memEnd c (grid0.coords t) p n x) y).dq _ = _
  have hl : ∀ h : Fin 4, ∀ inb, dqRows p (memEnd c (grid0.coords t) p n x).dq ![h.val, 0, 0] inb = up (dqSum D h i 0) := fun h inb =>
    load3 p.hdq _ _ h 0 (by omega) rfl _ fun a b => by
      rw [show (⟨0 + a.val, by omega⟩ : Fin 256) = a from Fin.ext (Nat.zero_add _), (end_bufs H x hx).dq]; rfl
  have h0 : dqRows p (memEnd c (grid0.coords t) p n x).dq ![0, 0, 0] (inb3 0) = up (dqSum D 0 i 0) := hl 0 _
  have h1 : dqRows p (memEnd c (grid0.coords t) p n x).dq ![1, 0, 0] (inb3 1) = up (dqSum D 1 i 0) := hl 1 _
  have h2 : dqRows p (memEnd c (grid0.coords t) p n x).dq ![2, 0, 0] (inb3 2) = up (dqSum D 2 i 0) := hl 2 _
  have h3 : dqRows p (memEnd c (grid0.coords t) p n x).dq ![3, 0, 0] (inb3 3) = up (dqSum D 3 i 0) := hl 3 _
  rw [final_dq, h0, h1, h2, h3]
  refine (View.read_writes_cons_unit_of_mem p.odq.view _ inb_S256x256_S256x256_0_0 _ [] (ix2 a l) (ix2 a l) rfl
    (fun b => by fin_cases b <;> simp [ix2])).trans ?_
  have e8 : Ideal.ofBits .f32 0x3E000000#32 = ((1 / 8 : ℝ) : EReal) := by
    simp [Ideal.ofBits, Ideal.ieee]; rw [← EReal.coe_mul]; norm_num
  rw [addf_up, addf_up]
  show (((dqSum D 0 i 0 a l + dqSum D 1 i 0 a l + dqSum D 2 i 0 a l : ℝ) : EReal) + ((dqSum D 3 i 0 a l : ℝ) : EReal)) * Ideal.ofBits .f32 0x3E000000#32 = _
  rw [e8, Fin.sum_univ_four, ← EReal.coe_add, ← EReal.coe_mul]

omit H hx in
theorem whole_load {m : Memref sig .tc .vmem S4096x256 .f32} (hm : m.IsWhole) (X : Vec Ideal S4096x256 .f32) (s : Fin 4096) (l : Fin 256) :
    View.readAt (Elt Ideal) m.view (Rect.unit (s := S4096x256) ![0, 0] S4096x256.size inb_S4096x256_S4096x256_0_0).toLoadRect (hm.unread X) (ix2 s l) = X (ix2 s l) := by
  rw [hm.readAt_unread]
  exact congrArg X (funext fun b => Fin.ext (by fin_cases b <;> simp [ix2]))

omit H hx in
theorem pay2_at (X : Vec Ideal S4096x256 .f32) (s : Fin 4096) (l : Fin 256) : (k0_pay2 X : FVec Ideal S4096x256 .bf16) (ix2 s l) = X (ix2 s l) * ((Real.log 2 : ℝ) : EReal) := rfl

omit H hx in
theorem pay3_at (X : Vec Ideal S4096x256 .f32) (s : Fin 4096) (l : Fin 256) : (k0_pay3 X : FVec Ideal S4096x256 .bf16) (ix2 s l) = X (ix2 s l) := rfl

theorem out_dk (y : Outs Ideal) (hi : i = 15) (s : Fin 4096) (l : Fin 256) : (outsEnd c (grid0.coords t) p n x y).dk (ix2 s l)
    = ((base D.dz D.Q 16 s.val l * Real.log 2 : ℝ) : EReal) := by
  show p.odk.view.read (Elt Ideal) (final c (grid0.coords t) p n x (memEnd c (grid0.coords t) p n x) y).dk _ = _
  rw [final_dk, dif_pos ((last_cond t).2 (by rw [H.it, hi]))]
  refine (View.read_writes_cons_unit_of_mem p.odk.view _ inb_S4096x256_S4096x256_0_0 _ [] (ix2 s l) (ix2 s l) rfl
    (fun b => by fin_cases b <;> simp [ix2])).trans ?_
  rw [pay2_at, whole_load, (end_bufs H x hx).kept.dk, hi, ← EReal.coe_mul]

theorem out_dv (y : Outs Ideal) (hi : i = 15) (s : Fin 4096) (l : Fin 256) : (outsEnd c (grid0.coords t) p n x y).dv (ix2 s l)
    = ((base D.A D.O 16 s.val l : ℝ) : EReal) := by
  show p.odv.view.read (Elt Ideal) (final c (grid0.coords t) p n x (memEnd c (grid0.coords t) p n x) y).dv _ = _
  rw [final_dv, dif_pos ((last_cond t).2 (by rw [H.it, hi]))]
  refine (View.read_writes_cons_unit_of_mem p.odv.view _ inb_S4096x256_S4096x256_0_0 _ [] (ix2 s l) (ix2 s l) rfl
    (fun b => by fin_cases b <;> simp [ix2])).trans ?_
  rw [pay3_at, whole_load, (end_bufs H x hx).kept.dv, hi]

end
end AttnB
-- ==== Proof.AttnKeep.lean ====
/-
  What the grid keeps, point after point: the sums over the rows before, and each result's block as the reference's gradient there.
-/
module

public import proofs.«01_k».proof.Proof.AttnIn
public import proofs.«01_k».proof.Proof.AttnDone

@[expose] public section

set_option maxRecDepth 16384

noncomputable section

namespace AttnB

open Cert.AttnBIdeal Cert.AttnBIdeal.Gen
open Idealize.ShloMosaic Idealize.ShloMosaic.TcCoe Idealize.ShloMosaic.Tactic

/-- An array's numbers. -/
def num (x : FVec Ideal S4096x512 .f32) (r L : ℕ) : ℝ := if h : r < 4096 ∧ L < 512 then (x (ix2 ⟨r, h.1⟩ ⟨L, h.2⟩) : EReal).toReal else 0

/-- An array is finite. -/
def Real' (x : FVec Ideal S4096x512 .f32) : Prop := ∀ (r : Fin 4096) (L : Fin 512), (x (ix2 r L) : EReal) ≠ ⊤ ∧ (x (ix2 r L) : EReal) ≠ ⊥

theorem num_at {x : FVec Ideal S4096x512 .f32} (hx : Real' x) (r : Fin 4096) (L : Fin 512) : x (ix2 r L) = ((num x r.val L.val : ℝ) : EReal) := by
  rw [num, dif_pos ⟨r.isLt, L.isLt⟩]
  exact (EReal.coe_toReal (hx r L).1 (hx r L).2).symm

/-- A lane's head in its block, and its place there. -/
abbrev hd (l : Fin 256) : Fin 4 := ⟨l.val / 64, by omega⟩
abbrev place (l : Fin 256) : Fin 64 := ⟨l.val % 64, Nat.mod_lt _ (by omega)⟩

theorem own_one (w : Fin 4 → ℝ) (g : Fin 256 → ℝ) (l : Fin 256) : (∑ h : Fin 4, w h * (if l.val / 64 = h.val then g l else 0)) = w (hd l) * g l := by
  rw [Finset.sum_eq_single (hd l)]
  · rw [if_pos rfl]
  · intro b _ hb; rw [if_neg (fun e => hb (Fin.ext e.symm)), mul_zero]
  · exact fun h => absurd (Finset.mem_univ _) h

theorem base_own (f : Fin 4 → ℕ → ℕ → ℝ) (g : ℕ → Fin 256 → ℝ) (s : ℕ) (l : Fin 256) :
    base f (fun h => own h g) 16 s l = ∑ r ∈ Finset.range 4096, f (hd l) r s * g r l := by
  rw [base, Finset.sum_comm]
  exact Finset.sum_congr rfl fun r _ => own_one (fun h => f h r s) (g r) l

theorem dq_own (q k v o : ℕ → Fin 256 → ℝ) (i : ℕ) (a l : Fin 256) :
    (∑ h, dqSum (data q k v o) h i 0 a l) = ∑ s ∈ Finset.range 4096, (data q k v o).dz (hd l) (256 * i + a.val) s * k s l := by
  simp only [dqSum]
  rw [Finset.sum_comm, Nat.mul_zero, Nat.Ico_zero_eq_range]
  exact Finset.sum_congr rfl fun s _ => own_one (fun h => (data q k v o).dz h (256 * i + a.val) s) (k s) l

variable (m : (ℓ : Loc nD τ sig) → Buf (Elt Ideal) ℓ) (c : Dev nD)

/-- The arguments are finite. -/
structure Args : Prop where
  q : Real' (argOf m c main_arg0)
  k : Real' (argOf m c main_arg1)
  v : Real' (argOf m c main_arg2)
  o : Real' (argOf m c main_arg3)

abbrev nq := num (argOf m c main_arg0)
abbrev nk := num (argOf m c main_arg1)
abbrev nv := num (argOf m c main_arg2)
abbrev no := num (argOf m c main_arg3)

/-- A block of four heads. -/
abbrev dataAt (hp : ℕ) : Data := block (nq m c) (nk m c) (nv m c) (no m c) hp

/-- What the forward pass gives there. -/
def fwd (hp r : ℕ) (l : Fin 256) : ℝ := ∑ s ∈ Finset.range 4096, (dataAt m c hp).A (hd l) r s * nv m c s (256 * hp + l.val)

variable {m c} (H : Args m c) (t : Fin (cfg0 (F := Ideal)).N)

theorem head_lt : t.val / 16 < 2 := by have : t.val < 32 := t.isLt; omega

abbrev gh (l : Fin 256) : Fin 8 := ⟨4 * (t.val / 16) + l.val / 64, by have := head_lt t; omega⟩

theorem lane_of (l : Fin 256) : col2 t l = lane8 (gh t l) (place l) := Fin.ext (by show 256 * (t.val / 16) + l.val = 64 * (4 * (t.val / 16) + l.val / 64) + l.val % 64; omega)

theorem place_eq (l : Fin 256) : 256 * (t.val / 16) + (64 * (hd l).val + (place l).val) = 256 * (t.val / 16) + l.val := by
  show _ + (64 * (l.val / 64) + l.val % 64) = _; omega

include H

set_option maxHeartbeats 4000000 in
theorem given : Given (fun r l => nq m c r (256 * (t.val / 16) + l.val) * (1 / 8) / Real.log 2) (fun r l => nk m c r (256 * (t.val / 16) + l.val))
    (fun r l => nv m c r (256 * (t.val / 16) + l.val)) (fun r l => no m c r (256 * (t.val / 16) + l.val)) (fwd m c (t.val / 16)) (t.val % 16) (ins m c t) where
  hq p l := (in_q m c t p l).trans (packed_q _ _ _ _ _ _ (num_at H.q _ _))
  hk r l := (in_k m c t r l).trans ((packed_k _ _ _ _ _).trans (num_at H.k _ _))
  hv r l := (in_v m c t r l).trans ((packed_v _ _ _ _ _).trans (num_at H.v _ _))
  ho p l := by
    refine (in_o m c t p l).trans ?_
    rw [lane_of, ref_v26 (o := no m c) (hp := t.val / 16) (h := hd l) (num_at H.q) (num_at H.k) (num_at H.v) rfl, place_eq]
    rfl
  hd p l := (in_d m c t p l).trans (num_at H.o _ _)
  sum h r l hl _ := by
    obtain rfl : h = hd l := Fin.ext hl.symm
    rfl

theorem reads (p : Refs) : Reads (dataAt m c (t.val / 16)) c t (t.val % 16) p (ins m c t) :=
  (given H t).reads (Nat.mod_lt _ (by omega)) c (idx t).2.2.2.2.2.2.2.2 p

/-- A grid point's rows of the queries' gradient. -/
theorem dq_at (a l : Fin 256) : (((∑ h, dqSum (dataAt m c (t.val / 16)) h (t.val % 16) 0 a l) * (1 / 8) : ℝ) : EReal)
    = Cert.AttnBRefIdeal.Read.val_main_v52 (F := Ideal) (argOf m c main_arg0) (argOf m c main_arg1) (argOf m c main_arg2) (argOf m c main_arg3) (ix2 (row t a) (col2 t l)) := by
  rw [lane_of, ref_dq (hp := t.val / 16) (h := hd l) (num_at H.q) (num_at H.k) (num_at H.v) (num_at H.o) rfl, place_eq]
  refine congrArg Real.toEReal ?_
  rw [show dataAt m c (t.val / 16) = data _ _ _ _ from rfl, dq_own, Finset.sum_mul]
  exact Finset.sum_congr rfl fun s _ => mul_right_comm _ _ _

/-- A block's keys' gradient. -/
theorem dk_at (s : Fin 4096) (l : Fin 256) : ((base (dataAt m c (t.val / 16)).dz (dataAt m c (t.val / 16)).Q 16 s.val l * Real.log 2 : ℝ) : EReal)
    = Cert.AttnBRefIdeal.Read.val_main_v53 (F := Ideal) (argOf m c main_arg0) (argOf m c main_arg1) (argOf m c main_arg2) (argOf m c main_arg3) (ix2 s (col2 t l)) := by
  have h2 : Real.log 2 ≠ 0 := (Real.log_pos (by norm_num)).ne'
  rw [lane_of, ref_dk (hp := t.val / 16) (h := hd l) (num_at H.q) (num_at H.k) (num_at H.v) (num_at H.o) rfl, place_eq]
  refine congrArg Real.toEReal ?_
  rw [show (dataAt m c (t.val / 16)).Q = fun h => own h _ from rfl, base_own, Finset.sum_mul]
  exact Finset.sum_congr rfl fun r _ => by field_simp

/-- A block's values' gradient. -/
theorem dv_at (s : Fin 4096) (l : Fin 256) : ((base (dataAt m c (t.val / 16)).A (dataAt m c (t.val / 16)).O 16 s.val l : ℝ) : EReal)
    = Cert.AttnBRefIdeal.Read.val_main_v54 (F := Ideal) (argOf m c main_arg0) (argOf m c main_arg1) (argOf m c main_arg3) (ix2 s (col2 t l)) := by
  rw [lane_of, ref_dv (v := nv m c) (hp := t.val / 16) (h := hd l) (num_at H.q) (num_at H.k) (num_at H.o) rfl, place_eq]
  refine congrArg Real.toEReal ?_
  rw [show (dataAt m c (t.val / 16)).O = fun h => own h _ from rfl, base_own]

omit H in
/-- What each grid point leaves in the results. -/
def resAt (m : (ℓ : Loc nD τ sig) → Buf (Elt Ideal) ℓ) (c : Dev nD) (w : Fin (cfg0 (F := Ideal)).W) (t : Fin (cfg0 (F := Ideal)).N)
    (X : ((cfg0 (F := Ideal)).win w).block.Idx → Elt Ideal ((cfg0 (F := Ideal)).win w).elt) : Prop :=
  match w, X with
  | ⟨5, _⟩, X => ∀ a l : Fin 256, X (ix2 a l) = Cert.AttnBRefIdeal.Read.val_main_v52 (F := Ideal) (argOf m c main_arg0) (argOf m c main_arg1) (argOf m c main_arg2) (argOf m c main_arg3) (ix2 (row t a) (col2 t l))
  | ⟨6, _⟩, X => t.val % 16 = 15 → ∀ (s : Fin 4096) (l : Fin 256), X (ix2 s l) = Cert.AttnBRefIdeal.Read.val_main_v53 (F := Ideal) (argOf m c main_arg0) (argOf m c main_arg1) (argOf m c main_arg2) (argOf m c main_arg3) (ix2 s (col2 t l))
  | ⟨7, _⟩, X => t.val % 16 = 15 → ∀ (s : Fin 4096) (l : Fin 256), X (ix2 s l) = Cert.AttnBRefIdeal.Read.val_main_v54 (F := Ideal) (argOf m c main_arg0) (argOf m c main_arg1) (argOf m c main_arg3) (ix2 s (col2 t l))
  | _, _ => True

/-- The grid keeps the sums over the rows before each point, and leaves the reference's gradients. -/
def keeps : Keeps m c where
  inv t x := 0 < t.val % 16 → Kept (dataAt m c (t.val / 16)) (t.val % 16) x
  res := resAt m c
  start := fun x h => absurd h (by decide)
  step := fun t x y hx => by
    have hr := reads H t (refs (F := Ideal) t)
    refine ⟨fun h => ?_, fun a l => ?_, fun h s l => ?_, fun h s l => ?_⟩
    · have h' : 0 < (t.val + 1) % 16 := h
      show Kept (dataAt m c ((t.val + 1) / 16)) ((t.val + 1) % 16) _
      rw [show (t.val + 1) / 16 = t.val / 16 by omega, show (t.val + 1) % 16 = t.val % 16 + 1 by omega]
      exact (end_bufs hr x hx).kept
    · exact (out_dq hr x hx y a l).trans (dq_at H t a l)
    · exact (out_dk hr x hx y h s l).trans (dk_at H t s l)
    · exact (out_dv hr x hx y h s l).trans (dv_at H t s l)

end AttnB
-- ==== Proof.Attn.lean ====
/-
  The gradients of the attention: what the grid leaves in the three results is the reference's gradients.
-/
module

public import proofs.«01_k».proof.Defs
public import proofs.«01_k».proof.Proof.AttnKeep
public import proofs.«01_k».proof.Proof.Finite
public import proofs.«01_k».proof.Proof.Gen.AttnBRefIdeal.Run
public import proofs.«01_k».proof.Proof.Gen.Pre_finite_a

@[expose] public section

set_option maxRecDepth 16384

noncomputable section

namespace AttnB

open Cert.AttnBIdeal Cert.AttnBIdeal.Gen
open Idealize.ShloMosaic Idealize.ShloMosaic.TcCoe Idealize.ShloMosaic.Tactic Idealize.SL.Sem

variable (m : (ℓ : Loc nD τ sig) → Buf (Elt Ideal) ℓ) (c : Dev nD)

abbrev refQ : FVec Ideal S4096x512 .bf16 := Cert.AttnBRefIdeal.Read.val_main_v52 (F := Ideal) (argOf m c main_arg0) (argOf m c main_arg1) (argOf m c main_arg2) (argOf m c main_arg3)
abbrev refK : FVec Ideal S4096x512 .bf16 := Cert.AttnBRefIdeal.Read.val_main_v53 (F := Ideal) (argOf m c main_arg0) (argOf m c main_arg1) (argOf m c main_arg2) (argOf m c main_arg3)
abbrev refV : FVec Ideal S4096x512 .bf16 := Cert.AttnBRefIdeal.Read.val_main_v54 (F := Ideal) (argOf m c main_arg0) (argOf m c main_arg1) (argOf m c main_arg3)

variable (H : ∀ c : Dev nD, Args m c) {r : PUnit × MemSt nD τ sig (Elt Ideal)}
  (h : Pipeline.RDat.FramePost (cfg0 (F := Ideal)) (fun c => (dat m (fun c => keeps (H c)) c).toRRel (isRes (F := Ideal)) (keeps (H c)).res) (V m) r)

set_option maxHeartbeats 4000000 in
include h in
/-- The three results. -/
theorem out : r.2.mem ((c.tc : Thread nD τ).loc main_v39_0) = refQ m c ∧ r.2.mem ((c.tc : Thread nD τ).loc main_v39_1) = refK m c
    ∧ r.2.mem ((c.tc : Thread nD τ).loc main_v39_2) = refV m c := by
  obtain ⟨after, hL, hA⟩ := Pipeline.RDat.FramePost.exists_exact h c
  have l5 : ∀ t, resAt m c 5 t (after 5 t) := fun t => Pipeline.Dat.toRRel_leaves _ (w := 5) rfl (hL 5 t (flush0_5 t))
  have l6 : ∀ t, t.val % 16 = 15 → resAt m c 6 t (after 6 t) := fun t e => Pipeline.Dat.toRRel_leaves _ (w := 6) rfl (hL 6 t ((flush0_6 t).2 e))
  have l7 : ∀ t, t.val % 16 = 15 → resAt m c 7 t (after 7 t) := fun t e => Pipeline.Dat.toRRel_leaves _ (w := 7) rfl (hL 7 t ((flush0_7 t).2 e))
  refine ⟨(hA 5).trans ?_, (hA 6).trans ?_, (hA 7).trans ?_⟩
  · refine Pipeline.Dat.arrAt_eq_of_covers (((dat m (fun c => keeps (H c)) c).toRRel (isRes (F := Ideal)) (keeps (H c)).res).withAfter after) 5 (refQ m c) (by decide +kernel) fun t hf y => ?_
    blk_simp
    refine (congrArg (after 5 t) (eq_ix2 y)).trans ((l5 t (y 0) (y 1)).trans (congrArg (refQ m c) ?_))
    blk_ext [(idx t).2.2.2.2.2.1]
  · refine Pipeline.Dat.arrAt_eq_of_covers (((dat m (fun c => keeps (H c)) c).toRRel (isRes (F := Ideal)) (keeps (H c)).res).withAfter after) 6 (refK m c) (by decide +kernel) fun t hf y => ?_
    have e := (flush0_6 t).1 hf
    blk_simp
    refine (congrArg (after 6 t) (eq_ix2 y)).trans ((l6 t e e (y 0) (y 1)).trans (congrArg (refK m c) ?_))
    blk_ext [(idx t).2.2.2.2.2.2.1]
  · refine Pipeline.Dat.arrAt_eq_of_covers (((dat m (fun c => keeps (H c)) c).toRRel (isRes (F := Ideal)) (keeps (H c)).res).withAfter after) 7 (refV m c) (by decide +kernel) fun t hf y => ?_
    have e := (flush0_7 t).1 hf
    blk_simp
    refine (congrArg (after 7 t) (eq_ix2 y)).trans ((l7 t e e (y 0) (y 1)).trans (congrArg (refV m c) ?_))
    blk_ext [(idx t).2.2.2.2.2.2.2.1]

/-- The kernel's program terminates with its arguments unchanged and its counters at zero. -/
theorem quiescent {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨frame_of m (nothing m) h.1, h.2⟩) (run m ρ (nothing m))

/-- The plain program likewise. -/
theorem frame_ref : Cert.quiescent_AttnBRefIdeal := fun m ρ _ =>
  (θ_run Cert.AttnBRefIdeal.defs _ _).mono (fun r h => ⟨fun c => (h c).2.2.2, sem_eq_zero_of_no_sems (by decide) r.2⟩) (Cert.AttnBRefIdeal.Value.run m ρ)

theorem args_of (hpre : Cert.Pre_AttnBIdeal_finite_a m) : Args m c := by
  have hand : ∀ a b : BitVec 1, IntOp.andi a b = 1#1 → a = 1#1 ∧ b = 1#1 := by decide
  have h : ∀ i : S4096x512.Idx, _ := fun i => congrFun (hpre c) i
  exact ⟨fun r L => Cert.Pool.fin_of_abs_lt (hand _ _ (hand _ _ (hand _ _ (h (ix2 r L))).1).1).1, fun r L => Cert.Pool.fin_of_abs_lt (hand _ _ (hand _ _ (hand _ _ (h (ix2 r L))).1).1).2,
    fun r L => Cert.Pool.fin_of_abs_lt (hand _ _ (hand _ _ (h (ix2 r L))).1).2, fun r L => Cert.Pool.fin_of_abs_lt (hand _ _ (h (ix2 r L))).2⟩

/-- The kernel's gradients of the attention are the derivatives of the plain attention, wherever the arguments are finite. -/
theorem algebraic : Cert.algebraic_AttnBIdeal_AttnBRefIdeal_pre_finite_a := by
  intro m g m' g' hpre hag
  have H : ∀ c, Args m c := fun c => args_of m c hpre
  refine ⟨refQ m, refK m, refV m, (θ_run defs _ _).mono (fun r h c => ?_) (run m g fun c => keeps (H c)), (θ_run _ _ _).mono (fun r h c => ?_) (Cert.AttnBRefIdeal.Value.run m' g')⟩
  · obtain ⟨e0, e1, e2⟩ := out m c H h.1
    exact ⟨e0, e1, e2, frame_of m _ h.1 c⟩
  · obtain ⟨h52, h53, h54, hrest⟩ := h c
    obtain ⟨e0, e1, e2, e3⟩ := hag c
    refine ⟨h52.trans ?_, h53.trans ?_, h54.trans ?_, hrest⟩
    · rw [Cert.AttnBRefIdeal.Read.val_main_v52_eq, e0, e1, e2, e3]
    · rw [Cert.AttnBRefIdeal.Read.val_main_v53_eq, e0, e1, e2, e3]
    · rw [Cert.AttnBRefIdeal.Read.val_main_v54_eq, e0, e1, e3]

end AttnB
-- ==== Proof.Rms.lean ====
/-
  The gradient of the norm `x * rsqrt (mean x² + ε) * g` over one row of finite numbers: the hand-written form and the one the
  derivative's rules give are the same number.
-/
module

public import proofs.«01_k».proof.Proof.Pool

@[expose] public section

noncomputable section

namespace Cert.Rms

open Idealize.ShloMosaic Cert.Pool Cert.Win

/-- The norm's `ε`, `-1/2`, and the two row lengths, as both programs write them. -/
abbrev eps : EReal := Ideal.ofBits .f32 0x358637BD#32
abbrev half : EReal := Ideal.ofBits .f32 0xBF000000#32
abbrev w1024 : EReal := Ideal.ofBits .f32 0x44800000#32
abbrev w512 : EReal := Ideal.ofBits .f32 0x44000000#32

theorem eps_pos : ∃ e : ℝ, 0 < e ∧ eps = (e : EReal) := by
  refine ⟨8796093 / 8796093022208, by norm_num, ?_⟩
  simp [eps, Ideal.ofBits, Ideal.ieee]
  rw [← EReal.coe_mul]
  norm_num
theorem half_eq : half = ((-1 / 2 : ℝ) : EReal) := by
  simp [half, Ideal.ofBits, Ideal.ieee]
  rw [← EReal.coe_mul]
  norm_num
theorem w1024_eq : w1024 = ((1024 : ℝ) : EReal) := by
  simp [w1024, Ideal.ofBits, Ideal.ieee]
  rw [← EReal.coe_mul]
  norm_num
theorem w512_eq : w512 = ((512 : ℝ) : EReal) := by
  simp [w512, Ideal.ofBits, Ideal.ieee]
  rw [← EReal.coe_mul]
  norm_num

variable {n : ℕ} (N : EReal) (x g d : Fin n → EReal)

/-- The mean square plus `ε`, and its inverse root. -/
def ms : EReal := Ideal.div (∑ k, x k * x k) N + eps
def root : EReal := Ideal.rsqrt (ms N x)

/-- The gradient as the kernel writes it. -/
def hand (k : Fin n) : EReal := root N x * (d k * g k - x k * root N x * Ideal.div (∑ j, d j * g j * (x j * root N x)) N)

/-- The coefficient of `x` in the derivative, which its rules add twice. -/
def coef : EReal := Ideal.div ((∑ j, x j * (d j * g j)) * (half * Ideal.div (root N x) (ms N x))) N

/-- A sum of products of finite numbers is finite. -/
theorem fin_sum {ι : Type*} (s : Finset ι) (f : ι → EReal) (hf : ∀ i, Fin' (f i)) : Fin' (∑ i ∈ s, f i) := by
  rw [show ∑ i ∈ s, f i = ((∑ i ∈ s, (f i).toReal : ℝ) : EReal) by
    rw [coe_sum]; exact Finset.sum_congr rfl fun i _ => (coe_toReal (hf i)).symm]
  exact ⟨EReal.coe_ne_top _, EReal.coe_ne_bot _⟩

theorem fin_mul {a b : EReal} (ha : Fin' a) (hb : Fin' b) : Fin' (a * b) := by
  rw [← coe_toReal ha, ← coe_toReal hb, ← EReal.coe_mul]
  exact ⟨EReal.coe_ne_top _, EReal.coe_ne_bot _⟩

theorem fin_add {a b : EReal} (ha : Fin' a) (hb : Fin' b) : Fin' (a + b) := by
  rw [← coe_toReal ha, ← coe_toReal hb, ← EReal.coe_add]
  exact ⟨EReal.coe_ne_top _, EReal.coe_ne_bot _⟩

/-- The inverse root of a finite row is finite. -/
theorem fin_root (M : ℝ) (hM : 0 < M) (hN : N = (M : EReal)) (hx : ∀ k, Fin' (x k)) : Fin' (root N x) := by
  obtain ⟨e, he, hE⟩ := eps_pos
  obtain ⟨y, rfl⟩ : ∃ y : Fin n → ℝ, x = fun k => (y k : EReal) := ⟨fun k => (x k).toReal, funext fun k => (coe_toReal (hx k)).symm⟩
  have hs0 : 0 < (∑ k, y k * y k) * (1 / M) + e := by
    have : 0 ≤ ∑ k, y k * y k := Finset.sum_nonneg fun k _ => mul_self_nonneg _
    positivity
  unfold root ms
  rw [hN, Ideal.div_coe hM.ne', hE]
  simp only [← EReal.coe_mul, ← coe_sum, ← EReal.coe_add]
  rw [Ideal.rsqrt_coe, if_neg (not_lt.2 hs0.le), if_neg hs0.ne']
  exact ⟨EReal.coe_ne_top _, EReal.coe_ne_bot _⟩

theorem fin_max {a : EReal} (ha : Fin' a) : Fin' (max a 0) := by
  rcases max_choice a 0 with h | h <;> rw [h]
  · exact ha
  · exact ⟨EReal.zero_ne_top, EReal.zero_ne_bot⟩

/-- Over the reals, with `r * r * s = 1`. -/
theorem real_eq (y G D : Fin n → ℝ) (M r s : ℝ) (hM : M ≠ 0) (hs : s ≠ 0) (hr : r * r * s = 1) (k : Fin n) :
    r * (D k * G k - y k * r * ((∑ j, D j * G j * (y j * r)) * (1 / M)))
      = D k * G k * r + y k * ((∑ j, y j * (D j * G j)) * (-1 / 2 * (r * (1 / s))) * (1 / M))
        + (∑ j, y j * (D j * G j)) * (-1 / 2 * (r * (1 / s))) * (1 / M) * y k := by
  have h1 : ∑ j, D j * G j * (y j * r) = (∑ j, y j * (D j * G j)) * r := by
    rw [Finset.sum_mul]
    exact Finset.sum_congr rfl fun j _ => by ring
  have h2 : 1 / s = r * r := by rw [div_eq_iff hs, hr]
  rw [h1, h2]
  ring

/-- The two forms agree at finite arguments, and are added to what came before alike. -/
theorem hand_eq (M : ℝ) (hM : 0 < M) (hN : N = (M : EReal)) (hx : ∀ k, Fin' (x k)) (hg : ∀ k, Fin' (g k)) (hd : ∀ k, Fin' (d k)) (a : EReal) (k : Fin n) :
    a + hand N x g d k = a + d k * g k * root N x + x k * coef N x g d + coef N x g d * x k := by
  obtain ⟨e, he, hE⟩ := eps_pos
  obtain ⟨y, rfl⟩ : ∃ y : Fin n → ℝ, x = fun k => (y k : EReal) := ⟨fun k => (x k).toReal, funext fun k => (coe_toReal (hx k)).symm⟩
  obtain ⟨G, rfl⟩ : ∃ y : Fin n → ℝ, g = fun k => (y k : EReal) := ⟨fun k => (g k).toReal, funext fun k => (coe_toReal (hg k)).symm⟩
  obtain ⟨D, rfl⟩ : ∃ y : Fin n → ℝ, d = fun k => (y k : EReal) := ⟨fun k => (d k).toReal, funext fun k => (coe_toReal (hd k)).symm⟩
  obtain ⟨s, hs⟩ : ∃ s : ℝ, s = (∑ k, y k * y k) * (1 / M) + e := ⟨_, rfl⟩
  have hs0 : 0 < s := by
    have : 0 ≤ ∑ k, y k * y k := Finset.sum_nonneg fun k _ => mul_self_nonneg _
    rw [hs]
    positivity
  have hms : ms N (fun k => (y k : EReal)) = (s : EReal) := by
    unfold ms
    rw [hN, Ideal.div_coe hM.ne', hE, hs]
    simp only [← EReal.coe_mul, ← coe_sum, ← EReal.coe_add]
  have hroot : root N (fun k => (y k : EReal)) = (((Real.sqrt s)⁻¹ : ℝ) : EReal) := by
    unfold root
    rw [hms, Ideal.rsqrt_coe, if_neg (not_lt.2 hs0.le), if_neg hs0.ne']
  have hr : (Real.sqrt s)⁻¹ * (Real.sqrt s)⁻¹ * s = 1 := by
    rw [← mul_inv, Real.mul_self_sqrt hs0.le, inv_mul_cancel₀ hs0.ne']
  rw [add_assoc, add_assoc, ]
  refine congrArg _ ?_
  unfold hand coef
  rw [hroot, hms, hN, half_eq, Ideal.div_coe hs0.ne', Ideal.div_coe hM.ne', Ideal.div_coe hM.ne']
  simp only [← EReal.coe_mul, ← coe_sum, ← EReal.coe_sub, ← EReal.coe_add]
  rw [real_eq y G D M _ s hM.ne' hs0.ne' hr k, add_assoc]

end Cert.Rms

end
-- ==== Proof.Rows.lean ====
/-
  A sum over the 4096 rows, taken block of rows by block of rows.
-/
module

public import proofs.«01_k».proof.Proof.Pool

@[expose] public section

noncomputable section

namespace Cert.Rows

/-- One row's part of the sum, zero past the last. -/
def upTo (f : Fin 4096 → EReal) (s : ℕ) : EReal := if h : s < 4096 then f ⟨s, h⟩ else 0

theorem upTo_sum (f : Fin 4096 → EReal) : ∑ s ∈ Finset.range 4096, upTo f s = ∑ t : Fin 4096, f t := by
  rw [← Fin.sum_univ_eq_sum_range]
  exact Finset.sum_congr rfl fun t _ => dif_pos t.isLt

theorem upTo_lt (f : Fin 4096 → EReal) (s : Fin 4096) : upTo f s.val = f s := dif_pos s.isLt

/-- Block `n` of `B` rows on top of the blocks before it. -/
theorem next {B n : ℕ} (f : Fin 4096 → EReal) (hB : B * n + B ≤ 4096) (h : Fin B → EReal)
    (hh : ∀ r : Fin B, h r = f ⟨B * n + r.val, by omega⟩) {a : EReal} (ha : a = ∑ s ∈ Finset.range (B * n), upTo f s) :
    a + ∑ r, h r = ∑ s ∈ Finset.range (B * (n + 1)), upTo f s := by
  rw [ha, Nat.mul_succ, Finset.sum_range_add]
  refine congrArg _ ?_
  rw [← Fin.sum_univ_eq_sum_range (fun r => upTo f (B * n + r))]
  exact Finset.sum_congr rfl fun r _ => (hh r).trans (upTo_lt f ⟨B * n + r.val, by omega⟩).symm

end Cert.Rows

end
-- ==== Proof.InDxMath.lean ====
/-
  The gradient of the first norm behind the input projection, in numbers: the cotangent of the norm's output is four products of 512
  columns each, and `dx`, `dg` follow from it row by row.
-/
module

public import proofs.«01_k».proof.Proof.Rms
public import proofs.«01_k».proof.Proof.Rows

@[expose] public section

noncomputable section

namespace Cert.InDxMath

open Idealize.ShloMosaic Cert.Rms Cert.Pool

abbrev Cot : Type := (⟨2, ![4096, 512]⟩ : Shape).Idx → EReal
abbrev Wt : Type := (⟨2, ![1024, 2048]⟩ : Shape).Idx → EReal
abbrev Act : Type := (⟨2, ![4096, 1024]⟩ : Shape).Idx → EReal
abbrev Sc : Type := (⟨1, ![1024]⟩ : Shape).Idx → EReal

/-- Column `k` of projection `p`. -/
abbrev pcol (p : Fin 4) (k : Fin 512) : Fin 2048 := ⟨p.val * 512 + k.val, by omega⟩

variable (u q k v : Cot) (w : Wt) (x d : Act) (g : Sc)

/-- One projection's part of the cotangent of the norm's output, and the four added up. -/
def part (u : Cot) (p : Fin 4) (t : Fin 4096) (j : Fin 1024) : EReal := ∑ i : Fin 512, u (ix2 t i) * w (ix2 j (pcol p i))
def dhn (t : Fin 4096) (j : Fin 1024) : EReal := part w u 0 t j + part w q 1 t j + part w k 2 t j + part w v 3 t j

/-- A row of the norm's input, and the scale. -/
abbrev row (t : Fin 4096) (j : Fin 1024) : EReal := x (ix2 t j)
abbrev scale (j : Fin 1024) : EReal := g (ix1 j)

/-- The kernel's `dx`, and a row's part of `dg`. -/
def dx (t : Fin 4096) (j : Fin 1024) : EReal := d (ix2 t j) + hand w1024 (row x t) (scale g) (dhn u q k v w t) j
def dgAt (j : Fin 1024) (t : Fin 4096) : EReal := dhn u q k v w t j * (x (ix2 t j) * root w1024 (row x t))

theorem fin_dhn (hu : ∀ i, Fin' (u i)) (hq : ∀ i, Fin' (q i)) (hk : ∀ i, Fin' (k i)) (hv : ∀ i, Fin' (v i)) (hw : ∀ i, Fin' (w i))
    (t : Fin 4096) (j : Fin 1024) : Fin' (dhn u q k v w t j) := by
  have h : ∀ u : Cot, (∀ i, Fin' (u i)) → ∀ p, Fin' (part w u p t j) := fun u hu p => fin_sum _ _ fun i => fin_mul (hu _) (hw _)
  exact fin_add (fin_add (fin_add (h u hu 0) (h q hq 1)) (h k hk 2)) (h v hv 3)

end Cert.InDxMath

end
-- ==== Proof.InDxKer.lean ====
/-
  The kernel's gradient of the first norm (`InDxIdeal`): `dx` block by block, and the scale's gradient added up over the eight blocks of
  512 rows.
-/
module

public import proofs.«01_k».proof.Proof.InDxMath
public import proofs.«01_k».proof.Proof.Gen.InDxIdeal.Value
public import Idealize.ShloMosaic.Lib.Pipeline.ValueKit
public import Idealize.ShloMosaic.Lib.Pipeline.ReadBack

@[expose] public section

set_option maxRecDepth 16384

noncomputable section

namespace Cert.InDxIdeal.KerValue

open Cert.InDxIdeal Cert.InDxIdeal.Gen Idealize.ShloMosaic Idealize.ShloMosaic.TcCoe Cert.Rms Cert.InDxMath

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] ∧ win0_6.index t = ![t.val, 0]
    ∧ win0_7.index t = ![0, 0] ∧ win0_8.index t = ![t.val, 0] ∧ win0_9.index t = ![0, 0] :=
  (by decide +kernel : ∀ t : Fin grid0.N, _)

/-- The arguments. -/
abbrev argU : Cot := m ((c : Thread nD τ).loc main_arg0)
abbrev argQ : Cot := m ((c : Thread nD τ).loc main_arg1)
abbrev argK : Cot := m ((c : Thread nD τ).loc main_arg2)
abbrev argV : Cot := m ((c : Thread nD τ).loc main_arg3)
abbrev argW : Wt := m ((c : Thread nD τ).loc main_arg4)
abbrev argX : Act := m ((c : Thread nD τ).loc main_arg5)
abbrev argD : Act := m ((c : Thread nD τ).loc main_arg6)
abbrev argG : Sc := m ((c : Thread nD τ).loc main_arg7)

section Body

variable (x0 x1 x2 x3 : Vec Ideal S512x512 .bf16) (y0 y1 y2 y3 : Vec Ideal S1x1024x512 .bf16) (D X B : Vec Ideal S512x1024 .f32) (S : FVec Ideal S512x1 .f32)
  (A G : Vec Ideal S1x1024 .f32) (r : Fin 512) (j : Fin 1024)

/-- The body's values at an index. -/
theorem pay6 : k0_pay6 x0 y0 x1 y1 x2 y2 x3 y3 (ix2 r j) = (∑ i : Fin 512, x0 (ix2 r i) * y0 (ix3 0 j i)) + (∑ i : Fin 512, x1 (ix2 r i) * y1 (ix3 0 j i))
    + (∑ i : Fin 512, x2 (ix2 r i) * y2 (ix3 0 j i)) + (∑ i : Fin 512, x3 (ix2 r i) * y3 (ix3 0 j i)) := by
  pointwise [k0_pay6]
theorem pay7 : k0_pay1 (k0_pay7 X) (ix2 r 0) = Ideal.rsqrt (Ideal.div (∑ j : Fin 1024, X (ix2 r j) * X (ix2 r j)) w1024 + eps) := by
  pointwise [k0_pay1, k0_pay7]
theorem pay3 : k0_pay3 D X S A (ix2 0 j) = A (ix2 0 j) + ∑ r : Fin 512, D (ix2 r j) * (X (ix2 r j) * k0_pay1 S (ix2 r 0)) := by
  pointwise [k0_pay3, k0_pay2]
theorem pay4 : k0_pay4 D X S B G (ix2 r j) = B (ix2 r j) + k0_pay1 S (ix2 r 0)
    * (D (ix2 r j) * G (ix2 0 j) - X (ix2 r j) * k0_pay1 S (ix2 r 0)
      * Ideal.div (∑ i : Fin 1024, D (ix2 r i) * G (ix2 0 i) * (X (ix2 r i) * k0_pay1 S (ix2 r 0))) w1024) := by
  pointwise [k0_pay4, k0_pay2]

end Body

/-- Row `r` of block `t`. -/
abbrev ptRow (t : Fin cfg0.N) (r : Fin 512) : Fin 4096 := ⟨512 * t.val + r.val, by have : t.val < 8 := t.isLt; omega⟩

theorem rows0 (t : Fin cfg0.N) (r : Fin 512) (l : Fin 512) : iblk m c 0 t (ix2 r l) = argU m c (ix2 (ptRow t r) l) := by
  blk_simp [iblk]
  refine congrArg (m _) ?_
  blk_ext [(idx t).1]
theorem rows1 (t : Fin cfg0.N) (r : Fin 512) (l : Fin 512) : iblk m c 1 t (ix2 r l) = argQ m c (ix2 (ptRow t r) l) := by
  blk_simp [iblk]
  refine congrArg (m _) ?_
  blk_ext [(idx t).2.1]
theorem rows2 (t : Fin cfg0.N) (r : Fin 512) (l : Fin 512) : iblk m c 2 t (ix2 r l) = argK m c (ix2 (ptRow t r) l) := by
  blk_simp [iblk]
  refine congrArg (m _) ?_
  blk_ext [(idx t).2.2.1]
theorem rows3 (t : Fin cfg0.N) (r : Fin 512) (l : Fin 512) : iblk m c 3 t (ix2 r l) = argV m c (ix2 (ptRow t r) l) := by
  blk_simp [iblk]
  refine congrArg (m _) ?_
  blk_ext [(idx t).2.2.2.1]
theorem rows5 (t : Fin cfg0.N) (r : Fin 512) (l : Fin 1024) : iblk m c 5 t (ix2 r l) = argX m c (ix2 (ptRow t r) l) := by
  blk_simp [iblk]
  refine congrArg (m _) ?_
  blk_ext [(idx t).2.2.2.2.2.1]
theorem rows6 (t : Fin cfg0.N) (r : Fin 512) (l : Fin 1024) : iblk m c 6 t (ix2 r l) = argD m c (ix2 (ptRow t r) l) := by
  blk_simp [iblk]
  refine congrArg (m _) ?_
  blk_ext [(idx t).2.2.2.2.2.2.1]

theorem weights (t : Fin cfg0.N) (p : Fin 4) (j : Fin 1024) (i : Fin 512) :
    iblk m c 4 t (ix3 p j i) = argW m c (ix2 j (pcol p i)) := by
  have h : V m c main_v2 = transpose S4x1024x512 [1, 0, 2] (shapeCast S1024x4x512 (argW m c) shapeCasts_S1024x2048_S1024x4x512) transposes_S1024x4x512_S4x1024x512_1_0_2 := by
    unfold_abbrev_sides
    after_results
    rfl
  blk_simp [iblk]
  refine (congrFun h _).trans ?_
  rw [show (win0_4.blk t).view.emb (ix3 p j i) = ix3 p j i by blk_ext [(idx t).2.2.2.2.1]]
  pointwise []

theorem scales (t : Fin cfg0.N) (j : Fin 1024) : iblk m c 7 t (ix2 0 j) = argG m c (ix1 j) := by
  have h : V m c main_v3 = shapeCast S1x1024 (argG m c) shapeCasts_S1024_S1x1024 := by
    unfold_abbrev_sides
    after_results
    rfl
  blk_simp [iblk]
  refine (congrFun h _).trans ?_
  rw [show (win0_7.blk t).view.emb (ix2 0 j) = ix2 0 j by blk_ext [(idx t).2.2.2.2.2.2.2.1]]
  pointwise []

/-- The block's weights of projection `p`, and the cotangent of the norm's output. -/
abbrev wsl (t : Fin cfg0.N) : Fin 4 → Vec Ideal S1x1024x512 .bf16 :=
  ![View.ld (iblk m c 4 t) (Rect.unit ![0, 0, 0] ![1, 1024, 512] inb_S4x1024x512_S1x1024x512_0_0_0), View.ld (iblk m c 4 t) (Rect.unit ![1, 0, 0] ![1, 1024, 512] inb_S4x1024x512_S1x1024x512_1_0_0),
    View.ld (iblk m c 4 t) (Rect.unit ![2, 0, 0] ![1, 1024, 512] inb_S4x1024x512_S1x1024x512_2_0_0), View.ld (iblk m c 4 t) (Rect.unit ![3, 0, 0] ![1, 1024, 512] inb_S4x1024x512_S1x1024x512_3_0_0)]
abbrev cot (t : Fin cfg0.N) : FVec Ideal S512x1024 .f32 :=
  k0_pay6 (iblk m c 0 t) (wsl m c t 0) (iblk m c 1 t) (wsl m c t 1) (iblk m c 2 t) (wsl m c t 2) (iblk m c 3 t) (wsl m c t 3)

theorem wsl_apply (t : Fin cfg0.N) (p : Fin 4) (j : Fin 1024) (i : Fin 512) : wsl m c t p (ix3 0 j i) = argW m c (ix2 j (pcol p i)) := by
  rw [← weights m c t]
  fin_cases p <;> exact congrArg (iblk m c 4 t) (by blk_ext [Rect.idx_unit_val])

theorem cot_apply (t : Fin cfg0.N) (r : Fin 512) (j : Fin 1024) :
    cot m c t (ix2 r j) = dhn (argU m c) (argQ m c) (argK m c) (argV m c) (argW m c) (ptRow t r) j := by
  refine (pay6 _ _ _ _ _ _ _ _ r j).trans ?_
  simp only [rows0, rows1, rows2, rows3, wsl_apply]
  rfl

theorem root_apply (t : Fin cfg0.N) (r : Fin 512) :
    k0_pay1 (k0_pay7 (iblk m c 5 t)) (ix2 r 0) = root w1024 (row (argX m c) (ptRow t r)) := by
  rw [pay7]
  simp only [rows5]
  rfl

theorem first8 (t : Fin cfg0.N) : (outsAt0 m c t.val t.isLt).1 = k0_pay4 (cot m c t) (iblk m c 5 t) (k0_pay7 (iblk m c 5 t)) (iblk m c 6 t) (iblk m c 7 t) := by
  by_cases h0 : t.val % 8 = 0
  · rw [outsAt0_A m c t h0]
    frame_out
    rfl
  · rw [outsAt0_B m c t h0]
    frame_out
    rfl
theorem first9 (t : Fin cfg0.N) (h0 : t.val % 8 = 0) : (outsAt0 m c t.val t.isLt).2 = k0_pay3 (cot m c t) (iblk m c 5 t) (k0_pay7 (iblk m c 5 t)) (k0_pay5 (F := Ideal)) := by
  rw [outsAt0_A m c t h0]
  frame_out
  rfl
theorem next9 (t : Fin cfg0.N) (h0 : ¬t.val % 8 = 0) : (outsAt0 m c t.val t.isLt).2
    = k0_pay3 (cot m c t) (iblk m c 5 t) (k0_pay7 (iblk m c 5 t)) (outsAt0 m c (t.val - 1) (by omega)).2 := by
  rw [outsAt0_B m c t h0]
  frame_out
  rfl

/-- The scale's gradient, a block at a time. -/
abbrev rowG (j : Fin 1024) : Fin 4096 → EReal := dgAt (argU m c) (argQ m c) (argK m c) (argV m c) (argW m c) (argX m c) j

theorem add9 (t : Fin cfg0.N) (X : Vec Ideal S1x1024 .f32) (j : Fin 1024)
    (hX : X (ix2 0 j) = ∑ s ∈ Finset.range (512 * t.val), Rows.upTo (rowG m c j) s) :
    k0_pay3 (cot m c t) (iblk m c 5 t) (k0_pay7 (iblk m c 5 t)) X (ix2 0 j) = ∑ s ∈ Finset.range (512 * (t.val + 1)), Rows.upTo (rowG m c j) s := by
  have ht : t.val < 8 := t.isLt
  rw [pay3]
  refine Rows.next (rowG m c j) (by omega) _ (fun r => ?_) hX
  rw [cot_apply, rows5, root_apply]
  rfl

theorem sum9 (n : ℕ) (hn : n < cfg0.N) (j : Fin 1024) :
    (outsAt0 m c n hn).2 (ix2 0 j) = ∑ s ∈ Finset.range (512 * (n + 1)), Rows.upTo (rowG m c j) s := by
  have h8 : n < 8 := hn
  induction n with
  | zero =>
    refine (congrFun (first9 m c ⟨0, hn⟩ rfl) _).trans (add9 m c ⟨0, hn⟩ _ j ?_)
    pointwise [k0_pay5]
    rw [Finset.sum_range_zero]
  | succ n ih =>
    refine (congrFun (next9 m c ⟨n + 1, hn⟩ (by show ¬(n + 1) % 8 = 0; omega)) _).trans (add9 m c ⟨n + 1, hn⟩ _ j ?_)
    exact ih (Nat.lt_of_succ_lt hn) (by omega)

theorem out8 (t : Fin cfg0.N) (r : Fin 512) (j : Fin 1024) :
    (outsAt0 m c t.val t.isLt).1 (ix2 r j) = dx (argU m c) (argQ m c) (argK m c) (argV m c) (argW m c) (argX m c) (argD m c) (argG m c) (ptRow t r) j := by
  rw [first8]
  rw [pay4]
  simp only [cot_apply, rows5, rows6, root_apply, scales]
  rfl

/-- The two results. -/
abbrev allX : S4096x1024.Idx → EReal := fun y => dx (argU m c) (argQ m c) (argK m c) (argV m c) (argW m c) (argX m c) (argD m c) (argG m c) (y 0) (y 1)

theorem final8 : (dats m 0 c).arrAt 8 cfg0.N = allX m c := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  blk_simp
  rw [after0_8]
  refine (out8 m c t r j).trans ?_
  show allX m c (ix2 (ptRow t r) j) = allX m c _
  refine congrArg _ ?_
  blk_ext [(idx t).2.2.2.2.2.2.2.2.1]

theorem final9 : (dats m 0 c).arrAt 9 cfg0.N = fun y : S1x1024.Idx => ∑ t, rowG m c (y 1) t := by
  refine (dats m 0 c).arrAt_eq_of_after_last 9 (⟨7, by decide⟩ : Fin cfg0.N) (by decide +kernel) _ fun y => ?_
  obtain ⟨z, j, rfl⟩ : ∃ (z : Fin 1) (j : Fin 1024), y = ix2 z j := ⟨y 0, y 1, eq_ix2 y⟩
  obtain rfl : z = 0 := Subsingleton.elim _ _
  rw [after0_9]
  exact (sum9 m c 7 (by decide) j).trans (Rows.upTo_sum _)

end Cert.InDxIdeal.KerValue

end
-- ==== Proof.InDx.lean ====
/-
  The claims of the gradient of the first norm.
-/
module

public import proofs.«01_k».proof.Defs
public import proofs.«01_k».proof.Proof.Fine
public import proofs.«01_k».proof.Proof.InDxKer
public import proofs.«01_k».proof.Proof.Gen.Pre_finite_i
public import proofs.«01_k».proof.Proof.Gen.InDxRefIdeal.Run
public import proofs.«01_k».proof.Proof.Gen.InDxRefIdeal.Read
public import Idealize.ShloMosaic.Lib.Claim

@[expose] public section

set_option maxRecDepth 16384

noncomputable section

namespace Cert.Proof.InDxClaims

open Idealize.ShloMosaic Idealize.ShloMosaic.TcCoe Idealize.SL.Sem Cert.Pool Cert.Rms Cert.InDxMath

section Ref

open Cert.InDxRefIdeal Cert.InDxRefIdeal.Gen Cert.InDxRefIdeal.Read

variable (u q k v : Cot) (w : Wt) (x d : Act) (g : Sc)

/-- The four cotangents side by side. -/
theorem joined (t : Fin 4096) (p : Fin 4) (i : Fin 512) :
    val_main_v4 (F := Ideal) u q k v (ix2 t (pcol p i)) = (![u, q, k, v] p) (ix2 t i) := by
  fin_cases p <;> pointwise [val_main_v4, val_main_v0, val_main_v1, val_main_v2, val_main_v3]
  · rw [dif_neg (by omega), dif_neg (by omega), dif_pos (by omega)]
    exact congrArg k (congrArg (ix2 t) (Fin.ext (by show 1024 + i.val - 512 - 512 = i.val; omega)))
  · rw [dif_neg (by omega), dif_neg (by omega), dif_neg (by omega)]
    exact congrArg v (congrArg (ix2 t) (Fin.ext (by show 1536 + i.val - 512 - 512 - 512 = i.val; omega)))

/-- A sum over the 2048 columns, projection by projection. -/
theorem cols (f : Fin 2048 → EReal) : ∑ c, f c = (∑ i, f (pcol 0 i)) + (∑ i, f (pcol 1 i)) + (∑ i, f (pcol 2 i)) + ∑ i, f (pcol 3 i) := by
  have h : ∑ c, f c = ∑ a : Fin 4 × Fin 512, f (pcol a.1 a.2) := by
    refine (Equiv.sum_comp (finProdFinEquiv (m := 4) (n := 512)) f).symm.trans (Finset.sum_congr rfl fun a _ => congrArg f (Fin.ext ?_))
    show a.2.val + 512 * a.1.val = a.1.val * 512 + a.2.val
    omega
  rw [h, Fintype.sum_prod_type, Fin.sum_univ_four]

theorem cot (t : Fin 4096) (j : Fin 1024) : val_main_v22 (F := Ideal) u q k v w (ix2 t j) = dhn u q k v w t j := by
  have e : val_main_v22 (F := Ideal) u q k v w (ix2 t j) = ∑ c : Fin 2048, val_main_v4 (F := Ideal) u q k v (ix2 t c) * w (ix2 j c) := by
    pointwise [val_main_v22]
  rw [e, cols]
  simp only [joined]
  rfl

theorem ms_ref (t : Fin 4096) : val_main_v11 (F := Ideal) x (ix2 t 0) = ms w1024 (row x t) := by
  pointwise [val_main_v11, val_main_v10, val_main_cst_1, val_main_v9, val_main_v8, val_main_cst_0, val_main_v7, val_main_v6, val_main_v5, val_main_cst]
  rfl

theorem root_ref (t : Fin 4096) : val_main_v12 (F := Ideal) x (ix2 t 0) = root w1024 (row x t) := by
  have e : val_main_v12 (F := Ideal) x (ix2 t 0) = Ideal.rsqrt (val_main_v11 (F := Ideal) x (ix2 t 0)) := by
    pointwise [val_main_v12]
  rw [e, ms_ref]
  rfl

theorem coef_ref (t : Fin 4096) (j : Fin 1024) : val_main_v39 (F := Ideal) u q k v w x g (ix2 t j) = coef w1024 (row x t) (scale g) (dhn u q k v w t) := by
  have e : val_main_v39 (F := Ideal) u q k v w x g (ix2 t j)
      = Ideal.div ((∑ i : Fin 1024, x (ix2 t i) * (val_main_v22 (F := Ideal) u q k v w (ix2 t i) * g (ix1 i)))
        * (half * Ideal.div (val_main_v12 (F := Ideal) x (ix2 t 0)) (val_main_v11 (F := Ideal) x (ix2 t 0)))) w1024 := by
    pointwise [val_main_v39, val_main_v38, val_main_cst_7, val_main_v37, val_main_v36, val_main_cst_6, val_main_v35, val_main_v15, val_main_v14, val_main_cst_2,
      val_main_v13, val_main_v31, val_main_v30, val_main_cst_5, val_main_v29, val_main_v27, val_main_v26, val_main_v18]
    exact Fin.sum_univ_one _
  rw [e, root_ref, ms_ref]
  simp only [cot]
  rfl

theorem dx_ref (t : Fin 4096) (j : Fin 1024) : val_main_v43 (F := Ideal) u q k v w x d g (ix2 t j)
    = d (ix2 t j) + dhn u q k v w t j * g (ix1 j) * root w1024 (row x t) + x (ix2 t j) * coef w1024 (row x t) (scale g) (dhn u q k v w t)
      + coef w1024 (row x t) (scale g) (dhn u q k v w t) * x (ix2 t j) := by
  have e : val_main_v43 (F := Ideal) u q k v w x d g (ix2 t j)
      = d (ix2 t j) + val_main_v22 (F := Ideal) u q k v w (ix2 t j) * g (ix1 j) * val_main_v12 (F := Ideal) x (ix2 t 0)
        + x (ix2 t j) * val_main_v39 (F := Ideal) u q k v w x g (ix2 t j) + val_main_v39 (F := Ideal) u q k v w x g (ix2 t j) * x (ix2 t j) := by
    pointwise [val_main_v43, val_main_v42, val_main_v41, val_main_v40, val_main_v34, val_main_v33, val_main_v32, val_main_v27, val_main_v26, val_main_v18]
  rw [e, coef_ref, root_ref, cot]

theorem dg_ref (j : Fin 1024) : val_main_v44 (F := Ideal) u q k v w x (ix2 0 j) = ∑ t, dgAt u q k v w x j t := by
  have e : val_main_v44 (F := Ideal) u q k v w x (ix2 0 j)
      = ∑ t : Fin 4096, x (ix2 t j) * val_main_v12 (F := Ideal) x (ix2 t 0) * val_main_v22 (F := Ideal) u q k v w (ix2 t j) := by
    pointwise [val_main_v44, val_main_v28, val_main_cst_4, val_main_v25, val_main_v24, val_main_cst_3, val_main_v23, val_main_v17, val_main_v16]
    exact Fin.sum_univ_one _
  rw [e]
  refine Finset.sum_congr rfl fun t _ => ?_
  rw [cot, root_ref, mul_comm]
  rfl

end Ref

theorem frame_ker : Cert.quiescent_InDxIdeal_pre_finite_i := fun m g _ => InDxIdeal.Gen.frame m g
theorem frame_ref : Cert.quiescent_InDxRefIdeal := fun m ρ _ =>
  (θ_run Cert.InDxRefIdeal.defs _ _).mono (fun r h => ⟨fun c => (h c).2.2, sem_eq_zero_of_no_sems (by decide) r.2⟩) (Cert.InDxRefIdeal.Value.run m ρ)
theorem frame_ref_pre : Cert.quiescent_InDxRefIdeal_pre_finite_i := fun m ρ _ => frame_ref m ρ trivial

/-- The kernel's gradients of the first norm are the derivatives of the plain norm and projection, wherever the cotangents, the weights,
    the norm's input and its scale are finite. -/
theorem algebraic : Cert.algebraic_InDxIdeal_InDxRefIdeal_pre_finite_i := by
  intro m g m' g' hpre hag
  refine ⟨_, _, InDxIdeal.Value.run_blocks m g, ?_⟩
  refine (θ_run _ _ _).mono (fun r h c => ?_) (InDxRefIdeal.Value.run m' g')
  obtain ⟨h43, h44, hrest⟩ := h c
  obtain ⟨e0, e1, e2, e3, e4, e5, e6, e7⟩ := hag c
  have hp : ∀ j, _ = 1#1 := fun j => congrFun (hpre c) j
  obtain ⟨p6, f7⟩ := both (hp fun a => nomatch a)
  obtain ⟨p5, f5⟩ := both p6
  obtain ⟨p4, f4⟩ := both p5
  obtain ⟨p3, f3⟩ := both p4
  obtain ⟨p2, f2⟩ := both p3
  obtain ⟨f0, f1⟩ := both p2
  have g0 : ∀ i, Fin' (InDxIdeal.KerValue.argU m c i) := fin_of_all (fun _ => rfl) f0
  have g1 : ∀ i, Fin' (InDxIdeal.KerValue.argQ m c i) := fin_of_all (fun _ => rfl) f1
  have g2 : ∀ i, Fin' (InDxIdeal.KerValue.argK m c i) := fin_of_all (fun _ => rfl) f2
  have g3 : ∀ i, Fin' (InDxIdeal.KerValue.argV m c i) := fin_of_all (fun _ => rfl) f3
  have g4 : ∀ i, Fin' (InDxIdeal.KerValue.argW m c i) := fin_of_all (fun _ => rfl) f4
  have g5 : ∀ i, Fin' (InDxIdeal.KerValue.argX m c i) := fin_of_all (fun _ => rfl) f5
  have g7 : ∀ i, Fin' (InDxIdeal.KerValue.argG m c i) := fin_of_all (fun _ => rfl) f7
  refine ⟨h43.trans ?_, h44.trans ?_, hrest⟩
  · rw [InDxIdeal.KerValue.final8, InDxRefIdeal.Read.val_main_v43_eq, e0, e1, e2, e3, e4, e5, e6, e7]
    funext y
    obtain ⟨t, j, rfl⟩ : ∃ (t : Fin 4096) (j : Fin 1024), y = ix2 t j := ⟨y 0, y 1, eq_ix2 y⟩
    refine (dx_ref _ _ _ _ _ _ _ _ t j).trans ?_
    exact (hand_eq w1024 _ _ _ 1024 (by norm_num) w1024_eq (fun i => g5 _) (fun i => g7 _) (fun i => fin_dhn _ _ _ _ _ g0 g1 g2 g3 g4 t i) _ j).symm
  · rw [InDxIdeal.KerValue.final9, InDxRefIdeal.Read.val_main_v44_eq, e0, e1, e2, e3, e4, e5]
    funext y
    obtain ⟨z, j, rfl⟩ : ∃ (z : Fin 1) (j : Fin 1024), y = ix2 z j := ⟨y 0, y 1, eq_ix2 y⟩
    obtain rfl : z = 0 := Subsingleton.elim _ _
    exact dg_ref _ _ _ _ _ _ j

end Cert.Proof.InDxClaims

end
-- ==== Proof.OutMath.lean ====
/-
  The gradients of the two norms in front of the output projection, in numbers: the cotangent of their joined outputs is one product, and
  each half's `dy`, `dg` follow from its own 512 columns.
-/
module

public import proofs.«01_k».proof.Proof.Rms
public import proofs.«01_k».proof.Proof.Rows

@[expose] public section

noncomputable section

namespace Cert.OutMath

open Idealize.ShloMosaic Cert.Rms Cert.Pool

abbrev Act : Type := (⟨2, ![4096, 1024]⟩ : Shape).Idx → EReal
abbrev Wt : Type := (⟨2, ![1024, 1024]⟩ : Shape).Idx → EReal
abbrev Half : Type := (⟨2, ![4096, 512]⟩ : Shape).Idx → EReal
abbrev Sc : Type := (⟨1, ![512]⟩ : Shape).Idx → EReal

/-- Column `l` of half `p`. -/
abbrev hcol (p : Fin 2) (l : Fin 512) : Fin 1024 := ⟨p.val * 512 + l.val, by omega⟩

variable (d mixed : Act) (w : Wt) (p : Fin 2) (y : Half) (g : Sc)

/-- The cotangent of the joined outputs. -/
def dm (t : Fin 4096) (c : Fin 1024) : EReal := ∑ k : Fin 1024, d (ix2 t k) * w (ix2 c k)

abbrev row (t : Fin 4096) (l : Fin 512) : EReal := y (ix2 t l)
abbrev scale (l : Fin 512) : EReal := g (ix1 l)

/-- The kernel's gradient of one half, a row's part of its scale's, and of the projection's. -/
def dy (t : Fin 4096) (l : Fin 512) : EReal := hand w512 (row y t) (scale g) (fun l => dm d w t (hcol p l)) l
def dgAt (l : Fin 512) (t : Fin 4096) : EReal := dm d w t (hcol p l) * (y (ix2 t l) * root w512 (row y t))
def dwAt (a b : Fin 1024) (t : Fin 4096) : EReal := mixed (ix2 t a) * d (ix2 t b)

theorem fin_dm (hd : ∀ i, Fin' (d i)) (hw : ∀ i, Fin' (w i)) (t : Fin 4096) (c : Fin 1024) : Fin' (dm d w t c) :=
  fin_sum _ _ fun _ => fin_mul (hd _) (hw _)

end Cert.OutMath

end
-- ==== Proof.OutKer.lean ====
/-
  The kernel's gradients of the mixer's two norms and of the output projection (`OutIdeal`): the two halves block by block, the three sums
  over the eight blocks of 512 rows.
-/
module

public import proofs.«01_k».proof.Proof.OutMath
public import proofs.«01_k».proof.Proof.Gen.OutIdeal.Value
public import Idealize.ShloMosaic.Lib.Pipeline.ValueKit
public import Idealize.ShloMosaic.Lib.Pipeline.ReadBack

@[expose] public section

set_option maxRecDepth 16384

noncomputable section

namespace Cert.OutIdeal.KerValue

open Cert.OutIdeal Cert.OutIdeal.Gen Idealize.ShloMosaic Idealize.ShloMosaic.TcCoe Cert.Rms Cert.OutMath

section Body

variable (D : Vec Ideal S512x1024 .f32) (M : Vec Ideal S512x1024 .bf16) (W : Vec Ideal S1024x1024 .bf16) (T : FVec Ideal S512x1024 .f32)
  (Y N C : Vec Ideal S512x512 .f32) (R : FVec Ideal S512x1 .f32) (A G : Vec Ideal S1x512 .f32) (X : Vec Ideal S1024x1024 .f32) (r : Fin 512) (l : Fin 512) (a b : Fin 1024)

/-- The body's values at an index. -/
theorem pay3 : k0_pay3 D W (ix2 r a) = ∑ k : Fin 1024, D (ix2 r k) * W (ix2 a k) := by pointwise [k0_pay3, k0_pay2]
theorem pay10 : k0_pay10 Y (ix2 r 0) = Ideal.rsqrt (Ideal.div (∑ j : Fin 512, Y (ix2 r j) * Y (ix2 r j)) w512 + eps) := by pointwise [k0_pay10]
theorem pay17 : k0_pay17 Y (ix2 r 0) = Ideal.rsqrt (Ideal.div (∑ j : Fin 512, Y (ix2 r j) * Y (ix2 r j)) w512 + eps) := by pointwise [k0_pay17]
theorem pay11 : k0_pay11 Y (ix2 r l) = Y (ix2 r l) * k0_pay10 Y (ix2 r 0) := by pointwise [k0_pay11]
theorem pay18 : k0_pay18 Y (ix2 r l) = Y (ix2 r l) * k0_pay17 Y (ix2 r 0) := by pointwise [k0_pay18]
theorem pay12 : k0_pay12 D W (ix2 r l) = k0_pay3 D W (ix2 r (hcol 0 l)) := by
  pointwise [k0_pay12]
  exact congrArg (k0_pay3 D W) (congrArg (ix2 r) (Fin.ext (by show l.val = 0 * 512 + l.val; omega)))
theorem pay19 : k0_pay19 T (ix2 r l) = T (ix2 r (hcol 1 l)) := by
  pointwise [k0_pay19]
  exact congrArg T (congrArg (ix2 r) (Fin.ext (by show 512 + l.val = 1 * 512 + l.val; omega)))
theorem pay16 : k0_pay16 R N C G (ix2 r l) = R (ix2 r 0) * (C (ix2 r l) * G (ix2 0 l) - N (ix2 r l)
    * Ideal.div (∑ i : Fin 512, C (ix2 r i) * G (ix2 0 i) * N (ix2 r i)) w512) := by pointwise [k0_pay16]
theorem pay1 : k0_pay1 R N C G (ix2 r l) = R (ix2 r 0) * (C (ix2 r l) * G (ix2 0 l) - N (ix2 r l)
    * Ideal.div (∑ i : Fin 512, C (ix2 r i) * G (ix2 0 i) * N (ix2 r i)) w512) := by pointwise [k0_pay1]
theorem pay15 : k0_pay15 (k0_pay13 A) (k0_pay14 D W Y) (ix2 0 l) = A (ix2 0 l) + ∑ r : Fin 512, k0_pay12 D W (ix2 r l) * k0_pay11 Y (ix2 r l) := by
  pointwise [k0_pay15, k0_pay13, k0_pay14]
theorem pay20 : k0_pay20 T Y A (ix2 0 l) = A (ix2 0 l) + ∑ r : Fin 512, k0_pay19 T (ix2 r l) * k0_pay18 Y (ix2 r l) := by
  pointwise [k0_pay20]
theorem pay4 : k0_pay4 D M (ix2 a b) = ∑ r : Fin 512, M (ix2 r a) * D (ix2 r b) := by pointwise [k0_pay4, k0_pay2]
theorem pay5 : k0_pay5 D M (ix2 a b) = k0_pay4 D M (ix2 a b) := by pointwise [k0_pay5]
theorem pay8 : k0_pay8 D M X (ix2 a b) = X (ix2 a b) + k0_pay4 D M (ix2 a b) := by pointwise [k0_pay8]
theorem pay9 : k0_pay9 X (ix2 a b) = X (ix2 a b) := by pointwise [k0_pay9]

end Body

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] :=
  (by decide +kernel : ∀ t : Fin grid0.N, _)

/-- The arguments, and the joined norms' outputs as the host computes them. -/
abbrev argD : Act := m ((c : Thread nD τ).loc main_arg0)
abbrev argW : Wt := m ((c : Thread nD τ).loc main_arg1)
abbrev argP : Half := m ((c : Thread nD τ).loc main_arg2)
abbrev argA : Half := m ((c : Thread nD τ).loc main_arg3)
abbrev argGP : Sc := m ((c : Thread nD τ).loc main_arg4)
abbrev argGA : Sc := m ((c : Thread nD τ).loc main_arg5)
abbrev mixed : Act := V m c main_v27

/-- Row `r` of block `t`. -/
abbrev ptRow (t : Fin cfg0.N) (r : Fin 512) : Fin 4096 := ⟨512 * t.val + r.val, by have : t.val < 8 := t.isLt; omega⟩

theorem rows0 (t : Fin cfg0.N) (r : Fin 512) (l : Fin 1024) : iblk m c 0 t (ix2 r l) = argD m c (ix2 (ptRow t r) l) := by
  blk_simp [iblk]
  refine congrArg (m _) ?_
  blk_ext [(idx t).1]
theorem rows2 (t : Fin cfg0.N) (r : Fin 512) (l : Fin 1024) : iblk m c 2 t (ix2 r l) = mixed m c (ix2 (ptRow t r) l) := by
  blk_simp [iblk]
  refine congrArg (V m c main_v27) ?_
  blk_ext [(idx t).2.2.1]
theorem rows3 (t : Fin cfg0.N) (r : Fin 512) (l : Fin 512) : iblk m c 3 t (ix2 r l) = argP m c (ix2 (ptRow t r) l) := by
  blk_simp [iblk]
  refine congrArg (m _) ?_
  blk_ext [(idx t).2.2.2.1]
theorem rows4 (t : Fin cfg0.N) (r : Fin 512) (l : Fin 512) : iblk m c 4 t (ix2 r l) = argA m c (ix2 (ptRow t r) l) := by
  blk_simp [iblk]
  refine congrArg (m _) ?_
  blk_ext [(idx t).2.2.2.2.1]
theorem weights (t : Fin cfg0.N) (a b : Fin 1024) : iblk m c 1 t (ix2 a b) = argW m c (ix2 a b) := by
  have h : V m c main_v28 = argW m c := by
    unfold_abbrev_sides
    after_results
    rfl
  blk_simp [iblk]
  refine (congrFun h _).trans (congrArg (argW m c) ?_)
  blk_ext [(idx t).2.1]
theorem scales5 (t : Fin cfg0.N) (l : Fin 512) : iblk m c 5 t (ix2 0 l) = argGP m c (ix1 l) := by
  have h : V m c main_v29 = shapeCast S1x512 (argGP m c) shapeCasts_S512_S1x512 := by
    unfold_abbrev_sides
    after_results
    rfl
  blk_simp [iblk]
  refine (congrFun h _).trans ?_
  rw [show (win0_5.blk t).view.emb (ix2 0 l) = ix2 0 l by blk_ext [(idx t).2.2.2.2.2.1]]
  pointwise []
theorem scales6 (t : Fin cfg0.N) (l : Fin 512) : iblk m c 6 t (ix2 0 l) = argGA m c (ix1 l) := by
  have h : V m c main_v30 = shapeCast S1x512 (argGA m c) shapeCasts_S512_S1x512 := by
    unfold_abbrev_sides
    after_results
    rfl
  blk_simp [iblk]
  refine (congrFun h _).trans ?_
  rw [show (win0_6.blk t).view.emb (ix2 0 l) = ix2 0 l by blk_ext [(idx t).2.2.2.2.2.2.1]]
  pointwise []

theorem cot_apply (t : Fin cfg0.N) (r : Fin 512) (a : Fin 1024) : k0_pay3 (iblk m c 0 t) (iblk m c 1 t) (ix2 r a) = dm (argD m c) (argW m c) (ptRow t r) a := by
  rw [pay3]
  simp only [rows0, weights]
  rfl
theorem rootP (t : Fin cfg0.N) (r : Fin 512) : k0_pay10 (iblk m c 3 t) (ix2 r 0) = root w512 (row (argP m c) (ptRow t r)) := by
  rw [pay10]
  simp only [rows3]
  rfl
theorem rootA (t : Fin cfg0.N) (r : Fin 512) : k0_pay17 (iblk m c 4 t) (ix2 r 0) = root w512 (row (argA m c) (ptRow t r)) := by
  rw [pay17]
  simp only [rows4]
  rfl

/-- What one grid point leaves in the two halves. -/
theorem halves (t : Fin cfg0.N) : (outsAt0 m c t.val t.isLt).1 = k0_pay16 (k0_pay10 (iblk m c 3 t)) (k0_pay11 (iblk m c 3 t)) (k0_pay12 (iblk m c 0 t) (iblk m c 1 t)) (iblk m c 5 t)
    ∧ (outsAt0 m c t.val t.isLt).2.1 = k0_pay1 (k0_pay17 (iblk m c 4 t)) (k0_pay18 (iblk m c 4 t)) (k0_pay19 (k0_pay3 (iblk m c 0 t) (iblk m c 1 t))) (iblk m c 6 t) := by
  have ht : t.val < 8 := t.isLt
  by_cases h0 : t.val % 8 = 0
  · rw [outsAt0_A m c t h0 (by omega) (by omega)]
    frame_out
    exact ⟨trivial, trivial⟩
  · by_cases h7 : t.val % 8 = 7
    · rw [outsAt0_C m c t h0 (by omega) h7]
      frame_out
      exact ⟨trivial, trivial⟩
    · rw [outsAt0_B m c t h0 (by omega) h7]
      frame_out
      exact ⟨trivial, trivial⟩

/-- What the first point leaves in the three sums. -/
theorem first (t : Fin cfg0.N) (h0 : t.val = 0) : (outsAt0 m c t.val t.isLt).2.2.2 = (k0_pay15 (k0_pay13 (k0_pay6 (F := Ideal))) (k0_pay14 (iblk m c 0 t) (iblk m c 1 t) (iblk m c 3 t)),
    k0_pay20 (k0_pay3 (iblk m c 0 t) (iblk m c 1 t)) (iblk m c 4 t) (k0_pay7 (F := Ideal)), k0_pay5 (iblk m c 0 t) (iblk m c 2 t)) := by
  rw [outsAt0_A m c t (by omega) (by omega) (by omega)]
  frame_out

/-- What a later point leaves in them, over what the one before it left. -/
theorem next (t : Fin cfg0.N) (h0 : ¬t.val % 8 = 0) (X : Vec Ideal S1x512 .f32 × Vec Ideal S1x512 .f32 × Vec Ideal S1024x1024 .f32)
    (hX : (outsAt0 m c (t.val - 1) (by omega)).2.2.2 = X) : (outsAt0 m c t.val t.isLt).2.2.2 = (k0_pay15 (k0_pay13 X.1) (k0_pay14 (iblk m c 0 t) (iblk m c 1 t) (iblk m c 3 t)),
    k0_pay20 (k0_pay3 (iblk m c 0 t) (iblk m c 1 t)) (iblk m c 4 t) X.2.1, k0_pay8 (iblk m c 0 t) (iblk m c 2 t) X.2.2) := by
  have ht : t.val < 8 := t.isLt
  subst hX
  by_cases h7 : t.val % 8 = 7
  · rw [outsAt0_C m c t h0 (by omega) h7]
    frame_out
    simp only [read_unread_whole]
  · rw [outsAt0_B m c t h0 (by omega) h7]
    frame_out
    simp only [read_unread_whole]

/-- The last point writes the projection's sum out. -/
theorem last (t : Fin cfg0.N) (h7 : t.val % 8 = 7) : (outsAt0 m c t.val t.isLt).2.2.1 = k0_pay9 (outsAt0 m c t.val t.isLt).2.2.2.2.2 := by
  have ht : t.val < 8 := t.isLt
  rw [outsAt0_C m c t (by omega) (by omega) h7]
  frame_out

abbrev rowP (l : Fin 512) : Fin 4096 → EReal := dgAt (argD m c) (argW m c) 0 (argP m c) l
abbrev rowA (l : Fin 512) : Fin 4096 → EReal := dgAt (argD m c) (argW m c) 1 (argA m c) l
abbrev rowW (a b : Fin 1024) : Fin 4096 → EReal := dwAt (argD m c) (mixed m c) a b

/-- The three sums after point `n`: the rows of the blocks up to it. -/
def SumTo (n : ℕ) (X : Vec Ideal S1x512 .f32 × Vec Ideal S1x512 .f32 × Vec Ideal S1024x1024 .f32) : Prop :=
  (∀ l, X.1 (ix2 0 l) = ∑ s ∈ Finset.range (512 * n), Rows.upTo (rowP m c l) s)
  ∧ (∀ l, X.2.1 (ix2 0 l) = ∑ s ∈ Finset.range (512 * n), Rows.upTo (rowA m c l) s)
  ∧ ∀ a b, X.2.2 (ix2 a b) = ∑ s ∈ Finset.range (512 * n), Rows.upTo (rowW m c a b) s

theorem addP (t : Fin cfg0.N) (A : Vec Ideal S1x512 .f32) (l : Fin 512) (hA : A (ix2 0 l) = ∑ s ∈ Finset.range (512 * t.val), Rows.upTo (rowP m c l) s) :
    k0_pay15 (k0_pay13 A) (k0_pay14 (iblk m c 0 t) (iblk m c 1 t) (iblk m c 3 t)) (ix2 0 l) = ∑ s ∈ Finset.range (512 * (t.val + 1)), Rows.upTo (rowP m c l) s := by
  have ht : t.val < 8 := t.isLt
  rw [pay15]
  refine Rows.next (rowP m c l) (by omega) _ (fun r => ?_) hA
  rw [pay12, pay11, cot_apply, rows3, rootP]
  rfl
theorem addA (t : Fin cfg0.N) (A : Vec Ideal S1x512 .f32) (l : Fin 512) (hA : A (ix2 0 l) = ∑ s ∈ Finset.range (512 * t.val), Rows.upTo (rowA m c l) s) :
    k0_pay20 (k0_pay3 (iblk m c 0 t) (iblk m c 1 t)) (iblk m c 4 t) A (ix2 0 l) = ∑ s ∈ Finset.range (512 * (t.val + 1)), Rows.upTo (rowA m c l) s := by
  have ht : t.val < 8 := t.isLt
  rw [pay20]
  refine Rows.next (rowA m c l) (by omega) _ (fun r => ?_) hA
  rw [pay19, pay18, cot_apply, rows4, rootA]
  rfl
theorem addW (t : Fin cfg0.N) (x : EReal) (a b : Fin 1024) (hx : x = ∑ s ∈ Finset.range (512 * t.val), Rows.upTo (rowW m c a b) s) :
    x + k0_pay4 (iblk m c 0 t) (iblk m c 2 t) (ix2 a b) = ∑ s ∈ Finset.range (512 * (t.val + 1)), Rows.upTo (rowW m c a b) s := by
  have ht : t.val < 8 := t.isLt
  rw [pay4]
  refine Rows.next (rowW m c a b) (by omega) _ (fun r => ?_) hx
  rw [rows0, rows2]
  rfl

theorem sums (n : ℕ) (hn : n < cfg0.N) : SumTo m c (n + 1) (outsAt0 m c n hn).2.2.2 := by
  have h8 : n < 8 := hn
  induction n with
  | zero =>
    rw [show (outsAt0 m c 0 hn).2.2.2 = _ from first m c ⟨0, hn⟩ rfl]
    refine ⟨fun l => addP m c ⟨0, hn⟩ _ l ?_, fun l => addA m c ⟨0, hn⟩ _ l ?_, fun a b => ?_⟩
    · rw [Nat.mul_zero, Finset.sum_range_zero]
      pointwise [k0_pay6]
    · rw [Nat.mul_zero, Finset.sum_range_zero]
      pointwise [k0_pay7]
    · exact (pay5 _ _ a b).trans ((zero_add _).symm.trans (addW m c ⟨0, hn⟩ 0 a b (by rw [Nat.mul_zero, Finset.sum_range_zero])))
  | succ n ih =>
    obtain ⟨hP, hA, hW⟩ := ih (Nat.lt_of_succ_lt hn) (by omega)
    rw [show (outsAt0 m c (n + 1) hn).2.2.2 = _ from next m c ⟨n + 1, hn⟩ (by show ¬(n + 1) % 8 = 0; omega) _ rfl]
    exact ⟨fun l => addP m c ⟨n + 1, hn⟩ _ l (hP l), fun l => addA m c ⟨n + 1, hn⟩ _ l (hA l),
      fun a b => (pay8 _ _ _ a b).trans (addW m c ⟨n + 1, hn⟩ _ a b (hW a b))⟩

/-- The five results. -/
abbrev allP : S4096x512.Idx → EReal := fun y => dy (argD m c) (argW m c) 0 (argP m c) (argGP m c) (y 0) (y 1)
abbrev allA : S4096x512.Idx → EReal := fun y => dy (argD m c) (argW m c) 1 (argA m c) (argGA m c) (y 0) (y 1)

theorem final7 : (dats m 0 c).arrAt 7 cfg0.N = allP m c := by
  refine (dats m 0 c).arrAt_eq_of_covers 7 _ (by decide +kernel) fun t hf y => ?_
  obtain ⟨r, l, rfl⟩ : ∃ (r : Fin 512) (l : Fin 512), y = ix2 r l := ⟨y 0, y 1, eq_ix2 y⟩
  have h : (outsAt0 m c t.val t.isLt).1 (ix2 r l) = allP m c (ix2 (ptRow t r) l) := by
    rw [(halves m c t).1, pay16]
    simp only [pay11, pay12, cot_apply, rows3, rootP, scales5]
    rfl
  blk_simp
  rw [after0_7]
  refine h.trans (congrArg (allP m c) ?_)
  blk_ext [(idx t).2.2.2.2.2.2.2.1]

theorem final8 : (dats m 0 c).arrAt 8 cfg0.N = allA m c := by
  refine (dats m 0 c).arrAt_eq_of_covers 8 _ (by decide +kernel) fun t hf y => ?_
  obtain ⟨r, l, rfl⟩ : ∃ (r : Fin 512) (l : Fin 512), y = ix2 r l := ⟨y 0, y 1, eq_ix2 y⟩
  have h : (outsAt0 m c t.val t.isLt).2.1 (ix2 r l) = allA m c (ix2 (ptRow t r) l) := by
    rw [(halves m c t).2, pay1]
    simp only [pay18, pay19, cot_apply, rows4, rootA, scales6]
    rfl
  blk_simp
  rw [after0_8]
  refine h.trans (congrArg (allA m c) ?_)
  blk_ext [(idx t).2.2.2.2.2.2.2.2]

theorem final9 : (dats m 0 c).arrAt 9 cfg0.N = fun y : S1024x1024.Idx => ∑ t, rowW m c (y 0) (y 1) t := by
  refine (dats m 0 c).arrAt_eq_of_after_last 9 (⟨7, by decide⟩ : Fin cfg0.N) (by decide +kernel) _ fun y => ?_
  obtain ⟨a, b, rfl⟩ : ∃ (a b : Fin 1024), y = ix2 a b := ⟨y 0, y 1, eq_ix2 y⟩
  rw [after0_9, last m c ⟨7, by decide⟩ rfl]
  refine (pay9 _ a b).trans ?_
  exact ((sums m c 7 (by decide)).2.2 a b).trans (Rows.upTo_sum _)

theorem final10 : (dats m 0 c).arrAt 10 cfg0.N = fun y : S1x512.Idx => ∑ t, rowP m c (y 1) t := by
  refine (dats m 0 c).arrAt_eq_of_after_last 10 (⟨7, by decide⟩ : Fin cfg0.N) (by decide +kernel) _ fun y => ?_
  obtain ⟨z, l, rfl⟩ : ∃ (z : Fin 1) (l : Fin 512), y = ix2 z l := ⟨y 0, y 1, eq_ix2 y⟩
  obtain rfl : z = 0 := Subsingleton.elim _ _
  rw [after0_10]
  exact ((sums m c 7 (by decide)).1 l).trans (Rows.upTo_sum _)

theorem final11 : (dats m 0 c).arrAt 11 cfg0.N = fun y : S1x512.Idx => ∑ t, rowA m c (y 1) t := by
  refine (dats m 0 c).arrAt_eq_of_after_last 11 (⟨7, by decide⟩ : Fin cfg0.N) (by decide +kernel) _ fun y => ?_
  obtain ⟨z, l, rfl⟩ : ∃ (z : Fin 1) (l : Fin 512), y = ix2 z l := ⟨y 0, y 1, eq_ix2 y⟩
  obtain rfl : z = 0 := Subsingleton.elim _ _
  rw [after0_11]
  exact ((sums m c 7 (by decide)).2.1 l).trans (Rows.upTo_sum _)

end Cert.OutIdeal.KerValue

end
-- ==== Proof.Out.lean ====
/-
  The claims of the gradients of the mixer's two norms and of the output projection.
-/
module

public import proofs.«01_k».proof.Defs
public import proofs.«01_k».proof.Proof.Fine
public import proofs.«01_k».proof.Proof.OutKer
public import proofs.«01_k».proof.Proof.Gen.Pre_finite_o
public import proofs.«01_k».proof.Proof.Gen.OutRefIdeal.Run
public import proofs.«01_k».proof.Proof.Gen.OutRefIdeal.Read
public import Idealize.ShloMosaic.Lib.Claim

@[expose] public section

set_option maxRecDepth 16384

noncomputable section

namespace Cert.Proof.OutClaims

open Idealize.ShloMosaic Idealize.ShloMosaic.TcCoe Idealize.SL.Sem Cert.Pool Cert.Rms Cert.OutMath

section Ref

open Cert.OutRefIdeal Cert.OutRefIdeal.Gen Cert.OutRefIdeal.Read

variable (d : Act) (w : Wt) (p a : Half) (gp ga : Sc) (t : Fin 4096) (l : Fin 512)

theorem cot_ref (j : Fin 1024) : val_main_v36 (F := Ideal) d w (ix2 t j) = dm d w t j := by
  have e : val_main_v36 (F := Ideal) d w (ix2 t j) = ∑ k : Fin 1024, d (ix2 t k) * w (ix2 j k) := by pointwise [val_main_v36]
  exact e

theorem cotP : val_main_v37 (F := Ideal) d w (ix2 t l) = dm d w t (hcol 0 l) := by
  have e : val_main_v37 (F := Ideal) d w (ix2 t l) = val_main_v36 (F := Ideal) d w (ix2 t (hcol 0 l)) := by
    pointwise [val_main_v37]
    exact congrArg (val_main_v36 (F := Ideal) d w) (congrArg (ix2 t) (Fin.ext (by show l.val = 0 * 512 + l.val; omega)))
  rw [e, cot_ref]
theorem cotA : val_main_v38 (F := Ideal) d w (ix2 t l) = dm d w t (hcol 1 l) := by
  have e : val_main_v38 (F := Ideal) d w (ix2 t l) = val_main_v36 (F := Ideal) d w (ix2 t (hcol 1 l)) := by
    pointwise [val_main_v38]
    exact congrArg (val_main_v36 (F := Ideal) d w) (congrArg (ix2 t) (Fin.ext (by show 512 + l.val = 1 * 512 + l.val; omega)))
  rw [e, cot_ref]

theorem msP : val_main_v6 (F := Ideal) p (ix2 t 0) = ms w512 (row p t) := by
  pointwise [val_main_v6, val_main_v5, val_main_cst_1, val_main_v4, val_main_v3, val_main_cst_0, val_main_v2, val_main_v1, val_main_v0, val_main_cst]
  rfl
theorem msA : val_main_v22 (F := Ideal) a (ix2 t 0) = ms w512 (row a t) := by
  pointwise [val_main_v22, val_main_v21, val_main_cst_5, val_main_v20, val_main_v19, val_main_cst_4, val_main_v18, val_main_v17, val_main_v16, val_main_cst_3]
  rfl
theorem rootP : val_main_v7 (F := Ideal) p (ix2 t 0) = root w512 (row p t) := by
  have e : val_main_v7 (F := Ideal) p (ix2 t 0) = Ideal.rsqrt (val_main_v6 (F := Ideal) p (ix2 t 0)) := by pointwise [val_main_v7]
  rw [e, msP]
  rfl
theorem rootA : val_main_v23 (F := Ideal) a (ix2 t 0) = root w512 (row a t) := by
  have e : val_main_v23 (F := Ideal) a (ix2 t 0) = Ideal.rsqrt (val_main_v22 (F := Ideal) a (ix2 t 0)) := by pointwise [val_main_v23]
  rw [e, msA]
  rfl

theorem coefP : val_main_v74 (F := Ideal) d w p gp (ix2 t l) = coef w512 (row p t) (scale gp) (fun i => dm d w t (hcol 0 i)) := by
  have e : val_main_v74 (F := Ideal) d w p gp (ix2 t l)
      = Ideal.div ((∑ i : Fin 512, p (ix2 t i) * (val_main_v37 (F := Ideal) d w (ix2 t i) * gp (ix1 i)))
        * (half * Ideal.div (val_main_v7 (F := Ideal) p (ix2 t 0)) (val_main_v6 (F := Ideal) p (ix2 t 0)))) w512 := by
    pointwise [val_main_v74, val_main_v73, val_main_cst_16, val_main_v72, val_main_v71, val_main_cst_15, val_main_v70, val_main_v10, val_main_v9, val_main_cst_2,
      val_main_v8, val_main_v67, val_main_v66, val_main_cst_14, val_main_v65, val_main_v63, val_main_v62, val_main_v13]
    exact Fin.sum_univ_one _
  rw [e, rootP, msP]
  simp only [cotP]
  rfl
theorem coefA : val_main_v54 (F := Ideal) d w a ga (ix2 t l) = coef w512 (row a t) (scale ga) (fun i => dm d w t (hcol 1 i)) := by
  have e : val_main_v54 (F := Ideal) d w a ga (ix2 t l)
      = Ideal.div ((∑ i : Fin 512, a (ix2 t i) * (val_main_v38 (F := Ideal) d w (ix2 t i) * ga (ix1 i)))
        * (half * Ideal.div (val_main_v23 (F := Ideal) a (ix2 t 0)) (val_main_v22 (F := Ideal) a (ix2 t 0)))) w512 := by
    pointwise [val_main_v54, val_main_v53, val_main_cst_11, val_main_v52, val_main_v51, val_main_cst_10, val_main_v50, val_main_v26, val_main_v25, val_main_cst_6,
      val_main_v24, val_main_v47, val_main_v46, val_main_cst_9, val_main_v45, val_main_v43, val_main_v42, val_main_v29]
    exact Fin.sum_univ_one _
  rw [e, rootA, msA]
  simp only [cotA]
  rfl

/-- The reference's `dy` of either half is the kernel's, its inputs finite. -/
theorem dyP (hd : ∀ i, Fin' (d i)) (hw : ∀ i, Fin' (w i)) (hp : ∀ i, Fin' (p i)) (hg : ∀ i, Fin' (gp i)) :
    val_main_v78 (F := Ideal) d w p gp (ix2 t l) = dy d w 0 p gp t l := by
  have e : val_main_v78 (F := Ideal) d w p gp (ix2 t l)
      = val_main_v37 (F := Ideal) d w (ix2 t l) * gp (ix1 l) * val_main_v7 (F := Ideal) p (ix2 t 0)
        + p (ix2 t l) * val_main_v74 (F := Ideal) d w p gp (ix2 t l) + val_main_v74 (F := Ideal) d w p gp (ix2 t l) * p (ix2 t l) := by
    pointwise [val_main_v78, val_main_v77, val_main_v76, val_main_v75, val_main_v69, val_main_v68, val_main_v63, val_main_v62, val_main_v13]
  have h := hand_eq w512 (row p t) (scale gp) (fun i => dm d w t (hcol 0 i)) 512 (by norm_num) w512_eq (fun i => hp _) (fun i => hg _)
    (fun i => fin_dm d w hd hw t _) 0 l
  rw [zero_add, zero_add] at h
  rw [e, coefP, rootP, cotP]
  exact h.symm
theorem dyA (hd : ∀ i, Fin' (d i)) (hw : ∀ i, Fin' (w i)) (hp : ∀ i, Fin' (a i)) (hg : ∀ i, Fin' (ga i)) :
    val_main_v58 (F := Ideal) d w a ga (ix2 t l) = dy d w 1 a ga t l := by
  have e : val_main_v58 (F := Ideal) d w a ga (ix2 t l)
      = val_main_v38 (F := Ideal) d w (ix2 t l) * ga (ix1 l) * val_main_v23 (F := Ideal) a (ix2 t 0)
        + a (ix2 t l) * val_main_v54 (F := Ideal) d w a ga (ix2 t l) + val_main_v54 (F := Ideal) d w a ga (ix2 t l) * a (ix2 t l) := by
    pointwise [val_main_v58, val_main_v57, val_main_v56, val_main_v55, val_main_v49, val_main_v48, val_main_v43, val_main_v42, val_main_v29]
  have h := hand_eq w512 (row a t) (scale ga) (fun i => dm d w t (hcol 1 i)) 512 (by norm_num) w512_eq (fun i => hp _) (fun i => hg _)
    (fun i => fin_dm d w hd hw t _) 0 l
  rw [zero_add, zero_add] at h
  rw [e, coefA, rootA, cotA]
  exact h.symm

theorem dgP : val_main_v80 (F := Ideal) d w p (ix2 0 l) = ∑ t, dgAt d w 0 p l t := by
  have e : val_main_v80 (F := Ideal) d w p (ix2 0 l)
      = ∑ t : Fin 4096, p (ix2 t l) * val_main_v7 (F := Ideal) p (ix2 t 0) * val_main_v37 (F := Ideal) d w (ix2 t l) := by
    pointwise [val_main_v80, val_main_v64, val_main_cst_13, val_main_v61, val_main_v60, val_main_cst_12, val_main_v59, val_main_v12, val_main_v11]
    exact Fin.sum_univ_one _
  rw [e]
  refine Finset.sum_congr rfl fun t _ => ?_
  rw [cotP, rootP, mul_comm]
  rfl
theorem dgA : val_main_v81 (F := Ideal) d w a (ix2 0 l) = ∑ t, dgAt d w 1 a l t := by
  have e : val_main_v81 (F := Ideal) d w a (ix2 0 l)
      = ∑ t : Fin 4096, a (ix2 t l) * val_main_v23 (F := Ideal) a (ix2 t 0) * val_main_v38 (F := Ideal) d w (ix2 t l) := by
    pointwise [val_main_v81, val_main_v44, val_main_cst_8, val_main_v41, val_main_v40, val_main_cst_7, val_main_v39, val_main_v28, val_main_v27]
    exact Fin.sum_univ_one _
  rw [e]
  refine Finset.sum_congr rfl fun t _ => ?_
  rw [cotA, rootA, mul_comm]
  rfl

theorem dw_ref (i j : Fin 1024) : val_main_v79 (F := Ideal) d p a gp ga (ix2 i j) = ∑ t, dwAt d (val_main_v32 (F := Ideal) p a gp ga) i j t := by
  have e : val_main_v79 (F := Ideal) d p a gp ga (ix2 i j) = ∑ t : Fin 4096, d (ix2 t j) * val_main_v32 (F := Ideal) p a gp ga (ix2 t i) := by
    pointwise [val_main_v79, val_main_v35, val_main_v34]
  rw [e]
  exact Finset.sum_congr rfl fun t _ => mul_comm _ _

end Ref

open Cert.OutIdeal Cert.OutIdeal.Gen in
set_option maxHeartbeats 4000000 in
/-- The joined norms' outputs, which the host computes in front of the kernel, are the reference's. -/
theorem mixed_eq (m : (ℓ : Loc nD τ sig) → Buf (Elt Ideal) ℓ) (c : Dev nD) : OutIdeal.KerValue.mixed m c
    = OutRefIdeal.Read.val_main_v32 (F := Ideal) (OutIdeal.KerValue.argP m c) (OutIdeal.KerValue.argA m c) (OutIdeal.KerValue.argGP m c) (OutIdeal.KerValue.argGA m c) := by
  show V m c main_v27 = _
  simp only [V, hostOps0, List.flatten_cons, List.flatten_nil, List.append_nil]
  after_results_simp <;> rfl

theorem frame_ker : Cert.quiescent_OutIdeal_pre_finite_o := fun m g _ => OutIdeal.Gen.frame m g
theorem frame_ref : Cert.quiescent_OutRefIdeal := fun m ρ _ =>
  (θ_run Cert.OutRefIdeal.defs _ _).mono (fun r h => ⟨fun c => (h c).2.2.2.2.2, sem_eq_zero_of_no_sems (by decide) r.2⟩) (Cert.OutRefIdeal.Value.run m ρ)
theorem frame_ref_pre : Cert.quiescent_OutRefIdeal_pre_finite_o := fun m ρ _ => frame_ref m ρ trivial

set_option maxHeartbeats 2000000 in
/-- The kernel's gradients of the two norms and of the projection are the derivatives of the plain lines, wherever the cotangent, the
    weights, the norms' inputs and their scales are finite. -/
theorem algebraic : Cert.algebraic_OutIdeal_OutRefIdeal_pre_finite_o := by
  intro m g m' g' hpre hag
  refine ⟨_, _, _, _, _, OutIdeal.Value.run_blocks m g, ?_⟩
  refine (θ_run _ _ _).mono (fun r h c => ?_) (OutRefIdeal.Value.run m' g')
  obtain ⟨h78, h58, h79, h80, h81, hrest⟩ := h c
  obtain ⟨e0, e1, e2, e3, e4, e5⟩ := hag c
  have hp : ∀ j, _ = 1#1 := fun j => congrFun (hpre c) j
  obtain ⟨p4, f5⟩ := both (hp fun a => nomatch a)
  obtain ⟨p3, f4⟩ := both p4
  obtain ⟨p2, f3⟩ := both p3
  obtain ⟨p1, f2⟩ := both p2
  obtain ⟨f0, f1⟩ := both p1
  have g0 : ∀ i, Fin' (OutIdeal.KerValue.argD m c i) := fin_of_all (fun _ => rfl) f0
  have g1 : ∀ i, Fin' (OutIdeal.KerValue.argW m c i) := fin_of_all (fun _ => rfl) f1
  have g2 : ∀ i, Fin' (OutIdeal.KerValue.argP m c i) := fin_of_all (fun _ => rfl) f2
  have g3 : ∀ i, Fin' (OutIdeal.KerValue.argA m c i) := fin_of_all (fun _ => rfl) f3
  have g4 : ∀ i, Fin' (OutIdeal.KerValue.argGP m c i) := fin_of_all (fun _ => rfl) f4
  have g5 : ∀ i, Fin' (OutIdeal.KerValue.argGA m c i) := fin_of_all (fun _ => rfl) f5
  refine ⟨h78.trans ?_, h58.trans ?_, h79.trans ?_, h80.trans ?_, h81.trans ?_, hrest⟩
  · rw [OutIdeal.KerValue.final7, OutRefIdeal.Read.val_main_v78_eq, e0, e1, e2, e4]
    funext y
    rw [eq_ix2 y]
    exact dyP _ _ _ _ (y 0) (y 1) g0 g1 g2 g4
  · rw [OutIdeal.KerValue.final8, OutRefIdeal.Read.val_main_v58_eq, e0, e1, e3, e5]
    funext y
    rw [eq_ix2 y]
    exact dyA _ _ _ _ (y 0) (y 1) g0 g1 g3 g5
  · rw [OutRefIdeal.Read.val_main_v79_eq, e0, e2, e3, e4, e5]
    refine Eq.trans ?_ (OutIdeal.KerValue.final9 m c).symm
    funext y
    rw [eq_ix2 y]
    show _ = ∑ t, dwAt (OutIdeal.KerValue.argD m c) (OutIdeal.KerValue.mixed m c) (y 0) (y 1) t
    rw [mixed_eq]
    exact dw_ref _ _ _ _ _ (y 0) (y 1)
  · rw [OutIdeal.KerValue.final10, OutRefIdeal.Read.val_main_v80_eq, e0, e1, e2]
    funext y
    obtain ⟨z, l, rfl⟩ : ∃ (z : Fin 1) (l : Fin 512), y = ix2 z l := ⟨y 0, y 1, eq_ix2 y⟩
    obtain rfl : z = 0 := Subsingleton.elim _ _
    exact dgP _ _ _ l
  · rw [OutIdeal.KerValue.final11, OutRefIdeal.Read.val_main_v81_eq, e0, e1, e3]
    funext y
    obtain ⟨z, l, rfl⟩ : ∃ (z : Fin 1) (l : Fin 512), y = ix2 z l := ⟨y 0, y 1, eq_ix2 y⟩
    obtain rfl : z = 0 := Subsingleton.elim _ _
    exact dgA _ _ _ l

end Cert.Proof.OutClaims

end
-- ==== Proof.MlpBMath.lean ====
/-
  The gradients of the multilayer part's hidden layer and of the norm in front of it, in numbers: the hidden layer's cotangent in four
  groups of 1024 columns.
-/
module

public import proofs.«01_k».proof.Proof.Rms
public import proofs.«01_k».proof.Proof.Rows

@[expose] public section

noncomputable section

namespace Cert.MlpBMath

open Idealize.ShloMosaic Cert.Rms Cert.Pool

abbrev Act : Type := (⟨2, ![4096, 1024]⟩ : Shape).Idx → EReal
abbrev Up : Type := (⟨2, ![1024, 4096]⟩ : Shape).Idx → EReal
abbrev Hid : Type := (⟨2, ![4096, 4096]⟩ : Shape).Idx → EReal
abbrev Sc : Type := (⟨1, ![1024]⟩ : Shape).Idx → EReal

abbrev two : EReal := Ideal.ofBits .f32 0x40000000#32

/-- Column `k` of group `p`. -/
abbrev mcol (p : Fin 4) (k : Fin 1024) : Fin 4096 := ⟨p.val * 1024 + k.val, by omega⟩

variable (x d : Act) (wu : Up) (wd : Act) (r : Hid) (g : Sc)

/-- The cotangent of the hidden layer, `r` its rectified value; and that of the norm's output. -/
def du (t c : Fin 4096) : EReal := (∑ k : Fin 1024, d (ix2 t k) * wd (ix2 c k)) * (two * r (ix2 t c))
def part (p : Fin 4) (t : Fin 4096) (j : Fin 1024) : EReal := ∑ k : Fin 1024, du d wd r t (mcol p k) * wu (ix2 j (mcol p k))
def dhn (t : Fin 4096) (j : Fin 1024) : EReal := part d wu wd r 0 t j + part d wu wd r 1 t j + part d wu wd r 2 t j + part d wu wd r 3 t j

abbrev row (t : Fin 4096) (j : Fin 1024) : EReal := x (ix2 t j)
abbrev scale (j : Fin 1024) : EReal := g (ix1 j)

/-- The kernel's `dx`, and a row's part of `dg`. -/
def dx (t : Fin 4096) (j : Fin 1024) : EReal := d (ix2 t j) + hand w1024 (row x t) (scale g) (dhn d wu wd r t) j
def dgAt (j : Fin 1024) (t : Fin 4096) : EReal := dhn d wu wd r t j * (x (ix2 t j) * root w1024 (row x t))

theorem two_eq : two = ((2 : ℝ) : EReal) := by
  simp [two, Ideal.ofBits, Ideal.ieee]
  rw [← EReal.coe_mul]
  norm_num

theorem fin_du (hd : ∀ i, Fin' (d i)) (hw : ∀ i, Fin' (wd i)) (hr : ∀ i, Fin' (r i)) (t c : Fin 4096) : Fin' (du d wd r t c) := by
  have h2 : Fin' two := by rw [two_eq]; exact ⟨EReal.coe_ne_top _, EReal.coe_ne_bot _⟩
  exact fin_mul (fin_sum _ _ fun _ => fin_mul (hd _) (hw _)) (fin_mul h2 (hr _))

theorem fin_dhn (hd : ∀ i, Fin' (d i)) (hu : ∀ i, Fin' (wu i)) (hw : ∀ i, Fin' (wd i)) (hr : ∀ i, Fin' (r i)) (t : Fin 4096) (j : Fin 1024) :
    Fin' (dhn d wu wd r t j) := by
  have h : ∀ p, Fin' (part d wu wd r p t j) := fun p => fin_sum _ _ fun k => fin_mul (fin_du d wd r hd hw hr _ _) (hu _)
  exact fin_add (fin_add (fin_add (h 0) (h 1)) (h 2)) (h 3)

/-- A sum over the 4096 columns, group by group. -/
theorem cols (f : Fin 4096 → EReal) : ∑ c, f c = (∑ i, f (mcol 0 i)) + (∑ i, f (mcol 1 i)) + (∑ i, f (mcol 2 i)) + ∑ i, f (mcol 3 i) := by
  have h : ∑ c, f c = ∑ a : Fin 4 × Fin 1024, f (mcol a.1 a.2) := by
    refine (Equiv.sum_comp (finProdFinEquiv (m := 4) (n := 1024)) f).symm.trans (Finset.sum_congr rfl fun a _ => congrArg f (Fin.ext ?_))
    show a.2.val + 1024 * a.1.val = a.1.val * 1024 + a.2.val
    omega
  rw [h, Fintype.sum_prod_type, Fin.sum_univ_four]

/-- The hidden layer's cotangent under the rectifier's own derivative: where the layer is not positive its rectified value is zero. -/
theorem du_rect (a u : EReal) : (if 0 < u then a * (two * max u 0) else 0) = a * (two * max u 0) := by
  by_cases h : 0 < u
  · rw [if_pos h]
  · rw [if_neg h, max_eq_right (not_lt.1 h), mul_zero, mul_zero]

end Cert.MlpBMath

end
-- ==== Proof.MlpBKer.lean ====
/-
  The kernel's gradients of the multilayer part's hidden layer and of the norm in front of it (`MlpBIdeal`), block by block, and the sum
  over the eight blocks of 512 rows.
-/
module

public import proofs.«01_k».proof.Proof.MlpBMath
public import proofs.«01_k».proof.Proof.Gen.MlpBIdeal.Value
public import Idealize.ShloMosaic.Lib.Pipeline.ValueKit
public import Idealize.ShloMosaic.Lib.Pipeline.ReadBack

@[expose] public section

set_option maxRecDepth 16384

noncomputable section

namespace Cert.MlpBIdeal.KerValue

open Cert.MlpBIdeal Cert.MlpBIdeal.Gen Idealize.ShloMosaic Idealize.ShloMosaic.TcCoe Cert.Rms Cert.MlpBMath

section Body

variable (D R : Vec Ideal S512x1024 .bf16) (W U : Vec Ideal S1x1024x1024 .bf16) (T X E : Vec Ideal S512x1024 .f32) (A G : Vec Ideal S1x1024 .f32) (r : Fin 512) (j k : Fin 1024)

/-- The body's values at an index. -/
theorem pay2 : k0_pay2 D W R (ix2 r k) = (∑ l : Fin 1024, D (ix2 r l) * W (ix3 0 k l)) * (two * R (ix2 r k)) := by pointwise [k0_pay2, k0_pay1]
theorem pay8 (D1 R0 R1 R2 R3 : Vec Ideal S512x1024 .bf16) (W0 W1 W2 W3 U0 U1 U2 U3 : Vec Ideal S1x1024x1024 .bf16) :
    k0_pay8 (k0_pay1 D) (k0_pay3 D W0 R0 U0) (k0_pay2 D W1 R1) (k0_pay5 U1) (constant S512x1024 .f32 0x00000000#32) W2 R2 U2 W3 R3 U3 (ix2 r j)
      = (∑ k : Fin 1024, k0_pay2 D W0 R0 (ix2 r k) * U0 (ix3 0 j k)) + (∑ k : Fin 1024, k0_pay2 D W1 R1 (ix2 r k) * U1 (ix3 0 j k))
        + (∑ k : Fin 1024, k0_pay2 D W2 R2 (ix2 r k) * U2 (ix3 0 j k)) + ∑ k : Fin 1024, k0_pay2 D W3 R3 (ix2 r k) * U3 (ix3 0 j k) := by
  pointwise [k0_pay8, k0_pay3, k0_pay5]
  rfl
theorem pay10 : k0_pay10 X (ix2 r 0) = Ideal.rsqrt (Ideal.div (∑ j : Fin 1024, X (ix2 r j) * X (ix2 r j)) w1024 + eps) := by pointwise [k0_pay10]
theorem pay11 : k0_pay11 X (ix2 r j) = X (ix2 r j) * k0_pay10 X (ix2 r 0) := by pointwise [k0_pay11]
theorem pay12 : k0_pay12 T X A (ix2 0 j) = A (ix2 0 j) + ∑ r : Fin 512, T (ix2 r j) * k0_pay11 X (ix2 r j) := by pointwise [k0_pay12]
theorem pay13 : k0_pay13 T X E G (ix2 r j) = E (ix2 r j) + k0_pay10 X (ix2 r 0) * (T (ix2 r j) * G (ix2 0 j) - k0_pay11 X (ix2 r j)
    * Ideal.div (∑ i : Fin 1024, T (ix2 r i) * G (ix2 0 i) * k0_pay11 X (ix2 r i)) w1024) := by pointwise [k0_pay13]

end Body

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0]
    ∧ win0_3.index t = ![0, 0, 0] ∧ win0_4.index t = ![t.val, 0] ∧ win0_5.index t = ![t.val, 0] ∧ win0_6.index t = ![0, 0]
    ∧ win0_7.index t = ![t.val, 0] ∧ win0_8.index t = ![t.val, 0] :=
  (by decide +kernel : ∀ t : Fin grid0.N, _)

/-- The arguments, and the rectified hidden layer as the host computes it. -/
abbrev argX : Act := m ((c : Thread nD τ).loc main_arg0)
abbrev argD : Act := m ((c : Thread nD τ).loc main_arg1)
abbrev argU : Up := m ((c : Thread nD τ).loc main_arg2)
abbrev argW : Act := m ((c : Thread nD τ).loc main_arg3)
abbrev argG : Sc := m ((c : Thread nD τ).loc main_arg4)
abbrev act : Hid := V m c main_v18

/-- Row `r` of block `t`. -/
abbrev ptRow (t : Fin cfg0.N) (r : Fin 512) : Fin 4096 := ⟨512 * t.val + r.val, by have : t.val < 8 := t.isLt; omega⟩

theorem rows0 (t : Fin cfg0.N) (r : Fin 512) (l : Fin 1024) : iblk m c 0 t (ix2 r l) = argD m c (ix2 (ptRow t r) l) := by
  have h : V m c main_v19 = argD m c := by
    unfold_abbrev_sides
    after_results
    rfl
  blk_simp [iblk]
  refine (congrFun h _).trans (congrArg (argD m c) ?_)
  blk_ext [(idx t).1]
theorem rows1 (t : Fin cfg0.N) (r : Fin 512) (l : Fin 4096) : iblk m c 1 t (ix2 r l) = act m c (ix2 (ptRow t r) l) := by
  blk_simp [iblk]
  refine congrArg (V m c main_v18) ?_
  blk_ext [(idx t).2.1]
theorem rows4 (t : Fin cfg0.N) (r : Fin 512) (l : Fin 1024) : iblk m c 4 t (ix2 r l) = argX m c (ix2 (ptRow t r) l) := by
  blk_simp [iblk]
  refine congrArg (m _) ?_
  blk_ext [(idx t).2.2.2.2.1]
theorem rows5 (t : Fin cfg0.N) (r : Fin 512) (l : Fin 1024) : iblk m c 5 t (ix2 r l) = argD m c (ix2 (ptRow t r) l) := by
  blk_simp [iblk]
  refine congrArg (m _) ?_
  blk_ext [(idx t).2.2.2.2.2.1]
theorem down (t : Fin cfg0.N) (p : Fin 4) (k l : Fin 1024) : iblk m c 2 t (ix3 p k l) = argW m c (ix2 (mcol p k) l) := by
  have h : V m c main_v21 = shapeCast S4x1024x1024 (argW m c) shapeCasts_S4096x1024_S4x1024x1024 := by
    unfold_abbrev_sides
    after_results
    rfl
  blk_simp [iblk]
  refine (congrFun h _).trans ?_
  rw [show (win0_2.blk t).view.emb (ix3 p k l) = ix3 p k l by blk_ext [(idx t).2.2.1]]
  pointwise []
theorem up (t : Fin cfg0.N) (p : Fin 4) (j k : Fin 1024) : iblk m c 3 t (ix3 p j k) = argU m c (ix2 j (mcol p k)) := by
  have h : V m c main_v23 = transpose S4x1024x1024 [1, 0, 2] (shapeCast S1024x4x1024 (argU m c) shapeCasts_S1024x4096_S1024x4x1024) transposes_S1024x4x1024_S4x1024x1024_1_0_2 := by
    unfold_abbrev_sides
    after_results
    rfl
  blk_simp [iblk]
  refine (congrFun h _).trans ?_
  rw [show (win0_3.blk t).view.emb (ix3 p j k) = ix3 p j k by blk_ext [(idx t).2.2.2.1]]
  pointwise []
theorem scales (t : Fin cfg0.N) (l : Fin 1024) : iblk m c 6 t (ix2 0 l) = argG m c (ix1 l) := by
  have h : V m c main_v24 = shapeCast S1x1024 (argG m c) shapeCasts_S1024_S1x1024 := by
    unfold_abbrev_sides
    after_results
    rfl
  blk_simp [iblk]
  refine (congrFun h _).trans ?_
  rw [show (win0_6.blk t).view.emb (ix2 0 l) = ix2 0 l by blk_ext [(idx t).2.2.2.2.2.2.1]]
  pointwise []

/-- The four groups of the hidden layer's columns, of the weights behind it and of those in front. -/
abbrev rs (t : Fin cfg0.N) : Fin 4 → Vec Ideal S512x1024 .bf16 :=
  ![View.ld (iblk m c 1 t) (Rect.unit ![0, 0] ![512, 1024] inb_S512x4096_S512x1024_0_0), View.ld (iblk m c 1 t) (Rect.unit ![0, 1024] ![512, 1024] inb_S512x4096_S512x1024_0_1024), View.ld (iblk m c 1 t) (Rect.unit ![0, 2048] ![512, 1024] inb_S512x4096_S512x1024_0_2048), View.ld (iblk m c 1 t) (Rect.unit ![0, 3072] ![512, 1024] inb_S512x4096_S512x1024_0_3072)]
abbrev quarter (X : Vec Ideal S4x1024x1024 .bf16) : Fin 4 → Vec Ideal S1x1024x1024 .bf16 :=
  ![View.ld X (Rect.unit ![0, 0, 0] ![1, 1024, 1024] inb_S4x1024x1024_S1x1024x1024_0_0_0), View.ld X (Rect.unit ![1, 0, 0] ![1, 1024, 1024] inb_S4x1024x1024_S1x1024x1024_1_0_0), View.ld X (Rect.unit ![2, 0, 0] ![1, 1024, 1024] inb_S4x1024x1024_S1x1024x1024_2_0_0), View.ld X (Rect.unit ![3, 0, 0] ![1, 1024, 1024] inb_S4x1024x1024_S1x1024x1024_3_0_0)]

theorem rs_apply (t : Fin cfg0.N) (p : Fin 4) (r : Fin 512) (k : Fin 1024) : rs m c t p (ix2 r k) = act m c (ix2 (ptRow t r) (mcol p k)) := by
  rw [← rows1 m c t]
  fin_cases p <;> exact congrArg (iblk m c 1 t) (by blk_ext [Rect.idx_unit_val])
theorem quarter_apply (X : Vec Ideal S4x1024x1024 .bf16) (p : Fin 4) (j k : Fin 1024) : quarter X p (ix3 0 j k) = X (ix3 p j k) := by
  fin_cases p <;> exact congrArg X (by blk_ext [Rect.idx_unit_val])

/-- A group's part of the hidden layer's cotangent, and the cotangent of the norm's output. -/
abbrev group (t : Fin cfg0.N) (p : Fin 4) : FVec Ideal S512x1024 .bf16 := k0_pay2 (iblk m c 0 t) (quarter (iblk m c 2 t) p) (rs m c t p)
def cot (t : Fin cfg0.N) : FVec Ideal S512x1024 .f32 := k0_pay8 (k0_pay1 (iblk m c 0 t))
  (k0_pay3 (iblk m c 0 t) (quarter (iblk m c 2 t) 0) (rs m c t 0) (quarter (iblk m c 3 t) 0)) (group m c t 1) (k0_pay5 (quarter (iblk m c 3 t) 1))
  (constant S512x1024 .f32 0x00000000#32) (quarter (iblk m c 2 t) 2) (rs m c t 2) (quarter (iblk m c 3 t) 2) (quarter (iblk m c 2 t) 3) (rs m c t 3)
  (quarter (iblk m c 3 t) 3)

theorem group_apply (t : Fin cfg0.N) (p : Fin 4) (r : Fin 512) (k : Fin 1024) : group m c t p (ix2 r k) = du (argD m c) (argW m c) (act m c) (ptRow t r) (mcol p k) := by
  refine (pay2 _ _ _ r k).trans ?_
  simp only [rows0, quarter_apply, down, rs_apply]
  rfl
theorem cot_apply (t : Fin cfg0.N) (r : Fin 512) (j : Fin 1024) : cot m c t (ix2 r j) = dhn (argD m c) (argU m c) (argW m c) (act m c) (ptRow t r) j := by
  refine (pay8 _ r j (iblk m c 0 t) _ _ _ _ _ _ _ _ _ _ _ _).trans ?_
  simp only [group_apply, quarter_apply, up]
  rfl
theorem root_apply (t : Fin cfg0.N) (r : Fin 512) : k0_pay10 (iblk m c 4 t) (ix2 r 0) = root w1024 (row (argX m c) (ptRow t r)) := by
  rw [pay10]
  simp only [rows4]
  rfl

/-- The stores of one grid point into the hidden layer's cotangent. -/
def pieces7 (t : Fin cfg0.N) : List (View.Piece (Elt Ideal) S512x4096 .bf16) :=
  [⟨Rect.unit ![0, 3072] ![512, 1024] inb_S512x4096_S512x1024_0_3072, group m c t 3⟩, ⟨Rect.unit ![0, 2048] ![512, 1024] inb_S512x4096_S512x1024_0_2048, group m c t 2⟩,
    ⟨Rect.unit ![0, 1024] ![512, 1024] inb_S512x4096_S512x1024_0_1024, group m c t 1⟩, ⟨Rect.unit ![0, 0] ![512, 1024] inb_S512x4096_S512x1024_0_0, group m c t 0⟩]

theorem first (t : Fin cfg0.N) (h0 : t.val % 8 = 0) : outsAt0 m c t.val t.isLt
    = (View.canon (pieces7 m c t), k0_pay13 (cot m c t) (iblk m c 4 t) (iblk m c 5 t) (iblk m c 6 t), k0_pay12 (cot m c t) (iblk m c 4 t) (k0_pay9 (F := Ideal))) := by
  rw [outsAt0_A m c t h0]
  frame_out
  rfl
theorem next (t : Fin cfg0.N) (h0 : ¬t.val % 8 = 0) : outsAt0 m c t.val t.isLt
    = (View.canon (pieces7 m c t), k0_pay13 (cot m c t) (iblk m c 4 t) (iblk m c 5 t) (iblk m c 6 t),
      k0_pay12 (cot m c t) (iblk m c 4 t) (outsAt0 m c (t.val - 1) (by omega)).2.2) := by
  rw [outsAt0_B m c t h0]
  frame_out
  rfl
theorem blocks (t : Fin cfg0.N) : (outsAt0 m c t.val t.isLt).1 = View.canon (pieces7 m c t)
    ∧ (outsAt0 m c t.val t.isLt).2.1 = k0_pay13 (cot m c t) (iblk m c 4 t) (iblk m c 5 t) (iblk m c 6 t) := by
  by_cases h0 : t.val % 8 = 0
  · rw [first m c t h0]
    dsimp only
    exact ⟨Eq.refl _, Eq.refl _⟩
  · rw [next m c t h0]
    dsimp only
    exact ⟨Eq.refl _, Eq.refl _⟩

/-- The three results. -/
abbrev allU : S4096x4096.Idx → EReal := fun y => du (argD m c) (argW m c) (act m c) (y 0) (y 1)
abbrev allX : S4096x1024.Idx → EReal := fun y => dx (argX m c) (argD m c) (argU m c) (argW m c) (act m c) (argG m c) (y 0) (y 1)
abbrev rowG (j : Fin 1024) : Fin 4096 → EReal := dgAt (argX m c) (argD m c) (argU m c) (argW m c) (act m c) j

theorem of7 (t : Fin cfg0.N) (y : S512x4096.Idx) : View.canon (pieces7 m c t) y = allU m c (ix2 (ptRow t (y 0)) (y 1)) := by
  have piece : ∀ (p : Fin 4) (x : S512x1024.Idx) (y : S512x4096.Idx), y = ix2 (x 0) (mcol p (x 1)) → group m c t p x = allU m c (ix2 (ptRow t (y 0)) (y 1)) := by
    intro p x y hy
    obtain ⟨r, k, rfl⟩ : ∃ (r : Fin 512) (k : Fin 1024), x = ix2 r k := ⟨x 0, x 1, eq_ix2 x⟩
    rw [hy, group_apply]
    rfl
  refine (congrArg (fun L => View.canon L y) (List.append_nil _).symm).trans
    (View.canon_append_of_piecesOf (fun y => allU m c (ix2 (ptRow t (y 0)) (y 1))) [] (pieces7 m c t) ?_ y (View.cover_of_tiledL (pieces7 m c t) S512x1024.size (by sl_kernel_rfl) y))
  refine ⟨fun x => ?_, fun x => ?_, fun x => ?_, fun x => ?_, trivial⟩ <;>
    exact piece _ x _ (by blk_ext [Rect.idx_unit_val])

theorem final7 : (dats m 0 c).arrAt 7 cfg0.N = allU m c := by
  refine (dats m 0 c).arrAt_eq_of_covers 7 _ (by decide +kernel) fun t hf y => ?_
  blk_simp
  rw [after0_7]
  refine (congrFun (blocks m c t).1 _).trans ((of7 m c t _).trans ?_)
  refine congrArg (allU m c) ?_
  blk_ext [(idx t).2.2.2.2.2.2.2.1]

theorem final8 : (dats m 0 c).arrAt 8 cfg0.N = allX m c := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  have h : (outsAt0 m c t.val t.isLt).2.1 (ix2 r j) = allX m c (ix2 (ptRow t r) j) := by
    rw [(blocks m c t).2, pay13]
    simp only [pay11, cot_apply, rows4, rows5, root_apply, scales]
    rfl
  blk_simp
  rw [after0_8]
  refine h.trans (congrArg (allX m c) ?_)
  blk_ext [(idx t).2.2.2.2.2.2.2.2]

theorem add (t : Fin cfg0.N) (A : Vec Ideal S1x1024 .f32) (j : Fin 1024) (hA : A (ix2 0 j) = ∑ s ∈ Finset.range (512 * t.val), Rows.upTo (rowG m c j) s) :
    k0_pay12 (cot m c t) (iblk m c 4 t) A (ix2 0 j) = ∑ s ∈ Finset.range (512 * (t.val + 1)), Rows.upTo (rowG m c j) s := by
  have ht : t.val < 8 := t.isLt
  rw [pay12]
  refine Rows.next (rowG m c j) (by omega) _ (fun r => ?_) hA
  rw [pay11, cot_apply, rows4, root_apply]
  rfl

theorem sum9 (n : ℕ) (hn : n < cfg0.N) (j : Fin 1024) : (outsAt0 m c n hn).2.2 (ix2 0 j) = ∑ s ∈ Finset.range (512 * (n + 1)), Rows.upTo (rowG m c j) s := by
  have h8 : n < 8 := hn
  induction n with
  | zero =>
    rw [show outsAt0 m c 0 hn = _ from first m c ⟨0, hn⟩ rfl]
    refine add m c ⟨0, hn⟩ _ j ?_
    rw [Nat.mul_zero, Finset.sum_range_zero]
    pointwise [k0_pay9]
  | succ n ih =>
    rw [show outsAt0 m c (n + 1) hn = _ from next m c ⟨n + 1, hn⟩ (by show ¬(n + 1) % 8 = 0; omega)]
    exact add m c ⟨n + 1, hn⟩ _ j (ih (Nat.lt_of_succ_lt hn) (by omega))

theorem final9 : (dats m 0 c).arrAt 9 cfg0.N = fun y : S1x1024.Idx => ∑ t, rowG m c (y 1) t := by
  refine (dats m 0 c).arrAt_eq_of_after_last 9 (⟨7, by decide⟩ : Fin cfg0.N) (by decide +kernel) _ fun y => ?_
  obtain ⟨z, j, rfl⟩ : ∃ (z : Fin 1) (j : Fin 1024), y = ix2 z j := ⟨y 0, y 1, eq_ix2 y⟩
  obtain rfl : z = 0 := Subsingleton.elim _ _
  rw [after0_9]
  exact (sum9 m c 7 (by decide) j).trans (Rows.upTo_sum _)

end Cert.MlpBIdeal.KerValue

end
-- ==== Proof.MlpB.lean ====
/-
  The claims of the gradients of the multilayer part's hidden layer and of the norm in front of it.
-/
module

public import proofs.«01_k».proof.Defs
public import proofs.«01_k».proof.Proof.Fine
public import proofs.«01_k».proof.Proof.MlpBKer
public import proofs.«01_k».proof.Proof.Gen.Pre_finite_m
public import proofs.«01_k».proof.Proof.Gen.MlpBRefIdeal.Run
public import proofs.«01_k».proof.Proof.Gen.MlpBRefIdeal.Read
public import Idealize.ShloMosaic.Lib.Claim

@[expose] public section

set_option maxRecDepth 16384

noncomputable section

namespace Cert.Proof.MlpBClaims

open Idealize.ShloMosaic Idealize.ShloMosaic.TcCoe Idealize.SL.Sem Cert.Pool Cert.Rms Cert.MlpBMath

section Ref

open Cert.MlpBRefIdeal Cert.MlpBRefIdeal.Gen Cert.MlpBRefIdeal.Read

variable (x d : Act) (wu : Up) (wd : Act) (g : Sc) (t : Fin 4096) (j : Fin 1024)

theorem ms_ref : val_main_v6 (F := Ideal) x (ix2 t 0) = ms w1024 (row x t) := by
  pointwise [val_main_v6, val_main_v5, val_main_cst_1, val_main_v4, val_main_v3, val_main_cst_0, val_main_v2, val_main_v1, val_main_v0, val_main_cst]
  rfl
theorem root_ref : val_main_v7 (F := Ideal) x (ix2 t 0) = root w1024 (row x t) := by
  have e : val_main_v7 (F := Ideal) x (ix2 t 0) = Ideal.rsqrt (val_main_v6 (F := Ideal) x (ix2 t 0)) := by pointwise [val_main_v7]
  rw [e, ms_ref]
  rfl

/-- The hidden layer in front of the rectifier, and behind it. -/
abbrev hid (c : Fin 4096) : EReal := val_main_v16 (F := Ideal) x wu g (ix2 t c)
abbrev act : Hid := val_main_v17 (F := Ideal) x wu g

theorem act_apply (c : Fin 4096) : act x wu g (ix2 t c) = max (hid x wu g t c) 0 := by
  pointwise [act, val_main_v17, val_main_call0_v0, val_main_call0_cst]
theorem fin_act (hx : ∀ i, Fin' (x i)) (hu : ∀ i, Fin' (wu i)) (hg : ∀ i, Fin' (g i)) (i : (⟨2, ![4096, 4096]⟩ : Shape).Idx) : Fin' (act x wu g i) := by
  obtain ⟨t, c, rfl⟩ : ∃ (t c : Fin 4096), i = ix2 t c := ⟨i 0, i 1, eq_ix2 i⟩
  rw [act_apply]
  have e : hid x wu g t c = ∑ k : Fin 1024, x (ix2 t k) * val_main_v7 (F := Ideal) x (ix2 t 0) * g (ix1 k) * wu (ix2 k c) := by
    show val_main_v16 (F := Ideal) x wu g (ix2 t c) = _
    pointwise [val_main_v16, val_main_v15, val_main_v14, val_main_v13, val_main_v12, val_main_v11]
  rw [e, root_ref]
  exact fin_max (fin_sum _ _ fun k => fin_mul (fin_mul (fin_mul (hx _) (fin_root _ _ 1024 (by norm_num) w1024_eq fun k => hx _)) (hg _)) (hu _))

theorem du_ref (c : Fin 4096) : val_main_v30 (F := Ideal) x d wu wd g (ix2 t c) = du d wd (act x wu g) t c := by
  have e : val_main_v30 (F := Ideal) x d wu wd g (ix2 t c) = if 0 < hid x wu g t c then (∑ k : Fin 1024, d (ix2 t k) * wd (ix2 c k)) * (two * act x wu g (ix2 t c)) else 0 := by
    pointwise [val_main_v30, val_main_v29, val_main_cst_6, val_main_v28, val_main_v27, val_main_v26, val_main_v23, val_main_v22, val_main_cst_5, val_main_v19, val_main_v18, val_main_cst_3]
  rw [e, act_apply, du_rect, ← act_apply]
  rfl

theorem cot : val_main_v31 (F := Ideal) x d wu wd g (ix2 t j) = dhn d wu wd (act x wu g) t j := by
  have e : val_main_v31 (F := Ideal) x d wu wd g (ix2 t j) = ∑ c : Fin 4096, val_main_v30 (F := Ideal) x d wu wd g (ix2 t c) * wu (ix2 j c) := by
    pointwise [val_main_v31]
  rw [e, cols]
  simp only [du_ref]
  rfl

theorem coef_ref : val_main_v48 (F := Ideal) x d wu wd g (ix2 t j) = coef w1024 (row x t) (scale g) (dhn d wu wd (act x wu g) t) := by
  have e : val_main_v48 (F := Ideal) x d wu wd g (ix2 t j)
      = Ideal.div ((∑ i : Fin 1024, x (ix2 t i) * (val_main_v31 (F := Ideal) x d wu wd g (ix2 t i) * g (ix1 i)))
        * (half * Ideal.div (val_main_v7 (F := Ideal) x (ix2 t 0)) (val_main_v6 (F := Ideal) x (ix2 t 0)))) w1024 := by
    pointwise [val_main_v48, val_main_v47, val_main_cst_11, val_main_v46, val_main_v45, val_main_cst_10, val_main_v44, val_main_v10, val_main_v9, val_main_cst_2,
      val_main_v8, val_main_v40, val_main_v39, val_main_cst_9, val_main_v38, val_main_v36, val_main_v35, val_main_v13]
    exact Fin.sum_univ_one _
  rw [e, root_ref, ms_ref]
  simp only [cot]
  rfl

/-- The reference's `dx` is the kernel's, its inputs finite. -/
theorem dx_ref (hx : ∀ i, Fin' (x i)) (hd : ∀ i, Fin' (d i)) (hu : ∀ i, Fin' (wu i)) (hw : ∀ i, Fin' (wd i)) (hg : ∀ i, Fin' (g i)) :
    val_main_v52 (F := Ideal) x d wu wd g (ix2 t j) = dx x d wu wd (act x wu g) g t j := by
  have e : val_main_v52 (F := Ideal) x d wu wd g (ix2 t j)
      = d (ix2 t j) + val_main_v31 (F := Ideal) x d wu wd g (ix2 t j) * g (ix1 j) * val_main_v7 (F := Ideal) x (ix2 t 0)
        + x (ix2 t j) * val_main_v48 (F := Ideal) x d wu wd g (ix2 t j) + val_main_v48 (F := Ideal) x d wu wd g (ix2 t j) * x (ix2 t j) := by
    pointwise [val_main_v52, val_main_v51, val_main_v50, val_main_v49, val_main_v43, val_main_v42, val_main_v41, val_main_v36, val_main_v35, val_main_v13]
  rw [e, coef_ref, root_ref, cot]
  exact (hand_eq w1024 (row x t) (scale g) _ 1024 (by norm_num) w1024_eq (fun i => hx _) (fun i => hg _)
    (fun i => fin_dhn d wu wd _ hd hu hw (fin_act x wu g hx hu hg) t i) _ j).symm

theorem dg_ref : val_main_v54 (F := Ideal) x d wu wd g (ix2 0 j) = ∑ t, dgAt x d wu wd (act x wu g) j t := by
  have e : val_main_v54 (F := Ideal) x d wu wd g (ix2 0 j)
      = ∑ t : Fin 4096, x (ix2 t j) * val_main_v7 (F := Ideal) x (ix2 t 0) * val_main_v31 (F := Ideal) x d wu wd g (ix2 t j) := by
    pointwise [val_main_v54, val_main_v37, val_main_cst_8, val_main_v34, val_main_v33, val_main_cst_7, val_main_v32, val_main_v12, val_main_v11]
    exact Fin.sum_univ_one _
  rw [e]
  refine Finset.sum_congr rfl fun t _ => ?_
  rw [cot, root_ref, mul_comm]
  rfl

theorem hid_ref (c : Fin 4096) : val_main_v53 (F := Ideal) x d wu wd g (ix2 t c) = du d wd (act x wu g) t c := by
  have e : val_main_v53 (F := Ideal) x d wu wd g (ix2 t c) = val_main_v30 (F := Ideal) x d wu wd g (ix2 t c) := by pointwise [val_main_v53]
  rw [e, du_ref]

end Ref

open Cert.MlpBIdeal Cert.MlpBIdeal.Gen in
set_option maxHeartbeats 4000000 in
/-- The rectified hidden layer, which the host computes in front of the kernel, is the reference's. -/
theorem act_eq (m : (ℓ : Loc nD τ sig) → Buf (Elt Ideal) ℓ) (c : Dev nD) :
    MlpBIdeal.KerValue.act m c = act (MlpBIdeal.KerValue.argX m c) (MlpBIdeal.KerValue.argU m c) (MlpBIdeal.KerValue.argG m c) := by
  show V m c main_v18 = _
  simp only [V, hostOps0, List.flatten_cons, List.flatten_nil, List.append_nil]
  after_results_simp <;> rfl

theorem frame_ker : Cert.quiescent_MlpBIdeal_pre_finite_m := fun m g _ => MlpBIdeal.Gen.frame m g
theorem frame_ref : Cert.quiescent_MlpBRefIdeal := fun m ρ _ =>
  (θ_run Cert.MlpBRefIdeal.defs _ _).mono (fun r h => ⟨fun c => (h c).2.2.2, sem_eq_zero_of_no_sems (by decide) r.2⟩) (Cert.MlpBRefIdeal.Value.run m ρ)
theorem frame_ref_pre : Cert.quiescent_MlpBRefIdeal_pre_finite_m := fun m ρ _ => frame_ref m ρ trivial

set_option maxHeartbeats 2000000 in
/-- The kernel's gradients of the hidden layer and of the norm in front of it are the derivatives of the plain lines, wherever the
    cotangent, the weights, the norm's input and its scale are finite. -/
theorem algebraic : Cert.algebraic_MlpBIdeal_MlpBRefIdeal_pre_finite_m := by
  intro m g m' g' hpre hag
  refine ⟨_, _, _, MlpBIdeal.Value.run_blocks m g, ?_⟩
  refine (θ_run _ _ _).mono (fun r h c => ?_) (MlpBRefIdeal.Value.run m' g')
  obtain ⟨h53, h52, h54, hrest⟩ := h c
  obtain ⟨e0, e1, e2, e3, e4⟩ := hag c
  have hp : ∀ j, _ = 1#1 := fun j => congrFun (hpre c) j
  obtain ⟨p3, f4⟩ := both (hp fun a => nomatch a)
  obtain ⟨p2, f3⟩ := both p3
  obtain ⟨p1, f2⟩ := both p2
  obtain ⟨f0, f1⟩ := both p1
  have g0 : ∀ i, Fin' (MlpBIdeal.KerValue.argX m c i) := fin_of_all (fun _ => rfl) f0
  have g1 : ∀ i, Fin' (MlpBIdeal.KerValue.argD m c i) := fin_of_all (fun _ => rfl) f1
  have g2 : ∀ i, Fin' (MlpBIdeal.KerValue.argU m c i) := fin_of_all (fun _ => rfl) f2
  have g3 : ∀ i, Fin' (MlpBIdeal.KerValue.argW m c i) := fin_of_all (fun _ => rfl) f3
  have g4 : ∀ i, Fin' (MlpBIdeal.KerValue.argG m c i) := fin_of_all (fun _ => rfl) f4
  refine ⟨h53.trans ?_, h52.trans ?_, h54.trans ?_, hrest⟩
  · rw [MlpBRefIdeal.Read.val_main_v53_eq, e0, e1, e2, e3, e4]
    refine Eq.trans ?_ (MlpBIdeal.KerValue.final7 m c).symm
    funext y
    show _ = du (MlpBIdeal.KerValue.argD m c) (MlpBIdeal.KerValue.argW m c) (MlpBIdeal.KerValue.act m c) (y 0) (y 1)
    rw [act_eq, eq_ix2 y]
    exact hid_ref _ _ _ _ _ (y 0) (y 1)
  · rw [MlpBRefIdeal.Read.val_main_v52_eq, e0, e1, e2, e3, e4]
    refine Eq.trans ?_ (MlpBIdeal.KerValue.final8 m c).symm
    funext y
    show _ = dx (MlpBIdeal.KerValue.argX m c) (MlpBIdeal.KerValue.argD m c) (MlpBIdeal.KerValue.argU m c) (MlpBIdeal.KerValue.argW m c) (MlpBIdeal.KerValue.act m c)
      (MlpBIdeal.KerValue.argG m c) (y 0) (y 1)
    rw [act_eq, eq_ix2 y]
    exact dx_ref _ _ _ _ _ (y 0) (y 1) g0 g1 g2 g3 g4
  · rw [MlpBRefIdeal.Read.val_main_v54_eq, e0, e1, e2, e3, e4]
    refine Eq.trans ?_ (MlpBIdeal.KerValue.final9 m c).symm
    funext y
    obtain ⟨z, j, rfl⟩ : ∃ (z : Fin 1) (j : Fin 1024), y = ix2 z j := ⟨y 0, y 1, eq_ix2 y⟩
    obtain rfl : z = 0 := Subsingleton.elim _ _
    show _ = ∑ t, dgAt (MlpBIdeal.KerValue.argX m c) (MlpBIdeal.KerValue.argD m c) (MlpBIdeal.KerValue.argU m c) (MlpBIdeal.KerValue.argW m c) (MlpBIdeal.KerValue.act m c) j t
    rw [act_eq]
    exact dg_ref _ _ _ _ _ j

end Cert.Proof.MlpBClaims

end
-- ==== Proof.MlpFMath.lean ====
/-
  The multilayer part, the loss and the last norm's gradient in numbers: the hidden layer, the residual sum behind it, its norm, the
  error against the target, and what the loss asks of each.
-/
module

public import proofs.«01_k».proof.Proof.MlpBMath

@[expose] public section

noncomputable section

namespace Cert.MlpFMath

open Idealize.ShloMosaic Cert.Rms Cert.Pool
open Cert.MlpBMath (Act Up Hid Sc mcol cols row scale)

/-- The mean's factor 1/1024. -/
abbrev mean : EReal := Ideal.ofBits .f32 0x3A800000#32

variable (hn h1 : Act) (wu : Up) (wd : Act) (g : Sc) (tg : Act)

/-- The rectified hidden layer, and the sum behind the layer. -/
def act (t c : Fin 4096) : EReal := max (∑ l : Fin 1024, hn (ix2 t l) * wu (ix2 l c)) 0
def part (p : Fin 4) (t : Fin 4096) (j : Fin 1024) : EReal := ∑ k : Fin 1024, act hn wu t (mcol p k) * act hn wu t (mcol p k) * wd (ix2 (mcol p k) j)
def out (t : Fin 4096) (j : Fin 1024) : EReal :=
  h1 (ix2 t j) + (part hn wu wd 0 t j + part hn wu wd 1 t j + part hn wu wd 2 t j + part hn wu wd 3 t j)

/-- Its norm, the error, and the error's cotangent. -/
def nrm (t : Fin 4096) (j : Fin 1024) : EReal := out hn h1 wu wd t j * root w1024 (out hn h1 wu wd t)
def err (t : Fin 4096) (j : Fin 1024) : EReal := nrm hn h1 wu wd t j * g (ix1 j) - tg (ix2 t j)
def dy (t : Fin 4096) (j : Fin 1024) : EReal := err hn h1 wu wd g tg t j * mean

/-- The kernel's `dh2`, and a row's part of the squared errors and of `dg`. -/
def dh (t : Fin 4096) (j : Fin 1024) : EReal := hand w1024 (out hn h1 wu wd t) (scale g) (dy hn h1 wu wd g tg t) j
def sqAt (j : Fin 1024) (t : Fin 4096) : EReal := err hn h1 wu wd g tg t j * err hn h1 wu wd g tg t j
def dgAt (j : Fin 1024) (t : Fin 4096) : EReal := dy hn h1 wu wd g tg t j * nrm hn h1 wu wd t j

theorem mean_eq : mean = ((1 / 1024 : ℝ) : EReal) := by
  simp [mean, Ideal.ofBits, Ideal.ieee]
  rw [← EReal.coe_mul]
  norm_num

/-- Half of the squared error's derivative, over the mean. -/
theorem half_two (a b : EReal) (ha : a = ((1 / 1024 * (1 / 2) : ℝ) : EReal)) : a * (Ideal.ofBits .f32 0x40000000#32 * b) = b * mean := by
  rw [ha, mean_eq, show Ideal.ofBits .f32 0x40000000#32 = ((2 : ℝ) : EReal) from Cert.MlpBMath.two_eq, ← mul_assoc, ← EReal.coe_mul, mul_comm]
  norm_num

theorem fin_out (hh : ∀ i, Fin' (hn i)) (h1f : ∀ i, Fin' (h1 i)) (hu : ∀ i, Fin' (wu i)) (hd : ∀ i, Fin' (wd i)) (t : Fin 4096) (j : Fin 1024) :
    Fin' (out hn h1 wu wd t j) := by
  have ha : ∀ c, Fin' (act hn wu t c) := fun c => fin_max (fin_sum _ _ fun l => fin_mul (hh _) (hu _))
  have hp : ∀ p, Fin' (part hn wu wd p t j) := fun p => fin_sum _ _ fun k => fin_mul (fin_mul (ha _) (ha _)) (hd _)
  exact fin_add (h1f _) (fin_add (fin_add (fin_add (hp 0) (hp 1)) (hp 2)) (hp 3))

theorem fin_dy (hh : ∀ i, Fin' (hn i)) (h1f : ∀ i, Fin' (h1 i)) (hu : ∀ i, Fin' (wu i)) (hd : ∀ i, Fin' (wd i)) (hg : ∀ i, Fin' (g i)) (ht : ∀ i, Fin' (tg i))
    (t : Fin 4096) (j : Fin 1024) : Fin' (dy hn h1 wu wd g tg t j) := by
  have ho := fin_out hn h1 wu wd hh h1f hu hd t
  have hn' : Fin' (-tg (ix2 t j)) := by
    rw [← EReal.coe_toReal (ht (ix2 t j)).1 (ht (ix2 t j)).2, ← EReal.coe_neg]
    exact ⟨EReal.coe_ne_top _, EReal.coe_ne_bot _⟩
  have hm : Fin' mean := by rw [mean_eq]; exact ⟨EReal.coe_ne_top _, EReal.coe_ne_bot _⟩
  exact fin_mul (fin_add (fin_mul (fin_mul (ho j) (fin_root _ _ 1024 (by norm_num) w1024_eq ho)) (hg _)) hn') hm

end Cert.MlpFMath

end
-- ==== Proof.MlpFKer.lean ====
/-
  The kernel's multilayer part, loss and last norm's gradient (`MlpFIdeal`), block by block, and the sums over the eight blocks of 512 rows.
-/
module

public import proofs.«01_k».proof.Proof.MlpFMath
public import proofs.«01_k».proof.Proof.Gen.MlpFIdeal.Value
public import Idealize.ShloMosaic.Lib.Pipeline.ValueKit
public import Idealize.ShloMosaic.Lib.Pipeline.ReadBack

@[expose] public section

set_option maxRecDepth 16384

noncomputable section

namespace Cert.MlpFIdeal.KerValue

open Cert.MlpFIdeal Cert.MlpFIdeal.Gen Idealize.ShloMosaic Idealize.ShloMosaic.TcCoe Cert.Rms Cert.MlpFMath
open Cert.MlpBMath (Act Up Hid Sc mcol cols row scale)

section Body

variable (H A B C D : FVec Ideal S512x1024 .bf16) (Q : Vec Ideal S1x1024x1024 .bf16) (X T : Vec Ideal S512x1024 .f32) (W : Vec Ideal S4096x1024 .bf16)
  (G Z : Vec Ideal S1x1024 .f32) (N E : FVec Ideal S512x1024 .f32) (R : FVec Ideal S512x1 .f32) (r : Fin 512) (j k : Fin 1024)

/-- The four groups of columns side by side. -/
def cat : FVec Ideal S512x4096 .bf16 :=
  concatenate S512x4096 1 [⟨S512x1024, A⟩, ⟨S512x1024, B⟩, ⟨S512x1024, C⟩, ⟨S512x1024, D⟩] concatenates_S512x1024_S512x1024_S512x1024_S512x1024_S512x4096_d1

theorem cat_apply (p : Fin 4) : cat A B C D (ix2 r (mcol p k)) = (![A, B, C, D] p) (ix2 r k) := by
  fin_cases p <;> pointwise [cat]
  · rw [dif_neg (by omega), dif_neg (by omega), dif_pos (by omega)]
    exact congrArg C (congrArg (ix2 r) (Fin.ext (by show 2048 + k.val - 1024 - 1024 = k.val; omega)))
  · rw [dif_neg (by omega), dif_neg (by omega), dif_neg (by omega)]
    exact congrArg D (congrArg (ix2 r) (Fin.ext (by show 3072 + k.val - 1024 - 1024 - 1024 = k.val; omega)))

/-- The body's values at an index. -/
theorem pay8 : k0_pay8 H Q (ix2 r k) = max (∑ l : Fin 1024, H (ix2 r l) * Q (ix3 0 l k)) 0 := by pointwise [k0_pay8, k0_pay7, k0_pay6]
theorem pay9 : k0_pay9 H Q (ix2 r k) = k0_pay8 H Q (ix2 r k) * k0_pay8 H Q (ix2 r k) := by pointwise [k0_pay9, k0_pay8]
theorem pay18 : k0_pay18 (k0_pay6 H) A B C Q X W (ix2 r j) = X (ix2 r j) + ((∑ k : Fin 1024, A (ix2 r k) * W (ix2 (mcol 0 k) j))
    + (∑ k : Fin 1024, B (ix2 r k) * W (ix2 (mcol 1 k) j)) + (∑ k : Fin 1024, C (ix2 r k) * W (ix2 (mcol 2 k) j))
    + ∑ k : Fin 1024, k0_pay9 H Q (ix2 r k) * W (ix2 (mcol 3 k) j)) := by
  have e : k0_pay18 (k0_pay6 H) A B C Q X W (ix2 r j) = X (ix2 r j) + ∑ c : Fin 4096, cat A B C (k0_pay9 H Q) (ix2 r c) * W (ix2 c j) := by
    show addf X (matmul dot_S512x4096_S4096x1024_S512x1024_1_0_0_1_n_n none (cat A B C (k0_pay9 H Q)) (shapeCast S4096x1024 W shapeCasts_S4096x1024_S4096x1024)
      (constant S512x1024 .f32 0x00000000#32)) (ix2 r j) = _
    pointwise []
  rw [e, cols]
  simp only [cat_apply]
  rfl
theorem pay21 : k0_pay21 H A B C Q X W (ix2 r 0) = Ideal.rsqrt (Ideal.div (∑ j : Fin 1024, k0_pay18 H A B C Q X W (ix2 r j) * k0_pay18 H A B C Q X W (ix2 r j)) w1024 + eps) := by
  pointwise [k0_pay21]
theorem pay22 : k0_pay22 H A B C Q X W (ix2 r j) = k0_pay18 H A B C Q X W (ix2 r j) * k0_pay21 H A B C Q X W (ix2 r 0) := by pointwise [k0_pay22]
theorem pay24 : k0_pay24 H A B C Q X W G T (ix2 r j) = k0_pay22 H A B C Q X W (ix2 r j) * G (ix2 0 j) - T (ix2 r j) := by pointwise [k0_pay24, k0_pay23]
theorem pay26 : k0_pay1 (k0_pay25 Z) (k0_pay26 H A B C Q X W G T) (ix2 0 j)
    = Z (ix2 0 j) + ∑ r : Fin 512, k0_pay24 H A B C Q X W G T (ix2 r j) * k0_pay24 H A B C Q X W G T (ix2 r j) := by pointwise [k0_pay1, k0_pay25, k0_pay26]
theorem pay3 : k0_pay3 N E Z (ix2 0 j) = Z (ix2 0 j) + ∑ r : Fin 512, E (ix2 r j) * mean * N (ix2 r j) := by pointwise [k0_pay3, k0_pay2]
theorem pay4 : k0_pay4 R N (k0_pay23 G) E (ix2 r j) = R (ix2 r 0) * (E (ix2 r j) * mean * G (ix2 0 j) - N (ix2 r j)
    * Ideal.div (∑ i : Fin 1024, E (ix2 r i) * mean * G (ix2 0 i) * N (ix2 r i)) w1024) := by pointwise [k0_pay4, k0_pay2, k0_pay23]
theorem pay5 : k0_pay5 R N (k0_pay23 G) E (ix2 r j) = k0_pay4 R N (k0_pay23 G) E (ix2 r j) := by pointwise [k0_pay5]

end Body

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The arguments, and the norm's output as the host computes it. -/
abbrev argX : Act := m ((c : Thread nD τ).loc main_arg0)
abbrev argU : Up := m ((c : Thread nD τ).loc main_arg1)
abbrev argW : Act := m ((c : Thread nD τ).loc main_arg2)
abbrev argS : Sc := m ((c : Thread nD τ).loc main_arg3)
abbrev argG : Sc := m ((c : Thread nD τ).loc main_arg4)
abbrev argT : Act := m ((c : Thread nD τ).loc main_arg5)
abbrev hn : Act := V m c main_v13

/-- Row `r` of block `t`. -/
abbrev ptRow (t : Fin cfg0.N) (r : Fin 512) : Fin 4096 := ⟨512 * t.val + r.val, by have : t.val < 8 := t.isLt; omega⟩

theorem rows0 (t : Fin cfg0.N) (r : Fin 512) (l : Fin 1024) : iblk m c 0 t (ix2 r l) = hn m c (ix2 (ptRow t r) l) := by
  blk_simp [iblk]
  refine congrArg (V m c main_v13) ?_
  blk_ext [(idx t).1]
theorem rows1 (t : Fin cfg0.N) (r : Fin 512) (l : Fin 1024) : iblk m c 1 t (ix2 r l) = argX m c (ix2 (ptRow t r) l) := by
  blk_simp [iblk]
  refine congrArg (m _) ?_
  blk_ext [(idx t).2.1]
theorem rows5 (t : Fin cfg0.N) (r : Fin 512) (l : Fin 1024) : iblk m c 5 t (ix2 r l) = argT m c (ix2 (ptRow t r) l) := by
  blk_simp [iblk]
  refine congrArg (m _) ?_
  blk_ext [(idx t).2.2.2.2.2.1]
theorem up (t : Fin cfg0.N) (p : Fin 4) (j k : Fin 1024) : iblk m c 2 t (ix3 p j k) = argU m c (ix2 j (mcol p k)) := by
  have h : V m c main_v16 = transpose S4x1024x1024 [1, 0, 2] (shapeCast S1024x4x1024 (argU m c) shapeCasts_S1024x4096_S1024x4x1024) transposes_S1024x4x1024_S4x1024x1024_1_0_2 := by
    unfold_abbrev_sides
    after_results
    rfl
  blk_simp [iblk]
  refine (congrFun h _).trans ?_
  rw [show (win0_2.blk t).view.emb (ix3 p j k) = ix3 p j k by blk_ext [(idx t).2.2.1]]
  pointwise []
theorem down (t : Fin cfg0.N) (k : Fin 4096) (l : Fin 1024) : iblk m c 3 t (ix2 k l) = argW m c (ix2 k l) := by
  have h : V m c main_v20 = shapeCast S4096x1024 (shapeCast S4x1024x1024 (argW m c) shapeCasts_S4096x1024_S4x1024x1024) shapeCasts_S4x1024x1024_S4096x1024 := by
    unfold_abbrev_sides
    after_results
    rfl
  blk_simp [iblk]
  refine (congrFun h _).trans ?_
  rw [show (win0_3.blk t).view.emb (ix2 k l) = ix2 k l by blk_ext [(idx t).2.2.2.1]]
  pointwise []
theorem scales (t : Fin cfg0.N) (l : Fin 1024) : iblk m c 4 t (ix2 0 l) = argG m c (ix1 l) := by
  have h : V m c main_v19 = shapeCast S1x1024 (argG m c) shapeCasts_S1024_S1x1024 := by
    unfold_abbrev_sides
    after_results
    rfl
  blk_simp [iblk]
  refine (congrFun h _).trans ?_
  rw [show (win0_4.blk t).view.emb (ix2 0 l) = ix2 0 l by blk_ext [(idx t).2.2.2.2.1]]
  pointwise []

/-- The four groups of the weights' columns. -/
abbrev quarter (X : Vec Ideal S4x1024x1024 .bf16) : Fin 4 → Vec Ideal S1x1024x1024 .bf16 :=
  ![View.ld X (Rect.unit ![0, 0, 0] ![1, 1024, 1024] inb_S4x1024x1024_S1x1024x1024_0_0_0), View.ld X (Rect.unit ![1, 0, 0] ![1, 1024, 1024] inb_S4x1024x1024_S1x1024x1024_1_0_0), View.ld X (Rect.unit ![2, 0, 0] ![1, 1024, 1024] inb_S4x1024x1024_S1x1024x1024_2_0_0), View.ld X (Rect.unit ![3, 0, 0] ![1, 1024, 1024] inb_S4x1024x1024_S1x1024x1024_3_0_0)]

theorem quarter_apply (X : Vec Ideal S4x1024x1024 .bf16) (p : Fin 4) (j k : Fin 1024) : quarter X p (ix3 0 j k) = X (ix3 p j k) := by
  fin_cases p <;> exact congrArg X (by blk_ext [Rect.idx_unit_val])

/-- A group of the hidden layer's columns, its squares, and what the body computes behind them. -/
abbrev group (t : Fin cfg0.N) (p : Fin 4) : FVec Ideal S512x1024 .bf16 := k0_pay8 (iblk m c 0 t) (quarter (iblk m c 2 t) p)
abbrev sqs (t : Fin cfg0.N) (p : Fin 4) : FVec Ideal S512x1024 .bf16 := k0_pay9 (iblk m c 0 t) (quarter (iblk m c 2 t) p)
def rootV (t : Fin cfg0.N) : FVec Ideal S512x1 .f32 :=
  k0_pay21 (k0_pay6 (iblk m c 0 t)) (sqs m c t 0) (sqs m c t 1) (sqs m c t 2) (quarter (iblk m c 2 t) 3) (iblk m c 1 t) (iblk m c 3 t)
def nrmV (t : Fin cfg0.N) : FVec Ideal S512x1024 .f32 :=
  k0_pay22 (k0_pay6 (iblk m c 0 t)) (sqs m c t 0) (sqs m c t 1) (sqs m c t 2) (quarter (iblk m c 2 t) 3) (iblk m c 1 t) (iblk m c 3 t)
def errV (t : Fin cfg0.N) : FVec Ideal S512x1024 .f32 :=
  k0_pay24 (k0_pay6 (iblk m c 0 t)) (sqs m c t 0) (sqs m c t 1) (sqs m c t 2) (quarter (iblk m c 2 t) 3) (iblk m c 1 t) (iblk m c 3 t) (iblk m c 4 t) (iblk m c 5 t)
def sqV (t : Fin cfg0.N) : FVec Ideal S1024 .f32 :=
  k0_pay26 (k0_pay6 (iblk m c 0 t)) (sqs m c t 0) (sqs m c t 1) (sqs m c t 2) (quarter (iblk m c 2 t) 3) (iblk m c 1 t) (iblk m c 3 t) (iblk m c 4 t) (iblk m c 5 t)

theorem group_apply (t : Fin cfg0.N) (p : Fin 4) (r : Fin 512) (k : Fin 1024) : group m c t p (ix2 r k) = act (hn m c) (argU m c) (ptRow t r) (mcol p k) := by
  refine (pay8 _ _ r k).trans ?_
  simp only [rows0, quarter_apply, up]
  rfl
theorem sqs_apply (t : Fin cfg0.N) (p : Fin 4) (r : Fin 512) (k : Fin 1024) :
    sqs m c t p (ix2 r k) = act (hn m c) (argU m c) (ptRow t r) (mcol p k) * act (hn m c) (argU m c) (ptRow t r) (mcol p k) := by
  exact (pay9 _ _ r k).trans (congrArg (fun x => x * x) (group_apply m c t p r k))
theorem out_apply (t : Fin cfg0.N) (r : Fin 512) (j : Fin 1024) :
    k0_pay18 (k0_pay6 (iblk m c 0 t)) (sqs m c t 0) (sqs m c t 1) (sqs m c t 2) (quarter (iblk m c 2 t) 3) (iblk m c 1 t) (iblk m c 3 t) (ix2 r j)
      = out (hn m c) (argX m c) (argU m c) (argW m c) (ptRow t r) j := by
  refine (pay18 _ _ _ _ _ _ _ r j).trans ?_
  simp only [sqs_apply, rows1, down]
  rfl
theorem root_apply (t : Fin cfg0.N) (r : Fin 512) : rootV m c t (ix2 r 0) = root w1024 (out (hn m c) (argX m c) (argU m c) (argW m c) (ptRow t r)) := by
  refine (pay21 _ _ _ _ _ _ _ r).trans ?_
  simp only [out_apply]
  rfl
theorem nrm_apply (t : Fin cfg0.N) (r : Fin 512) (j : Fin 1024) : nrmV m c t (ix2 r j) = nrm (hn m c) (argX m c) (argU m c) (argW m c) (ptRow t r) j := by
  refine (pay22 _ _ _ _ _ _ _ r j).trans ?_
  rw [out_apply]
  exact congrArg _ (root_apply m c t r)
theorem err_apply (t : Fin cfg0.N) (r : Fin 512) (j : Fin 1024) :
    errV m c t (ix2 r j) = err (hn m c) (argX m c) (argU m c) (argW m c) (argG m c) (argT m c) (ptRow t r) j := by
  refine (pay24 _ _ _ _ _ _ _ _ _ r j).trans ?_
  rw [rows5, scales]
  exact congrArg (fun x => x * _ - _) (nrm_apply m c t r j)

/-- The stores of one grid point into the hidden layer. -/
def pieces6 (t : Fin cfg0.N) : List (View.Piece (Elt Ideal) S512x4096 .bf16) :=
  [⟨Rect.unit ![0, 3072] ![512, 1024] inb_S512x4096_S512x1024_0_3072, group m c t 3⟩, ⟨Rect.unit ![0, 2048] ![512, 1024] inb_S512x4096_S512x1024_0_2048, group m c t 2⟩,
    ⟨Rect.unit ![0, 1024] ![512, 1024] inb_S512x4096_S512x1024_0_1024, group m c t 1⟩, ⟨Rect.unit ![0, 0] ![512, 1024] inb_S512x4096_S512x1024_0_0, group m c t 0⟩]

abbrev dhV (t : Fin cfg0.N) : FVec Ideal S512x1024 .f32 := k0_pay4 (rootV m c t) (nrmV m c t) (k0_pay23 (iblk m c 4 t)) (errV m c t)
abbrev dhB (t : Fin cfg0.N) : FVec Ideal S512x1024 .bf16 := k0_pay5 (rootV m c t) (nrmV m c t) (k0_pay23 (iblk m c 4 t)) (errV m c t)

set_option maxHeartbeats 4000000 in
theorem first (t : Fin cfg0.N) (h0 : t.val % 8 = 0) : outsAt0 m c t.val t.isLt
    = (View.canon (pieces6 m c t), dhV m c t, dhB m c t, k0_pay1 (k0_pay25 (k0_pay19 (F := Ideal))) (sqV m c t), k0_pay3 (nrmV m c t) (errV m c t) (k0_pay20 (F := Ideal))) := by
  rw [outsAt0_A m c t h0]
  frame_out
  rfl
set_option maxHeartbeats 4000000 in
theorem next (t : Fin cfg0.N) (h0 : ¬t.val % 8 = 0) : outsAt0 m c t.val t.isLt
    = (View.canon (pieces6 m c t), dhV m c t, dhB m c t, k0_pay1 (k0_pay25 (outsAt0 m c (t.val - 1) (by omega)).2.2.2.1) (sqV m c t),
      k0_pay3 (nrmV m c t) (errV m c t) (outsAt0 m c (t.val - 1) (by omega)).2.2.2.2) := by
  rw [outsAt0_B m c t h0]
  frame_out
  rfl
theorem blocks (t : Fin cfg0.N) : (outsAt0 m c t.val t.isLt).1 = View.canon (pieces6 m c t) ∧ (outsAt0 m c t.val t.isLt).2.1 = dhV m c t
    ∧ (outsAt0 m c t.val t.isLt).2.2.1 = dhB m c t := by
  by_cases h0 : t.val % 8 = 0
  · rw [first m c t h0]
    dsimp only
    exact ⟨Eq.refl _, Eq.refl _, Eq.refl _⟩
  · rw [next m c t h0]
    dsimp only
    exact ⟨Eq.refl _, Eq.refl _, Eq.refl _⟩

/-- The results. -/
abbrev allR : S4096x4096.Idx → EReal := fun y => act (hn m c) (argU m c) (y 0) (y 1)
abbrev allD : S4096x1024.Idx → EReal := fun y => dh (hn m c) (argX m c) (argU m c) (argW m c) (argG m c) (argT m c) (y 0) (y 1)
abbrev rowS (j : Fin 1024) : Fin 4096 → EReal := sqAt (hn m c) (argX m c) (argU m c) (argW m c) (argG m c) (argT m c) j
abbrev rowG (j : Fin 1024) : Fin 4096 → EReal := dgAt (hn m c) (argX m c) (argU m c) (argW m c) (argG m c) (argT m c) j

theorem of6 (t : Fin cfg0.N) (y : S512x4096.Idx) : View.canon (pieces6 m c t) y = allR m c (ix2 (ptRow t (y 0)) (y 1)) := by
  have piece : ∀ (p : Fin 4) (x : S512x1024.Idx) (y : S512x4096.Idx), y = ix2 (x 0) (mcol p (x 1)) → group m c t p x = allR m c (ix2 (ptRow t (y 0)) (y 1)) := by
    intro p x y hy
    obtain ⟨r, k, rfl⟩ : ∃ (r : Fin 512) (k : Fin 1024), x = ix2 r k := ⟨x 0, x 1, eq_ix2 x⟩
    rw [hy, group_apply]
    rfl
  refine (congrArg (fun L => View.canon L y) (List.append_nil _).symm).trans
    (View.canon_append_of_piecesOf (fun y => allR m c (ix2 (ptRow t (y 0)) (y 1))) [] (pieces6 m c t) ?_ y (View.cover_of_tiledL (pieces6 m c t) S512x1024.size (by sl_kernel_rfl) y))
  refine ⟨fun x => ?_, fun x => ?_, fun x => ?_, fun x => ?_, trivial⟩ <;>
    exact piece _ x _ (by blk_ext [Rect.idx_unit_val])

theorem dh_apply (t : Fin cfg0.N) (r : Fin 512) (j : Fin 1024) : dhV m c t (ix2 r j) = allD m c (ix2 (ptRow t r) j) := by
  refine (pay4 _ _ _ _ r j).trans ?_
  simp only [nrm_apply, err_apply, root_apply, scales]
  rfl

theorem final6 : (dats m 0 c).arrAt 6 cfg0.N = allR m c := by
  refine (dats m 0 c).arrAt_eq_of_covers 6 _ (by decide +kernel) fun t hf y => ?_
  blk_simp
  rw [after0_6]
  refine (congrFun (blocks m c t).1 _).trans ((of6 m c t _).trans ?_)
  refine congrArg (allR m c) ?_
  blk_ext [(idx t).2.2.2.2.2.2.1]
theorem final7 : (dats m 0 c).arrAt 7 cfg0.N = allD m c := by
  refine (dats m 0 c).arrAt_eq_of_covers 7 _ (by decide +kernel) fun t hf y => ?_
  obtain ⟨r, j, rfl⟩ : ∃ (r : Fin 512) (j : Fin 1024), y = ix2 r j := ⟨y 0, y 1, eq_ix2 y⟩
  blk_simp
  rw [after0_7]
  refine (congrFun (blocks m c t).2.1 _).trans ((dh_apply m c t r j).trans (congrArg (allD m c) ?_))
  blk_ext [(idx t).2.2.2.2.2.2.2.1]
theorem final8 : (dats m 0 c).arrAt 8 cfg0.N = allD m c := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  blk_simp
  rw [after0_8]
  refine (congrFun (blocks m c t).2.2 _).trans ((pay5 _ _ _ _ r j).trans ((dh_apply m c t r j).trans (congrArg (allD m c) ?_)))
  blk_ext [(idx t).2.2.2.2.2.2.2.2]

theorem addS (t : Fin cfg0.N) (A : Vec Ideal S1x1024 .f32) (j : Fin 1024) (hA : A (ix2 0 j) = ∑ s ∈ Finset.range (512 * t.val), Rows.upTo (rowS m c j) s) :
    k0_pay1 (k0_pay25 A) (sqV m c t) (ix2 0 j) = ∑ s ∈ Finset.range (512 * (t.val + 1)), Rows.upTo (rowS m c j) s := by
  have ht : t.val < 8 := t.isLt
  refine (pay26 _ _ _ _ _ _ _ _ _ _ j).trans ?_
  refine Rows.next (rowS m c j) (by omega) _ (fun r => ?_) hA
  exact congrArg (fun x => x * x) (err_apply m c t r j)
theorem addG (t : Fin cfg0.N) (A : Vec Ideal S1x1024 .f32) (j : Fin 1024) (hA : A (ix2 0 j) = ∑ s ∈ Finset.range (512 * t.val), Rows.upTo (rowG m c j) s) :
    k0_pay3 (nrmV m c t) (errV m c t) A (ix2 0 j) = ∑ s ∈ Finset.range (512 * (t.val + 1)), Rows.upTo (rowG m c j) s := by
  have ht : t.val < 8 := t.isLt
  rw [pay3]
  refine Rows.next (rowG m c j) (by omega) _ (fun r => ?_) hA
  rw [nrm_apply, err_apply]
  rfl

theorem sums (n : ℕ) (hn : n < cfg0.N) (j : Fin 1024) : (outsAt0 m c n hn).2.2.2.1 (ix2 0 j) = ∑ s ∈ Finset.range (512 * (n + 1)), Rows.upTo (rowS m c j) s
    ∧ (outsAt0 m c n hn).2.2.2.2 (ix2 0 j) = ∑ s ∈ Finset.range (512 * (n + 1)), Rows.upTo (rowG m c j) s := by
  have h8 : n < 8 := hn
  induction n with
  | zero =>
    rw [show outsAt0 m c 0 hn = _ from first m c ⟨0, hn⟩ rfl]
    refine ⟨addS m c ⟨0, hn⟩ _ j ?_, addG m c ⟨0, hn⟩ _ j ?_⟩ <;> rw [Nat.mul_zero, Finset.sum_range_zero] <;> pointwise [k0_pay19, k0_pay20]
  | succ n ih =>
    obtain ⟨i1, i2⟩ := ih (Nat.lt_of_succ_lt hn) (by omega)
    rw [show outsAt0 m c (n + 1) hn = _ from next m c ⟨n + 1, hn⟩ (by show ¬(n + 1) % 8 = 0; omega)]
    exact ⟨addS m c ⟨n + 1, hn⟩ _ j i1, addG m c ⟨n + 1, hn⟩ _ j i2⟩

theorem final9 : (dats m 0 c).arrAt 9 cfg0.N = fun y : S1x1024.Idx => ∑ t, rowS m c (y 1) t := by
  refine (dats m 0 c).arrAt_eq_of_after_last 9 (⟨7, by decide⟩ : Fin cfg0.N) (by decide +kernel) _ fun y => ?_
  obtain ⟨z, j, rfl⟩ : ∃ (z : Fin 1) (j : Fin 1024), y = ix2 z j := ⟨y 0, y 1, eq_ix2 y⟩
  obtain rfl : z = 0 := Subsingleton.elim _ _
  rw [after0_9]
  exact (sums m c 7 (by decide) j).1.trans (Rows.upTo_sum _)
theorem final10 : (dats m 0 c).arrAt 10 cfg0.N = fun y : S1x1024.Idx => ∑ t, rowG m c (y 1) t := by
  refine (dats m 0 c).arrAt_eq_of_after_last 10 (⟨7, by decide⟩ : Fin cfg0.N) (by decide +kernel) _ fun y => ?_
  obtain ⟨z, j, rfl⟩ : ∃ (z : Fin 1) (j : Fin 1024), y = ix2 z j := ⟨y 0, y 1, eq_ix2 y⟩
  obtain rfl : z = 0 := Subsingleton.elim _ _
  rw [after0_10]
  exact (sums m c 7 (by decide) j).2.trans (Rows.upTo_sum _)

end Cert.MlpFIdeal.KerValue

end
-- ==== Proof.MlpF.lean ====
/-
  The claims of the multilayer part, the loss and the last norm's gradient.
-/
module

public import proofs.«01_k».proof.Defs
public import proofs.«01_k».proof.Proof.Fine
public import proofs.«01_k».proof.Proof.MlpFKer
public import proofs.«01_k».proof.Proof.Gen.Pre_finite_l
public import proofs.«01_k».proof.Proof.Gen.MlpFRefIdeal.Run
public import proofs.«01_k».proof.Proof.Gen.MlpFRefIdeal.Read
public import Idealize.ShloMosaic.Lib.Claim

@[expose] public section

set_option maxRecDepth 16384

noncomputable section

namespace Cert.Proof.MlpFClaims

open Idealize.ShloMosaic Idealize.ShloMosaic.TcCoe Idealize.SL.Sem Cert.Pool Cert.Rms Cert.MlpFMath
open Cert.MlpBMath (Act Up Hid Sc mcol cols row scale)

section Ref

open Cert.MlpFRefIdeal Cert.MlpFRefIdeal.Gen Cert.MlpFRefIdeal.Read

variable (x : Act) (wu : Up) (wd : Act) (s g : Sc) (tg : Act) (t : Fin 4096) (j : Fin 1024)

/-- The norm's output in front of the layer. -/
abbrev hn : Act := val_main_v12 (F := Ideal) x s

theorem fin_hn (hx : ∀ i, Fin' (x i)) (hs : ∀ i, Fin' (s i)) (i : (⟨2, ![4096, 1024]⟩ : Shape).Idx) : Fin' (hn x s i) := by
  obtain ⟨t, j, rfl⟩ : ∃ (t : Fin 4096) (j : Fin 1024), i = ix2 t j := ⟨i 0, i 1, eq_ix2 i⟩
  have e : hn x s (ix2 t j) = x (ix2 t j) * root w1024 (row x t) * s (ix1 j) := by
    pointwise [hn, val_main_v12, val_main_v11, val_main_v10, val_main_v9, val_main_v8, val_main_v7, val_main_v6, val_main_v5, val_main_cst_1, val_main_v4, val_main_v3,
      val_main_cst_0, val_main_v2, val_main_v1, val_main_v0, val_main_cst]
    rfl
  rw [e]
  exact fin_mul (fin_mul (hx _) (fin_root _ _ 1024 (by norm_num) w1024_eq fun k => hx _)) (hs _)

theorem act_ref (c : Fin 4096) : val_main_v14 (F := Ideal) x wu s (ix2 t c) = act (hn x s) wu t c := by
  have e : val_main_v14 (F := Ideal) x wu s (ix2 t c) = max (∑ l : Fin 1024, hn x s (ix2 t l) * wu (ix2 l c)) 0 := by
    pointwise [val_main_v14, val_main_v13, val_main_call0_v0, val_main_call0_cst]
  exact e
theorem out_ref : val_main_v17 (F := Ideal) x wu wd s (ix2 t j) = out (hn x s) x wu wd t j := by
  have e : val_main_v17 (F := Ideal) x wu wd s (ix2 t j)
      = x (ix2 t j) + ∑ c : Fin 4096, val_main_v14 (F := Ideal) x wu s (ix2 t c) * val_main_v14 (F := Ideal) x wu s (ix2 t c) * wd (ix2 c j) := by
    pointwise [val_main_v17, val_main_v16, val_main_v15]
  rw [e, cols]
  simp only [act_ref]
  rfl
theorem ms_ref : val_main_v24 (F := Ideal) x wu wd s (ix2 t 0) = ms w1024 (out (hn x s) x wu wd t) := by
  have e : val_main_v24 (F := Ideal) x wu wd s (ix2 t 0)
      = Ideal.div (∑ k : Fin 1024, val_main_v17 (F := Ideal) x wu wd s (ix2 t k) * val_main_v17 (F := Ideal) x wu wd s (ix2 t k)) w1024 + eps := by
    pointwise [val_main_v24, val_main_v23, val_main_cst_4, val_main_v22, val_main_v21, val_main_cst_3, val_main_v20, val_main_v19, val_main_v18, val_main_cst_2]
  rw [e]
  simp only [out_ref]
  rfl
theorem root_ref : val_main_v25 (F := Ideal) x wu wd s (ix2 t 0) = root w1024 (out (hn x s) x wu wd t) := by
  have e : val_main_v25 (F := Ideal) x wu wd s (ix2 t 0) = Ideal.rsqrt (val_main_v24 (F := Ideal) x wu wd s (ix2 t 0)) := by pointwise [val_main_v25]
  rw [e, ms_ref]
  rfl
theorem nrm_ref : val_main_v30 (F := Ideal) x wu wd s (ix2 t j) = nrm (hn x s) x wu wd t j := by
  have e : val_main_v30 (F := Ideal) x wu wd s (ix2 t j) = val_main_v17 (F := Ideal) x wu wd s (ix2 t j) * val_main_v25 (F := Ideal) x wu wd s (ix2 t 0) := by
    pointwise [val_main_v30, val_main_v29]
  rw [e, out_ref, root_ref]
  rfl
theorem err_ref : val_main_v34 (F := Ideal) x wu wd s g tg (ix2 t j) = err (hn x s) x wu wd g tg t j := by
  have e : val_main_v34 (F := Ideal) x wu wd s g tg (ix2 t j) = val_main_v30 (F := Ideal) x wu wd s (ix2 t j) * g (ix1 j) - tg (ix2 t j) := by
    pointwise [val_main_v34, val_main_v33, val_main_v32, val_main_v31]
  rw [e, nrm_ref]
  rfl
/-- Half a row's mean, as the reference's derivative writes it. -/
theorem half_mean : Ideal.div (Ideal.ofBits .f32 0x3F000000#32 * Ideal.ofBits .f32 0x3F800000#32) w1024 = ((1 / 1024 * (1 / 2) : ℝ) : EReal) := by
  have h : Ideal.ofBits .f32 0x3F000000#32 = ((1 / 2 : ℝ) : EReal) := by
    simp [Ideal.ofBits, Ideal.ieee]
    rw [← EReal.coe_mul]
    norm_num
  have o : Ideal.ofBits .f32 0x3F800000#32 = ((1 : ℝ) : EReal) := by
    simp [Ideal.ofBits, Ideal.ieee]
    rw [← EReal.coe_mul]
    norm_num
  rw [h, o, w1024_eq, Ideal.div_coe (by norm_num), ← EReal.coe_mul, ← EReal.coe_mul]
  norm_num
theorem dy_ref : val_main_v48 (F := Ideal) x wu wd s g tg (ix2 t j) = dy (hn x s) x wu wd g tg t j := by
  have e : val_main_v48 (F := Ideal) x wu wd s g tg (ix2 t j)
      = Ideal.div (Ideal.ofBits .f32 0x3F000000#32 * Ideal.ofBits .f32 0x3F800000#32) w1024 * (Ideal.ofBits .f32 0x40000000#32 * val_main_v34 (F := Ideal) x wu wd s g tg (ix2 t j)) := by
    pointwise [val_main_v48, val_main_v47, val_main_v46, val_main_v45, val_main_cst_13, val_main_v44, val_main_v43, val_main_cst_12, val_main_cst_11, val_main_v37, val_main_v36, val_main_cst_6]
  rw [e, half_two _ _ half_mean, err_ref]
  rfl

theorem coef_ref : val_main_v64 (F := Ideal) x wu wd s g tg (ix2 t j) = coef w1024 (out (hn x s) x wu wd t) (scale g) (dy (hn x s) x wu wd g tg t) := by
  have e : val_main_v64 (F := Ideal) x wu wd s g tg (ix2 t j)
      = Ideal.div ((∑ i : Fin 1024, val_main_v17 (F := Ideal) x wu wd s (ix2 t i) * (val_main_v48 (F := Ideal) x wu wd s g tg (ix2 t i) * g (ix1 i)))
        * (half * Ideal.div (val_main_v25 (F := Ideal) x wu wd s (ix2 t 0)) (val_main_v24 (F := Ideal) x wu wd s (ix2 t 0)))) w1024 := by
    pointwise [val_main_v64, val_main_v63, val_main_cst_18, val_main_v62, val_main_v61, val_main_cst_17, val_main_v60, val_main_v57, val_main_v56, val_main_cst_16,
      val_main_v55, val_main_v53, val_main_v52, val_main_v31, val_main_v28, val_main_v27, val_main_cst_5, val_main_v26]
    exact Fin.sum_univ_one _
  rw [e, root_ref, ms_ref]
  simp only [dy_ref, out_ref]
  rfl

/-- The reference's `dh2` is the kernel's, its inputs finite. -/
theorem dh_ref (hx : ∀ i, Fin' (x i)) (hu : ∀ i, Fin' (wu i)) (hw : ∀ i, Fin' (wd i)) (hs : ∀ i, Fin' (s i)) (hg : ∀ i, Fin' (g i)) (ht : ∀ i, Fin' (tg i)) :
    val_main_v68 (F := Ideal) x wu wd s g tg (ix2 t j) = dh (hn x s) x wu wd g tg t j := by
  have e : val_main_v68 (F := Ideal) x wu wd s g tg (ix2 t j)
      = val_main_v48 (F := Ideal) x wu wd s g tg (ix2 t j) * g (ix1 j) * val_main_v25 (F := Ideal) x wu wd s (ix2 t 0)
        + val_main_v17 (F := Ideal) x wu wd s (ix2 t j) * val_main_v64 (F := Ideal) x wu wd s g tg (ix2 t j)
        + val_main_v64 (F := Ideal) x wu wd s g tg (ix2 t j) * val_main_v17 (F := Ideal) x wu wd s (ix2 t j) := by
    pointwise [val_main_v68, val_main_v67, val_main_v66, val_main_v65, val_main_v59, val_main_v58, val_main_v53, val_main_v52, val_main_v31]
  have h := hand_eq w1024 (out (hn x s) x wu wd t) (scale g) (dy (hn x s) x wu wd g tg t) 1024 (by norm_num) w1024_eq
    (fun i => fin_out _ _ _ _ (fin_hn x s hx hs) hx hu hw t i) (fun i => hg _) (fun i => fin_dy _ _ _ _ _ _ (fin_hn x s hx hs) hx hu hw hg ht t i) 0 j
  rw [zero_add, zero_add] at h
  rw [e, coef_ref, root_ref, dy_ref, out_ref]
  exact h.symm
theorem dh_cast : val_main_v86 (F := Ideal) x wu wd s g tg (ix2 t j) = val_main_v68 (F := Ideal) x wu wd s g tg (ix2 t j) := by pointwise [val_main_v86]
theorem act_cast (c : Fin 4096) : val_main_v85 (F := Ideal) x wu s (ix2 t c) = act (hn x s) wu t c := by
  have e : val_main_v85 (F := Ideal) x wu s (ix2 t c) = val_main_v14 (F := Ideal) x wu s (ix2 t c) := by pointwise [val_main_v85]
  rw [e, act_ref]

theorem dg_ref : val_main_v88 (F := Ideal) x wu wd s g tg (ix2 0 j) = ∑ t, dgAt (hn x s) x wu wd g tg j t := by
  have e : val_main_v88 (F := Ideal) x wu wd s g tg (ix2 0 j)
      = ∑ t : Fin 4096, val_main_v30 (F := Ideal) x wu wd s (ix2 t j) * val_main_v48 (F := Ideal) x wu wd s g tg (ix2 t j) := by
    pointwise [val_main_v88, val_main_v54, val_main_cst_15, val_main_v51, val_main_v50, val_main_cst_14, val_main_v49]
    exact Fin.sum_univ_one _
  rw [e]
  refine Finset.sum_congr rfl fun t _ => ?_
  rw [dy_ref, nrm_ref, mul_comm]
  rfl

theorem sq_ref : val_main_v87 (F := Ideal) x wu wd s g tg (ix2 0 j) = ∑ t, sqAt (hn x s) x wu wd g tg j t := by
  have same : val_main_v82 (F := Ideal) x wu wd s g tg = val_main_v34 (F := Ideal) x wu wd s g tg := rfl
  have e : val_main_v87 (F := Ideal) x wu wd s g tg (ix2 0 j)
      = ∑ t : Fin 4096, val_main_v82 (F := Ideal) x wu wd s g tg (ix2 t j) * val_main_v82 (F := Ideal) x wu wd s g tg (ix2 t j) := by
    pointwise [val_main_v87, val_main_v84, val_main_cst_22, val_main_v83]
  rw [e, same]
  simp only [err_ref]
  rfl

end Ref

open Cert.MlpFIdeal Cert.MlpFIdeal.Gen in
set_option maxHeartbeats 4000000 in
/-- The norm's output, which the host computes in front of the kernel, is the reference's. -/
theorem hn_eq (m : (ℓ : Loc nD τ sig) → Buf (Elt Ideal) ℓ) (c : Dev nD) :
    MlpFIdeal.KerValue.hn m c = hn (MlpFIdeal.KerValue.argX m c) (MlpFIdeal.KerValue.argS m c) := by
  show V m c main_v13 = _
  simp only [V, hostOps0, List.flatten_cons, List.flatten_nil, List.append_nil]
  after_results_simp <;> rfl

theorem frame_ker : Cert.quiescent_MlpFIdeal_pre_finite_l := fun m g _ => MlpFIdeal.Gen.frame m g
theorem frame_ref : Cert.quiescent_MlpFRefIdeal := fun m ρ _ =>
  (θ_run Cert.MlpFRefIdeal.defs _ _).mono (fun r h => ⟨fun c => (h c).2.2.2.2.2, sem_eq_zero_of_no_sems (by decide) r.2⟩) (Cert.MlpFRefIdeal.Value.run m ρ)
theorem frame_ref_pre : Cert.quiescent_MlpFRefIdeal_pre_finite_l := fun m ρ _ => frame_ref m ρ trivial

set_option maxHeartbeats 2000000 in
/-- The kernel's hidden layer, squared errors, and gradients of the loss behind the last norm are the plain lines' and their derivatives,
    wherever the layer's input, the weights, the norms' scales and the target are finite. -/
theorem algebraic : Cert.algebraic_MlpFIdeal_MlpFRefIdeal_pre_finite_l := by
  intro m g m' g' hpre hag
  refine ⟨_, _, _, _, _, MlpFIdeal.Value.run_blocks m g, ?_⟩
  refine (θ_run _ _ _).mono (fun r h c => ?_) (MlpFRefIdeal.Value.run m' g')
  obtain ⟨h85, h68, h86, h87, h88, hrest⟩ := h c
  obtain ⟨e0, e1, e2, e3, e4, e5⟩ := hag c
  have hp : ∀ j, _ = 1#1 := fun j => congrFun (hpre c) j
  obtain ⟨p4, f5⟩ := both (hp fun a => nomatch a)
  obtain ⟨p3, f4⟩ := both p4
  obtain ⟨p2, f3⟩ := both p3
  obtain ⟨p1, f2⟩ := both p2
  obtain ⟨f0, f1⟩ := both p1
  have g0 : ∀ i, Fin' (MlpFIdeal.KerValue.argX m c i) := fin_of_all (fun _ => rfl) f0
  have g1 : ∀ i, Fin' (MlpFIdeal.KerValue.argU m c i) := fin_of_all (fun _ => rfl) f1
  have g2 : ∀ i, Fin' (MlpFIdeal.KerValue.argW m c i) := fin_of_all (fun _ => rfl) f2
  have g3 : ∀ i, Fin' (MlpFIdeal.KerValue.argS m c i) := fin_of_all (fun _ => rfl) f3
  have g4 : ∀ i, Fin' (MlpFIdeal.KerValue.argG m c i) := fin_of_all (fun _ => rfl) f4
  have g5 : ∀ i, Fin' (MlpFIdeal.KerValue.argT m c i) := fin_of_all (fun _ => rfl) f5
  have all : MlpFIdeal.KerValue.allD m c = fun y => dh (hn (MlpFIdeal.KerValue.argX m c) (MlpFIdeal.KerValue.argS m c)) (MlpFIdeal.KerValue.argX m c)
      (MlpFIdeal.KerValue.argU m c) (MlpFIdeal.KerValue.argW m c) (MlpFIdeal.KerValue.argG m c) (MlpFIdeal.KerValue.argT m c) (y 0) (y 1) := by
    rw [← hn_eq]
  refine ⟨h85.trans ?_, h68.trans ?_, h86.trans ?_, h87.trans ?_, h88.trans ?_, hrest⟩
  · rw [MlpFRefIdeal.Read.val_main_v85_eq, e0, e1, e3]
    refine Eq.trans ?_ (MlpFIdeal.KerValue.final6 m c).symm
    funext y
    show _ = act (MlpFIdeal.KerValue.hn m c) (MlpFIdeal.KerValue.argU m c) (y 0) (y 1)
    rw [hn_eq, eq_ix2 y]
    exact act_cast _ _ _ (y 0) (y 1)
  · rw [MlpFRefIdeal.Read.val_main_v68_eq, e0, e1, e2, e3, e4, e5]
    refine Eq.trans ?_ ((MlpFIdeal.KerValue.final7 m c).trans all).symm
    funext y
    rw [eq_ix2 y]
    exact dh_ref _ _ _ _ _ _ (y 0) (y 1) g0 g1 g2 g3 g4 g5
  · rw [MlpFRefIdeal.Read.val_main_v86_eq, e0, e1, e2, e3, e4, e5]
    refine Eq.trans ?_ ((MlpFIdeal.KerValue.final8 m c).trans all).symm
    funext y
    rw [eq_ix2 y]
    exact (dh_cast _ _ _ _ _ _ (y 0) (y 1)).trans (dh_ref _ _ _ _ _ _ (y 0) (y 1) g0 g1 g2 g3 g4 g5)
  · rw [MlpFRefIdeal.Read.val_main_v87_eq, e0, e1, e2, e3, e4, e5]
    refine Eq.trans ?_ (MlpFIdeal.KerValue.final9 m c).symm
    funext y
    obtain ⟨z, j, rfl⟩ : ∃ (z : Fin 1) (j : Fin 1024), y = ix2 z j := ⟨y 0, y 1, eq_ix2 y⟩
    obtain rfl : z = 0 := Subsingleton.elim _ _
    show _ = ∑ t, sqAt (MlpFIdeal.KerValue.hn m c) (MlpFIdeal.KerValue.argX m c) (MlpFIdeal.KerValue.argU m c) (MlpFIdeal.KerValue.argW m c) (MlpFIdeal.KerValue.argG m c)
      (MlpFIdeal.KerValue.argT m c) j t
    rw [hn_eq]
    exact sq_ref _ _ _ _ _ _ j
  · rw [MlpFRefIdeal.Read.val_main_v88_eq, e0, e1, e2, e3, e4, e5]
    refine Eq.trans ?_ (MlpFIdeal.KerValue.final10 m c).symm
    funext y
    obtain ⟨z, j, rfl⟩ : ∃ (z : Fin 1) (j : Fin 1024), y = ix2 z j := ⟨y 0, y 1, eq_ix2 y⟩
    obtain rfl : z = 0 := Subsingleton.elim _ _
    show _ = ∑ t, dgAt (MlpFIdeal.KerValue.hn m c) (MlpFIdeal.KerValue.argX m c) (MlpFIdeal.KerValue.argU m c) (MlpFIdeal.KerValue.argW m c) (MlpFIdeal.KerValue.argG m c)
      (MlpFIdeal.KerValue.argT m c) j t
    rw [hn_eq]
    exact dg_ref _ _ _ _ _ _ j

end Cert.Proof.MlpFClaims

end
-- ==== Proof.AttnFTrip.lean ====
/-
  One trip of the forward attention's walk: from the key tile it has scored to the next one to its left, run once over any
  reading of the floats.
-/
module

public import proofs.«01_k».proof.Proof.Gen.AttnFIdeal.Launch
public import proofs.«01_k».proof.Proof.Gen.AttnFIdeal.Points
public import proofs.«01_k».proof.Proof.Gen.AttnFIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace AttnF

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the walk reads and never changes: the matrix that sums along a row, the masked rows of the queries, and where the
    buffers lie. -/
structure Fixed (F : FTy → Type) where
  i : grid0.Coords
  v330 : BitVec 1
  later : FVec F S256x256 .bf16
  q0 : FVec F S256x256 .bf16
  q1 : FVec F S256x256 .bf16
  q2 : FVec F S256x256 .bf16
  q3 : FVec F S256x256 .bf16
  rk : Memref sig .tc .vmem S1x4096x256 .bf16
  hk : rk.IsWhole
  rvh : Memref sig .tc .vmem S4x4096x256 .bf16
  hvh : rvh.IsWhole
  rac : Memref sig .tc .vmem S4x256x256 .f32
  hac : rac.IsWhole
  rz : Memref sig .tc .vmem S2x4x256x256 .f32
  hz : rz.IsWhole

/-- The running sum of each head's rows. -/
structure Sums (F : FTy → Type) where
  l0 : FVec F S256x1 .f32
  l1 : FVec F S256x1 .f32
  l2 : FVec F S256x1 .f32
  l3 : FVec F S256x1 .f32

/-- The record the walk's label is called on. -/
abbrev args (a : Fixed F) (jj : BitVec 32) (go : BitVec 1) (s : Sums F) : Cc0While1 F :=
  ⟨a.i, a.v330, a.rz, a.hz, a.later, a.rvh, a.hvh, a.rac, a.hac, a.rk, a.hk, a.q0, a.q1, a.q2, a.q3, jj, go, s.l0, s.l1, s.l2, s.l3⟩

/-- The scratch buffers' contents: each head's values, the sums, the scores. -/
structure Mem (F : FTy → Type) where
  vh : Vec F S4x4096x256 .bf16
  ac : Vec F S4x256x256 .f32
  z : Vec F S2x4x256x256 .f32

/-- The buffers the walk touches, at their contents. -/
abbrev held (c : Dev nD) (a : Fixed F) (k : Vec F S1x4096x256 .bf16) (x : Mem F) : sProp 𝕄 :=
  iprop(owns (c : Thread nD τ) a.rk fullShare k ∗ owns (c : Thread nD τ) a.rvh fullShare x.vh
    ∗ owns (c : Thread nD τ) a.rac fullShare x.ac ∗ owns (c : Thread nD τ) a.rz fullShare x.z)

/-- What one trip leaves in the buffers it writes, what it hands on, and that it does. -/
structure Trip (c : Dev nD) (𝒱₀ : Variants) (a : Fixed F) (jj : BitVec 32) (s : Sums F) (k : Vec F S1x4096x256 .bf16) (x : Mem F) where
  ac : a.rac.view.ty.Contents (Elt F)
  z : a.rz.view.ty.Contents (Elt F)
  jj' : BitVec 32
  go : BitVec 1
  l0 : FVec F S256x1 .f32
  l1 : FVec F S256x1 .f32
  l2 : FVec F S256x1 .f32
  l3 : FVec F S256x1 .f32
  run : ∀ (b : Option 𝒱₀.V) (E : Set ℕ) (K : _ → sProp 𝕄),
    iprop(held c a k x
      ∗ (iprop(owns (c : Thread nD τ) a.rk fullShare k ∗ owns (c : Thread nD τ) a.rvh fullShare x.vh
          ∗ (a.rac.view.loc (c : Thread nD τ) ↦[a.rac.view.set]{fullShare} ac)
          ∗ (a.rz.view.loc (c : Thread nD τ) ↦[a.rz.view.set]{fullShare} z))
        -∗ wp frame (wpE (defs₀ (F := F)) 𝒱₀ (c : Thread nD τ) b) E
            (.op (.call (1 : (Λ₀ F).Label) (args a jj' go ⟨l0, l1, l2, l3⟩)) .ret) K))
      ⊢ wp frame (wpE (defs₀ (F := F)) 𝒱₀ (c : Thread nD τ) b) E
          (defs₀ (F := F) .tc 1 (args a jj 1#1 s)) K

set_option maxHeartbeats 4000000 in
/-- One trip, run. -/
def trip (c : Dev nD) (𝒱₀ : Variants) (a : Fixed F) (jj : BitVec 32) (s : Sums F)
    (h1 : k0_chk1 a.i jj) (h2 : ∀ w, k0_chk2 a.i jj w) (k : Vec F S1x4096x256 .bf16) (x : Mem F) : Trip c 𝒱₀ a jj s k x := by
  refine ⟨?_, ?_, ?_, ?_, ?_, ?_, ?_, ?_, fun b E K => ?run⟩
  case run =>
    show _ ⊢ wp frame (wpE (defs₀ (F := F)) 𝒱₀ (c : Thread nD τ) b) E
      (cc0_while1 a.i a.v330 a.rz a.hz a.later a.rvh a.hvh a.rac a.hac a.rk a.hk a.q0 a.q1 a.q2 a.q3 jj 1#1 s.l0 s.l1 s.l2 s.l3) K
    simp only [cc0_while1_eq_skeleton]; unfold cc0_while1_skel
    simp only [k0_part13_eq_skeleton, k0_part14_eq_skeleton, k0_part15_eq_skeleton, k0_part16_eq_skeleton, k0_part17_eq_skeleton]
    unfold held owns
    iintro ⟨⟨⟨%f0, %hf0, H0⟩, ⟨%f1, %hf1, H1⟩, ⟨%f2, %hf2, H2⟩, ⟨%f3, %hf3, H3⟩⟩, Hk⟩
    obtain rfl := a.hk.eq_unread hf0; obtain rfl := a.hvh.eq_unread hf1
    obtain rfl := a.hac.eq_unread hf2; obtain rfl := a.hz.eq_unread hf3
    sl_exec (disch := first | sl_exact h1 | exact h2 _)
    iapply Hk
    isplitl [H0]
    · iexists _; isplitr; · ipureintro; exact a.hk.read_unread _
      iexact H0
    isplitl [H1]
    · iexists _; isplitr; · ipureintro; exact a.hvh.read_unread _
      iexact H1
    isplitl [H2]; · iexact H2
    iexact H3

end AttnF
-- ==== Proof.AttnFWalk.lean ====
/-
  The walk of the forward attention over the key tiles to the left of the two nearest: `walk` is what its trips leave in
  the buffers, and the loop's label, called at any counter, leaves that.
-/
module

public import proofs.«01_k».proof.Proof.AttnFTrip

@[expose] public section

noncomputable section

namespace AttnF

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The trips to go bound the walk. -/
abbrev 𝒱₀ : Variants := Variants.nat

/-- A trip's accesses are in bounds: they are at key tile `i - 2 - jj`. -/
abbrev Checks (i : grid0.Coords) (jj : ℕ) : Prop :=
  k0_chk1 i (BitVec.ofNat 32 jj) ∧ ∀ w, k0_chk2 i (BitVec.ofNat 32 jj) w

theorem column_lt (t : Fin grid0.N) : ((grid0.coords t) 1).val < 16 := ((grid0.coords t) 1).isLt

theorem checks_of (t : Fin grid0.N) (jj : ℕ) (h : jj + 2 ≤ ((grid0.coords t) 1).val) : Checks (grid0.coords t) jj := by
  have h16 : jj < 16 := by have := column_lt t; omega
  have h1 : ∀ (t : Fin grid0.N) (jj : Fin 16), jj.val + 2 ≤ ((grid0.coords t) 1).val → k0_chk1 (grid0.coords t) (BitVec.ofNat 32 jj.val) := by decide +kernel
  have h2 : ∀ (t : Fin grid0.N) (jj : Fin 16) (w : Fin 2), jj.val + 2 ≤ ((grid0.coords t) 1).val →
      k0_chk2 (grid0.coords t) (BitVec.ofNat 32 jj.val) (BitVec.ofNat 1 w.val) := by decide +kernel
  refine ⟨h1 t ⟨jj, h16⟩ h, fun w => ?_⟩
  simpa using h2 t ⟨jj, h16⟩ ⟨w.toNat, w.isLt⟩ h

section Trip
variable (c : Dev nD) (a : Fixed F) (jj : ℕ) (s : Sums F) (h : Checks a.i jj) (k : Vec F S1x4096x256 .bf16) (x : Mem F)

/-- The run of one trip from the counter `jj`. -/
abbrev tripAt := trip (F := F) c 𝒱₀ a (BitVec.ofNat 32 jj) s h.1 h.2 k x

/-- The buffers, the flag and the running sums after a trip. -/
def next : Mem F := ⟨x.vh, a.rac.view.read (Elt F) (tripAt c a jj s h k x).ac, a.rz.view.read (Elt F) (tripAt c a jj s h k x).z⟩
def nextGo : BitVec 1 := (tripAt c a jj s h k x).go
def nextSums : Sums F := ⟨(tripAt c a jj s h k x).l0, (tripAt c a jj s h k x).l1, (tripAt c a jj s h k x).l2, (tripAt c a jj s h k x).l3⟩

theorem trip_jj : (tripAt c a jj s h k x).jj' = BitVec.ofNat 32 (jj + 1) := by
  show Scalar.addi (BitVec.ofNat 32 jj) 1#32 = _
  simp only [Scalar.addi, BitVec.ofNat_add]; rfl

set_option maxHeartbeats 4000000 in
/-- One trip, at what it leaves. -/
theorem trip_next (b : Option 𝒱₀.V) (E : Set ℕ) (K : _ → sProp 𝕄) :
    iprop(held c a k x ∗ (held c a k (next c a jj s h k x)
        -∗ wp frame (wpE (defs₀ (F := F)) 𝒱₀ (c : Thread nD τ) b) E
            (.op (.call (1 : (Λ₀ F).Label) (args a (BitVec.ofNat 32 (jj + 1)) (nextGo c a jj s h k x) (nextSums c a jj s h k x))) .ret) K))
      ⊢ wp frame (wpE (defs₀ (F := F)) 𝒱₀ (c : Thread nD τ) b) E
          (defs₀ (F := F) .tc 1 (args a (BitVec.ofNat 32 jj) 1#1 s)) K := by
  unfold nextGo nextSums
  rw [← trip_jj c a jj s h k x]
  iintro ⟨H, Hk⟩
  iapply ((tripAt c a jj s h k x).run b E K)
  isplitl [H]; · iexact H
  iintro ⟨H0, H1, H2, H3⟩
  iapply Hk
  unfold next held owns
  isplitl [H0]; · iexact H0
  isplitl [H1]; · iexact H1
  isplitl [H2]; · iexists _; isplitr; swap; (iexact H2); ipureintro; rfl
  iexists _; isplitr; swap; (iexact H3); ipureintro; rfl

end Trip

/-- What at most `n` trips from the counter `jj` leave. -/
def walk (c : Dev nD) (a : Fixed F) (k : Vec F S1x4096x256 .bf16) : ℕ → ℕ → BitVec 1 → Sums F → Mem F → Mem F
  | 0, _, _, _, x => x
  | n + 1, jj, go, s, x =>
    if h : go = 1#1 ∧ Checks a.i jj then
      walk c a k n (jj + 1) (nextGo c a jj s h.2 k x) (nextSums c a jj s h.2 k x) (next c a jj s h.2 k x)
    else x

/-- The label's specification: holding the buffers it hands them back as the walk leaves them. -/
def spec (c : Dev nD) (a : Fixed F) (k : Vec F S1x4096x256 .bf16) (n jj : ℕ) (go : BitVec 1) (s : Sums F) (x : Mem F) :
    sWPT 𝕄 ((Λ₀ F).Result 1) := do
  sWPT.consume (held c a k x)
  let r ← sWPT.arbitrary
  sWPT.produce (held c a k (walk c a k n jj go s x))
  pure r

theorem spec_apply (c : Dev nD) (a : Fixed F) (k : Vec F S1x4096x256 .bf16) (n jj : ℕ) (go : BitVec 1) (s : Sums F) (x : Mem F)
    (K : (Λ₀ F).Result 1 → sProp 𝕄) :
    spec c a k n jj go s x K = iprop(held c a k x ∗ ∀ r : (Λ₀ F).Result 1, held c a k (walk c a k n jj go s x) -∗ K r) := rfl

/-- A trip keeps its flag only while a key tile is left. -/
theorem nextGo_left (c : Dev nD) (a : Fixed F) (t : Fin grid0.N) (hi : a.i = grid0.coords t) (jj : ℕ) (hjj : jj + 2 ≤ ((grid0.coords t) 1).val)
    (s : Sums F) (h : Checks a.i jj) (k : Vec F S1x4096x256 .bf16) (x : Mem F)
    (hgo : nextGo c a jj s h k x = 1#1) : jj + 3 ≤ ((grid0.coords t) 1).val := by
  obtain ⟨w, e⟩ : ∃ w, nextGo c a jj s h k x
      = Scalar.andi (Scalar.cmpi .sgt (Scalar.subi (Scalar.subi (BitVec.ofNat 32 (a.i 1).val) 2#32) (BitVec.ofNat 32 jj)) 0#32) w := ⟨_, rfl⟩
  rw [hgo, hi] at e
  have key : ∀ (i : Fin 16) (j : Fin 16) (w : Fin 2), j.val + 2 ≤ i.val →
      1#1 = Scalar.andi (Scalar.cmpi .sgt (Scalar.subi (Scalar.subi (BitVec.ofNat 32 i.val) 2#32) (BitVec.ofNat 32 j.val)) 0#32) (BitVec.ofNat 1 w.val)
        → j.val + 3 ≤ i.val := by decide +kernel
  refine key ((grid0.coords t) 1) ⟨jj, by have := column_lt t; omega⟩ ⟨w.toNat, w.isLt⟩ hjj ?_
  simpa using e

/-- The label at counter `jj` with `n` trips at most to go meets its specification. -/
theorem spec_le (c : Dev nD) (a : Fixed F) (t : Fin grid0.N) (hi : a.i = grid0.coords t) (k : Vec F S1x4096x256 .bf16) (E : Set ℕ) :
    ∀ n jj go s x, (go = 1#1 → jj + 2 ≤ ((grid0.coords t) 1).val) → ((grid0.coords t) 1).val ≤ n + jj + 1 → ∀ K,
      spec c a k n jj go s x K
        ⊢ wp frame (wpE (defs₀ (F := F)) 𝒱₀ (c : Thread nD τ) (some n)) E
            (defs₀ (F := F) .tc 1 (args a (BitVec.ofNat 32 jj) go s)) K := by
  intro n
  have stop : ∀ (n jj : ℕ) go s x K, go ≠ 1#1 → walk c a k n jj go s x = x →
      spec c a k n jj go s x K
        ⊢ wp frame (wpE (defs₀ (F := F)) 𝒱₀ (c : Thread nD τ) (some n)) E
            (defs₀ (F := F) .tc 1 (args a (BitVec.ofNat 32 jj) go s)) K := by
    intro n jj go s x K hgo hw
    rw [spec_apply, hw]
    show _ ⊢ wp frame (wpE (defs₀ (F := F)) 𝒱₀ (c : Thread nD τ) (some n)) E
      (cc0_while1 a.i a.v330 a.rz a.hz a.later a.rvh a.hvh a.rac a.hac a.rk a.hk a.q0 a.q1 a.q2 a.q3 (BitVec.ofNat 32 jj) go s.l0 s.l1 s.l2 s.l3) K
    simp only [cc0_while1_eq_skeleton]; unfold cc0_while1_skel
    simp only [hgo, ↓reduceIte, Prog.pure_eq_ret]
    iintro ⟨H, Hk⟩
    rw [wp_ret]; imodintro
    iapply Hk; iexact H
  induction n with
  | zero => exact fun jj go s x hgo hn K => stop 0 jj go s x K (fun e => by have := hgo e; omega) rfl
  | succ n ih =>
    intro jj go s x hgo hn K
    by_cases hg : go = 1#1
    · subst hg
      have hc : Checks a.i jj := hi ▸ checks_of t jj (hgo rfl)
      rw [spec_apply, walk, dif_pos ⟨rfl, hc⟩]
      iintro ⟨H, Hk⟩
      iapply (trip_next c a jj s hc k x (some (n + 1)) E K)
      isplitl [H]; · iexact H
      iintro H
      iapply (wp_call_spec 𝒱₀ (c : Thread nD τ) (some (n + 1)) E
        (spec c a k n (jj + 1) (nextGo c a jj s hc k x) (nextSums c a jj s hc k x) (next c a jj s hc k x)) n
        (fun u hu => by cases hu; exact Nat.lt_succ_self n)
        (ih (jj + 1) _ _ _ (fun e => by have := nextGo_left c a t hi jj (hgo rfl) s hc k x e; omega) (by omega)))
      rw [spec_apply]
      isplitl [H]; · iexact H
      iintro %r H
      rw [wp_ret]; imodintro
      iapply Hk; iexact H
    · exact stop (n + 1) jj go s x K hg (by rw [walk, dif_neg (fun e => hg e.1)])

end AttnF
-- ==== Proof.AttnFHead.lean ====
/-
  The part of a row tile of the forward attention that comes before its walk: the two nearest key tiles, scored, summed
  and multiplied into the values. It is run once, over any reading of the floats.
-/
module

public import proofs.«01_k».proof.Proof.AttnFWalk

@[expose] public section

noncomputable section

namespace AttnF

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers of a grid point: the three staged inputs, the staged result, the three scratch buffers. -/
structure Refs where
  rq : Memref sig .tc .vmem S1x256x256 .bf16
  hq : rq.IsWhole
  rk : Memref sig .tc .vmem S1x4096x256 .bf16
  hk : rk.IsWhole
  rv : Memref sig .tc .vmem S1x4096x256 .bf16
  hv : rv.IsWhole
  ro : Memref sig .tc .vmem S256x256 .f32
  ho : ro.IsWhole
  rvh : Memref sig .tc .vmem S4x4096x256 .bf16
  hvh : rvh.IsWhole
  rac : Memref sig .tc .vmem S4x256x256 .f32
  hac : rac.IsWhole
  rz : Memref sig .tc .vmem S2x4x256x256 .f32
  hz : rz.IsWhole

/-- The staged inputs' contents. -/
structure Ins (F : FTy → Type) where
  q : Vec F S1x256x256 .bf16
  k : Vec F S1x4096x256 .bf16
  v : Vec F S1x4096x256 .bf16

/-- A memory that is held whole is held at what it reads. -/
theorem reread {c : Dev nD} {s : Shape} {e : EltTy} {r : Memref sig .tc .vmem s e} (h : r.IsWhole) (f : r.view.ty.Contents (Elt F)) :
    (r.view.loc (c : Thread nD τ) ↦[r.view.set]{fullShare} f : sProp 𝕄)
      ⊢ r.view.loc (c : Thread nD τ) ↦[r.view.set]{fullShare} h.unread (r.view.read (Elt F) f) := by
  rw [← h.eq_unread (f := f) rfl]

/-- What the first part of a grid point leaves: each head's values, on the first row tile. -/
structure Start (c : Dev nD) (i : grid0.Coords) (p : Refs) (n : Ins F) (x : Mem F) where
  vh : p.rvh.view.ty.Contents (Elt F)
  rest : Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.rvh fullShare x.vh
        ∗ owns (c : Thread nD τ) p.rac fullShare x.ac
        ∗ owns (c : Thread nD τ) p.rz fullShare x.z
        ∗ (iprop(owns (c : Thread nD τ) p.rq fullShare n.q
            ∗ owns (c : Thread nD τ) p.rk fullShare n.k
            ∗ owns (c : Thread nD τ) p.rv fullShare n.v
            ∗ (p.rvh.view.loc (c : Thread nD τ) ↦[p.rvh.view.set]{fullShare} vh)
            ∗ owns (c : Thread nD τ) p.rac fullShare x.ac
            ∗ owns (c : Thread nD τ) p.rz fullShare x.z)
          -∗ wp frame (wpE (defs₀ (F := F)) 𝒱₀ (c : Thread nD τ) b) E rest K))
      ⊢ wp frame (wpE (defs₀ (F := F)) 𝒱₀ (c : Thread nD τ) b) E (cc0_attn_fwd i p.rq p.hq p.rk p.hk p.rv p.hv p.ro p.ho p.rvh p.hvh p.rac p.hac p.rz p.hz) K

set_option maxHeartbeats 40000000 in
set_option sl_exec.resultNames true in
/-- It is run. -/
def start (c : Dev nD) (i : grid0.Coords) (p : Refs) (n : Ins F) (x : Mem F) : Start c i p n x := by
  refine ⟨?_, ?_, fun b E K => ?run⟩
  case run =>
    simp only [cc0_attn_fwd_eq_skeleton]; unfold cc0_attn_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := p.hq.eq_unread hf0
    obtain rfl := p.hk.eq_unread hf1
    obtain rfl := p.hv.eq_unread hf2
    obtain rfl := p.hvh.eq_unread hf3
    obtain rfl := p.hac.eq_unread hf4
    obtain rfl := p.hz.eq_unread hf5
    set_option sl_exec.stopBefore "k0_part2" in sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]; · iexact H3
    isplitl [H4]
    · iexists _; isplitr; · ipureintro; exact p.hac.read_unread _
      iexact H4
    iexists _; isplitr; · ipureintro; exact p.hz.read_unread _
    iexact H5

/-- The scratch buffers then. -/
def mem1 (c : Dev nD) (i : grid0.Coords) (p : Refs) (n : Ins F) (x : Mem F) : Mem F :=
  ⟨p.rvh.view.read (Elt F) (start c i p n x).vh, x.ac, x.z⟩

/-- What the next part leaves: both key tiles scored, the first one's output and the second one's of the first two heads. -/
structure Mid (c : Dev nD) (i : grid0.Coords) (p : Refs) (n : Ins F) (x : Mem F) where
  ac : p.rac.view.ty.Contents (Elt F)
  z : p.rz.view.ty.Contents (Elt F)
  rest : Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.rvh fullShare (mem1 c i p n x).vh
        ∗ owns (c : Thread nD τ) p.rac fullShare (mem1 c i p n x).ac
        ∗ owns (c : Thread nD τ) p.rz fullShare (mem1 c i p n x).z
        ∗ (iprop(owns (c : Thread nD τ) p.rq fullShare n.q
            ∗ owns (c : Thread nD τ) p.rk fullShare n.k
            ∗ owns (c : Thread nD τ) p.rv fullShare n.v
            ∗ owns (c : Thread nD τ) p.rvh fullShare (mem1 c i p n x).vh
            ∗ (p.rac.view.loc (c : Thread nD τ) ↦[p.rac.view.set]{fullShare} ac)
            ∗ (p.rz.view.loc (c : Thread nD τ) ↦[p.rz.view.set]{fullShare} z))
          -∗ wp frame (wpE (defs₀ (F := F)) 𝒱₀ (c : Thread nD τ) b) E rest K))
      ⊢ wp frame (wpE (defs₀ (F := F)) 𝒱₀ (c : Thread nD τ) b) E (start c i p n x).rest K

set_option maxHeartbeats 40000000 in
set_option sl_exec.resultNames true in
/-- It is run. -/
def mid (c : Dev nD) (i : grid0.Coords) (p : Refs) (n : Ins F) (x : Mem F) : Mid c i p n x := by
  refine ⟨?_, ?_, ?_, fun b E K => ?run⟩
  case run =>
    unfold start; dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := p.hq.eq_unread hf0
    obtain rfl := p.hk.eq_unread hf1
    obtain rfl := p.hv.eq_unread hf2
    obtain rfl := p.hvh.eq_unread hf3
    obtain rfl := p.hac.eq_unread hf4
    obtain rfl := p.hz.eq_unread hf5
    set_option sl_exec.stopBefore "k0_part12" in sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]
    · iexists _; isplitr; · ipureintro; exact p.hvh.read_unread _
      iexact H3
    isplitl [H4]; · iexact H4
    iexact H5

/-- The scratch buffers then. -/
def mem2 (c : Dev nD) (i : grid0.Coords) (p : Refs) (n : Ins F) (x : Mem F) : Mem F :=
  ⟨(mem1 c i p n x).vh, p.rac.view.read (Elt F) (mid c i p n x).ac, p.rz.view.read (Elt F) (mid c i p n x).z⟩

end AttnF
-- ==== Proof.AttnFLast.lean ====
/-
  The last part of a row tile of the forward attention before its walk: the second key tile's output of the last two
  heads, and the next key tile scored.
-/
module

public import proofs.«01_k».proof.Proof.AttnFHead

@[expose] public section

noncomputable section

namespace AttnF

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the walk never changes: the matrix that sums along a row and the masked rows. -/
abbrev fixed (c : Dev nD) (i : grid0.Coords) (p : Refs) (n : Ins F) : Fixed F :=
  ⟨i, mid.sl.v330 c i p n, start.sl.v29, start.sl.v36 c p n, start.sl.v40 c p n, mid.sl.v44 c p n, mid.sl.v48 c p n,
    p.rk, p.hk, p.rvh, p.hvh, p.rac, p.hac, p.rz, p.hz⟩

/-- Whether the walk has a key tile to visit. -/
abbrev go (c : Dev nD) (i : grid0.Coords) (p : Refs) (n : Ins F) : BitVec 1 := mid.sl.v331 c i p n

/-- The running sums the walk begins with. -/
abbrev sums (c : Dev nD) (i : grid0.Coords) (p : Refs) (n : Ins F) (x : Mem F) : Sums F :=
  ⟨mid.sl.r_19 c i p n, mid.sl.r_22 c i p n, mid.sl.r_25 c i p n, mid.sl.r_29 c i p n⟩

/-- What the last part before the walk leaves, and the walk it then calls. -/
structure Last (c : Dev nD) (i : grid0.Coords) (p : Refs) (n : Ins F) (x : Mem F) where
  ac : p.rac.view.ty.Contents (Elt F)
  z : p.rz.view.ty.Contents (Elt F)
  tail : (Λ₀ F).Result 1 → Prog (TpuEff nD τ sig (Elt F) (Λ₀ F) .tc) (Σ' _ : FVec F S256x256 .f32, FVec F S256x256 .f32)
  rest : (Σ' _ : FVec F S256x256 .f32, FVec F S256x256 .f32) → Prog (TpuEff nD τ sig (Elt F) (Λ₀ F) .tc) PUnit
  run : ∀ (b : Option 𝒱₀.V) (E : Set ℕ) (K : _ → sProp 𝕄),
    iprop(owns (c : Thread nD τ) p.rq fullShare n.q
        ∗ owns (c : Thread nD τ) p.rk fullShare n.k
        ∗ owns (c : Thread nD τ) p.rv fullShare n.v
        ∗ owns (c : Thread nD τ) p.rvh fullShare (mem2 c i p n x).vh
        ∗ owns (c : Thread nD τ) p.rac fullShare (mem2 c i p n x).ac
        ∗ owns (c : Thread nD τ) p.rz fullShare (mem2 c i p n x).z
        ∗ (iprop(owns (c : Thread nD τ) p.rq fullShare n.q
            ∗ owns (c : Thread nD τ) p.rk fullShare n.k
            ∗ owns (c : Thread nD τ) p.rv fullShare n.v
            ∗ owns (c : Thread nD τ) p.rvh fullShare (mem2 c i p n x).vh
            ∗ (p.rac.view.loc (c : Thread nD τ) ↦[p.rac.view.set]{fullShare} ac)
            ∗ (p.rz.view.loc (c : Thread nD τ) ↦[p.rz.view.set]{fullShare} z))
          -∗ wp frame (wpE (defs₀ (F := F)) 𝒱₀ (c : Thread nD τ) b) E (.op (.call (1 : (Λ₀ F).Label) (args (fixed c i p n) 0#32 (go c i p n) (sums c i p n x))) tail)
            (fun y => wp frame (wpE (defs₀ (F := F)) 𝒱₀ (c : Thread nD τ) b) E (rest y) K)))
      ⊢ wp frame (wpE (defs₀ (F := F)) 𝒱₀ (c : Thread nD τ) b) E (mid c i p n x).rest K

set_option maxHeartbeats 40000000 in
set_option sl_exec.resultNames true in
/-- It is run. -/
def last (c : Dev nD) (i : grid0.Coords) (p : Refs) (n : Ins F) (x : Mem F) : Last c i p n x := by
  refine ⟨?_, ?_, ?_, ?_, fun b E K => ?run⟩
  case run =>
    unfold mid; dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := p.hq.eq_unread hf0
    obtain rfl := p.hk.eq_unread hf1
    obtain rfl := p.hv.eq_unread hf2
    obtain rfl := p.hvh.eq_unread hf3
    obtain rfl := p.hac.eq_unread hf4
    obtain rfl := p.hz.eq_unread hf5
    sl_exec
    iapply Hk
    isplitl [H0]
    · iexists _; isplitr; · ipureintro; exact p.hq.read_unread _
      iexact H0
    isplitl [H1]
    · iexists _; isplitr; · ipureintro; exact p.hk.read_unread _
      iexact H1
    isplitl [H2]
    · iexists _; isplitr; · ipureintro; exact p.hv.read_unread _
      iexact H2
    isplitl [H3]
    · iexists _; isplitr; · ipureintro; exact p.hvh.read_unread _
      iexact H3
    isplitl [H4]; · iexact H4
    iexact H5

/-- The scratch buffers when the walk begins. -/
def mem3 (c : Dev nD) (i : grid0.Coords) (p : Refs) (n : Ins F) (x : Mem F) : Mem F :=
  ⟨(mem2 c i p n x).vh, p.rac.view.read (Elt F) (last c i p n x).ac, p.rz.view.read (Elt F) (last c i p n x).z⟩

end AttnF
-- ==== Proof.AttnFPoint.lean ====
/-
  One grid point of the forward attention, whole: what comes before the walk, the walk, the output after it.
-/
module

public import proofs.«01_k».proof.Proof.AttnFLast

@[expose] public section

noncomputable section

namespace AttnF

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the part after the walk leaves in the staged result. -/
structure Final (c : Dev nD) (i : grid0.Coords) (p : Refs) (n : Ins F) (x z : Mem F) (y : Vec F S256x256 .f32) where
  o : p.ro.view.ty.Contents (Elt F)
  run : ∀ (r : (Λ₀ F).Result 1) (b : Option 𝒱₀.V) (E : Set ℕ) (K : _ → sProp 𝕄),
    iprop(owns (c : Thread nD τ) p.rac fullShare z.ac ∗ owns (c : Thread nD τ) p.ro fullShare y
        ∗ (iprop(owns (c : Thread nD τ) p.rac fullShare z.ac
            ∗ (p.ro.view.loc (c : Thread nD τ) ↦[p.ro.view.set]{fullShare} o))
          -∗ K ⟨⟩))
      ⊢ wp frame (wpE (defs₀ (F := F)) 𝒱₀ (c : Thread nD τ) b) E ((last c i p n x).tail r)
          (fun y => wp frame (wpE (defs₀ (F := F)) 𝒱₀ (c : Thread nD τ) b) E ((last c i p n x).rest y) K)

set_option maxHeartbeats 40000000 in
set_option sl_exec.resultNames true in
/-- It is run. -/
def final (c : Dev nD) (i : grid0.Coords) (p : Refs) (n : Ins F) (x z : Mem F) (y : Vec F S256x256 .f32) : Final c i p n x z y := by
  refine ⟨?_, fun r b E K => ?run⟩
  case run =>
    rw [← wp_bind]
    obtain ⟨r0, r1, r2, r3, r4, r5⟩ := r
    unfold last; dsimp only
    unfold owns
    iintro ⟨⟨%f0, %hf0, H0⟩, ⟨%f1, %hf1, H1⟩, Hk⟩
    obtain rfl := p.hac.eq_unread hf0
    obtain rfl := p.ho.eq_unread hf1
    sl_exec
    rw [wp_ret]; imodintro
    iapply Hk
    isplitl [H0]
    · iexists _; isplitr; · ipureintro; exact p.hac.read_unread _
      iexact H0
    iexact H1

/-- The staged inputs are held. -/
abbrev insHeld (c : Dev nD) (p : Refs) (n : Ins F) : sProp 𝕄 :=
  iprop(owns (c : Thread nD τ) p.rq fullShare n.q ∗ owns (c : Thread nD τ) p.rk fullShare n.k
    ∗ owns (c : Thread nD τ) p.rv fullShare n.v)

/-- The scratch buffers are held. -/
abbrev memHeld (c : Dev nD) (p : Refs) (x : Mem F) : sProp 𝕄 :=
  iprop(owns (c : Thread nD τ) p.rvh fullShare x.vh ∗ owns (c : Thread nD τ) p.rac fullShare x.ac
    ∗ owns (c : Thread nD τ) p.rz fullShare x.z)

set_option maxHeartbeats 4000000 in
theorem start_held (c : Dev nD) (i : grid0.Coords) (p : Refs) (n : Ins F) (x : Mem F) (b : Option 𝒱₀.V) (E : Set ℕ) (K : _ → sProp 𝕄) :
    iprop(insHeld c p n ∗ memHeld c p x ∗ (iprop(insHeld c p n ∗ memHeld c p (mem1 c i p n x)) -∗
        wp frame (wpE (defs₀ (F := F)) 𝒱₀ (c : Thread nD τ) b) E (start c i p n x).rest K))
      ⊢ wp frame (wpE (defs₀ (F := F)) 𝒱₀ (c : Thread nD τ) b) E (cc0_attn_fwd i p.rq p.hq p.rk p.hk p.rv p.hv p.ro p.ho p.rvh p.hvh p.rac p.hac p.rz p.hz) K := by
  iintro ⟨⟨I0, I1, I2⟩, ⟨H0, H1, H2⟩, Hk⟩
  iapply ((start c i p n x).run b E K)
  isplitl [I0]; · iexact I0
  isplitl [I1]; · iexact I1
  isplitl [I2]; · iexact I2
  isplitl [H0]; · iexact H0
  isplitl [H1]; · iexact H1
  isplitl [H2]; · iexact H2
  iintro ⟨I0, I1, I2, H0, H1, H2⟩
  iapply Hk
  isplitl [I0 I1 I2]
  · isplitl [I0]; · iexact I0
    isplitl [I1]; · iexact I1
    iexact I2
  unfold mem1
  isplitl [H0]; · unfold owns; iexists _; isplitr; swap; (iexact H0); ipureintro; rfl
  isplitl [H1]; · iexact H1
  iexact H2

set_option maxHeartbeats 4000000 in
theorem mid_held (c : Dev nD) (i : grid0.Coords) (p : Refs) (n : Ins F) (x : Mem F) (b : Option 𝒱₀.V) (E : Set ℕ) (K : _ → sProp 𝕄) :
    iprop(insHeld c p n ∗ memHeld c p (mem1 c i p n x) ∗ (iprop(insHeld c p n ∗ memHeld c p (mem2 c i p n x)) -∗
        wp frame (wpE (defs₀ (F := F)) 𝒱₀ (c : Thread nD τ) b) E (mid c i p n x).rest K))
      ⊢ wp frame (wpE (defs₀ (F := F)) 𝒱₀ (c : Thread nD τ) b) E (start c i p n x).rest K := by
  iintro ⟨⟨I0, I1, I2⟩, ⟨H0, H1, H2⟩, Hk⟩
  iapply ((mid c i p n x).run b E K)
  isplitl [I0]; · iexact I0
  isplitl [I1]; · iexact I1
  isplitl [I2]; · iexact I2
  isplitl [H0]; · iexact H0
  isplitl [H1]; · iexact H1
  isplitl [H2]; · iexact H2
  iintro ⟨I0, I1, I2, H0, H1, H2⟩
  iapply Hk
  isplitl [I0 I1 I2]
  · isplitl [I0]; · iexact I0
    isplitl [I1]; · iexact I1
    iexact I2
  unfold mem2
  isplitl [H0]; · iexact H0
  isplitl [H1]; · unfold owns; iexists _; isplitr; swap; (iexact H1); ipureintro; rfl
  unfold owns; iexists _; isplitr; swap; (iexact H2); ipureintro; rfl

set_option maxHeartbeats 4000000 in
theorem last_held (c : Dev nD) (i : grid0.Coords) (p : Refs) (n : Ins F) (x : Mem F) (b : Option 𝒱₀.V) (E : Set ℕ) (K : _ → sProp 𝕄) :
    iprop(insHeld c p n ∗ memHeld c p (mem2 c i p n x) ∗ (iprop(insHeld c p n ∗ memHeld c p (mem3 c i p n x)) -∗
        wp frame (wpE (defs₀ (F := F)) 𝒱₀ (c : Thread nD τ) b) E (.op (.call (1 : (Λ₀ F).Label) (args (fixed c i p n) 0#32 (go c i p n) (sums c i p n x))) (last c i p n x).tail)
          (fun y => wp frame (wpE (defs₀ (F := F)) 𝒱₀ (c : Thread nD τ) b) E ((last c i p n x).rest y) K)))
      ⊢ wp frame (wpE (defs₀ (F := F)) 𝒱₀ (c : Thread nD τ) b) E (mid c i p n x).rest K := by
  iintro ⟨⟨I0, I1, I2⟩, ⟨H0, H1, H2⟩, Hk⟩
  iapply ((last c i p n x).run b E K)
  isplitl [I0]; · iexact I0
  isplitl [I1]; · iexact I1
  isplitl [I2]; · iexact I2
  isplitl [H0]; · iexact H0
  isplitl [H1]; · iexact H1
  isplitl [H2]; · iexact H2
  iintro ⟨I0, I1, I2, H0, H1, H2⟩
  iapply Hk
  isplitl [I0 I1 I2]
  · isplitl [I0]; · iexact I0
    isplitl [I1]; · iexact I1
    iexact I2
  unfold mem3
  isplitl [H0]; · iexact H0
  isplitl [H1]; · unfold owns; iexists _; isplitr; swap; (iexact H1); ipureintro; rfl
  unfold owns; iexists _; isplitr; swap; (iexact H2); ipureintro; rfl

/-- The scratch buffers after a grid point. -/
def memEnd (c : Dev nD) (i : grid0.Coords) (p : Refs) (n : Ins F) (x : Mem F) : Mem F :=
  walk c (fixed c i p n) n.k 16 0 (go c i p n) (sums c i p n x) (mem3 c i p n x)

/-- The staged result after a grid point. -/
def outEnd (c : Dev nD) (i : grid0.Coords) (p : Refs) (n : Ins F) (x : Mem F) (y : Vec F S256x256 .f32) : Vec F S256x256 .f32 :=
  p.ro.view.read (Elt F) (final c i p n x (memEnd c i p n x) y).o

/-- The walk is entered only where a key tile is left. -/
theorem go_left (c : Dev nD) (t : Fin grid0.N) (p : Refs) (n : Ins F) (h : go c (grid0.coords t) p n = 1#1) :
    2 ≤ ((grid0.coords t) 1).val := by
  have e : ∃ w, go c (grid0.coords t) p n
      = Scalar.andi (Scalar.cmpi .sgt (Scalar.subi (BitVec.ofNat 32 ((grid0.coords t) 1).val) 1#32) 0#32) w := ⟨_, rfl⟩
  obtain ⟨w, e⟩ := e
  rw [h] at e
  have key : ∀ (i : Fin 16) (w : Fin 2),
      1#1 = Scalar.andi (Scalar.cmpi .sgt (Scalar.subi (BitVec.ofNat 32 i.val) 1#32) 0#32) (BitVec.ofNat 1 w.val) → 2 ≤ i.val := by decide +kernel
  refine key ((grid0.coords t) 1) ⟨w.toNat, w.isLt⟩ ?_
  simpa using e

set_option maxHeartbeats 8000000 in
/-- One grid point. -/
theorem point (c : Dev nD) (t : Fin grid0.N) (p : Refs) (n : Ins F) (x : Mem F) (y : Vec F S256x256 .f32) (E : Set ℕ) (K : _ → sProp 𝕄) :
    iprop(insHeld c p n ∗ memHeld c p x ∗ owns (c : Thread nD τ) p.ro fullShare y
        ∗ (iprop(insHeld c p n ∗ memHeld c p (memEnd c (grid0.coords t) p n x)
            ∗ owns (c : Thread nD τ) p.ro fullShare (outEnd c (grid0.coords t) p n x y)) -∗ K ⟨⟩))
      ⊢ wp frame (wpE (defs₀ (F := F)) 𝒱₀ (c : Thread nD τ) none) E (cc0_attn_fwd (grid0.coords t) p.rq p.hq p.rk p.hk p.rv p.hv p.ro p.ho p.rvh p.hvh p.rac p.hac p.rz p.hz) K := by
  iintro ⟨I, H, Y, Hk⟩
  iapply (start_held c (grid0.coords t) p n x none E K)
  isplitl [I]; · iexact I
  isplitl [H]; · iexact H
  iintro ⟨I, H⟩
  iapply (mid_held c (grid0.coords t) p n x none E K)
  isplitl [I]; · iexact I
  isplitl [H]; · iexact H
  iintro ⟨I, H⟩
  iapply (last_held c (grid0.coords t) p n x none E K)
  isplitl [I]; · iexact I
  isplitl [H]; · iexact H
  iintro ⟨⟨I0, I1, I2⟩, ⟨H0, H1, H2⟩⟩
  iapply (wp_call_spec 𝒱₀ (c : Thread nD τ) none E
    (spec c (fixed c (grid0.coords t) p n) n.k 16 0 (go c (grid0.coords t) p n) (sums c (grid0.coords t) p n x) (mem3 c (grid0.coords t) p n x)) 16
    (fun u hu => nomatch hu)
    (spec_le c (fixed c (grid0.coords t) p n) t rfl n.k E 16 0 _ _ _ (fun e => go_left c t p n e)
      (by have : ((grid0.coords t) 1).val < 16 := ((grid0.coords t) 1).isLt; omega)))
  rw [spec_apply]
  isplitl [I1 H0 H1 H2]
  · isplitl [I1]; · iexact I1
    isplitl [H0]; · iexact H0
    isplitl [H1]; · iexact H1
    iexact H2
  iintro %r ⟨I1, H0, H1, H2⟩
  iapply ((final c (grid0.coords t) p n x (memEnd c (grid0.coords t) p n x) y).run r none E K)
  isplitl [H1]; · iexact H1
  isplitl [Y]; · iexact Y
  iintro ⟨H1, Y⟩
  iapply Hk
  isplitl [I0 I1 I2]
  · isplitl [I0]; · iexact I0
    isplitl [I1]; · iexact I1
    iexact I2
  isplitl [H0 H1 H2]
  · isplitl [H0]; · iexact H0
    isplitl [H1]; · iexact H1
    iexact H2
  unfold outEnd owns
  iexists _; isplitr; swap; (iexact Y); ipureintro; rfl

end AttnF
-- ==== Proof.AttnFRun.lean ====
/-
  The run of the forward attention's program: the host operations, then the grid. What the grid points leave in the scratch
  buffers and in the result is held to any invariant that one grid point keeps.
-/
module

public import proofs.«01_k».proof.Proof.AttnFPoint
public import proofs.«01_k».proof.Proof.Gen.AttnFIdeal.Launch
public import proofs.«01_k».proof.Proof.Gen.AttnFIdeal.Points
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace AttnF

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a core's buffers hold when the grid begins: after the host operations. -/
abbrev V (c : Dev nD) (b : Ref sig .tc) : Buf (Elt F) ((c : Thread nD τ).loc b) :=
  StableHlo.after (List.flatten [hostOps0]) (fun b => m (c, b)) b

/-- No line of host operations gives anything back uninitialised. -/
theorem fresh : ([hostOps0] : List (List (HloOp τ sig (Elt F)))).Forall fun l => l.Forall fun op => op.fresh = ∅ := by
  simp only [List.Forall]; repeat' constructor

set_option maxHeartbeats 800000 in
/-- The program up to the grid. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0]
    (by simp only [List.Forall]; exact hostOps0_sub) fresh main_chain

/-- An argument that no host operation writes is what it was. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    rcases hb with rfl | rfl | rfl <;>
    · simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

/-- What a window stages at a grid point. -/
def blk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The buffers at a grid point. -/
abbrev refs (t : Fin (cfg0 (F := F)).N) : Refs :=
  ⟨st0_0 (F := F) t, hstage0_0 (((cfg0 (F := F)).slots t 0).cast nbuf0_0),
    st0_1 (F := F) t, hstage0_1 (((cfg0 (F := F)).slots t 1).cast nbuf0_1),
    st0_2 (F := F) t, hstage0_2 (((cfg0 (F := F)).slots t 2).cast nbuf0_2),
    st0_3 (F := F) t, hstage0_3 (((cfg0 (F := F)).slots t 3).cast nbuf0_3),
    Memref.whole cc0_scratch0, Memref.isWhole_whole _, Memref.whole cc0_scratch1, Memref.isWhole_whole _, Memref.whole cc0_scratch2, Memref.isWhole_whole _⟩

/-- The staged inputs at a grid point. -/
abbrev ins (c : Dev nD) (t : Fin (cfg0 (F := F)).N) : Ins F := ⟨blk m c 0 t, blk m c 1 t, blk m c 2 t⟩

/-- The window of the result. -/
abbrev isRes (w : Fin (cfg0 (F := F)).W) : Bool := decide (3 ≤ w.val)

/-- What the grid keeps: an invariant of the scratch buffers before each grid point, and what each point leaves in the
    result. -/
structure Keeps (c : Dev nD) where
  inv : Fin ((cfg0 (F := F)).N + 1) → Mem F → Prop
  res : (w : Fin (cfg0 (F := F)).W) → Fin (cfg0 (F := F)).N → ((cfg0.win w).block.Idx → Elt F (cfg0.win w).elt) → Prop
  start : ∀ x, inv 0 x
  step : ∀ t x y, inv t.castSucc x →
    inv t.succ (memEnd c (grid0.coords t) (refs (F := F) t) (ins m c t) x)
      ∧ res 3 t (outEnd c (grid0.coords t) (refs (F := F) t) (ins m c t) x y)

/-- The scratch buffers are held at contents that meet `I`. -/
abbrev kept (c : Dev nD) (I : Mem F → Prop) : sProp 𝕄 :=
  iprop(∃ x : Mem F, ⌜I x⌝ ∗ owns (c : Thread nD τ) (Memref.whole cc0_scratch0) fullShare x.vh ∗ owns (c : Thread nD τ) (Memref.whole cc0_scratch1) fullShare x.ac ∗ owns (c : Thread nD τ) (Memref.whole cc0_scratch2) fullShare x.z
    ∗ ∃ r, prngReg c r)

variable (J : (c : Dev nD) → Keeps m c)

/-- What the grid's run is stated over. -/
def dat (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => Pipeline.Dat.unnamed (Val := Elt F) (cfg := (cfg0 (F := F))) 3 t
  Φ t := kept c ((J c).inv t)
  q w := Pipeline.shareOf spec0 w
  owed _ := 0

theorem A_eq (c : Dev nD) (w : Fin (cfg0 (F := F)).W) : (dat m J c).A w = V m c (Pipeline.arrRef spec0 w) := by dsimp only [dat]

theorem before_0 {c : Dev nD} (dat : Dat τ (Elt F) Unit ℕ (UR sig nD τ) ℕ (cfg0 (F := F)) c) (hA : dat.A 0 = V m c (Pipeline.arrRef spec0 0))
    (h : ∀ t, dat.after 0 t = blk m c 0 t) (t : Fin (cfg0 (F := F)).N) (d) : dat.before 0 t d = blk m c 0 t :=
  (dat.before_in_eq_fetched 0 rfl (fun _ => rfl) (fun _ _ _ => rfl) (fun t => by rw [h]; unfold Dat.blockOf blk; rw [hA]; try rfl) t d).trans
    (by unfold Dat.fetched Dat.blockOf blk; rw [hA]; try rfl)

theorem before_1 {c : Dev nD} (dat : Dat τ (Elt F) Unit ℕ (UR sig nD τ) ℕ (cfg0 (F := F)) c) (hA : dat.A 1 = V m c (Pipeline.arrRef spec0 1))
    (h : ∀ t, dat.after 1 t = blk m c 1 t) (t : Fin (cfg0 (F := F)).N) (d) : dat.before 1 t d = blk m c 1 t :=
  (dat.before_in_eq_fetched 1 rfl (fun _ => rfl) (fun _ _ _ => rfl) (fun t => by rw [h]; unfold Dat.blockOf blk; rw [hA]; try rfl) t d).trans
    (by unfold Dat.fetched Dat.blockOf blk; rw [hA]; try rfl)

theorem before_2 {c : Dev nD} (dat : Dat τ (Elt F) Unit ℕ (UR sig nD τ) ℕ (cfg0 (F := F)) c) (hA : dat.A 2 = V m c (Pipeline.arrRef spec0 2))
    (h : ∀ t, dat.after 2 t = blk m c 2 t) (t : Fin (cfg0 (F := F)).N) (d) : dat.before 2 t d = blk m c 2 t :=
  (dat.before_in_eq_fetched 2 rfl (fun _ => rfl) (fun _ _ _ => rfl) (fun t => by rw [h]; unfold Dat.blockOf blk; rw [hA]; try rfl) t d).trans
    (by unfold Dat.fetched Dat.blockOf blk; rw [hA]; try rfl)

set_option maxHeartbeats 4000000 in
/-- One grid point keeps what is to be kept. -/
theorem body (c : Dev nD) : Pipeline.BodyObligationRel (dat m J c) (defs₀ (F := F)) 𝒱₀ () Set.univ (isRes (F := F)) (J c).res := fun t => by
  rw [bigSep_W0, bigSep_W0]
  have e : defs₀ (F := F) .tc (cfg0 (F := F)).body (cfg0.bodyArgs t (cfg0.slots t)) = bodyAt0 t := by unfold defs₀; rw [Defs.onTc_tc]
  rw [e]
  show iprop(kept c ((J c).inv t.castSucc) ∗ (dat m J c).owesAt () t.castSucc
      ∗ (∃ d, owns (c : Thread nD τ) (st0_0 t) fullShare ((dat m J c).before 0 t d))
      ∗ (∃ d, owns (c : Thread nD τ) (st0_1 t) fullShare ((dat m J c).before 1 t d))
      ∗ (∃ d, owns (c : Thread nD τ) (st0_2 t) fullShare ((dat m J c).before 2 t d))
      ∗ (∃ Y, ⌜((dat m J c).toRRel (isRes (F := F)) (J c).res).Finds 3 t Y⌝ ∗ owns (c : Thread nD τ) (st0_3 t) fullShare Y))
    ⊢ wp frame (wpE (defs₀ (F := F)) 𝒱₀ (c : Thread nD τ) none) Set.univ (bodyAt0 t) (fun _ =>
      iprop(kept c ((J c).inv t.succ) ∗ (dat m J c).owesAt () t.castSucc
      ∗ owns (c : Thread nD τ) (st0_0 t) fullShare (blk m c 0 t)
      ∗ owns (c : Thread nD τ) (st0_1 t) fullShare (blk m c 1 t)
      ∗ owns (c : Thread nD τ) (st0_2 t) fullShare (blk m c 2 t)
      ∗ (∃ X, ⌜(J c).res 3 t X⌝ ∗ owns (c : Thread nD τ) (st0_3 t) fullShare X)))
  simp only [before_0 m (dat m J c) (A_eq m J c 0) (fun t => by dsimp only [dat]; rfl), before_1 m (dat m J c) (A_eq m J c 1) (fun t => by dsimp only [dat]; rfl), before_2 m (dat m J c) (A_eq m J c 2) (fun t => by dsimp only [dat]; rfl)]
  iintro ⟨⟨%x, %hx, X0, X1, X2, Hp⟩, Ho, ⟨%d0, H0⟩, ⟨%d1, H1⟩, ⟨%d2, H2⟩, ⟨%y, %hy, H3⟩⟩
  have hs := (J c).step t x y hx
  unfold bodyAt0
  iapply (point c t (refs (F := F) t) (ins m c t) x y Set.univ _)
  isplitl [H0 H1 H2]
  · isplitl [H0]; · iexact H0
    isplitl [H1]; · iexact H1
    iexact H2
  isplitl [X0 X1 X2]
  · isplitl [X0]; · iexact X0
    isplitl [X1]; · iexact X1
    iexact X2
  isplitl [H3]; · iexact H3
  iintro ⟨⟨H0, H1, H2⟩, ⟨X0, X1, X2⟩, H3⟩
  isplitl [X0 X1 X2 Hp]
  · iexists (memEnd c (grid0.coords t) (refs (F := F) t) (ins m c t) x)
    isplitr; · ipureintro; exact hs.1
    isplitl [X0]; · iexact X0
    isplitl [X1]; · iexact X1
    isplitl [X2]; · iexact X2
    iexact Hp
  isplitl [Ho]; · iexact Ho
  isplitl [H0]; · iexact H0
  isplitl [H1]; · iexact H1
  isplitl [H2]; · iexact H2
  iexists (outEnd c (grid0.coords t) (refs (F := F) t) (ins m c t) x y)
  isplitr; · ipureintro; exact hs.2
  iexact H3

theorem whole_in (c : Dev nD) (b : Ref sig .tc) (f : b.ty.Contents (Elt F)) :
    (((c : Thread nD τ).loc b) ↦{fullShare} f : sProp 𝕄) ⊢ owns (c : Thread nD τ) (Memref.whole b) fullShare f := by
  rw [owns_whole]

theorem whole_out (c : Dev nD) (b : Ref sig .tc) (f : b.ty.Contents (Elt F)) :
    owns (c : Thread nD τ) (Memref.whole b) fullShare f ⊢ (((c : Thread nD τ).loc b) ↦{fullShare} f : sProp 𝕄) := by
  rw [owns_whole]

/-- The grid begins with the scratch buffers as they lie. -/
theorem enter (c : Dev nD) : Pipeline.ΦA (Val := Elt F) (U := UR sig nD τ) spec0 c ⊢ (dat m J c).Φ 0 := by
  show _ ⊢ kept c ((J c).inv 0)
  unfold Pipeline.ΦA; rw [scopedRest0_eq]
  iintro ⟨⟨⟨%f0, H0⟩, ⟨%f1, H1⟩, ⟨%f2, H2⟩⟩, Hp⟩
  iexists (⟨f0, f1, f2⟩ : Mem F)
  isplitr; · ipureintro; exact (J c).start _
  isplitl [H0]; · iapply (whole_in c cc0_scratch0 f0); iexact H0
  isplitl [H1]; · iapply (whole_in c cc0_scratch1 f1); iexact H1
  isplitl [H2]; · iapply (whole_in c cc0_scratch2 f2); iexact H2
  iexact Hp

/-- The grid ends with the scratch buffers at some contents. -/
theorem leave (c : Dev nD) : (dat m J c).Φ (Fin.last (cfg0 (F := F)).N) ⊢ Pipeline.ΦA (Val := Elt F) (U := UR sig nD τ) spec0 c := by
  show kept c ((J c).inv (Fin.last (cfg0 (F := F)).N)) ⊢ _
  unfold Pipeline.ΦA; rw [scopedRest0_eq]
  iintro ⟨%x, %hx, H0, H1, H2, Hp⟩
  isplitr [Hp]
  · isplitl [H0]; · iexists _; iapply (whole_out c cc0_scratch0 _); iexact H0
    isplitl [H1]; · iexists _; iapply (whole_out c cc0_scratch1 _); iexact H1
    iexists _; iapply (whole_out c cc0_scratch2 _); iexact H2
  iexact Hp

set_option backward.isDefEq.respectTransparency.types false in
/-- The run: every array ends at what the windows' relations allow, every other buffer as the grid found it, every
    semaphore counter at zero. -/
theorem run : θ_run defs (onTc (τ := τ) (main (F := F))) (s₀ m ρ)
    (fun r => Pipeline.RDat.FramePost (cfg0 (F := F)) (fun c => (dat m J c).toRRel (isRes (F := F)) (J c).res) (V m) r ∧ r.2.sem = fun _ => 0) :=
  Pipeline.RDat.θ_run_frame_track_shared (Q' := _) cfgs (0 : Fin 1) launch₀0 defs₀ 𝒱₀ (fun c => (dat m J c).toRRel (isRes (F := F)) (J c).res) m ρ main
    (hbody := fun c => Pipeline.BodyObligationRel.toRRel (dat m J c) (body m J c)) (hq := fun _ _ _ => rfl)
    (howed := fun _ _ => rfl) (V := V m) (hmain := hmain m) (hA := A_eq m J) (hin := enter m J) (hout := leave m J)

/-- The arguments end unchanged and the counters at zero. -/
theorem frame_of {r : PUnit × MemSt nD τ sig (Elt F)}
    (h : Pipeline.RDat.FramePost (cfg0 (F := F)) (fun c => (dat m J c).toRRel (isRes (F := F)) (J c).res) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨((h c).2 main_arg0 (show main_arg0 ∈ Pipeline.restRefs sig spec0 from Pipeline.mem_restRefs_of main_arg0 (by decide) (by decide))).trans (V_arg m c _ (by simp)),
      ((h c).2 main_arg1 (show main_arg1 ∈ Pipeline.restRefs sig spec0 from Pipeline.mem_restRefs_of main_arg1 (by decide) (by decide))).trans (V_arg m c _ (by simp)),
      ((h c).2 main_arg2 (show main_arg2 ∈ Pipeline.restRefs sig spec0 from Pipeline.mem_restRefs_of main_arg2 (by decide) (by decide))).trans (V_arg m c _ (by simp))⟩

/-- Nothing is asked of the scratch buffers and of the results. -/
def nothing (c : Dev nD) : Keeps m c := ⟨fun _ _ => True, fun _ _ _ => True, fun _ => trivial, fun _ _ _ _ => ⟨trivial, trivial⟩⟩

end AttnF
-- ==== Proof.AttnFIn.lean ====
/-
  What a grid point of the forward attention stages: its rows of the scaled queries, its block's keys and values.
-/
module

public import proofs.«01_k».proof.Proof.AttnFRun
public import proofs.«01_k».proof.Proof.AttnIn
public import proofs.«01_k».proof.Proof.Gen.AttnFRefIdeal.Read

@[expose] public section

set_option maxRecDepth 16384

noncomputable section

namespace AttnF

open Cert.AttnFIdeal Cert.AttnFIdeal.Gen
open Idealize.ShloMosaic Idealize.ShloMosaic.TcCoe Idealize.ShloMosaic.Tactic
open AttnB (packed packed_q packed_k packed_v)

section
variable {F : FTy → Type} [FloatOps F] [Named F] (m : (ℓ : Loc nD τ sig) → Buf (Elt F) ℓ) (c : Dev nD)

abbrev argOf (b : Ref sig .tc) : Buf (Elt F) ((c : Thread nD τ).loc b) := m ((c : Thread nD τ).loc b)

set_option maxHeartbeats 8000000 in
/-- The packed operands. -/
theorem V_v11 : V m c main_v11 = packed (F := F) (argOf m c main_arg0) (argOf m c main_arg1) (argOf m c main_arg2) := by
  show V m c main_v11 = _
  simp only [V, hostOps0, List.flatten_cons, List.flatten_nil, List.append_nil, List.cons_append, List.nil_append]
  after_results_simp <;> rfl
end

set_option maxHeartbeats 4000000 in
/-- The reference's forward pass is the one the backward reference goes through. -/
theorem ref_eq (x0 x1 x2 : FVec Ideal S4096x512 .f32) :
    Cert.AttnFRefIdeal.Read.val_main_v26 (F := Ideal) x0 x1 x2 = Cert.AttnBRefIdeal.Read.val_main_v26 (F := Ideal) x0 x1 x2 := rfl

/-- Where a grid point's blocks lie. -/
theorem idx : ∀ t : Fin (cfg0 (F := Ideal)).N, win0_0.index t = ![0, t.val % 16, t.val / 16] ∧ win0_1.index t = ![1, 0, t.val / 16] ∧ win0_2.index t = ![2, 0, t.val / 16]
    ∧ win0_3.index t = ![t.val % 16, t.val / 16] ∧ (grid0.coords t 1).val = t.val % 16 :=
  (by decide +kernel : ∀ t : Fin grid0.N, _)

variable (m : (ℓ : Loc nD τ sig) → Buf (Elt Ideal) ℓ) (c : Dev nD) (t : Fin (cfg0 (F := Ideal)).N)

abbrev row (t : Fin (cfg0 (F := Ideal)).N) (p : Fin 256) : Fin 4096 := ⟨256 * (t.val % 16) + p.val, by omega⟩
abbrev col2 (t : Fin (cfg0 (F := Ideal)).N) (l : Fin 256) : Fin 512 := ⟨256 * (t.val / 16) + l.val, by have : t.val < 32 := t.isLt; omega⟩

theorem in_q (p l : Fin 256) : blk m c 0 t (ix3 0 p l) = packed (F := Ideal) (argOf m c main_arg0) (argOf m c main_arg1) (argOf m c main_arg2) (ix3 0 (row t p) (col2 t l)) := by
  blk_simp [blk]
  refine (congrFun (V_v11 m c) _).trans (congrArg (packed _ _ _) ?_)
  blk_ext [(idx t).1]

theorem in_k (r : Fin 4096) (l : Fin 256) : blk m c 1 t (ix3 0 r l) = packed (F := Ideal) (argOf m c main_arg0) (argOf m c main_arg1) (argOf m c main_arg2) (ix3 1 r (col2 t l)) := by
  blk_simp [blk]
  refine (congrFun (V_v11 m c) _).trans (congrArg (packed _ _ _) ?_)
  blk_ext [(idx t).2.1]

theorem in_v (r : Fin 4096) (l : Fin 256) : blk m c 2 t (ix3 0 r l) = packed (F := Ideal) (argOf m c main_arg0) (argOf m c main_arg1) (argOf m c main_arg2) (ix3 2 r (col2 t l)) := by
  blk_simp [blk]
  refine (congrFun (V_v11 m c) _).trans (congrArg (packed _ _ _) ?_)
  blk_ext [(idx t).2.2.1]

end AttnF
-- ==== Proof.AttnFStep.lean ====
/-
  The forward attention's stages in the words of the tiles: what a trip of its walk hands on and stores, and what a grid
  point hands to the walk and stores before it, over any reading of the floats.
-/
module

public import proofs.«01_k».proof.Proof.AttnBegin
public import proofs.«01_k».proof.Proof.AttnFPoint

@[expose] public section

noncomputable section

namespace AttnF

open Cert.AttnFIdeal Cert.AttnFIdeal.Gen
open Idealize.ShloMosaic Idealize.ShloMosaic.TcCoe Idealize.ShloMosaic.Tactic
open AttnB (nt nn bf rowT runT powT diagT cntT cut3 cut4 ex3 ex4 lanes inb3 inb4 inbKh dqPiece scores)

variable {F : FTy → Type} [FloatOps F] [Named F]

/-- The base-2 logarithm of the sigmoid of a score in base-2 units. -/
def ls (z : FVec F S256x256 .f32) : FVec F S256x256 .f32 :=
  subf (minimumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "inv_ln2" 0x3FB8AA3B#32)))

/-- One head of a tile: the logarithms and the weights. -/
def cellL (z : FVec F S256x256 .f32) : FVec F S256x256 .f32 := subf (ls z) z
def cellA (m : FVec F S256x256 .bf16) (z : FVec F S256x256 .f32) (l : FVec F S256x1 .f32) : FVec F S256x256 .f32 := powT (ls z) (runT m (cellL z) l)

/-- One head of the tile on the diagonal, and of the one left of it, which counts if there is one. -/
def diagL (z : FVec F S256x256 .f32) : FVec F S256x256 .f32 := diagT (cellL z)
def diagA (m : FVec F S256x256 .bf16) (z : FVec F S256x256 .f32) : FVec F S256x256 .f32 := diagT (powT (ls z) (runT m (diagL z) k0_pay34))
def diagLs (z : FVec F S256x256 .f32) : FVec F S256x1 .f32 := addf k0_pay34 (rowT (diagL z))
def prevA (b : BitVec 1) (m : FVec F S256x256 .bf16) (z : FVec F S256x256 .f32) (l : FVec F S256x1 .f32) : FVec F S256x256 .f32 := cntT b (cellA m z l)

/-- The test of the early exit. -/
def live (l0 l1 l2 l3 : FVec F S256x1 .f32) : BitVec 1 :=
  Scalar.cmpf .ogt
    (extractAt ![0, 0, 0]
      (shapeCast S1x1x1 (multiReduction .maximumf [1, 2] S1
        (shapeCast S1x256x1 (maximumf (maximumf (maximumf l0 l1) l2) l3) shapeCasts_S256x1_S1x256x1) 0xFF800000#32 reduces_S1x256x1_S1 (.inl rfl) rfl)
        shapeCasts_S1_S1x1x1) inpos_S1x1x1_p0_0_0)
    (Named.named κ "dead" 3273096101#32)

/-! Over the reals these are the ones of the backward attention. -/

theorem cellL_eq (z : FVec Ideal S256x256 .f32) : cellL z = AttnB.cellL z := rfl
theorem cellA_eq (m z l) : cellA (F := Ideal) m z l = AttnB.cellA m z l := rfl
theorem diagA_eq (m z) : diagA (F := Ideal) m z = AttnB.diagA m z := rfl
theorem diagLs_eq (z : FVec Ideal S256x256 .f32) : diagLs z = AttnB.diagLs z := rfl
theorem prevA_eq (b m z l) : prevA (F := Ideal) b m z l = AttnB.prevA b m z l := rfl
theorem live_eq (l0 l1 l2 l3 : FVec Ideal S256x1 .f32) : live l0 l1 l2 l3 = AttnB.live l0 l1 l2 l3 := rfl

section Trip
variable (c : Dev nD) (a : Fixed F) (jj : ℕ) (s : Sums F) (h : Checks a.i jj) (k : Vec F S1x4096x256 .bf16) (x : Mem F)

/-- The loads of a trip. -/
def zAt (off : Fin 4 → ℕ) (inb : ∀ b, off b + S1x1x256x256.size b ≤ S2x4x256x256.size b) : FVec F S256x256 .f32 :=
  cut4 (φ := .f32) (View.readAt (Elt F) a.rz.view (Rect.unit (s := S2x4x256x256) off S1x1x256x256.size inb).toLoadRect (a.hz.unread x.z))
def vhAt (off : Fin 3 → ℕ) (inb : ∀ b, off b + S1x256x256.size b ≤ S4x4096x256.size b) : FVec F S256x256 .bf16 :=
  cut3 (φ := .bf16) (View.readAt (Elt F) a.rvh.view (Rect.unit (s := S4x4096x256) off S1x256x256.size inb).toLoadRect (a.hvh.unread x.vh))
def acAt (off : Fin 3 → ℕ) (inb : ∀ b, off b + S1x256x256.size b ≤ S4x256x256.size b) : FVec F S256x256 .f32 :=
  cut3 (φ := .f32) (View.readAt (Elt F) a.rac.view (Rect.unit (s := S4x256x256) off S1x256x256.size inb).toLoadRect (a.hac.unread x.ac))
def kAt (off : Fin 3 → ℕ) (inb : ∀ b, off b + S1x256x256.size b ≤ S1x4096x256.size b) : FVec F S256x256 .bf16 :=
  cut3 (φ := .bf16) (View.readAt (Elt F) a.rk.view (Rect.unit (s := S1x4096x256) off S1x256x256.size inb).toLoadRect (a.hk.unread k))

noncomputable abbrev z0 := zAt a x (k0_off12 (BitVec.ofNat 32 jj)) (k0_off12_inb a.i _ h.1)
noncomputable abbrev z1 := zAt a x (k0_off13 (BitVec.ofNat 32 jj)) (k0_off13_inb a.i _ h.1)
noncomputable abbrev z2 := zAt a x (k0_off14 (BitVec.ofNat 32 jj)) (k0_off14_inb a.i _ h.1)
noncomputable abbrev z3 := zAt a x (k0_off15 (BitVec.ofNat 32 jj)) (k0_off15_inb a.i _ h.1)

theorem trip_l0 : (tripAt c a jj s h k x).l0 = addf s.l0 (rowT (cellL (z0 a jj h x))) := rfl
theorem trip_l1 : (tripAt c a jj s h k x).l1 = addf s.l1 (rowT (cellL (z1 a jj h x))) := rfl
theorem trip_l2 : (tripAt c a jj s h k x).l2 = addf s.l2 (rowT (cellL (z2 a jj h x))) := rfl
theorem trip_l3 : (tripAt c a jj s h k x).l3 = addf s.l3 (rowT (cellL (z3 a jj h x))) := rfl

noncomputable abbrev A0 := bf (cellA a.later (z0 a jj h x) s.l0)
noncomputable abbrev A1 := bf (cellA a.later (z1 a jj h x) s.l1)
noncomputable abbrev A2 := bf (cellA a.later (z2 a jj h x) s.l2)
noncomputable abbrev A3 := bf (cellA a.later (z3 a jj h x) s.l3)

set_option maxHeartbeats 4000000 in
theorem trip_ac : (tripAt c a jj s h k x).ac = a.rac.view.writes (Elt F) (a.hac.unread x.ac)
    [dqPiece 3 (addf (acAt a x ![3, 0, 0] (inb3 3)) (nn (A3 a jj s h x) (vhAt a x _ (k0_off19_inb a.i _ h.1)))),
      dqPiece 2 (addf (acAt a x ![2, 0, 0] (inb3 2)) (nn (A2 a jj s h x) (vhAt a x _ (k0_off18_inb a.i _ h.1)))),
      dqPiece 1 (addf (acAt a x ![1, 0, 0] (inb3 1)) (nn (A1 a jj s h x) (vhAt a x _ (k0_off17_inb a.i _ h.1)))),
      dqPiece 0 (addf (acAt a x ![0, 0, 0] (inb3 0)) (nn (A0 a jj s h x) (vhAt a x _ (k0_off16_inb a.i _ h.1))))] := rfl

noncomputable abbrev alive := live (addf s.l0 (rowT (cellL (z0 a jj h x)))) (addf s.l1 (rowT (cellL (z1 a jj h x)))) (addf s.l2 (rowT (cellL (z2 a jj h x))))
  (addf s.l3 (rowT (cellL (z3 a jj h x))))

theorem trip_go : (tripAt c a jj s h k x).go
    = Scalar.andi (Scalar.cmpi .sgt (Scalar.subi (Scalar.subi (BitVec.ofNat 32 (a.i 1).val) 2#32) (BitVec.ofNat 32 jj)) 0#32) (alive a jj s h x) := rfl

theorem trip_z : (tripAt c a jj s h k x).z
    = if hc : k0_cond3 a.i (BitVec.ofNat 32 jj) (alive a jj s h x) = 1#1 then
        a.rz.view.writes (Elt F) (a.hz.unread x.z)
          [⟨Rect.unit (s := S2x4x256x256) (k0_off24 (BitVec.ofNat 32 jj)) S1x1x256x256.size (k0_off24_inb a.i _ _ (h.2 _) hc), ex4 (nt a.q3 (kAt a k _ (k0_off20_inb a.i _ _ (h.2 _) hc)))⟩,
            ⟨Rect.unit (s := S2x4x256x256) (k0_off23 (BitVec.ofNat 32 jj)) S1x1x256x256.size (k0_off23_inb a.i _ _ (h.2 _) hc), ex4 (nt a.q2 (kAt a k _ (k0_off20_inb a.i _ _ (h.2 _) hc)))⟩,
            ⟨Rect.unit (s := S2x4x256x256) (k0_off22 (BitVec.ofNat 32 jj)) S1x1x256x256.size (k0_off22_inb a.i _ _ (h.2 _) hc), ex4 (nt a.q1 (kAt a k _ (k0_off20_inb a.i _ _ (h.2 _) hc)))⟩,
            ⟨Rect.unit (s := S2x4x256x256) (k0_off21 (BitVec.ofNat 32 jj)) S1x1x256x256.size (k0_off21_inb a.i _ _ (h.2 _) hc), ex4 (nt a.q0 (kAt a k _ (k0_off20_inb a.i _ _ (h.2 _) hc)))⟩]
      else a.hz.unread x.z := rfl

end Trip

section
variable (c : Dev nD) (i : grid0.Coords) (p : Refs) (n : Ins F) (x : Mem F)

/-- The tiles of rows and of columns that are read. -/
def qTile : FVec F S256x256 .bf16 :=
  cut3 (φ := .bf16) (View.readAt (Elt F) p.rq.view (Rect.unit (s := S1x256x256) ![0, 0, 0] S1x256x256.size inb_S1x256x256_S1x256x256_0_0_0).toLoadRect (p.hq.unread n.q))
def kTile (off : Fin 3 → ℕ) (inb : ∀ b, off b + S1x256x256.size b ≤ S1x4096x256.size b) : FVec F S256x256 .bf16 :=
  cut3 (φ := .bf16) (View.readAt (Elt F) p.rk.view (Rect.unit (s := S1x4096x256) off S1x256x256.size inb).toLoadRect (p.hk.unread n.k))
def vhRows (X : Vec F S4x4096x256 .bf16) (off : Fin 3 → ℕ) (inb : ∀ b, off b + S1x256x256.size b ≤ S4x4096x256.size b) : FVec F S256x256 .bf16 :=
  cut3 (φ := .bf16) (View.readAt (Elt F) p.rvh.view (Rect.unit (s := S4x4096x256) off S1x256x256.size inb).toLoadRect (p.hvh.unread X))
def acRows (X : Vec F S4x256x256 .f32) (off : Fin 3 → ℕ) (inb : ∀ b, off b + S1x256x256.size b ≤ S4x256x256.size b) : FVec F S256x256 .f32 :=
  cut3 (φ := .f32) (View.readAt (Elt F) p.rac.view (Rect.unit (s := S4x256x256) off S1x256x256.size inb).toLoadRect (p.hac.unread X))
def acCov (L : List (View.Piece (Elt F) S4x256x256 .f32)) (h : Fin 4) : FVec F S256x256 .f32 :=
  cut3 (φ := .f32) (View.readCov (Val := Elt F) p.rac.view L (Rect.unit (s := S4x256x256) ![h.val, 0, 0] S1x256x256.size (inb3 h)).toLoadRect)

noncomputable abbrev mask : Fin 4 → IVec S1x256 1 := ![start.sl.v5, start.sl.v10, start.sl.v15, start.sl.v20]
theorem mask_eq : mask = AttnB.mask := rfl

noncomputable abbrev qs : Fin 4 → FVec F S256x256 .bf16 := ![start.sl.v36 c p n, start.sl.v40 c p n, mid.sl.v44 c p n, mid.sl.v48 c p n]
theorem qs_eq : ∀ h, qs c p n h = lanes (mask h) (qTile p n) := fun h => by fin_cases h <;> rfl

/-- The tiles of scores, read back where they were stored. -/
def zs (w : Fin 2) (h : Fin 4) : FVec F S256x256 .f32 :=
  cut4 (φ := .f32) (View.readCov (Val := Elt F) p.rz.view (mid.sl.H5_8 c i p n) (Rect.unit (s := S2x4x256x256) ![w.val, h.val, 0, 0] S1x1x256x256.size (inb4 w h)).toLoadRect)

/-- What is handed to the walk, and the weights of the first two tiles. -/
noncomputable abbrev cnt : BitVec 1 := Scalar.cmpi .sge (BitVec.ofNat 32 (i 1).val) 1#32
noncomputable abbrev nextL (h : Fin 4) : FVec F S256x1 .f32 := addf (diagLs (zs c i p n 0 h)) (rowT (cellL (zs c i p n 1 h)))
noncomputable abbrev dA (h : Fin 4) : FVec F S256x256 .bf16 := bf (diagA start.sl.v29 (zs c i p n 0 h))
noncomputable abbrev pA (h : Fin 4) : FVec F S256x256 .bf16 := bf (prevA (cnt i) start.sl.v29 (zs c i p n 1 h) (diagLs (zs c i p n 0 h)))

theorem sums_l0 : (sums c i p n x).l0 = nextL c i p n 0 := rfl
theorem sums_l1 : (sums c i p n x).l1 = nextL c i p n 1 := rfl
theorem sums_l2 : (sums c i p n x).l2 = nextL c i p n 2 := rfl
theorem sums_l3 : (sums c i p n x).l3 = nextL c i p n 3 := rfl

theorem go_eq : go c i p n = Scalar.andi (Scalar.cmpi .sgt (Scalar.subi (BitVec.ofNat 32 (i 1).val) 1#32) 0#32)
    (live (nextL c i p n 0) (nextL c i p n 1) (nextL c i p n 2) (nextL c i p n 3)) := rfl

/-- The rows' sums of the tile on the diagonal, then of two heads of the tile left of it on top. -/
def ac4 : List (View.Piece (Elt F) S4x256x256 .f32) :=
  [dqPiece 3 (nn (dA c i p n 3) (vhRows p (mem1 c i p n x).vh (k0_off6 i) (k0_off6_inb i))),
    dqPiece 2 (nn (dA c i p n 2) (vhRows p (mem1 c i p n x).vh (k0_off5 i) (k0_off5_inb i))),
    dqPiece 1 (nn (dA c i p n 1) (vhRows p (mem1 c i p n x).vh (k0_off4 i) (k0_off4_inb i))),
    dqPiece 0 (nn (dA c i p n 0) (vhRows p (mem1 c i p n x).vh (k0_off3 i) (k0_off3_inb i)))]
def ac5 : List (View.Piece (Elt F) S4x256x256 .f32) :=
  dqPiece 0 (addf (acCov p (ac4 c i p n x) 0) (nn (pA c i p n 0) (vhRows p (mem1 c i p n x).vh (k0_off7 i) (k0_off7_inb i)))) :: ac4 c i p n x
def ac6 : List (View.Piece (Elt F) S4x256x256 .f32) :=
  dqPiece 1 (addf (acCov p (ac5 c i p n x) 1) (nn (pA c i p n 1) (vhRows p (mem1 c i p n x).vh (k0_off8 i) (k0_off8_inb i)))) :: ac5 c i p n x

set_option maxHeartbeats 8000000 in
theorem H4_4_eq : mid.sl.H4_4 c i p n x = ac4 c i p n x := rfl
set_option maxHeartbeats 8000000 in
theorem H4_5_eq : mid.sl.H4_5 c i p n x = ac5 c i p n x := rfl
set_option maxHeartbeats 8000000 in
theorem mid_ac : (mid c i p n x).ac = p.rac.view.writes (Elt F) (p.hac.unread (mem1 c i p n x).ac) (ac6 c i p n x) := rfl

set_option maxHeartbeats 8000000 in
theorem last_ac : (last c i p n x).ac = p.rac.view.writes (Elt F) (p.hac.unread (mem2 c i p n x).ac)
    [dqPiece 3 (addf (acRows p (mem2 c i p n x).ac ![3, 0, 0] (inb3 3)) (nn (pA c i p n 3) (vhRows p (mem2 c i p n x).vh (k0_off10 i) (k0_off10_inb i)))),
      dqPiece 2 (addf (acRows p (mem2 c i p n x).ac ![2, 0, 0] (inb3 2)) (nn (pA c i p n 2) (vhRows p (mem2 c i p n x).vh (k0_off9 i) (k0_off9_inb i))))] := rfl

set_option maxHeartbeats 8000000 in
theorem H5_8_eq : mid.sl.H5_8 c i p n = scores 1 (qs c p n) (kTile p n (k0_off2 i) (k0_off2_inb i)) (scores 0 (qs c p n) (kTile p n (k0_off1 i) (k0_off1_inb i)) []) := rfl
set_option maxHeartbeats 8000000 in
theorem mid_z : (mid c i p n x).z = p.rz.view.writes (Elt F) (p.hz.unread (mem1 c i p n x).z) (mid.sl.H5_8 c i p n) := rfl

/-- The test for the tile the walk begins with. -/
noncomputable abbrev goes : BitVec 1 := Scalar.cmpi .ne (Scalar.extui (go c i p n)) 0#32
set_option maxHeartbeats 8000000 in
theorem last_z : (last c i p n x).z = if hc : goes c i p n = 1#1 then
    p.rz.view.writes (Elt F) (p.hz.unread (mem2 c i p n x).z) (scores 0 (qs c p n) (kTile p n (k0_off11 i) (k0_off11_inb i)) []) else p.hz.unread (mem2 c i p n x).z := rfl

/-- The masked values at a block's first point. -/
def vAll : FVec F S4096x256 .bf16 :=
  shapeCast S4096x256 (View.readAt (Elt F) p.rv.view (Rect.unit (s := S1x4096x256) ![0, 0, 0] S1x4096x256.size inb_S1x4096x256_S1x4096x256_0_0_0).toLoadRect (p.hv.unread n.v) : FVec F S1x4096x256 .bf16)
    shapeCasts_S1x4096x256_S4096x256
def vhHead (h : Fin 4) : FVec F S1x4096x256 .bf16 :=
  shapeCast S1x4096x256 (select (broadcastTo S4096x256 (shapeCast S1x256 (mask h) shapeCasts_S1x256_S1x256) broadcasts_S1x256_S4096x256) (vAll p n)
    (broadcast S4096x256 (Scalar.ofBits .bf16 0))) shapeCasts_S4096x256_S1x4096x256
noncomputable abbrev vhPiece (h : Fin 4) : View.Piece (Elt F) S4x4096x256 .bf16 :=
  ⟨Rect.unit (s := S4x4096x256) ![h.val, 0, 0] S1x4096x256.size (inbKh h), vhHead p n h⟩

theorem start_vh : (start c i p n x).vh = if hc : start.sl.v23 i = 1#1 then
    p.rvh.view.writes (Elt F) (p.hvh.unread x.vh) [vhPiece p n 3, vhPiece p n 2, vhPiece p n 1, vhPiece p n 0] else p.hvh.unread x.vh := rfl

/-- The staged result. -/
theorem final_o (z : Mem F) (y : Vec F S256x256 .f32) : (final c i p n x z y).o = p.ro.view.writes (Elt F) (p.ho.unread y)
    [⟨Rect.unit (s := S256x256) ![0, 0] S256x256.size inb_S256x256_S256x256_0_0,
      addf (addf (addf (acRows p z.ac ![0, 0, 0] (inb3 0)) (acRows p z.ac ![1, 0, 0] (inb3 1))) (acRows p z.ac ![2, 0, 0] (inb3 2))) (acRows p z.ac ![3, 0, 0] (inb3 3))⟩] := rfl

end

end AttnF
-- ==== Proof.AttnFVals.lean ====
/-
  The forward attention in the real numbers: the walk's trips, then a grid point from the staged inputs to the staged
  result. The block's data is the backward attention's, with each head's values where that one has its keys.
-/
module

public import proofs.«01_k».proof.Proof.AttnFStep

@[expose] public section

noncomputable section

namespace AttnF

open Cert.AttnFIdeal Cert.AttnFIdeal.Gen
open Idealize.ShloMosaic Idealize.ShloMosaic.TcCoe Idealize.ShloMosaic.Tactic
open AttnB

variable (D : Data)

/-- One head's rows of the output, the columns from `J` on. -/
def acc (h : Fin 4) (i J : ℕ) (p l : Fin 256) : ℝ := ∑ s ∈ Finset.Ico (256 * J) 4096, D.A h (256 * i + p.val) s * D.Km h s l

theorem acc_put (h : Fin 4) {i j : ℕ} (hj : j < 16) {P : FVec Ideal S256x256 .f32} (hP : P = up (acc D h i (j + 1))) {T R : FVec Ideal S256x256 .bf16}
    (hT : T = tile i j (D.A h)) (hR : R = rows j (D.Km h)) : addf P (nn T R) = up (acc D h i j) := by
  rw [hP, hT, hR, nn_tile, addf_up]
  refine congrArg up (funext fun a => funext fun l => ?_)
  rw [acc, acc, add_comm, Finset.sum_Ico_consecutive _ (by omega) (by omega)]

theorem acc_first (h : Fin 4) {i : ℕ} (hi : i < 16) {T R : FVec Ideal S256x256 .bf16} (hT : T = tile i i (D.A h)) (hR : R = rows i (D.Km h)) :
    nn T R = up (acc D h i i) := by
  rw [hT, hR, nn_tile]
  refine congrArg up (funext fun a => funext fun l => ?_)
  rw [acc, ← Finset.sum_Ico_consecutive _ (show 256 * i ≤ 256 * (i + 1) by omega) (show 256 * (i + 1) ≤ 4096 by omega),
    Finset.sum_eq_zero (s := Finset.Ico (256 * (i + 1)) 4096) (fun s hs => ?_), add_zero]
  rw [D.A_zero h _ s (by have := a.isLt; have := Finset.mem_Ico.1 hs; omega), zero_mul]

/-- The buffers when the columns from `J` on are done in row tile `i`. -/
structure Bufs (i J : ℕ) (x : Mem Ideal) : Prop where
  vh : ∀ (h : Fin 4) (r : Fin 4096) (l : Fin 256), x.vh (ix3 h r l) = ((D.Km h r.val l : ℝ) : EReal)
  ac : ∀ (h : Fin 4) (p l : Fin 256), x.ac (ix3 h p l) = ((acc D h i J p l : ℝ) : EReal)

/-- A slot holds the scores of a tile. -/
def Scored (i j : ℕ) (w : Fin 2) (x : Mem Ideal) : Prop :=
  ∀ (h : Fin 4) (p q : Fin 256), x.z (ix4 w h p q) = ((D.Z h (256 * i + p.val) (256 * j + q.val) : ℝ) : EReal)

/-- The running sums when the columns from `J` on are done. -/
structure SumsAt (i J : ℕ) (s : Sums Ideal) : Prop where
  l0 : s.l0 = colAt i fun r => D.cl 0 r J
  l1 : s.l1 = colAt i fun r => D.cl 1 r J
  l2 : s.l2 = colAt i fun r => D.cl 2 r J
  l3 : s.l3 = colAt i fun r => D.cl 3 r J

/-- What the walk never changes. -/
structure FixedAt (t : Fin grid0.N) (i : ℕ) (a : Fixed Ideal) : Prop where
  ai : a.i = grid0.coords t
  it : ((grid0.coords t) 1).val = i
  later : a.later = Cert.AttnBIdeal.Gen.k0_pay27
  q0 : a.q0 = rows i (D.Q 0)
  q1 : a.q1 = rows i (D.Q 1)
  q2 : a.q2 = rows i (D.Q 2)
  q3 : a.q3 = rows i (D.Q 3)

/-! The offsets. -/

theorem off12 : ∀ jj : Fin 16, k0_off12 (BitVec.ofNat 32 jj.val) = ![jj.val % 2, 0, 0, 0] := by decide +kernel
theorem off13 : ∀ jj : Fin 16, k0_off13 (BitVec.ofNat 32 jj.val) = ![jj.val % 2, 1, 0, 0] := by decide +kernel
theorem off14 : ∀ jj : Fin 16, k0_off14 (BitVec.ofNat 32 jj.val) = ![jj.val % 2, 2, 0, 0] := by decide +kernel
theorem off15 : ∀ jj : Fin 16, k0_off15 (BitVec.ofNat 32 jj.val) = ![jj.val % 2, 3, 0, 0] := by decide +kernel
theorem off21 : ∀ jj : Fin 16, k0_off21 (BitVec.ofNat 32 jj.val) = ![1 - jj.val % 2, 0, 0, 0] := by decide +kernel
theorem off22 : ∀ jj : Fin 16, k0_off22 (BitVec.ofNat 32 jj.val) = ![1 - jj.val % 2, 1, 0, 0] := by decide +kernel
theorem off23 : ∀ jj : Fin 16, k0_off23 (BitVec.ofNat 32 jj.val) = ![1 - jj.val % 2, 2, 0, 0] := by decide +kernel
theorem off24 : ∀ jj : Fin 16, k0_off24 (BitVec.ofNat 32 jj.val) = ![1 - jj.val % 2, 3, 0, 0] := by decide +kernel

theorem off16 : ∀ (t : Fin grid0.N) (jj : Fin 16), jj.val + 2 ≤ ((grid0.coords t) 1).val →
    k0_off16 (grid0.coords t) (BitVec.ofNat 32 jj.val) = ![0, 256 * (((grid0.coords t) 1).val - 2 - jj.val), 0] := by decide +kernel
theorem off17 : ∀ (t : Fin grid0.N) (jj : Fin 16), jj.val + 2 ≤ ((grid0.coords t) 1).val →
    k0_off17 (grid0.coords t) (BitVec.ofNat 32 jj.val) = ![1, 256 * (((grid0.coords t) 1).val - 2 - jj.val), 0] := by decide +kernel
theorem off18 : ∀ (t : Fin grid0.N) (jj : Fin 16), jj.val + 2 ≤ ((grid0.coords t) 1).val →
    k0_off18 (grid0.coords t) (BitVec.ofNat 32 jj.val) = ![2, 256 * (((grid0.coords t) 1).val - 2 - jj.val), 0] := by decide +kernel
theorem off19 : ∀ (t : Fin grid0.N) (jj : Fin 16), jj.val + 2 ≤ ((grid0.coords t) 1).val →
    k0_off19 (grid0.coords t) (BitVec.ofNat 32 jj.val) = ![3, 256 * (((grid0.coords t) 1).val - 2 - jj.val), 0] := by decide +kernel
theorem off20 : ∀ (t : Fin grid0.N) (jj : Fin 16), jj.val + 3 ≤ ((grid0.coords t) 1).val →
    k0_off20 (grid0.coords t) (BitVec.ofNat 32 jj.val) = ![0, 256 * (((grid0.coords t) 1).val - 3 - jj.val), 0] := by decide +kernel
theorem cond3 : ∀ (t : Fin grid0.N) (jj : Fin 16), jj.val + 2 ≤ ((grid0.coords t) 1).val →
    (k0_cond3 (grid0.coords t) (BitVec.ofNat 32 jj.val) 1#1 = 1#1 ↔ jj.val + 3 ≤ ((grid0.coords t) 1).val) := by decide +kernel

theorem off1 : ∀ t : Fin grid0.N, k0_off1 (grid0.coords t) = ![0, 256 * ((grid0.coords t) 1).val, 0] := by decide +kernel
theorem off2 : ∀ t : Fin grid0.N, k0_off2 (grid0.coords t) = ![0, 256 * (((grid0.coords t) 1).val - 1), 0] := by decide +kernel
theorem off3 : ∀ t : Fin grid0.N, k0_off3 (grid0.coords t) = ![0, 256 * ((grid0.coords t) 1).val, 0] := by decide +kernel
theorem off4 : ∀ t : Fin grid0.N, k0_off4 (grid0.coords t) = ![1, 256 * ((grid0.coords t) 1).val, 0] := by decide +kernel
theorem off5 : ∀ t : Fin grid0.N, k0_off5 (grid0.coords t) = ![2, 256 * ((grid0.coords t) 1).val, 0] := by decide +kernel
theorem off6 : ∀ t : Fin grid0.N, k0_off6 (grid0.coords t) = ![3, 256 * ((grid0.coords t) 1).val, 0] := by decide +kernel
theorem off7 : ∀ t : Fin grid0.N, k0_off7 (grid0.coords t) = ![0, 256 * (((grid0.coords t) 1).val - 1), 0] := by decide +kernel
theorem off8 : ∀ t : Fin grid0.N, k0_off8 (grid0.coords t) = ![1, 256 * (((grid0.coords t) 1).val - 1), 0] := by decide +kernel
theorem off9 : ∀ t : Fin grid0.N, k0_off9 (grid0.coords t) = ![2, 256 * (((grid0.coords t) 1).val - 1), 0] := by decide +kernel
theorem off10 : ∀ t : Fin grid0.N, k0_off10 (grid0.coords t) = ![3, 256 * (((grid0.coords t) 1).val - 1), 0] := by decide +kernel
theorem off11 : ∀ t : Fin grid0.N, k0_off11 (grid0.coords t) = ![0, 256 * (((grid0.coords t) 1).val - 2), 0] := by decide +kernel

theorem first_cond : ∀ t : Fin grid0.N, (start.sl.v23 (grid0.coords t) = 1#1 ↔ ((grid0.coords t) 1).val = 0) := by decide +kernel
theorem cnt_cond : ∀ t : Fin grid0.N, cnt (grid0.coords t) = if 0 < ((grid0.coords t) 1).val then 1#1 else 0#1 := by decide +kernel

/-- The four heads' sums, stored one after the other. -/
theorem four {sp : Space} (m : Memref sig .tc sp S4x256x256 .f32) (f : m.view.ty.Contents (Elt Ideal)) (w : Fin 4 → FVec Ideal S256x256 .f32) (h : Fin 4) (p l : Fin 256) :
    m.view.read (Elt Ideal) (m.view.writes (Elt Ideal) f [dqPiece 3 (w 3), dqPiece 2 (w 2), dqPiece 1 (w 1), dqPiece 0 (w 0)]) (ix3 h p l) = w h (ix2 p l) := by
  fin_cases h
  · exact (dq_miss m f _ 3 0 (by decide) _ p l).trans ((dq_miss m f _ 2 0 (by decide) _ p l).trans ((dq_miss m f _ 1 0 (by decide) _ p l).trans (dq_hit m f _ 0 _ p l)))
  · exact (dq_miss m f _ 3 1 (by decide) _ p l).trans ((dq_miss m f _ 2 1 (by decide) _ p l).trans (dq_hit m f _ 1 _ p l))
  · exact (dq_miss m f _ 3 2 (by decide) _ p l).trans (dq_hit m f _ 2 _ p l)
  · exact dq_hit m f _ 3 _ p l

section Trip
variable {D} {t : Fin grid0.N} {i : ℕ} {a : Fixed Ideal} (ha : FixedAt D t i a) (c : Dev nD) (jj : Fin 16) (hi : i < 16)
  {s : Sums Ideal} {j : ℕ} (hj : j + jj.val + 2 = i) (hs : SumsAt D i (j + 1) s)
  (hc : Checks a.i jj.val) {k : Vec Ideal S1x4096x256 .bf16} {x : Mem Ideal}
  (hx : Bufs D i (j + 1) x) (hw : Scored D i j ⟨jj.val % 2, Nat.mod_lt _ Nat.two_pos⟩ x)

include hw in
theorem zAt_eq (h : Fin 4) {off : Fin 4 → ℕ} (e : off = ![jj.val % 2, h.val, 0, 0]) (inb) : zAt a x off inb = tile i j (D.Z h) :=
  load4 a.hz x.z _ ⟨jj.val % 2, Nat.mod_lt _ Nat.two_pos⟩ h e _ (hw h)

include hi hj in
theorem l_step (h : Fin 4) {z : FVec Ideal S256x256 .f32} (hz : z = tile i j (D.Z h)) {l : FVec Ideal S256x1 .f32} (hl : l = colAt i fun r => D.cl h r (j + 1)) :
    addf l (rowT (cellL z)) = colAt i fun r => D.cl h r j := by
  rw [hz, hl, cellL_eq, cellL_left D (by omega) hi, left_cl D h i j (by omega) hi]

include hi hj in
theorem a_step (h : Fin 4) {m : FVec Ideal S256x256 .bf16} (hm : m = Cert.AttnBIdeal.Gen.k0_pay27) {z : FVec Ideal S256x256 .f32} (hz : z = tile i j (D.Z h))
    {l : FVec Ideal S256x1 .f32} (hl : l = colAt i fun r => D.cl h r (j + 1)) : bf (cellA m z l) = tile i j (D.A h) := by
  rw [hm, hz, hl, cellA_eq, cellA_left D (by omega) hi]; rfl

include hi hj hs hw

theorem l0_eq : addf s.l0 (rowT (cellL (z0 a jj.val hc x))) = colAt i fun r => D.cl 0 r j := l_step jj hi hj 0 (zAt_eq jj hw 0 (off12 jj) _) hs.l0
theorem l1_eq : addf s.l1 (rowT (cellL (z1 a jj.val hc x))) = colAt i fun r => D.cl 1 r j := l_step jj hi hj 1 (zAt_eq jj hw 1 (off13 jj) _) hs.l1
theorem l2_eq : addf s.l2 (rowT (cellL (z2 a jj.val hc x))) = colAt i fun r => D.cl 2 r j := l_step jj hi hj 2 (zAt_eq jj hw 2 (off14 jj) _) hs.l2
theorem l3_eq : addf s.l3 (rowT (cellL (z3 a jj.val hc x))) = colAt i fun r => D.cl 3 r j := l_step jj hi hj 3 (zAt_eq jj hw 3 (off15 jj) _) hs.l3

theorem alive_eq : alive a jj.val s hc x = 1#1 := by
  rw [alive, l0_eq jj hi hj hs hc hw, l1_eq jj hi hj hs hc hw, l2_eq jj hi hj hs hc hw, l3_eq jj hi hj hs hc hw, live_eq]
  exact live_col _ _ _ _

theorem next_sums : SumsAt D i j (nextSums c a jj.val s hc k x) where
  l0 := (trip_l0 c a jj.val s hc k x).trans (l0_eq jj hi hj hs hc hw)
  l1 := (trip_l1 c a jj.val s hc k x).trans (l1_eq jj hi hj hs hc hw)
  l2 := (trip_l2 c a jj.val s hc k x).trans (l2_eq jj hi hj hs hc hw)
  l3 := (trip_l3 c a jj.val s hc k x).trans (l3_eq jj hi hj hs hc hw)

include ha

theorem next_go : nextGo c a jj.val s hc k x = 1#1 ↔ 0 < j := by
  refine Iff.trans (b := Scalar.andi (Scalar.cmpi .sgt (Scalar.subi (Scalar.subi (BitVec.ofNat 32 ((grid0.coords t) 1).val) 2#32) (BitVec.ofNat 32 jj.val)) 0#32) 1#1 = 1#1) ?_ ?_
  · show (tripAt c a jj.val s hc k x).go = 1#1 ↔ _
    rw [trip_go, alive_eq jj hi hj hs hc hw, ha.ai]
  · have key : ∀ (i : Fin 16) (j : Fin 16), j.val + 2 ≤ i.val →
      (Scalar.andi (Scalar.cmpi .sgt (Scalar.subi (Scalar.subi (BitVec.ofNat 32 i.val) 2#32) (BitVec.ofNat 32 j.val)) 0#32) 1#1 = 1#1
        ↔ j.val + 3 ≤ i.val) := by decide +kernel
    rw [ha.it]
    refine (key ⟨i, hi⟩ jj (by show jj.val + 2 ≤ i; omega)).trans ?_
    show jj.val + 3 ≤ i ↔ 0 < j
    omega

include hx

theorem next_bufs : Bufs D i j (next c a jj.val s hc k x) := by
  have h2 : jj.val + 2 ≤ ((grid0.coords t) 1).val := by rw [ha.it]; omega
  have e16 : k0_off16 a.i (BitVec.ofNat 32 jj.val) = ![(0 : Fin 4).val, 256 * j, 0] := by rw [ha.ai, off16 t jj h2, ha.it]; congr 3; omega
  have e17 : k0_off17 a.i (BitVec.ofNat 32 jj.val) = ![(1 : Fin 4).val, 256 * j, 0] := by rw [ha.ai, off17 t jj h2, ha.it]; congr 3; omega
  have e18 : k0_off18 a.i (BitVec.ofNat 32 jj.val) = ![(2 : Fin 4).val, 256 * j, 0] := by rw [ha.ai, off18 t jj h2, ha.it]; congr 3; omega
  have e19 : k0_off19 a.i (BitVec.ofNat 32 jj.val) = ![(3 : Fin 4).val, 256 * j, 0] := by rw [ha.ai, off19 t jj h2, ha.it]; congr 3; omega
  have ld : ∀ h : Fin 4, acAt a x ![h.val, 0, 0] (inb3 h) = up (acc D h i (j + 1)) := fun h =>
    load3 a.hac x.ac _ h 0 (by omega) rfl _ fun p q => by
      rw [show (⟨0 + p.val, by omega⟩ : Fin 256) = p from Fin.ext (Nat.zero_add _)]; exact hx.ac h p q
  have lv : ∀ (h : Fin 4) {off : Fin 3 → ℕ} (_ : off = ![h.val, 256 * j, 0]) inb, vhAt a x off inb = rows j (D.Km h) := fun h _ e inb =>
    load3b a.hvh x.vh inb h (256 * j) (by omega) e _ fun p q => hx.vh h _ q
  have p0 : addf (acAt a x ![0, 0, 0] (inb3 0)) (nn (A0 a jj.val s hc x) (vhAt a x _ (k0_off16_inb a.i _ hc.1))) = up (acc D 0 i j) :=
    acc_put D 0 (j := j) (by omega) (ld 0) (a_step jj hi hj 0 ha.later (zAt_eq jj hw 0 (off12 jj) _) hs.l0) (lv 0 e16 _)
  have p1 : addf (acAt a x ![1, 0, 0] (inb3 1)) (nn (A1 a jj.val s hc x) (vhAt a x _ (k0_off17_inb a.i _ hc.1))) = up (acc D 1 i j) :=
    acc_put D 1 (j := j) (by omega) (ld 1) (a_step jj hi hj 1 ha.later (zAt_eq jj hw 1 (off13 jj) _) hs.l1) (lv 1 e17 _)
  have p2 : addf (acAt a x ![2, 0, 0] (inb3 2)) (nn (A2 a jj.val s hc x) (vhAt a x _ (k0_off18_inb a.i _ hc.1))) = up (acc D 2 i j) :=
    acc_put D 2 (j := j) (by omega) (ld 2) (a_step jj hi hj 2 ha.later (zAt_eq jj hw 2 (off14 jj) _) hs.l2) (lv 2 e18 _)
  have p3 : addf (acAt a x ![3, 0, 0] (inb3 3)) (nn (A3 a jj.val s hc x) (vhAt a x _ (k0_off19_inb a.i _ hc.1))) = up (acc D 3 i j) :=
    acc_put D 3 (j := j) (by omega) (ld 3) (a_step jj hi hj 3 ha.later (zAt_eq jj hw 3 (off15 jj) _) hs.l3) (lv 3 e19 _)
  refine ⟨hx.vh, fun h p l => ?_⟩
  show a.rac.view.read (Elt Ideal) (tripAt c a jj.val s hc k x).ac (ix3 h p l) = _
  rw [trip_ac, p0, p1, p2, p3]
  exact four a.rac _ (fun h => up (acc D h i j)) h p l

theorem next_scored (hj0 : 0 < j) (hk : ∀ (r : Fin 4096) (l : Fin 256), k (ix3 0 r l) = ((D.K r.val l : ℝ) : EReal)) :
    Scored D i (j - 1) ⟨(jj.val + 1) % 2, Nat.mod_lt _ Nat.two_pos⟩ (next c a jj.val s hc k x) := by
  have h2 : jj.val + 2 ≤ ((grid0.coords t) 1).val := by rw [ha.it]; omega
  have h3 : jj.val + 3 ≤ ((grid0.coords t) 1).val := by rw [ha.it]; omega
  have hcond : k0_cond3 a.i (BitVec.ofNat 32 jj.val) (alive a jj.val s hc x) = 1#1 := by
    rw [alive_eq jj hi hj hs hc hw, ha.ai]; exact (cond3 t jj h2).2 h3
  have h20 : k0_off20 a.i (BitVec.ofNat 32 jj.val) = ![(0 : Fin 1).val, 256 * (j - 1), 0] := by
    rw [ha.ai, off20 t jj h3, ha.it]; congr 3; omega
  have hK : ∀ inb, kAt a k _ inb = rows (j - 1) D.K := fun inb => load3b a.hk k inb 0 (256 * (j - 1)) (by omega) h20 _ fun p q => hk _ q
  intro h p q
  show a.rz.view.read (Elt Ideal) (tripAt c a jj.val s hc k x).z _ = _
  rw [trip_z, dif_pos hcond]
  refine (read_four a.rz.view _ S1x1x256x256.size (fun h => ![1 - jj.val % 2, h.val, 0, 0]) (off21 jj) (off22 jj) (off23 jj) (off24 jj) _ _ _ _ _ _ _ _ []
    1 (fun _ => rfl) rfl h _ (ix4 0 0 p q) (fun b => by fin_cases b <;> simp [ix4]; omega)).trans ?_
  rw [hK, ha.q0, ha.q1, ha.q2, ha.q3, score_tile, score_tile, score_tile, score_tile]
  exact four_ex4 (fun h p q => D.Z h (256 * i + p.val) (256 * (j - 1) + q.val)) h p q

end Trip

variable {D}

/-- The whole walk: from the columns done before it to all of them. -/
theorem walk_bufs {t : Fin grid0.N} {i : ℕ} {a : Fixed Ideal} (ha : FixedAt D t i a) (c : Dev nD) (hi : i < 16) {k : Vec Ideal S1x4096x256 .bf16}
    (hk : ∀ (r : Fin 4096) (l : Fin 256), k (ix3 0 r l) = ((D.K r.val l : ℝ) : EReal)) :
    ∀ (n jj J : ℕ) (go : BitVec 1) (s : Sums Ideal) (x : Mem Ideal), J + jj + 1 = i → J ≤ n → (go = 1#1 ↔ 0 < J) → SumsAt D i J s → Bufs D i J x →
      (0 < J → Scored D i (J - 1) ⟨jj % 2, Nat.mod_lt _ Nat.two_pos⟩ x) → Bufs D i 0 (walk c a k n jj go s x)
  | 0, jj, J, go, s, x, _, hn, _, _, hx, _ => by
    obtain rfl : J = 0 := by omega
    exact hx
  | n + 1, jj, 0, go, s, x, _, _, hg, _, hx, _ => by
    rw [walk, dif_neg (fun e => absurd (hg.1 e.1) (lt_irrefl _))]
    exact hx
  | n + 1, jj, j + 1, go, s, x, hj, hn, hg, hs, hx, hw => by
    have hc : Checks a.i jj := by rw [ha.ai]; exact checks_of t jj (by rw [ha.it]; omega)
    have hw' := hw (Nat.succ_pos j)
    rw [walk, dif_pos ⟨hg.2 (Nat.succ_pos j), hc⟩]
    have hj' : j + (⟨jj, by omega⟩ : Fin 16).val + 2 = i := by show j + jj + 2 = i; omega
    exact walk_bufs ha c hi hk n (jj + 1) j _ _ _ (by omega) (by omega) (next_go ha c ⟨jj, by omega⟩ hi hj' hs hc hw')
      (next_sums c ⟨jj, by omega⟩ hi hj' hs hc hw') (next_bufs ha c ⟨jj, by omega⟩ hi hj' hs hc hx hw')
      fun h0 => next_scored ha c ⟨jj, by omega⟩ hi hj' hs hc hx hw' h0 hk

end AttnF
-- ==== Proof.AttnFDone.lean ====
/-
  A grid point of the forward attention in the real numbers: the two tiles before the walk, the walk, and the staged result.
-/
module

public import proofs.«01_k».proof.Proof.AttnFVals

@[expose] public section

noncomputable section

namespace AttnF

open Cert.AttnFIdeal Cert.AttnFIdeal.Gen
open Idealize.ShloMosaic Idealize.ShloMosaic.TcCoe Idealize.ShloMosaic.Tactic
open AttnB

/-- The block of four heads computed from the scaled queries, the keys and the values. -/
def data (q k v : ℕ → Fin 256 → ℝ) : Data where
  Q h := own h q
  O _ _ _ := 0
  Km h := own h v
  K := k
  V := v

/-- What a grid point's staged inputs hold. -/
structure Given (q k v : ℕ → Fin 256 → ℝ) (i : ℕ) (n : Ins Ideal) : Prop where
  hq : ∀ p l : Fin 256, n.q (ix3 0 p l) = ((q (256 * i + p.val) l : ℝ) : EReal)
  hk : ∀ (r : Fin 4096) (l : Fin 256), n.k (ix3 0 r l) = ((k r.val l : ℝ) : EReal)
  hv : ∀ (r : Fin 4096) (l : Fin 256), n.v (ix3 0 r l) = ((v r.val l : ℝ) : EReal)

/-- What a grid point reads, in the real numbers. -/
structure Reads (D : Data) (c : Dev nD) (t : Fin grid0.N) (i : ℕ) (p : Refs) (n : Ins Ideal) : Prop where
  lt : i < 16
  it : ((grid0.coords t) 1).val = i
  hq : ∀ h, qs c p n h = rows i (D.Q h)
  hk : ∀ (r : Fin 4096) (l : Fin 256), n.k (ix3 0 r l) = ((D.K r.val l : ℝ) : EReal)
  tk : ∀ (j : ℕ), j < 16 → ∀ {off : Fin 3 → ℕ} (_ : off = ![0, 256 * j, 0]) inb, kTile p n off inb = rows j D.K
  vh : ∀ (h : Fin 4) (r : Fin 4096) (l : Fin 256), vhHead p n h (ix3 0 r l) = ((D.Km h r.val l : ℝ) : EReal)

section
variable (q k v : ℕ → Fin 256 → ℝ) {i : ℕ} (c : Dev nD) (p : Refs) (n : Ins Ideal) (hn : Given q k v i n)
include hn

theorem qs_val (h : Fin 4) : qs c p n h = rows i ((data q k v).Q h) := by
  have e : qTile p n = rows i q :=
    load3b p.hq n.q _ 0 0 (by omega) rfl _ fun a b => by
      rw [show (⟨0 + a.val, by omega⟩ : Fin 256) = a from Fin.ext (Nat.zero_add _)]; exact hn.hq a b
  rw [qs_eq, e]; exact lanes_up bits16 h _

theorem vhHead_val (h : Fin 4) (r : Fin 4096) (l : Fin 256) : vhHead p n h (ix3 0 r l) = (((data q k v).Km h r.val l : ℝ) : EReal) := by
  have hv : vAll p n (ix2 r l) = ((v r.val l : ℝ) : EReal) := by
    rw [← hn.hv r l]
    have hc : ∀ w : FVec Ideal S1x4096x256 .bf16, shapeCast S4096x256 w shapeCasts_S1x4096x256_S4096x256 (ix2 r l) = w (ix3 0 r l) := fun w => by pointwise []
    rw [vAll, hc, p.hv.readAt_unread]
    congr 1
    funext e; fin_cases e <;> (apply Fin.ext; simp [LoadRect.idx, Rect.unit, ix3])
  have hc : ∀ w : FVec Ideal S4096x256 .bf16, shapeCast S1x4096x256 w shapeCasts_S4096x256_S1x4096x256 (ix3 0 r l) = w (ix2 r l) := fun w => by pointwise []
  rw [vhHead, hc]
  have e : ∀ z : S1x256.Idx, (z 1).val = l.val → mask h z = AttnB.mask h (ix2 0 l) := fun z hz => by
    show mask h z = mask h (ix2 0 l)
    congr 1; funext a; fin_cases a
    · exact Subsingleton.elim (α := Fin 1) _ _
    · exact Fin.ext hz
  pointwise []
  rw [e _ rfl, mask_apply, bits16, hv]
  show _ = ((if l.val / 64 = h.val then v r.val l else 0 : ℝ) : EReal)
  by_cases hl : l.val / 64 = h.val
  · rw [if_pos hl, if_pos hl]; rfl
  · rw [if_neg hl, if_neg hl]; rfl

end

theorem Given.reads {q k v : ℕ → Fin 256 → ℝ} {i : ℕ} (hi : i < 16) (c : Dev nD) {t : Fin grid0.N} (ht : ((grid0.coords t) 1).val = i) (p : Refs) {n : Ins Ideal}
    (hn : Given q k v i n) : Reads (data q k v) c t i p n where
  lt := hi
  it := ht
  hq := qs_val q k v c p n hn
  hk := hn.hk
  tk := fun j _ _ e inb => load3b p.hk n.k inb 0 (256 * j) (by omega) e _ fun a b => hn.hk _ b
  vh := vhHead_val q k v p n hn

theorem cov3 (p : Refs) (L : List (View.Piece (Elt Ideal) S4x256x256 .f32)) (h : Fin 4) (a b : Fin 256) :
    acCov p L h (ix2 a b) = p.rac.view.read (Elt Ideal) (p.rac.view.writes (Elt Ideal) p.rac.view.junk L) (ix3 h a b) := by
  rw [acCov, cut3_apply]
  refine congrArg (p.rac.view.read (Elt Ideal) (p.rac.view.writes (Elt Ideal) p.rac.view.junk L)) ?_
  funext e; fin_cases e <;> (apply Fin.ext; simp [LoadRect.idx, Rect.unit, ix3])

section
variable {D : Data} {c : Dev nD} {t : Fin grid0.N} {i : ℕ} {p : Refs} {n : Ins Ideal} (H : Reads D c t i p n) (x : Mem Ideal)
include H

theorem zs_diag (h : Fin 4) : zs c (grid0.coords t) p n 0 h = tile i i (D.Z h) := by
  refine ext2 fun a b => ?_
  rw [zs, cov4, H5_8_eq, scores_miss _ _ _ 1 0 (by decide), scores_hit, H.hq, H.tk i H.lt (by rw [off1, H.it]), score_tile]
  rfl
theorem zs_prev (h : Fin 4) : zs c (grid0.coords t) p n 1 h = tile i (i - 1) (D.Z h) := by
  refine ext2 fun a b => ?_
  rw [zs, cov4, H5_8_eq, scores_hit, H.hq, H.tk (i - 1) (by have := H.lt; omega) (by rw [off2, H.it]), score_tile]
  rfl

omit H in
theorem later_def : (start.sl.v29 : FVec Ideal S256x256 .bf16) = Cert.AttnBIdeal.Gen.k0_pay27 := rfl

theorem dA_val (h : Fin 4) : dA c (grid0.coords t) p n h = tile i i (D.A h) := by
  rw [dA, zs_diag H, later_def, diagA_eq, diagA_val D h H.lt]; rfl
theorem dLs_val (h : Fin 4) : diagLs (zs c (grid0.coords t) p n 0 h) = colAt i fun r => D.cl h r i := by
  rw [zs_diag H, diagLs_eq, diagLs_val D h H.lt]

theorem pA_val (h0 : 0 < i) (h : Fin 4) : pA c (grid0.coords t) p n h = tile i (i - 1) (D.A h) := by
  rw [pA, cnt_cond, H.it, if_pos h0, zs_prev H, dLs_val H, later_def, prevA_eq]
  obtain ⟨j, rfl⟩ := Nat.exists_eq_succ_of_ne_zero h0.ne'
  exact congrArg bf (prevA_val D h H.lt)
theorem pA_none (h0 : i = 0) (h : Fin 4) : pA c (grid0.coords t) p n h = up fun _ _ => 0 := by
  rw [pA, cnt_cond, H.it, if_neg (by omega), zs_prev H, dLs_val H, later_def, prevA_eq, noneA _ (fun _ _ => 0)]; rfl
theorem nextL_val (h0 : 0 < i) (h : Fin 4) : nextL c (grid0.coords t) p n h = colAt i fun r => D.cl h r (i - 1) := by
  rw [nextL, dLs_val H, zs_prev H, cellL_eq]
  obtain ⟨j, rfl⟩ := Nat.exists_eq_succ_of_ne_zero h0.ne'
  show addf (colAt (j + 1) fun r => D.cl h r (j + 1)) (rowT (AttnB.cellL (tile (j + 1) j (D.Z h)))) = colAt (j + 1) fun r => D.cl h r j
  rw [prevL_val D h H.lt]; exact left_cl D h (j + 1) j (by omega) H.lt

/-- The sums handed on are some numbers, so the walk is entered where a tile is left. -/
theorem nextL_some (h : Fin 4) : ∃ f, nextL c (grid0.coords t) p n h = col f := by
  rw [nextL, dLs_val H, zs_prev H, cellL_eq, AttnB.cellL, lsT_up, subf_up, rowT_up, addf_col]
  exact ⟨_, rfl⟩

theorem go_val : go c (grid0.coords t) p n = 1#1 ↔ 1 < i := by
  obtain ⟨f0, e0⟩ := nextL_some H 0
  obtain ⟨f1, e1⟩ := nextL_some H 1
  obtain ⟨f2, e2⟩ := nextL_some H 2
  obtain ⟨f3, e3⟩ := nextL_some H 3
  rw [go_eq, e0, e1, e2, e3, live_eq, live_col, H.it]
  have key : ∀ i : Fin 16, (Scalar.andi (Scalar.cmpi .sgt (Scalar.subi (BitVec.ofNat 32 i.val) 1#32) 0#32) 1#1 = 1#1 ↔ 1 < i.val) := by decide +kernel
  exact key ⟨i, H.lt⟩

variable (hx : 0 < i → ∀ (h : Fin 4) (r : Fin 4096) (l : Fin 256), x.vh (ix3 h r l) = ((D.Km h r.val l : ℝ) : EReal))
include hx

theorem vh1 (h : Fin 4) (r : Fin 4096) (l : Fin 256) : (mem1 c (grid0.coords t) p n x).vh (ix3 h r l) = ((D.Km h r.val l : ℝ) : EReal) := by
  show p.rvh.view.read (Elt Ideal) (start c (grid0.coords t) p n x).vh _ = _
  rw [start_vh]
  by_cases h0 : i = 0
  · rw [dif_pos ((first_cond t).2 (by rw [H.it, h0]))]
    refine (read_four p.rvh.view _ S1x4096x256.size (fun h => ![h.val, 0, 0]) rfl rfl rfl rfl _ _ _ _ _ _ _ _ []
      0 (fun _ => rfl) rfl h (ix3 h r l) (ix3 0 r l) (fun b => by fin_cases b <;> simp [ix3])).trans ?_
    fin_cases h
    exacts [H.vh 0 r l, H.vh 1 r l, H.vh 2 r l, H.vh 3 r l]
  · rw [dif_neg (fun e => h0 (by rw [← H.it]; exact (first_cond t).1 e)), p.hvh.read_unread, hx (by omega)]

theorem vh_rows (h : Fin 4) (j : ℕ) (hj : j < 16) {off : Fin 3 → ℕ} (e : off = ![h.val, 256 * j, 0]) (inb) :
    vhRows p (mem1 c (grid0.coords t) p n x).vh off inb = rows j (D.Km h) :=
  load3b p.hvh _ inb h (256 * j) (by omega) e _ fun a b => vh1 H x hx h _ b

/-- The tile left of the diagonal put on top: where there is none nothing is added. -/
theorem prev_put (h : Fin 4) {off : Fin 3 → ℕ} (e : off = ![h.val, 256 * (i - 1), 0]) (inb) {P : FVec Ideal S256x256 .f32} (hP : P = up (acc D h i i)) :
    addf P (nn (pA c (grid0.coords t) p n h) (vhRows p (mem1 c (grid0.coords t) p n x).vh off inb)) = up (acc D h i (i - 1)) := by
  have hR := vh_rows H x hx h (i - 1) (by have := H.lt; omega) e inb
  by_cases h0 : i = 0
  · rw [hP, hR, pA_none H h0, nn_up, addf_up]; subst h0; simp only [zero_mul, Finset.sum_const_zero, add_zero]
  · have hT := pA_val H (Nat.pos_of_ne_zero h0) h
    obtain ⟨j, rfl⟩ := Nat.exists_eq_succ_of_ne_zero h0
    exact acc_put D h (by have := H.lt; omega) hP hT hR

theorem read4 (h : Fin 4) (f : p.rac.view.ty.Contents (Elt Ideal)) (a l : Fin 256) :
    p.rac.view.read (Elt Ideal) (p.rac.view.writes (Elt Ideal) f (ac4 c (grid0.coords t) p n x)) (ix3 h a l) = ((acc D h i i a l : ℝ) : EReal) := by
  have hv := fun (h : Fin 4) {off : Fin 3 → ℕ} (e : off = ![h.val, 256 * i, 0]) inb => vh_rows H x hx h i H.lt e inb
  rw [ac4, acc_first D 3 H.lt (dA_val H 3) (hv 3 (by rw [off6, H.it]; rfl) _), acc_first D 2 H.lt (dA_val H 2) (hv 2 (by rw [off5, H.it]; rfl) _),
    acc_first D 1 H.lt (dA_val H 1) (hv 1 (by rw [off4, H.it]; rfl) _), acc_first D 0 H.lt (dA_val H 0) (hv 0 (by rw [off3, H.it]; rfl) _)]
  exact four p.rac f (fun h => up (acc D h i i)) h a l

theorem read5 (h : Fin 4) (f : p.rac.view.ty.Contents (Elt Ideal)) (a l : Fin 256) :
    p.rac.view.read (Elt Ideal) (p.rac.view.writes (Elt Ideal) f (ac5 c (grid0.coords t) p n x)) (ix3 h a l)
      = ((acc D h i (if h.val < 1 then i - 1 else i) a l : ℝ) : EReal) := by
  rw [ac5, prev_put H x hx 0 (by rw [off7, H.it]; rfl) _ (ext2 fun a b => (cov3 p _ 0 a b).trans (read4 H x hx 0 _ a b))]
  by_cases h0 : h = 0
  · subst h0; exact dq_hit p.rac f _ 0 _ a l
  · have := Fin.val_ne_of_ne h0
    rw [dq_miss p.rac f _ 0 h (Ne.symm h0), if_neg (by show ¬ h.val < 1; simp at this; omega)]; exact read4 H x hx h f a l

theorem ac2 (h : Fin 4) (a l : Fin 256) : (mem2 c (grid0.coords t) p n x).ac (ix3 h a l) = ((acc D h i (if h.val < 2 then i - 1 else i) a l : ℝ) : EReal) := by
  show p.rac.view.read (Elt Ideal) (mid c (grid0.coords t) p n x).ac _ = _
  rw [mid_ac, ac6, prev_put H x hx 1 (by rw [off8, H.it]; rfl) _ (ext2 fun a b => (cov3 p _ 1 a b).trans (read5 H x hx 1 _ a b))]
  by_cases h0 : h = 1
  · subst h0; exact dq_hit p.rac _ _ 1 _ a l
  · have := Fin.val_ne_of_ne h0
    rw [dq_miss p.rac _ _ 1 h (Ne.symm h0), read5 H x hx h _ a l]
    simp only [show (h.val < 1 ↔ h.val < 2) by simp at this; omega]

theorem ac3 (h : Fin 4) (a l : Fin 256) : (mem3 c (grid0.coords t) p n x).ac (ix3 h a l) = ((acc D h i (i - 1) a l : ℝ) : EReal) := by
  show p.rac.view.read (Elt Ideal) (last c (grid0.coords t) p n x).ac _ = _
  have hl : ∀ h : Fin 4, ¬ h.val < 2 → acRows p (mem2 c (grid0.coords t) p n x).ac ![h.val, 0, 0] (inb3 h) = up (acc D h i i) := fun h hh =>
    load3 p.hac _ _ h 0 (by omega) rfl _ fun a b => by
      rw [show (⟨0 + a.val, by omega⟩ : Fin 256) = a from Fin.ext (Nat.zero_add _), ac2 H x hx h a b, if_neg hh]
  have h2 : acRows p (mem2 c (grid0.coords t) p n x).ac ![2, 0, 0] (inb3 2) = up (acc D 2 i i) := hl 2 (by decide)
  have h3 : acRows p (mem2 c (grid0.coords t) p n x).ac ![3, 0, 0] (inb3 3) = up (acc D 3 i i) := hl 3 (by decide)
  rw [last_ac, show (mem2 c (grid0.coords t) p n x).vh = (mem1 c (grid0.coords t) p n x).vh from rfl,
    prev_put H x hx 2 (by rw [off9, H.it]; rfl) _ h2, prev_put H x hx 3 (by rw [off10, H.it]; rfl) _ h3]
  by_cases n3 : h = 3
  · subst n3; exact dq_hit p.rac _ _ 3 _ a l
  rw [dq_miss p.rac _ _ 3 h (Ne.symm n3)]
  by_cases n2 : h = 2
  · subst n2; exact dq_hit p.rac _ _ 2 _ a l
  rw [dq_miss p.rac _ _ 2 h (Ne.symm n2)]
  show p.rac.view.read (Elt Ideal) (p.hac.unread (mem2 c (grid0.coords t) p n x).ac) _ = _
  have e3 := Fin.val_ne_of_ne n3
  have e2 := Fin.val_ne_of_ne n2
  rw [p.hac.read_unread, ac2 H x hx h a l, if_pos (by have := h.isLt; simp at e2 e3; omega)]

theorem bufs3 : Bufs D i (i - 1) (mem3 c (grid0.coords t) p n x) := ⟨vh1 H x hx, ac3 H x hx⟩

omit hx in
theorem scored3 (h1 : 1 < i) : Scored D i (i - 2) 0 (mem3 c (grid0.coords t) p n x) := by
  have hc : goes c (grid0.coords t) p n = 1#1 := by
    rw [goes, (go_val H).2 h1]; decide
  intro h a b
  show p.rz.view.read (Elt Ideal) (last c (grid0.coords t) p n x).z _ = _
  rw [last_z, dif_pos hc, scores_hit, H.hq, H.tk (i - 2) (by have := H.lt; omega) (by rw [off11, H.it]), score_tile]
  rfl

omit hx in
theorem fixed_at : FixedAt D t i (fixed c (grid0.coords t) p n) where
  ai := rfl
  it := H.it
  later := rfl
  q0 := H.hq 0
  q1 := H.hq 1
  q2 := H.hq 2
  q3 := H.hq 3

omit hx in
theorem sums_at (h0 : 0 < i) : SumsAt D i (i - 1) (sums c (grid0.coords t) p n x) where
  l0 := (sums_l0 ..).trans (nextL_val H h0 0)
  l1 := (sums_l1 ..).trans (nextL_val H h0 1)
  l2 := (sums_l2 ..).trans (nextL_val H h0 2)
  l3 := (sums_l3 ..).trans (nextL_val H h0 3)

/-- After the grid point the rows' own sums are in. -/
theorem end_bufs : Bufs D i 0 (memEnd c (grid0.coords t) p n x) := by
  by_cases h0 : i = 0
  · rw [memEnd, walk, dif_neg (fun e => by have := (go_val H).1 e.1; omega)]
    have := bufs3 H x hx
    rwa [show i - 1 = 0 by omega] at this
  · exact walk_bufs (fixed_at H) c H.lt H.hk 16 0 (i - 1) _ _ _ (by omega) (by have := H.lt; omega)
      ((go_val H).trans (by omega)) (sums_at H x (by omega)) (bufs3 H x hx)
      fun h1 => scored3 H x (by omega)

/-- What is staged as the result. -/
theorem out_val (y : Vec Ideal S256x256 .f32) (a l : Fin 256) : outEnd c (grid0.coords t) p n x y (ix2 a l) = ((∑ h, acc D h i 0 a l : ℝ) : EReal) := by
  show p.ro.view.read (Elt Ideal) (final c (grid0.coords t) p n x (memEnd c (grid0.coords t) p n x) y).o _ = _
  have hl : ∀ h : Fin 4, acRows p (memEnd c (grid0.coords t) p n x).ac ![h.val, 0, 0] (inb3 h) = up (acc D h i 0) := fun h =>
    load3 p.hac _ _ h 0 (by omega) rfl _ fun a b => by
      rw [show (⟨0 + a.val, by omega⟩ : Fin 256) = a from Fin.ext (Nat.zero_add _), (end_bufs H x hx).ac]
  have h0 : acRows p (memEnd c (grid0.coords t) p n x).ac ![0, 0, 0] (inb3 0) = up (acc D 0 i 0) := hl 0
  have h1 : acRows p (memEnd c (grid0.coords t) p n x).ac ![1, 0, 0] (inb3 1) = up (acc D 1 i 0) := hl 1
  have h2 : acRows p (memEnd c (grid0.coords t) p n x).ac ![2, 0, 0] (inb3 2) = up (acc D 2 i 0) := hl 2
  have h3 : acRows p (memEnd c (grid0.coords t) p n x).ac ![3, 0, 0] (inb3 3) = up (acc D 3 i 0) := hl 3
  rw [final_o, h0, h1, h2, h3]
  refine (View.read_writes_cons_unit_of_mem p.ro.view _ inb_S256x256_S256x256_0_0 _ [] (ix2 a l) (ix2 a l) rfl
    (fun b => by fin_cases b <;> simp [ix2])).trans ?_
  rw [addf_up, addf_up, addf_up, Fin.sum_univ_four]
  rfl

end

/-- A lane's sum is its own head's, over all the rows. -/
theorem acc_own (q k v : ℕ → Fin 256 → ℝ) (i : ℕ) (a l : Fin 256) :
    ∑ h, acc (data q k v) h i 0 a l = ∑ s ∈ Finset.range 4096, (data q k v).A ⟨l.val / 64, by omega⟩ (256 * i + a.val) s * v s l := by
  rw [Finset.sum_eq_single (⟨l.val / 64, by omega⟩ : Fin 4)]
  · rw [acc, Nat.mul_zero, ← Finset.range_eq_Ico]
    refine Finset.sum_congr rfl fun s _ => ?_
    show _ * (if l.val / 64 = l.val / 64 then v s l else 0) = _
    rw [if_pos rfl]
  · intro h _ hh
    refine Finset.sum_eq_zero fun s _ => ?_
    show _ * (if l.val / 64 = h.val then v s l else 0) = 0
    rw [if_neg (fun e => hh (Fin.ext e.symm)), mul_zero]
  · exact fun hh => absurd (Finset.mem_univ _) hh

end AttnF
-- ==== Proof.AttnFKeep.lean ====
/-
  What the grid keeps, point after point: a block's masked values, and the result's block as the reference's there.
-/
module

public import proofs.«01_k».proof.Proof.AttnFIn
public import proofs.«01_k».proof.Proof.AttnFDone
public import proofs.«01_k».proof.Proof.AttnKeep

@[expose] public section

set_option maxRecDepth 16384

noncomputable section

namespace AttnF

open Cert.AttnFIdeal Cert.AttnFIdeal.Gen
open Idealize.ShloMosaic Idealize.ShloMosaic.TcCoe Idealize.ShloMosaic.Tactic
open AttnB (Data num Real' num_at hd place lane8 ref_v26 packed_q packed_k packed_v)

variable (m : (ℓ : Loc nD τ sig) → Buf (Elt Ideal) ℓ) (c : Dev nD)

/-- The arguments are finite. -/
structure Args : Prop where
  q : Real' (argOf m c main_arg0)
  k : Real' (argOf m c main_arg1)
  v : Real' (argOf m c main_arg2)

abbrev nq := num (argOf m c main_arg0)
abbrev nk := num (argOf m c main_arg1)
abbrev nv := num (argOf m c main_arg2)

/-- A block of four heads. -/
abbrev dataAt (hp : ℕ) : Data := data (fun r l => nq m c r (256 * hp + l.val) * (1 / 8) / Real.log 2) (fun r l => nk m c r (256 * hp + l.val)) fun r l => nv m c r (256 * hp + l.val)

/-- The reference's result. -/
abbrev refO : FVec Ideal S4096x512 .f32 := Cert.AttnFRefIdeal.Read.val_main_v26 (F := Ideal) (argOf m c main_arg0) (argOf m c main_arg1) (argOf m c main_arg2)

variable {m c} (H : Args m c) (t : Fin (cfg0 (F := Ideal)).N)

theorem head_lt : t.val / 16 < 2 := by have : t.val < 32 := t.isLt; omega

abbrev gh (l : Fin 256) : Fin 8 := ⟨4 * (t.val / 16) + l.val / 64, by have := head_lt t; omega⟩

theorem lane_of (l : Fin 256) : col2 t l = lane8 (gh t l) (place l) := Fin.ext (by show 256 * (t.val / 16) + l.val = 64 * (4 * (t.val / 16) + l.val / 64) + l.val % 64; omega)

theorem place_eq (l : Fin 256) : 256 * (t.val / 16) + (64 * (hd l).val + (place l).val) = 256 * (t.val / 16) + l.val := by
  show _ + (64 * (l.val / 64) + l.val % 64) = _; omega

include H

theorem given : Given (fun r l => nq m c r (256 * (t.val / 16) + l.val) * (1 / 8) / Real.log 2) (fun r l => nk m c r (256 * (t.val / 16) + l.val))
    (fun r l => nv m c r (256 * (t.val / 16) + l.val)) (t.val % 16) (ins m c t) where
  hq p l := (in_q m c t p l).trans (packed_q _ _ _ _ _ _ (num_at H.q _ _))
  hk r l := (in_k m c t r l).trans ((packed_k _ _ _ _ _).trans (num_at H.k _ _))
  hv r l := (in_v m c t r l).trans ((packed_v _ _ _ _ _).trans (num_at H.v _ _))

theorem reads (p : Refs) : Reads (dataAt m c (t.val / 16)) c t (t.val % 16) p (ins m c t) :=
  (given H t).reads (Nat.mod_lt _ (by omega)) c (idx t).2.2.2.2 p

/-- A grid point's rows of the result. -/
theorem out_at (a l : Fin 256) : ((∑ h, acc (dataAt m c (t.val / 16)) h (t.val % 16) 0 a l : ℝ) : EReal) = refO m c (ix2 (row t a) (col2 t l)) := by
  rw [refO, ref_eq, lane_of, ref_v26 (o := fun _ _ => 0) (hp := t.val / 16) (h := hd l) (num_at H.q) (num_at H.k) (num_at H.v) rfl, place_eq, acc_own]
  rfl

omit H in
/-- What each grid point leaves in the result. -/
def resAt (m : (ℓ : Loc nD τ sig) → Buf (Elt Ideal) ℓ) (c : Dev nD) (w : Fin (cfg0 (F := Ideal)).W) (t : Fin (cfg0 (F := Ideal)).N)
    (X : ((cfg0 (F := Ideal)).win w).block.Idx → Elt Ideal ((cfg0 (F := Ideal)).win w).elt) : Prop :=
  match w, X with
  | ⟨3, _⟩, X => ∀ a l : Fin 256, X (ix2 a l) = refO m c (ix2 (row t a) (col2 t l))
  | _, _ => True

/-- The grid keeps a block's masked values after its first point, and leaves the reference's result. -/
def keeps : Keeps m c where
  inv t x := 0 < t.val % 16 → ∀ (h : Fin 4) (r : Fin 4096) (l : Fin 256), x.vh (ix3 h r l) = (((dataAt m c (t.val / 16)).Km h r.val l : ℝ) : EReal)
  res := resAt m c
  start := fun x h => absurd h (by decide)
  step := fun t x y hx => by
    have hr := reads H t (refs (F := Ideal) t)
    refine ⟨fun h => ?_, fun a l => (out_val hr x hx y a l).trans (out_at H t a l)⟩
    have h' : 0 < (t.val + 1) % 16 := h
    have e : (t.val + 1) / 16 = t.val / 16 := by omega
    intro g r l
    show _ = (((dataAt m c ((t.val + 1) / 16)).Km g r.val l : ℝ) : EReal)
    rw [e]
    exact (end_bufs hr x hx).vh g r l

end AttnF
-- ==== Proof.AttnF.lean ====
/-
  The forward attention: what the grid leaves in the result is the reference's attention.
-/
module

public import proofs.«01_k».proof.Defs
public import proofs.«01_k».proof.Proof.AttnFKeep
public import proofs.«01_k».proof.Proof.Finite
public import proofs.«01_k».proof.Proof.Gen.AttnFRefIdeal.Run
public import proofs.«01_k».proof.Proof.Gen.Pre_finite_f

@[expose] public section

set_option maxRecDepth 16384

noncomputable section

namespace AttnF

open Cert.AttnFIdeal Cert.AttnFIdeal.Gen
open Idealize.ShloMosaic Idealize.ShloMosaic.TcCoe Idealize.ShloMosaic.Tactic Idealize.SL.Sem

variable (m : (ℓ : Loc nD τ sig) → Buf (Elt Ideal) ℓ) (c : Dev nD)

section
variable (H : ∀ c : Dev nD, Args m c) {r : PUnit × MemSt nD τ sig (Elt Ideal)}
  (h : Pipeline.RDat.FramePost (cfg0 (F := Ideal)) (fun c => (dat m (fun c => keeps (H c)) c).toRRel (isRes (F := Ideal)) (keeps (H c)).res) (V m) r)

set_option maxHeartbeats 4000000 in
include h in
/-- The result. -/
theorem out : r.2.mem ((c.tc : Thread nD τ).loc main_v12) = refO m c := by
  obtain ⟨after, hL, hA⟩ := Pipeline.RDat.FramePost.exists_exact h c
  have l3 : ∀ t, resAt m c 3 t (after 3 t) := fun t => Pipeline.Dat.toRRel_leaves _ (w := 3) rfl (hL 3 t (flush0_3 t))
  refine (hA 3).trans ?_
  refine Pipeline.Dat.arrAt_eq_of_covers (((dat m (fun c => keeps (H c)) c).toRRel (isRes (F := Ideal)) (keeps (H c)).res).withAfter after) 3 (refO m c) (by decide +kernel) fun t hf y => ?_
  blk_simp
  refine (congrArg (after 3 t) (eq_ix2 y)).trans ((l3 t (y 0) (y 1)).trans (congrArg (refO m c) ?_))
  blk_ext [(idx t).2.2.2.1]

end

/-- The kernel's program terminates with its arguments unchanged and its counters at zero. -/
theorem quiescent {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨frame_of m (nothing m) h.1, h.2⟩) (run m ρ (nothing m))

/-- The plain program likewise. -/
theorem frame_ref : Cert.quiescent_AttnFRefIdeal := fun m ρ _ =>
  (θ_run Cert.AttnFRefIdeal.defs _ _).mono (fun r h => ⟨fun c => (h c).2, sem_eq_zero_of_no_sems (by decide) r.2⟩) (Cert.AttnFRefIdeal.Value.run m ρ)

theorem args_of (hpre : Cert.Pre_AttnFIdeal_finite_f m) : Args m c := by
  have hand : ∀ a b : BitVec 1, IntOp.andi a b = 1#1 → a = 1#1 ∧ b = 1#1 := by decide
  have h : ∀ i : S4096x512.Idx, _ := fun i => congrFun (hpre c) i
  exact ⟨fun r L => Cert.Pool.fin_of_abs_lt (hand _ _ (hand _ _ (h (ix2 r L))).1).1, fun r L => Cert.Pool.fin_of_abs_lt (hand _ _ (hand _ _ (h (ix2 r L))).1).2,
    fun r L => Cert.Pool.fin_of_abs_lt (hand _ _ (h (ix2 r L))).2⟩

/-- The kernel's attention is the plain attention, wherever the arguments are finite. -/
theorem algebraic : Cert.algebraic_AttnFIdeal_AttnFRefIdeal_pre_finite_f := by
  intro m g m' g' hpre hag
  have H : ∀ c, Args m c := fun c => args_of m c hpre
  refine ⟨refO m, (θ_run defs _ _).mono (fun r h c => ?_) (run m g fun c => keeps (H c)), (θ_run _ _ _).mono (fun r h c => ?_) (Cert.AttnFRefIdeal.Value.run m' g')⟩
  · exact ⟨out m c H h.1, frame_of m _ h.1 c⟩
  · obtain ⟨h26, hrest⟩ := h c
    obtain ⟨e0, e1, e2⟩ := hag c
    refine ⟨h26.trans ?_, hrest⟩
    rw [Cert.AttnFRefIdeal.Read.val_main_v26_eq, e0, e1, e2]

end AttnF
-- ==== Proof.lean ====
module

public import proofs.«01_k».proof.Defs
public import proofs.«01_k».proof.Proof.Gen.PoolU
public import proofs.«01_k».proof.Proof.Gen.PoolU.Skeleton
public import proofs.«01_k».proof.Proof.Gen.PoolU.Launch
public import proofs.«01_k».proof.Proof.Gen.PoolU.Points
public import proofs.«01_k».proof.Proof.Gen.PoolU.Frame
public import proofs.«01_k».proof.Proof.Gen.PoolUIdeal
public import proofs.«01_k».proof.Proof.Gen.PoolUIdeal.Skeleton
public import proofs.«01_k».proof.Proof.Gen.PoolUIdeal.Launch
public import proofs.«01_k».proof.Proof.Gen.PoolUIdeal.Points
public import proofs.«01_k».proof.Proof.Gen.PoolUIdeal.Frame
public import proofs.«01_k».proof.Proof.Gen.PoolURefIdeal
public import proofs.«01_k».proof.Proof.Gen.PoolW
public import proofs.«01_k».proof.Proof.Gen.PoolW.Skeleton
public import proofs.«01_k».proof.Proof.Gen.PoolW.Launch
public import proofs.«01_k».proof.Proof.Gen.PoolW.Points
public import proofs.«01_k».proof.Proof.Gen.PoolW.Frame
public import proofs.«01_k».proof.Proof.Gen.PoolWIdeal
public import proofs.«01_k».proof.Proof.Gen.PoolWIdeal.Skeleton
public import proofs.«01_k».proof.Proof.Gen.PoolWIdeal.Launch
public import proofs.«01_k».proof.Proof.Gen.PoolWIdeal.Points
public import proofs.«01_k».proof.Proof.Gen.PoolWIdeal.Frame
public import proofs.«01_k».proof.Proof.Gen.PoolWRefIdeal
public import proofs.«01_k».proof.Proof.Gen.Pre_finite_dpooled
public import proofs.«01_k».proof.Proof.Gen.Pre_finite_u
public import proofs.«01_k».proof.Proof.Gen.PoolUIdeal.Value
public import proofs.«01_k».proof.Proof.Gen.PoolWIdeal.Value
public import proofs.«01_k».proof.Proof.Gen.PoolURefIdeal.Run
public import proofs.«01_k».proof.Proof.Gen.PoolURefIdeal.Read
public import proofs.«01_k».proof.Proof.Gen.PoolWRefIdeal.Run
public import proofs.«01_k».proof.Proof.Gen.PoolWRefIdeal.Read
public import proofs.«01_k».proof.Proof.PoolU
public import proofs.«01_k».proof.Proof.PoolW
public import proofs.«01_k».proof.Proof.Attn
public import proofs.«01_k».proof.Proof.Gen.AttnBIdeal
public import proofs.«01_k».proof.Proof.Gen.AttnBIdeal.Launch
public import proofs.«01_k».proof.Proof.Gen.AttnBIdeal.Points
public import proofs.«01_k».proof.Proof.Gen.AttnBIdeal.Skeleton
public import proofs.«01_k».proof.Proof.Gen.AttnBRefIdeal
public import proofs.«01_k».proof.Proof.Gen.AttnBRefIdeal.Run
public import proofs.«01_k».proof.Proof.Gen.AttnBRefIdeal.Read
public import proofs.«01_k».proof.Proof.Gen.Pre_finite_a
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.Pre_finite_i
public import proofs.«01_k».proof.Proof.InDx
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Pre_finite_o
public import proofs.«01_k».proof.Proof.Out
public import proofs.«01_k».proof.Proof.Gen.MlpB
public import proofs.«01_k».proof.Proof.Gen.MlpB.Skeleton
public import proofs.«01_k».proof.Proof.Gen.MlpB.Launch
public import proofs.«01_k».proof.Proof.Gen.MlpB.Points
public import proofs.«01_k».proof.Proof.Gen.MlpB.Frame
public import proofs.«01_k».proof.Proof.Gen.MlpBIdeal
public import proofs.«01_k».proof.Proof.Gen.MlpBIdeal.Skeleton
public import proofs.«01_k».proof.Proof.Gen.MlpBIdeal.Launch
public import proofs.«01_k».proof.Proof.Gen.MlpBIdeal.Points
public import proofs.«01_k».proof.Proof.Gen.MlpBIdeal.Frame
public import proofs.«01_k».proof.Proof.Gen.MlpBIdeal.Value
public import proofs.«01_k».proof.Proof.Gen.MlpBRefIdeal
public import proofs.«01_k».proof.Proof.Gen.MlpBRefIdeal.Run
public import proofs.«01_k».proof.Proof.Gen.MlpBRefIdeal.Read
public import proofs.«01_k».proof.Proof.Gen.Pre_finite_m
public import proofs.«01_k».proof.Proof.MlpB
public import proofs.«01_k».proof.Proof.Gen.MlpF
public import proofs.«01_k».proof.Proof.Gen.MlpF.Skeleton
public import proofs.«01_k».proof.Proof.Gen.MlpF.Launch
public import proofs.«01_k».proof.Proof.Gen.MlpF.Points
public import proofs.«01_k».proof.Proof.Gen.MlpF.Frame
public import proofs.«01_k».proof.Proof.Gen.MlpFIdeal
public import proofs.«01_k».proof.Proof.Gen.MlpFIdeal.Skeleton
public import proofs.«01_k».proof.Proof.Gen.MlpFIdeal.Launch
public import proofs.«01_k».proof.Proof.Gen.MlpFIdeal.Points
public import proofs.«01_k».proof.Proof.Gen.MlpFIdeal.Frame
public import proofs.«01_k».proof.Proof.Gen.MlpFIdeal.Value
public import proofs.«01_k».proof.Proof.Gen.MlpFRefIdeal
public import proofs.«01_k».proof.Proof.Gen.MlpFRefIdeal.Run
public import proofs.«01_k».proof.Proof.Gen.MlpFRefIdeal.Read
public import proofs.«01_k».proof.Proof.Gen.Pre_finite_l
public import proofs.«01_k».proof.Proof.MlpF
public import proofs.«01_k».proof.Proof.AttnF
public import proofs.«01_k».proof.Proof.Gen.AttnFIdeal
public import proofs.«01_k».proof.Proof.Gen.AttnFIdeal.Launch
public import proofs.«01_k».proof.Proof.Gen.AttnFIdeal.Points
public import proofs.«01_k».proof.Proof.Gen.AttnFIdeal.Skeleton
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.Pre_finite_f
public import Idealize.ShloMosaic.Adequacy
public import Idealize.ShloMosaic.Init

@[expose] public section

noncomputable section

-- The frames also say that every semaphore counter ends at zero.

namespace Cert.Proof

open Idealize.ShloMosaic Idealize.SL.Sem

/-- The plain program of the window means' gradient terminates, its arguments unchanged and no counter left. -/
theorem frame_poolURef : Cert.quiescent_PoolURefIdeal := fun m ρ _ =>
  (θ_run Cert.PoolURefIdeal.defs _ _).mono (fun r h => ⟨fun c => (h c).2, sem_eq_zero_of_no_sems (by decide) r.2⟩)
    (Cert.PoolURefIdeal.Value.run m ρ)

/-- The plain program of the map's gradients likewise. -/
theorem frame_poolWRef : Cert.quiescent_PoolWRefIdeal := fun m ρ _ =>
  (θ_run Cert.PoolWRefIdeal.defs _ _).mono (fun r h => ⟨fun c => (h c).2.2.2, sem_eq_zero_of_no_sems (by decide) r.2⟩)
    (Cert.PoolWRefIdeal.Value.run m ρ)

theorem claim : Cert.Claim :=
  ⟨Cert.PoolU.Gen.facts, Cert.PoolUIdeal.Gen.facts, Cert.PoolURefIdeal.Gen.facts, Cert.PoolW.Gen.facts,
    Cert.PoolWIdeal.Gen.facts, Cert.PoolWRefIdeal.Gen.facts, Cert.AttnBIdeal.Gen.facts, Cert.AttnBRefIdeal.Gen.facts,
    Cert.InDx.Gen.facts, Cert.InDxIdeal.Gen.facts, Cert.InDxRefIdeal.Gen.facts,
    Cert.Out.Gen.facts, Cert.OutIdeal.Gen.facts, Cert.OutRefIdeal.Gen.facts,
    Cert.MlpB.Gen.facts, Cert.MlpBIdeal.Gen.facts, Cert.MlpBRefIdeal.Gen.facts,
    Cert.MlpF.Gen.facts, Cert.MlpFIdeal.Gen.facts, Cert.MlpFRefIdeal.Gen.facts,
    Cert.AttnFIdeal.Gen.facts, Cert.AttnFRefIdeal.Gen.facts,
    Cert.Pre_finite_dpooled.Gen.facts, Cert.Pre_finite_u.Gen.facts, Cert.Pre_finite_a.Gen.facts, Cert.Pre_finite_i.Gen.facts, Cert.Pre_finite_o.Gen.facts, Cert.Pre_finite_m.Gen.facts, Cert.Pre_finite_l.Gen.facts, Cert.Pre_finite_f.Gen.facts,
    fun m ρ _ => Cert.PoolU.Gen.frame m ρ, fun m ρ _ => Cert.PoolUIdeal.Gen.frame m ρ,
    fun m ρ _ => Cert.PoolUIdeal.Gen.frame m ρ, frame_poolURef, fun m ρ _ => frame_poolURef m ρ trivial,
    fun m ρ _ => Cert.PoolW.Gen.frame m ρ, fun m ρ _ => Cert.PoolWIdeal.Gen.frame m ρ,
    fun m ρ _ => Cert.PoolWIdeal.Gen.frame m ρ, frame_poolWRef, fun m ρ _ => frame_poolWRef m ρ trivial,
    fun m ρ _ => AttnB.quiescent m ρ, fun m ρ _ => AttnB.quiescent m ρ, AttnB.frame_ref, fun m ρ _ => AttnB.frame_ref m ρ trivial,
    fun m ρ _ => Cert.InDx.Gen.frame m ρ, fun m ρ _ => Cert.InDxIdeal.Gen.frame m ρ, InDxClaims.frame_ker, InDxClaims.frame_ref, InDxClaims.frame_ref_pre,
    fun m ρ _ => Cert.Out.Gen.frame m ρ, fun m ρ _ => Cert.OutIdeal.Gen.frame m ρ, OutClaims.frame_ker, OutClaims.frame_ref, OutClaims.frame_ref_pre,
    fun m ρ _ => Cert.MlpB.Gen.frame m ρ, fun m ρ _ => Cert.MlpBIdeal.Gen.frame m ρ, MlpBClaims.frame_ker, MlpBClaims.frame_ref, MlpBClaims.frame_ref_pre,
    fun m ρ _ => Cert.MlpF.Gen.frame m ρ, fun m ρ _ => Cert.MlpFIdeal.Gen.frame m ρ, MlpFClaims.frame_ker, MlpFClaims.frame_ref, MlpFClaims.frame_ref_pre,
    fun m ρ _ => AttnF.quiescent m ρ, fun m ρ _ => AttnF.quiescent m ρ, AttnF.frame_ref, fun m ρ _ => AttnF.frame_ref m ρ trivial,
    trivial, PoolUClaims.algebraic, trivial, PoolWClaims.algebraic, AttnB.algebraic,
    trivial, InDxClaims.algebraic, trivial, OutClaims.algebraic, trivial, MlpBClaims.algebraic, trivial, MlpFClaims.algebraic, AttnF.algebraic⟩

end Cert.Proof

end
